-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpPlainIdeal (m : (ℓ : Loc Cert.UpPlainIdeal.nD Cert.UpPlainIdeal.τ Cert.UpPlainIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxPlainIdeal (m : (ℓ : Loc Cert.UpDxPlainIdeal.nD Cert.UpDxPlainIdeal.τ Cert.UpDxPlainIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwPlainIdeal (m : (ℓ : Loc Cert.UpDwPlainIdeal.nD Cert.UpDwPlainIdeal.τ Cert.UpDwPlainIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownPlainIdeal (m : (ℓ : Loc Cert.DownPlainIdeal.nD Cert.DownPlainIdeal.τ Cert.DownPlainIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxPlainIdeal (m : (ℓ : Loc Cert.DownDxPlainIdeal.nD Cert.DownDxPlainIdeal.τ Cert.DownDxPlainIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwPlainIdeal (m : (ℓ : Loc Cert.DownDwPlainIdeal.nD Cert.DownDwPlainIdeal.τ Cert.DownDwPlainIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInPlainIdeal (m : (ℓ : Loc Cert.EvenInPlainIdeal.nD Cert.EvenInPlainIdeal.τ Cert.EvenInPlainIdeal.sig) → Buf (Elt Ideal) ℓ) : Prop :=
  True

def Pre_EvenInDx (m : (ℓ : Loc Cert.EvenInDx.nD Cert.EvenInDx.τ Cert.EvenInDx.sig) → Buf (Elt Bits) ℓ) : Prop :=
  True

def Pre_EvenInDxIdeal (m : (ℓ : Loc Cert.EvenInDxIdeal.nD Cert.EvenInDxIdeal.τ Cert.EvenInDxIdeal.sig) → Buf (Elt Ideal) ℓ) : Prop :=
  True

def Pre_EvenInDxPlainIdeal (m : (ℓ : Loc Cert.EvenInDxPlainIdeal.nD Cert.EvenInDxPlainIdeal.τ Cert.EvenInDxPlainIdeal.sig) → Buf (Elt Ideal) ℓ) : Prop :=
  True

def Pre_EvenInDw (m : (ℓ : Loc Cert.EvenInDw.nD Cert.EvenInDw.τ Cert.EvenInDw.sig) → Buf (Elt Bits) ℓ) : Prop :=
  True

def Pre_EvenInDwIdeal (m : (ℓ : Loc Cert.EvenInDwIdeal.nD Cert.EvenInDwIdeal.τ Cert.EvenInDwIdeal.sig) → Buf (Elt Ideal) ℓ) : Prop :=
  True

def Pre_EvenInDwPlainIdeal (m : (ℓ : Loc Cert.EvenInDwPlainIdeal.nD Cert.EvenInDwPlainIdeal.τ Cert.EvenInDwPlainIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutPlainIdeal (m : (ℓ : Loc Cert.EvenOutPlainIdeal.nD Cert.EvenOutPlainIdeal.τ Cert.EvenOutPlainIdeal.sig) → Buf (Elt Ideal) ℓ) : Prop :=
  True

def Pre_EvenOutDx (m : (ℓ : Loc Cert.EvenOutDx.nD Cert.EvenOutDx.τ Cert.EvenOutDx.sig) → Buf (Elt Bits) ℓ) : Prop :=
  True

def Pre_EvenOutDxIdeal (m : (ℓ : Loc Cert.EvenOutDxIdeal.nD Cert.EvenOutDxIdeal.τ Cert.EvenOutDxIdeal.sig) → Buf (Elt Ideal) ℓ) : Prop :=
  True

def Pre_EvenOutDxPlainIdeal (m : (ℓ : Loc Cert.EvenOutDxPlainIdeal.nD Cert.EvenOutDxPlainIdeal.τ Cert.EvenOutDxPlainIdeal.sig) → Buf (Elt Ideal) ℓ) : Prop :=
  True

def Pre_EvenOutDw (m : (ℓ : Loc Cert.EvenOutDw.nD Cert.EvenOutDw.τ Cert.EvenOutDw.sig) → Buf (Elt Bits) ℓ) : Prop :=
  True

def Pre_EvenOutDwIdeal (m : (ℓ : Loc Cert.EvenOutDwIdeal.nD Cert.EvenOutDwIdeal.τ Cert.EvenOutDwIdeal.sig) → Buf (Elt Ideal) ℓ) : Prop :=
  True

def Pre_EvenOutDwPlainIdeal (m : (ℓ : Loc Cert.EvenOutDwPlainIdeal.nD Cert.EvenOutDwPlainIdeal.τ Cert.EvenOutDwPlainIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInPlainIdeal (m : (ℓ : Loc Cert.OddInPlainIdeal.nD Cert.OddInPlainIdeal.τ Cert.OddInPlainIdeal.sig) → Buf (Elt Ideal) ℓ) : Prop :=
  True

def Pre_OddInDx (m : (ℓ : Loc Cert.OddInDx.nD Cert.OddInDx.τ Cert.OddInDx.sig) → Buf (Elt Bits) ℓ) : Prop :=
  True

def Pre_OddInDxIdeal (m : (ℓ : Loc Cert.OddInDxIdeal.nD Cert.OddInDxIdeal.τ Cert.OddInDxIdeal.sig) → Buf (Elt Ideal) ℓ) : Prop :=
  True

def Pre_OddInDxPlainIdeal (m : (ℓ : Loc Cert.OddInDxPlainIdeal.nD Cert.OddInDxPlainIdeal.τ Cert.OddInDxPlainIdeal.sig) → Buf (Elt Ideal) ℓ) : Prop :=
  True

def Pre_OddInDw (m : (ℓ : Loc Cert.OddInDw.nD Cert.OddInDw.τ Cert.OddInDw.sig) → Buf (Elt Bits) ℓ) : Prop :=
  True

def Pre_OddInDwIdeal (m : (ℓ : Loc Cert.OddInDwIdeal.nD Cert.OddInDwIdeal.τ Cert.OddInDwIdeal.sig) → Buf (Elt Ideal) ℓ) : Prop :=
  True

def Pre_OddInDwPlainIdeal (m : (ℓ : Loc Cert.OddInDwPlainIdeal.nD Cert.OddInDwPlainIdeal.τ Cert.OddInDwPlainIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutPlainIdeal (m : (ℓ : Loc Cert.OddOutPlainIdeal.nD Cert.OddOutPlainIdeal.τ Cert.OddOutPlainIdeal.sig) → Buf (Elt Ideal) ℓ) : Prop :=
  True

def Pre_OddOutDx (m : (ℓ : Loc Cert.OddOutDx.nD Cert.OddOutDx.τ Cert.OddOutDx.sig) → Buf (Elt Bits) ℓ) : Prop :=
  True

def Pre_OddOutDxIdeal (m : (ℓ : Loc Cert.OddOutDxIdeal.nD Cert.OddOutDxIdeal.τ Cert.OddOutDxIdeal.sig) → Buf (Elt Ideal) ℓ) : Prop :=
  True

def Pre_OddOutDxPlainIdeal (m : (ℓ : Loc Cert.OddOutDxPlainIdeal.nD Cert.OddOutDxPlainIdeal.τ Cert.OddOutDxPlainIdeal.sig) → Buf (Elt Ideal) ℓ) : Prop :=
  True

def Pre_OddOutDw (m : (ℓ : Loc Cert.OddOutDw.nD Cert.OddOutDw.τ Cert.OddOutDw.sig) → Buf (Elt Bits) ℓ) : Prop :=
  True

def Pre_OddOutDwIdeal (m : (ℓ : Loc Cert.OddOutDwIdeal.nD Cert.OddOutDwIdeal.τ Cert.OddOutDwIdeal.sig) → Buf (Elt Ideal) ℓ) : Prop :=
  True

def Pre_OddOutDwPlainIdeal (m : (ℓ : Loc Cert.OddOutDwPlainIdeal.nD Cert.OddOutDwPlainIdeal.τ Cert.OddOutDwPlainIdeal.sig) → Buf (Elt Ideal) ℓ) : Prop :=
  True

def Pre_AdamNorms (m : (ℓ : Loc Cert.AdamNorms.nD Cert.AdamNorms.τ Cert.AdamNorms.sig) → Buf (Elt Bits) ℓ) : Prop :=
  True

def Pre_AdamNormsIdeal (m : (ℓ : Loc Cert.AdamNormsIdeal.nD Cert.AdamNormsIdeal.τ Cert.AdamNormsIdeal.sig) → Buf (Elt Ideal) ℓ) : Prop :=
  True

def Pre_AdamNormsPlainIdeal (m : (ℓ : Loc Cert.AdamNormsPlainIdeal.nD Cert.AdamNormsPlainIdeal.τ Cert.AdamNormsPlainIdeal.sig) → Buf (Elt Ideal) ℓ) : Prop :=
  True

def Pre_AdamEvenIn (m : (ℓ : Loc Cert.AdamEvenIn.nD Cert.AdamEvenIn.τ Cert.AdamEvenIn.sig) → Buf (Elt Bits) ℓ) : Prop :=
  True

def Pre_AdamEvenInIdeal (m : (ℓ : Loc Cert.AdamEvenInIdeal.nD Cert.AdamEvenInIdeal.τ Cert.AdamEvenInIdeal.sig) → Buf (Elt Ideal) ℓ) : Prop :=
  True

def Pre_AdamEvenInPlainIdeal (m : (ℓ : Loc Cert.AdamEvenInPlainIdeal.nD Cert.AdamEvenInPlainIdeal.τ Cert.AdamEvenInPlainIdeal.sig) → Buf (Elt Ideal) ℓ) : Prop :=
  True

def Pre_AdamEvenConv (m : (ℓ : Loc Cert.AdamEvenConv.nD Cert.AdamEvenConv.τ Cert.AdamEvenConv.sig) → Buf (Elt Bits) ℓ) : Prop :=
  True

def Pre_AdamEvenConvIdeal (m : (ℓ : Loc Cert.AdamEvenConvIdeal.nD Cert.AdamEvenConvIdeal.τ Cert.AdamEvenConvIdeal.sig) → Buf (Elt Ideal) ℓ) : Prop :=
  True

def Pre_AdamEvenConvPlainIdeal (m : (ℓ : Loc Cert.AdamEvenConvPlainIdeal.nD Cert.AdamEvenConvPlainIdeal.τ Cert.AdamEvenConvPlainIdeal.sig) → Buf (Elt Ideal) ℓ) : Prop :=
  True

def Pre_AdamEvenBias (m : (ℓ : Loc Cert.AdamEvenBias.nD Cert.AdamEvenBias.τ Cert.AdamEvenBias.sig) → Buf (Elt Bits) ℓ) : Prop :=
  True

def Pre_AdamEvenBiasIdeal (m : (ℓ : Loc Cert.AdamEvenBiasIdeal.nD Cert.AdamEvenBiasIdeal.τ Cert.AdamEvenBiasIdeal.sig) → Buf (Elt Ideal) ℓ) : Prop :=
  True

def Pre_AdamEvenBiasPlainIdeal (m : (ℓ : Loc Cert.AdamEvenBiasPlainIdeal.nD Cert.AdamEvenBiasPlainIdeal.τ Cert.AdamEvenBiasPlainIdeal.sig) → Buf (Elt Ideal) ℓ) : Prop :=
  True

def Pre_AdamEvenHeads (m : (ℓ : Loc Cert.AdamEvenHeads.nD Cert.AdamEvenHeads.τ Cert.AdamEvenHeads.sig) → Buf (Elt Bits) ℓ) : Prop :=
  True

def Pre_AdamEvenHeadsIdeal (m : (ℓ : Loc Cert.AdamEvenHeadsIdeal.nD Cert.AdamEvenHeadsIdeal.τ Cert.AdamEvenHeadsIdeal.sig) → Buf (Elt Ideal) ℓ) : Prop :=
  True

def Pre_AdamEvenHeadsPlainIdeal (m : (ℓ : Loc Cert.AdamEvenHeadsPlainIdeal.nD Cert.AdamEvenHeadsPlainIdeal.τ Cert.AdamEvenHeadsPlainIdeal.sig) → Buf (Elt Ideal) ℓ) : Prop :=
  True

def Pre_AdamEvenNorm (m : (ℓ : Loc Cert.AdamEvenNorm.nD Cert.AdamEvenNorm.τ Cert.AdamEvenNorm.sig) → Buf (Elt Bits) ℓ) : Prop :=
  True

def Pre_AdamEvenNormIdeal (m : (ℓ : Loc Cert.AdamEvenNormIdeal.nD Cert.AdamEvenNormIdeal.τ Cert.AdamEvenNormIdeal.sig) → Buf (Elt Ideal) ℓ) : Prop :=
  True

def Pre_AdamEvenNormPlainIdeal (m : (ℓ : Loc Cert.AdamEvenNormPlainIdeal.nD Cert.AdamEvenNormPlainIdeal.τ Cert.AdamEvenNormPlainIdeal.sig) → Buf (Elt Ideal) ℓ) : Prop :=
  True

def Pre_AdamEvenOut (m : (ℓ : Loc Cert.AdamEvenOut.nD Cert.AdamEvenOut.τ Cert.AdamEvenOut.sig) → Buf (Elt Bits) ℓ) : Prop :=
  True

def Pre_AdamEvenOutIdeal (m : (ℓ : Loc Cert.AdamEvenOutIdeal.nD Cert.AdamEvenOutIdeal.τ Cert.AdamEvenOutIdeal.sig) → Buf (Elt Ideal) ℓ) : Prop :=
  True

def Pre_AdamEvenOutPlainIdeal (m : (ℓ : Loc Cert.AdamEvenOutPlainIdeal.nD Cert.AdamEvenOutPlainIdeal.τ Cert.AdamEvenOutPlainIdeal.sig) → Buf (Elt Ideal) ℓ) : Prop :=
  True

def Pre_AdamOddIn (m : (ℓ : Loc Cert.AdamOddIn.nD Cert.AdamOddIn.τ Cert.AdamOddIn.sig) → Buf (Elt Bits) ℓ) : Prop :=
  True

def Pre_AdamOddInIdeal (m : (ℓ : Loc Cert.AdamOddInIdeal.nD Cert.AdamOddInIdeal.τ Cert.AdamOddInIdeal.sig) → Buf (Elt Ideal) ℓ) : Prop :=
  True

def Pre_AdamOddInPlainIdeal (m : (ℓ : Loc Cert.AdamOddInPlainIdeal.nD Cert.AdamOddInPlainIdeal.τ Cert.AdamOddInPlainIdeal.sig) → Buf (Elt Ideal) ℓ) : Prop :=
  True

def Pre_AdamOddConv (m : (ℓ : Loc Cert.AdamOddConv.nD Cert.AdamOddConv.τ Cert.AdamOddConv.sig) → Buf (Elt Bits) ℓ) : Prop :=
  True

def Pre_AdamOddConvIdeal (m : (ℓ : Loc Cert.AdamOddConvIdeal.nD Cert.AdamOddConvIdeal.τ Cert.AdamOddConvIdeal.sig) → Buf (Elt Ideal) ℓ) : Prop :=
  True

def Pre_AdamOddConvPlainIdeal (m : (ℓ : Loc Cert.AdamOddConvPlainIdeal.nD Cert.AdamOddConvPlainIdeal.τ Cert.AdamOddConvPlainIdeal.sig) → Buf (Elt Ideal) ℓ) : Prop :=
  True

def Pre_AdamOddRow (m : (ℓ : Loc Cert.AdamOddRow.nD Cert.AdamOddRow.τ Cert.AdamOddRow.sig) → Buf (Elt Bits) ℓ) : Prop :=
  True

def Pre_AdamOddRowIdeal (m : (ℓ : Loc Cert.AdamOddRowIdeal.nD Cert.AdamOddRowIdeal.τ Cert.AdamOddRowIdeal.sig) → Buf (Elt Ideal) ℓ) : Prop :=
  True

def Pre_AdamOddRowPlainIdeal (m : (ℓ : Loc Cert.AdamOddRowPlainIdeal.nD Cert.AdamOddRowPlainIdeal.τ Cert.AdamOddRowPlainIdeal.sig) → Buf (Elt Ideal) ℓ) : Prop :=
  True

def Pre_AdamOddPoles (m : (ℓ : Loc Cert.AdamOddPoles.nD Cert.AdamOddPoles.τ Cert.AdamOddPoles.sig) → Buf (Elt Bits) ℓ) : Prop :=
  True

def Pre_AdamOddPolesIdeal (m : (ℓ : Loc Cert.AdamOddPolesIdeal.nD Cert.AdamOddPolesIdeal.τ Cert.AdamOddPolesIdeal.sig) → Buf (Elt Ideal) ℓ) : Prop :=
  True

def Pre_AdamOddPolesPlainIdeal (m : (ℓ : Loc Cert.AdamOddPolesPlainIdeal.nD Cert.AdamOddPolesPlainIdeal.τ Cert.AdamOddPolesPlainIdeal.sig) → Buf (Elt Ideal) ℓ) : Prop :=
  True

def Pre_AdamOddInputs (m : (ℓ : Loc Cert.AdamOddInputs.nD Cert.AdamOddInputs.τ Cert.AdamOddInputs.sig) → Buf (Elt Bits) ℓ) : Prop :=
  True

def Pre_AdamOddInputsIdeal (m : (ℓ : Loc Cert.AdamOddInputsIdeal.nD Cert.AdamOddInputsIdeal.τ Cert.AdamOddInputsIdeal.sig) → Buf (Elt Ideal) ℓ) : Prop :=
  True

def Pre_AdamOddInputsPlainIdeal (m : (ℓ : Loc Cert.AdamOddInputsPlainIdeal.nD Cert.AdamOddInputsPlainIdeal.τ Cert.AdamOddInputsPlainIdeal.sig) → Buf (Elt Ideal) ℓ) : Prop :=
  True

def Pre_AdamOddOutputs (m : (ℓ : Loc Cert.AdamOddOutputs.nD Cert.AdamOddOutputs.τ Cert.AdamOddOutputs.sig) → Buf (Elt Bits) ℓ) : Prop :=
  True

def Pre_AdamOddOutputsIdeal (m : (ℓ : Loc Cert.AdamOddOutputsIdeal.nD Cert.AdamOddOutputsIdeal.τ Cert.AdamOddOutputsIdeal.sig) → Buf (Elt Ideal) ℓ) : Prop :=
  True

def Pre_AdamOddOutputsPlainIdeal (m : (ℓ : Loc Cert.AdamOddOutputsPlainIdeal.nD Cert.AdamOddOutputsPlainIdeal.τ Cert.AdamOddOutputsPlainIdeal.sig) → Buf (Elt Ideal) ℓ) : Prop :=
  True

def Pre_AdamOddSteps (m : (ℓ : Loc Cert.AdamOddSteps.nD Cert.AdamOddSteps.τ Cert.AdamOddSteps.sig) → Buf (Elt Bits) ℓ) : Prop :=
  True

def Pre_AdamOddStepsIdeal (m : (ℓ : Loc Cert.AdamOddStepsIdeal.nD Cert.AdamOddStepsIdeal.τ Cert.AdamOddStepsIdeal.sig) → Buf (Elt Ideal) ℓ) : Prop :=
  True

def Pre_AdamOddStepsPlainIdeal (m : (ℓ : Loc Cert.AdamOddStepsPlainIdeal.nD Cert.AdamOddStepsPlainIdeal.τ Cert.AdamOddStepsPlainIdeal.sig) → Buf (Elt Ideal) ℓ) : Prop :=
  True

def Pre_AdamOddGate (m : (ℓ : Loc Cert.AdamOddGate.nD Cert.AdamOddGate.τ Cert.AdamOddGate.sig) → Buf (Elt Bits) ℓ) : Prop :=
  True

def Pre_AdamOddGateIdeal (m : (ℓ : Loc Cert.AdamOddGateIdeal.nD Cert.AdamOddGateIdeal.τ Cert.AdamOddGateIdeal.sig) → Buf (Elt Ideal) ℓ) : Prop :=
  True

def Pre_AdamOddGatePlainIdeal (m : (ℓ : Loc Cert.AdamOddGatePlainIdeal.nD Cert.AdamOddGatePlainIdeal.τ Cert.AdamOddGatePlainIdeal.sig) → Buf (Elt Ideal) ℓ) : Prop :=
  True

def Pre_AdamOddOut (m : (ℓ : Loc Cert.AdamOddOut.nD Cert.AdamOddOut.τ Cert.AdamOddOut.sig) → Buf (Elt Bits) ℓ) : Prop :=
  True

def Pre_AdamOddOutIdeal (m : (ℓ : Loc Cert.AdamOddOutIdeal.nD Cert.AdamOddOutIdeal.τ Cert.AdamOddOutIdeal.sig) → Buf (Elt Ideal) ℓ) : Prop :=
  True

def Pre_AdamOddOutPlainIdeal (m : (ℓ : Loc Cert.AdamOddOutPlainIdeal.nD Cert.AdamOddOutPlainIdeal.τ Cert.AdamOddOutPlainIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpPlainIdeal (m : (ℓ : Loc Cert.AdamUpPlainIdeal.nD Cert.AdamUpPlainIdeal.τ Cert.AdamUpPlainIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvPlainIdeal (m : (ℓ : Loc Cert.AdamConvPlainIdeal.nD Cert.AdamConvPlainIdeal.τ Cert.AdamConvPlainIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasPlainIdeal (m : (ℓ : Loc Cert.AdamBiasPlainIdeal.nD Cert.AdamBiasPlainIdeal.τ Cert.AdamBiasPlainIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownPlainIdeal (m : (ℓ : Loc Cert.AdamDownPlainIdeal.nD Cert.AdamDownPlainIdeal.τ Cert.AdamDownPlainIdeal.sig) → Buf (Elt Ideal) ℓ) : Prop :=
  True

def Pre_AdamFinal (m : (ℓ : Loc Cert.AdamFinal.nD Cert.AdamFinal.τ Cert.AdamFinal.sig) → Buf (Elt Bits) ℓ) : Prop :=
  True

def Pre_AdamFinalIdeal (m : (ℓ : Loc Cert.AdamFinalIdeal.nD Cert.AdamFinalIdeal.τ Cert.AdamFinalIdeal.sig) → Buf (Elt Ideal) ℓ) : Prop :=
  True

def Pre_AdamFinalPlainIdeal (m : (ℓ : Loc Cert.AdamFinalPlainIdeal.nD Cert.AdamFinalPlainIdeal.τ Cert.AdamFinalPlainIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormPlainIdeal (m : (ℓ : Loc Cert.NormPlainIdeal.nD Cert.NormPlainIdeal.τ Cert.NormPlainIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdPlainIdeal (m : (ℓ : Loc Cert.NormBwdPlainIdeal.nD Cert.NormBwdPlainIdeal.τ Cert.NormBwdPlainIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadPlainIdeal (m : (ℓ : Loc Cert.LossHeadPlainIdeal.nD Cert.LossHeadPlainIdeal.τ Cert.LossHeadPlainIdeal.sig) → Buf (Elt Ideal) ℓ) : Prop :=
  True

def Pre_EvenDt (m : (ℓ : Loc Cert.EvenDt.nD Cert.EvenDt.τ Cert.EvenDt.sig) → Buf (Elt Bits) ℓ) : Prop :=
  True

def Pre_EvenDtIdeal (m : (ℓ : Loc Cert.EvenDtIdeal.nD Cert.EvenDtIdeal.τ Cert.EvenDtIdeal.sig) → Buf (Elt Ideal) ℓ) : Prop :=
  True

def Pre_EvenDtPlainIdeal (m : (ℓ : Loc Cert.EvenDtPlainIdeal.nD Cert.EvenDtPlainIdeal.τ Cert.EvenDtPlainIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluPlainIdeal (m : (ℓ : Loc Cert.GluPlainIdeal.nD Cert.GluPlainIdeal.τ Cert.GluPlainIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdPlainIdeal (m : (ℓ : Loc Cert.GluBwdPlainIdeal.nD Cert.GluBwdPlainIdeal.τ Cert.GluBwdPlainIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnPlainIdeal (m : (ℓ : Loc Cert.LnPlainIdeal.nD Cert.LnPlainIdeal.τ Cert.LnPlainIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdPlainIdeal (m : (ℓ : Loc Cert.LnBwdPlainIdeal.nD Cert.LnBwdPlainIdeal.τ Cert.LnBwdPlainIdeal.sig) → Buf (Elt Ideal) ℓ) : Prop :=
  True

def Pre_S5In (m : (ℓ : Loc Cert.S5In.nD Cert.S5In.τ Cert.S5In.sig) → Buf (Elt Bits) ℓ) : Prop :=
  True

def Pre_S5InIdeal (m : (ℓ : Loc Cert.S5InIdeal.nD Cert.S5InIdeal.τ Cert.S5InIdeal.sig) → Buf (Elt Ideal) ℓ) : Prop :=
  True

def Pre_S5InPlainIdeal (m : (ℓ : Loc Cert.S5InPlainIdeal.nD Cert.S5InPlainIdeal.τ Cert.S5InPlainIdeal.sig) → Buf (Elt Ideal) ℓ) : Prop :=
  True

def Pre_S5InDx (m : (ℓ : Loc Cert.S5InDx.nD Cert.S5InDx.τ Cert.S5InDx.sig) → Buf (Elt Bits) ℓ) : Prop :=
  True

def Pre_S5InDxIdeal (m : (ℓ : Loc Cert.S5InDxIdeal.nD Cert.S5InDxIdeal.τ Cert.S5InDxIdeal.sig) → Buf (Elt Ideal) ℓ) : Prop :=
  True

def Pre_S5InDxPlainIdeal (m : (ℓ : Loc Cert.S5InDxPlainIdeal.nD Cert.S5InDxPlainIdeal.τ Cert.S5InDxPlainIdeal.sig) → Buf (Elt Ideal) ℓ) : Prop :=
  True

def Pre_S5InDw (m : (ℓ : Loc Cert.S5InDw.nD Cert.S5InDw.τ Cert.S5InDw.sig) → Buf (Elt Bits) ℓ) : Prop :=
  True

def Pre_S5InDwIdeal (m : (ℓ : Loc Cert.S5InDwIdeal.nD Cert.S5InDwIdeal.τ Cert.S5InDwIdeal.sig) → Buf (Elt Ideal) ℓ) : Prop :=
  True

def Pre_S5InDwPlainIdeal (m : (ℓ : Loc Cert.S5InDwPlainIdeal.nD Cert.S5InDwPlainIdeal.τ Cert.S5InDwPlainIdeal.sig) → Buf (Elt Ideal) ℓ) : Prop :=
  True

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutPlainIdeal (m : (ℓ : Loc Cert.S5OutPlainIdeal.nD Cert.S5OutPlainIdeal.τ Cert.S5OutPlainIdeal.sig) → Buf (Elt Ideal) ℓ) : Prop :=
  True

def Pre_S5Post (m : (ℓ : Loc Cert.S5Post.nD Cert.S5Post.τ Cert.S5Post.sig) → Buf (Elt Bits) ℓ) : Prop :=
  True

def Pre_S5PostIdeal (m : (ℓ : Loc Cert.S5PostIdeal.nD Cert.S5PostIdeal.τ Cert.S5PostIdeal.sig) → Buf (Elt Ideal) ℓ) : Prop :=
  True

def Pre_S5PostPlainIdeal (m : (ℓ : Loc Cert.S5PostPlainIdeal.nD Cert.S5PostPlainIdeal.τ Cert.S5PostPlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpPlainIdeal [hUpPlainIdeal : Cert.UpPlainIdeal.Facts] : Prop :=
  ∀ (m : (ℓ : Loc Cert.UpPlainIdeal.nD Cert.UpPlainIdeal.τ Cert.UpPlainIdeal.sig) → Buf (Elt Ideal) ℓ) (g : Dev Cert.UpPlainIdeal.nD → PrngReg), Pre_UpPlainIdeal m →
    θ_run (Cert.UpPlainIdeal.defs (F := Ideal)) (onTc (τ := Cert.UpPlainIdeal.τ) (Cert.UpPlainIdeal.main (F := Ideal))) ⟨m, fun _ => 0, g⟩ (fun r => (∀ c : Dev Cert.UpPlainIdeal.nD,
      r.2.mem ((c.tc : Thread Cert.UpPlainIdeal.nD Cert.UpPlainIdeal.τ).loc Cert.UpPlainIdeal.main_arg0) = m ((c.tc : Thread Cert.UpPlainIdeal.nD Cert.UpPlainIdeal.τ).loc Cert.UpPlainIdeal.main_arg0)
      ∧ r.2.mem ((c.tc : Thread Cert.UpPlainIdeal.nD Cert.UpPlainIdeal.τ).loc Cert.UpPlainIdeal.main_arg1) = m ((c.tc : Thread Cert.UpPlainIdeal.nD Cert.UpPlainIdeal.τ).loc Cert.UpPlainIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxPlainIdeal [hUpDxPlainIdeal : Cert.UpDxPlainIdeal.Facts] : Prop :=
  ∀ (m : (ℓ : Loc Cert.UpDxPlainIdeal.nD Cert.UpDxPlainIdeal.τ Cert.UpDxPlainIdeal.sig) → Buf (Elt Ideal) ℓ) (g : Dev Cert.UpDxPlainIdeal.nD → PrngReg), Pre_UpDxPlainIdeal m →
    θ_run (Cert.UpDxPlainIdeal.defs (F := Ideal)) (onTc (τ := Cert.UpDxPlainIdeal.τ) (Cert.UpDxPlainIdeal.main (F := Ideal))) ⟨m, fun _ => 0, g⟩ (fun r => (∀ c : Dev Cert.UpDxPlainIdeal.nD,
      r.2.mem ((c.tc : Thread Cert.UpDxPlainIdeal.nD Cert.UpDxPlainIdeal.τ).loc Cert.UpDxPlainIdeal.main_arg0) = m ((c.tc : Thread Cert.UpDxPlainIdeal.nD Cert.UpDxPlainIdeal.τ).loc Cert.UpDxPlainIdeal.main_arg0)
      ∧ r.2.mem ((c.tc : Thread Cert.UpDxPlainIdeal.nD Cert.UpDxPlainIdeal.τ).loc Cert.UpDxPlainIdeal.main_arg1) = m ((c.tc : Thread Cert.UpDxPlainIdeal.nD Cert.UpDxPlainIdeal.τ).loc Cert.UpDxPlainIdeal.main_arg1)
      ∧ r.2.mem ((c.tc : Thread Cert.UpDxPlainIdeal.nD Cert.UpDxPlainIdeal.τ).loc Cert.UpDxPlainIdeal.main_arg2) = m ((c.tc : Thread Cert.UpDxPlainIdeal.nD Cert.UpDxPlainIdeal.τ).loc Cert.UpDxPlainIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwPlainIdeal [hUpDwPlainIdeal : Cert.UpDwPlainIdeal.Facts] : Prop :=
  ∀ (m : (ℓ : Loc Cert.UpDwPlainIdeal.nD Cert.UpDwPlainIdeal.τ Cert.UpDwPlainIdeal.sig) → Buf (Elt Ideal) ℓ) (g : Dev Cert.UpDwPlainIdeal.nD → PrngReg), Pre_UpDwPlainIdeal m →
    θ_run (Cert.UpDwPlainIdeal.defs (F := Ideal)) (onTc (τ := Cert.UpDwPlainIdeal.τ) (Cert.UpDwPlainIdeal.main (F := Ideal))) ⟨m, fun _ => 0, g⟩ (fun r => (∀ c : Dev Cert.UpDwPlainIdeal.nD,
      r.2.mem ((c.tc : Thread Cert.UpDwPlainIdeal.nD Cert.UpDwPlainIdeal.τ).loc Cert.UpDwPlainIdeal.main_arg0) = m ((c.tc : Thread Cert.UpDwPlainIdeal.nD Cert.UpDwPlainIdeal.τ).loc Cert.UpDwPlainIdeal.main_arg0)
      ∧ r.2.mem ((c.tc : Thread Cert.UpDwPlainIdeal.nD Cert.UpDwPlainIdeal.τ).loc Cert.UpDwPlainIdeal.main_arg1) = m ((c.tc : Thread Cert.UpDwPlainIdeal.nD Cert.UpDwPlainIdeal.τ).loc Cert.UpDwPlainIdeal.main_arg1)
      ∧ r.2.mem ((c.tc : Thread Cert.UpDwPlainIdeal.nD Cert.UpDwPlainIdeal.τ).loc Cert.UpDwPlainIdeal.main_arg2) = m ((c.tc : Thread Cert.UpDwPlainIdeal.nD Cert.UpDwPlainIdeal.τ).loc Cert.UpDwPlainIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownPlainIdeal [hDownPlainIdeal : Cert.DownPlainIdeal.Facts] : Prop :=
  ∀ (m : (ℓ : Loc Cert.DownPlainIdeal.nD Cert.DownPlainIdeal.τ Cert.DownPlainIdeal.sig) → Buf (Elt Ideal) ℓ) (g : Dev Cert.DownPlainIdeal.nD → PrngReg), Pre_DownPlainIdeal m →
    θ_run (Cert.DownPlainIdeal.defs (F := Ideal)) (onTc (τ := Cert.DownPlainIdeal.τ) (Cert.DownPlainIdeal.main (F := Ideal))) ⟨m, fun _ => 0, g⟩ (fun r => (∀ c : Dev Cert.DownPlainIdeal.nD,
      r.2.mem ((c.tc : Thread Cert.DownPlainIdeal.nD Cert.DownPlainIdeal.τ).loc Cert.DownPlainIdeal.main_arg0) = m ((c.tc : Thread Cert.DownPlainIdeal.nD Cert.DownPlainIdeal.τ).loc Cert.DownPlainIdeal.main_arg0)
      ∧ r.2.mem ((c.tc : Thread Cert.DownPlainIdeal.nD Cert.DownPlainIdeal.τ).loc Cert.DownPlainIdeal.main_arg1) = m ((c.tc : Thread Cert.DownPlainIdeal.nD Cert.DownPlainIdeal.τ).loc Cert.DownPlainIdeal.main_arg1)
      ∧ r.2.mem ((c.tc : Thread Cert.DownPlainIdeal.nD Cert.DownPlainIdeal.τ).loc Cert.DownPlainIdeal.main_arg2) = m ((c.tc : Thread Cert.DownPlainIdeal.nD Cert.DownPlainIdeal.τ).loc Cert.DownPlainIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxPlainIdeal [hDownDxPlainIdeal : Cert.DownDxPlainIdeal.Facts] : Prop :=
  ∀ (m : (ℓ : Loc Cert.DownDxPlainIdeal.nD Cert.DownDxPlainIdeal.τ Cert.DownDxPlainIdeal.sig) → Buf (Elt Ideal) ℓ) (g : Dev Cert.DownDxPlainIdeal.nD → PrngReg), Pre_DownDxPlainIdeal m →
    θ_run (Cert.DownDxPlainIdeal.defs (F := Ideal)) (onTc (τ := Cert.DownDxPlainIdeal.τ) (Cert.DownDxPlainIdeal.main (F := Ideal))) ⟨m, fun _ => 0, g⟩ (fun r => (∀ c : Dev Cert.DownDxPlainIdeal.nD,
      r.2.mem ((c.tc : Thread Cert.DownDxPlainIdeal.nD Cert.DownDxPlainIdeal.τ).loc Cert.DownDxPlainIdeal.main_arg0) = m ((c.tc : Thread Cert.DownDxPlainIdeal.nD Cert.DownDxPlainIdeal.τ).loc Cert.DownDxPlainIdeal.main_arg0)
      ∧ r.2.mem ((c.tc : Thread Cert.DownDxPlainIdeal.nD Cert.DownDxPlainIdeal.τ).loc Cert.DownDxPlainIdeal.main_arg1) = m ((c.tc : Thread Cert.DownDxPlainIdeal.nD Cert.DownDxPlainIdeal.τ).loc Cert.DownDxPlainIdeal.main_arg1)
      ∧ r.2.mem ((c.tc : Thread Cert.DownDxPlainIdeal.nD Cert.DownDxPlainIdeal.τ).loc Cert.DownDxPlainIdeal.main_arg2) = m ((c.tc : Thread Cert.DownDxPlainIdeal.nD Cert.DownDxPlainIdeal.τ).loc Cert.DownDxPlainIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwPlainIdeal [hDownDwPlainIdeal : Cert.DownDwPlainIdeal.Facts] : Prop :=
  ∀ (m : (ℓ : Loc Cert.DownDwPlainIdeal.nD Cert.DownDwPlainIdeal.τ Cert.DownDwPlainIdeal.sig) → Buf (Elt Ideal) ℓ) (g : Dev Cert.DownDwPlainIdeal.nD → PrngReg), Pre_DownDwPlainIdeal m →
    θ_run (Cert.DownDwPlainIdeal.defs (F := Ideal)) (onTc (τ := Cert.DownDwPlainIdeal.τ) (Cert.DownDwPlainIdeal.main (F := Ideal))) ⟨m, fun _ => 0, g⟩ (fun r => (∀ c : Dev Cert.DownDwPlainIdeal.nD,
      r.2.mem ((c.tc : Thread Cert.DownDwPlainIdeal.nD Cert.DownDwPlainIdeal.τ).loc Cert.DownDwPlainIdeal.main_arg0) = m ((c.tc : Thread Cert.DownDwPlainIdeal.nD Cert.DownDwPlainIdeal.τ).loc Cert.DownDwPlainIdeal.main_arg0)
      ∧ r.2.mem ((c.tc : Thread Cert.DownDwPlainIdeal.nD Cert.DownDwPlainIdeal.τ).loc Cert.DownDwPlainIdeal.main_arg1) = m ((c.tc : Thread Cert.DownDwPlainIdeal.nD Cert.DownDwPlainIdeal.τ).loc Cert.DownDwPlainIdeal.main_arg1)
      ∧ r.2.mem ((c.tc : Thread Cert.DownDwPlainIdeal.nD Cert.DownDwPlainIdeal.τ).loc Cert.DownDwPlainIdeal.main_arg2) = m ((c.tc : Thread Cert.DownDwPlainIdeal.nD Cert.DownDwPlainIdeal.τ).loc Cert.DownDwPlainIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInPlainIdeal [hEvenInPlainIdeal : Cert.EvenInPlainIdeal.Facts] : Prop :=
  ∀ (m : (ℓ : Loc Cert.EvenInPlainIdeal.nD Cert.EvenInPlainIdeal.τ Cert.EvenInPlainIdeal.sig) → Buf (Elt Ideal) ℓ) (g : Dev Cert.EvenInPlainIdeal.nD → PrngReg), Pre_EvenInPlainIdeal m →
    θ_run (Cert.EvenInPlainIdeal.defs (F := Ideal)) (onTc (τ := Cert.EvenInPlainIdeal.τ) (Cert.EvenInPlainIdeal.main (F := Ideal))) ⟨m, fun _ => 0, g⟩ (fun r => (∀ c : Dev Cert.EvenInPlainIdeal.nD,
      r.2.mem ((c.tc : Thread Cert.EvenInPlainIdeal.nD Cert.EvenInPlainIdeal.τ).loc Cert.EvenInPlainIdeal.main_arg0) = m ((c.tc : Thread Cert.EvenInPlainIdeal.nD Cert.EvenInPlainIdeal.τ).loc Cert.EvenInPlainIdeal.main_arg0)
      ∧ r.2.mem ((c.tc : Thread Cert.EvenInPlainIdeal.nD Cert.EvenInPlainIdeal.τ).loc Cert.EvenInPlainIdeal.main_arg1) = m ((c.tc : Thread Cert.EvenInPlainIdeal.nD Cert.EvenInPlainIdeal.τ).loc Cert.EvenInPlainIdeal.main_arg1))
      ∧ r.2.sem = fun _ => 0)

def quiescent_EvenInDx [hEvenInDx : Cert.EvenInDx.Facts] : Prop :=
  ∀ (m : (ℓ : Loc Cert.EvenInDx.nD Cert.EvenInDx.τ Cert.EvenInDx.sig) → Buf (Elt Bits) ℓ) (g : Dev Cert.EvenInDx.nD → PrngReg), Pre_EvenInDx m →
    θ_run (Cert.EvenInDx.defs (F := Bits)) (onTc (τ := Cert.EvenInDx.τ) (Cert.EvenInDx.main (F := Bits))) ⟨m, fun _ => 0, g⟩ (fun r => (∀ c : Dev Cert.EvenInDx.nD,
      r.2.mem ((c.tc : Thread Cert.EvenInDx.nD Cert.EvenInDx.τ).loc Cert.EvenInDx.main_arg0) = m ((c.tc : Thread Cert.EvenInDx.nD Cert.EvenInDx.τ).loc Cert.EvenInDx.main_arg0)
      ∧ r.2.mem ((c.tc : Thread Cert.EvenInDx.nD Cert.EvenInDx.τ).loc Cert.EvenInDx.main_arg1) = m ((c.tc : Thread Cert.EvenInDx.nD Cert.EvenInDx.τ).loc Cert.EvenInDx.main_arg1)
      ∧ r.2.mem ((c.tc : Thread Cert.EvenInDx.nD Cert.EvenInDx.τ).loc Cert.EvenInDx.main_arg2) = m ((c.tc : Thread Cert.EvenInDx.nD Cert.EvenInDx.τ).loc Cert.EvenInDx.main_arg2))
      ∧ r.2.sem = fun _ => 0)

def quiescent_EvenInDxIdeal [hEvenInDxIdeal : Cert.EvenInDxIdeal.Facts] : Prop :=
  ∀ (m : (ℓ : Loc Cert.EvenInDxIdeal.nD Cert.EvenInDxIdeal.τ Cert.EvenInDxIdeal.sig) → Buf (Elt Ideal) ℓ) (g : Dev Cert.EvenInDxIdeal.nD → PrngReg), Pre_EvenInDxIdeal m →
    θ_run (Cert.EvenInDxIdeal.defs (F := Ideal)) (onTc (τ := Cert.EvenInDxIdeal.τ) (Cert.EvenInDxIdeal.main (F := Ideal))) ⟨m, fun _ => 0, g⟩ (fun r => (∀ c : Dev Cert.EvenInDxIdeal.nD,
      r.2.mem ((c.tc : Thread Cert.EvenInDxIdeal.nD Cert.EvenInDxIdeal.τ).loc Cert.EvenInDxIdeal.main_arg0) = m ((c.tc : Thread Cert.EvenInDxIdeal.nD Cert.EvenInDxIdeal.τ).loc Cert.EvenInDxIdeal.main_arg0)
      ∧ r.2.mem ((c.tc : Thread Cert.EvenInDxIdeal.nD Cert.EvenInDxIdeal.τ).loc Cert.EvenInDxIdeal.main_arg1) = m ((c.tc : Thread Cert.EvenInDxIdeal.nD Cert.EvenInDxIdeal.τ).loc Cert.EvenInDxIdeal.main_arg1)
      ∧ r.2.mem ((c.tc : Thread Cert.EvenInDxIdeal.nD Cert.EvenInDxIdeal.τ).loc Cert.EvenInDxIdeal.main_arg2) = m ((c.tc : Thread Cert.EvenInDxIdeal.nD Cert.EvenInDxIdeal.τ).loc Cert.EvenInDxIdeal.main_arg2))
      ∧ r.2.sem = fun _ => 0)

def quiescent_EvenInDxPlainIdeal [hEvenInDxPlainIdeal : Cert.EvenInDxPlainIdeal.Facts] : Prop :=
  ∀ (m : (ℓ : Loc Cert.EvenInDxPlainIdeal.nD Cert.EvenInDxPlainIdeal.τ Cert.EvenInDxPlainIdeal.sig) → Buf (Elt Ideal) ℓ) (g : Dev Cert.EvenInDxPlainIdeal.nD → PrngReg), Pre_EvenInDxPlainIdeal m →
    θ_run (Cert.EvenInDxPlainIdeal.defs (F := Ideal)) (onTc (τ := Cert.EvenInDxPlainIdeal.τ) (Cert.EvenInDxPlainIdeal.main (F := Ideal))) ⟨m, fun _ => 0, g⟩ (fun r => (∀ c : Dev Cert.EvenInDxPlainIdeal.nD,
      r.2.mem ((c.tc : Thread Cert.EvenInDxPlainIdeal.nD Cert.EvenInDxPlainIdeal.τ).loc Cert.EvenInDxPlainIdeal.main_arg0) = m ((c.tc : Thread Cert.EvenInDxPlainIdeal.nD Cert.EvenInDxPlainIdeal.τ).loc Cert.EvenInDxPlainIdeal.main_arg0)
      ∧ r.2.mem ((c.tc : Thread Cert.EvenInDxPlainIdeal.nD Cert.EvenInDxPlainIdeal.τ).loc Cert.EvenInDxPlainIdeal.main_arg1) = m ((c.tc : Thread Cert.EvenInDxPlainIdeal.nD Cert.EvenInDxPlainIdeal.τ).loc Cert.EvenInDxPlainIdeal.main_arg1)
      ∧ r.2.mem ((c.tc : Thread Cert.EvenInDxPlainIdeal.nD Cert.EvenInDxPlainIdeal.τ).loc Cert.EvenInDxPlainIdeal.main_arg2) = m ((c.tc : Thread Cert.EvenInDxPlainIdeal.nD Cert.EvenInDxPlainIdeal.τ).loc Cert.EvenInDxPlainIdeal.main_arg2))
      ∧ r.2.sem = fun _ => 0)

def quiescent_EvenInDw [hEvenInDw : Cert.EvenInDw.Facts] : Prop :=
  ∀ (m : (ℓ : Loc Cert.EvenInDw.nD Cert.EvenInDw.τ Cert.EvenInDw.sig) → Buf (Elt Bits) ℓ) (g : Dev Cert.EvenInDw.nD → PrngReg), Pre_EvenInDw m →
    θ_run (Cert.EvenInDw.defs (F := Bits)) (onTc (τ := Cert.EvenInDw.τ) (Cert.EvenInDw.main (F := Bits))) ⟨m, fun _ => 0, g⟩ (fun r => (∀ c : Dev Cert.EvenInDw.nD,
      r.2.mem ((c.tc : Thread Cert.EvenInDw.nD Cert.EvenInDw.τ).loc Cert.EvenInDw.main_arg0) = m ((c.tc : Thread Cert.EvenInDw.nD Cert.EvenInDw.τ).loc Cert.EvenInDw.main_arg0)
      ∧ r.2.mem ((c.tc : Thread Cert.EvenInDw.nD Cert.EvenInDw.τ).loc Cert.EvenInDw.main_arg1) = m ((c.tc : Thread Cert.EvenInDw.nD Cert.EvenInDw.τ).loc Cert.EvenInDw.main_arg1)
      ∧ r.2.mem ((c.tc : Thread Cert.EvenInDw.nD Cert.EvenInDw.τ).loc Cert.EvenInDw.main_arg2) = m ((c.tc : Thread Cert.EvenInDw.nD Cert.EvenInDw.τ).loc Cert.EvenInDw.main_arg2))
      ∧ r.2.sem = fun _ => 0)

def quiescent_EvenInDwIdeal [hEvenInDwIdeal : Cert.EvenInDwIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg), Pre_EvenInDwIdeal m →
    θ_run (Cert.EvenInDwIdeal.defs (F := Ideal)) (onTc (τ := Cert.EvenInDwIdeal.τ) (Cert.EvenInDwIdeal.main (F := Ideal))) ⟨m, fun _ => 0, g⟩ (fun r => (∀ c : Dev Cert.EvenInDwIdeal.nD,
      r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
      ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1)
      ∧ r.2.mem ((c.tc : Thread Cert.EvenInDwIdeal.nD Cert.EvenInDwIdeal.τ).loc Cert.EvenInDwIdeal.main_arg2) = m ((c.tc : Thread Cert.EvenInDwIdeal.nD Cert.EvenInDwIdeal.τ).loc Cert.EvenInDwIdeal.main_arg2))
      ∧ r.2.sem = fun _ => 0)

def quiescent_EvenInDwPlainIdeal [hEvenInDwPlainIdeal : Cert.EvenInDwPlainIdeal.Facts] : Prop :=
  ∀ (m : (ℓ : Loc Cert.EvenInDwPlainIdeal.nD Cert.EvenInDwPlainIdeal.τ Cert.EvenInDwPlainIdeal.sig) → Buf (Elt Ideal) ℓ) (g : Dev Cert.EvenInDwPlainIdeal.nD → PrngReg), Pre_EvenInDwPlainIdeal m →
    θ_run (Cert.EvenInDwPlainIdeal.defs (F := Ideal)) (onTc (τ := Cert.EvenInDwPlainIdeal.τ) (Cert.EvenInDwPlainIdeal.main (F := Ideal))) ⟨m, fun _ => 0, g⟩ (fun r => (∀ c : Dev Cert.EvenInDwPlainIdeal.nD,
      r.2.mem ((c.tc : Thread Cert.EvenInDwPlainIdeal.nD Cert.EvenInDwPlainIdeal.τ).loc Cert.EvenInDwPlainIdeal.main_arg0) = m ((c.tc : Thread Cert.EvenInDwPlainIdeal.nD Cert.EvenInDwPlainIdeal.τ).loc Cert.EvenInDwPlainIdeal.main_arg0)
      ∧ r.2.mem ((c.tc : Thread Cert.EvenInDwPlainIdeal.nD Cert.EvenInDwPlainIdeal.τ).loc Cert.EvenInDwPlainIdeal.main_arg1) = m ((c.tc : Thread Cert.EvenInDwPlainIdeal.nD Cert.EvenInDwPlainIdeal.τ).loc Cert.EvenInDwPlainIdeal.main_arg1)
      ∧ r.2.mem ((c.tc : Thread Cert.EvenInDwPlainIdeal.nD Cert.EvenInDwPlainIdeal.τ).loc Cert.EvenInDwPlainIdeal.main_arg2) = m ((c.tc : Thread Cert.EvenInDwPlainIdeal.nD Cert.EvenInDwPlainIdeal.τ).loc Cert.EvenInDwPlainIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2))
      ∧ r.2.sem = fun _ => 0)

def quiescent_EvenOutPlainIdeal [hEvenOutPlainIdeal : Cert.EvenOutPlainIdeal.Facts] : Prop :=
  ∀ (m : (ℓ : Loc Cert.EvenOutPlainIdeal.nD Cert.EvenOutPlainIdeal.τ Cert.EvenOutPlainIdeal.sig) → Buf (Elt Ideal) ℓ) (g : Dev Cert.EvenOutPlainIdeal.nD → PrngReg), Pre_EvenOutPlainIdeal m →
    θ_run (Cert.EvenOutPlainIdeal.defs (F := Ideal)) (onTc (τ := Cert.EvenOutPlainIdeal.τ) (Cert.EvenOutPlainIdeal.main (F := Ideal))) ⟨m, fun _ => 0, g⟩ (fun r => (∀ c : Dev Cert.EvenOutPlainIdeal.nD,
      r.2.mem ((c.tc : Thread Cert.EvenOutPlainIdeal.nD Cert.EvenOutPlainIdeal.τ).loc Cert.EvenOutPlainIdeal.main_arg0) = m ((c.tc : Thread Cert.EvenOutPlainIdeal.nD Cert.EvenOutPlainIdeal.τ).loc Cert.EvenOutPlainIdeal.main_arg0)
      ∧ r.2.mem ((c.tc : Thread Cert.EvenOutPlainIdeal.nD Cert.EvenOutPlainIdeal.τ).loc Cert.EvenOutPlainIdeal.main_arg1) = m ((c.tc : Thread Cert.EvenOutPlainIdeal.nD Cert.EvenOutPlainIdeal.τ).loc Cert.EvenOutPlainIdeal.main_arg1)
      ∧ r.2.mem ((c.tc : Thread Cert.EvenOutPlainIdeal.nD Cert.EvenOutPlainIdeal.τ).loc Cert.EvenOutPlainIdeal.main_arg2) = m ((c.tc : Thread Cert.EvenOutPlainIdeal.nD Cert.EvenOutPlainIdeal.τ).loc Cert.EvenOutPlainIdeal.main_arg2))
      ∧ r.2.sem = fun _ => 0)

def quiescent_EvenOutDx [hEvenOutDx : Cert.EvenOutDx.Facts] : Prop :=
  ∀ (m : (ℓ : Loc Cert.EvenOutDx.nD Cert.EvenOutDx.τ Cert.EvenOutDx.sig) → Buf (Elt Bits) ℓ) (g : Dev Cert.EvenOutDx.nD → PrngReg), Pre_EvenOutDx m →
    θ_run (Cert.EvenOutDx.defs (F := Bits)) (onTc (τ := Cert.EvenOutDx.τ) (Cert.EvenOutDx.main (F := Bits))) ⟨m, fun _ => 0, g⟩ (fun r => (∀ c : Dev Cert.EvenOutDx.nD,
      r.2.mem ((c.tc : Thread Cert.EvenOutDx.nD Cert.EvenOutDx.τ).loc Cert.EvenOutDx.main_arg0) = m ((c.tc : Thread Cert.EvenOutDx.nD Cert.EvenOutDx.τ).loc Cert.EvenOutDx.main_arg0)
      ∧ r.2.mem ((c.tc : Thread Cert.EvenOutDx.nD Cert.EvenOutDx.τ).loc Cert.EvenOutDx.main_arg1) = m ((c.tc : Thread Cert.EvenOutDx.nD Cert.EvenOutDx.τ).loc Cert.EvenOutDx.main_arg1)
      ∧ r.2.mem ((c.tc : Thread Cert.EvenOutDx.nD Cert.EvenOutDx.τ).loc Cert.EvenOutDx.main_arg2) = m ((c.tc : Thread Cert.EvenOutDx.nD Cert.EvenOutDx.τ).loc Cert.EvenOutDx.main_arg2))
      ∧ r.2.sem = fun _ => 0)

def quiescent_EvenOutDxIdeal [hEvenOutDxIdeal : Cert.EvenOutDxIdeal.Facts] : Prop :=
  ∀ (m : (ℓ : Loc Cert.EvenOutDxIdeal.nD Cert.EvenOutDxIdeal.τ Cert.EvenOutDxIdeal.sig) → Buf (Elt Ideal) ℓ) (g : Dev Cert.EvenOutDxIdeal.nD → PrngReg), Pre_EvenOutDxIdeal m →
    θ_run (Cert.EvenOutDxIdeal.defs (F := Ideal)) (onTc (τ := Cert.EvenOutDxIdeal.τ) (Cert.EvenOutDxIdeal.main (F := Ideal))) ⟨m, fun _ => 0, g⟩ (fun r => (∀ c : Dev Cert.EvenOutDxIdeal.nD,
      r.2.mem ((c.tc : Thread Cert.EvenOutDxIdeal.nD Cert.EvenOutDxIdeal.τ).loc Cert.EvenOutDxIdeal.main_arg0) = m ((c.tc : Thread Cert.EvenOutDxIdeal.nD Cert.EvenOutDxIdeal.τ).loc Cert.EvenOutDxIdeal.main_arg0)
      ∧ r.2.mem ((c.tc : Thread Cert.EvenOutDxIdeal.nD Cert.EvenOutDxIdeal.τ).loc Cert.EvenOutDxIdeal.main_arg1) = m ((c.tc : Thread Cert.EvenOutDxIdeal.nD Cert.EvenOutDxIdeal.τ).loc Cert.EvenOutDxIdeal.main_arg1)
      ∧ r.2.mem ((c.tc : Thread Cert.EvenOutDxIdeal.nD Cert.EvenOutDxIdeal.τ).loc Cert.EvenOutDxIdeal.main_arg2) = m ((c.tc : Thread Cert.EvenOutDxIdeal.nD Cert.EvenOutDxIdeal.τ).loc Cert.EvenOutDxIdeal.main_arg2))
      ∧ r.2.sem = fun _ => 0)

def quiescent_EvenOutDxPlainIdeal [hEvenOutDxPlainIdeal : Cert.EvenOutDxPlainIdeal.Facts] : Prop :=
  ∀ (m : (ℓ : Loc Cert.EvenOutDxPlainIdeal.nD Cert.EvenOutDxPlainIdeal.τ Cert.EvenOutDxPlainIdeal.sig) → Buf (Elt Ideal) ℓ) (g : Dev Cert.EvenOutDxPlainIdeal.nD → PrngReg), Pre_EvenOutDxPlainIdeal m →
    θ_run (Cert.EvenOutDxPlainIdeal.defs (F := Ideal)) (onTc (τ := Cert.EvenOutDxPlainIdeal.τ) (Cert.EvenOutDxPlainIdeal.main (F := Ideal))) ⟨m, fun _ => 0, g⟩ (fun r => (∀ c : Dev Cert.EvenOutDxPlainIdeal.nD,
      r.2.mem ((c.tc : Thread Cert.EvenOutDxPlainIdeal.nD Cert.EvenOutDxPlainIdeal.τ).loc Cert.EvenOutDxPlainIdeal.main_arg0) = m ((c.tc : Thread Cert.EvenOutDxPlainIdeal.nD Cert.EvenOutDxPlainIdeal.τ).loc Cert.EvenOutDxPlainIdeal.main_arg0)
      ∧ r.2.mem ((c.tc : Thread Cert.EvenOutDxPlainIdeal.nD Cert.EvenOutDxPlainIdeal.τ).loc Cert.EvenOutDxPlainIdeal.main_arg1) = m ((c.tc : Thread Cert.EvenOutDxPlainIdeal.nD Cert.EvenOutDxPlainIdeal.τ).loc Cert.EvenOutDxPlainIdeal.main_arg1)
      ∧ r.2.mem ((c.tc : Thread Cert.EvenOutDxPlainIdeal.nD Cert.EvenOutDxPlainIdeal.τ).loc Cert.EvenOutDxPlainIdeal.main_arg2) = m ((c.tc : Thread Cert.EvenOutDxPlainIdeal.nD Cert.EvenOutDxPlainIdeal.τ).loc Cert.EvenOutDxPlainIdeal.main_arg2))
      ∧ r.2.sem = fun _ => 0)

def quiescent_EvenOutDw [hEvenOutDw : Cert.EvenOutDw.Facts] : Prop :=
  ∀ (m : (ℓ : Loc Cert.EvenOutDw.nD Cert.EvenOutDw.τ Cert.EvenOutDw.sig) → Buf (Elt Bits) ℓ) (g : Dev Cert.EvenOutDw.nD → PrngReg), Pre_EvenOutDw m →
    θ_run (Cert.EvenOutDw.defs (F := Bits)) (onTc (τ := Cert.EvenOutDw.τ) (Cert.EvenOutDw.main (F := Bits))) ⟨m, fun _ => 0, g⟩ (fun r => (∀ c : Dev Cert.EvenOutDw.nD,
      r.2.mem ((c.tc : Thread Cert.EvenOutDw.nD Cert.EvenOutDw.τ).loc Cert.EvenOutDw.main_arg0) = m ((c.tc : Thread Cert.EvenOutDw.nD Cert.EvenOutDw.τ).loc Cert.EvenOutDw.main_arg0)
      ∧ r.2.mem ((c.tc : Thread Cert.EvenOutDw.nD Cert.EvenOutDw.τ).loc Cert.EvenOutDw.main_arg1) = m ((c.tc : Thread Cert.EvenOutDw.nD Cert.EvenOutDw.τ).loc Cert.EvenOutDw.main_arg1)
      ∧ r.2.mem ((c.tc : Thread Cert.EvenOutDw.nD Cert.EvenOutDw.τ).loc Cert.EvenOutDw.main_arg2) = m ((c.tc : Thread Cert.EvenOutDw.nD Cert.EvenOutDw.τ).loc Cert.EvenOutDw.main_arg2))
      ∧ r.2.sem = fun _ => 0)

def quiescent_EvenOutDwIdeal [hEvenOutDwIdeal : Cert.EvenOutDwIdeal.Facts] : Prop :=
  ∀ (m : (ℓ : Loc Cert.EvenOutDwIdeal.nD Cert.EvenOutDwIdeal.τ Cert.EvenOutDwIdeal.sig) → Buf (Elt Ideal) ℓ) (g : Dev Cert.EvenOutDwIdeal.nD → PrngReg), Pre_EvenOutDwIdeal m →
    θ_run (Cert.EvenOutDwIdeal.defs (F := Ideal)) (onTc (τ := Cert.EvenOutDwIdeal.τ) (Cert.EvenOutDwIdeal.main (F := Ideal))) ⟨m, fun _ => 0, g⟩ (fun r => (∀ c : Dev Cert.EvenOutDwIdeal.nD,
      r.2.mem ((c.tc : Thread Cert.EvenOutDwIdeal.nD Cert.EvenOutDwIdeal.τ).loc Cert.EvenOutDwIdeal.main_arg0) = m ((c.tc : Thread Cert.EvenOutDwIdeal.nD Cert.EvenOutDwIdeal.τ).loc Cert.EvenOutDwIdeal.main_arg0)
      ∧ r.2.mem ((c.tc : Thread Cert.EvenOutDwIdeal.nD Cert.EvenOutDwIdeal.τ).loc Cert.EvenOutDwIdeal.main_arg1) = m ((c.tc : Thread Cert.EvenOutDwIdeal.nD Cert.EvenOutDwIdeal.τ).loc Cert.EvenOutDwIdeal.main_arg1)
      ∧ r.2.mem ((c.tc : Thread Cert.EvenOutDwIdeal.nD Cert.EvenOutDwIdeal.τ).loc Cert.EvenOutDwIdeal.main_arg2) = m ((c.tc : Thread Cert.EvenOutDwIdeal.nD Cert.EvenOutDwIdeal.τ).loc Cert.EvenOutDwIdeal.main_arg2))
      ∧ r.2.sem = fun _ => 0)

def quiescent_EvenOutDwPlainIdeal [hEvenOutDwPlainIdeal : Cert.EvenOutDwPlainIdeal.Facts] : Prop :=
  ∀ (m : (ℓ : Loc Cert.EvenOutDwPlainIdeal.nD Cert.EvenOutDwPlainIdeal.τ Cert.EvenOutDwPlainIdeal.sig) → Buf (Elt Ideal) ℓ) (g : Dev Cert.EvenOutDwPlainIdeal.nD → PrngReg), Pre_EvenOutDwPlainIdeal m →
    θ_run (Cert.EvenOutDwPlainIdeal.defs (F := Ideal)) (onTc (τ := Cert.EvenOutDwPlainIdeal.τ) (Cert.EvenOutDwPlainIdeal.main (F := Ideal))) ⟨m, fun _ => 0, g⟩ (fun r => (∀ c : Dev Cert.EvenOutDwPlainIdeal.nD,
      r.2.mem ((c.tc : Thread Cert.EvenOutDwPlainIdeal.nD Cert.EvenOutDwPlainIdeal.τ).loc Cert.EvenOutDwPlainIdeal.main_arg0) = m ((c.tc : Thread Cert.EvenOutDwPlainIdeal.nD Cert.EvenOutDwPlainIdeal.τ).loc Cert.EvenOutDwPlainIdeal.main_arg0)
      ∧ r.2.mem ((c.tc : Thread Cert.EvenOutDwPlainIdeal.nD Cert.EvenOutDwPlainIdeal.τ).loc Cert.EvenOutDwPlainIdeal.main_arg1) = m ((c.tc : Thread Cert.EvenOutDwPlainIdeal.nD Cert.EvenOutDwPlainIdeal.τ).loc Cert.EvenOutDwPlainIdeal.main_arg1)
      ∧ r.2.mem ((c.tc : Thread Cert.EvenOutDwPlainIdeal.nD Cert.EvenOutDwPlainIdeal.τ).loc Cert.EvenOutDwPlainIdeal.main_arg2) = m ((c.tc : Thread Cert.EvenOutDwPlainIdeal.nD Cert.EvenOutDwPlainIdeal.τ).loc Cert.EvenOutDwPlainIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInPlainIdeal [hOddInPlainIdeal : Cert.OddInPlainIdeal.Facts] : Prop :=
  ∀ (m : (ℓ : Loc Cert.OddInPlainIdeal.nD Cert.OddInPlainIdeal.τ Cert.OddInPlainIdeal.sig) → Buf (Elt Ideal) ℓ) (g : Dev Cert.OddInPlainIdeal.nD → PrngReg), Pre_OddInPlainIdeal m →
    θ_run (Cert.OddInPlainIdeal.defs (F := Ideal)) (onTc (τ := Cert.OddInPlainIdeal.τ) (Cert.OddInPlainIdeal.main (F := Ideal))) ⟨m, fun _ => 0, g⟩ (fun r => (∀ c : Dev Cert.OddInPlainIdeal.nD,
      r.2.mem ((c.tc : Thread Cert.OddInPlainIdeal.nD Cert.OddInPlainIdeal.τ).loc Cert.OddInPlainIdeal.main_arg0) = m ((c.tc : Thread Cert.OddInPlainIdeal.nD Cert.OddInPlainIdeal.τ).loc Cert.OddInPlainIdeal.main_arg0)
      ∧ r.2.mem ((c.tc : Thread Cert.OddInPlainIdeal.nD Cert.OddInPlainIdeal.τ).loc Cert.OddInPlainIdeal.main_arg1) = m ((c.tc : Thread Cert.OddInPlainIdeal.nD Cert.OddInPlainIdeal.τ).loc Cert.OddInPlainIdeal.main_arg1))
      ∧ r.2.sem = fun _ => 0)

def quiescent_OddInDx [hOddInDx : Cert.OddInDx.Facts] : Prop :=
  ∀ (m : (ℓ : Loc Cert.OddInDx.nD Cert.OddInDx.τ Cert.OddInDx.sig) → Buf (Elt Bits) ℓ) (g : Dev Cert.OddInDx.nD → PrngReg), Pre_OddInDx m →
    θ_run (Cert.OddInDx.defs (F := Bits)) (onTc (τ := Cert.OddInDx.τ) (Cert.OddInDx.main (F := Bits))) ⟨m, fun _ => 0, g⟩ (fun r => (∀ c : Dev Cert.OddInDx.nD,
      r.2.mem ((c.tc : Thread Cert.OddInDx.nD Cert.OddInDx.τ).loc Cert.OddInDx.main_arg0) = m ((c.tc : Thread Cert.OddInDx.nD Cert.OddInDx.τ).loc Cert.OddInDx.main_arg0)
      ∧ r.2.mem ((c.tc : Thread Cert.OddInDx.nD Cert.OddInDx.τ).loc Cert.OddInDx.main_arg1) = m ((c.tc : Thread Cert.OddInDx.nD Cert.OddInDx.τ).loc Cert.OddInDx.main_arg1)
      ∧ r.2.mem ((c.tc : Thread Cert.OddInDx.nD Cert.OddInDx.τ).loc Cert.OddInDx.main_arg2) = m ((c.tc : Thread Cert.OddInDx.nD Cert.OddInDx.τ).loc Cert.OddInDx.main_arg2))
      ∧ r.2.sem = fun _ => 0)

def quiescent_OddInDxIdeal [hOddInDxIdeal : Cert.OddInDxIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg), Pre_OddInDxIdeal m →
    θ_run (Cert.OddInDxIdeal.defs (F := Ideal)) (onTc (τ := Cert.OddInDxIdeal.τ) (Cert.OddInDxIdeal.main (F := Ideal))) ⟨m, fun _ => 0, g⟩ (fun r => (∀ c : Dev Cert.OddInDxIdeal.nD,
      r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
      ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1)
      ∧ r.2.mem ((c.tc : Thread Cert.OddInDxIdeal.nD Cert.OddInDxIdeal.τ).loc Cert.OddInDxIdeal.main_arg2) = m ((c.tc : Thread Cert.OddInDxIdeal.nD Cert.OddInDxIdeal.τ).loc Cert.OddInDxIdeal.main_arg2))
      ∧ r.2.sem = fun _ => 0)

def quiescent_OddInDxPlainIdeal [hOddInDxPlainIdeal : Cert.OddInDxPlainIdeal.Facts] : Prop :=
  ∀ (m : (ℓ : Loc Cert.OddInDxPlainIdeal.nD Cert.OddInDxPlainIdeal.τ Cert.OddInDxPlainIdeal.sig) → Buf (Elt Ideal) ℓ) (g : Dev Cert.OddInDxPlainIdeal.nD → PrngReg), Pre_OddInDxPlainIdeal m →
    θ_run (Cert.OddInDxPlainIdeal.defs (F := Ideal)) (onTc (τ := Cert.OddInDxPlainIdeal.τ) (Cert.OddInDxPlainIdeal.main (F := Ideal))) ⟨m, fun _ => 0, g⟩ (fun r => (∀ c : Dev Cert.OddInDxPlainIdeal.nD,
      r.2.mem ((c.tc : Thread Cert.OddInDxPlainIdeal.nD Cert.OddInDxPlainIdeal.τ).loc Cert.OddInDxPlainIdeal.main_arg0) = m ((c.tc : Thread Cert.OddInDxPlainIdeal.nD Cert.OddInDxPlainIdeal.τ).loc Cert.OddInDxPlainIdeal.main_arg0)
      ∧ r.2.mem ((c.tc : Thread Cert.OddInDxPlainIdeal.nD Cert.OddInDxPlainIdeal.τ).loc Cert.OddInDxPlainIdeal.main_arg1) = m ((c.tc : Thread Cert.OddInDxPlainIdeal.nD Cert.OddInDxPlainIdeal.τ).loc Cert.OddInDxPlainIdeal.main_arg1)
      ∧ r.2.mem ((c.tc : Thread Cert.OddInDxPlainIdeal.nD Cert.OddInDxPlainIdeal.τ).loc Cert.OddInDxPlainIdeal.main_arg2) = m ((c.tc : Thread Cert.OddInDxPlainIdeal.nD Cert.OddInDxPlainIdeal.τ).loc Cert.OddInDxPlainIdeal.main_arg2))
      ∧ r.2.sem = fun _ => 0)

def quiescent_OddInDw [hOddInDw : Cert.OddInDw.Facts] : Prop :=
  ∀ (m : (ℓ : Loc Cert.OddInDw.nD Cert.OddInDw.τ Cert.OddInDw.sig) → Buf (Elt Bits) ℓ) (g : Dev Cert.OddInDw.nD → PrngReg), Pre_OddInDw m →
    θ_run (Cert.OddInDw.defs (F := Bits)) (onTc (τ := Cert.OddInDw.τ) (Cert.OddInDw.main (F := Bits))) ⟨m, fun _ => 0, g⟩ (fun r => (∀ c : Dev Cert.OddInDw.nD,
      r.2.mem ((c.tc : Thread Cert.OddInDw.nD Cert.OddInDw.τ).loc Cert.OddInDw.main_arg0) = m ((c.tc : Thread Cert.OddInDw.nD Cert.OddInDw.τ).loc Cert.OddInDw.main_arg0)
      ∧ r.2.mem ((c.tc : Thread Cert.OddInDw.nD Cert.OddInDw.τ).loc Cert.OddInDw.main_arg1) = m ((c.tc : Thread Cert.OddInDw.nD Cert.OddInDw.τ).loc Cert.OddInDw.main_arg1)
      ∧ r.2.mem ((c.tc : Thread Cert.OddInDw.nD Cert.OddInDw.τ).loc Cert.OddInDw.main_arg2) = m ((c.tc : Thread Cert.OddInDw.nD Cert.OddInDw.τ).loc Cert.OddInDw.main_arg2))
      ∧ r.2.sem = fun _ => 0)

def quiescent_OddInDwIdeal [hOddInDwIdeal : Cert.OddInDwIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg), Pre_OddInDwIdeal m →
    θ_run (Cert.OddInDwIdeal.defs (F := Ideal)) (onTc (τ := Cert.OddInDwIdeal.τ) (Cert.OddInDwIdeal.main (F := Ideal))) ⟨m, fun _ => 0, g⟩ (fun r => (∀ c : Dev Cert.OddInDwIdeal.nD,
      r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
      ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1)
      ∧ r.2.mem ((c.tc : Thread Cert.OddInDwIdeal.nD Cert.OddInDwIdeal.τ).loc Cert.OddInDwIdeal.main_arg2) = m ((c.tc : Thread Cert.OddInDwIdeal.nD Cert.OddInDwIdeal.τ).loc Cert.OddInDwIdeal.main_arg2))
      ∧ r.2.sem = fun _ => 0)

def quiescent_OddInDwPlainIdeal [hOddInDwPlainIdeal : Cert.OddInDwPlainIdeal.Facts] : Prop :=
  ∀ (m : (ℓ : Loc Cert.OddInDwPlainIdeal.nD Cert.OddInDwPlainIdeal.τ Cert.OddInDwPlainIdeal.sig) → Buf (Elt Ideal) ℓ) (g : Dev Cert.OddInDwPlainIdeal.nD → PrngReg), Pre_OddInDwPlainIdeal m →
    θ_run (Cert.OddInDwPlainIdeal.defs (F := Ideal)) (onTc (τ := Cert.OddInDwPlainIdeal.τ) (Cert.OddInDwPlainIdeal.main (F := Ideal))) ⟨m, fun _ => 0, g⟩ (fun r => (∀ c : Dev Cert.OddInDwPlainIdeal.nD,
      r.2.mem ((c.tc : Thread Cert.OddInDwPlainIdeal.nD Cert.OddInDwPlainIdeal.τ).loc Cert.OddInDwPlainIdeal.main_arg0) = m ((c.tc : Thread Cert.OddInDwPlainIdeal.nD Cert.OddInDwPlainIdeal.τ).loc Cert.OddInDwPlainIdeal.main_arg0)
      ∧ r.2.mem ((c.tc : Thread Cert.OddInDwPlainIdeal.nD Cert.OddInDwPlainIdeal.τ).loc Cert.OddInDwPlainIdeal.main_arg1) = m ((c.tc : Thread Cert.OddInDwPlainIdeal.nD Cert.OddInDwPlainIdeal.τ).loc Cert.OddInDwPlainIdeal.main_arg1)
      ∧ r.2.mem ((c.tc : Thread Cert.OddInDwPlainIdeal.nD Cert.OddInDwPlainIdeal.τ).loc Cert.OddInDwPlainIdeal.main_arg2) = m ((c.tc : Thread Cert.OddInDwPlainIdeal.nD Cert.OddInDwPlainIdeal.τ).loc Cert.OddInDwPlainIdeal.main_arg2))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutPlainIdeal [hOddOutPlainIdeal : Cert.OddOutPlainIdeal.Facts] : Prop :=
  ∀ (m : (ℓ : Loc Cert.OddOutPlainIdeal.nD Cert.OddOutPlainIdeal.τ Cert.OddOutPlainIdeal.sig) → Buf (Elt Ideal) ℓ) (g : Dev Cert.OddOutPlainIdeal.nD → PrngReg), Pre_OddOutPlainIdeal m →
    θ_run (Cert.OddOutPlainIdeal.defs (F := Ideal)) (onTc (τ := Cert.OddOutPlainIdeal.τ) (Cert.OddOutPlainIdeal.main (F := Ideal))) ⟨m, fun _ => 0, g⟩ (fun r => (∀ c : Dev Cert.OddOutPlainIdeal.nD,
      r.2.mem ((c.tc : Thread Cert.OddOutPlainIdeal.nD Cert.OddOutPlainIdeal.τ).loc Cert.OddOutPlainIdeal.main_arg0) = m ((c.tc : Thread Cert.OddOutPlainIdeal.nD Cert.OddOutPlainIdeal.τ).loc Cert.OddOutPlainIdeal.main_arg0)
      ∧ r.2.mem ((c.tc : Thread Cert.OddOutPlainIdeal.nD Cert.OddOutPlainIdeal.τ).loc Cert.OddOutPlainIdeal.main_arg1) = m ((c.tc : Thread Cert.OddOutPlainIdeal.nD Cert.OddOutPlainIdeal.τ).loc Cert.OddOutPlainIdeal.main_arg1)
      ∧ r.2.mem ((c.tc : Thread Cert.OddOutPlainIdeal.nD Cert.OddOutPlainIdeal.τ).loc Cert.OddOutPlainIdeal.main_arg2) = m ((c.tc : Thread Cert.OddOutPlainIdeal.nD Cert.OddOutPlainIdeal.τ).loc Cert.OddOutPlainIdeal.main_arg2))
      ∧ r.2.sem = fun _ => 0)

def quiescent_OddOutDx [hOddOutDx : Cert.OddOutDx.Facts] : Prop :=
  ∀ (m : (ℓ : Loc Cert.OddOutDx.nD Cert.OddOutDx.τ Cert.OddOutDx.sig) → Buf (Elt Bits) ℓ) (g : Dev Cert.OddOutDx.nD → PrngReg), Pre_OddOutDx m →
    θ_run (Cert.OddOutDx.defs (F := Bits)) (onTc (τ := Cert.OddOutDx.τ) (Cert.OddOutDx.main (F := Bits))) ⟨m, fun _ => 0, g⟩ (fun r => (∀ c : Dev Cert.OddOutDx.nD,
      r.2.mem ((c.tc : Thread Cert.OddOutDx.nD Cert.OddOutDx.τ).loc Cert.OddOutDx.main_arg0) = m ((c.tc : Thread Cert.OddOutDx.nD Cert.OddOutDx.τ).loc Cert.OddOutDx.main_arg0)
      ∧ r.2.mem ((c.tc : Thread Cert.OddOutDx.nD Cert.OddOutDx.τ).loc Cert.OddOutDx.main_arg1) = m ((c.tc : Thread Cert.OddOutDx.nD Cert.OddOutDx.τ).loc Cert.OddOutDx.main_arg1)
      ∧ r.2.mem ((c.tc : Thread Cert.OddOutDx.nD Cert.OddOutDx.τ).loc Cert.OddOutDx.main_arg2) = m ((c.tc : Thread Cert.OddOutDx.nD Cert.OddOutDx.τ).loc Cert.OddOutDx.main_arg2))
      ∧ r.2.sem = fun _ => 0)

def quiescent_OddOutDxIdeal [hOddOutDxIdeal : Cert.OddOutDxIdeal.Facts] : Prop :=
  ∀ (m : (ℓ : Loc Cert.OddOutDxIdeal.nD Cert.OddOutDxIdeal.τ Cert.OddOutDxIdeal.sig) → Buf (Elt Ideal) ℓ) (g : Dev Cert.OddOutDxIdeal.nD → PrngReg), Pre_OddOutDxIdeal m →
    θ_run (Cert.OddOutDxIdeal.defs (F := Ideal)) (onTc (τ := Cert.OddOutDxIdeal.τ) (Cert.OddOutDxIdeal.main (F := Ideal))) ⟨m, fun _ => 0, g⟩ (fun r => (∀ c : Dev Cert.OddOutDxIdeal.nD,
      r.2.mem ((c.tc : Thread Cert.OddOutDxIdeal.nD Cert.OddOutDxIdeal.τ).loc Cert.OddOutDxIdeal.main_arg0) = m ((c.tc : Thread Cert.OddOutDxIdeal.nD Cert.OddOutDxIdeal.τ).loc Cert.OddOutDxIdeal.main_arg0)
      ∧ r.2.mem ((c.tc : Thread Cert.OddOutDxIdeal.nD Cert.OddOutDxIdeal.τ).loc Cert.OddOutDxIdeal.main_arg1) = m ((c.tc : Thread Cert.OddOutDxIdeal.nD Cert.OddOutDxIdeal.τ).loc Cert.OddOutDxIdeal.main_arg1)
      ∧ r.2.mem ((c.tc : Thread Cert.OddOutDxIdeal.nD Cert.OddOutDxIdeal.τ).loc Cert.OddOutDxIdeal.main_arg2) = m ((c.tc : Thread Cert.OddOutDxIdeal.nD Cert.OddOutDxIdeal.τ).loc Cert.OddOutDxIdeal.main_arg2))
      ∧ r.2.sem = fun _ => 0)

def quiescent_OddOutDxPlainIdeal [hOddOutDxPlainIdeal : Cert.OddOutDxPlainIdeal.Facts] : Prop :=
  ∀ (m : (ℓ : Loc Cert.OddOutDxPlainIdeal.nD Cert.OddOutDxPlainIdeal.τ Cert.OddOutDxPlainIdeal.sig) → Buf (Elt Ideal) ℓ) (g : Dev Cert.OddOutDxPlainIdeal.nD → PrngReg), Pre_OddOutDxPlainIdeal m →
    θ_run (Cert.OddOutDxPlainIdeal.defs (F := Ideal)) (onTc (τ := Cert.OddOutDxPlainIdeal.τ) (Cert.OddOutDxPlainIdeal.main (F := Ideal))) ⟨m, fun _ => 0, g⟩ (fun r => (∀ c : Dev Cert.OddOutDxPlainIdeal.nD,
      r.2.mem ((c.tc : Thread Cert.OddOutDxPlainIdeal.nD Cert.OddOutDxPlainIdeal.τ).loc Cert.OddOutDxPlainIdeal.main_arg0) = m ((c.tc : Thread Cert.OddOutDxPlainIdeal.nD Cert.OddOutDxPlainIdeal.τ).loc Cert.OddOutDxPlainIdeal.main_arg0)
      ∧ r.2.mem ((c.tc : Thread Cert.OddOutDxPlainIdeal.nD Cert.OddOutDxPlainIdeal.τ).loc Cert.OddOutDxPlainIdeal.main_arg1) = m ((c.tc : Thread Cert.OddOutDxPlainIdeal.nD Cert.OddOutDxPlainIdeal.τ).loc Cert.OddOutDxPlainIdeal.main_arg1)
      ∧ r.2.mem ((c.tc : Thread Cert.OddOutDxPlainIdeal.nD Cert.OddOutDxPlainIdeal.τ).loc Cert.OddOutDxPlainIdeal.main_arg2) = m ((c.tc : Thread Cert.OddOutDxPlainIdeal.nD Cert.OddOutDxPlainIdeal.τ).loc Cert.OddOutDxPlainIdeal.main_arg2))
      ∧ r.2.sem = fun _ => 0)

def quiescent_OddOutDw [hOddOutDw : Cert.OddOutDw.Facts] : Prop :=
  ∀ (m : (ℓ : Loc Cert.OddOutDw.nD Cert.OddOutDw.τ Cert.OddOutDw.sig) → Buf (Elt Bits) ℓ) (g : Dev Cert.OddOutDw.nD → PrngReg), Pre_OddOutDw m →
    θ_run (Cert.OddOutDw.defs (F := Bits)) (onTc (τ := Cert.OddOutDw.τ) (Cert.OddOutDw.main (F := Bits))) ⟨m, fun _ => 0, g⟩ (fun r => (∀ c : Dev Cert.OddOutDw.nD,
      r.2.mem ((c.tc : Thread Cert.OddOutDw.nD Cert.OddOutDw.τ).loc Cert.OddOutDw.main_arg0) = m ((c.tc : Thread Cert.OddOutDw.nD Cert.OddOutDw.τ).loc Cert.OddOutDw.main_arg0)
      ∧ r.2.mem ((c.tc : Thread Cert.OddOutDw.nD Cert.OddOutDw.τ).loc Cert.OddOutDw.main_arg1) = m ((c.tc : Thread Cert.OddOutDw.nD Cert.OddOutDw.τ).loc Cert.OddOutDw.main_arg1)
      ∧ r.2.mem ((c.tc : Thread Cert.OddOutDw.nD Cert.OddOutDw.τ).loc Cert.OddOutDw.main_arg2) = m ((c.tc : Thread Cert.OddOutDw.nD Cert.OddOutDw.τ).loc Cert.OddOutDw.main_arg2))
      ∧ r.2.sem = fun _ => 0)

def quiescent_OddOutDwIdeal [hOddOutDwIdeal : Cert.OddOutDwIdeal.Facts] : Prop :=
  ∀ (m : (ℓ : Loc Cert.OddOutDwIdeal.nD Cert.OddOutDwIdeal.τ Cert.OddOutDwIdeal.sig) → Buf (Elt Ideal) ℓ) (g : Dev Cert.OddOutDwIdeal.nD → PrngReg), Pre_OddOutDwIdeal m →
    θ_run (Cert.OddOutDwIdeal.defs (F := Ideal)) (onTc (τ := Cert.OddOutDwIdeal.τ) (Cert.OddOutDwIdeal.main (F := Ideal))) ⟨m, fun _ => 0, g⟩ (fun r => (∀ c : Dev Cert.OddOutDwIdeal.nD,
      r.2.mem ((c.tc : Thread Cert.OddOutDwIdeal.nD Cert.OddOutDwIdeal.τ).loc Cert.OddOutDwIdeal.main_arg0) = m ((c.tc : Thread Cert.OddOutDwIdeal.nD Cert.OddOutDwIdeal.τ).loc Cert.OddOutDwIdeal.main_arg0)
      ∧ r.2.mem ((c.tc : Thread Cert.OddOutDwIdeal.nD Cert.OddOutDwIdeal.τ).loc Cert.OddOutDwIdeal.main_arg1) = m ((c.tc : Thread Cert.OddOutDwIdeal.nD Cert.OddOutDwIdeal.τ).loc Cert.OddOutDwIdeal.main_arg1)
      ∧ r.2.mem ((c.tc : Thread Cert.OddOutDwIdeal.nD Cert.OddOutDwIdeal.τ).loc Cert.OddOutDwIdeal.main_arg2) = m ((c.tc : Thread Cert.OddOutDwIdeal.nD Cert.OddOutDwIdeal.τ).loc Cert.OddOutDwIdeal.main_arg2))
      ∧ r.2.sem = fun _ => 0)

def quiescent_OddOutDwPlainIdeal [hOddOutDwPlainIdeal : Cert.OddOutDwPlainIdeal.Facts] : Prop :=
  ∀ (m : (ℓ : Loc Cert.OddOutDwPlainIdeal.nD Cert.OddOutDwPlainIdeal.τ Cert.OddOutDwPlainIdeal.sig) → Buf (Elt Ideal) ℓ) (g : Dev Cert.OddOutDwPlainIdeal.nD → PrngReg), Pre_OddOutDwPlainIdeal m →
    θ_run (Cert.OddOutDwPlainIdeal.defs (F := Ideal)) (onTc (τ := Cert.OddOutDwPlainIdeal.τ) (Cert.OddOutDwPlainIdeal.main (F := Ideal))) ⟨m, fun _ => 0, g⟩ (fun r => (∀ c : Dev Cert.OddOutDwPlainIdeal.nD,
      r.2.mem ((c.tc : Thread Cert.OddOutDwPlainIdeal.nD Cert.OddOutDwPlainIdeal.τ).loc Cert.OddOutDwPlainIdeal.main_arg0) = m ((c.tc : Thread Cert.OddOutDwPlainIdeal.nD Cert.OddOutDwPlainIdeal.τ).loc Cert.OddOutDwPlainIdeal.main_arg0)
      ∧ r.2.mem ((c.tc : Thread Cert.OddOutDwPlainIdeal.nD Cert.OddOutDwPlainIdeal.τ).loc Cert.OddOutDwPlainIdeal.main_arg1) = m ((c.tc : Thread Cert.OddOutDwPlainIdeal.nD Cert.OddOutDwPlainIdeal.τ).loc Cert.OddOutDwPlainIdeal.main_arg1)
      ∧ r.2.mem ((c.tc : Thread Cert.OddOutDwPlainIdeal.nD Cert.OddOutDwPlainIdeal.τ).loc Cert.OddOutDwPlainIdeal.main_arg2) = m ((c.tc : Thread Cert.OddOutDwPlainIdeal.nD Cert.OddOutDwPlainIdeal.τ).loc Cert.OddOutDwPlainIdeal.main_arg2))
      ∧ r.2.sem = fun _ => 0)

def quiescent_AdamNorms [hAdamNorms : Cert.AdamNorms.Facts] : Prop :=
  ∀ (m : (ℓ : Loc Cert.AdamNorms.nD Cert.AdamNorms.τ Cert.AdamNorms.sig) → Buf (Elt Bits) ℓ) (g : Dev Cert.AdamNorms.nD → PrngReg), Pre_AdamNorms m →
    θ_run (Cert.AdamNorms.defs (F := Bits)) (onTc (τ := Cert.AdamNorms.τ) (Cert.AdamNorms.main (F := Bits))) ⟨m, fun _ => 0, g⟩ (fun r => (∀ c : Dev Cert.AdamNorms.nD,
      r.2.mem ((c.tc : Thread Cert.AdamNorms.nD Cert.AdamNorms.τ).loc Cert.AdamNorms.main_arg0) = m ((c.tc : Thread Cert.AdamNorms.nD Cert.AdamNorms.τ).loc Cert.AdamNorms.main_arg0)
      ∧ r.2.mem ((c.tc : Thread Cert.AdamNorms.nD Cert.AdamNorms.τ).loc Cert.AdamNorms.main_arg1) = m ((c.tc : Thread Cert.AdamNorms.nD Cert.AdamNorms.τ).loc Cert.AdamNorms.main_arg1)
      ∧ r.2.mem ((c.tc : Thread Cert.AdamNorms.nD Cert.AdamNorms.τ).loc Cert.AdamNorms.main_arg2) = m ((c.tc : Thread Cert.AdamNorms.nD Cert.AdamNorms.τ).loc Cert.AdamNorms.main_arg2)
      ∧ r.2.mem ((c.tc : Thread Cert.AdamNorms.nD Cert.AdamNorms.τ).loc Cert.AdamNorms.main_arg3) = m ((c.tc : Thread Cert.AdamNorms.nD Cert.AdamNorms.τ).loc Cert.AdamNorms.main_arg3))
      ∧ r.2.sem = fun _ => 0)

def quiescent_AdamNormsIdeal [hAdamNormsIdeal : Cert.AdamNormsIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg), Pre_AdamNormsIdeal m →
    θ_run (Cert.AdamNormsIdeal.defs (F := Ideal)) (onTc (τ := Cert.AdamNormsIdeal.τ) (Cert.AdamNormsIdeal.main (F := Ideal))) ⟨m, fun _ => 0, g⟩ (fun r => (∀ c : Dev Cert.AdamNormsIdeal.nD,
      r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
      ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
      ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
      ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ r.2.sem = fun _ => 0)

def quiescent_AdamNormsPlainIdeal [hAdamNormsPlainIdeal : Cert.AdamNormsPlainIdeal.Facts] : Prop :=
  ∀ (m : (ℓ : Loc Cert.AdamNormsPlainIdeal.nD Cert.AdamNormsPlainIdeal.τ Cert.AdamNormsPlainIdeal.sig) → Buf (Elt Ideal) ℓ) (g : Dev Cert.AdamNormsPlainIdeal.nD → PrngReg), Pre_AdamNormsPlainIdeal m →
    θ_run (Cert.AdamNormsPlainIdeal.defs (F := Ideal)) (onTc (τ := Cert.AdamNormsPlainIdeal.τ) (Cert.AdamNormsPlainIdeal.main (F := Ideal))) ⟨m, fun _ => 0, g⟩ (fun r => (∀ c : Dev Cert.AdamNormsPlainIdeal.nD,
      r.2.mem ((c.tc : Thread Cert.AdamNormsPlainIdeal.nD Cert.AdamNormsPlainIdeal.τ).loc Cert.AdamNormsPlainIdeal.main_arg0) = m ((c.tc : Thread Cert.AdamNormsPlainIdeal.nD Cert.AdamNormsPlainIdeal.τ).loc Cert.AdamNormsPlainIdeal.main_arg0)
      ∧ r.2.mem ((c.tc : Thread Cert.AdamNormsPlainIdeal.nD Cert.AdamNormsPlainIdeal.τ).loc Cert.AdamNormsPlainIdeal.main_arg1) = m ((c.tc : Thread Cert.AdamNormsPlainIdeal.nD Cert.AdamNormsPlainIdeal.τ).loc Cert.AdamNormsPlainIdeal.main_arg1)
      ∧ r.2.mem ((c.tc : Thread Cert.AdamNormsPlainIdeal.nD Cert.AdamNormsPlainIdeal.τ).loc Cert.AdamNormsPlainIdeal.main_arg2) = m ((c.tc : Thread Cert.AdamNormsPlainIdeal.nD Cert.AdamNormsPlainIdeal.τ).loc Cert.AdamNormsPlainIdeal.main_arg2)
      ∧ r.2.mem ((c.tc : Thread Cert.AdamNormsPlainIdeal.nD Cert.AdamNormsPlainIdeal.τ).loc Cert.AdamNormsPlainIdeal.main_arg3) = m ((c.tc : Thread Cert.AdamNormsPlainIdeal.nD Cert.AdamNormsPlainIdeal.τ).loc Cert.AdamNormsPlainIdeal.main_arg3))
      ∧ r.2.sem = fun _ => 0)

def quiescent_AdamEvenIn [hAdamEvenIn : Cert.AdamEvenIn.Facts] : Prop :=
  ∀ (m : (ℓ : Loc Cert.AdamEvenIn.nD Cert.AdamEvenIn.τ Cert.AdamEvenIn.sig) → Buf (Elt Bits) ℓ) (g : Dev Cert.AdamEvenIn.nD → PrngReg), Pre_AdamEvenIn m →
    θ_run (Cert.AdamEvenIn.defs (F := Bits)) (onTc (τ := Cert.AdamEvenIn.τ) (Cert.AdamEvenIn.main (F := Bits))) ⟨m, fun _ => 0, g⟩ (fun r => (∀ c : Dev Cert.AdamEvenIn.nD,
      r.2.mem ((c.tc : Thread Cert.AdamEvenIn.nD Cert.AdamEvenIn.τ).loc Cert.AdamEvenIn.main_arg0) = m ((c.tc : Thread Cert.AdamEvenIn.nD Cert.AdamEvenIn.τ).loc Cert.AdamEvenIn.main_arg0)
      ∧ r.2.mem ((c.tc : Thread Cert.AdamEvenIn.nD Cert.AdamEvenIn.τ).loc Cert.AdamEvenIn.main_arg1) = m ((c.tc : Thread Cert.AdamEvenIn.nD Cert.AdamEvenIn.τ).loc Cert.AdamEvenIn.main_arg1)
      ∧ r.2.mem ((c.tc : Thread Cert.AdamEvenIn.nD Cert.AdamEvenIn.τ).loc Cert.AdamEvenIn.main_arg2) = m ((c.tc : Thread Cert.AdamEvenIn.nD Cert.AdamEvenIn.τ).loc Cert.AdamEvenIn.main_arg2)
      ∧ r.2.mem ((c.tc : Thread Cert.AdamEvenIn.nD Cert.AdamEvenIn.τ).loc Cert.AdamEvenIn.main_arg3) = m ((c.tc : Thread Cert.AdamEvenIn.nD Cert.AdamEvenIn.τ).loc Cert.AdamEvenIn.main_arg3))
      ∧ r.2.sem = fun _ => 0)

def quiescent_AdamEvenInIdeal [hAdamEvenInIdeal : Cert.AdamEvenInIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg), Pre_AdamEvenInIdeal m →
    θ_run (Cert.AdamEvenInIdeal.defs (F := Ideal)) (onTc (τ := Cert.AdamEvenInIdeal.τ) (Cert.AdamEvenInIdeal.main (F := Ideal))) ⟨m, fun _ => 0, g⟩ (fun r => (∀ c : Dev Cert.AdamEvenInIdeal.nD,
      r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
      ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
      ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
      ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ r.2.sem = fun _ => 0)

def quiescent_AdamEvenInPlainIdeal [hAdamEvenInPlainIdeal : Cert.AdamEvenInPlainIdeal.Facts] : Prop :=
  ∀ (m : (ℓ : Loc Cert.AdamEvenInPlainIdeal.nD Cert.AdamEvenInPlainIdeal.τ Cert.AdamEvenInPlainIdeal.sig) → Buf (Elt Ideal) ℓ) (g : Dev Cert.AdamEvenInPlainIdeal.nD → PrngReg), Pre_AdamEvenInPlainIdeal m →
    θ_run (Cert.AdamEvenInPlainIdeal.defs (F := Ideal)) (onTc (τ := Cert.AdamEvenInPlainIdeal.τ) (Cert.AdamEvenInPlainIdeal.main (F := Ideal))) ⟨m, fun _ => 0, g⟩ (fun r => (∀ c : Dev Cert.AdamEvenInPlainIdeal.nD,
      r.2.mem ((c.tc : Thread Cert.AdamEvenInPlainIdeal.nD Cert.AdamEvenInPlainIdeal.τ).loc Cert.AdamEvenInPlainIdeal.main_arg0) = m ((c.tc : Thread Cert.AdamEvenInPlainIdeal.nD Cert.AdamEvenInPlainIdeal.τ).loc Cert.AdamEvenInPlainIdeal.main_arg0)
      ∧ r.2.mem ((c.tc : Thread Cert.AdamEvenInPlainIdeal.nD Cert.AdamEvenInPlainIdeal.τ).loc Cert.AdamEvenInPlainIdeal.main_arg1) = m ((c.tc : Thread Cert.AdamEvenInPlainIdeal.nD Cert.AdamEvenInPlainIdeal.τ).loc Cert.AdamEvenInPlainIdeal.main_arg1)
      ∧ r.2.mem ((c.tc : Thread Cert.AdamEvenInPlainIdeal.nD Cert.AdamEvenInPlainIdeal.τ).loc Cert.AdamEvenInPlainIdeal.main_arg2) = m ((c.tc : Thread Cert.AdamEvenInPlainIdeal.nD Cert.AdamEvenInPlainIdeal.τ).loc Cert.AdamEvenInPlainIdeal.main_arg2)
      ∧ r.2.mem ((c.tc : Thread Cert.AdamEvenInPlainIdeal.nD Cert.AdamEvenInPlainIdeal.τ).loc Cert.AdamEvenInPlainIdeal.main_arg3) = m ((c.tc : Thread Cert.AdamEvenInPlainIdeal.nD Cert.AdamEvenInPlainIdeal.τ).loc Cert.AdamEvenInPlainIdeal.main_arg3))
      ∧ r.2.sem = fun _ => 0)

def quiescent_AdamEvenConv [hAdamEvenConv : Cert.AdamEvenConv.Facts] : Prop :=
  ∀ (m : (ℓ : Loc Cert.AdamEvenConv.nD Cert.AdamEvenConv.τ Cert.AdamEvenConv.sig) → Buf (Elt Bits) ℓ) (g : Dev Cert.AdamEvenConv.nD → PrngReg), Pre_AdamEvenConv m →
    θ_run (Cert.AdamEvenConv.defs (F := Bits)) (onTc (τ := Cert.AdamEvenConv.τ) (Cert.AdamEvenConv.main (F := Bits))) ⟨m, fun _ => 0, g⟩ (fun r => (∀ c : Dev Cert.AdamEvenConv.nD,
      r.2.mem ((c.tc : Thread Cert.AdamEvenConv.nD Cert.AdamEvenConv.τ).loc Cert.AdamEvenConv.main_arg0) = m ((c.tc : Thread Cert.AdamEvenConv.nD Cert.AdamEvenConv.τ).loc Cert.AdamEvenConv.main_arg0)
      ∧ r.2.mem ((c.tc : Thread Cert.AdamEvenConv.nD Cert.AdamEvenConv.τ).loc Cert.AdamEvenConv.main_arg1) = m ((c.tc : Thread Cert.AdamEvenConv.nD Cert.AdamEvenConv.τ).loc Cert.AdamEvenConv.main_arg1)
      ∧ r.2.mem ((c.tc : Thread Cert.AdamEvenConv.nD Cert.AdamEvenConv.τ).loc Cert.AdamEvenConv.main_arg2) = m ((c.tc : Thread Cert.AdamEvenConv.nD Cert.AdamEvenConv.τ).loc Cert.AdamEvenConv.main_arg2)
      ∧ r.2.mem ((c.tc : Thread Cert.AdamEvenConv.nD Cert.AdamEvenConv.τ).loc Cert.AdamEvenConv.main_arg3) = m ((c.tc : Thread Cert.AdamEvenConv.nD Cert.AdamEvenConv.τ).loc Cert.AdamEvenConv.main_arg3))
      ∧ r.2.sem = fun _ => 0)

def quiescent_AdamEvenConvIdeal [hAdamEvenConvIdeal : Cert.AdamEvenConvIdeal.Facts] : Prop :=
  ∀ (m : (ℓ : Loc Cert.AdamEvenConvIdeal.nD Cert.AdamEvenConvIdeal.τ Cert.AdamEvenConvIdeal.sig) → Buf (Elt Ideal) ℓ) (g : Dev Cert.AdamEvenConvIdeal.nD → PrngReg), Pre_AdamEvenConvIdeal m →
    θ_run (Cert.AdamEvenConvIdeal.defs (F := Ideal)) (onTc (τ := Cert.AdamEvenConvIdeal.τ) (Cert.AdamEvenConvIdeal.main (F := Ideal))) ⟨m, fun _ => 0, g⟩ (fun r => (∀ c : Dev Cert.AdamEvenConvIdeal.nD,
      r.2.mem ((c.tc : Thread Cert.AdamEvenConvIdeal.nD Cert.AdamEvenConvIdeal.τ).loc Cert.AdamEvenConvIdeal.main_arg0) = m ((c.tc : Thread Cert.AdamEvenConvIdeal.nD Cert.AdamEvenConvIdeal.τ).loc Cert.AdamEvenConvIdeal.main_arg0)
      ∧ r.2.mem ((c.tc : Thread Cert.AdamEvenConvIdeal.nD Cert.AdamEvenConvIdeal.τ).loc Cert.AdamEvenConvIdeal.main_arg1) = m ((c.tc : Thread Cert.AdamEvenConvIdeal.nD Cert.AdamEvenConvIdeal.τ).loc Cert.AdamEvenConvIdeal.main_arg1)
      ∧ r.2.mem ((c.tc : Thread Cert.AdamEvenConvIdeal.nD Cert.AdamEvenConvIdeal.τ).loc Cert.AdamEvenConvIdeal.main_arg2) = m ((c.tc : Thread Cert.AdamEvenConvIdeal.nD Cert.AdamEvenConvIdeal.τ).loc Cert.AdamEvenConvIdeal.main_arg2)
      ∧ r.2.mem ((c.tc : Thread Cert.AdamEvenConvIdeal.nD Cert.AdamEvenConvIdeal.τ).loc Cert.AdamEvenConvIdeal.main_arg3) = m ((c.tc : Thread Cert.AdamEvenConvIdeal.nD Cert.AdamEvenConvIdeal.τ).loc Cert.AdamEvenConvIdeal.main_arg3))
      ∧ r.2.sem = fun _ => 0)

def quiescent_AdamEvenConvPlainIdeal [hAdamEvenConvPlainIdeal : Cert.AdamEvenConvPlainIdeal.Facts] : Prop :=
  ∀ (m : (ℓ : Loc Cert.AdamEvenConvPlainIdeal.nD Cert.AdamEvenConvPlainIdeal.τ Cert.AdamEvenConvPlainIdeal.sig) → Buf (Elt Ideal) ℓ) (g : Dev Cert.AdamEvenConvPlainIdeal.nD → PrngReg), Pre_AdamEvenConvPlainIdeal m →
    θ_run (Cert.AdamEvenConvPlainIdeal.defs (F := Ideal)) (onTc (τ := Cert.AdamEvenConvPlainIdeal.τ) (Cert.AdamEvenConvPlainIdeal.main (F := Ideal))) ⟨m, fun _ => 0, g⟩ (fun r => (∀ c : Dev Cert.AdamEvenConvPlainIdeal.nD,
      r.2.mem ((c.tc : Thread Cert.AdamEvenConvPlainIdeal.nD Cert.AdamEvenConvPlainIdeal.τ).loc Cert.AdamEvenConvPlainIdeal.main_arg0) = m ((c.tc : Thread Cert.AdamEvenConvPlainIdeal.nD Cert.AdamEvenConvPlainIdeal.τ).loc Cert.AdamEvenConvPlainIdeal.main_arg0)
      ∧ r.2.mem ((c.tc : Thread Cert.AdamEvenConvPlainIdeal.nD Cert.AdamEvenConvPlainIdeal.τ).loc Cert.AdamEvenConvPlainIdeal.main_arg1) = m ((c.tc : Thread Cert.AdamEvenConvPlainIdeal.nD Cert.AdamEvenConvPlainIdeal.τ).loc Cert.AdamEvenConvPlainIdeal.main_arg1)
      ∧ r.2.mem ((c.tc : Thread Cert.AdamEvenConvPlainIdeal.nD Cert.AdamEvenConvPlainIdeal.τ).loc Cert.AdamEvenConvPlainIdeal.main_arg2) = m ((c.tc : Thread Cert.AdamEvenConvPlainIdeal.nD Cert.AdamEvenConvPlainIdeal.τ).loc Cert.AdamEvenConvPlainIdeal.main_arg2)
      ∧ r.2.mem ((c.tc : Thread Cert.AdamEvenConvPlainIdeal.nD Cert.AdamEvenConvPlainIdeal.τ).loc Cert.AdamEvenConvPlainIdeal.main_arg3) = m ((c.tc : Thread Cert.AdamEvenConvPlainIdeal.nD Cert.AdamEvenConvPlainIdeal.τ).loc Cert.AdamEvenConvPlainIdeal.main_arg3))
      ∧ r.2.sem = fun _ => 0)

def quiescent_AdamEvenBias [hAdamEvenBias : Cert.AdamEvenBias.Facts] : Prop :=
  ∀ (m : (ℓ : Loc Cert.AdamEvenBias.nD Cert.AdamEvenBias.τ Cert.AdamEvenBias.sig) → Buf (Elt Bits) ℓ) (g : Dev Cert.AdamEvenBias.nD → PrngReg), Pre_AdamEvenBias m →
    θ_run (Cert.AdamEvenBias.defs (F := Bits)) (onTc (τ := Cert.AdamEvenBias.τ) (Cert.AdamEvenBias.main (F := Bits))) ⟨m, fun _ => 0, g⟩ (fun r => (∀ c : Dev Cert.AdamEvenBias.nD,
      r.2.mem ((c.tc : Thread Cert.AdamEvenBias.nD Cert.AdamEvenBias.τ).loc Cert.AdamEvenBias.main_arg0) = m ((c.tc : Thread Cert.AdamEvenBias.nD Cert.AdamEvenBias.τ).loc Cert.AdamEvenBias.main_arg0)
      ∧ r.2.mem ((c.tc : Thread Cert.AdamEvenBias.nD Cert.AdamEvenBias.τ).loc Cert.AdamEvenBias.main_arg1) = m ((c.tc : Thread Cert.AdamEvenBias.nD Cert.AdamEvenBias.τ).loc Cert.AdamEvenBias.main_arg1)
      ∧ r.2.mem ((c.tc : Thread Cert.AdamEvenBias.nD Cert.AdamEvenBias.τ).loc Cert.AdamEvenBias.main_arg2) = m ((c.tc : Thread Cert.AdamEvenBias.nD Cert.AdamEvenBias.τ).loc Cert.AdamEvenBias.main_arg2)
      ∧ r.2.mem ((c.tc : Thread Cert.AdamEvenBias.nD Cert.AdamEvenBias.τ).loc Cert.AdamEvenBias.main_arg3) = m ((c.tc : Thread Cert.AdamEvenBias.nD Cert.AdamEvenBias.τ).loc Cert.AdamEvenBias.main_arg3))
      ∧ r.2.sem = fun _ => 0)

def quiescent_AdamEvenBiasIdeal [hAdamEvenBiasIdeal : Cert.AdamEvenBiasIdeal.Facts] : Prop :=
  ∀ (m : (ℓ : Loc Cert.AdamEvenBiasIdeal.nD Cert.AdamEvenBiasIdeal.τ Cert.AdamEvenBiasIdeal.sig) → Buf (Elt Ideal) ℓ) (g : Dev Cert.AdamEvenBiasIdeal.nD → PrngReg), Pre_AdamEvenBiasIdeal m →
    θ_run (Cert.AdamEvenBiasIdeal.defs (F := Ideal)) (onTc (τ := Cert.AdamEvenBiasIdeal.τ) (Cert.AdamEvenBiasIdeal.main (F := Ideal))) ⟨m, fun _ => 0, g⟩ (fun r => (∀ c : Dev Cert.AdamEvenBiasIdeal.nD,
      r.2.mem ((c.tc : Thread Cert.AdamEvenBiasIdeal.nD Cert.AdamEvenBiasIdeal.τ).loc Cert.AdamEvenBiasIdeal.main_arg0) = m ((c.tc : Thread Cert.AdamEvenBiasIdeal.nD Cert.AdamEvenBiasIdeal.τ).loc Cert.AdamEvenBiasIdeal.main_arg0)
      ∧ r.2.mem ((c.tc : Thread Cert.AdamEvenBiasIdeal.nD Cert.AdamEvenBiasIdeal.τ).loc Cert.AdamEvenBiasIdeal.main_arg1) = m ((c.tc : Thread Cert.AdamEvenBiasIdeal.nD Cert.AdamEvenBiasIdeal.τ).loc Cert.AdamEvenBiasIdeal.main_arg1)
      ∧ r.2.mem ((c.tc : Thread Cert.AdamEvenBiasIdeal.nD Cert.AdamEvenBiasIdeal.τ).loc Cert.AdamEvenBiasIdeal.main_arg2) = m ((c.tc : Thread Cert.AdamEvenBiasIdeal.nD Cert.AdamEvenBiasIdeal.τ).loc Cert.AdamEvenBiasIdeal.main_arg2)
      ∧ r.2.mem ((c.tc : Thread Cert.AdamEvenBiasIdeal.nD Cert.AdamEvenBiasIdeal.τ).loc Cert.AdamEvenBiasIdeal.main_arg3) = m ((c.tc : Thread Cert.AdamEvenBiasIdeal.nD Cert.AdamEvenBiasIdeal.τ).loc Cert.AdamEvenBiasIdeal.main_arg3))
      ∧ r.2.sem = fun _ => 0)

def quiescent_AdamEvenBiasPlainIdeal [hAdamEvenBiasPlainIdeal : Cert.AdamEvenBiasPlainIdeal.Facts] : Prop :=
  ∀ (m : (ℓ : Loc Cert.AdamEvenBiasPlainIdeal.nD Cert.AdamEvenBiasPlainIdeal.τ Cert.AdamEvenBiasPlainIdeal.sig) → Buf (Elt Ideal) ℓ) (g : Dev Cert.AdamEvenBiasPlainIdeal.nD → PrngReg), Pre_AdamEvenBiasPlainIdeal m →
    θ_run (Cert.AdamEvenBiasPlainIdeal.defs (F := Ideal)) (onTc (τ := Cert.AdamEvenBiasPlainIdeal.τ) (Cert.AdamEvenBiasPlainIdeal.main (F := Ideal))) ⟨m, fun _ => 0, g⟩ (fun r => (∀ c : Dev Cert.AdamEvenBiasPlainIdeal.nD,
      r.2.mem ((c.tc : Thread Cert.AdamEvenBiasPlainIdeal.nD Cert.AdamEvenBiasPlainIdeal.τ).loc Cert.AdamEvenBiasPlainIdeal.main_arg0) = m ((c.tc : Thread Cert.AdamEvenBiasPlainIdeal.nD Cert.AdamEvenBiasPlainIdeal.τ).loc Cert.AdamEvenBiasPlainIdeal.main_arg0)
      ∧ r.2.mem ((c.tc : Thread Cert.AdamEvenBiasPlainIdeal.nD Cert.AdamEvenBiasPlainIdeal.τ).loc Cert.AdamEvenBiasPlainIdeal.main_arg1) = m ((c.tc : Thread Cert.AdamEvenBiasPlainIdeal.nD Cert.AdamEvenBiasPlainIdeal.τ).loc Cert.AdamEvenBiasPlainIdeal.main_arg1)
      ∧ r.2.mem ((c.tc : Thread Cert.AdamEvenBiasPlainIdeal.nD Cert.AdamEvenBiasPlainIdeal.τ).loc Cert.AdamEvenBiasPlainIdeal.main_arg2) = m ((c.tc : Thread Cert.AdamEvenBiasPlainIdeal.nD Cert.AdamEvenBiasPlainIdeal.τ).loc Cert.AdamEvenBiasPlainIdeal.main_arg2)
      ∧ r.2.mem ((c.tc : Thread Cert.AdamEvenBiasPlainIdeal.nD Cert.AdamEvenBiasPlainIdeal.τ).loc Cert.AdamEvenBiasPlainIdeal.main_arg3) = m ((c.tc : Thread Cert.AdamEvenBiasPlainIdeal.nD Cert.AdamEvenBiasPlainIdeal.τ).loc Cert.AdamEvenBiasPlainIdeal.main_arg3))
      ∧ r.2.sem = fun _ => 0)

def quiescent_AdamEvenHeads [hAdamEvenHeads : Cert.AdamEvenHeads.Facts] : Prop :=
  ∀ (m : (ℓ : Loc Cert.AdamEvenHeads.nD Cert.AdamEvenHeads.τ Cert.AdamEvenHeads.sig) → Buf (Elt Bits) ℓ) (g : Dev Cert.AdamEvenHeads.nD → PrngReg), Pre_AdamEvenHeads m →
    θ_run (Cert.AdamEvenHeads.defs (F := Bits)) (onTc (τ := Cert.AdamEvenHeads.τ) (Cert.AdamEvenHeads.main (F := Bits))) ⟨m, fun _ => 0, g⟩ (fun r => (∀ c : Dev Cert.AdamEvenHeads.nD,
      r.2.mem ((c.tc : Thread Cert.AdamEvenHeads.nD Cert.AdamEvenHeads.τ).loc Cert.AdamEvenHeads.main_arg0) = m ((c.tc : Thread Cert.AdamEvenHeads.nD Cert.AdamEvenHeads.τ).loc Cert.AdamEvenHeads.main_arg0)
      ∧ r.2.mem ((c.tc : Thread Cert.AdamEvenHeads.nD Cert.AdamEvenHeads.τ).loc Cert.AdamEvenHeads.main_arg1) = m ((c.tc : Thread Cert.AdamEvenHeads.nD Cert.AdamEvenHeads.τ).loc Cert.AdamEvenHeads.main_arg1)
      ∧ r.2.mem ((c.tc : Thread Cert.AdamEvenHeads.nD Cert.AdamEvenHeads.τ).loc Cert.AdamEvenHeads.main_arg2) = m ((c.tc : Thread Cert.AdamEvenHeads.nD Cert.AdamEvenHeads.τ).loc Cert.AdamEvenHeads.main_arg2)
      ∧ r.2.mem ((c.tc : Thread Cert.AdamEvenHeads.nD Cert.AdamEvenHeads.τ).loc Cert.AdamEvenHeads.main_arg3) = m ((c.tc : Thread Cert.AdamEvenHeads.nD Cert.AdamEvenHeads.τ).loc Cert.AdamEvenHeads.main_arg3))
      ∧ r.2.sem = fun _ => 0)

def quiescent_AdamEvenHeadsIdeal [hAdamEvenHeadsIdeal : Cert.AdamEvenHeadsIdeal.Facts] : Prop :=
  ∀ (m : (ℓ : Loc Cert.AdamEvenHeadsIdeal.nD Cert.AdamEvenHeadsIdeal.τ Cert.AdamEvenHeadsIdeal.sig) → Buf (Elt Ideal) ℓ) (g : Dev Cert.AdamEvenHeadsIdeal.nD → PrngReg), Pre_AdamEvenHeadsIdeal m →
    θ_run (Cert.AdamEvenHeadsIdeal.defs (F := Ideal)) (onTc (τ := Cert.AdamEvenHeadsIdeal.τ) (Cert.AdamEvenHeadsIdeal.main (F := Ideal))) ⟨m, fun _ => 0, g⟩ (fun r => (∀ c : Dev Cert.AdamEvenHeadsIdeal.nD,
      r.2.mem ((c.tc : Thread Cert.AdamEvenHeadsIdeal.nD Cert.AdamEvenHeadsIdeal.τ).loc Cert.AdamEvenHeadsIdeal.main_arg0) = m ((c.tc : Thread Cert.AdamEvenHeadsIdeal.nD Cert.AdamEvenHeadsIdeal.τ).loc Cert.AdamEvenHeadsIdeal.main_arg0)
      ∧ r.2.mem ((c.tc : Thread Cert.AdamEvenHeadsIdeal.nD Cert.AdamEvenHeadsIdeal.τ).loc Cert.AdamEvenHeadsIdeal.main_arg1) = m ((c.tc : Thread Cert.AdamEvenHeadsIdeal.nD Cert.AdamEvenHeadsIdeal.τ).loc Cert.AdamEvenHeadsIdeal.main_arg1)
      ∧ r.2.mem ((c.tc : Thread Cert.AdamEvenHeadsIdeal.nD Cert.AdamEvenHeadsIdeal.τ).loc Cert.AdamEvenHeadsIdeal.main_arg2) = m ((c.tc : Thread Cert.AdamEvenHeadsIdeal.nD Cert.AdamEvenHeadsIdeal.τ).loc Cert.AdamEvenHeadsIdeal.main_arg2)
      ∧ r.2.mem ((c.tc : Thread Cert.AdamEvenHeadsIdeal.nD Cert.AdamEvenHeadsIdeal.τ).loc Cert.AdamEvenHeadsIdeal.main_arg3) = m ((c.tc : Thread Cert.AdamEvenHeadsIdeal.nD Cert.AdamEvenHeadsIdeal.τ).loc Cert.AdamEvenHeadsIdeal.main_arg3))
      ∧ r.2.sem = fun _ => 0)

def quiescent_AdamEvenHeadsPlainIdeal [hAdamEvenHeadsPlainIdeal : Cert.AdamEvenHeadsPlainIdeal.Facts] : Prop :=
  ∀ (m : (ℓ : Loc Cert.AdamEvenHeadsPlainIdeal.nD Cert.AdamEvenHeadsPlainIdeal.τ Cert.AdamEvenHeadsPlainIdeal.sig) → Buf (Elt Ideal) ℓ) (g : Dev Cert.AdamEvenHeadsPlainIdeal.nD → PrngReg), Pre_AdamEvenHeadsPlainIdeal m →
    θ_run (Cert.AdamEvenHeadsPlainIdeal.defs (F := Ideal)) (onTc (τ := Cert.AdamEvenHeadsPlainIdeal.τ) (Cert.AdamEvenHeadsPlainIdeal.main (F := Ideal))) ⟨m, fun _ => 0, g⟩ (fun r => (∀ c : Dev Cert.AdamEvenHeadsPlainIdeal.nD,
      r.2.mem ((c.tc : Thread Cert.AdamEvenHeadsPlainIdeal.nD Cert.AdamEvenHeadsPlainIdeal.τ).loc Cert.AdamEvenHeadsPlainIdeal.main_arg0) = m ((c.tc : Thread Cert.AdamEvenHeadsPlainIdeal.nD Cert.AdamEvenHeadsPlainIdeal.τ).loc Cert.AdamEvenHeadsPlainIdeal.main_arg0)
      ∧ r.2.mem ((c.tc : Thread Cert.AdamEvenHeadsPlainIdeal.nD Cert.AdamEvenHeadsPlainIdeal.τ).loc Cert.AdamEvenHeadsPlainIdeal.main_arg1) = m ((c.tc : Thread Cert.AdamEvenHeadsPlainIdeal.nD Cert.AdamEvenHeadsPlainIdeal.τ).loc Cert.AdamEvenHeadsPlainIdeal.main_arg1)
      ∧ r.2.mem ((c.tc : Thread Cert.AdamEvenHeadsPlainIdeal.nD Cert.AdamEvenHeadsPlainIdeal.τ).loc Cert.AdamEvenHeadsPlainIdeal.main_arg2) = m ((c.tc : Thread Cert.AdamEvenHeadsPlainIdeal.nD Cert.AdamEvenHeadsPlainIdeal.τ).loc Cert.AdamEvenHeadsPlainIdeal.main_arg2)
      ∧ r.2.mem ((c.tc : Thread Cert.AdamEvenHeadsPlainIdeal.nD Cert.AdamEvenHeadsPlainIdeal.τ).loc Cert.AdamEvenHeadsPlainIdeal.main_arg3) = m ((c.tc : Thread Cert.AdamEvenHeadsPlainIdeal.nD Cert.AdamEvenHeadsPlainIdeal.τ).loc Cert.AdamEvenHeadsPlainIdeal.main_arg3))
      ∧ r.2.sem = fun _ => 0)

def quiescent_AdamEvenNorm [hAdamEvenNorm : Cert.AdamEvenNorm.Facts] : Prop :=
  ∀ (m : (ℓ : Loc Cert.AdamEvenNorm.nD Cert.AdamEvenNorm.τ Cert.AdamEvenNorm.sig) → Buf (Elt Bits) ℓ) (g : Dev Cert.AdamEvenNorm.nD → PrngReg), Pre_AdamEvenNorm m →
    θ_run (Cert.AdamEvenNorm.defs (F := Bits)) (onTc (τ := Cert.AdamEvenNorm.τ) (Cert.AdamEvenNorm.main (F := Bits))) ⟨m, fun _ => 0, g⟩ (fun r => (∀ c : Dev Cert.AdamEvenNorm.nD,
      r.2.mem ((c.tc : Thread Cert.AdamEvenNorm.nD Cert.AdamEvenNorm.τ).loc Cert.AdamEvenNorm.main_arg0) = m ((c.tc : Thread Cert.AdamEvenNorm.nD Cert.AdamEvenNorm.τ).loc Cert.AdamEvenNorm.main_arg0)
      ∧ r.2.mem ((c.tc : Thread Cert.AdamEvenNorm.nD Cert.AdamEvenNorm.τ).loc Cert.AdamEvenNorm.main_arg1) = m ((c.tc : Thread Cert.AdamEvenNorm.nD Cert.AdamEvenNorm.τ).loc Cert.AdamEvenNorm.main_arg1)
      ∧ r.2.mem ((c.tc : Thread Cert.AdamEvenNorm.nD Cert.AdamEvenNorm.τ).loc Cert.AdamEvenNorm.main_arg2) = m ((c.tc : Thread Cert.AdamEvenNorm.nD Cert.AdamEvenNorm.τ).loc Cert.AdamEvenNorm.main_arg2)
      ∧ r.2.mem ((c.tc : Thread Cert.AdamEvenNorm.nD Cert.AdamEvenNorm.τ).loc Cert.AdamEvenNorm.main_arg3) = m ((c.tc : Thread Cert.AdamEvenNorm.nD Cert.AdamEvenNorm.τ).loc Cert.AdamEvenNorm.main_arg3))
      ∧ r.2.sem = fun _ => 0)

def quiescent_AdamEvenNormIdeal [hAdamEvenNormIdeal : Cert.AdamEvenNormIdeal.Facts] : Prop :=
  ∀ (m : (ℓ : Loc Cert.AdamEvenNormIdeal.nD Cert.AdamEvenNormIdeal.τ Cert.AdamEvenNormIdeal.sig) → Buf (Elt Ideal) ℓ) (g : Dev Cert.AdamEvenNormIdeal.nD → PrngReg), Pre_AdamEvenNormIdeal m →
    θ_run (Cert.AdamEvenNormIdeal.defs (F := Ideal)) (onTc (τ := Cert.AdamEvenNormIdeal.τ) (Cert.AdamEvenNormIdeal.main (F := Ideal))) ⟨m, fun _ => 0, g⟩ (fun r => (∀ c : Dev Cert.AdamEvenNormIdeal.nD,
      r.2.mem ((c.tc : Thread Cert.AdamEvenNormIdeal.nD Cert.AdamEvenNormIdeal.τ).loc Cert.AdamEvenNormIdeal.main_arg0) = m ((c.tc : Thread Cert.AdamEvenNormIdeal.nD Cert.AdamEvenNormIdeal.τ).loc Cert.AdamEvenNormIdeal.main_arg0)
      ∧ r.2.mem ((c.tc : Thread Cert.AdamEvenNormIdeal.nD Cert.AdamEvenNormIdeal.τ).loc Cert.AdamEvenNormIdeal.main_arg1) = m ((c.tc : Thread Cert.AdamEvenNormIdeal.nD Cert.AdamEvenNormIdeal.τ).loc Cert.AdamEvenNormIdeal.main_arg1)
      ∧ r.2.mem ((c.tc : Thread Cert.AdamEvenNormIdeal.nD Cert.AdamEvenNormIdeal.τ).loc Cert.AdamEvenNormIdeal.main_arg2) = m ((c.tc : Thread Cert.AdamEvenNormIdeal.nD Cert.AdamEvenNormIdeal.τ).loc Cert.AdamEvenNormIdeal.main_arg2)
      ∧ r.2.mem ((c.tc : Thread Cert.AdamEvenNormIdeal.nD Cert.AdamEvenNormIdeal.τ).loc Cert.AdamEvenNormIdeal.main_arg3) = m ((c.tc : Thread Cert.AdamEvenNormIdeal.nD Cert.AdamEvenNormIdeal.τ).loc Cert.AdamEvenNormIdeal.main_arg3))
      ∧ r.2.sem = fun _ => 0)

def quiescent_AdamEvenNormPlainIdeal [hAdamEvenNormPlainIdeal : Cert.AdamEvenNormPlainIdeal.Facts] : Prop :=
  ∀ (m : (ℓ : Loc Cert.AdamEvenNormPlainIdeal.nD Cert.AdamEvenNormPlainIdeal.τ Cert.AdamEvenNormPlainIdeal.sig) → Buf (Elt Ideal) ℓ) (g : Dev Cert.AdamEvenNormPlainIdeal.nD → PrngReg), Pre_AdamEvenNormPlainIdeal m →
    θ_run (Cert.AdamEvenNormPlainIdeal.defs (F := Ideal)) (onTc (τ := Cert.AdamEvenNormPlainIdeal.τ) (Cert.AdamEvenNormPlainIdeal.main (F := Ideal))) ⟨m, fun _ => 0, g⟩ (fun r => (∀ c : Dev Cert.AdamEvenNormPlainIdeal.nD,
      r.2.mem ((c.tc : Thread Cert.AdamEvenNormPlainIdeal.nD Cert.AdamEvenNormPlainIdeal.τ).loc Cert.AdamEvenNormPlainIdeal.main_arg0) = m ((c.tc : Thread Cert.AdamEvenNormPlainIdeal.nD Cert.AdamEvenNormPlainIdeal.τ).loc Cert.AdamEvenNormPlainIdeal.main_arg0)
      ∧ r.2.mem ((c.tc : Thread Cert.AdamEvenNormPlainIdeal.nD Cert.AdamEvenNormPlainIdeal.τ).loc Cert.AdamEvenNormPlainIdeal.main_arg1) = m ((c.tc : Thread Cert.AdamEvenNormPlainIdeal.nD Cert.AdamEvenNormPlainIdeal.τ).loc Cert.AdamEvenNormPlainIdeal.main_arg1)
      ∧ r.2.mem ((c.tc : Thread Cert.AdamEvenNormPlainIdeal.nD Cert.AdamEvenNormPlainIdeal.τ).loc Cert.AdamEvenNormPlainIdeal.main_arg2) = m ((c.tc : Thread Cert.AdamEvenNormPlainIdeal.nD Cert.AdamEvenNormPlainIdeal.τ).loc Cert.AdamEvenNormPlainIdeal.main_arg2)
      ∧ r.2.mem ((c.tc : Thread Cert.AdamEvenNormPlainIdeal.nD Cert.AdamEvenNormPlainIdeal.τ).loc Cert.AdamEvenNormPlainIdeal.main_arg3) = m ((c.tc : Thread Cert.AdamEvenNormPlainIdeal.nD Cert.AdamEvenNormPlainIdeal.τ).loc Cert.AdamEvenNormPlainIdeal.main_arg3))
      ∧ r.2.sem = fun _ => 0)

def quiescent_AdamEvenOut [hAdamEvenOut : Cert.AdamEvenOut.Facts] : Prop :=
  ∀ (m : (ℓ : Loc Cert.AdamEvenOut.nD Cert.AdamEvenOut.τ Cert.AdamEvenOut.sig) → Buf (Elt Bits) ℓ) (g : Dev Cert.AdamEvenOut.nD → PrngReg), Pre_AdamEvenOut m →
    θ_run (Cert.AdamEvenOut.defs (F := Bits)) (onTc (τ := Cert.AdamEvenOut.τ) (Cert.AdamEvenOut.main (F := Bits))) ⟨m, fun _ => 0, g⟩ (fun r => (∀ c : Dev Cert.AdamEvenOut.nD,
      r.2.mem ((c.tc : Thread Cert.AdamEvenOut.nD Cert.AdamEvenOut.τ).loc Cert.AdamEvenOut.main_arg0) = m ((c.tc : Thread Cert.AdamEvenOut.nD Cert.AdamEvenOut.τ).loc Cert.AdamEvenOut.main_arg0)
      ∧ r.2.mem ((c.tc : Thread Cert.AdamEvenOut.nD Cert.AdamEvenOut.τ).loc Cert.AdamEvenOut.main_arg1) = m ((c.tc : Thread Cert.AdamEvenOut.nD Cert.AdamEvenOut.τ).loc Cert.AdamEvenOut.main_arg1)
      ∧ r.2.mem ((c.tc : Thread Cert.AdamEvenOut.nD Cert.AdamEvenOut.τ).loc Cert.AdamEvenOut.main_arg2) = m ((c.tc : Thread Cert.AdamEvenOut.nD Cert.AdamEvenOut.τ).loc Cert.AdamEvenOut.main_arg2)
      ∧ r.2.mem ((c.tc : Thread Cert.AdamEvenOut.nD Cert.AdamEvenOut.τ).loc Cert.AdamEvenOut.main_arg3) = m ((c.tc : Thread Cert.AdamEvenOut.nD Cert.AdamEvenOut.τ).loc Cert.AdamEvenOut.main_arg3))
      ∧ r.2.sem = fun _ => 0)

def quiescent_AdamEvenOutIdeal [hAdamEvenOutIdeal : Cert.AdamEvenOutIdeal.Facts] : Prop :=
  ∀ (m : (ℓ : Loc Cert.AdamEvenOutIdeal.nD Cert.AdamEvenOutIdeal.τ Cert.AdamEvenOutIdeal.sig) → Buf (Elt Ideal) ℓ) (g : Dev Cert.AdamEvenOutIdeal.nD → PrngReg), Pre_AdamEvenOutIdeal m →
    θ_run (Cert.AdamEvenOutIdeal.defs (F := Ideal)) (onTc (τ := Cert.AdamEvenOutIdeal.τ) (Cert.AdamEvenOutIdeal.main (F := Ideal))) ⟨m, fun _ => 0, g⟩ (fun r => (∀ c : Dev Cert.AdamEvenOutIdeal.nD,
      r.2.mem ((c.tc : Thread Cert.AdamEvenOutIdeal.nD Cert.AdamEvenOutIdeal.τ).loc Cert.AdamEvenOutIdeal.main_arg0) = m ((c.tc : Thread Cert.AdamEvenOutIdeal.nD Cert.AdamEvenOutIdeal.τ).loc Cert.AdamEvenOutIdeal.main_arg0)
      ∧ r.2.mem ((c.tc : Thread Cert.AdamEvenOutIdeal.nD Cert.AdamEvenOutIdeal.τ).loc Cert.AdamEvenOutIdeal.main_arg1) = m ((c.tc : Thread Cert.AdamEvenOutIdeal.nD Cert.AdamEvenOutIdeal.τ).loc Cert.AdamEvenOutIdeal.main_arg1)
      ∧ r.2.mem ((c.tc : Thread Cert.AdamEvenOutIdeal.nD Cert.AdamEvenOutIdeal.τ).loc Cert.AdamEvenOutIdeal.main_arg2) = m ((c.tc : Thread Cert.AdamEvenOutIdeal.nD Cert.AdamEvenOutIdeal.τ).loc Cert.AdamEvenOutIdeal.main_arg2)
      ∧ r.2.mem ((c.tc : Thread Cert.AdamEvenOutIdeal.nD Cert.AdamEvenOutIdeal.τ).loc Cert.AdamEvenOutIdeal.main_arg3) = m ((c.tc : Thread Cert.AdamEvenOutIdeal.nD Cert.AdamEvenOutIdeal.τ).loc Cert.AdamEvenOutIdeal.main_arg3))
      ∧ r.2.sem = fun _ => 0)

def quiescent_AdamEvenOutPlainIdeal [hAdamEvenOutPlainIdeal : Cert.AdamEvenOutPlainIdeal.Facts] : Prop :=
  ∀ (m : (ℓ : Loc Cert.AdamEvenOutPlainIdeal.nD Cert.AdamEvenOutPlainIdeal.τ Cert.AdamEvenOutPlainIdeal.sig) → Buf (Elt Ideal) ℓ) (g : Dev Cert.AdamEvenOutPlainIdeal.nD → PrngReg), Pre_AdamEvenOutPlainIdeal m →
    θ_run (Cert.AdamEvenOutPlainIdeal.defs (F := Ideal)) (onTc (τ := Cert.AdamEvenOutPlainIdeal.τ) (Cert.AdamEvenOutPlainIdeal.main (F := Ideal))) ⟨m, fun _ => 0, g⟩ (fun r => (∀ c : Dev Cert.AdamEvenOutPlainIdeal.nD,
      r.2.mem ((c.tc : Thread Cert.AdamEvenOutPlainIdeal.nD Cert.AdamEvenOutPlainIdeal.τ).loc Cert.AdamEvenOutPlainIdeal.main_arg0) = m ((c.tc : Thread Cert.AdamEvenOutPlainIdeal.nD Cert.AdamEvenOutPlainIdeal.τ).loc Cert.AdamEvenOutPlainIdeal.main_arg0)
      ∧ r.2.mem ((c.tc : Thread Cert.AdamEvenOutPlainIdeal.nD Cert.AdamEvenOutPlainIdeal.τ).loc Cert.AdamEvenOutPlainIdeal.main_arg1) = m ((c.tc : Thread Cert.AdamEvenOutPlainIdeal.nD Cert.AdamEvenOutPlainIdeal.τ).loc Cert.AdamEvenOutPlainIdeal.main_arg1)
      ∧ r.2.mem ((c.tc : Thread Cert.AdamEvenOutPlainIdeal.nD Cert.AdamEvenOutPlainIdeal.τ).loc Cert.AdamEvenOutPlainIdeal.main_arg2) = m ((c.tc : Thread Cert.AdamEvenOutPlainIdeal.nD Cert.AdamEvenOutPlainIdeal.τ).loc Cert.AdamEvenOutPlainIdeal.main_arg2)
      ∧ r.2.mem ((c.tc : Thread Cert.AdamEvenOutPlainIdeal.nD Cert.AdamEvenOutPlainIdeal.τ).loc Cert.AdamEvenOutPlainIdeal.main_arg3) = m ((c.tc : Thread Cert.AdamEvenOutPlainIdeal.nD Cert.AdamEvenOutPlainIdeal.τ).loc Cert.AdamEvenOutPlainIdeal.main_arg3))
      ∧ r.2.sem = fun _ => 0)

def quiescent_AdamOddIn [hAdamOddIn : Cert.AdamOddIn.Facts] : Prop :=
  ∀ (m : (ℓ : Loc Cert.AdamOddIn.nD Cert.AdamOddIn.τ Cert.AdamOddIn.sig) → Buf (Elt Bits) ℓ) (g : Dev Cert.AdamOddIn.nD → PrngReg), Pre_AdamOddIn m →
    θ_run (Cert.AdamOddIn.defs (F := Bits)) (onTc (τ := Cert.AdamOddIn.τ) (Cert.AdamOddIn.main (F := Bits))) ⟨m, fun _ => 0, g⟩ (fun r => (∀ c : Dev Cert.AdamOddIn.nD,
      r.2.mem ((c.tc : Thread Cert.AdamOddIn.nD Cert.AdamOddIn.τ).loc Cert.AdamOddIn.main_arg0) = m ((c.tc : Thread Cert.AdamOddIn.nD Cert.AdamOddIn.τ).loc Cert.AdamOddIn.main_arg0)
      ∧ r.2.mem ((c.tc : Thread Cert.AdamOddIn.nD Cert.AdamOddIn.τ).loc Cert.AdamOddIn.main_arg1) = m ((c.tc : Thread Cert.AdamOddIn.nD Cert.AdamOddIn.τ).loc Cert.AdamOddIn.main_arg1)
      ∧ r.2.mem ((c.tc : Thread Cert.AdamOddIn.nD Cert.AdamOddIn.τ).loc Cert.AdamOddIn.main_arg2) = m ((c.tc : Thread Cert.AdamOddIn.nD Cert.AdamOddIn.τ).loc Cert.AdamOddIn.main_arg2)
      ∧ r.2.mem ((c.tc : Thread Cert.AdamOddIn.nD Cert.AdamOddIn.τ).loc Cert.AdamOddIn.main_arg3) = m ((c.tc : Thread Cert.AdamOddIn.nD Cert.AdamOddIn.τ).loc Cert.AdamOddIn.main_arg3))
      ∧ r.2.sem = fun _ => 0)

def quiescent_AdamOddInIdeal [hAdamOddInIdeal : Cert.AdamOddInIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg), Pre_AdamOddInIdeal m →
    θ_run (Cert.AdamOddInIdeal.defs (F := Ideal)) (onTc (τ := Cert.AdamOddInIdeal.τ) (Cert.AdamOddInIdeal.main (F := Ideal))) ⟨m, fun _ => 0, g⟩ (fun r => (∀ c : Dev Cert.AdamOddInIdeal.nD,
      r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
      ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
      ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
      ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ r.2.sem = fun _ => 0)

def quiescent_AdamOddInPlainIdeal [hAdamOddInPlainIdeal : Cert.AdamOddInPlainIdeal.Facts] : Prop :=
  ∀ (m : (ℓ : Loc Cert.AdamOddInPlainIdeal.nD Cert.AdamOddInPlainIdeal.τ Cert.AdamOddInPlainIdeal.sig) → Buf (Elt Ideal) ℓ) (g : Dev Cert.AdamOddInPlainIdeal.nD → PrngReg), Pre_AdamOddInPlainIdeal m →
    θ_run (Cert.AdamOddInPlainIdeal.defs (F := Ideal)) (onTc (τ := Cert.AdamOddInPlainIdeal.τ) (Cert.AdamOddInPlainIdeal.main (F := Ideal))) ⟨m, fun _ => 0, g⟩ (fun r => (∀ c : Dev Cert.AdamOddInPlainIdeal.nD,
      r.2.mem ((c.tc : Thread Cert.AdamOddInPlainIdeal.nD Cert.AdamOddInPlainIdeal.τ).loc Cert.AdamOddInPlainIdeal.main_arg0) = m ((c.tc : Thread Cert.AdamOddInPlainIdeal.nD Cert.AdamOddInPlainIdeal.τ).loc Cert.AdamOddInPlainIdeal.main_arg0)
      ∧ r.2.mem ((c.tc : Thread Cert.AdamOddInPlainIdeal.nD Cert.AdamOddInPlainIdeal.τ).loc Cert.AdamOddInPlainIdeal.main_arg1) = m ((c.tc : Thread Cert.AdamOddInPlainIdeal.nD Cert.AdamOddInPlainIdeal.τ).loc Cert.AdamOddInPlainIdeal.main_arg1)
      ∧ r.2.mem ((c.tc : Thread Cert.AdamOddInPlainIdeal.nD Cert.AdamOddInPlainIdeal.τ).loc Cert.AdamOddInPlainIdeal.main_arg2) = m ((c.tc : Thread Cert.AdamOddInPlainIdeal.nD Cert.AdamOddInPlainIdeal.τ).loc Cert.AdamOddInPlainIdeal.main_arg2)
      ∧ r.2.mem ((c.tc : Thread Cert.AdamOddInPlainIdeal.nD Cert.AdamOddInPlainIdeal.τ).loc Cert.AdamOddInPlainIdeal.main_arg3) = m ((c.tc : Thread Cert.AdamOddInPlainIdeal.nD Cert.AdamOddInPlainIdeal.τ).loc Cert.AdamOddInPlainIdeal.main_arg3))
      ∧ r.2.sem = fun _ => 0)

def quiescent_AdamOddConv [hAdamOddConv : Cert.AdamOddConv.Facts] : Prop :=
  ∀ (m : (ℓ : Loc Cert.AdamOddConv.nD Cert.AdamOddConv.τ Cert.AdamOddConv.sig) → Buf (Elt Bits) ℓ) (g : Dev Cert.AdamOddConv.nD → PrngReg), Pre_AdamOddConv m →
    θ_run (Cert.AdamOddConv.defs (F := Bits)) (onTc (τ := Cert.AdamOddConv.τ) (Cert.AdamOddConv.main (F := Bits))) ⟨m, fun _ => 0, g⟩ (fun r => (∀ c : Dev Cert.AdamOddConv.nD,
      r.2.mem ((c.tc : Thread Cert.AdamOddConv.nD Cert.AdamOddConv.τ).loc Cert.AdamOddConv.main_arg0) = m ((c.tc : Thread Cert.AdamOddConv.nD Cert.AdamOddConv.τ).loc Cert.AdamOddConv.main_arg0)
      ∧ r.2.mem ((c.tc : Thread Cert.AdamOddConv.nD Cert.AdamOddConv.τ).loc Cert.AdamOddConv.main_arg1) = m ((c.tc : Thread Cert.AdamOddConv.nD Cert.AdamOddConv.τ).loc Cert.AdamOddConv.main_arg1)
      ∧ r.2.mem ((c.tc : Thread Cert.AdamOddConv.nD Cert.AdamOddConv.τ).loc Cert.AdamOddConv.main_arg2) = m ((c.tc : Thread Cert.AdamOddConv.nD Cert.AdamOddConv.τ).loc Cert.AdamOddConv.main_arg2)
      ∧ r.2.mem ((c.tc : Thread Cert.AdamOddConv.nD Cert.AdamOddConv.τ).loc Cert.AdamOddConv.main_arg3) = m ((c.tc : Thread Cert.AdamOddConv.nD Cert.AdamOddConv.τ).loc Cert.AdamOddConv.main_arg3))
      ∧ r.2.sem = fun _ => 0)

def quiescent_AdamOddConvIdeal [hAdamOddConvIdeal : Cert.AdamOddConvIdeal.Facts] : Prop :=
  ∀ (m : (ℓ : Loc Cert.AdamOddConvIdeal.nD Cert.AdamOddConvIdeal.τ Cert.AdamOddConvIdeal.sig) → Buf (Elt Ideal) ℓ) (g : Dev Cert.AdamOddConvIdeal.nD → PrngReg), Pre_AdamOddConvIdeal m →
    θ_run (Cert.AdamOddConvIdeal.defs (F := Ideal)) (onTc (τ := Cert.AdamOddConvIdeal.τ) (Cert.AdamOddConvIdeal.main (F := Ideal))) ⟨m, fun _ => 0, g⟩ (fun r => (∀ c : Dev Cert.AdamOddConvIdeal.nD,
      r.2.mem ((c.tc : Thread Cert.AdamOddConvIdeal.nD Cert.AdamOddConvIdeal.τ).loc Cert.AdamOddConvIdeal.main_arg0) = m ((c.tc : Thread Cert.AdamOddConvIdeal.nD Cert.AdamOddConvIdeal.τ).loc Cert.AdamOddConvIdeal.main_arg0)
      ∧ r.2.mem ((c.tc : Thread Cert.AdamOddConvIdeal.nD Cert.AdamOddConvIdeal.τ).loc Cert.AdamOddConvIdeal.main_arg1) = m ((c.tc : Thread Cert.AdamOddConvIdeal.nD Cert.AdamOddConvIdeal.τ).loc Cert.AdamOddConvIdeal.main_arg1)
      ∧ r.2.mem ((c.tc : Thread Cert.AdamOddConvIdeal.nD Cert.AdamOddConvIdeal.τ).loc Cert.AdamOddConvIdeal.main_arg2) = m ((c.tc : Thread Cert.AdamOddConvIdeal.nD Cert.AdamOddConvIdeal.τ).loc Cert.AdamOddConvIdeal.main_arg2)
      ∧ r.2.mem ((c.tc : Thread Cert.AdamOddConvIdeal.nD Cert.AdamOddConvIdeal.τ).loc Cert.AdamOddConvIdeal.main_arg3) = m ((c.tc : Thread Cert.AdamOddConvIdeal.nD Cert.AdamOddConvIdeal.τ).loc Cert.AdamOddConvIdeal.main_arg3))
      ∧ r.2.sem = fun _ => 0)

def quiescent_AdamOddConvPlainIdeal [hAdamOddConvPlainIdeal : Cert.AdamOddConvPlainIdeal.Facts] : Prop :=
  ∀ (m : (ℓ : Loc Cert.AdamOddConvPlainIdeal.nD Cert.AdamOddConvPlainIdeal.τ Cert.AdamOddConvPlainIdeal.sig) → Buf (Elt Ideal) ℓ) (g : Dev Cert.AdamOddConvPlainIdeal.nD → PrngReg), Pre_AdamOddConvPlainIdeal m →
    θ_run (Cert.AdamOddConvPlainIdeal.defs (F := Ideal)) (onTc (τ := Cert.AdamOddConvPlainIdeal.τ) (Cert.AdamOddConvPlainIdeal.main (F := Ideal))) ⟨m, fun _ => 0, g⟩ (fun r => (∀ c : Dev Cert.AdamOddConvPlainIdeal.nD,
      r.2.mem ((c.tc : Thread Cert.AdamOddConvPlainIdeal.nD Cert.AdamOddConvPlainIdeal.τ).loc Cert.AdamOddConvPlainIdeal.main_arg0) = m ((c.tc : Thread Cert.AdamOddConvPlainIdeal.nD Cert.AdamOddConvPlainIdeal.τ).loc Cert.AdamOddConvPlainIdeal.main_arg0)
      ∧ r.2.mem ((c.tc : Thread Cert.AdamOddConvPlainIdeal.nD Cert.AdamOddConvPlainIdeal.τ).loc Cert.AdamOddConvPlainIdeal.main_arg1) = m ((c.tc : Thread Cert.AdamOddConvPlainIdeal.nD Cert.AdamOddConvPlainIdeal.τ).loc Cert.AdamOddConvPlainIdeal.main_arg1)
      ∧ r.2.mem ((c.tc : Thread Cert.AdamOddConvPlainIdeal.nD Cert.AdamOddConvPlainIdeal.τ).loc Cert.AdamOddConvPlainIdeal.main_arg2) = m ((c.tc : Thread Cert.AdamOddConvPlainIdeal.nD Cert.AdamOddConvPlainIdeal.τ).loc Cert.AdamOddConvPlainIdeal.main_arg2)
      ∧ r.2.mem ((c.tc : Thread Cert.AdamOddConvPlainIdeal.nD Cert.AdamOddConvPlainIdeal.τ).loc Cert.AdamOddConvPlainIdeal.main_arg3) = m ((c.tc : Thread Cert.AdamOddConvPlainIdeal.nD Cert.AdamOddConvPlainIdeal.τ).loc Cert.AdamOddConvPlainIdeal.main_arg3))
      ∧ r.2.sem = fun _ => 0)

def quiescent_AdamOddRow [hAdamOddRow : Cert.AdamOddRow.Facts] : Prop :=
  ∀ (m : (ℓ : Loc Cert.AdamOddRow.nD Cert.AdamOddRow.τ Cert.AdamOddRow.sig) → Buf (Elt Bits) ℓ) (g : Dev Cert.AdamOddRow.nD → PrngReg), Pre_AdamOddRow m →
    θ_run (Cert.AdamOddRow.defs (F := Bits)) (onTc (τ := Cert.AdamOddRow.τ) (Cert.AdamOddRow.main (F := Bits))) ⟨m, fun _ => 0, g⟩ (fun r => (∀ c : Dev Cert.AdamOddRow.nD,
      r.2.mem ((c.tc : Thread Cert.AdamOddRow.nD Cert.AdamOddRow.τ).loc Cert.AdamOddRow.main_arg0) = m ((c.tc : Thread Cert.AdamOddRow.nD Cert.AdamOddRow.τ).loc Cert.AdamOddRow.main_arg0)
      ∧ r.2.mem ((c.tc : Thread Cert.AdamOddRow.nD Cert.AdamOddRow.τ).loc Cert.AdamOddRow.main_arg1) = m ((c.tc : Thread Cert.AdamOddRow.nD Cert.AdamOddRow.τ).loc Cert.AdamOddRow.main_arg1)
      ∧ r.2.mem ((c.tc : Thread Cert.AdamOddRow.nD Cert.AdamOddRow.τ).loc Cert.AdamOddRow.main_arg2) = m ((c.tc : Thread Cert.AdamOddRow.nD Cert.AdamOddRow.τ).loc Cert.AdamOddRow.main_arg2)
      ∧ r.2.mem ((c.tc : Thread Cert.AdamOddRow.nD Cert.AdamOddRow.τ).loc Cert.AdamOddRow.main_arg3) = m ((c.tc : Thread Cert.AdamOddRow.nD Cert.AdamOddRow.τ).loc Cert.AdamOddRow.main_arg3))
      ∧ r.2.sem = fun _ => 0)

def quiescent_AdamOddRowIdeal [hAdamOddRowIdeal : Cert.AdamOddRowIdeal.Facts] : Prop :=
  ∀ (m : (ℓ : Loc Cert.AdamOddRowIdeal.nD Cert.AdamOddRowIdeal.τ Cert.AdamOddRowIdeal.sig) → Buf (Elt Ideal) ℓ) (g : Dev Cert.AdamOddRowIdeal.nD → PrngReg), Pre_AdamOddRowIdeal m →
    θ_run (Cert.AdamOddRowIdeal.defs (F := Ideal)) (onTc (τ := Cert.AdamOddRowIdeal.τ) (Cert.AdamOddRowIdeal.main (F := Ideal))) ⟨m, fun _ => 0, g⟩ (fun r => (∀ c : Dev Cert.AdamOddRowIdeal.nD,
      r.2.mem ((c.tc : Thread Cert.AdamOddRowIdeal.nD Cert.AdamOddRowIdeal.τ).loc Cert.AdamOddRowIdeal.main_arg0) = m ((c.tc : Thread Cert.AdamOddRowIdeal.nD Cert.AdamOddRowIdeal.τ).loc Cert.AdamOddRowIdeal.main_arg0)
      ∧ r.2.mem ((c.tc : Thread Cert.AdamOddRowIdeal.nD Cert.AdamOddRowIdeal.τ).loc Cert.AdamOddRowIdeal.main_arg1) = m ((c.tc : Thread Cert.AdamOddRowIdeal.nD Cert.AdamOddRowIdeal.τ).loc Cert.AdamOddRowIdeal.main_arg1)
      ∧ r.2.mem ((c.tc : Thread Cert.AdamOddRowIdeal.nD Cert.AdamOddRowIdeal.τ).loc Cert.AdamOddRowIdeal.main_arg2) = m ((c.tc : Thread Cert.AdamOddRowIdeal.nD Cert.AdamOddRowIdeal.τ).loc Cert.AdamOddRowIdeal.main_arg2)
      ∧ r.2.mem ((c.tc : Thread Cert.AdamOddRowIdeal.nD Cert.AdamOddRowIdeal.τ).loc Cert.AdamOddRowIdeal.main_arg3) = m ((c.tc : Thread Cert.AdamOddRowIdeal.nD Cert.AdamOddRowIdeal.τ).loc Cert.AdamOddRowIdeal.main_arg3))
      ∧ r.2.sem = fun _ => 0)

def quiescent_AdamOddRowPlainIdeal [hAdamOddRowPlainIdeal : Cert.AdamOddRowPlainIdeal.Facts] : Prop :=
  ∀ (m : (ℓ : Loc Cert.AdamOddRowPlainIdeal.nD Cert.AdamOddRowPlainIdeal.τ Cert.AdamOddRowPlainIdeal.sig) → Buf (Elt Ideal) ℓ) (g : Dev Cert.AdamOddRowPlainIdeal.nD → PrngReg), Pre_AdamOddRowPlainIdeal m →
    θ_run (Cert.AdamOddRowPlainIdeal.defs (F := Ideal)) (onTc (τ := Cert.AdamOddRowPlainIdeal.τ) (Cert.AdamOddRowPlainIdeal.main (F := Ideal))) ⟨m, fun _ => 0, g⟩ (fun r => (∀ c : Dev Cert.AdamOddRowPlainIdeal.nD,
      r.2.mem ((c.tc : Thread Cert.AdamOddRowPlainIdeal.nD Cert.AdamOddRowPlainIdeal.τ).loc Cert.AdamOddRowPlainIdeal.main_arg0) = m ((c.tc : Thread Cert.AdamOddRowPlainIdeal.nD Cert.AdamOddRowPlainIdeal.τ).loc Cert.AdamOddRowPlainIdeal.main_arg0)
      ∧ r.2.mem ((c.tc : Thread Cert.AdamOddRowPlainIdeal.nD Cert.AdamOddRowPlainIdeal.τ).loc Cert.AdamOddRowPlainIdeal.main_arg1) = m ((c.tc : Thread Cert.AdamOddRowPlainIdeal.nD Cert.AdamOddRowPlainIdeal.τ).loc Cert.AdamOddRowPlainIdeal.main_arg1)
      ∧ r.2.mem ((c.tc : Thread Cert.AdamOddRowPlainIdeal.nD Cert.AdamOddRowPlainIdeal.τ).loc Cert.AdamOddRowPlainIdeal.main_arg2) = m ((c.tc : Thread Cert.AdamOddRowPlainIdeal.nD Cert.AdamOddRowPlainIdeal.τ).loc Cert.AdamOddRowPlainIdeal.main_arg2)
      ∧ r.2.mem ((c.tc : Thread Cert.AdamOddRowPlainIdeal.nD Cert.AdamOddRowPlainIdeal.τ).loc Cert.AdamOddRowPlainIdeal.main_arg3) = m ((c.tc : Thread Cert.AdamOddRowPlainIdeal.nD Cert.AdamOddRowPlainIdeal.τ).loc Cert.AdamOddRowPlainIdeal.main_arg3))
      ∧ r.2.sem = fun _ => 0)

def quiescent_AdamOddPoles [hAdamOddPoles : Cert.AdamOddPoles.Facts] : Prop :=
  ∀ (m : (ℓ : Loc Cert.AdamOddPoles.nD Cert.AdamOddPoles.τ Cert.AdamOddPoles.sig) → Buf (Elt Bits) ℓ) (g : Dev Cert.AdamOddPoles.nD → PrngReg), Pre_AdamOddPoles m →
    θ_run (Cert.AdamOddPoles.defs (F := Bits)) (onTc (τ := Cert.AdamOddPoles.τ) (Cert.AdamOddPoles.main (F := Bits))) ⟨m, fun _ => 0, g⟩ (fun r => (∀ c : Dev Cert.AdamOddPoles.nD,
      r.2.mem ((c.tc : Thread Cert.AdamOddPoles.nD Cert.AdamOddPoles.τ).loc Cert.AdamOddPoles.main_arg0) = m ((c.tc : Thread Cert.AdamOddPoles.nD Cert.AdamOddPoles.τ).loc Cert.AdamOddPoles.main_arg0)
      ∧ r.2.mem ((c.tc : Thread Cert.AdamOddPoles.nD Cert.AdamOddPoles.τ).loc Cert.AdamOddPoles.main_arg1) = m ((c.tc : Thread Cert.AdamOddPoles.nD Cert.AdamOddPoles.τ).loc Cert.AdamOddPoles.main_arg1)
      ∧ r.2.mem ((c.tc : Thread Cert.AdamOddPoles.nD Cert.AdamOddPoles.τ).loc Cert.AdamOddPoles.main_arg2) = m ((c.tc : Thread Cert.AdamOddPoles.nD Cert.AdamOddPoles.τ).loc Cert.AdamOddPoles.main_arg2)
      ∧ r.2.mem ((c.tc : Thread Cert.AdamOddPoles.nD Cert.AdamOddPoles.τ).loc Cert.AdamOddPoles.main_arg3) = m ((c.tc : Thread Cert.AdamOddPoles.nD Cert.AdamOddPoles.τ).loc Cert.AdamOddPoles.main_arg3))
      ∧ r.2.sem = fun _ => 0)

def quiescent_AdamOddPolesIdeal [hAdamOddPolesIdeal : Cert.AdamOddPolesIdeal.Facts] : Prop :=
  ∀ (m : (ℓ : Loc Cert.AdamOddPolesIdeal.nD Cert.AdamOddPolesIdeal.τ Cert.AdamOddPolesIdeal.sig) → Buf (Elt Ideal) ℓ) (g : Dev Cert.AdamOddPolesIdeal.nD → PrngReg), Pre_AdamOddPolesIdeal m →
    θ_run (Cert.AdamOddPolesIdeal.defs (F := Ideal)) (onTc (τ := Cert.AdamOddPolesIdeal.τ) (Cert.AdamOddPolesIdeal.main (F := Ideal))) ⟨m, fun _ => 0, g⟩ (fun r => (∀ c : Dev Cert.AdamOddPolesIdeal.nD,
      r.2.mem ((c.tc : Thread Cert.AdamOddPolesIdeal.nD Cert.AdamOddPolesIdeal.τ).loc Cert.AdamOddPolesIdeal.main_arg0) = m ((c.tc : Thread Cert.AdamOddPolesIdeal.nD Cert.AdamOddPolesIdeal.τ).loc Cert.AdamOddPolesIdeal.main_arg0)
      ∧ r.2.mem ((c.tc : Thread Cert.AdamOddPolesIdeal.nD Cert.AdamOddPolesIdeal.τ).loc Cert.AdamOddPolesIdeal.main_arg1) = m ((c.tc : Thread Cert.AdamOddPolesIdeal.nD Cert.AdamOddPolesIdeal.τ).loc Cert.AdamOddPolesIdeal.main_arg1)
      ∧ r.2.mem ((c.tc : Thread Cert.AdamOddPolesIdeal.nD Cert.AdamOddPolesIdeal.τ).loc Cert.AdamOddPolesIdeal.main_arg2) = m ((c.tc : Thread Cert.AdamOddPolesIdeal.nD Cert.AdamOddPolesIdeal.τ).loc Cert.AdamOddPolesIdeal.main_arg2)
      ∧ r.2.mem ((c.tc : Thread Cert.AdamOddPolesIdeal.nD Cert.AdamOddPolesIdeal.τ).loc Cert.AdamOddPolesIdeal.main_arg3) = m ((c.tc : Thread Cert.AdamOddPolesIdeal.nD Cert.AdamOddPolesIdeal.τ).loc Cert.AdamOddPolesIdeal.main_arg3))
      ∧ r.2.sem = fun _ => 0)

def quiescent_AdamOddPolesPlainIdeal [hAdamOddPolesPlainIdeal : Cert.AdamOddPolesPlainIdeal.Facts] : Prop :=
  ∀ (m : (ℓ : Loc Cert.AdamOddPolesPlainIdeal.nD Cert.AdamOddPolesPlainIdeal.τ Cert.AdamOddPolesPlainIdeal.sig) → Buf (Elt Ideal) ℓ) (g : Dev Cert.AdamOddPolesPlainIdeal.nD → PrngReg), Pre_AdamOddPolesPlainIdeal m →
    θ_run (Cert.AdamOddPolesPlainIdeal.defs (F := Ideal)) (onTc (τ := Cert.AdamOddPolesPlainIdeal.τ) (Cert.AdamOddPolesPlainIdeal.main (F := Ideal))) ⟨m, fun _ => 0, g⟩ (fun r => (∀ c : Dev Cert.AdamOddPolesPlainIdeal.nD,
      r.2.mem ((c.tc : Thread Cert.AdamOddPolesPlainIdeal.nD Cert.AdamOddPolesPlainIdeal.τ).loc Cert.AdamOddPolesPlainIdeal.main_arg0) = m ((c.tc : Thread Cert.AdamOddPolesPlainIdeal.nD Cert.AdamOddPolesPlainIdeal.τ).loc Cert.AdamOddPolesPlainIdeal.main_arg0)
      ∧ r.2.mem ((c.tc : Thread Cert.AdamOddPolesPlainIdeal.nD Cert.AdamOddPolesPlainIdeal.τ).loc Cert.AdamOddPolesPlainIdeal.main_arg1) = m ((c.tc : Thread Cert.AdamOddPolesPlainIdeal.nD Cert.AdamOddPolesPlainIdeal.τ).loc Cert.AdamOddPolesPlainIdeal.main_arg1)
      ∧ r.2.mem ((c.tc : Thread Cert.AdamOddPolesPlainIdeal.nD Cert.AdamOddPolesPlainIdeal.τ).loc Cert.AdamOddPolesPlainIdeal.main_arg2) = m ((c.tc : Thread Cert.AdamOddPolesPlainIdeal.nD Cert.AdamOddPolesPlainIdeal.τ).loc Cert.AdamOddPolesPlainIdeal.main_arg2)
      ∧ r.2.mem ((c.tc : Thread Cert.AdamOddPolesPlainIdeal.nD Cert.AdamOddPolesPlainIdeal.τ).loc Cert.AdamOddPolesPlainIdeal.main_arg3) = m ((c.tc : Thread Cert.AdamOddPolesPlainIdeal.nD Cert.AdamOddPolesPlainIdeal.τ).loc Cert.AdamOddPolesPlainIdeal.main_arg3))
      ∧ r.2.sem = fun _ => 0)

def quiescent_AdamOddInputs [hAdamOddInputs : Cert.AdamOddInputs.Facts] : Prop :=
  ∀ (m : (ℓ : Loc Cert.AdamOddInputs.nD Cert.AdamOddInputs.τ Cert.AdamOddInputs.sig) → Buf (Elt Bits) ℓ) (g : Dev Cert.AdamOddInputs.nD → PrngReg), Pre_AdamOddInputs m →
    θ_run (Cert.AdamOddInputs.defs (F := Bits)) (onTc (τ := Cert.AdamOddInputs.τ) (Cert.AdamOddInputs.main (F := Bits))) ⟨m, fun _ => 0, g⟩ (fun r => (∀ c : Dev Cert.AdamOddInputs.nD,
      r.2.mem ((c.tc : Thread Cert.AdamOddInputs.nD Cert.AdamOddInputs.τ).loc Cert.AdamOddInputs.main_arg0) = m ((c.tc : Thread Cert.AdamOddInputs.nD Cert.AdamOddInputs.τ).loc Cert.AdamOddInputs.main_arg0)
      ∧ r.2.mem ((c.tc : Thread Cert.AdamOddInputs.nD Cert.AdamOddInputs.τ).loc Cert.AdamOddInputs.main_arg1) = m ((c.tc : Thread Cert.AdamOddInputs.nD Cert.AdamOddInputs.τ).loc Cert.AdamOddInputs.main_arg1)
      ∧ r.2.mem ((c.tc : Thread Cert.AdamOddInputs.nD Cert.AdamOddInputs.τ).loc Cert.AdamOddInputs.main_arg2) = m ((c.tc : Thread Cert.AdamOddInputs.nD Cert.AdamOddInputs.τ).loc Cert.AdamOddInputs.main_arg2)
      ∧ r.2.mem ((c.tc : Thread Cert.AdamOddInputs.nD Cert.AdamOddInputs.τ).loc Cert.AdamOddInputs.main_arg3) = m ((c.tc : Thread Cert.AdamOddInputs.nD Cert.AdamOddInputs.τ).loc Cert.AdamOddInputs.main_arg3))
      ∧ r.2.sem = fun _ => 0)

def quiescent_AdamOddInputsIdeal [hAdamOddInputsIdeal : Cert.AdamOddInputsIdeal.Facts] : Prop :=
  ∀ (m : (ℓ : Loc Cert.AdamOddInputsIdeal.nD Cert.AdamOddInputsIdeal.τ Cert.AdamOddInputsIdeal.sig) → Buf (Elt Ideal) ℓ) (g : Dev Cert.AdamOddInputsIdeal.nD → PrngReg), Pre_AdamOddInputsIdeal m →
    θ_run (Cert.AdamOddInputsIdeal.defs (F := Ideal)) (onTc (τ := Cert.AdamOddInputsIdeal.τ) (Cert.AdamOddInputsIdeal.main (F := Ideal))) ⟨m, fun _ => 0, g⟩ (fun r => (∀ c : Dev Cert.AdamOddInputsIdeal.nD,
      r.2.mem ((c.tc : Thread Cert.AdamOddInputsIdeal.nD Cert.AdamOddInputsIdeal.τ).loc Cert.AdamOddInputsIdeal.main_arg0) = m ((c.tc : Thread Cert.AdamOddInputsIdeal.nD Cert.AdamOddInputsIdeal.τ).loc Cert.AdamOddInputsIdeal.main_arg0)
      ∧ r.2.mem ((c.tc : Thread Cert.AdamOddInputsIdeal.nD Cert.AdamOddInputsIdeal.τ).loc Cert.AdamOddInputsIdeal.main_arg1) = m ((c.tc : Thread Cert.AdamOddInputsIdeal.nD Cert.AdamOddInputsIdeal.τ).loc Cert.AdamOddInputsIdeal.main_arg1)
      ∧ r.2.mem ((c.tc : Thread Cert.AdamOddInputsIdeal.nD Cert.AdamOddInputsIdeal.τ).loc Cert.AdamOddInputsIdeal.main_arg2) = m ((c.tc : Thread Cert.AdamOddInputsIdeal.nD Cert.AdamOddInputsIdeal.τ).loc Cert.AdamOddInputsIdeal.main_arg2)
      ∧ r.2.mem ((c.tc : Thread Cert.AdamOddInputsIdeal.nD Cert.AdamOddInputsIdeal.τ).loc Cert.AdamOddInputsIdeal.main_arg3) = m ((c.tc : Thread Cert.AdamOddInputsIdeal.nD Cert.AdamOddInputsIdeal.τ).loc Cert.AdamOddInputsIdeal.main_arg3))
      ∧ r.2.sem = fun _ => 0)

def quiescent_AdamOddInputsPlainIdeal [hAdamOddInputsPlainIdeal : Cert.AdamOddInputsPlainIdeal.Facts] : Prop :=
  ∀ (m : (ℓ : Loc Cert.AdamOddInputsPlainIdeal.nD Cert.AdamOddInputsPlainIdeal.τ Cert.AdamOddInputsPlainIdeal.sig) → Buf (Elt Ideal) ℓ) (g : Dev Cert.AdamOddInputsPlainIdeal.nD → PrngReg), Pre_AdamOddInputsPlainIdeal m →
    θ_run (Cert.AdamOddInputsPlainIdeal.defs (F := Ideal)) (onTc (τ := Cert.AdamOddInputsPlainIdeal.τ) (Cert.AdamOddInputsPlainIdeal.main (F := Ideal))) ⟨m, fun _ => 0, g⟩ (fun r => (∀ c : Dev Cert.AdamOddInputsPlainIdeal.nD,
      r.2.mem ((c.tc : Thread Cert.AdamOddInputsPlainIdeal.nD Cert.AdamOddInputsPlainIdeal.τ).loc Cert.AdamOddInputsPlainIdeal.main_arg0) = m ((c.tc : Thread Cert.AdamOddInputsPlainIdeal.nD Cert.AdamOddInputsPlainIdeal.τ).loc Cert.AdamOddInputsPlainIdeal.main_arg0)
      ∧ r.2.mem ((c.tc : Thread Cert.AdamOddInputsPlainIdeal.nD Cert.AdamOddInputsPlainIdeal.τ).loc Cert.AdamOddInputsPlainIdeal.main_arg1) = m ((c.tc : Thread Cert.AdamOddInputsPlainIdeal.nD Cert.AdamOddInputsPlainIdeal.τ).loc Cert.AdamOddInputsPlainIdeal.main_arg1)
      ∧ r.2.mem ((c.tc : Thread Cert.AdamOddInputsPlainIdeal.nD Cert.AdamOddInputsPlainIdeal.τ).loc Cert.AdamOddInputsPlainIdeal.main_arg2) = m ((c.tc : Thread Cert.AdamOddInputsPlainIdeal.nD Cert.AdamOddInputsPlainIdeal.τ).loc Cert.AdamOddInputsPlainIdeal.main_arg2)
      ∧ r.2.mem ((c.tc : Thread Cert.AdamOddInputsPlainIdeal.nD Cert.AdamOddInputsPlainIdeal.τ).loc Cert.AdamOddInputsPlainIdeal.main_arg3) = m ((c.tc : Thread Cert.AdamOddInputsPlainIdeal.nD Cert.AdamOddInputsPlainIdeal.τ).loc Cert.AdamOddInputsPlainIdeal.main_arg3))
      ∧ r.2.sem = fun _ => 0)

def quiescent_AdamOddOutputs [hAdamOddOutputs : Cert.AdamOddOutputs.Facts] : Prop :=
  ∀ (m : (ℓ : Loc Cert.AdamOddOutputs.nD Cert.AdamOddOutputs.τ Cert.AdamOddOutputs.sig) → Buf (Elt Bits) ℓ) (g : Dev Cert.AdamOddOutputs.nD → PrngReg), Pre_AdamOddOutputs m →
    θ_run (Cert.AdamOddOutputs.defs (F := Bits)) (onTc (τ := Cert.AdamOddOutputs.τ) (Cert.AdamOddOutputs.main (F := Bits))) ⟨m, fun _ => 0, g⟩ (fun r => (∀ c : Dev Cert.AdamOddOutputs.nD,
      r.2.mem ((c.tc : Thread Cert.AdamOddOutputs.nD Cert.AdamOddOutputs.τ).loc Cert.AdamOddOutputs.main_arg0) = m ((c.tc : Thread Cert.AdamOddOutputs.nD Cert.AdamOddOutputs.τ).loc Cert.AdamOddOutputs.main_arg0)
      ∧ r.2.mem ((c.tc : Thread Cert.AdamOddOutputs.nD Cert.AdamOddOutputs.τ).loc Cert.AdamOddOutputs.main_arg1) = m ((c.tc : Thread Cert.AdamOddOutputs.nD Cert.AdamOddOutputs.τ).loc Cert.AdamOddOutputs.main_arg1)
      ∧ r.2.mem ((c.tc : Thread Cert.AdamOddOutputs.nD Cert.AdamOddOutputs.τ).loc Cert.AdamOddOutputs.main_arg2) = m ((c.tc : Thread Cert.AdamOddOutputs.nD Cert.AdamOddOutputs.τ).loc Cert.AdamOddOutputs.main_arg2)
      ∧ r.2.mem ((c.tc : Thread Cert.AdamOddOutputs.nD Cert.AdamOddOutputs.τ).loc Cert.AdamOddOutputs.main_arg3) = m ((c.tc : Thread Cert.AdamOddOutputs.nD Cert.AdamOddOutputs.τ).loc Cert.AdamOddOutputs.main_arg3))
      ∧ r.2.sem = fun _ => 0)

def quiescent_AdamOddOutputsIdeal [hAdamOddOutputsIdeal : Cert.AdamOddOutputsIdeal.Facts] : Prop :=
  ∀ (m : (ℓ : Loc Cert.AdamOddOutputsIdeal.nD Cert.AdamOddOutputsIdeal.τ Cert.AdamOddOutputsIdeal.sig) → Buf (Elt Ideal) ℓ) (g : Dev Cert.AdamOddOutputsIdeal.nD → PrngReg), Pre_AdamOddOutputsIdeal m →
    θ_run (Cert.AdamOddOutputsIdeal.defs (F := Ideal)) (onTc (τ := Cert.AdamOddOutputsIdeal.τ) (Cert.AdamOddOutputsIdeal.main (F := Ideal))) ⟨m, fun _ => 0, g⟩ (fun r => (∀ c : Dev Cert.AdamOddOutputsIdeal.nD,
      r.2.mem ((c.tc : Thread Cert.AdamOddOutputsIdeal.nD Cert.AdamOddOutputsIdeal.τ).loc Cert.AdamOddOutputsIdeal.main_arg0) = m ((c.tc : Thread Cert.AdamOddOutputsIdeal.nD Cert.AdamOddOutputsIdeal.τ).loc Cert.AdamOddOutputsIdeal.main_arg0)
      ∧ r.2.mem ((c.tc : Thread Cert.AdamOddOutputsIdeal.nD Cert.AdamOddOutputsIdeal.τ).loc Cert.AdamOddOutputsIdeal.main_arg1) = m ((c.tc : Thread Cert.AdamOddOutputsIdeal.nD Cert.AdamOddOutputsIdeal.τ).loc Cert.AdamOddOutputsIdeal.main_arg1)
      ∧ r.2.mem ((c.tc : Thread Cert.AdamOddOutputsIdeal.nD Cert.AdamOddOutputsIdeal.τ).loc Cert.AdamOddOutputsIdeal.main_arg2) = m ((c.tc : Thread Cert.AdamOddOutputsIdeal.nD Cert.AdamOddOutputsIdeal.τ).loc Cert.AdamOddOutputsIdeal.main_arg2)
      ∧ r.2.mem ((c.tc : Thread Cert.AdamOddOutputsIdeal.nD Cert.AdamOddOutputsIdeal.τ).loc Cert.AdamOddOutputsIdeal.main_arg3) = m ((c.tc : Thread Cert.AdamOddOutputsIdeal.nD Cert.AdamOddOutputsIdeal.τ).loc Cert.AdamOddOutputsIdeal.main_arg3))
      ∧ r.2.sem = fun _ => 0)

def quiescent_AdamOddOutputsPlainIdeal [hAdamOddOutputsPlainIdeal : Cert.AdamOddOutputsPlainIdeal.Facts] : Prop :=
  ∀ (m : (ℓ : Loc Cert.AdamOddOutputsPlainIdeal.nD Cert.AdamOddOutputsPlainIdeal.τ Cert.AdamOddOutputsPlainIdeal.sig) → Buf (Elt Ideal) ℓ) (g : Dev Cert.AdamOddOutputsPlainIdeal.nD → PrngReg), Pre_AdamOddOutputsPlainIdeal m →
    θ_run (Cert.AdamOddOutputsPlainIdeal.defs (F := Ideal)) (onTc (τ := Cert.AdamOddOutputsPlainIdeal.τ) (Cert.AdamOddOutputsPlainIdeal.main (F := Ideal))) ⟨m, fun _ => 0, g⟩ (fun r => (∀ c : Dev Cert.AdamOddOutputsPlainIdeal.nD,
      r.2.mem ((c.tc : Thread Cert.AdamOddOutputsPlainIdeal.nD Cert.AdamOddOutputsPlainIdeal.τ).loc Cert.AdamOddOutputsPlainIdeal.main_arg0) = m ((c.tc : Thread Cert.AdamOddOutputsPlainIdeal.nD Cert.AdamOddOutputsPlainIdeal.τ).loc Cert.AdamOddOutputsPlainIdeal.main_arg0)
      ∧ r.2.mem ((c.tc : Thread Cert.AdamOddOutputsPlainIdeal.nD Cert.AdamOddOutputsPlainIdeal.τ).loc Cert.AdamOddOutputsPlainIdeal.main_arg1) = m ((c.tc : Thread Cert.AdamOddOutputsPlainIdeal.nD Cert.AdamOddOutputsPlainIdeal.τ).loc Cert.AdamOddOutputsPlainIdeal.main_arg1)
      ∧ r.2.mem ((c.tc : Thread Cert.AdamOddOutputsPlainIdeal.nD Cert.AdamOddOutputsPlainIdeal.τ).loc Cert.AdamOddOutputsPlainIdeal.main_arg2) = m ((c.tc : Thread Cert.AdamOddOutputsPlainIdeal.nD Cert.AdamOddOutputsPlainIdeal.τ).loc Cert.AdamOddOutputsPlainIdeal.main_arg2)
      ∧ r.2.mem ((c.tc : Thread Cert.AdamOddOutputsPlainIdeal.nD Cert.AdamOddOutputsPlainIdeal.τ).loc Cert.AdamOddOutputsPlainIdeal.main_arg3) = m ((c.tc : Thread Cert.AdamOddOutputsPlainIdeal.nD Cert.AdamOddOutputsPlainIdeal.τ).loc Cert.AdamOddOutputsPlainIdeal.main_arg3))
      ∧ r.2.sem = fun _ => 0)

def quiescent_AdamOddSteps [hAdamOddSteps : Cert.AdamOddSteps.Facts] : Prop :=
  ∀ (m : (ℓ : Loc Cert.AdamOddSteps.nD Cert.AdamOddSteps.τ Cert.AdamOddSteps.sig) → Buf (Elt Bits) ℓ) (g : Dev Cert.AdamOddSteps.nD → PrngReg), Pre_AdamOddSteps m →
    θ_run (Cert.AdamOddSteps.defs (F := Bits)) (onTc (τ := Cert.AdamOddSteps.τ) (Cert.AdamOddSteps.main (F := Bits))) ⟨m, fun _ => 0, g⟩ (fun r => (∀ c : Dev Cert.AdamOddSteps.nD,
      r.2.mem ((c.tc : Thread Cert.AdamOddSteps.nD Cert.AdamOddSteps.τ).loc Cert.AdamOddSteps.main_arg0) = m ((c.tc : Thread Cert.AdamOddSteps.nD Cert.AdamOddSteps.τ).loc Cert.AdamOddSteps.main_arg0)
      ∧ r.2.mem ((c.tc : Thread Cert.AdamOddSteps.nD Cert.AdamOddSteps.τ).loc Cert.AdamOddSteps.main_arg1) = m ((c.tc : Thread Cert.AdamOddSteps.nD Cert.AdamOddSteps.τ).loc Cert.AdamOddSteps.main_arg1)
      ∧ r.2.mem ((c.tc : Thread Cert.AdamOddSteps.nD Cert.AdamOddSteps.τ).loc Cert.AdamOddSteps.main_arg2) = m ((c.tc : Thread Cert.AdamOddSteps.nD Cert.AdamOddSteps.τ).loc Cert.AdamOddSteps.main_arg2)
      ∧ r.2.mem ((c.tc : Thread Cert.AdamOddSteps.nD Cert.AdamOddSteps.τ).loc Cert.AdamOddSteps.main_arg3) = m ((c.tc : Thread Cert.AdamOddSteps.nD Cert.AdamOddSteps.τ).loc Cert.AdamOddSteps.main_arg3))
      ∧ r.2.sem = fun _ => 0)

def quiescent_AdamOddStepsIdeal [hAdamOddStepsIdeal : Cert.AdamOddStepsIdeal.Facts] : Prop :=
  ∀ (m : (ℓ : Loc Cert.AdamOddStepsIdeal.nD Cert.AdamOddStepsIdeal.τ Cert.AdamOddStepsIdeal.sig) → Buf (Elt Ideal) ℓ) (g : Dev Cert.AdamOddStepsIdeal.nD → PrngReg), Pre_AdamOddStepsIdeal m →
    θ_run (Cert.AdamOddStepsIdeal.defs (F := Ideal)) (onTc (τ := Cert.AdamOddStepsIdeal.τ) (Cert.AdamOddStepsIdeal.main (F := Ideal))) ⟨m, fun _ => 0, g⟩ (fun r => (∀ c : Dev Cert.AdamOddStepsIdeal.nD,
      r.2.mem ((c.tc : Thread Cert.AdamOddStepsIdeal.nD Cert.AdamOddStepsIdeal.τ).loc Cert.AdamOddStepsIdeal.main_arg0) = m ((c.tc : Thread Cert.AdamOddStepsIdeal.nD Cert.AdamOddStepsIdeal.τ).loc Cert.AdamOddStepsIdeal.main_arg0)
      ∧ r.2.mem ((c.tc : Thread Cert.AdamOddStepsIdeal.nD Cert.AdamOddStepsIdeal.τ).loc Cert.AdamOddStepsIdeal.main_arg1) = m ((c.tc : Thread Cert.AdamOddStepsIdeal.nD Cert.AdamOddStepsIdeal.τ).loc Cert.AdamOddStepsIdeal.main_arg1)
      ∧ r.2.mem ((c.tc : Thread Cert.AdamOddStepsIdeal.nD Cert.AdamOddStepsIdeal.τ).loc Cert.AdamOddStepsIdeal.main_arg2) = m ((c.tc : Thread Cert.AdamOddStepsIdeal.nD Cert.AdamOddStepsIdeal.τ).loc Cert.AdamOddStepsIdeal.main_arg2)
      ∧ r.2.mem ((c.tc : Thread Cert.AdamOddStepsIdeal.nD Cert.AdamOddStepsIdeal.τ).loc Cert.AdamOddStepsIdeal.main_arg3) = m ((c.tc : Thread Cert.AdamOddStepsIdeal.nD Cert.AdamOddStepsIdeal.τ).loc Cert.AdamOddStepsIdeal.main_arg3))
      ∧ r.2.sem = fun _ => 0)

def quiescent_AdamOddStepsPlainIdeal [hAdamOddStepsPlainIdeal : Cert.AdamOddStepsPlainIdeal.Facts] : Prop :=
  ∀ (m : (ℓ : Loc Cert.AdamOddStepsPlainIdeal.nD Cert.AdamOddStepsPlainIdeal.τ Cert.AdamOddStepsPlainIdeal.sig) → Buf (Elt Ideal) ℓ) (g : Dev Cert.AdamOddStepsPlainIdeal.nD → PrngReg), Pre_AdamOddStepsPlainIdeal m →
    θ_run (Cert.AdamOddStepsPlainIdeal.defs (F := Ideal)) (onTc (τ := Cert.AdamOddStepsPlainIdeal.τ) (Cert.AdamOddStepsPlainIdeal.main (F := Ideal))) ⟨m, fun _ => 0, g⟩ (fun r => (∀ c : Dev Cert.AdamOddStepsPlainIdeal.nD,
      r.2.mem ((c.tc : Thread Cert.AdamOddStepsPlainIdeal.nD Cert.AdamOddStepsPlainIdeal.τ).loc Cert.AdamOddStepsPlainIdeal.main_arg0) = m ((c.tc : Thread Cert.AdamOddStepsPlainIdeal.nD Cert.AdamOddStepsPlainIdeal.τ).loc Cert.AdamOddStepsPlainIdeal.main_arg0)
      ∧ r.2.mem ((c.tc : Thread Cert.AdamOddStepsPlainIdeal.nD Cert.AdamOddStepsPlainIdeal.τ).loc Cert.AdamOddStepsPlainIdeal.main_arg1) = m ((c.tc : Thread Cert.AdamOddStepsPlainIdeal.nD Cert.AdamOddStepsPlainIdeal.τ).loc Cert.AdamOddStepsPlainIdeal.main_arg1)
      ∧ r.2.mem ((c.tc : Thread Cert.AdamOddStepsPlainIdeal.nD Cert.AdamOddStepsPlainIdeal.τ).loc Cert.AdamOddStepsPlainIdeal.main_arg2) = m ((c.tc : Thread Cert.AdamOddStepsPlainIdeal.nD Cert.AdamOddStepsPlainIdeal.τ).loc Cert.AdamOddStepsPlainIdeal.main_arg2)
      ∧ r.2.mem ((c.tc : Thread Cert.AdamOddStepsPlainIdeal.nD Cert.AdamOddStepsPlainIdeal.τ).loc Cert.AdamOddStepsPlainIdeal.main_arg3) = m ((c.tc : Thread Cert.AdamOddStepsPlainIdeal.nD Cert.AdamOddStepsPlainIdeal.τ).loc Cert.AdamOddStepsPlainIdeal.main_arg3))
      ∧ r.2.sem = fun _ => 0)

def quiescent_AdamOddGate [hAdamOddGate : Cert.AdamOddGate.Facts] : Prop :=
  ∀ (m : (ℓ : Loc Cert.AdamOddGate.nD Cert.AdamOddGate.τ Cert.AdamOddGate.sig) → Buf (Elt Bits) ℓ) (g : Dev Cert.AdamOddGate.nD → PrngReg), Pre_AdamOddGate m →
    θ_run (Cert.AdamOddGate.defs (F := Bits)) (onTc (τ := Cert.AdamOddGate.τ) (Cert.AdamOddGate.main (F := Bits))) ⟨m, fun _ => 0, g⟩ (fun r => (∀ c : Dev Cert.AdamOddGate.nD,
      r.2.mem ((c.tc : Thread Cert.AdamOddGate.nD Cert.AdamOddGate.τ).loc Cert.AdamOddGate.main_arg0) = m ((c.tc : Thread Cert.AdamOddGate.nD Cert.AdamOddGate.τ).loc Cert.AdamOddGate.main_arg0)
      ∧ r.2.mem ((c.tc : Thread Cert.AdamOddGate.nD Cert.AdamOddGate.τ).loc Cert.AdamOddGate.main_arg1) = m ((c.tc : Thread Cert.AdamOddGate.nD Cert.AdamOddGate.τ).loc Cert.AdamOddGate.main_arg1)
      ∧ r.2.mem ((c.tc : Thread Cert.AdamOddGate.nD Cert.AdamOddGate.τ).loc Cert.AdamOddGate.main_arg2) = m ((c.tc : Thread Cert.AdamOddGate.nD Cert.AdamOddGate.τ).loc Cert.AdamOddGate.main_arg2)
      ∧ r.2.mem ((c.tc : Thread Cert.AdamOddGate.nD Cert.AdamOddGate.τ).loc Cert.AdamOddGate.main_arg3) = m ((c.tc : Thread Cert.AdamOddGate.nD Cert.AdamOddGate.τ).loc Cert.AdamOddGate.main_arg3))
      ∧ r.2.sem = fun _ => 0)

def quiescent_AdamOddGateIdeal [hAdamOddGateIdeal : Cert.AdamOddGateIdeal.Facts] : Prop :=
  ∀ (m : (ℓ : Loc Cert.AdamOddGateIdeal.nD Cert.AdamOddGateIdeal.τ Cert.AdamOddGateIdeal.sig) → Buf (Elt Ideal) ℓ) (g : Dev Cert.AdamOddGateIdeal.nD → PrngReg), Pre_AdamOddGateIdeal m →
    θ_run (Cert.AdamOddGateIdeal.defs (F := Ideal)) (onTc (τ := Cert.AdamOddGateIdeal.τ) (Cert.AdamOddGateIdeal.main (F := Ideal))) ⟨m, fun _ => 0, g⟩ (fun r => (∀ c : Dev Cert.AdamOddGateIdeal.nD,
      r.2.mem ((c.tc : Thread Cert.AdamOddGateIdeal.nD Cert.AdamOddGateIdeal.τ).loc Cert.AdamOddGateIdeal.main_arg0) = m ((c.tc : Thread Cert.AdamOddGateIdeal.nD Cert.AdamOddGateIdeal.τ).loc Cert.AdamOddGateIdeal.main_arg0)
      ∧ r.2.mem ((c.tc : Thread Cert.AdamOddGateIdeal.nD Cert.AdamOddGateIdeal.τ).loc Cert.AdamOddGateIdeal.main_arg1) = m ((c.tc : Thread Cert.AdamOddGateIdeal.nD Cert.AdamOddGateIdeal.τ).loc Cert.AdamOddGateIdeal.main_arg1)
      ∧ r.2.mem ((c.tc : Thread Cert.AdamOddGateIdeal.nD Cert.AdamOddGateIdeal.τ).loc Cert.AdamOddGateIdeal.main_arg2) = m ((c.tc : Thread Cert.AdamOddGateIdeal.nD Cert.AdamOddGateIdeal.τ).loc Cert.AdamOddGateIdeal.main_arg2)
      ∧ r.2.mem ((c.tc : Thread Cert.AdamOddGateIdeal.nD Cert.AdamOddGateIdeal.τ).loc Cert.AdamOddGateIdeal.main_arg3) = m ((c.tc : Thread Cert.AdamOddGateIdeal.nD Cert.AdamOddGateIdeal.τ).loc Cert.AdamOddGateIdeal.main_arg3))
      ∧ r.2.sem = fun _ => 0)

def quiescent_AdamOddGatePlainIdeal [hAdamOddGatePlainIdeal : Cert.AdamOddGatePlainIdeal.Facts] : Prop :=
  ∀ (m : (ℓ : Loc Cert.AdamOddGatePlainIdeal.nD Cert.AdamOddGatePlainIdeal.τ Cert.AdamOddGatePlainIdeal.sig) → Buf (Elt Ideal) ℓ) (g : Dev Cert.AdamOddGatePlainIdeal.nD → PrngReg), Pre_AdamOddGatePlainIdeal m →
    θ_run (Cert.AdamOddGatePlainIdeal.defs (F := Ideal)) (onTc (τ := Cert.AdamOddGatePlainIdeal.τ) (Cert.AdamOddGatePlainIdeal.main (F := Ideal))) ⟨m, fun _ => 0, g⟩ (fun r => (∀ c : Dev Cert.AdamOddGatePlainIdeal.nD,
      r.2.mem ((c.tc : Thread Cert.AdamOddGatePlainIdeal.nD Cert.AdamOddGatePlainIdeal.τ).loc Cert.AdamOddGatePlainIdeal.main_arg0) = m ((c.tc : Thread Cert.AdamOddGatePlainIdeal.nD Cert.AdamOddGatePlainIdeal.τ).loc Cert.AdamOddGatePlainIdeal.main_arg0)
      ∧ r.2.mem ((c.tc : Thread Cert.AdamOddGatePlainIdeal.nD Cert.AdamOddGatePlainIdeal.τ).loc Cert.AdamOddGatePlainIdeal.main_arg1) = m ((c.tc : Thread Cert.AdamOddGatePlainIdeal.nD Cert.AdamOddGatePlainIdeal.τ).loc Cert.AdamOddGatePlainIdeal.main_arg1)
      ∧ r.2.mem ((c.tc : Thread Cert.AdamOddGatePlainIdeal.nD Cert.AdamOddGatePlainIdeal.τ).loc Cert.AdamOddGatePlainIdeal.main_arg2) = m ((c.tc : Thread Cert.AdamOddGatePlainIdeal.nD Cert.AdamOddGatePlainIdeal.τ).loc Cert.AdamOddGatePlainIdeal.main_arg2)
      ∧ r.2.mem ((c.tc : Thread Cert.AdamOddGatePlainIdeal.nD Cert.AdamOddGatePlainIdeal.τ).loc Cert.AdamOddGatePlainIdeal.main_arg3) = m ((c.tc : Thread Cert.AdamOddGatePlainIdeal.nD Cert.AdamOddGatePlainIdeal.τ).loc Cert.AdamOddGatePlainIdeal.main_arg3))
      ∧ r.2.sem = fun _ => 0)

def quiescent_AdamOddOut [hAdamOddOut : Cert.AdamOddOut.Facts] : Prop :=
  ∀ (m : (ℓ : Loc Cert.AdamOddOut.nD Cert.AdamOddOut.τ Cert.AdamOddOut.sig) → Buf (Elt Bits) ℓ) (g : Dev Cert.AdamOddOut.nD → PrngReg), Pre_AdamOddOut m →
    θ_run (Cert.AdamOddOut.defs (F := Bits)) (onTc (τ := Cert.AdamOddOut.τ) (Cert.AdamOddOut.main (F := Bits))) ⟨m, fun _ => 0, g⟩ (fun r => (∀ c : Dev Cert.AdamOddOut.nD,
      r.2.mem ((c.tc : Thread Cert.AdamOddOut.nD Cert.AdamOddOut.τ).loc Cert.AdamOddOut.main_arg0) = m ((c.tc : Thread Cert.AdamOddOut.nD Cert.AdamOddOut.τ).loc Cert.AdamOddOut.main_arg0)
      ∧ r.2.mem ((c.tc : Thread Cert.AdamOddOut.nD Cert.AdamOddOut.τ).loc Cert.AdamOddOut.main_arg1) = m ((c.tc : Thread Cert.AdamOddOut.nD Cert.AdamOddOut.τ).loc Cert.AdamOddOut.main_arg1)
      ∧ r.2.mem ((c.tc : Thread Cert.AdamOddOut.nD Cert.AdamOddOut.τ).loc Cert.AdamOddOut.main_arg2) = m ((c.tc : Thread Cert.AdamOddOut.nD Cert.AdamOddOut.τ).loc Cert.AdamOddOut.main_arg2)
      ∧ r.2.mem ((c.tc : Thread Cert.AdamOddOut.nD Cert.AdamOddOut.τ).loc Cert.AdamOddOut.main_arg3) = m ((c.tc : Thread Cert.AdamOddOut.nD Cert.AdamOddOut.τ).loc Cert.AdamOddOut.main_arg3))
      ∧ r.2.sem = fun _ => 0)

def quiescent_AdamOddOutIdeal [hAdamOddOutIdeal : Cert.AdamOddOutIdeal.Facts] : Prop :=
  ∀ (m : (ℓ : Loc Cert.AdamOddOutIdeal.nD Cert.AdamOddOutIdeal.τ Cert.AdamOddOutIdeal.sig) → Buf (Elt Ideal) ℓ) (g : Dev Cert.AdamOddOutIdeal.nD → PrngReg), Pre_AdamOddOutIdeal m →
    θ_run (Cert.AdamOddOutIdeal.defs (F := Ideal)) (onTc (τ := Cert.AdamOddOutIdeal.τ) (Cert.AdamOddOutIdeal.main (F := Ideal))) ⟨m, fun _ => 0, g⟩ (fun r => (∀ c : Dev Cert.AdamOddOutIdeal.nD,
      r.2.mem ((c.tc : Thread Cert.AdamOddOutIdeal.nD Cert.AdamOddOutIdeal.τ).loc Cert.AdamOddOutIdeal.main_arg0) = m ((c.tc : Thread Cert.AdamOddOutIdeal.nD Cert.AdamOddOutIdeal.τ).loc Cert.AdamOddOutIdeal.main_arg0)
      ∧ r.2.mem ((c.tc : Thread Cert.AdamOddOutIdeal.nD Cert.AdamOddOutIdeal.τ).loc Cert.AdamOddOutIdeal.main_arg1) = m ((c.tc : Thread Cert.AdamOddOutIdeal.nD Cert.AdamOddOutIdeal.τ).loc Cert.AdamOddOutIdeal.main_arg1)
      ∧ r.2.mem ((c.tc : Thread Cert.AdamOddOutIdeal.nD Cert.AdamOddOutIdeal.τ).loc Cert.AdamOddOutIdeal.main_arg2) = m ((c.tc : Thread Cert.AdamOddOutIdeal.nD Cert.AdamOddOutIdeal.τ).loc Cert.AdamOddOutIdeal.main_arg2)
      ∧ r.2.mem ((c.tc : Thread Cert.AdamOddOutIdeal.nD Cert.AdamOddOutIdeal.τ).loc Cert.AdamOddOutIdeal.main_arg3) = m ((c.tc : Thread Cert.AdamOddOutIdeal.nD Cert.AdamOddOutIdeal.τ).loc Cert.AdamOddOutIdeal.main_arg3))
      ∧ r.2.sem = fun _ => 0)

def quiescent_AdamOddOutPlainIdeal [hAdamOddOutPlainIdeal : Cert.AdamOddOutPlainIdeal.Facts] : Prop :=
  ∀ (m : (ℓ : Loc Cert.AdamOddOutPlainIdeal.nD Cert.AdamOddOutPlainIdeal.τ Cert.AdamOddOutPlainIdeal.sig) → Buf (Elt Ideal) ℓ) (g : Dev Cert.AdamOddOutPlainIdeal.nD → PrngReg), Pre_AdamOddOutPlainIdeal m →
    θ_run (Cert.AdamOddOutPlainIdeal.defs (F := Ideal)) (onTc (τ := Cert.AdamOddOutPlainIdeal.τ) (Cert.AdamOddOutPlainIdeal.main (F := Ideal))) ⟨m, fun _ => 0, g⟩ (fun r => (∀ c : Dev Cert.AdamOddOutPlainIdeal.nD,
      r.2.mem ((c.tc : Thread Cert.AdamOddOutPlainIdeal.nD Cert.AdamOddOutPlainIdeal.τ).loc Cert.AdamOddOutPlainIdeal.main_arg0) = m ((c.tc : Thread Cert.AdamOddOutPlainIdeal.nD Cert.AdamOddOutPlainIdeal.τ).loc Cert.AdamOddOutPlainIdeal.main_arg0)
      ∧ r.2.mem ((c.tc : Thread Cert.AdamOddOutPlainIdeal.nD Cert.AdamOddOutPlainIdeal.τ).loc Cert.AdamOddOutPlainIdeal.main_arg1) = m ((c.tc : Thread Cert.AdamOddOutPlainIdeal.nD Cert.AdamOddOutPlainIdeal.τ).loc Cert.AdamOddOutPlainIdeal.main_arg1)
      ∧ r.2.mem ((c.tc : Thread Cert.AdamOddOutPlainIdeal.nD Cert.AdamOddOutPlainIdeal.τ).loc Cert.AdamOddOutPlainIdeal.main_arg2) = m ((c.tc : Thread Cert.AdamOddOutPlainIdeal.nD Cert.AdamOddOutPlainIdeal.τ).loc Cert.AdamOddOutPlainIdeal.main_arg2)
      ∧ r.2.mem ((c.tc : Thread Cert.AdamOddOutPlainIdeal.nD Cert.AdamOddOutPlainIdeal.τ).loc Cert.AdamOddOutPlainIdeal.main_arg3) = m ((c.tc : Thread Cert.AdamOddOutPlainIdeal.nD Cert.AdamOddOutPlainIdeal.τ).loc Cert.AdamOddOutPlainIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpPlainIdeal [hAdamUpPlainIdeal : Cert.AdamUpPlainIdeal.Facts] : Prop :=
  ∀ (m : (ℓ : Loc Cert.AdamUpPlainIdeal.nD Cert.AdamUpPlainIdeal.τ Cert.AdamUpPlainIdeal.sig) → Buf (Elt Ideal) ℓ) (g : Dev Cert.AdamUpPlainIdeal.nD → PrngReg), Pre_AdamUpPlainIdeal m →
    θ_run (Cert.AdamUpPlainIdeal.defs (F := Ideal)) (onTc (τ := Cert.AdamUpPlainIdeal.τ) (Cert.AdamUpPlainIdeal.main (F := Ideal))) ⟨m, fun _ => 0, g⟩ (fun r => (∀ c : Dev Cert.AdamUpPlainIdeal.nD,
      r.2.mem ((c.tc : Thread Cert.AdamUpPlainIdeal.nD Cert.AdamUpPlainIdeal.τ).loc Cert.AdamUpPlainIdeal.main_arg0) = m ((c.tc : Thread Cert.AdamUpPlainIdeal.nD Cert.AdamUpPlainIdeal.τ).loc Cert.AdamUpPlainIdeal.main_arg0)
      ∧ r.2.mem ((c.tc : Thread Cert.AdamUpPlainIdeal.nD Cert.AdamUpPlainIdeal.τ).loc Cert.AdamUpPlainIdeal.main_arg1) = m ((c.tc : Thread Cert.AdamUpPlainIdeal.nD Cert.AdamUpPlainIdeal.τ).loc Cert.AdamUpPlainIdeal.main_arg1)
      ∧ r.2.mem ((c.tc : Thread Cert.AdamUpPlainIdeal.nD Cert.AdamUpPlainIdeal.τ).loc Cert.AdamUpPlainIdeal.main_arg2) = m ((c.tc : Thread Cert.AdamUpPlainIdeal.nD Cert.AdamUpPlainIdeal.τ).loc Cert.AdamUpPlainIdeal.main_arg2)
      ∧ r.2.mem ((c.tc : Thread Cert.AdamUpPlainIdeal.nD Cert.AdamUpPlainIdeal.τ).loc Cert.AdamUpPlainIdeal.main_arg3) = m ((c.tc : Thread Cert.AdamUpPlainIdeal.nD Cert.AdamUpPlainIdeal.τ).loc Cert.AdamUpPlainIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvPlainIdeal [hAdamConvPlainIdeal : Cert.AdamConvPlainIdeal.Facts] : Prop :=
  ∀ (m : (ℓ : Loc Cert.AdamConvPlainIdeal.nD Cert.AdamConvPlainIdeal.τ Cert.AdamConvPlainIdeal.sig) → Buf (Elt Ideal) ℓ) (g : Dev Cert.AdamConvPlainIdeal.nD → PrngReg), Pre_AdamConvPlainIdeal m →
    θ_run (Cert.AdamConvPlainIdeal.defs (F := Ideal)) (onTc (τ := Cert.AdamConvPlainIdeal.τ) (Cert.AdamConvPlainIdeal.main (F := Ideal))) ⟨m, fun _ => 0, g⟩ (fun r => (∀ c : Dev Cert.AdamConvPlainIdeal.nD,
      r.2.mem ((c.tc : Thread Cert.AdamConvPlainIdeal.nD Cert.AdamConvPlainIdeal.τ).loc Cert.AdamConvPlainIdeal.main_arg0) = m ((c.tc : Thread Cert.AdamConvPlainIdeal.nD Cert.AdamConvPlainIdeal.τ).loc Cert.AdamConvPlainIdeal.main_arg0)
      ∧ r.2.mem ((c.tc : Thread Cert.AdamConvPlainIdeal.nD Cert.AdamConvPlainIdeal.τ).loc Cert.AdamConvPlainIdeal.main_arg1) = m ((c.tc : Thread Cert.AdamConvPlainIdeal.nD Cert.AdamConvPlainIdeal.τ).loc Cert.AdamConvPlainIdeal.main_arg1)
      ∧ r.2.mem ((c.tc : Thread Cert.AdamConvPlainIdeal.nD Cert.AdamConvPlainIdeal.τ).loc Cert.AdamConvPlainIdeal.main_arg2) = m ((c.tc : Thread Cert.AdamConvPlainIdeal.nD Cert.AdamConvPlainIdeal.τ).loc Cert.AdamConvPlainIdeal.main_arg2)
      ∧ r.2.mem ((c.tc : Thread Cert.AdamConvPlainIdeal.nD Cert.AdamConvPlainIdeal.τ).loc Cert.AdamConvPlainIdeal.main_arg3) = m ((c.tc : Thread Cert.AdamConvPlainIdeal.nD Cert.AdamConvPlainIdeal.τ).loc Cert.AdamConvPlainIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasPlainIdeal [hAdamBiasPlainIdeal : Cert.AdamBiasPlainIdeal.Facts] : Prop :=
  ∀ (m : (ℓ : Loc Cert.AdamBiasPlainIdeal.nD Cert.AdamBiasPlainIdeal.τ Cert.AdamBiasPlainIdeal.sig) → Buf (Elt Ideal) ℓ) (g : Dev Cert.AdamBiasPlainIdeal.nD → PrngReg), Pre_AdamBiasPlainIdeal m →
    θ_run (Cert.AdamBiasPlainIdeal.defs (F := Ideal)) (onTc (τ := Cert.AdamBiasPlainIdeal.τ) (Cert.AdamBiasPlainIdeal.main (F := Ideal))) ⟨m, fun _ => 0, g⟩ (fun r => (∀ c : Dev Cert.AdamBiasPlainIdeal.nD,
      r.2.mem ((c.tc : Thread Cert.AdamBiasPlainIdeal.nD Cert.AdamBiasPlainIdeal.τ).loc Cert.AdamBiasPlainIdeal.main_arg0) = m ((c.tc : Thread Cert.AdamBiasPlainIdeal.nD Cert.AdamBiasPlainIdeal.τ).loc Cert.AdamBiasPlainIdeal.main_arg0)
      ∧ r.2.mem ((c.tc : Thread Cert.AdamBiasPlainIdeal.nD Cert.AdamBiasPlainIdeal.τ).loc Cert.AdamBiasPlainIdeal.main_arg1) = m ((c.tc : Thread Cert.AdamBiasPlainIdeal.nD Cert.AdamBiasPlainIdeal.τ).loc Cert.AdamBiasPlainIdeal.main_arg1)
      ∧ r.2.mem ((c.tc : Thread Cert.AdamBiasPlainIdeal.nD Cert.AdamBiasPlainIdeal.τ).loc Cert.AdamBiasPlainIdeal.main_arg2) = m ((c.tc : Thread Cert.AdamBiasPlainIdeal.nD Cert.AdamBiasPlainIdeal.τ).loc Cert.AdamBiasPlainIdeal.main_arg2)
      ∧ r.2.mem ((c.tc : Thread Cert.AdamBiasPlainIdeal.nD Cert.AdamBiasPlainIdeal.τ).loc Cert.AdamBiasPlainIdeal.main_arg3) = m ((c.tc : Thread Cert.AdamBiasPlainIdeal.nD Cert.AdamBiasPlainIdeal.τ).loc Cert.AdamBiasPlainIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownPlainIdeal [hAdamDownPlainIdeal : Cert.AdamDownPlainIdeal.Facts] : Prop :=
  ∀ (m : (ℓ : Loc Cert.AdamDownPlainIdeal.nD Cert.AdamDownPlainIdeal.τ Cert.AdamDownPlainIdeal.sig) → Buf (Elt Ideal) ℓ) (g : Dev Cert.AdamDownPlainIdeal.nD → PrngReg), Pre_AdamDownPlainIdeal m →
    θ_run (Cert.AdamDownPlainIdeal.defs (F := Ideal)) (onTc (τ := Cert.AdamDownPlainIdeal.τ) (Cert.AdamDownPlainIdeal.main (F := Ideal))) ⟨m, fun _ => 0, g⟩ (fun r => (∀ c : Dev Cert.AdamDownPlainIdeal.nD,
      r.2.mem ((c.tc : Thread Cert.AdamDownPlainIdeal.nD Cert.AdamDownPlainIdeal.τ).loc Cert.AdamDownPlainIdeal.main_arg0) = m ((c.tc : Thread Cert.AdamDownPlainIdeal.nD Cert.AdamDownPlainIdeal.τ).loc Cert.AdamDownPlainIdeal.main_arg0)
      ∧ r.2.mem ((c.tc : Thread Cert.AdamDownPlainIdeal.nD Cert.AdamDownPlainIdeal.τ).loc Cert.AdamDownPlainIdeal.main_arg1) = m ((c.tc : Thread Cert.AdamDownPlainIdeal.nD Cert.AdamDownPlainIdeal.τ).loc Cert.AdamDownPlainIdeal.main_arg1)
      ∧ r.2.mem ((c.tc : Thread Cert.AdamDownPlainIdeal.nD Cert.AdamDownPlainIdeal.τ).loc Cert.AdamDownPlainIdeal.main_arg2) = m ((c.tc : Thread Cert.AdamDownPlainIdeal.nD Cert.AdamDownPlainIdeal.τ).loc Cert.AdamDownPlainIdeal.main_arg2)
      ∧ r.2.mem ((c.tc : Thread Cert.AdamDownPlainIdeal.nD Cert.AdamDownPlainIdeal.τ).loc Cert.AdamDownPlainIdeal.main_arg3) = m ((c.tc : Thread Cert.AdamDownPlainIdeal.nD Cert.AdamDownPlainIdeal.τ).loc Cert.AdamDownPlainIdeal.main_arg3))
      ∧ r.2.sem = fun _ => 0)

def quiescent_AdamFinal [hAdamFinal : Cert.AdamFinal.Facts] : Prop :=
  ∀ (m : (ℓ : Loc Cert.AdamFinal.nD Cert.AdamFinal.τ Cert.AdamFinal.sig) → Buf (Elt Bits) ℓ) (g : Dev Cert.AdamFinal.nD → PrngReg), Pre_AdamFinal m →
    θ_run (Cert.AdamFinal.defs (F := Bits)) (onTc (τ := Cert.AdamFinal.τ) (Cert.AdamFinal.main (F := Bits))) ⟨m, fun _ => 0, g⟩ (fun r => (∀ c : Dev Cert.AdamFinal.nD,
      r.2.mem ((c.tc : Thread Cert.AdamFinal.nD Cert.AdamFinal.τ).loc Cert.AdamFinal.main_arg0) = m ((c.tc : Thread Cert.AdamFinal.nD Cert.AdamFinal.τ).loc Cert.AdamFinal.main_arg0)
      ∧ r.2.mem ((c.tc : Thread Cert.AdamFinal.nD Cert.AdamFinal.τ).loc Cert.AdamFinal.main_arg1) = m ((c.tc : Thread Cert.AdamFinal.nD Cert.AdamFinal.τ).loc Cert.AdamFinal.main_arg1)
      ∧ r.2.mem ((c.tc : Thread Cert.AdamFinal.nD Cert.AdamFinal.τ).loc Cert.AdamFinal.main_arg2) = m ((c.tc : Thread Cert.AdamFinal.nD Cert.AdamFinal.τ).loc Cert.AdamFinal.main_arg2)
      ∧ r.2.mem ((c.tc : Thread Cert.AdamFinal.nD Cert.AdamFinal.τ).loc Cert.AdamFinal.main_arg3) = m ((c.tc : Thread Cert.AdamFinal.nD Cert.AdamFinal.τ).loc Cert.AdamFinal.main_arg3))
      ∧ r.2.sem = fun _ => 0)

def quiescent_AdamFinalIdeal [hAdamFinalIdeal : Cert.AdamFinalIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg), Pre_AdamFinalIdeal m →
    θ_run (Cert.AdamFinalIdeal.defs (F := Ideal)) (onTc (τ := Cert.AdamFinalIdeal.τ) (Cert.AdamFinalIdeal.main (F := Ideal))) ⟨m, fun _ => 0, g⟩ (fun r => (∀ c : Dev Cert.AdamFinalIdeal.nD,
      r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
      ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
      ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
      ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ r.2.sem = fun _ => 0)

def quiescent_AdamFinalPlainIdeal [hAdamFinalPlainIdeal : Cert.AdamFinalPlainIdeal.Facts] : Prop :=
  ∀ (m : (ℓ : Loc Cert.AdamFinalPlainIdeal.nD Cert.AdamFinalPlainIdeal.τ Cert.AdamFinalPlainIdeal.sig) → Buf (Elt Ideal) ℓ) (g : Dev Cert.AdamFinalPlainIdeal.nD → PrngReg), Pre_AdamFinalPlainIdeal m →
    θ_run (Cert.AdamFinalPlainIdeal.defs (F := Ideal)) (onTc (τ := Cert.AdamFinalPlainIdeal.τ) (Cert.AdamFinalPlainIdeal.main (F := Ideal))) ⟨m, fun _ => 0, g⟩ (fun r => (∀ c : Dev Cert.AdamFinalPlainIdeal.nD,
      r.2.mem ((c.tc : Thread Cert.AdamFinalPlainIdeal.nD Cert.AdamFinalPlainIdeal.τ).loc Cert.AdamFinalPlainIdeal.main_arg0) = m ((c.tc : Thread Cert.AdamFinalPlainIdeal.nD Cert.AdamFinalPlainIdeal.τ).loc Cert.AdamFinalPlainIdeal.main_arg0)
      ∧ r.2.mem ((c.tc : Thread Cert.AdamFinalPlainIdeal.nD Cert.AdamFinalPlainIdeal.τ).loc Cert.AdamFinalPlainIdeal.main_arg1) = m ((c.tc : Thread Cert.AdamFinalPlainIdeal.nD Cert.AdamFinalPlainIdeal.τ).loc Cert.AdamFinalPlainIdeal.main_arg1)
      ∧ r.2.mem ((c.tc : Thread Cert.AdamFinalPlainIdeal.nD Cert.AdamFinalPlainIdeal.τ).loc Cert.AdamFinalPlainIdeal.main_arg2) = m ((c.tc : Thread Cert.AdamFinalPlainIdeal.nD Cert.AdamFinalPlainIdeal.τ).loc Cert.AdamFinalPlainIdeal.main_arg2)
      ∧ r.2.mem ((c.tc : Thread Cert.AdamFinalPlainIdeal.nD Cert.AdamFinalPlainIdeal.τ).loc Cert.AdamFinalPlainIdeal.main_arg3) = m ((c.tc : Thread Cert.AdamFinalPlainIdeal.nD Cert.AdamFinalPlainIdeal.τ).loc Cert.AdamFinalPlainIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormPlainIdeal [hNormPlainIdeal : Cert.NormPlainIdeal.Facts] : Prop :=
  ∀ (m : (ℓ : Loc Cert.NormPlainIdeal.nD Cert.NormPlainIdeal.τ Cert.NormPlainIdeal.sig) → Buf (Elt Ideal) ℓ) (g : Dev Cert.NormPlainIdeal.nD → PrngReg), Pre_NormPlainIdeal m →
    θ_run (Cert.NormPlainIdeal.defs (F := Ideal)) (onTc (τ := Cert.NormPlainIdeal.τ) (Cert.NormPlainIdeal.main (F := Ideal))) ⟨m, fun _ => 0, g⟩ (fun r => (∀ c : Dev Cert.NormPlainIdeal.nD,
      r.2.mem ((c.tc : Thread Cert.NormPlainIdeal.nD Cert.NormPlainIdeal.τ).loc Cert.NormPlainIdeal.main_arg0) = m ((c.tc : Thread Cert.NormPlainIdeal.nD Cert.NormPlainIdeal.τ).loc Cert.NormPlainIdeal.main_arg0)
      ∧ r.2.mem ((c.tc : Thread Cert.NormPlainIdeal.nD Cert.NormPlainIdeal.τ).loc Cert.NormPlainIdeal.main_arg1) = m ((c.tc : Thread Cert.NormPlainIdeal.nD Cert.NormPlainIdeal.τ).loc Cert.NormPlainIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdPlainIdeal [hNormBwdPlainIdeal : Cert.NormBwdPlainIdeal.Facts] : Prop :=
  ∀ (m : (ℓ : Loc Cert.NormBwdPlainIdeal.nD Cert.NormBwdPlainIdeal.τ Cert.NormBwdPlainIdeal.sig) → Buf (Elt Ideal) ℓ) (g : Dev Cert.NormBwdPlainIdeal.nD → PrngReg), Pre_NormBwdPlainIdeal m →
    θ_run (Cert.NormBwdPlainIdeal.defs (F := Ideal)) (onTc (τ := Cert.NormBwdPlainIdeal.τ) (Cert.NormBwdPlainIdeal.main (F := Ideal))) ⟨m, fun _ => 0, g⟩ (fun r => (∀ c : Dev Cert.NormBwdPlainIdeal.nD,
      r.2.mem ((c.tc : Thread Cert.NormBwdPlainIdeal.nD Cert.NormBwdPlainIdeal.τ).loc Cert.NormBwdPlainIdeal.main_arg0) = m ((c.tc : Thread Cert.NormBwdPlainIdeal.nD Cert.NormBwdPlainIdeal.τ).loc Cert.NormBwdPlainIdeal.main_arg0)
      ∧ r.2.mem ((c.tc : Thread Cert.NormBwdPlainIdeal.nD Cert.NormBwdPlainIdeal.τ).loc Cert.NormBwdPlainIdeal.main_arg1) = m ((c.tc : Thread Cert.NormBwdPlainIdeal.nD Cert.NormBwdPlainIdeal.τ).loc Cert.NormBwdPlainIdeal.main_arg1)
      ∧ r.2.mem ((c.tc : Thread Cert.NormBwdPlainIdeal.nD Cert.NormBwdPlainIdeal.τ).loc Cert.NormBwdPlainIdeal.main_arg2) = m ((c.tc : Thread Cert.NormBwdPlainIdeal.nD Cert.NormBwdPlainIdeal.τ).loc Cert.NormBwdPlainIdeal.main_arg2)
      ∧ r.2.mem ((c.tc : Thread Cert.NormBwdPlainIdeal.nD Cert.NormBwdPlainIdeal.τ).loc Cert.NormBwdPlainIdeal.main_arg3) = m ((c.tc : Thread Cert.NormBwdPlainIdeal.nD Cert.NormBwdPlainIdeal.τ).loc Cert.NormBwdPlainIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadPlainIdeal [hLossHeadPlainIdeal : Cert.LossHeadPlainIdeal.Facts] : Prop :=
  ∀ (m : (ℓ : Loc Cert.LossHeadPlainIdeal.nD Cert.LossHeadPlainIdeal.τ Cert.LossHeadPlainIdeal.sig) → Buf (Elt Ideal) ℓ) (g : Dev Cert.LossHeadPlainIdeal.nD → PrngReg), Pre_LossHeadPlainIdeal m →
    θ_run (Cert.LossHeadPlainIdeal.defs (F := Ideal)) (onTc (τ := Cert.LossHeadPlainIdeal.τ) (Cert.LossHeadPlainIdeal.main (F := Ideal))) ⟨m, fun _ => 0, g⟩ (fun r => (∀ c : Dev Cert.LossHeadPlainIdeal.nD,
      r.2.mem ((c.tc : Thread Cert.LossHeadPlainIdeal.nD Cert.LossHeadPlainIdeal.τ).loc Cert.LossHeadPlainIdeal.main_arg0) = m ((c.tc : Thread Cert.LossHeadPlainIdeal.nD Cert.LossHeadPlainIdeal.τ).loc Cert.LossHeadPlainIdeal.main_arg0)
      ∧ r.2.mem ((c.tc : Thread Cert.LossHeadPlainIdeal.nD Cert.LossHeadPlainIdeal.τ).loc Cert.LossHeadPlainIdeal.main_arg1) = m ((c.tc : Thread Cert.LossHeadPlainIdeal.nD Cert.LossHeadPlainIdeal.τ).loc Cert.LossHeadPlainIdeal.main_arg1)
      ∧ r.2.mem ((c.tc : Thread Cert.LossHeadPlainIdeal.nD Cert.LossHeadPlainIdeal.τ).loc Cert.LossHeadPlainIdeal.main_arg2) = m ((c.tc : Thread Cert.LossHeadPlainIdeal.nD Cert.LossHeadPlainIdeal.τ).loc Cert.LossHeadPlainIdeal.main_arg2))
      ∧ r.2.sem = fun _ => 0)

def quiescent_EvenDt [hEvenDt : Cert.EvenDt.Facts] : Prop :=
  ∀ (m : (ℓ : Loc Cert.EvenDt.nD Cert.EvenDt.τ Cert.EvenDt.sig) → Buf (Elt Bits) ℓ) (g : Dev Cert.EvenDt.nD → PrngReg), Pre_EvenDt m →
    θ_run (Cert.EvenDt.defs (F := Bits)) (onTc (τ := Cert.EvenDt.τ) (Cert.EvenDt.main (F := Bits))) ⟨m, fun _ => 0, g⟩ (fun r => (∀ c : Dev Cert.EvenDt.nD,
      r.2.mem ((c.tc : Thread Cert.EvenDt.nD Cert.EvenDt.τ).loc Cert.EvenDt.main_arg0) = m ((c.tc : Thread Cert.EvenDt.nD Cert.EvenDt.τ).loc Cert.EvenDt.main_arg0)
      ∧ r.2.mem ((c.tc : Thread Cert.EvenDt.nD Cert.EvenDt.τ).loc Cert.EvenDt.main_arg1) = m ((c.tc : Thread Cert.EvenDt.nD Cert.EvenDt.τ).loc Cert.EvenDt.main_arg1))
      ∧ r.2.sem = fun _ => 0)

def quiescent_EvenDtIdeal [hEvenDtIdeal : Cert.EvenDtIdeal.Facts] : Prop :=
  ∀ (m : (ℓ : Loc Cert.EvenDtIdeal.nD Cert.EvenDtIdeal.τ Cert.EvenDtIdeal.sig) → Buf (Elt Ideal) ℓ) (g : Dev Cert.EvenDtIdeal.nD → PrngReg), Pre_EvenDtIdeal m →
    θ_run (Cert.EvenDtIdeal.defs (F := Ideal)) (onTc (τ := Cert.EvenDtIdeal.τ) (Cert.EvenDtIdeal.main (F := Ideal))) ⟨m, fun _ => 0, g⟩ (fun r => (∀ c : Dev Cert.EvenDtIdeal.nD,
      r.2.mem ((c.tc : Thread Cert.EvenDtIdeal.nD Cert.EvenDtIdeal.τ).loc Cert.EvenDtIdeal.main_arg0) = m ((c.tc : Thread Cert.EvenDtIdeal.nD Cert.EvenDtIdeal.τ).loc Cert.EvenDtIdeal.main_arg0)
      ∧ r.2.mem ((c.tc : Thread Cert.EvenDtIdeal.nD Cert.EvenDtIdeal.τ).loc Cert.EvenDtIdeal.main_arg1) = m ((c.tc : Thread Cert.EvenDtIdeal.nD Cert.EvenDtIdeal.τ).loc Cert.EvenDtIdeal.main_arg1))
      ∧ r.2.sem = fun _ => 0)

def quiescent_EvenDtPlainIdeal [hEvenDtPlainIdeal : Cert.EvenDtPlainIdeal.Facts] : Prop :=
  ∀ (m : (ℓ : Loc Cert.EvenDtPlainIdeal.nD Cert.EvenDtPlainIdeal.τ Cert.EvenDtPlainIdeal.sig) → Buf (Elt Ideal) ℓ) (g : Dev Cert.EvenDtPlainIdeal.nD → PrngReg), Pre_EvenDtPlainIdeal m →
    θ_run (Cert.EvenDtPlainIdeal.defs (F := Ideal)) (onTc (τ := Cert.EvenDtPlainIdeal.τ) (Cert.EvenDtPlainIdeal.main (F := Ideal))) ⟨m, fun _ => 0, g⟩ (fun r => (∀ c : Dev Cert.EvenDtPlainIdeal.nD,
      r.2.mem ((c.tc : Thread Cert.EvenDtPlainIdeal.nD Cert.EvenDtPlainIdeal.τ).loc Cert.EvenDtPlainIdeal.main_arg0) = m ((c.tc : Thread Cert.EvenDtPlainIdeal.nD Cert.EvenDtPlainIdeal.τ).loc Cert.EvenDtPlainIdeal.main_arg0)
      ∧ r.2.mem ((c.tc : Thread Cert.EvenDtPlainIdeal.nD Cert.EvenDtPlainIdeal.τ).loc Cert.EvenDtPlainIdeal.main_arg1) = m ((c.tc : Thread Cert.EvenDtPlainIdeal.nD Cert.EvenDtPlainIdeal.τ).loc Cert.EvenDtPlainIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_GluPlainIdeal [hGluPlainIdeal : Cert.GluPlainIdeal.Facts] : Prop :=
  ∀ (m : (ℓ : Loc Cert.GluPlainIdeal.nD Cert.GluPlainIdeal.τ Cert.GluPlainIdeal.sig) → Buf (Elt Ideal) ℓ) (g : Dev Cert.GluPlainIdeal.nD → PrngReg), Pre_GluPlainIdeal m →
    θ_run (Cert.GluPlainIdeal.defs (F := Ideal)) (onTc (τ := Cert.GluPlainIdeal.τ) (Cert.GluPlainIdeal.main (F := Ideal))) ⟨m, fun _ => 0, g⟩ (fun r => (∀ c : Dev Cert.GluPlainIdeal.nD,
      r.2.mem ((c.tc : Thread Cert.GluPlainIdeal.nD Cert.GluPlainIdeal.τ).loc Cert.GluPlainIdeal.main_arg0) = m ((c.tc : Thread Cert.GluPlainIdeal.nD Cert.GluPlainIdeal.τ).loc Cert.GluPlainIdeal.main_arg0))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ r.2.sem = fun _ => 0)

def quiescent_GluBwdPlainIdeal [hGluBwdPlainIdeal : Cert.GluBwdPlainIdeal.Facts] : Prop :=
  ∀ (m : (ℓ : Loc Cert.GluBwdPlainIdeal.nD Cert.GluBwdPlainIdeal.τ Cert.GluBwdPlainIdeal.sig) → Buf (Elt Ideal) ℓ) (g : Dev Cert.GluBwdPlainIdeal.nD → PrngReg), Pre_GluBwdPlainIdeal m →
    θ_run (Cert.GluBwdPlainIdeal.defs (F := Ideal)) (onTc (τ := Cert.GluBwdPlainIdeal.τ) (Cert.GluBwdPlainIdeal.main (F := Ideal))) ⟨m, fun _ => 0, g⟩ (fun r => (∀ c : Dev Cert.GluBwdPlainIdeal.nD,
      r.2.mem ((c.tc : Thread Cert.GluBwdPlainIdeal.nD Cert.GluBwdPlainIdeal.τ).loc Cert.GluBwdPlainIdeal.main_arg0) = m ((c.tc : Thread Cert.GluBwdPlainIdeal.nD Cert.GluBwdPlainIdeal.τ).loc Cert.GluBwdPlainIdeal.main_arg0)
      ∧ r.2.mem ((c.tc : Thread Cert.GluBwdPlainIdeal.nD Cert.GluBwdPlainIdeal.τ).loc Cert.GluBwdPlainIdeal.main_arg1) = m ((c.tc : Thread Cert.GluBwdPlainIdeal.nD Cert.GluBwdPlainIdeal.τ).loc Cert.GluBwdPlainIdeal.main_arg1))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ r.2.sem = fun _ => 0)

def quiescent_LnPlainIdeal [hLnPlainIdeal : Cert.LnPlainIdeal.Facts] : Prop :=
  ∀ (m : (ℓ : Loc Cert.LnPlainIdeal.nD Cert.LnPlainIdeal.τ Cert.LnPlainIdeal.sig) → Buf (Elt Ideal) ℓ) (g : Dev Cert.LnPlainIdeal.nD → PrngReg), Pre_LnPlainIdeal m →
    θ_run (Cert.LnPlainIdeal.defs (F := Ideal)) (onTc (τ := Cert.LnPlainIdeal.τ) (Cert.LnPlainIdeal.main (F := Ideal))) ⟨m, fun _ => 0, g⟩ (fun r => (∀ c : Dev Cert.LnPlainIdeal.nD,
      r.2.mem ((c.tc : Thread Cert.LnPlainIdeal.nD Cert.LnPlainIdeal.τ).loc Cert.LnPlainIdeal.main_arg0) = m ((c.tc : Thread Cert.LnPlainIdeal.nD Cert.LnPlainIdeal.τ).loc Cert.LnPlainIdeal.main_arg0)
      ∧ r.2.mem ((c.tc : Thread Cert.LnPlainIdeal.nD Cert.LnPlainIdeal.τ).loc Cert.LnPlainIdeal.main_arg1) = m ((c.tc : Thread Cert.LnPlainIdeal.nD Cert.LnPlainIdeal.τ).loc Cert.LnPlainIdeal.main_arg1)
      ∧ r.2.mem ((c.tc : Thread Cert.LnPlainIdeal.nD Cert.LnPlainIdeal.τ).loc Cert.LnPlainIdeal.main_arg2) = m ((c.tc : Thread Cert.LnPlainIdeal.nD Cert.LnPlainIdeal.τ).loc Cert.LnPlainIdeal.main_arg2))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdPlainIdeal [hLnBwdPlainIdeal : Cert.LnBwdPlainIdeal.Facts] : Prop :=
  ∀ (m : (ℓ : Loc Cert.LnBwdPlainIdeal.nD Cert.LnBwdPlainIdeal.τ Cert.LnBwdPlainIdeal.sig) → Buf (Elt Ideal) ℓ) (g : Dev Cert.LnBwdPlainIdeal.nD → PrngReg), Pre_LnBwdPlainIdeal m →
    θ_run (Cert.LnBwdPlainIdeal.defs (F := Ideal)) (onTc (τ := Cert.LnBwdPlainIdeal.τ) (Cert.LnBwdPlainIdeal.main (F := Ideal))) ⟨m, fun _ => 0, g⟩ (fun r => (∀ c : Dev Cert.LnBwdPlainIdeal.nD,
      r.2.mem ((c.tc : Thread Cert.LnBwdPlainIdeal.nD Cert.LnBwdPlainIdeal.τ).loc Cert.LnBwdPlainIdeal.main_arg0) = m ((c.tc : Thread Cert.LnBwdPlainIdeal.nD Cert.LnBwdPlainIdeal.τ).loc Cert.LnBwdPlainIdeal.main_arg0)
      ∧ r.2.mem ((c.tc : Thread Cert.LnBwdPlainIdeal.nD Cert.LnBwdPlainIdeal.τ).loc Cert.LnBwdPlainIdeal.main_arg1) = m ((c.tc : Thread Cert.LnBwdPlainIdeal.nD Cert.LnBwdPlainIdeal.τ).loc Cert.LnBwdPlainIdeal.main_arg1)
      ∧ r.2.mem ((c.tc : Thread Cert.LnBwdPlainIdeal.nD Cert.LnBwdPlainIdeal.τ).loc Cert.LnBwdPlainIdeal.main_arg2) = m ((c.tc : Thread Cert.LnBwdPlainIdeal.nD Cert.LnBwdPlainIdeal.τ).loc Cert.LnBwdPlainIdeal.main_arg2)
      ∧ r.2.mem ((c.tc : Thread Cert.LnBwdPlainIdeal.nD Cert.LnBwdPlainIdeal.τ).loc Cert.LnBwdPlainIdeal.main_arg3) = m ((c.tc : Thread Cert.LnBwdPlainIdeal.nD Cert.LnBwdPlainIdeal.τ).loc Cert.LnBwdPlainIdeal.main_arg3))
      ∧ r.2.sem = fun _ => 0)

def quiescent_S5In [hS5In : Cert.S5In.Facts] : Prop :=
  ∀ (m : (ℓ : Loc Cert.S5In.nD Cert.S5In.τ Cert.S5In.sig) → Buf (Elt Bits) ℓ) (g : Dev Cert.S5In.nD → PrngReg), Pre_S5In m →
    θ_run (Cert.S5In.defs (F := Bits)) (onTc (τ := Cert.S5In.τ) (Cert.S5In.main (F := Bits))) ⟨m, fun _ => 0, g⟩ (fun r => (∀ c : Dev Cert.S5In.nD,
      r.2.mem ((c.tc : Thread Cert.S5In.nD Cert.S5In.τ).loc Cert.S5In.main_arg0) = m ((c.tc : Thread Cert.S5In.nD Cert.S5In.τ).loc Cert.S5In.main_arg0)
      ∧ r.2.mem ((c.tc : Thread Cert.S5In.nD Cert.S5In.τ).loc Cert.S5In.main_arg1) = m ((c.tc : Thread Cert.S5In.nD Cert.S5In.τ).loc Cert.S5In.main_arg1))
      ∧ r.2.sem = fun _ => 0)

def quiescent_S5InIdeal [hS5InIdeal : Cert.S5InIdeal.Facts] : Prop :=
  ∀ (m : (ℓ : Loc Cert.S5InIdeal.nD Cert.S5InIdeal.τ Cert.S5InIdeal.sig) → Buf (Elt Ideal) ℓ) (g : Dev Cert.S5InIdeal.nD → PrngReg), Pre_S5InIdeal m →
    θ_run (Cert.S5InIdeal.defs (F := Ideal)) (onTc (τ := Cert.S5InIdeal.τ) (Cert.S5InIdeal.main (F := Ideal))) ⟨m, fun _ => 0, g⟩ (fun r => (∀ c : Dev Cert.S5InIdeal.nD,
      r.2.mem ((c.tc : Thread Cert.S5InIdeal.nD Cert.S5InIdeal.τ).loc Cert.S5InIdeal.main_arg0) = m ((c.tc : Thread Cert.S5InIdeal.nD Cert.S5InIdeal.τ).loc Cert.S5InIdeal.main_arg0)
      ∧ r.2.mem ((c.tc : Thread Cert.S5InIdeal.nD Cert.S5InIdeal.τ).loc Cert.S5InIdeal.main_arg1) = m ((c.tc : Thread Cert.S5InIdeal.nD Cert.S5InIdeal.τ).loc Cert.S5InIdeal.main_arg1))
      ∧ r.2.sem = fun _ => 0)

def quiescent_S5InPlainIdeal [hS5InPlainIdeal : Cert.S5InPlainIdeal.Facts] : Prop :=
  ∀ (m : (ℓ : Loc Cert.S5InPlainIdeal.nD Cert.S5InPlainIdeal.τ Cert.S5InPlainIdeal.sig) → Buf (Elt Ideal) ℓ) (g : Dev Cert.S5InPlainIdeal.nD → PrngReg), Pre_S5InPlainIdeal m →
    θ_run (Cert.S5InPlainIdeal.defs (F := Ideal)) (onTc (τ := Cert.S5InPlainIdeal.τ) (Cert.S5InPlainIdeal.main (F := Ideal))) ⟨m, fun _ => 0, g⟩ (fun r => (∀ c : Dev Cert.S5InPlainIdeal.nD,
      r.2.mem ((c.tc : Thread Cert.S5InPlainIdeal.nD Cert.S5InPlainIdeal.τ).loc Cert.S5InPlainIdeal.main_arg0) = m ((c.tc : Thread Cert.S5InPlainIdeal.nD Cert.S5InPlainIdeal.τ).loc Cert.S5InPlainIdeal.main_arg0)
      ∧ r.2.mem ((c.tc : Thread Cert.S5InPlainIdeal.nD Cert.S5InPlainIdeal.τ).loc Cert.S5InPlainIdeal.main_arg1) = m ((c.tc : Thread Cert.S5InPlainIdeal.nD Cert.S5InPlainIdeal.τ).loc Cert.S5InPlainIdeal.main_arg1))
      ∧ r.2.sem = fun _ => 0)

def quiescent_S5InDx [hS5InDx : Cert.S5InDx.Facts] : Prop :=
  ∀ (m : (ℓ : Loc Cert.S5InDx.nD Cert.S5InDx.τ Cert.S5InDx.sig) → Buf (Elt Bits) ℓ) (g : Dev Cert.S5InDx.nD → PrngReg), Pre_S5InDx m →
    θ_run (Cert.S5InDx.defs (F := Bits)) (onTc (τ := Cert.S5InDx.τ) (Cert.S5InDx.main (F := Bits))) ⟨m, fun _ => 0, g⟩ (fun r => (∀ c : Dev Cert.S5InDx.nD,
      r.2.mem ((c.tc : Thread Cert.S5InDx.nD Cert.S5InDx.τ).loc Cert.S5InDx.main_arg0) = m ((c.tc : Thread Cert.S5InDx.nD Cert.S5InDx.τ).loc Cert.S5InDx.main_arg0)
      ∧ r.2.mem ((c.tc : Thread Cert.S5InDx.nD Cert.S5InDx.τ).loc Cert.S5InDx.main_arg1) = m ((c.tc : Thread Cert.S5InDx.nD Cert.S5InDx.τ).loc Cert.S5InDx.main_arg1)
      ∧ r.2.mem ((c.tc : Thread Cert.S5InDx.nD Cert.S5InDx.τ).loc Cert.S5InDx.main_arg2) = m ((c.tc : Thread Cert.S5InDx.nD Cert.S5InDx.τ).loc Cert.S5InDx.main_arg2))
      ∧ r.2.sem = fun _ => 0)

def quiescent_S5InDxIdeal [hS5InDxIdeal : Cert.S5InDxIdeal.Facts] : Prop :=
  ∀ (m : (ℓ : Loc Cert.S5InDxIdeal.nD Cert.S5InDxIdeal.τ Cert.S5InDxIdeal.sig) → Buf (Elt Ideal) ℓ) (g : Dev Cert.S5InDxIdeal.nD → PrngReg), Pre_S5InDxIdeal m →
    θ_run (Cert.S5InDxIdeal.defs (F := Ideal)) (onTc (τ := Cert.S5InDxIdeal.τ) (Cert.S5InDxIdeal.main (F := Ideal))) ⟨m, fun _ => 0, g⟩ (fun r => (∀ c : Dev Cert.S5InDxIdeal.nD,
      r.2.mem ((c.tc : Thread Cert.S5InDxIdeal.nD Cert.S5InDxIdeal.τ).loc Cert.S5InDxIdeal.main_arg0) = m ((c.tc : Thread Cert.S5InDxIdeal.nD Cert.S5InDxIdeal.τ).loc Cert.S5InDxIdeal.main_arg0)
      ∧ r.2.mem ((c.tc : Thread Cert.S5InDxIdeal.nD Cert.S5InDxIdeal.τ).loc Cert.S5InDxIdeal.main_arg1) = m ((c.tc : Thread Cert.S5InDxIdeal.nD Cert.S5InDxIdeal.τ).loc Cert.S5InDxIdeal.main_arg1)
      ∧ r.2.mem ((c.tc : Thread Cert.S5InDxIdeal.nD Cert.S5InDxIdeal.τ).loc Cert.S5InDxIdeal.main_arg2) = m ((c.tc : Thread Cert.S5InDxIdeal.nD Cert.S5InDxIdeal.τ).loc Cert.S5InDxIdeal.main_arg2))
      ∧ r.2.sem = fun _ => 0)

def quiescent_S5InDxPlainIdeal [hS5InDxPlainIdeal : Cert.S5InDxPlainIdeal.Facts] : Prop :=
  ∀ (m : (ℓ : Loc Cert.S5InDxPlainIdeal.nD Cert.S5InDxPlainIdeal.τ Cert.S5InDxPlainIdeal.sig) → Buf (Elt Ideal) ℓ) (g : Dev Cert.S5InDxPlainIdeal.nD → PrngReg), Pre_S5InDxPlainIdeal m →
    θ_run (Cert.S5InDxPlainIdeal.defs (F := Ideal)) (onTc (τ := Cert.S5InDxPlainIdeal.τ) (Cert.S5InDxPlainIdeal.main (F := Ideal))) ⟨m, fun _ => 0, g⟩ (fun r => (∀ c : Dev Cert.S5InDxPlainIdeal.nD,
      r.2.mem ((c.tc : Thread Cert.S5InDxPlainIdeal.nD Cert.S5InDxPlainIdeal.τ).loc Cert.S5InDxPlainIdeal.main_arg0) = m ((c.tc : Thread Cert.S5InDxPlainIdeal.nD Cert.S5InDxPlainIdeal.τ).loc Cert.S5InDxPlainIdeal.main_arg0)
      ∧ r.2.mem ((c.tc : Thread Cert.S5InDxPlainIdeal.nD Cert.S5InDxPlainIdeal.τ).loc Cert.S5InDxPlainIdeal.main_arg1) = m ((c.tc : Thread Cert.S5InDxPlainIdeal.nD Cert.S5InDxPlainIdeal.τ).loc Cert.S5InDxPlainIdeal.main_arg1)
      ∧ r.2.mem ((c.tc : Thread Cert.S5InDxPlainIdeal.nD Cert.S5InDxPlainIdeal.τ).loc Cert.S5InDxPlainIdeal.main_arg2) = m ((c.tc : Thread Cert.S5InDxPlainIdeal.nD Cert.S5InDxPlainIdeal.τ).loc Cert.S5InDxPlainIdeal.main_arg2))
      ∧ r.2.sem = fun _ => 0)

def quiescent_S5InDw [hS5InDw : Cert.S5InDw.Facts] : Prop :=
  ∀ (m : (ℓ : Loc Cert.S5InDw.nD Cert.S5InDw.τ Cert.S5InDw.sig) → Buf (Elt Bits) ℓ) (g : Dev Cert.S5InDw.nD → PrngReg), Pre_S5InDw m →
    θ_run (Cert.S5InDw.defs (F := Bits)) (onTc (τ := Cert.S5InDw.τ) (Cert.S5InDw.main (F := Bits))) ⟨m, fun _ => 0, g⟩ (fun r => (∀ c : Dev Cert.S5InDw.nD,
      r.2.mem ((c.tc : Thread Cert.S5InDw.nD Cert.S5InDw.τ).loc Cert.S5InDw.main_arg0) = m ((c.tc : Thread Cert.S5InDw.nD Cert.S5InDw.τ).loc Cert.S5InDw.main_arg0)
      ∧ r.2.mem ((c.tc : Thread Cert.S5InDw.nD Cert.S5InDw.τ).loc Cert.S5InDw.main_arg1) = m ((c.tc : Thread Cert.S5InDw.nD Cert.S5InDw.τ).loc Cert.S5InDw.main_arg1)
      ∧ r.2.mem ((c.tc : Thread Cert.S5InDw.nD Cert.S5InDw.τ).loc Cert.S5InDw.main_arg2) = m ((c.tc : Thread Cert.S5InDw.nD Cert.S5InDw.τ).loc Cert.S5InDw.main_arg2))
      ∧ r.2.sem = fun _ => 0)

def quiescent_S5InDwIdeal [hS5InDwIdeal : Cert.S5InDwIdeal.Facts] : Prop :=
  ∀ (m : (ℓ : Loc Cert.S5InDwIdeal.nD Cert.S5InDwIdeal.τ Cert.S5InDwIdeal.sig) → Buf (Elt Ideal) ℓ) (g : Dev Cert.S5InDwIdeal.nD → PrngReg), Pre_S5InDwIdeal m →
    θ_run (Cert.S5InDwIdeal.defs (F := Ideal)) (onTc (τ := Cert.S5InDwIdeal.τ) (Cert.S5InDwIdeal.main (F := Ideal))) ⟨m, fun _ => 0, g⟩ (fun r => (∀ c : Dev Cert.S5InDwIdeal.nD,
      r.2.mem ((c.tc : Thread Cert.S5InDwIdeal.nD Cert.S5InDwIdeal.τ).loc Cert.S5InDwIdeal.main_arg0) = m ((c.tc : Thread Cert.S5InDwIdeal.nD Cert.S5InDwIdeal.τ).loc Cert.S5InDwIdeal.main_arg0)
      ∧ r.2.mem ((c.tc : Thread Cert.S5InDwIdeal.nD Cert.S5InDwIdeal.τ).loc Cert.S5InDwIdeal.main_arg1) = m ((c.tc : Thread Cert.S5InDwIdeal.nD Cert.S5InDwIdeal.τ).loc Cert.S5InDwIdeal.main_arg1)
      ∧ r.2.mem ((c.tc : Thread Cert.S5InDwIdeal.nD Cert.S5InDwIdeal.τ).loc Cert.S5InDwIdeal.main_arg2) = m ((c.tc : Thread Cert.S5InDwIdeal.nD Cert.S5InDwIdeal.τ).loc Cert.S5InDwIdeal.main_arg2))
      ∧ r.2.sem = fun _ => 0)

def quiescent_S5InDwPlainIdeal [hS5InDwPlainIdeal : Cert.S5InDwPlainIdeal.Facts] : Prop :=
  ∀ (m : (ℓ : Loc Cert.S5InDwPlainIdeal.nD Cert.S5InDwPlainIdeal.τ Cert.S5InDwPlainIdeal.sig) → Buf (Elt Ideal) ℓ) (g : Dev Cert.S5InDwPlainIdeal.nD → PrngReg), Pre_S5InDwPlainIdeal m →
    θ_run (Cert.S5InDwPlainIdeal.defs (F := Ideal)) (onTc (τ := Cert.S5InDwPlainIdeal.τ) (Cert.S5InDwPlainIdeal.main (F := Ideal))) ⟨m, fun _ => 0, g⟩ (fun r => (∀ c : Dev Cert.S5InDwPlainIdeal.nD,
      r.2.mem ((c.tc : Thread Cert.S5InDwPlainIdeal.nD Cert.S5InDwPlainIdeal.τ).loc Cert.S5InDwPlainIdeal.main_arg0) = m ((c.tc : Thread Cert.S5InDwPlainIdeal.nD Cert.S5InDwPlainIdeal.τ).loc Cert.S5InDwPlainIdeal.main_arg0)
      ∧ r.2.mem ((c.tc : Thread Cert.S5InDwPlainIdeal.nD Cert.S5InDwPlainIdeal.τ).loc Cert.S5InDwPlainIdeal.main_arg1) = m ((c.tc : Thread Cert.S5InDwPlainIdeal.nD Cert.S5InDwPlainIdeal.τ).loc Cert.S5InDwPlainIdeal.main_arg1)
      ∧ r.2.mem ((c.tc : Thread Cert.S5InDwPlainIdeal.nD Cert.S5InDwPlainIdeal.τ).loc Cert.S5InDwPlainIdeal.main_arg2) = m ((c.tc : Thread Cert.S5InDwPlainIdeal.nD Cert.S5InDwPlainIdeal.τ).loc Cert.S5InDwPlainIdeal.main_arg2))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2))
      ∧ r.2.sem = fun _ => 0)

def quiescent_S5OutPlainIdeal [hS5OutPlainIdeal : Cert.S5OutPlainIdeal.Facts] : Prop :=
  ∀ (m : (ℓ : Loc Cert.S5OutPlainIdeal.nD Cert.S5OutPlainIdeal.τ Cert.S5OutPlainIdeal.sig) → Buf (Elt Ideal) ℓ) (g : Dev Cert.S5OutPlainIdeal.nD → PrngReg), Pre_S5OutPlainIdeal m →
    θ_run (Cert.S5OutPlainIdeal.defs (F := Ideal)) (onTc (τ := Cert.S5OutPlainIdeal.τ) (Cert.S5OutPlainIdeal.main (F := Ideal))) ⟨m, fun _ => 0, g⟩ (fun r => (∀ c : Dev Cert.S5OutPlainIdeal.nD,
      r.2.mem ((c.tc : Thread Cert.S5OutPlainIdeal.nD Cert.S5OutPlainIdeal.τ).loc Cert.S5OutPlainIdeal.main_arg0) = m ((c.tc : Thread Cert.S5OutPlainIdeal.nD Cert.S5OutPlainIdeal.τ).loc Cert.S5OutPlainIdeal.main_arg0)
      ∧ r.2.mem ((c.tc : Thread Cert.S5OutPlainIdeal.nD Cert.S5OutPlainIdeal.τ).loc Cert.S5OutPlainIdeal.main_arg1) = m ((c.tc : Thread Cert.S5OutPlainIdeal.nD Cert.S5OutPlainIdeal.τ).loc Cert.S5OutPlainIdeal.main_arg1)
      ∧ r.2.mem ((c.tc : Thread Cert.S5OutPlainIdeal.nD Cert.S5OutPlainIdeal.τ).loc Cert.S5OutPlainIdeal.main_arg2) = m ((c.tc : Thread Cert.S5OutPlainIdeal.nD Cert.S5OutPlainIdeal.τ).loc Cert.S5OutPlainIdeal.main_arg2))
      ∧ r.2.sem = fun _ => 0)

def quiescent_S5Post [hS5Post : Cert.S5Post.Facts] : Prop :=
  ∀ (m : (ℓ : Loc Cert.S5Post.nD Cert.S5Post.τ Cert.S5Post.sig) → Buf (Elt Bits) ℓ) (g : Dev Cert.S5Post.nD → PrngReg), Pre_S5Post m →
    θ_run (Cert.S5Post.defs (F := Bits)) (onTc (τ := Cert.S5Post.τ) (Cert.S5Post.main (F := Bits))) ⟨m, fun _ => 0, g⟩ (fun r => (∀ c : Dev Cert.S5Post.nD,
      r.2.mem ((c.tc : Thread Cert.S5Post.nD Cert.S5Post.τ).loc Cert.S5Post.main_arg0) = m ((c.tc : Thread Cert.S5Post.nD Cert.S5Post.τ).loc Cert.S5Post.main_arg0)
      ∧ r.2.mem ((c.tc : Thread Cert.S5Post.nD Cert.S5Post.τ).loc Cert.S5Post.main_arg1) = m ((c.tc : Thread Cert.S5Post.nD Cert.S5Post.τ).loc Cert.S5Post.main_arg1)
      ∧ r.2.mem ((c.tc : Thread Cert.S5Post.nD Cert.S5Post.τ).loc Cert.S5Post.main_arg2) = m ((c.tc : Thread Cert.S5Post.nD Cert.S5Post.τ).loc Cert.S5Post.main_arg2)
      ∧ r.2.mem ((c.tc : Thread Cert.S5Post.nD Cert.S5Post.τ).loc Cert.S5Post.main_arg3) = m ((c.tc : Thread Cert.S5Post.nD Cert.S5Post.τ).loc Cert.S5Post.main_arg3))
      ∧ r.2.sem = fun _ => 0)

def quiescent_S5PostIdeal [hS5PostIdeal : Cert.S5PostIdeal.Facts] : Prop :=
  ∀ (m : (ℓ : Loc Cert.S5PostIdeal.nD Cert.S5PostIdeal.τ Cert.S5PostIdeal.sig) → Buf (Elt Ideal) ℓ) (g : Dev Cert.S5PostIdeal.nD → PrngReg), Pre_S5PostIdeal m →
    θ_run (Cert.S5PostIdeal.defs (F := Ideal)) (onTc (τ := Cert.S5PostIdeal.τ) (Cert.S5PostIdeal.main (F := Ideal))) ⟨m, fun _ => 0, g⟩ (fun r => (∀ c : Dev Cert.S5PostIdeal.nD,
      r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
      ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
      ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
      ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3))
      ∧ r.2.sem = fun _ => 0)

def quiescent_S5PostPlainIdeal [hS5PostPlainIdeal : Cert.S5PostPlainIdeal.Facts] : Prop :=
  ∀ (m : (ℓ : Loc Cert.S5PostPlainIdeal.nD Cert.S5PostPlainIdeal.τ Cert.S5PostPlainIdeal.sig) → Buf (Elt Ideal) ℓ) (g : Dev Cert.S5PostPlainIdeal.nD → PrngReg), Pre_S5PostPlainIdeal m →
    θ_run (Cert.S5PostPlainIdeal.defs (F := Ideal)) (onTc (τ := Cert.S5PostPlainIdeal.τ) (Cert.S5PostPlainIdeal.main (F := Ideal))) ⟨m, fun _ => 0, g⟩ (fun r => (∀ c : Dev Cert.S5PostPlainIdeal.nD,
      r.2.mem ((c.tc : Thread Cert.S5PostPlainIdeal.nD Cert.S5PostPlainIdeal.τ).loc Cert.S5PostPlainIdeal.main_arg0) = m ((c.tc : Thread Cert.S5PostPlainIdeal.nD Cert.S5PostPlainIdeal.τ).loc Cert.S5PostPlainIdeal.main_arg0)
      ∧ r.2.mem ((c.tc : Thread Cert.S5PostPlainIdeal.nD Cert.S5PostPlainIdeal.τ).loc Cert.S5PostPlainIdeal.main_arg1) = m ((c.tc : Thread Cert.S5PostPlainIdeal.nD Cert.S5PostPlainIdeal.τ).loc Cert.S5PostPlainIdeal.main_arg1)
      ∧ r.2.mem ((c.tc : Thread Cert.S5PostPlainIdeal.nD Cert.S5PostPlainIdeal.τ).loc Cert.S5PostPlainIdeal.main_arg2) = m ((c.tc : Thread Cert.S5PostPlainIdeal.nD Cert.S5PostPlainIdeal.τ).loc Cert.S5PostPlainIdeal.main_arg2)
      ∧ r.2.mem ((c.tc : Thread Cert.S5PostPlainIdeal.nD Cert.S5PostPlainIdeal.τ).loc Cert.S5PostPlainIdeal.main_arg3) = m ((c.tc : Thread Cert.S5PostPlainIdeal.nD Cert.S5PostPlainIdeal.τ).loc Cert.S5PostPlainIdeal.main_arg3))
      ∧ r.2.sem = fun _ => 0)

def preserves_Kernel_KernelIdeal : Prop :=
  IdealRules.named_const.Statement Cert.KernelIdeal.κ "decay0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "decay1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "decay2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "decay3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v340_0)) (v1 : (c : Dev Cert.KernelIdeal.nD) → Buf (Elt Ideal) ((c.tc : Thread Cert.KernelIdeal.nD Cert.KernelIdeal.τ).loc Cert.KernelIdeal.main_v340_1)) (v2 : (c : Dev Cert.KernelIdeal.nD) → Buf (Elt Ideal) ((c.tc : Thread Cert.KernelIdeal.nD Cert.KernelIdeal.τ).loc Cert.KernelIdeal.main_v340_2)) (v3 : (c : Dev Cert.KernelIdeal.nD) → Buf (Elt Ideal) ((c.tc : Thread Cert.KernelIdeal.nD Cert.KernelIdeal.τ).loc Cert.KernelIdeal.main_v340_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v340_0) = v0 c
          ∧ r.2.mem ((c.tc : Thread Cert.KernelIdeal.nD Cert.KernelIdeal.τ).loc Cert.KernelIdeal.main_v340_1) = v1 c
          ∧ r.2.mem ((c.tc : Thread Cert.KernelIdeal.nD Cert.KernelIdeal.τ).loc Cert.KernelIdeal.main_v340_2) = v2 c
          ∧ r.2.mem ((c.tc : Thread Cert.KernelIdeal.nD Cert.KernelIdeal.τ).loc Cert.KernelIdeal.main_v340_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v671) = v0 c
          ∧ r.2.mem ((c.tc : Thread Cert.ReferenceIdeal.nD Cert.ReferenceIdeal.τ).loc Cert.ReferenceIdeal.main_v673) = v1 c
          ∧ r.2.mem ((c.tc : Thread Cert.ReferenceIdeal.nD Cert.ReferenceIdeal.τ).loc Cert.ReferenceIdeal.main_v675) = v2 c
          ∧ r.2.mem ((c.tc : Thread Cert.ReferenceIdeal.nD Cert.ReferenceIdeal.τ).loc Cert.ReferenceIdeal.main_v677) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Up_UpIdeal : Prop :=
  True

def algebraic_UpIdeal_UpPlainIdeal [hUpIdeal : Cert.UpIdeal.Facts] [hUpPlainIdeal : Cert.UpPlainIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpPlainIdeal.nD Cert.UpPlainIdeal.τ Cert.UpPlainIdeal.sig) → Buf (Elt Ideal) ℓ) (g' : Dev Cert.UpPlainIdeal.nD → PrngReg), Pre_UpIdeal m →
    (∀ c : Dev Cert.UpIdeal.nD,
      m' ((c.tc : Thread Cert.UpPlainIdeal.nD Cert.UpPlainIdeal.τ).loc Cert.UpPlainIdeal.main_arg0) = m ((c.tc : Thread Cert.UpIdeal.nD Cert.UpIdeal.τ).loc Cert.UpIdeal.main_arg0)
      ∧ m' ((c.tc : Thread Cert.UpPlainIdeal.nD Cert.UpPlainIdeal.τ).loc Cert.UpPlainIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpPlainIdeal.defs (F := Ideal)) (onTc (τ := Cert.UpPlainIdeal.τ) (Cert.UpPlainIdeal.main (F := Ideal))) ⟨m', fun _ => 0, g'⟩ (fun r => ∀ c : Dev Cert.UpPlainIdeal.nD,
          r.2.mem ((c.tc : Thread Cert.UpPlainIdeal.nD Cert.UpPlainIdeal.τ).loc Cert.UpPlainIdeal.main_v3) = v0 c
          ∧ r.2.mem ((c.tc : Thread Cert.UpPlainIdeal.nD Cert.UpPlainIdeal.τ).loc Cert.UpPlainIdeal.main_arg0) = m' ((c.tc : Thread Cert.UpPlainIdeal.nD Cert.UpPlainIdeal.τ).loc Cert.UpPlainIdeal.main_arg0)
          ∧ r.2.mem ((c.tc : Thread Cert.UpPlainIdeal.nD Cert.UpPlainIdeal.τ).loc Cert.UpPlainIdeal.main_arg1) = m' ((c.tc : Thread Cert.UpPlainIdeal.nD Cert.UpPlainIdeal.τ).loc Cert.UpPlainIdeal.main_arg1))

def preserves_UpDx_UpDxIdeal : Prop :=
  True

def algebraic_UpDxIdeal_UpDxPlainIdeal [hUpDxIdeal : Cert.UpDxIdeal.Facts] [hUpDxPlainIdeal : Cert.UpDxPlainIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxPlainIdeal.nD Cert.UpDxPlainIdeal.τ Cert.UpDxPlainIdeal.sig) → Buf (Elt Ideal) ℓ) (g' : Dev Cert.UpDxPlainIdeal.nD → PrngReg), Pre_UpDxIdeal m →
    (∀ c : Dev Cert.UpDxIdeal.nD,
      m' ((c.tc : Thread Cert.UpDxPlainIdeal.nD Cert.UpDxPlainIdeal.τ).loc Cert.UpDxPlainIdeal.main_arg0) = m ((c.tc : Thread Cert.UpDxIdeal.nD Cert.UpDxIdeal.τ).loc Cert.UpDxIdeal.main_arg0)
      ∧ m' ((c.tc : Thread Cert.UpDxPlainIdeal.nD Cert.UpDxPlainIdeal.τ).loc Cert.UpDxPlainIdeal.main_arg1) = m ((c.tc : Thread Cert.UpDxIdeal.nD Cert.UpDxIdeal.τ).loc Cert.UpDxIdeal.main_arg1)
      ∧ m' ((c.tc : Thread Cert.UpDxPlainIdeal.nD Cert.UpDxPlainIdeal.τ).loc Cert.UpDxPlainIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxPlainIdeal.defs (F := Ideal)) (onTc (τ := Cert.UpDxPlainIdeal.τ) (Cert.UpDxPlainIdeal.main (F := Ideal))) ⟨m', fun _ => 0, g'⟩ (fun r => ∀ c : Dev Cert.UpDxPlainIdeal.nD,
          r.2.mem ((c.tc : Thread Cert.UpDxPlainIdeal.nD Cert.UpDxPlainIdeal.τ).loc Cert.UpDxPlainIdeal.main_v6) = v0 c
          ∧ r.2.mem ((c.tc : Thread Cert.UpDxPlainIdeal.nD Cert.UpDxPlainIdeal.τ).loc Cert.UpDxPlainIdeal.main_arg0) = m' ((c.tc : Thread Cert.UpDxPlainIdeal.nD Cert.UpDxPlainIdeal.τ).loc Cert.UpDxPlainIdeal.main_arg0)
          ∧ r.2.mem ((c.tc : Thread Cert.UpDxPlainIdeal.nD Cert.UpDxPlainIdeal.τ).loc Cert.UpDxPlainIdeal.main_arg1) = m' ((c.tc : Thread Cert.UpDxPlainIdeal.nD Cert.UpDxPlainIdeal.τ).loc Cert.UpDxPlainIdeal.main_arg1)
          ∧ r.2.mem ((c.tc : Thread Cert.UpDxPlainIdeal.nD Cert.UpDxPlainIdeal.τ).loc Cert.UpDxPlainIdeal.main_arg2) = m' ((c.tc : Thread Cert.UpDxPlainIdeal.nD Cert.UpDxPlainIdeal.τ).loc Cert.UpDxPlainIdeal.main_arg2))

def preserves_UpDw_UpDwIdeal : Prop :=
  True

def algebraic_UpDwIdeal_UpDwPlainIdeal [hUpDwIdeal : Cert.UpDwIdeal.Facts] [hUpDwPlainIdeal : Cert.UpDwPlainIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwPlainIdeal.nD Cert.UpDwPlainIdeal.τ Cert.UpDwPlainIdeal.sig) → Buf (Elt Ideal) ℓ) (g' : Dev Cert.UpDwPlainIdeal.nD → PrngReg), Pre_UpDwIdeal m →
    (∀ c : Dev Cert.UpDwIdeal.nD,
      m' ((c.tc : Thread Cert.UpDwPlainIdeal.nD Cert.UpDwPlainIdeal.τ).loc Cert.UpDwPlainIdeal.main_arg0) = m ((c.tc : Thread Cert.UpDwIdeal.nD Cert.UpDwIdeal.τ).loc Cert.UpDwIdeal.main_arg0)
      ∧ m' ((c.tc : Thread Cert.UpDwPlainIdeal.nD Cert.UpDwPlainIdeal.τ).loc Cert.UpDwPlainIdeal.main_arg1) = m ((c.tc : Thread Cert.UpDwIdeal.nD Cert.UpDwIdeal.τ).loc Cert.UpDwIdeal.main_arg1)
      ∧ m' ((c.tc : Thread Cert.UpDwPlainIdeal.nD Cert.UpDwPlainIdeal.τ).loc Cert.UpDwPlainIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwPlainIdeal.defs (F := Ideal)) (onTc (τ := Cert.UpDwPlainIdeal.τ) (Cert.UpDwPlainIdeal.main (F := Ideal))) ⟨m', fun _ => 0, g'⟩ (fun r => ∀ c : Dev Cert.UpDwPlainIdeal.nD,
          r.2.mem ((c.tc : Thread Cert.UpDwPlainIdeal.nD Cert.UpDwPlainIdeal.τ).loc Cert.UpDwPlainIdeal.main_v5) = v0 c
          ∧ r.2.mem ((c.tc : Thread Cert.UpDwPlainIdeal.nD Cert.UpDwPlainIdeal.τ).loc Cert.UpDwPlainIdeal.main_arg0) = m' ((c.tc : Thread Cert.UpDwPlainIdeal.nD Cert.UpDwPlainIdeal.τ).loc Cert.UpDwPlainIdeal.main_arg0)
          ∧ r.2.mem ((c.tc : Thread Cert.UpDwPlainIdeal.nD Cert.UpDwPlainIdeal.τ).loc Cert.UpDwPlainIdeal.main_arg1) = m' ((c.tc : Thread Cert.UpDwPlainIdeal.nD Cert.UpDwPlainIdeal.τ).loc Cert.UpDwPlainIdeal.main_arg1)
          ∧ r.2.mem ((c.tc : Thread Cert.UpDwPlainIdeal.nD Cert.UpDwPlainIdeal.τ).loc Cert.UpDwPlainIdeal.main_arg2) = m' ((c.tc : Thread Cert.UpDwPlainIdeal.nD Cert.UpDwPlainIdeal.τ).loc Cert.UpDwPlainIdeal.main_arg2))

def preserves_Down_DownIdeal : Prop :=
  True

def algebraic_DownIdeal_DownPlainIdeal [hDownIdeal : Cert.DownIdeal.Facts] [hDownPlainIdeal : Cert.DownPlainIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownPlainIdeal.nD Cert.DownPlainIdeal.τ Cert.DownPlainIdeal.sig) → Buf (Elt Ideal) ℓ) (g' : Dev Cert.DownPlainIdeal.nD → PrngReg), Pre_DownIdeal m →
    (∀ c : Dev Cert.DownIdeal.nD,
      m' ((c.tc : Thread Cert.DownPlainIdeal.nD Cert.DownPlainIdeal.τ).loc Cert.DownPlainIdeal.main_arg0) = m ((c.tc : Thread Cert.DownIdeal.nD Cert.DownIdeal.τ).loc Cert.DownIdeal.main_arg0)
      ∧ m' ((c.tc : Thread Cert.DownPlainIdeal.nD Cert.DownPlainIdeal.τ).loc Cert.DownPlainIdeal.main_arg1) = m ((c.tc : Thread Cert.DownIdeal.nD Cert.DownIdeal.τ).loc Cert.DownIdeal.main_arg1)
      ∧ m' ((c.tc : Thread Cert.DownPlainIdeal.nD Cert.DownPlainIdeal.τ).loc Cert.DownPlainIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownPlainIdeal.defs (F := Ideal)) (onTc (τ := Cert.DownPlainIdeal.τ) (Cert.DownPlainIdeal.main (F := Ideal))) ⟨m', fun _ => 0, g'⟩ (fun r => ∀ c : Dev Cert.DownPlainIdeal.nD,
          r.2.mem ((c.tc : Thread Cert.DownPlainIdeal.nD Cert.DownPlainIdeal.τ).loc Cert.DownPlainIdeal.main_v3) = v0 c
          ∧ r.2.mem ((c.tc : Thread Cert.DownPlainIdeal.nD Cert.DownPlainIdeal.τ).loc Cert.DownPlainIdeal.main_arg0) = m' ((c.tc : Thread Cert.DownPlainIdeal.nD Cert.DownPlainIdeal.τ).loc Cert.DownPlainIdeal.main_arg0)
          ∧ r.2.mem ((c.tc : Thread Cert.DownPlainIdeal.nD Cert.DownPlainIdeal.τ).loc Cert.DownPlainIdeal.main_arg1) = m' ((c.tc : Thread Cert.DownPlainIdeal.nD Cert.DownPlainIdeal.τ).loc Cert.DownPlainIdeal.main_arg1)
          ∧ r.2.mem ((c.tc : Thread Cert.DownPlainIdeal.nD Cert.DownPlainIdeal.τ).loc Cert.DownPlainIdeal.main_arg2) = m' ((c.tc : Thread Cert.DownPlainIdeal.nD Cert.DownPlainIdeal.τ).loc Cert.DownPlainIdeal.main_arg2))

def preserves_DownDx_DownDxIdeal : Prop :=
  True

def algebraic_DownDxIdeal_DownDxPlainIdeal [hDownDxIdeal : Cert.DownDxIdeal.Facts] [hDownDxPlainIdeal : Cert.DownDxPlainIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxPlainIdeal.nD Cert.DownDxPlainIdeal.τ Cert.DownDxPlainIdeal.sig) → Buf (Elt Ideal) ℓ) (g' : Dev Cert.DownDxPlainIdeal.nD → PrngReg), Pre_DownDxIdeal m →
    (∀ c : Dev Cert.DownDxIdeal.nD,
      m' ((c.tc : Thread Cert.DownDxPlainIdeal.nD Cert.DownDxPlainIdeal.τ).loc Cert.DownDxPlainIdeal.main_arg0) = m ((c.tc : Thread Cert.DownDxIdeal.nD Cert.DownDxIdeal.τ).loc Cert.DownDxIdeal.main_arg0)
      ∧ m' ((c.tc : Thread Cert.DownDxPlainIdeal.nD Cert.DownDxPlainIdeal.τ).loc Cert.DownDxPlainIdeal.main_arg1) = m ((c.tc : Thread Cert.DownDxIdeal.nD Cert.DownDxIdeal.τ).loc Cert.DownDxIdeal.main_arg1)
      ∧ m' ((c.tc : Thread Cert.DownDxPlainIdeal.nD Cert.DownDxPlainIdeal.τ).loc Cert.DownDxPlainIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxPlainIdeal.defs (F := Ideal)) (onTc (τ := Cert.DownDxPlainIdeal.τ) (Cert.DownDxPlainIdeal.main (F := Ideal))) ⟨m', fun _ => 0, g'⟩ (fun r => ∀ c : Dev Cert.DownDxPlainIdeal.nD,
          r.2.mem ((c.tc : Thread Cert.DownDxPlainIdeal.nD Cert.DownDxPlainIdeal.τ).loc Cert.DownDxPlainIdeal.main_v6) = v0 c
          ∧ r.2.mem ((c.tc : Thread Cert.DownDxPlainIdeal.nD Cert.DownDxPlainIdeal.τ).loc Cert.DownDxPlainIdeal.main_arg0) = m' ((c.tc : Thread Cert.DownDxPlainIdeal.nD Cert.DownDxPlainIdeal.τ).loc Cert.DownDxPlainIdeal.main_arg0)
          ∧ r.2.mem ((c.tc : Thread Cert.DownDxPlainIdeal.nD Cert.DownDxPlainIdeal.τ).loc Cert.DownDxPlainIdeal.main_arg1) = m' ((c.tc : Thread Cert.DownDxPlainIdeal.nD Cert.DownDxPlainIdeal.τ).loc Cert.DownDxPlainIdeal.main_arg1)
          ∧ r.2.mem ((c.tc : Thread Cert.DownDxPlainIdeal.nD Cert.DownDxPlainIdeal.τ).loc Cert.DownDxPlainIdeal.main_arg2) = m' ((c.tc : Thread Cert.DownDxPlainIdeal.nD Cert.DownDxPlainIdeal.τ).loc Cert.DownDxPlainIdeal.main_arg2))

def preserves_DownDw_DownDwIdeal : Prop :=
  True

def algebraic_DownDwIdeal_DownDwPlainIdeal [hDownDwIdeal : Cert.DownDwIdeal.Facts] [hDownDwPlainIdeal : Cert.DownDwPlainIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwPlainIdeal.nD Cert.DownDwPlainIdeal.τ Cert.DownDwPlainIdeal.sig) → Buf (Elt Ideal) ℓ) (g' : Dev Cert.DownDwPlainIdeal.nD → PrngReg), Pre_DownDwIdeal m →
    (∀ c : Dev Cert.DownDwIdeal.nD,
      m' ((c.tc : Thread Cert.DownDwPlainIdeal.nD Cert.DownDwPlainIdeal.τ).loc Cert.DownDwPlainIdeal.main_arg0) = m ((c.tc : Thread Cert.DownDwIdeal.nD Cert.DownDwIdeal.τ).loc Cert.DownDwIdeal.main_arg0)
      ∧ m' ((c.tc : Thread Cert.DownDwPlainIdeal.nD Cert.DownDwPlainIdeal.τ).loc Cert.DownDwPlainIdeal.main_arg1) = m ((c.tc : Thread Cert.DownDwIdeal.nD Cert.DownDwIdeal.τ).loc Cert.DownDwIdeal.main_arg1)
      ∧ m' ((c.tc : Thread Cert.DownDwPlainIdeal.nD Cert.DownDwPlainIdeal.τ).loc Cert.DownDwPlainIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwPlainIdeal.defs (F := Ideal)) (onTc (τ := Cert.DownDwPlainIdeal.τ) (Cert.DownDwPlainIdeal.main (F := Ideal))) ⟨m', fun _ => 0, g'⟩ (fun r => ∀ c : Dev Cert.DownDwPlainIdeal.nD,
          r.2.mem ((c.tc : Thread Cert.DownDwPlainIdeal.nD Cert.DownDwPlainIdeal.τ).loc Cert.DownDwPlainIdeal.main_v4) = v0 c
          ∧ r.2.mem ((c.tc : Thread Cert.DownDwPlainIdeal.nD Cert.DownDwPlainIdeal.τ).loc Cert.DownDwPlainIdeal.main_arg0) = m' ((c.tc : Thread Cert.DownDwPlainIdeal.nD Cert.DownDwPlainIdeal.τ).loc Cert.DownDwPlainIdeal.main_arg0)
          ∧ r.2.mem ((c.tc : Thread Cert.DownDwPlainIdeal.nD Cert.DownDwPlainIdeal.τ).loc Cert.DownDwPlainIdeal.main_arg1) = m' ((c.tc : Thread Cert.DownDwPlainIdeal.nD Cert.DownDwPlainIdeal.τ).loc Cert.DownDwPlainIdeal.main_arg1)
          ∧ r.2.mem ((c.tc : Thread Cert.DownDwPlainIdeal.nD Cert.DownDwPlainIdeal.τ).loc Cert.DownDwPlainIdeal.main_arg2) = m' ((c.tc : Thread Cert.DownDwPlainIdeal.nD Cert.DownDwPlainIdeal.τ).loc Cert.DownDwPlainIdeal.main_arg2))

def preserves_EvenIn_EvenInIdeal : Prop :=
  True

def algebraic_EvenInIdeal_EvenInPlainIdeal [hEvenInIdeal : Cert.EvenInIdeal.Facts] [hEvenInPlainIdeal : Cert.EvenInPlainIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInPlainIdeal.nD Cert.EvenInPlainIdeal.τ Cert.EvenInPlainIdeal.sig) → Buf (Elt Ideal) ℓ) (g' : Dev Cert.EvenInPlainIdeal.nD → PrngReg), Pre_EvenInIdeal m →
    (∀ c : Dev Cert.EvenInIdeal.nD,
      m' ((c.tc : Thread Cert.EvenInPlainIdeal.nD Cert.EvenInPlainIdeal.τ).loc Cert.EvenInPlainIdeal.main_arg0) = m ((c.tc : Thread Cert.EvenInIdeal.nD Cert.EvenInIdeal.τ).loc Cert.EvenInIdeal.main_arg0)
      ∧ m' ((c.tc : Thread Cert.EvenInPlainIdeal.nD Cert.EvenInPlainIdeal.τ).loc Cert.EvenInPlainIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v0)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInPlainIdeal.defs (F := Ideal)) (onTc (τ := Cert.EvenInPlainIdeal.τ) (Cert.EvenInPlainIdeal.main (F := Ideal))) ⟨m', fun _ => 0, g'⟩ (fun r => ∀ c : Dev Cert.EvenInPlainIdeal.nD,
          r.2.mem ((c.tc : Thread Cert.EvenInPlainIdeal.nD Cert.EvenInPlainIdeal.τ).loc Cert.EvenInPlainIdeal.main_v3) = v0 c
          ∧ r.2.mem ((c.tc : Thread Cert.EvenInPlainIdeal.nD Cert.EvenInPlainIdeal.τ).loc Cert.EvenInPlainIdeal.main_arg0) = m' ((c.tc : Thread Cert.EvenInPlainIdeal.nD Cert.EvenInPlainIdeal.τ).loc Cert.EvenInPlainIdeal.main_arg0)
          ∧ r.2.mem ((c.tc : Thread Cert.EvenInPlainIdeal.nD Cert.EvenInPlainIdeal.τ).loc Cert.EvenInPlainIdeal.main_arg1) = m' ((c.tc : Thread Cert.EvenInPlainIdeal.nD Cert.EvenInPlainIdeal.τ).loc Cert.EvenInPlainIdeal.main_arg1))

def preserves_EvenInDx_EvenInDxIdeal : Prop :=
  True

def algebraic_EvenInDxIdeal_EvenInDxPlainIdeal [hEvenInDxIdeal : Cert.EvenInDxIdeal.Facts] [hEvenInDxPlainIdeal : Cert.EvenInDxPlainIdeal.Facts] : Prop :=
  ∀ (m : (ℓ : Loc Cert.EvenInDxIdeal.nD Cert.EvenInDxIdeal.τ Cert.EvenInDxIdeal.sig) → Buf (Elt Ideal) ℓ) (g : Dev Cert.EvenInDxIdeal.nD → PrngReg)
    (m' : (ℓ : Loc Cert.EvenInDxPlainIdeal.nD Cert.EvenInDxPlainIdeal.τ Cert.EvenInDxPlainIdeal.sig) → Buf (Elt Ideal) ℓ) (g' : Dev Cert.EvenInDxPlainIdeal.nD → PrngReg), Pre_EvenInDxIdeal m →
    (∀ c : Dev Cert.EvenInDxIdeal.nD,
      m' ((c.tc : Thread Cert.EvenInDxPlainIdeal.nD Cert.EvenInDxPlainIdeal.τ).loc Cert.EvenInDxPlainIdeal.main_arg0) = m ((c.tc : Thread Cert.EvenInDxIdeal.nD Cert.EvenInDxIdeal.τ).loc Cert.EvenInDxIdeal.main_arg0)
      ∧ m' ((c.tc : Thread Cert.EvenInDxPlainIdeal.nD Cert.EvenInDxPlainIdeal.τ).loc Cert.EvenInDxPlainIdeal.main_arg1) = m ((c.tc : Thread Cert.EvenInDxIdeal.nD Cert.EvenInDxIdeal.τ).loc Cert.EvenInDxIdeal.main_arg1)
      ∧ m' ((c.tc : Thread Cert.EvenInDxPlainIdeal.nD Cert.EvenInDxPlainIdeal.τ).loc Cert.EvenInDxPlainIdeal.main_arg2) = m ((c.tc : Thread Cert.EvenInDxIdeal.nD Cert.EvenInDxIdeal.τ).loc Cert.EvenInDxIdeal.main_arg2)) →
    ∃ (v0 : (c : Dev Cert.EvenInDxIdeal.nD) → Buf (Elt Ideal) ((c.tc : Thread Cert.EvenInDxIdeal.nD Cert.EvenInDxIdeal.τ).loc Cert.EvenInDxIdeal.main_v0)),
      θ_run (Cert.EvenInDxIdeal.defs (F := Ideal)) (onTc (τ := Cert.EvenInDxIdeal.τ) (Cert.EvenInDxIdeal.main (F := Ideal))) ⟨m, fun _ => 0, g⟩ (fun r => ∀ c : Dev Cert.EvenInDxIdeal.nD,
          r.2.mem ((c.tc : Thread Cert.EvenInDxIdeal.nD Cert.EvenInDxIdeal.τ).loc Cert.EvenInDxIdeal.main_v0) = v0 c
          ∧ r.2.mem ((c.tc : Thread Cert.EvenInDxIdeal.nD Cert.EvenInDxIdeal.τ).loc Cert.EvenInDxIdeal.main_arg0) = m ((c.tc : Thread Cert.EvenInDxIdeal.nD Cert.EvenInDxIdeal.τ).loc Cert.EvenInDxIdeal.main_arg0)
          ∧ r.2.mem ((c.tc : Thread Cert.EvenInDxIdeal.nD Cert.EvenInDxIdeal.τ).loc Cert.EvenInDxIdeal.main_arg1) = m ((c.tc : Thread Cert.EvenInDxIdeal.nD Cert.EvenInDxIdeal.τ).loc Cert.EvenInDxIdeal.main_arg1)
          ∧ r.2.mem ((c.tc : Thread Cert.EvenInDxIdeal.nD Cert.EvenInDxIdeal.τ).loc Cert.EvenInDxIdeal.main_arg2) = m ((c.tc : Thread Cert.EvenInDxIdeal.nD Cert.EvenInDxIdeal.τ).loc Cert.EvenInDxIdeal.main_arg2))
      ∧ θ_run (Cert.EvenInDxPlainIdeal.defs (F := Ideal)) (onTc (τ := Cert.EvenInDxPlainIdeal.τ) (Cert.EvenInDxPlainIdeal.main (F := Ideal))) ⟨m', fun _ => 0, g'⟩ (fun r => ∀ c : Dev Cert.EvenInDxPlainIdeal.nD,
          r.2.mem ((c.tc : Thread Cert.EvenInDxPlainIdeal.nD Cert.EvenInDxPlainIdeal.τ).loc Cert.EvenInDxPlainIdeal.main_v6) = v0 c
          ∧ r.2.mem ((c.tc : Thread Cert.EvenInDxPlainIdeal.nD Cert.EvenInDxPlainIdeal.τ).loc Cert.EvenInDxPlainIdeal.main_arg0) = m' ((c.tc : Thread Cert.EvenInDxPlainIdeal.nD Cert.EvenInDxPlainIdeal.τ).loc Cert.EvenInDxPlainIdeal.main_arg0)
          ∧ r.2.mem ((c.tc : Thread Cert.EvenInDxPlainIdeal.nD Cert.EvenInDxPlainIdeal.τ).loc Cert.EvenInDxPlainIdeal.main_arg1) = m' ((c.tc : Thread Cert.EvenInDxPlainIdeal.nD Cert.EvenInDxPlainIdeal.τ).loc Cert.EvenInDxPlainIdeal.main_arg1)
          ∧ r.2.mem ((c.tc : Thread Cert.EvenInDxPlainIdeal.nD Cert.EvenInDxPlainIdeal.τ).loc Cert.EvenInDxPlainIdeal.main_arg2) = m' ((c.tc : Thread Cert.EvenInDxPlainIdeal.nD Cert.EvenInDxPlainIdeal.τ).loc Cert.EvenInDxPlainIdeal.main_arg2))

def preserves_EvenInDw_EvenInDwIdeal : Prop :=
  True

def algebraic_EvenInDwIdeal_EvenInDwPlainIdeal [hEvenInDwIdeal : Cert.EvenInDwIdeal.Facts] [hEvenInDwPlainIdeal : Cert.EvenInDwPlainIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg)
    (m' : (ℓ : Loc Cert.EvenInDwPlainIdeal.nD Cert.EvenInDwPlainIdeal.τ Cert.EvenInDwPlainIdeal.sig) → Buf (Elt Ideal) ℓ) (g' : Dev Cert.EvenInDwPlainIdeal.nD → PrngReg), Pre_EvenInDwIdeal m →
    (∀ c : Dev Cert.EvenInDwIdeal.nD,
      m' ((c.tc : Thread Cert.EvenInDwPlainIdeal.nD Cert.EvenInDwPlainIdeal.τ).loc Cert.EvenInDwPlainIdeal.main_arg0) = m ((c.tc : Thread Cert.EvenInDwIdeal.nD Cert.EvenInDwIdeal.τ).loc Cert.EvenInDwIdeal.main_arg0)
      ∧ m' ((c.tc : Thread Cert.EvenInDwPlainIdeal.nD Cert.EvenInDwPlainIdeal.τ).loc Cert.EvenInDwPlainIdeal.main_arg1) = m ((c.tc : Thread Cert.EvenInDwIdeal.nD Cert.EvenInDwIdeal.τ).loc Cert.EvenInDwIdeal.main_arg1)
      ∧ m' ((c.tc : Thread Cert.EvenInDwPlainIdeal.nD Cert.EvenInDwPlainIdeal.τ).loc Cert.EvenInDwPlainIdeal.main_arg2) = m ((c.tc : Thread Cert.EvenInDwIdeal.nD Cert.EvenInDwIdeal.τ).loc Cert.EvenInDwIdeal.main_arg2)) →
    ∃ (v0 : (c : Dev Cert.EvenInDwIdeal.nD) → Buf (Elt Ideal) ((c.tc : Thread Cert.EvenInDwIdeal.nD Cert.EvenInDwIdeal.τ).loc Cert.EvenInDwIdeal.main_v0)),
      θ_run (Cert.EvenInDwIdeal.defs (F := Ideal)) (onTc (τ := Cert.EvenInDwIdeal.τ) (Cert.EvenInDwIdeal.main (F := Ideal))) ⟨m, fun _ => 0, g⟩ (fun r => ∀ c : Dev Cert.EvenInDwIdeal.nD,
          r.2.mem ((c.tc : Thread Cert.EvenInDwIdeal.nD Cert.EvenInDwIdeal.τ).loc Cert.EvenInDwIdeal.main_v0) = v0 c
          ∧ r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
          ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1)
          ∧ r.2.mem ((c.tc : Thread Cert.EvenInDwIdeal.nD Cert.EvenInDwIdeal.τ).loc Cert.EvenInDwIdeal.main_arg2) = m ((c.tc : Thread Cert.EvenInDwIdeal.nD Cert.EvenInDwIdeal.τ).loc Cert.EvenInDwIdeal.main_arg2))
      ∧ θ_run (Cert.EvenInDwPlainIdeal.defs (F := Ideal)) (onTc (τ := Cert.EvenInDwPlainIdeal.τ) (Cert.EvenInDwPlainIdeal.main (F := Ideal))) ⟨m', fun _ => 0, g'⟩ (fun r => ∀ c : Dev Cert.EvenInDwPlainIdeal.nD,
          r.2.mem ((c.tc : Thread Cert.EvenInDwPlainIdeal.nD Cert.EvenInDwPlainIdeal.τ).loc Cert.EvenInDwPlainIdeal.main_v5) = v0 c
          ∧ r.2.mem ((c.tc : Thread Cert.EvenInDwPlainIdeal.nD Cert.EvenInDwPlainIdeal.τ).loc Cert.EvenInDwPlainIdeal.main_arg0) = m' ((c.tc : Thread Cert.EvenInDwPlainIdeal.nD Cert.EvenInDwPlainIdeal.τ).loc Cert.EvenInDwPlainIdeal.main_arg0)
          ∧ r.2.mem ((c.tc : Thread Cert.EvenInDwPlainIdeal.nD Cert.EvenInDwPlainIdeal.τ).loc Cert.EvenInDwPlainIdeal.main_arg1) = m' ((c.tc : Thread Cert.EvenInDwPlainIdeal.nD Cert.EvenInDwPlainIdeal.τ).loc Cert.EvenInDwPlainIdeal.main_arg1)
          ∧ r.2.mem ((c.tc : Thread Cert.EvenInDwPlainIdeal.nD Cert.EvenInDwPlainIdeal.τ).loc Cert.EvenInDwPlainIdeal.main_arg2) = m' ((c.tc : Thread Cert.EvenInDwPlainIdeal.nD Cert.EvenInDwPlainIdeal.τ).loc Cert.EvenInDwPlainIdeal.main_arg2))

def preserves_EvenOut_EvenOutIdeal : Prop :=
  True

def algebraic_EvenOutIdeal_EvenOutPlainIdeal [hEvenOutIdeal : Cert.EvenOutIdeal.Facts] [hEvenOutPlainIdeal : Cert.EvenOutPlainIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutPlainIdeal.nD Cert.EvenOutPlainIdeal.τ Cert.EvenOutPlainIdeal.sig) → Buf (Elt Ideal) ℓ) (g' : Dev Cert.EvenOutPlainIdeal.nD → PrngReg), Pre_EvenOutIdeal m →
    (∀ c : Dev Cert.EvenOutIdeal.nD,
      m' ((c.tc : Thread Cert.EvenOutPlainIdeal.nD Cert.EvenOutPlainIdeal.τ).loc Cert.EvenOutPlainIdeal.main_arg0) = m ((c.tc : Thread Cert.EvenOutIdeal.nD Cert.EvenOutIdeal.τ).loc Cert.EvenOutIdeal.main_arg0)
      ∧ m' ((c.tc : Thread Cert.EvenOutPlainIdeal.nD Cert.EvenOutPlainIdeal.τ).loc Cert.EvenOutPlainIdeal.main_arg1) = m ((c.tc : Thread Cert.EvenOutIdeal.nD Cert.EvenOutIdeal.τ).loc Cert.EvenOutIdeal.main_arg1)
      ∧ m' ((c.tc : Thread Cert.EvenOutPlainIdeal.nD Cert.EvenOutPlainIdeal.τ).loc Cert.EvenOutPlainIdeal.main_arg2) = m ((c.tc : Thread Cert.EvenOutIdeal.nD Cert.EvenOutIdeal.τ).loc Cert.EvenOutIdeal.main_arg2)) →
    ∃ (v0 : (c : Dev Cert.EvenOutIdeal.nD) → Buf (Elt Ideal) ((c.tc : Thread Cert.EvenOutIdeal.nD Cert.EvenOutIdeal.τ).loc Cert.EvenOutIdeal.main_v0)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v0) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2))
      ∧ θ_run (Cert.EvenOutPlainIdeal.defs (F := Ideal)) (onTc (τ := Cert.EvenOutPlainIdeal.τ) (Cert.EvenOutPlainIdeal.main (F := Ideal))) ⟨m', fun _ => 0, g'⟩ (fun r => ∀ c : Dev Cert.EvenOutPlainIdeal.nD,
          r.2.mem ((c.tc : Thread Cert.EvenOutPlainIdeal.nD Cert.EvenOutPlainIdeal.τ).loc Cert.EvenOutPlainIdeal.main_v3) = v0 c
          ∧ r.2.mem ((c.tc : Thread Cert.EvenOutPlainIdeal.nD Cert.EvenOutPlainIdeal.τ).loc Cert.EvenOutPlainIdeal.main_arg0) = m' ((c.tc : Thread Cert.EvenOutPlainIdeal.nD Cert.EvenOutPlainIdeal.τ).loc Cert.EvenOutPlainIdeal.main_arg0)
          ∧ r.2.mem ((c.tc : Thread Cert.EvenOutPlainIdeal.nD Cert.EvenOutPlainIdeal.τ).loc Cert.EvenOutPlainIdeal.main_arg1) = m' ((c.tc : Thread Cert.EvenOutPlainIdeal.nD Cert.EvenOutPlainIdeal.τ).loc Cert.EvenOutPlainIdeal.main_arg1)
          ∧ r.2.mem ((c.tc : Thread Cert.EvenOutPlainIdeal.nD Cert.EvenOutPlainIdeal.τ).loc Cert.EvenOutPlainIdeal.main_arg2) = m' ((c.tc : Thread Cert.EvenOutPlainIdeal.nD Cert.EvenOutPlainIdeal.τ).loc Cert.EvenOutPlainIdeal.main_arg2))

def preserves_EvenOutDx_EvenOutDxIdeal : Prop :=
  True

def algebraic_EvenOutDxIdeal_EvenOutDxPlainIdeal [hEvenOutDxIdeal : Cert.EvenOutDxIdeal.Facts] [hEvenOutDxPlainIdeal : Cert.EvenOutDxPlainIdeal.Facts] : Prop :=
  ∀ (m : (ℓ : Loc Cert.EvenOutDxIdeal.nD Cert.EvenOutDxIdeal.τ Cert.EvenOutDxIdeal.sig) → Buf (Elt Ideal) ℓ) (g : Dev Cert.EvenOutDxIdeal.nD → PrngReg)
    (m' : (ℓ : Loc Cert.EvenOutDxPlainIdeal.nD Cert.EvenOutDxPlainIdeal.τ Cert.EvenOutDxPlainIdeal.sig) → Buf (Elt Ideal) ℓ) (g' : Dev Cert.EvenOutDxPlainIdeal.nD → PrngReg), Pre_EvenOutDxIdeal m →
    (∀ c : Dev Cert.EvenOutDxIdeal.nD,
      m' ((c.tc : Thread Cert.EvenOutDxPlainIdeal.nD Cert.EvenOutDxPlainIdeal.τ).loc Cert.EvenOutDxPlainIdeal.main_arg0) = m ((c.tc : Thread Cert.EvenOutDxIdeal.nD Cert.EvenOutDxIdeal.τ).loc Cert.EvenOutDxIdeal.main_arg0)
      ∧ m' ((c.tc : Thread Cert.EvenOutDxPlainIdeal.nD Cert.EvenOutDxPlainIdeal.τ).loc Cert.EvenOutDxPlainIdeal.main_arg1) = m ((c.tc : Thread Cert.EvenOutDxIdeal.nD Cert.EvenOutDxIdeal.τ).loc Cert.EvenOutDxIdeal.main_arg1)
      ∧ m' ((c.tc : Thread Cert.EvenOutDxPlainIdeal.nD Cert.EvenOutDxPlainIdeal.τ).loc Cert.EvenOutDxPlainIdeal.main_arg2) = m ((c.tc : Thread Cert.EvenOutDxIdeal.nD Cert.EvenOutDxIdeal.τ).loc Cert.EvenOutDxIdeal.main_arg2)) →
    ∃ (v0 : (c : Dev Cert.EvenOutDxIdeal.nD) → Buf (Elt Ideal) ((c.tc : Thread Cert.EvenOutDxIdeal.nD Cert.EvenOutDxIdeal.τ).loc Cert.EvenOutDxIdeal.main_v0)),
      θ_run (Cert.EvenOutDxIdeal.defs (F := Ideal)) (onTc (τ := Cert.EvenOutDxIdeal.τ) (Cert.EvenOutDxIdeal.main (F := Ideal))) ⟨m, fun _ => 0, g⟩ (fun r => ∀ c : Dev Cert.EvenOutDxIdeal.nD,
          r.2.mem ((c.tc : Thread Cert.EvenOutDxIdeal.nD Cert.EvenOutDxIdeal.τ).loc Cert.EvenOutDxIdeal.main_v0) = v0 c
          ∧ r.2.mem ((c.tc : Thread Cert.EvenOutDxIdeal.nD Cert.EvenOutDxIdeal.τ).loc Cert.EvenOutDxIdeal.main_arg0) = m ((c.tc : Thread Cert.EvenOutDxIdeal.nD Cert.EvenOutDxIdeal.τ).loc Cert.EvenOutDxIdeal.main_arg0)
          ∧ r.2.mem ((c.tc : Thread Cert.EvenOutDxIdeal.nD Cert.EvenOutDxIdeal.τ).loc Cert.EvenOutDxIdeal.main_arg1) = m ((c.tc : Thread Cert.EvenOutDxIdeal.nD Cert.EvenOutDxIdeal.τ).loc Cert.EvenOutDxIdeal.main_arg1)
          ∧ r.2.mem ((c.tc : Thread Cert.EvenOutDxIdeal.nD Cert.EvenOutDxIdeal.τ).loc Cert.EvenOutDxIdeal.main_arg2) = m ((c.tc : Thread Cert.EvenOutDxIdeal.nD Cert.EvenOutDxIdeal.τ).loc Cert.EvenOutDxIdeal.main_arg2))
      ∧ θ_run (Cert.EvenOutDxPlainIdeal.defs (F := Ideal)) (onTc (τ := Cert.EvenOutDxPlainIdeal.τ) (Cert.EvenOutDxPlainIdeal.main (F := Ideal))) ⟨m', fun _ => 0, g'⟩ (fun r => ∀ c : Dev Cert.EvenOutDxPlainIdeal.nD,
          r.2.mem ((c.tc : Thread Cert.EvenOutDxPlainIdeal.nD Cert.EvenOutDxPlainIdeal.τ).loc Cert.EvenOutDxPlainIdeal.main_v6) = v0 c
          ∧ r.2.mem ((c.tc : Thread Cert.EvenOutDxPlainIdeal.nD Cert.EvenOutDxPlainIdeal.τ).loc Cert.EvenOutDxPlainIdeal.main_arg0) = m' ((c.tc : Thread Cert.EvenOutDxPlainIdeal.nD Cert.EvenOutDxPlainIdeal.τ).loc Cert.EvenOutDxPlainIdeal.main_arg0)
          ∧ r.2.mem ((c.tc : Thread Cert.EvenOutDxPlainIdeal.nD Cert.EvenOutDxPlainIdeal.τ).loc Cert.EvenOutDxPlainIdeal.main_arg1) = m' ((c.tc : Thread Cert.EvenOutDxPlainIdeal.nD Cert.EvenOutDxPlainIdeal.τ).loc Cert.EvenOutDxPlainIdeal.main_arg1)
          ∧ r.2.mem ((c.tc : Thread Cert.EvenOutDxPlainIdeal.nD Cert.EvenOutDxPlainIdeal.τ).loc Cert.EvenOutDxPlainIdeal.main_arg2) = m' ((c.tc : Thread Cert.EvenOutDxPlainIdeal.nD Cert.EvenOutDxPlainIdeal.τ).loc Cert.EvenOutDxPlainIdeal.main_arg2))

def preserves_EvenOutDw_EvenOutDwIdeal : Prop :=
  True

def algebraic_EvenOutDwIdeal_EvenOutDwPlainIdeal [hEvenOutDwIdeal : Cert.EvenOutDwIdeal.Facts] [hEvenOutDwPlainIdeal : Cert.EvenOutDwPlainIdeal.Facts] : Prop :=
  ∀ (m : (ℓ : Loc Cert.EvenOutDwIdeal.nD Cert.EvenOutDwIdeal.τ Cert.EvenOutDwIdeal.sig) → Buf (Elt Ideal) ℓ) (g : Dev Cert.EvenOutDwIdeal.nD → PrngReg)
    (m' : (ℓ : Loc Cert.EvenOutDwPlainIdeal.nD Cert.EvenOutDwPlainIdeal.τ Cert.EvenOutDwPlainIdeal.sig) → Buf (Elt Ideal) ℓ) (g' : Dev Cert.EvenOutDwPlainIdeal.nD → PrngReg), Pre_EvenOutDwIdeal m →
    (∀ c : Dev Cert.EvenOutDwIdeal.nD,
      m' ((c.tc : Thread Cert.EvenOutDwPlainIdeal.nD Cert.EvenOutDwPlainIdeal.τ).loc Cert.EvenOutDwPlainIdeal.main_arg0) = m ((c.tc : Thread Cert.EvenOutDwIdeal.nD Cert.EvenOutDwIdeal.τ).loc Cert.EvenOutDwIdeal.main_arg0)
      ∧ m' ((c.tc : Thread Cert.EvenOutDwPlainIdeal.nD Cert.EvenOutDwPlainIdeal.τ).loc Cert.EvenOutDwPlainIdeal.main_arg1) = m ((c.tc : Thread Cert.EvenOutDwIdeal.nD Cert.EvenOutDwIdeal.τ).loc Cert.EvenOutDwIdeal.main_arg1)
      ∧ m' ((c.tc : Thread Cert.EvenOutDwPlainIdeal.nD Cert.EvenOutDwPlainIdeal.τ).loc Cert.EvenOutDwPlainIdeal.main_arg2) = m ((c.tc : Thread Cert.EvenOutDwIdeal.nD Cert.EvenOutDwIdeal.τ).loc Cert.EvenOutDwIdeal.main_arg2)) →
    ∃ (v0 : (c : Dev Cert.EvenOutDwIdeal.nD) → Buf (Elt Ideal) ((c.tc : Thread Cert.EvenOutDwIdeal.nD Cert.EvenOutDwIdeal.τ).loc Cert.EvenOutDwIdeal.main_v0)),
      θ_run (Cert.EvenOutDwIdeal.defs (F := Ideal)) (onTc (τ := Cert.EvenOutDwIdeal.τ) (Cert.EvenOutDwIdeal.main (F := Ideal))) ⟨m, fun _ => 0, g⟩ (fun r => ∀ c : Dev Cert.EvenOutDwIdeal.nD,
          r.2.mem ((c.tc : Thread Cert.EvenOutDwIdeal.nD Cert.EvenOutDwIdeal.τ).loc Cert.EvenOutDwIdeal.main_v0) = v0 c
          ∧ r.2.mem ((c.tc : Thread Cert.EvenOutDwIdeal.nD Cert.EvenOutDwIdeal.τ).loc Cert.EvenOutDwIdeal.main_arg0) = m ((c.tc : Thread Cert.EvenOutDwIdeal.nD Cert.EvenOutDwIdeal.τ).loc Cert.EvenOutDwIdeal.main_arg0)
          ∧ r.2.mem ((c.tc : Thread Cert.EvenOutDwIdeal.nD Cert.EvenOutDwIdeal.τ).loc Cert.EvenOutDwIdeal.main_arg1) = m ((c.tc : Thread Cert.EvenOutDwIdeal.nD Cert.EvenOutDwIdeal.τ).loc Cert.EvenOutDwIdeal.main_arg1)
          ∧ r.2.mem ((c.tc : Thread Cert.EvenOutDwIdeal.nD Cert.EvenOutDwIdeal.τ).loc Cert.EvenOutDwIdeal.main_arg2) = m ((c.tc : Thread Cert.EvenOutDwIdeal.nD Cert.EvenOutDwIdeal.τ).loc Cert.EvenOutDwIdeal.main_arg2))
      ∧ θ_run (Cert.EvenOutDwPlainIdeal.defs (F := Ideal)) (onTc (τ := Cert.EvenOutDwPlainIdeal.τ) (Cert.EvenOutDwPlainIdeal.main (F := Ideal))) ⟨m', fun _ => 0, g'⟩ (fun r => ∀ c : Dev Cert.EvenOutDwPlainIdeal.nD,
          r.2.mem ((c.tc : Thread Cert.EvenOutDwPlainIdeal.nD Cert.EvenOutDwPlainIdeal.τ).loc Cert.EvenOutDwPlainIdeal.main_v4) = v0 c
          ∧ r.2.mem ((c.tc : Thread Cert.EvenOutDwPlainIdeal.nD Cert.EvenOutDwPlainIdeal.τ).loc Cert.EvenOutDwPlainIdeal.main_arg0) = m' ((c.tc : Thread Cert.EvenOutDwPlainIdeal.nD Cert.EvenOutDwPlainIdeal.τ).loc Cert.EvenOutDwPlainIdeal.main_arg0)
          ∧ r.2.mem ((c.tc : Thread Cert.EvenOutDwPlainIdeal.nD Cert.EvenOutDwPlainIdeal.τ).loc Cert.EvenOutDwPlainIdeal.main_arg1) = m' ((c.tc : Thread Cert.EvenOutDwPlainIdeal.nD Cert.EvenOutDwPlainIdeal.τ).loc Cert.EvenOutDwPlainIdeal.main_arg1)
          ∧ r.2.mem ((c.tc : Thread Cert.EvenOutDwPlainIdeal.nD Cert.EvenOutDwPlainIdeal.τ).loc Cert.EvenOutDwPlainIdeal.main_arg2) = m' ((c.tc : Thread Cert.EvenOutDwPlainIdeal.nD Cert.EvenOutDwPlainIdeal.τ).loc Cert.EvenOutDwPlainIdeal.main_arg2))

def preserves_OddIn_OddInIdeal : Prop :=
  True

def algebraic_OddInIdeal_OddInPlainIdeal [hOddInIdeal : Cert.OddInIdeal.Facts] [hOddInPlainIdeal : Cert.OddInPlainIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInPlainIdeal.nD Cert.OddInPlainIdeal.τ Cert.OddInPlainIdeal.sig) → Buf (Elt Ideal) ℓ) (g' : Dev Cert.OddInPlainIdeal.nD → PrngReg), Pre_OddInIdeal m →
    (∀ c : Dev Cert.OddInIdeal.nD,
      m' ((c.tc : Thread Cert.OddInPlainIdeal.nD Cert.OddInPlainIdeal.τ).loc Cert.OddInPlainIdeal.main_arg0) = m ((c.tc : Thread Cert.OddInIdeal.nD Cert.OddInIdeal.τ).loc Cert.OddInIdeal.main_arg0)
      ∧ m' ((c.tc : Thread Cert.OddInPlainIdeal.nD Cert.OddInPlainIdeal.τ).loc Cert.OddInPlainIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInPlainIdeal.defs (F := Ideal)) (onTc (τ := Cert.OddInPlainIdeal.τ) (Cert.OddInPlainIdeal.main (F := Ideal))) ⟨m', fun _ => 0, g'⟩ (fun r => ∀ c : Dev Cert.OddInPlainIdeal.nD,
          r.2.mem ((c.tc : Thread Cert.OddInPlainIdeal.nD Cert.OddInPlainIdeal.τ).loc Cert.OddInPlainIdeal.main_v2) = v0 c
          ∧ r.2.mem ((c.tc : Thread Cert.OddInPlainIdeal.nD Cert.OddInPlainIdeal.τ).loc Cert.OddInPlainIdeal.main_arg0) = m' ((c.tc : Thread Cert.OddInPlainIdeal.nD Cert.OddInPlainIdeal.τ).loc Cert.OddInPlainIdeal.main_arg0)
          ∧ r.2.mem ((c.tc : Thread Cert.OddInPlainIdeal.nD Cert.OddInPlainIdeal.τ).loc Cert.OddInPlainIdeal.main_arg1) = m' ((c.tc : Thread Cert.OddInPlainIdeal.nD Cert.OddInPlainIdeal.τ).loc Cert.OddInPlainIdeal.main_arg1))

def preserves_OddInDx_OddInDxIdeal : Prop :=
  True

def algebraic_OddInDxIdeal_OddInDxPlainIdeal [hOddInDxIdeal : Cert.OddInDxIdeal.Facts] [hOddInDxPlainIdeal : Cert.OddInDxPlainIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg)
    (m' : (ℓ : Loc Cert.OddInDxPlainIdeal.nD Cert.OddInDxPlainIdeal.τ Cert.OddInDxPlainIdeal.sig) → Buf (Elt Ideal) ℓ) (g' : Dev Cert.OddInDxPlainIdeal.nD → PrngReg), Pre_OddInDxIdeal m →
    (∀ c : Dev Cert.OddInDxIdeal.nD,
      m' ((c.tc : Thread Cert.OddInDxPlainIdeal.nD Cert.OddInDxPlainIdeal.τ).loc Cert.OddInDxPlainIdeal.main_arg0) = m ((c.tc : Thread Cert.OddInDxIdeal.nD Cert.OddInDxIdeal.τ).loc Cert.OddInDxIdeal.main_arg0)
      ∧ m' ((c.tc : Thread Cert.OddInDxPlainIdeal.nD Cert.OddInDxPlainIdeal.τ).loc Cert.OddInDxPlainIdeal.main_arg1) = m ((c.tc : Thread Cert.OddInDxIdeal.nD Cert.OddInDxIdeal.τ).loc Cert.OddInDxIdeal.main_arg1)
      ∧ m' ((c.tc : Thread Cert.OddInDxPlainIdeal.nD Cert.OddInDxPlainIdeal.τ).loc Cert.OddInDxPlainIdeal.main_arg2) = m ((c.tc : Thread Cert.OddInDxIdeal.nD Cert.OddInDxIdeal.τ).loc Cert.OddInDxIdeal.main_arg2)) →
    ∃ (v0 : (c : Dev Cert.OddInDxIdeal.nD) → Buf (Elt Ideal) ((c.tc : Thread Cert.OddInDxIdeal.nD Cert.OddInDxIdeal.τ).loc Cert.OddInDxIdeal.main_v0)),
      θ_run (Cert.OddInDxIdeal.defs (F := Ideal)) (onTc (τ := Cert.OddInDxIdeal.τ) (Cert.OddInDxIdeal.main (F := Ideal))) ⟨m, fun _ => 0, g⟩ (fun r => ∀ c : Dev Cert.OddInDxIdeal.nD,
          r.2.mem ((c.tc : Thread Cert.OddInDxIdeal.nD Cert.OddInDxIdeal.τ).loc Cert.OddInDxIdeal.main_v0) = v0 c
          ∧ r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
          ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1)
          ∧ r.2.mem ((c.tc : Thread Cert.OddInDxIdeal.nD Cert.OddInDxIdeal.τ).loc Cert.OddInDxIdeal.main_arg2) = m ((c.tc : Thread Cert.OddInDxIdeal.nD Cert.OddInDxIdeal.τ).loc Cert.OddInDxIdeal.main_arg2))
      ∧ θ_run (Cert.OddInDxPlainIdeal.defs (F := Ideal)) (onTc (τ := Cert.OddInDxPlainIdeal.τ) (Cert.OddInDxPlainIdeal.main (F := Ideal))) ⟨m', fun _ => 0, g'⟩ (fun r => ∀ c : Dev Cert.OddInDxPlainIdeal.nD,
          r.2.mem ((c.tc : Thread Cert.OddInDxPlainIdeal.nD Cert.OddInDxPlainIdeal.τ).loc Cert.OddInDxPlainIdeal.main_v6) = v0 c
          ∧ r.2.mem ((c.tc : Thread Cert.OddInDxPlainIdeal.nD Cert.OddInDxPlainIdeal.τ).loc Cert.OddInDxPlainIdeal.main_arg0) = m' ((c.tc : Thread Cert.OddInDxPlainIdeal.nD Cert.OddInDxPlainIdeal.τ).loc Cert.OddInDxPlainIdeal.main_arg0)
          ∧ r.2.mem ((c.tc : Thread Cert.OddInDxPlainIdeal.nD Cert.OddInDxPlainIdeal.τ).loc Cert.OddInDxPlainIdeal.main_arg1) = m' ((c.tc : Thread Cert.OddInDxPlainIdeal.nD Cert.OddInDxPlainIdeal.τ).loc Cert.OddInDxPlainIdeal.main_arg1)
          ∧ r.2.mem ((c.tc : Thread Cert.OddInDxPlainIdeal.nD Cert.OddInDxPlainIdeal.τ).loc Cert.OddInDxPlainIdeal.main_arg2) = m' ((c.tc : Thread Cert.OddInDxPlainIdeal.nD Cert.OddInDxPlainIdeal.τ).loc Cert.OddInDxPlainIdeal.main_arg2))

def preserves_OddInDw_OddInDwIdeal : Prop :=
  True

def algebraic_OddInDwIdeal_OddInDwPlainIdeal [hOddInDwIdeal : Cert.OddInDwIdeal.Facts] [hOddInDwPlainIdeal : Cert.OddInDwPlainIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg)
    (m' : (ℓ : Loc Cert.OddInDwPlainIdeal.nD Cert.OddInDwPlainIdeal.τ Cert.OddInDwPlainIdeal.sig) → Buf (Elt Ideal) ℓ) (g' : Dev Cert.OddInDwPlainIdeal.nD → PrngReg), Pre_OddInDwIdeal m →
    (∀ c : Dev Cert.OddInDwIdeal.nD,
      m' ((c.tc : Thread Cert.OddInDwPlainIdeal.nD Cert.OddInDwPlainIdeal.τ).loc Cert.OddInDwPlainIdeal.main_arg0) = m ((c.tc : Thread Cert.OddInDwIdeal.nD Cert.OddInDwIdeal.τ).loc Cert.OddInDwIdeal.main_arg0)
      ∧ m' ((c.tc : Thread Cert.OddInDwPlainIdeal.nD Cert.OddInDwPlainIdeal.τ).loc Cert.OddInDwPlainIdeal.main_arg1) = m ((c.tc : Thread Cert.OddInDwIdeal.nD Cert.OddInDwIdeal.τ).loc Cert.OddInDwIdeal.main_arg1)
      ∧ m' ((c.tc : Thread Cert.OddInDwPlainIdeal.nD Cert.OddInDwPlainIdeal.τ).loc Cert.OddInDwPlainIdeal.main_arg2) = m ((c.tc : Thread Cert.OddInDwIdeal.nD Cert.OddInDwIdeal.τ).loc Cert.OddInDwIdeal.main_arg2)) →
    ∃ (v0 : (c : Dev Cert.OddInDwIdeal.nD) → Buf (Elt Ideal) ((c.tc : Thread Cert.OddInDwIdeal.nD Cert.OddInDwIdeal.τ).loc Cert.OddInDwIdeal.main_v0)),
      θ_run (Cert.OddInDwIdeal.defs (F := Ideal)) (onTc (τ := Cert.OddInDwIdeal.τ) (Cert.OddInDwIdeal.main (F := Ideal))) ⟨m, fun _ => 0, g⟩ (fun r => ∀ c : Dev Cert.OddInDwIdeal.nD,
          r.2.mem ((c.tc : Thread Cert.OddInDwIdeal.nD Cert.OddInDwIdeal.τ).loc Cert.OddInDwIdeal.main_v0) = v0 c
          ∧ r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
          ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1)
          ∧ r.2.mem ((c.tc : Thread Cert.OddInDwIdeal.nD Cert.OddInDwIdeal.τ).loc Cert.OddInDwIdeal.main_arg2) = m ((c.tc : Thread Cert.OddInDwIdeal.nD Cert.OddInDwIdeal.τ).loc Cert.OddInDwIdeal.main_arg2))
      ∧ θ_run (Cert.OddInDwPlainIdeal.defs (F := Ideal)) (onTc (τ := Cert.OddInDwPlainIdeal.τ) (Cert.OddInDwPlainIdeal.main (F := Ideal))) ⟨m', fun _ => 0, g'⟩ (fun r => ∀ c : Dev Cert.OddInDwPlainIdeal.nD,
          r.2.mem ((c.tc : Thread Cert.OddInDwPlainIdeal.nD Cert.OddInDwPlainIdeal.τ).loc Cert.OddInDwPlainIdeal.main_v5) = v0 c
          ∧ r.2.mem ((c.tc : Thread Cert.OddInDwPlainIdeal.nD Cert.OddInDwPlainIdeal.τ).loc Cert.OddInDwPlainIdeal.main_arg0) = m' ((c.tc : Thread Cert.OddInDwPlainIdeal.nD Cert.OddInDwPlainIdeal.τ).loc Cert.OddInDwPlainIdeal.main_arg0)
          ∧ r.2.mem ((c.tc : Thread Cert.OddInDwPlainIdeal.nD Cert.OddInDwPlainIdeal.τ).loc Cert.OddInDwPlainIdeal.main_arg1) = m' ((c.tc : Thread Cert.OddInDwPlainIdeal.nD Cert.OddInDwPlainIdeal.τ).loc Cert.OddInDwPlainIdeal.main_arg1)
          ∧ r.2.mem ((c.tc : Thread Cert.OddInDwPlainIdeal.nD Cert.OddInDwPlainIdeal.τ).loc Cert.OddInDwPlainIdeal.main_arg2) = m' ((c.tc : Thread Cert.OddInDwPlainIdeal.nD Cert.OddInDwPlainIdeal.τ).loc Cert.OddInDwPlainIdeal.main_arg2))

def preserves_OddOut_OddOutIdeal : Prop :=
  True

def algebraic_OddOutIdeal_OddOutPlainIdeal [hOddOutIdeal : Cert.OddOutIdeal.Facts] [hOddOutPlainIdeal : Cert.OddOutPlainIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutPlainIdeal.nD Cert.OddOutPlainIdeal.τ Cert.OddOutPlainIdeal.sig) → Buf (Elt Ideal) ℓ) (g' : Dev Cert.OddOutPlainIdeal.nD → PrngReg), Pre_OddOutIdeal m →
    (∀ c : Dev Cert.OddOutIdeal.nD,
      m' ((c.tc : Thread Cert.OddOutPlainIdeal.nD Cert.OddOutPlainIdeal.τ).loc Cert.OddOutPlainIdeal.main_arg0) = m ((c.tc : Thread Cert.OddOutIdeal.nD Cert.OddOutIdeal.τ).loc Cert.OddOutIdeal.main_arg0)
      ∧ m' ((c.tc : Thread Cert.OddOutPlainIdeal.nD Cert.OddOutPlainIdeal.τ).loc Cert.OddOutPlainIdeal.main_arg1) = m ((c.tc : Thread Cert.OddOutIdeal.nD Cert.OddOutIdeal.τ).loc Cert.OddOutIdeal.main_arg1)
      ∧ m' ((c.tc : Thread Cert.OddOutPlainIdeal.nD Cert.OddOutPlainIdeal.τ).loc Cert.OddOutPlainIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutPlainIdeal.defs (F := Ideal)) (onTc (τ := Cert.OddOutPlainIdeal.τ) (Cert.OddOutPlainIdeal.main (F := Ideal))) ⟨m', fun _ => 0, g'⟩ (fun r => ∀ c : Dev Cert.OddOutPlainIdeal.nD,
          r.2.mem ((c.tc : Thread Cert.OddOutPlainIdeal.nD Cert.OddOutPlainIdeal.τ).loc Cert.OddOutPlainIdeal.main_v3) = v0 c
          ∧ r.2.mem ((c.tc : Thread Cert.OddOutPlainIdeal.nD Cert.OddOutPlainIdeal.τ).loc Cert.OddOutPlainIdeal.main_arg0) = m' ((c.tc : Thread Cert.OddOutPlainIdeal.nD Cert.OddOutPlainIdeal.τ).loc Cert.OddOutPlainIdeal.main_arg0)
          ∧ r.2.mem ((c.tc : Thread Cert.OddOutPlainIdeal.nD Cert.OddOutPlainIdeal.τ).loc Cert.OddOutPlainIdeal.main_arg1) = m' ((c.tc : Thread Cert.OddOutPlainIdeal.nD Cert.OddOutPlainIdeal.τ).loc Cert.OddOutPlainIdeal.main_arg1)
          ∧ r.2.mem ((c.tc : Thread Cert.OddOutPlainIdeal.nD Cert.OddOutPlainIdeal.τ).loc Cert.OddOutPlainIdeal.main_arg2) = m' ((c.tc : Thread Cert.OddOutPlainIdeal.nD Cert.OddOutPlainIdeal.τ).loc Cert.OddOutPlainIdeal.main_arg2))

def preserves_OddOutDx_OddOutDxIdeal : Prop :=
  True

def algebraic_OddOutDxIdeal_OddOutDxPlainIdeal [hOddOutDxIdeal : Cert.OddOutDxIdeal.Facts] [hOddOutDxPlainIdeal : Cert.OddOutDxPlainIdeal.Facts] : Prop :=
  ∀ (m : (ℓ : Loc Cert.OddOutDxIdeal.nD Cert.OddOutDxIdeal.τ Cert.OddOutDxIdeal.sig) → Buf (Elt Ideal) ℓ) (g : Dev Cert.OddOutDxIdeal.nD → PrngReg)
    (m' : (ℓ : Loc Cert.OddOutDxPlainIdeal.nD Cert.OddOutDxPlainIdeal.τ Cert.OddOutDxPlainIdeal.sig) → Buf (Elt Ideal) ℓ) (g' : Dev Cert.OddOutDxPlainIdeal.nD → PrngReg), Pre_OddOutDxIdeal m →
    (∀ c : Dev Cert.OddOutDxIdeal.nD,
      m' ((c.tc : Thread Cert.OddOutDxPlainIdeal.nD Cert.OddOutDxPlainIdeal.τ).loc Cert.OddOutDxPlainIdeal.main_arg0) = m ((c.tc : Thread Cert.OddOutDxIdeal.nD Cert.OddOutDxIdeal.τ).loc Cert.OddOutDxIdeal.main_arg0)
      ∧ m' ((c.tc : Thread Cert.OddOutDxPlainIdeal.nD Cert.OddOutDxPlainIdeal.τ).loc Cert.OddOutDxPlainIdeal.main_arg1) = m ((c.tc : Thread Cert.OddOutDxIdeal.nD Cert.OddOutDxIdeal.τ).loc Cert.OddOutDxIdeal.main_arg1)
      ∧ m' ((c.tc : Thread Cert.OddOutDxPlainIdeal.nD Cert.OddOutDxPlainIdeal.τ).loc Cert.OddOutDxPlainIdeal.main_arg2) = m ((c.tc : Thread Cert.OddOutDxIdeal.nD Cert.OddOutDxIdeal.τ).loc Cert.OddOutDxIdeal.main_arg2)) →
    ∃ (v0 : (c : Dev Cert.OddOutDxIdeal.nD) → Buf (Elt Ideal) ((c.tc : Thread Cert.OddOutDxIdeal.nD Cert.OddOutDxIdeal.τ).loc Cert.OddOutDxIdeal.main_v0)),
      θ_run (Cert.OddOutDxIdeal.defs (F := Ideal)) (onTc (τ := Cert.OddOutDxIdeal.τ) (Cert.OddOutDxIdeal.main (F := Ideal))) ⟨m, fun _ => 0, g⟩ (fun r => ∀ c : Dev Cert.OddOutDxIdeal.nD,
          r.2.mem ((c.tc : Thread Cert.OddOutDxIdeal.nD Cert.OddOutDxIdeal.τ).loc Cert.OddOutDxIdeal.main_v0) = v0 c
          ∧ r.2.mem ((c.tc : Thread Cert.OddOutDxIdeal.nD Cert.OddOutDxIdeal.τ).loc Cert.OddOutDxIdeal.main_arg0) = m ((c.tc : Thread Cert.OddOutDxIdeal.nD Cert.OddOutDxIdeal.τ).loc Cert.OddOutDxIdeal.main_arg0)
          ∧ r.2.mem ((c.tc : Thread Cert.OddOutDxIdeal.nD Cert.OddOutDxIdeal.τ).loc Cert.OddOutDxIdeal.main_arg1) = m ((c.tc : Thread Cert.OddOutDxIdeal.nD Cert.OddOutDxIdeal.τ).loc Cert.OddOutDxIdeal.main_arg1)
          ∧ r.2.mem ((c.tc : Thread Cert.OddOutDxIdeal.nD Cert.OddOutDxIdeal.τ).loc Cert.OddOutDxIdeal.main_arg2) = m ((c.tc : Thread Cert.OddOutDxIdeal.nD Cert.OddOutDxIdeal.τ).loc Cert.OddOutDxIdeal.main_arg2))
      ∧ θ_run (Cert.OddOutDxPlainIdeal.defs (F := Ideal)) (onTc (τ := Cert.OddOutDxPlainIdeal.τ) (Cert.OddOutDxPlainIdeal.main (F := Ideal))) ⟨m', fun _ => 0, g'⟩ (fun r => ∀ c : Dev Cert.OddOutDxPlainIdeal.nD,
          r.2.mem ((c.tc : Thread Cert.OddOutDxPlainIdeal.nD Cert.OddOutDxPlainIdeal.τ).loc Cert.OddOutDxPlainIdeal.main_v6) = v0 c
          ∧ r.2.mem ((c.tc : Thread Cert.OddOutDxPlainIdeal.nD Cert.OddOutDxPlainIdeal.τ).loc Cert.OddOutDxPlainIdeal.main_arg0) = m' ((c.tc : Thread Cert.OddOutDxPlainIdeal.nD Cert.OddOutDxPlainIdeal.τ).loc Cert.OddOutDxPlainIdeal.main_arg0)
          ∧ r.2.mem ((c.tc : Thread Cert.OddOutDxPlainIdeal.nD Cert.OddOutDxPlainIdeal.τ).loc Cert.OddOutDxPlainIdeal.main_arg1) = m' ((c.tc : Thread Cert.OddOutDxPlainIdeal.nD Cert.OddOutDxPlainIdeal.τ).loc Cert.OddOutDxPlainIdeal.main_arg1)
          ∧ r.2.mem ((c.tc : Thread Cert.OddOutDxPlainIdeal.nD Cert.OddOutDxPlainIdeal.τ).loc Cert.OddOutDxPlainIdeal.main_arg2) = m' ((c.tc : Thread Cert.OddOutDxPlainIdeal.nD Cert.OddOutDxPlainIdeal.τ).loc Cert.OddOutDxPlainIdeal.main_arg2))

def preserves_OddOutDw_OddOutDwIdeal : Prop :=
  True

def algebraic_OddOutDwIdeal_OddOutDwPlainIdeal [hOddOutDwIdeal : Cert.OddOutDwIdeal.Facts] [hOddOutDwPlainIdeal : Cert.OddOutDwPlainIdeal.Facts] : Prop :=
  ∀ (m : (ℓ : Loc Cert.OddOutDwIdeal.nD Cert.OddOutDwIdeal.τ Cert.OddOutDwIdeal.sig) → Buf (Elt Ideal) ℓ) (g : Dev Cert.OddOutDwIdeal.nD → PrngReg)
    (m' : (ℓ : Loc Cert.OddOutDwPlainIdeal.nD Cert.OddOutDwPlainIdeal.τ Cert.OddOutDwPlainIdeal.sig) → Buf (Elt Ideal) ℓ) (g' : Dev Cert.OddOutDwPlainIdeal.nD → PrngReg), Pre_OddOutDwIdeal m →
    (∀ c : Dev Cert.OddOutDwIdeal.nD,
      m' ((c.tc : Thread Cert.OddOutDwPlainIdeal.nD Cert.OddOutDwPlainIdeal.τ).loc Cert.OddOutDwPlainIdeal.main_arg0) = m ((c.tc : Thread Cert.OddOutDwIdeal.nD Cert.OddOutDwIdeal.τ).loc Cert.OddOutDwIdeal.main_arg0)
      ∧ m' ((c.tc : Thread Cert.OddOutDwPlainIdeal.nD Cert.OddOutDwPlainIdeal.τ).loc Cert.OddOutDwPlainIdeal.main_arg1) = m ((c.tc : Thread Cert.OddOutDwIdeal.nD Cert.OddOutDwIdeal.τ).loc Cert.OddOutDwIdeal.main_arg1)
      ∧ m' ((c.tc : Thread Cert.OddOutDwPlainIdeal.nD Cert.OddOutDwPlainIdeal.τ).loc Cert.OddOutDwPlainIdeal.main_arg2) = m ((c.tc : Thread Cert.OddOutDwIdeal.nD Cert.OddOutDwIdeal.τ).loc Cert.OddOutDwIdeal.main_arg2)) →
    ∃ (v0 : (c : Dev Cert.OddOutDwIdeal.nD) → Buf (Elt Ideal) ((c.tc : Thread Cert.OddOutDwIdeal.nD Cert.OddOutDwIdeal.τ).loc Cert.OddOutDwIdeal.main_v0)),
      θ_run (Cert.OddOutDwIdeal.defs (F := Ideal)) (onTc (τ := Cert.OddOutDwIdeal.τ) (Cert.OddOutDwIdeal.main (F := Ideal))) ⟨m, fun _ => 0, g⟩ (fun r => ∀ c : Dev Cert.OddOutDwIdeal.nD,
          r.2.mem ((c.tc : Thread Cert.OddOutDwIdeal.nD Cert.OddOutDwIdeal.τ).loc Cert.OddOutDwIdeal.main_v0) = v0 c
          ∧ r.2.mem ((c.tc : Thread Cert.OddOutDwIdeal.nD Cert.OddOutDwIdeal.τ).loc Cert.OddOutDwIdeal.main_arg0) = m ((c.tc : Thread Cert.OddOutDwIdeal.nD Cert.OddOutDwIdeal.τ).loc Cert.OddOutDwIdeal.main_arg0)
          ∧ r.2.mem ((c.tc : Thread Cert.OddOutDwIdeal.nD Cert.OddOutDwIdeal.τ).loc Cert.OddOutDwIdeal.main_arg1) = m ((c.tc : Thread Cert.OddOutDwIdeal.nD Cert.OddOutDwIdeal.τ).loc Cert.OddOutDwIdeal.main_arg1)
          ∧ r.2.mem ((c.tc : Thread Cert.OddOutDwIdeal.nD Cert.OddOutDwIdeal.τ).loc Cert.OddOutDwIdeal.main_arg2) = m ((c.tc : Thread Cert.OddOutDwIdeal.nD Cert.OddOutDwIdeal.τ).loc Cert.OddOutDwIdeal.main_arg2))
      ∧ θ_run (Cert.OddOutDwPlainIdeal.defs (F := Ideal)) (onTc (τ := Cert.OddOutDwPlainIdeal.τ) (Cert.OddOutDwPlainIdeal.main (F := Ideal))) ⟨m', fun _ => 0, g'⟩ (fun r => ∀ c : Dev Cert.OddOutDwPlainIdeal.nD,
          r.2.mem ((c.tc : Thread Cert.OddOutDwPlainIdeal.nD Cert.OddOutDwPlainIdeal.τ).loc Cert.OddOutDwPlainIdeal.main_v4) = v0 c
          ∧ r.2.mem ((c.tc : Thread Cert.OddOutDwPlainIdeal.nD Cert.OddOutDwPlainIdeal.τ).loc Cert.OddOutDwPlainIdeal.main_arg0) = m' ((c.tc : Thread Cert.OddOutDwPlainIdeal.nD Cert.OddOutDwPlainIdeal.τ).loc Cert.OddOutDwPlainIdeal.main_arg0)
          ∧ r.2.mem ((c.tc : Thread Cert.OddOutDwPlainIdeal.nD Cert.OddOutDwPlainIdeal.τ).loc Cert.OddOutDwPlainIdeal.main_arg1) = m' ((c.tc : Thread Cert.OddOutDwPlainIdeal.nD Cert.OddOutDwPlainIdeal.τ).loc Cert.OddOutDwPlainIdeal.main_arg1)
          ∧ r.2.mem ((c.tc : Thread Cert.OddOutDwPlainIdeal.nD Cert.OddOutDwPlainIdeal.τ).loc Cert.OddOutDwPlainIdeal.main_arg2) = m' ((c.tc : Thread Cert.OddOutDwPlainIdeal.nD Cert.OddOutDwPlainIdeal.τ).loc Cert.OddOutDwPlainIdeal.main_arg2))

def preserves_AdamNorms_AdamNormsIdeal : Prop :=
  True

def algebraic_AdamNormsIdeal_AdamNormsPlainIdeal [hAdamNormsIdeal : Cert.AdamNormsIdeal.Facts] [hAdamNormsPlainIdeal : Cert.AdamNormsPlainIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg)
    (m' : (ℓ : Loc Cert.AdamNormsPlainIdeal.nD Cert.AdamNormsPlainIdeal.τ Cert.AdamNormsPlainIdeal.sig) → Buf (Elt Ideal) ℓ) (g' : Dev Cert.AdamNormsPlainIdeal.nD → PrngReg), Pre_AdamNormsIdeal m →
    (∀ c : Dev Cert.AdamNormsIdeal.nD,
      m' ((c.tc : Thread Cert.AdamNormsPlainIdeal.nD Cert.AdamNormsPlainIdeal.τ).loc Cert.AdamNormsPlainIdeal.main_arg0) = m ((c.tc : Thread Cert.AdamNormsIdeal.nD Cert.AdamNormsIdeal.τ).loc Cert.AdamNormsIdeal.main_arg0)
      ∧ m' ((c.tc : Thread Cert.AdamNormsPlainIdeal.nD Cert.AdamNormsPlainIdeal.τ).loc Cert.AdamNormsPlainIdeal.main_arg1) = m ((c.tc : Thread Cert.AdamNormsIdeal.nD Cert.AdamNormsIdeal.τ).loc Cert.AdamNormsIdeal.main_arg1)
      ∧ m' ((c.tc : Thread Cert.AdamNormsPlainIdeal.nD Cert.AdamNormsPlainIdeal.τ).loc Cert.AdamNormsPlainIdeal.main_arg2) = m ((c.tc : Thread Cert.AdamNormsIdeal.nD Cert.AdamNormsIdeal.τ).loc Cert.AdamNormsIdeal.main_arg2)
      ∧ m' ((c.tc : Thread Cert.AdamNormsPlainIdeal.nD Cert.AdamNormsPlainIdeal.τ).loc Cert.AdamNormsPlainIdeal.main_arg3) = m ((c.tc : Thread Cert.AdamNormsIdeal.nD Cert.AdamNormsIdeal.τ).loc Cert.AdamNormsIdeal.main_arg3)) →
    ∃ (v0 : (c : Dev Cert.AdamNormsIdeal.nD) → Buf (Elt Ideal) ((c.tc : Thread Cert.AdamNormsIdeal.nD Cert.AdamNormsIdeal.τ).loc Cert.AdamNormsIdeal.main_v0_0)) (v1 : (c : Dev Cert.AdamNormsIdeal.nD) → Buf (Elt Ideal) ((c.tc : Thread Cert.AdamNormsIdeal.nD Cert.AdamNormsIdeal.τ).loc Cert.AdamNormsIdeal.main_v0_1)) (v2 : (c : Dev Cert.AdamNormsIdeal.nD) → Buf (Elt Ideal) ((c.tc : Thread Cert.AdamNormsIdeal.nD Cert.AdamNormsIdeal.τ).loc Cert.AdamNormsIdeal.main_v0_2)),
      θ_run (Cert.AdamNormsIdeal.defs (F := Ideal)) (onTc (τ := Cert.AdamNormsIdeal.τ) (Cert.AdamNormsIdeal.main (F := Ideal))) ⟨m, fun _ => 0, g⟩ (fun r => ∀ c : Dev Cert.AdamNormsIdeal.nD,
          r.2.mem ((c.tc : Thread Cert.AdamNormsIdeal.nD Cert.AdamNormsIdeal.τ).loc Cert.AdamNormsIdeal.main_v0_0) = v0 c
          ∧ r.2.mem ((c.tc : Thread Cert.AdamNormsIdeal.nD Cert.AdamNormsIdeal.τ).loc Cert.AdamNormsIdeal.main_v0_1) = v1 c
          ∧ r.2.mem ((c.tc : Thread Cert.AdamNormsIdeal.nD Cert.AdamNormsIdeal.τ).loc Cert.AdamNormsIdeal.main_v0_2) = v2 c
          ∧ r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
          ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
          ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
          ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ θ_run (Cert.AdamNormsPlainIdeal.defs (F := Ideal)) (onTc (τ := Cert.AdamNormsPlainIdeal.τ) (Cert.AdamNormsPlainIdeal.main (F := Ideal))) ⟨m', fun _ => 0, g'⟩ (fun r => ∀ c : Dev Cert.AdamNormsPlainIdeal.nD,
          r.2.mem ((c.tc : Thread Cert.AdamNormsPlainIdeal.nD Cert.AdamNormsPlainIdeal.τ).loc Cert.AdamNormsPlainIdeal.main_v23) = v0 c
          ∧ r.2.mem ((c.tc : Thread Cert.AdamNormsPlainIdeal.nD Cert.AdamNormsPlainIdeal.τ).loc Cert.AdamNormsPlainIdeal.main_v4) = v1 c
          ∧ r.2.mem ((c.tc : Thread Cert.AdamNormsPlainIdeal.nD Cert.AdamNormsPlainIdeal.τ).loc Cert.AdamNormsPlainIdeal.main_v10) = v2 c
          ∧ r.2.mem ((c.tc : Thread Cert.AdamNormsPlainIdeal.nD Cert.AdamNormsPlainIdeal.τ).loc Cert.AdamNormsPlainIdeal.main_arg0) = m' ((c.tc : Thread Cert.AdamNormsPlainIdeal.nD Cert.AdamNormsPlainIdeal.τ).loc Cert.AdamNormsPlainIdeal.main_arg0)
          ∧ r.2.mem ((c.tc : Thread Cert.AdamNormsPlainIdeal.nD Cert.AdamNormsPlainIdeal.τ).loc Cert.AdamNormsPlainIdeal.main_arg1) = m' ((c.tc : Thread Cert.AdamNormsPlainIdeal.nD Cert.AdamNormsPlainIdeal.τ).loc Cert.AdamNormsPlainIdeal.main_arg1)
          ∧ r.2.mem ((c.tc : Thread Cert.AdamNormsPlainIdeal.nD Cert.AdamNormsPlainIdeal.τ).loc Cert.AdamNormsPlainIdeal.main_arg2) = m' ((c.tc : Thread Cert.AdamNormsPlainIdeal.nD Cert.AdamNormsPlainIdeal.τ).loc Cert.AdamNormsPlainIdeal.main_arg2)
          ∧ r.2.mem ((c.tc : Thread Cert.AdamNormsPlainIdeal.nD Cert.AdamNormsPlainIdeal.τ).loc Cert.AdamNormsPlainIdeal.main_arg3) = m' ((c.tc : Thread Cert.AdamNormsPlainIdeal.nD Cert.AdamNormsPlainIdeal.τ).loc Cert.AdamNormsPlainIdeal.main_arg3))

def preserves_AdamEvenIn_AdamEvenInIdeal : Prop :=
  True

def algebraic_AdamEvenInIdeal_AdamEvenInPlainIdeal [hAdamEvenInIdeal : Cert.AdamEvenInIdeal.Facts] [hAdamEvenInPlainIdeal : Cert.AdamEvenInPlainIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg)
    (m' : (ℓ : Loc Cert.AdamEvenInPlainIdeal.nD Cert.AdamEvenInPlainIdeal.τ Cert.AdamEvenInPlainIdeal.sig) → Buf (Elt Ideal) ℓ) (g' : Dev Cert.AdamEvenInPlainIdeal.nD → PrngReg), Pre_AdamEvenInIdeal m →
    (∀ c : Dev Cert.AdamEvenInIdeal.nD,
      m' ((c.tc : Thread Cert.AdamEvenInPlainIdeal.nD Cert.AdamEvenInPlainIdeal.τ).loc Cert.AdamEvenInPlainIdeal.main_arg0) = m ((c.tc : Thread Cert.AdamEvenInIdeal.nD Cert.AdamEvenInIdeal.τ).loc Cert.AdamEvenInIdeal.main_arg0)
      ∧ m' ((c.tc : Thread Cert.AdamEvenInPlainIdeal.nD Cert.AdamEvenInPlainIdeal.τ).loc Cert.AdamEvenInPlainIdeal.main_arg1) = m ((c.tc : Thread Cert.AdamEvenInIdeal.nD Cert.AdamEvenInIdeal.τ).loc Cert.AdamEvenInIdeal.main_arg1)
      ∧ m' ((c.tc : Thread Cert.AdamEvenInPlainIdeal.nD Cert.AdamEvenInPlainIdeal.τ).loc Cert.AdamEvenInPlainIdeal.main_arg2) = m ((c.tc : Thread Cert.AdamEvenInIdeal.nD Cert.AdamEvenInIdeal.τ).loc Cert.AdamEvenInIdeal.main_arg2)
      ∧ m' ((c.tc : Thread Cert.AdamEvenInPlainIdeal.nD Cert.AdamEvenInPlainIdeal.τ).loc Cert.AdamEvenInPlainIdeal.main_arg3) = m ((c.tc : Thread Cert.AdamEvenInIdeal.nD Cert.AdamEvenInIdeal.τ).loc Cert.AdamEvenInIdeal.main_arg3)) →
    ∃ (v0 : (c : Dev Cert.AdamEvenInIdeal.nD) → Buf (Elt Ideal) ((c.tc : Thread Cert.AdamEvenInIdeal.nD Cert.AdamEvenInIdeal.τ).loc Cert.AdamEvenInIdeal.main_v4_0)) (v1 : (c : Dev Cert.AdamEvenInIdeal.nD) → Buf (Elt Ideal) ((c.tc : Thread Cert.AdamEvenInIdeal.nD Cert.AdamEvenInIdeal.τ).loc Cert.AdamEvenInIdeal.main_v4_1)) (v2 : (c : Dev Cert.AdamEvenInIdeal.nD) → Buf (Elt Ideal) ((c.tc : Thread Cert.AdamEvenInIdeal.nD Cert.AdamEvenInIdeal.τ).loc Cert.AdamEvenInIdeal.main_v4_2)),
      θ_run (Cert.AdamEvenInIdeal.defs (F := Ideal)) (onTc (τ := Cert.AdamEvenInIdeal.τ) (Cert.AdamEvenInIdeal.main (F := Ideal))) ⟨m, fun _ => 0, g⟩ (fun r => ∀ c : Dev Cert.AdamEvenInIdeal.nD,
          r.2.mem ((c.tc : Thread Cert.AdamEvenInIdeal.nD Cert.AdamEvenInIdeal.τ).loc Cert.AdamEvenInIdeal.main_v4_0) = v0 c
          ∧ r.2.mem ((c.tc : Thread Cert.AdamEvenInIdeal.nD Cert.AdamEvenInIdeal.τ).loc Cert.AdamEvenInIdeal.main_v4_1) = v1 c
          ∧ r.2.mem ((c.tc : Thread Cert.AdamEvenInIdeal.nD Cert.AdamEvenInIdeal.τ).loc Cert.AdamEvenInIdeal.main_v4_2) = v2 c
          ∧ r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
          ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
          ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
          ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ θ_run (Cert.AdamEvenInPlainIdeal.defs (F := Ideal)) (onTc (τ := Cert.AdamEvenInPlainIdeal.τ) (Cert.AdamEvenInPlainIdeal.main (F := Ideal))) ⟨m', fun _ => 0, g'⟩ (fun r => ∀ c : Dev Cert.AdamEvenInPlainIdeal.nD,
          r.2.mem ((c.tc : Thread Cert.AdamEvenInPlainIdeal.nD Cert.AdamEvenInPlainIdeal.τ).loc Cert.AdamEvenInPlainIdeal.main_v24) = v0 c
          ∧ r.2.mem ((c.tc : Thread Cert.AdamEvenInPlainIdeal.nD Cert.AdamEvenInPlainIdeal.τ).loc Cert.AdamEvenInPlainIdeal.main_v25) = v1 c
          ∧ r.2.mem ((c.tc : Thread Cert.AdamEvenInPlainIdeal.nD Cert.AdamEvenInPlainIdeal.τ).loc Cert.AdamEvenInPlainIdeal.main_v26) = v2 c
          ∧ r.2.mem ((c.tc : Thread Cert.AdamEvenInPlainIdeal.nD Cert.AdamEvenInPlainIdeal.τ).loc Cert.AdamEvenInPlainIdeal.main_arg0) = m' ((c.tc : Thread Cert.AdamEvenInPlainIdeal.nD Cert.AdamEvenInPlainIdeal.τ).loc Cert.AdamEvenInPlainIdeal.main_arg0)
          ∧ r.2.mem ((c.tc : Thread Cert.AdamEvenInPlainIdeal.nD Cert.AdamEvenInPlainIdeal.τ).loc Cert.AdamEvenInPlainIdeal.main_arg1) = m' ((c.tc : Thread Cert.AdamEvenInPlainIdeal.nD Cert.AdamEvenInPlainIdeal.τ).loc Cert.AdamEvenInPlainIdeal.main_arg1)
          ∧ r.2.mem ((c.tc : Thread Cert.AdamEvenInPlainIdeal.nD Cert.AdamEvenInPlainIdeal.τ).loc Cert.AdamEvenInPlainIdeal.main_arg2) = m' ((c.tc : Thread Cert.AdamEvenInPlainIdeal.nD Cert.AdamEvenInPlainIdeal.τ).loc Cert.AdamEvenInPlainIdeal.main_arg2)
          ∧ r.2.mem ((c.tc : Thread Cert.AdamEvenInPlainIdeal.nD Cert.AdamEvenInPlainIdeal.τ).loc Cert.AdamEvenInPlainIdeal.main_arg3) = m' ((c.tc : Thread Cert.AdamEvenInPlainIdeal.nD Cert.AdamEvenInPlainIdeal.τ).loc Cert.AdamEvenInPlainIdeal.main_arg3))

def preserves_AdamEvenConv_AdamEvenConvIdeal : Prop :=
  True

def algebraic_AdamEvenConvIdeal_AdamEvenConvPlainIdeal [hAdamEvenConvIdeal : Cert.AdamEvenConvIdeal.Facts] [hAdamEvenConvPlainIdeal : Cert.AdamEvenConvPlainIdeal.Facts] : Prop :=
  ∀ (m : (ℓ : Loc Cert.AdamEvenConvIdeal.nD Cert.AdamEvenConvIdeal.τ Cert.AdamEvenConvIdeal.sig) → Buf (Elt Ideal) ℓ) (g : Dev Cert.AdamEvenConvIdeal.nD → PrngReg)
    (m' : (ℓ : Loc Cert.AdamEvenConvPlainIdeal.nD Cert.AdamEvenConvPlainIdeal.τ Cert.AdamEvenConvPlainIdeal.sig) → Buf (Elt Ideal) ℓ) (g' : Dev Cert.AdamEvenConvPlainIdeal.nD → PrngReg), Pre_AdamEvenConvIdeal m →
    (∀ c : Dev Cert.AdamEvenConvIdeal.nD,
      m' ((c.tc : Thread Cert.AdamEvenConvPlainIdeal.nD Cert.AdamEvenConvPlainIdeal.τ).loc Cert.AdamEvenConvPlainIdeal.main_arg0) = m ((c.tc : Thread Cert.AdamEvenConvIdeal.nD Cert.AdamEvenConvIdeal.τ).loc Cert.AdamEvenConvIdeal.main_arg0)
      ∧ m' ((c.tc : Thread Cert.AdamEvenConvPlainIdeal.nD Cert.AdamEvenConvPlainIdeal.τ).loc Cert.AdamEvenConvPlainIdeal.main_arg1) = m ((c.tc : Thread Cert.AdamEvenConvIdeal.nD Cert.AdamEvenConvIdeal.τ).loc Cert.AdamEvenConvIdeal.main_arg1)
      ∧ m' ((c.tc : Thread Cert.AdamEvenConvPlainIdeal.nD Cert.AdamEvenConvPlainIdeal.τ).loc Cert.AdamEvenConvPlainIdeal.main_arg2) = m ((c.tc : Thread Cert.AdamEvenConvIdeal.nD Cert.AdamEvenConvIdeal.τ).loc Cert.AdamEvenConvIdeal.main_arg2)
      ∧ m' ((c.tc : Thread Cert.AdamEvenConvPlainIdeal.nD Cert.AdamEvenConvPlainIdeal.τ).loc Cert.AdamEvenConvPlainIdeal.main_arg3) = m ((c.tc : Thread Cert.AdamEvenConvIdeal.nD Cert.AdamEvenConvIdeal.τ).loc Cert.AdamEvenConvIdeal.main_arg3)) →
    ∃ (v0 : (c : Dev Cert.AdamEvenConvIdeal.nD) → Buf (Elt Ideal) ((c.tc : Thread Cert.AdamEvenConvIdeal.nD Cert.AdamEvenConvIdeal.τ).loc Cert.AdamEvenConvIdeal.main_v4_0)) (v1 : (c : Dev Cert.AdamEvenConvIdeal.nD) → Buf (Elt Ideal) ((c.tc : Thread Cert.AdamEvenConvIdeal.nD Cert.AdamEvenConvIdeal.τ).loc Cert.AdamEvenConvIdeal.main_v4_1)) (v2 : (c : Dev Cert.AdamEvenConvIdeal.nD) → Buf (Elt Ideal) ((c.tc : Thread Cert.AdamEvenConvIdeal.nD Cert.AdamEvenConvIdeal.τ).loc Cert.AdamEvenConvIdeal.main_v4_2)),
      θ_run (Cert.AdamEvenConvIdeal.defs (F := Ideal)) (onTc (τ := Cert.AdamEvenConvIdeal.τ) (Cert.AdamEvenConvIdeal.main (F := Ideal))) ⟨m, fun _ => 0, g⟩ (fun r => ∀ c : Dev Cert.AdamEvenConvIdeal.nD,
          r.2.mem ((c.tc : Thread Cert.AdamEvenConvIdeal.nD Cert.AdamEvenConvIdeal.τ).loc Cert.AdamEvenConvIdeal.main_v4_0) = v0 c
          ∧ r.2.mem ((c.tc : Thread Cert.AdamEvenConvIdeal.nD Cert.AdamEvenConvIdeal.τ).loc Cert.AdamEvenConvIdeal.main_v4_1) = v1 c
          ∧ r.2.mem ((c.tc : Thread Cert.AdamEvenConvIdeal.nD Cert.AdamEvenConvIdeal.τ).loc Cert.AdamEvenConvIdeal.main_v4_2) = v2 c
          ∧ r.2.mem ((c.tc : Thread Cert.AdamEvenConvIdeal.nD Cert.AdamEvenConvIdeal.τ).loc Cert.AdamEvenConvIdeal.main_arg0) = m ((c.tc : Thread Cert.AdamEvenConvIdeal.nD Cert.AdamEvenConvIdeal.τ).loc Cert.AdamEvenConvIdeal.main_arg0)
          ∧ r.2.mem ((c.tc : Thread Cert.AdamEvenConvIdeal.nD Cert.AdamEvenConvIdeal.τ).loc Cert.AdamEvenConvIdeal.main_arg1) = m ((c.tc : Thread Cert.AdamEvenConvIdeal.nD Cert.AdamEvenConvIdeal.τ).loc Cert.AdamEvenConvIdeal.main_arg1)
          ∧ r.2.mem ((c.tc : Thread Cert.AdamEvenConvIdeal.nD Cert.AdamEvenConvIdeal.τ).loc Cert.AdamEvenConvIdeal.main_arg2) = m ((c.tc : Thread Cert.AdamEvenConvIdeal.nD Cert.AdamEvenConvIdeal.τ).loc Cert.AdamEvenConvIdeal.main_arg2)
          ∧ r.2.mem ((c.tc : Thread Cert.AdamEvenConvIdeal.nD Cert.AdamEvenConvIdeal.τ).loc Cert.AdamEvenConvIdeal.main_arg3) = m ((c.tc : Thread Cert.AdamEvenConvIdeal.nD Cert.AdamEvenConvIdeal.τ).loc Cert.AdamEvenConvIdeal.main_arg3))
      ∧ θ_run (Cert.AdamEvenConvPlainIdeal.defs (F := Ideal)) (onTc (τ := Cert.AdamEvenConvPlainIdeal.τ) (Cert.AdamEvenConvPlainIdeal.main (F := Ideal))) ⟨m', fun _ => 0, g'⟩ (fun r => ∀ c : Dev Cert.AdamEvenConvPlainIdeal.nD,
          r.2.mem ((c.tc : Thread Cert.AdamEvenConvPlainIdeal.nD Cert.AdamEvenConvPlainIdeal.τ).loc Cert.AdamEvenConvPlainIdeal.main_v24) = v0 c
          ∧ r.2.mem ((c.tc : Thread Cert.AdamEvenConvPlainIdeal.nD Cert.AdamEvenConvPlainIdeal.τ).loc Cert.AdamEvenConvPlainIdeal.main_v25) = v1 c
          ∧ r.2.mem ((c.tc : Thread Cert.AdamEvenConvPlainIdeal.nD Cert.AdamEvenConvPlainIdeal.τ).loc Cert.AdamEvenConvPlainIdeal.main_v26) = v2 c
          ∧ r.2.mem ((c.tc : Thread Cert.AdamEvenConvPlainIdeal.nD Cert.AdamEvenConvPlainIdeal.τ).loc Cert.AdamEvenConvPlainIdeal.main_arg0) = m' ((c.tc : Thread Cert.AdamEvenConvPlainIdeal.nD Cert.AdamEvenConvPlainIdeal.τ).loc Cert.AdamEvenConvPlainIdeal.main_arg0)
          ∧ r.2.mem ((c.tc : Thread Cert.AdamEvenConvPlainIdeal.nD Cert.AdamEvenConvPlainIdeal.τ).loc Cert.AdamEvenConvPlainIdeal.main_arg1) = m' ((c.tc : Thread Cert.AdamEvenConvPlainIdeal.nD Cert.AdamEvenConvPlainIdeal.τ).loc Cert.AdamEvenConvPlainIdeal.main_arg1)
          ∧ r.2.mem ((c.tc : Thread Cert.AdamEvenConvPlainIdeal.nD Cert.AdamEvenConvPlainIdeal.τ).loc Cert.AdamEvenConvPlainIdeal.main_arg2) = m' ((c.tc : Thread Cert.AdamEvenConvPlainIdeal.nD Cert.AdamEvenConvPlainIdeal.τ).loc Cert.AdamEvenConvPlainIdeal.main_arg2)
          ∧ r.2.mem ((c.tc : Thread Cert.AdamEvenConvPlainIdeal.nD Cert.AdamEvenConvPlainIdeal.τ).loc Cert.AdamEvenConvPlainIdeal.main_arg3) = m' ((c.tc : Thread Cert.AdamEvenConvPlainIdeal.nD Cert.AdamEvenConvPlainIdeal.τ).loc Cert.AdamEvenConvPlainIdeal.main_arg3))

def preserves_AdamEvenBias_AdamEvenBiasIdeal : Prop :=
  True

def algebraic_AdamEvenBiasIdeal_AdamEvenBiasPlainIdeal [hAdamEvenBiasIdeal : Cert.AdamEvenBiasIdeal.Facts] [hAdamEvenBiasPlainIdeal : Cert.AdamEvenBiasPlainIdeal.Facts] : Prop :=
  ∀ (m : (ℓ : Loc Cert.AdamEvenBiasIdeal.nD Cert.AdamEvenBiasIdeal.τ Cert.AdamEvenBiasIdeal.sig) → Buf (Elt Ideal) ℓ) (g : Dev Cert.AdamEvenBiasIdeal.nD → PrngReg)
    (m' : (ℓ : Loc Cert.AdamEvenBiasPlainIdeal.nD Cert.AdamEvenBiasPlainIdeal.τ Cert.AdamEvenBiasPlainIdeal.sig) → Buf (Elt Ideal) ℓ) (g' : Dev Cert.AdamEvenBiasPlainIdeal.nD → PrngReg), Pre_AdamEvenBiasIdeal m →
    (∀ c : Dev Cert.AdamEvenBiasIdeal.nD,
      m' ((c.tc : Thread Cert.AdamEvenBiasPlainIdeal.nD Cert.AdamEvenBiasPlainIdeal.τ).loc Cert.AdamEvenBiasPlainIdeal.main_arg0) = m ((c.tc : Thread Cert.AdamEvenBiasIdeal.nD Cert.AdamEvenBiasIdeal.τ).loc Cert.AdamEvenBiasIdeal.main_arg0)
      ∧ m' ((c.tc : Thread Cert.AdamEvenBiasPlainIdeal.nD Cert.AdamEvenBiasPlainIdeal.τ).loc Cert.AdamEvenBiasPlainIdeal.main_arg1) = m ((c.tc : Thread Cert.AdamEvenBiasIdeal.nD Cert.AdamEvenBiasIdeal.τ).loc Cert.AdamEvenBiasIdeal.main_arg1)
      ∧ m' ((c.tc : Thread Cert.AdamEvenBiasPlainIdeal.nD Cert.AdamEvenBiasPlainIdeal.τ).loc Cert.AdamEvenBiasPlainIdeal.main_arg2) = m ((c.tc : Thread Cert.AdamEvenBiasIdeal.nD Cert.AdamEvenBiasIdeal.τ).loc Cert.AdamEvenBiasIdeal.main_arg2)
      ∧ m' ((c.tc : Thread Cert.AdamEvenBiasPlainIdeal.nD Cert.AdamEvenBiasPlainIdeal.τ).loc Cert.AdamEvenBiasPlainIdeal.main_arg3) = m ((c.tc : Thread Cert.AdamEvenBiasIdeal.nD Cert.AdamEvenBiasIdeal.τ).loc Cert.AdamEvenBiasIdeal.main_arg3)) →
    ∃ (v0 : (c : Dev Cert.AdamEvenBiasIdeal.nD) → Buf (Elt Ideal) ((c.tc : Thread Cert.AdamEvenBiasIdeal.nD Cert.AdamEvenBiasIdeal.τ).loc Cert.AdamEvenBiasIdeal.main_v0_0)) (v1 : (c : Dev Cert.AdamEvenBiasIdeal.nD) → Buf (Elt Ideal) ((c.tc : Thread Cert.AdamEvenBiasIdeal.nD Cert.AdamEvenBiasIdeal.τ).loc Cert.AdamEvenBiasIdeal.main_v0_1)) (v2 : (c : Dev Cert.AdamEvenBiasIdeal.nD) → Buf (Elt Ideal) ((c.tc : Thread Cert.AdamEvenBiasIdeal.nD Cert.AdamEvenBiasIdeal.τ).loc Cert.AdamEvenBiasIdeal.main_v0_2)),
      θ_run (Cert.AdamEvenBiasIdeal.defs (F := Ideal)) (onTc (τ := Cert.AdamEvenBiasIdeal.τ) (Cert.AdamEvenBiasIdeal.main (F := Ideal))) ⟨m, fun _ => 0, g⟩ (fun r => ∀ c : Dev Cert.AdamEvenBiasIdeal.nD,
          r.2.mem ((c.tc : Thread Cert.AdamEvenBiasIdeal.nD Cert.AdamEvenBiasIdeal.τ).loc Cert.AdamEvenBiasIdeal.main_v0_0) = v0 c
          ∧ r.2.mem ((c.tc : Thread Cert.AdamEvenBiasIdeal.nD Cert.AdamEvenBiasIdeal.τ).loc Cert.AdamEvenBiasIdeal.main_v0_1) = v1 c
          ∧ r.2.mem ((c.tc : Thread Cert.AdamEvenBiasIdeal.nD Cert.AdamEvenBiasIdeal.τ).loc Cert.AdamEvenBiasIdeal.main_v0_2) = v2 c
          ∧ r.2.mem ((c.tc : Thread Cert.AdamEvenBiasIdeal.nD Cert.AdamEvenBiasIdeal.τ).loc Cert.AdamEvenBiasIdeal.main_arg0) = m ((c.tc : Thread Cert.AdamEvenBiasIdeal.nD Cert.AdamEvenBiasIdeal.τ).loc Cert.AdamEvenBiasIdeal.main_arg0)
          ∧ r.2.mem ((c.tc : Thread Cert.AdamEvenBiasIdeal.nD Cert.AdamEvenBiasIdeal.τ).loc Cert.AdamEvenBiasIdeal.main_arg1) = m ((c.tc : Thread Cert.AdamEvenBiasIdeal.nD Cert.AdamEvenBiasIdeal.τ).loc Cert.AdamEvenBiasIdeal.main_arg1)
          ∧ r.2.mem ((c.tc : Thread Cert.AdamEvenBiasIdeal.nD Cert.AdamEvenBiasIdeal.τ).loc Cert.AdamEvenBiasIdeal.main_arg2) = m ((c.tc : Thread Cert.AdamEvenBiasIdeal.nD Cert.AdamEvenBiasIdeal.τ).loc Cert.AdamEvenBiasIdeal.main_arg2)
          ∧ r.2.mem ((c.tc : Thread Cert.AdamEvenBiasIdeal.nD Cert.AdamEvenBiasIdeal.τ).loc Cert.AdamEvenBiasIdeal.main_arg3) = m ((c.tc : Thread Cert.AdamEvenBiasIdeal.nD Cert.AdamEvenBiasIdeal.τ).loc Cert.AdamEvenBiasIdeal.main_arg3))
      ∧ θ_run (Cert.AdamEvenBiasPlainIdeal.defs (F := Ideal)) (onTc (τ := Cert.AdamEvenBiasPlainIdeal.τ) (Cert.AdamEvenBiasPlainIdeal.main (F := Ideal))) ⟨m', fun _ => 0, g'⟩ (fun r => ∀ c : Dev Cert.AdamEvenBiasPlainIdeal.nD,
          r.2.mem ((c.tc : Thread Cert.AdamEvenBiasPlainIdeal.nD Cert.AdamEvenBiasPlainIdeal.τ).loc Cert.AdamEvenBiasPlainIdeal.main_v23) = v0 c
          ∧ r.2.mem ((c.tc : Thread Cert.AdamEvenBiasPlainIdeal.nD Cert.AdamEvenBiasPlainIdeal.τ).loc Cert.AdamEvenBiasPlainIdeal.main_v4) = v1 c
          ∧ r.2.mem ((c.tc : Thread Cert.AdamEvenBiasPlainIdeal.nD Cert.AdamEvenBiasPlainIdeal.τ).loc Cert.AdamEvenBiasPlainIdeal.main_v10) = v2 c
          ∧ r.2.mem ((c.tc : Thread Cert.AdamEvenBiasPlainIdeal.nD Cert.AdamEvenBiasPlainIdeal.τ).loc Cert.AdamEvenBiasPlainIdeal.main_arg0) = m' ((c.tc : Thread Cert.AdamEvenBiasPlainIdeal.nD Cert.AdamEvenBiasPlainIdeal.τ).loc Cert.AdamEvenBiasPlainIdeal.main_arg0)
          ∧ r.2.mem ((c.tc : Thread Cert.AdamEvenBiasPlainIdeal.nD Cert.AdamEvenBiasPlainIdeal.τ).loc Cert.AdamEvenBiasPlainIdeal.main_arg1) = m' ((c.tc : Thread Cert.AdamEvenBiasPlainIdeal.nD Cert.AdamEvenBiasPlainIdeal.τ).loc Cert.AdamEvenBiasPlainIdeal.main_arg1)
          ∧ r.2.mem ((c.tc : Thread Cert.AdamEvenBiasPlainIdeal.nD Cert.AdamEvenBiasPlainIdeal.τ).loc Cert.AdamEvenBiasPlainIdeal.main_arg2) = m' ((c.tc : Thread Cert.AdamEvenBiasPlainIdeal.nD Cert.AdamEvenBiasPlainIdeal.τ).loc Cert.AdamEvenBiasPlainIdeal.main_arg2)
          ∧ r.2.mem ((c.tc : Thread Cert.AdamEvenBiasPlainIdeal.nD Cert.AdamEvenBiasPlainIdeal.τ).loc Cert.AdamEvenBiasPlainIdeal.main_arg3) = m' ((c.tc : Thread Cert.AdamEvenBiasPlainIdeal.nD Cert.AdamEvenBiasPlainIdeal.τ).loc Cert.AdamEvenBiasPlainIdeal.main_arg3))

def preserves_AdamEvenHeads_AdamEvenHeadsIdeal : Prop :=
  True

def algebraic_AdamEvenHeadsIdeal_AdamEvenHeadsPlainIdeal [hAdamEvenHeadsIdeal : Cert.AdamEvenHeadsIdeal.Facts] [hAdamEvenHeadsPlainIdeal : Cert.AdamEvenHeadsPlainIdeal.Facts] : Prop :=
  ∀ (m : (ℓ : Loc Cert.AdamEvenHeadsIdeal.nD Cert.AdamEvenHeadsIdeal.τ Cert.AdamEvenHeadsIdeal.sig) → Buf (Elt Ideal) ℓ) (g : Dev Cert.AdamEvenHeadsIdeal.nD → PrngReg)
    (m' : (ℓ : Loc Cert.AdamEvenHeadsPlainIdeal.nD Cert.AdamEvenHeadsPlainIdeal.τ Cert.AdamEvenHeadsPlainIdeal.sig) → Buf (Elt Ideal) ℓ) (g' : Dev Cert.AdamEvenHeadsPlainIdeal.nD → PrngReg), Pre_AdamEvenHeadsIdeal m →
    (∀ c : Dev Cert.AdamEvenHeadsIdeal.nD,
      m' ((c.tc : Thread Cert.AdamEvenHeadsPlainIdeal.nD Cert.AdamEvenHeadsPlainIdeal.τ).loc Cert.AdamEvenHeadsPlainIdeal.main_arg0) = m ((c.tc : Thread Cert.AdamEvenHeadsIdeal.nD Cert.AdamEvenHeadsIdeal.τ).loc Cert.AdamEvenHeadsIdeal.main_arg0)
      ∧ m' ((c.tc : Thread Cert.AdamEvenHeadsPlainIdeal.nD Cert.AdamEvenHeadsPlainIdeal.τ).loc Cert.AdamEvenHeadsPlainIdeal.main_arg1) = m ((c.tc : Thread Cert.AdamEvenHeadsIdeal.nD Cert.AdamEvenHeadsIdeal.τ).loc Cert.AdamEvenHeadsIdeal.main_arg1)
      ∧ m' ((c.tc : Thread Cert.AdamEvenHeadsPlainIdeal.nD Cert.AdamEvenHeadsPlainIdeal.τ).loc Cert.AdamEvenHeadsPlainIdeal.main_arg2) = m ((c.tc : Thread Cert.AdamEvenHeadsIdeal.nD Cert.AdamEvenHeadsIdeal.τ).loc Cert.AdamEvenHeadsIdeal.main_arg2)
      ∧ m' ((c.tc : Thread Cert.AdamEvenHeadsPlainIdeal.nD Cert.AdamEvenHeadsPlainIdeal.τ).loc Cert.AdamEvenHeadsPlainIdeal.main_arg3) = m ((c.tc : Thread Cert.AdamEvenHeadsIdeal.nD Cert.AdamEvenHeadsIdeal.τ).loc Cert.AdamEvenHeadsIdeal.main_arg3)) →
    ∃ (v0 : (c : Dev Cert.AdamEvenHeadsIdeal.nD) → Buf (Elt Ideal) ((c.tc : Thread Cert.AdamEvenHeadsIdeal.nD Cert.AdamEvenHeadsIdeal.τ).loc Cert.AdamEvenHeadsIdeal.main_v0_0)) (v1 : (c : Dev Cert.AdamEvenHeadsIdeal.nD) → Buf (Elt Ideal) ((c.tc : Thread Cert.AdamEvenHeadsIdeal.nD Cert.AdamEvenHeadsIdeal.τ).loc Cert.AdamEvenHeadsIdeal.main_v0_1)) (v2 : (c : Dev Cert.AdamEvenHeadsIdeal.nD) → Buf (Elt Ideal) ((c.tc : Thread Cert.AdamEvenHeadsIdeal.nD Cert.AdamEvenHeadsIdeal.τ).loc Cert.AdamEvenHeadsIdeal.main_v0_2)),
      θ_run (Cert.AdamEvenHeadsIdeal.defs (F := Ideal)) (onTc (τ := Cert.AdamEvenHeadsIdeal.τ) (Cert.AdamEvenHeadsIdeal.main (F := Ideal))) ⟨m, fun _ => 0, g⟩ (fun r => ∀ c : Dev Cert.AdamEvenHeadsIdeal.nD,
          r.2.mem ((c.tc : Thread Cert.AdamEvenHeadsIdeal.nD Cert.AdamEvenHeadsIdeal.τ).loc Cert.AdamEvenHeadsIdeal.main_v0_0) = v0 c
          ∧ r.2.mem ((c.tc : Thread Cert.AdamEvenHeadsIdeal.nD Cert.AdamEvenHeadsIdeal.τ).loc Cert.AdamEvenHeadsIdeal.main_v0_1) = v1 c
          ∧ r.2.mem ((c.tc : Thread Cert.AdamEvenHeadsIdeal.nD Cert.AdamEvenHeadsIdeal.τ).loc Cert.AdamEvenHeadsIdeal.main_v0_2) = v2 c
          ∧ r.2.mem ((c.tc : Thread Cert.AdamEvenHeadsIdeal.nD Cert.AdamEvenHeadsIdeal.τ).loc Cert.AdamEvenHeadsIdeal.main_arg0) = m ((c.tc : Thread Cert.AdamEvenHeadsIdeal.nD Cert.AdamEvenHeadsIdeal.τ).loc Cert.AdamEvenHeadsIdeal.main_arg0)
          ∧ r.2.mem ((c.tc : Thread Cert.AdamEvenHeadsIdeal.nD Cert.AdamEvenHeadsIdeal.τ).loc Cert.AdamEvenHeadsIdeal.main_arg1) = m ((c.tc : Thread Cert.AdamEvenHeadsIdeal.nD Cert.AdamEvenHeadsIdeal.τ).loc Cert.AdamEvenHeadsIdeal.main_arg1)
          ∧ r.2.mem ((c.tc : Thread Cert.AdamEvenHeadsIdeal.nD Cert.AdamEvenHeadsIdeal.τ).loc Cert.AdamEvenHeadsIdeal.main_arg2) = m ((c.tc : Thread Cert.AdamEvenHeadsIdeal.nD Cert.AdamEvenHeadsIdeal.τ).loc Cert.AdamEvenHeadsIdeal.main_arg2)
          ∧ r.2.mem ((c.tc : Thread Cert.AdamEvenHeadsIdeal.nD Cert.AdamEvenHeadsIdeal.τ).loc Cert.AdamEvenHeadsIdeal.main_arg3) = m ((c.tc : Thread Cert.AdamEvenHeadsIdeal.nD Cert.AdamEvenHeadsIdeal.τ).loc Cert.AdamEvenHeadsIdeal.main_arg3))
      ∧ θ_run (Cert.AdamEvenHeadsPlainIdeal.defs (F := Ideal)) (onTc (τ := Cert.AdamEvenHeadsPlainIdeal.τ) (Cert.AdamEvenHeadsPlainIdeal.main (F := Ideal))) ⟨m', fun _ => 0, g'⟩ (fun r => ∀ c : Dev Cert.AdamEvenHeadsPlainIdeal.nD,
          r.2.mem ((c.tc : Thread Cert.AdamEvenHeadsPlainIdeal.nD Cert.AdamEvenHeadsPlainIdeal.τ).loc Cert.AdamEvenHeadsPlainIdeal.main_v23) = v0 c
          ∧ r.2.mem ((c.tc : Thread Cert.AdamEvenHeadsPlainIdeal.nD Cert.AdamEvenHeadsPlainIdeal.τ).loc Cert.AdamEvenHeadsPlainIdeal.main_v4) = v1 c
          ∧ r.2.mem ((c.tc : Thread Cert.AdamEvenHeadsPlainIdeal.nD Cert.AdamEvenHeadsPlainIdeal.τ).loc Cert.AdamEvenHeadsPlainIdeal.main_v10) = v2 c
          ∧ r.2.mem ((c.tc : Thread Cert.AdamEvenHeadsPlainIdeal.nD Cert.AdamEvenHeadsPlainIdeal.τ).loc Cert.AdamEvenHeadsPlainIdeal.main_arg0) = m' ((c.tc : Thread Cert.AdamEvenHeadsPlainIdeal.nD Cert.AdamEvenHeadsPlainIdeal.τ).loc Cert.AdamEvenHeadsPlainIdeal.main_arg0)
          ∧ r.2.mem ((c.tc : Thread Cert.AdamEvenHeadsPlainIdeal.nD Cert.AdamEvenHeadsPlainIdeal.τ).loc Cert.AdamEvenHeadsPlainIdeal.main_arg1) = m' ((c.tc : Thread Cert.AdamEvenHeadsPlainIdeal.nD Cert.AdamEvenHeadsPlainIdeal.τ).loc Cert.AdamEvenHeadsPlainIdeal.main_arg1)
          ∧ r.2.mem ((c.tc : Thread Cert.AdamEvenHeadsPlainIdeal.nD Cert.AdamEvenHeadsPlainIdeal.τ).loc Cert.AdamEvenHeadsPlainIdeal.main_arg2) = m' ((c.tc : Thread Cert.AdamEvenHeadsPlainIdeal.nD Cert.AdamEvenHeadsPlainIdeal.τ).loc Cert.AdamEvenHeadsPlainIdeal.main_arg2)
          ∧ r.2.mem ((c.tc : Thread Cert.AdamEvenHeadsPlainIdeal.nD Cert.AdamEvenHeadsPlainIdeal.τ).loc Cert.AdamEvenHeadsPlainIdeal.main_arg3) = m' ((c.tc : Thread Cert.AdamEvenHeadsPlainIdeal.nD Cert.AdamEvenHeadsPlainIdeal.τ).loc Cert.AdamEvenHeadsPlainIdeal.main_arg3))

def preserves_AdamEvenNorm_AdamEvenNormIdeal : Prop :=
  True

def algebraic_AdamEvenNormIdeal_AdamEvenNormPlainIdeal [hAdamEvenNormIdeal : Cert.AdamEvenNormIdeal.Facts] [hAdamEvenNormPlainIdeal : Cert.AdamEvenNormPlainIdeal.Facts] : Prop :=
  ∀ (m : (ℓ : Loc Cert.AdamEvenNormIdeal.nD Cert.AdamEvenNormIdeal.τ Cert.AdamEvenNormIdeal.sig) → Buf (Elt Ideal) ℓ) (g : Dev Cert.AdamEvenNormIdeal.nD → PrngReg)
    (m' : (ℓ : Loc Cert.AdamEvenNormPlainIdeal.nD Cert.AdamEvenNormPlainIdeal.τ Cert.AdamEvenNormPlainIdeal.sig) → Buf (Elt Ideal) ℓ) (g' : Dev Cert.AdamEvenNormPlainIdeal.nD → PrngReg), Pre_AdamEvenNormIdeal m →
    (∀ c : Dev Cert.AdamEvenNormIdeal.nD,
      m' ((c.tc : Thread Cert.AdamEvenNormPlainIdeal.nD Cert.AdamEvenNormPlainIdeal.τ).loc Cert.AdamEvenNormPlainIdeal.main_arg0) = m ((c.tc : Thread Cert.AdamEvenNormIdeal.nD Cert.AdamEvenNormIdeal.τ).loc Cert.AdamEvenNormIdeal.main_arg0)
      ∧ m' ((c.tc : Thread Cert.AdamEvenNormPlainIdeal.nD Cert.AdamEvenNormPlainIdeal.τ).loc Cert.AdamEvenNormPlainIdeal.main_arg1) = m ((c.tc : Thread Cert.AdamEvenNormIdeal.nD Cert.AdamEvenNormIdeal.τ).loc Cert.AdamEvenNormIdeal.main_arg1)
      ∧ m' ((c.tc : Thread Cert.AdamEvenNormPlainIdeal.nD Cert.AdamEvenNormPlainIdeal.τ).loc Cert.AdamEvenNormPlainIdeal.main_arg2) = m ((c.tc : Thread Cert.AdamEvenNormIdeal.nD Cert.AdamEvenNormIdeal.τ).loc Cert.AdamEvenNormIdeal.main_arg2)
      ∧ m' ((c.tc : Thread Cert.AdamEvenNormPlainIdeal.nD Cert.AdamEvenNormPlainIdeal.τ).loc Cert.AdamEvenNormPlainIdeal.main_arg3) = m ((c.tc : Thread Cert.AdamEvenNormIdeal.nD Cert.AdamEvenNormIdeal.τ).loc Cert.AdamEvenNormIdeal.main_arg3)) →
    ∃ (v0 : (c : Dev Cert.AdamEvenNormIdeal.nD) → Buf (Elt Ideal) ((c.tc : Thread Cert.AdamEvenNormIdeal.nD Cert.AdamEvenNormIdeal.τ).loc Cert.AdamEvenNormIdeal.main_v0_0)) (v1 : (c : Dev Cert.AdamEvenNormIdeal.nD) → Buf (Elt Ideal) ((c.tc : Thread Cert.AdamEvenNormIdeal.nD Cert.AdamEvenNormIdeal.τ).loc Cert.AdamEvenNormIdeal.main_v0_1)) (v2 : (c : Dev Cert.AdamEvenNormIdeal.nD) → Buf (Elt Ideal) ((c.tc : Thread Cert.AdamEvenNormIdeal.nD Cert.AdamEvenNormIdeal.τ).loc Cert.AdamEvenNormIdeal.main_v0_2)),
      θ_run (Cert.AdamEvenNormIdeal.defs (F := Ideal)) (onTc (τ := Cert.AdamEvenNormIdeal.τ) (Cert.AdamEvenNormIdeal.main (F := Ideal))) ⟨m, fun _ => 0, g⟩ (fun r => ∀ c : Dev Cert.AdamEvenNormIdeal.nD,
          r.2.mem ((c.tc : Thread Cert.AdamEvenNormIdeal.nD Cert.AdamEvenNormIdeal.τ).loc Cert.AdamEvenNormIdeal.main_v0_0) = v0 c
          ∧ r.2.mem ((c.tc : Thread Cert.AdamEvenNormIdeal.nD Cert.AdamEvenNormIdeal.τ).loc Cert.AdamEvenNormIdeal.main_v0_1) = v1 c
          ∧ r.2.mem ((c.tc : Thread Cert.AdamEvenNormIdeal.nD Cert.AdamEvenNormIdeal.τ).loc Cert.AdamEvenNormIdeal.main_v0_2) = v2 c
          ∧ r.2.mem ((c.tc : Thread Cert.AdamEvenNormIdeal.nD Cert.AdamEvenNormIdeal.τ).loc Cert.AdamEvenNormIdeal.main_arg0) = m ((c.tc : Thread Cert.AdamEvenNormIdeal.nD Cert.AdamEvenNormIdeal.τ).loc Cert.AdamEvenNormIdeal.main_arg0)
          ∧ r.2.mem ((c.tc : Thread Cert.AdamEvenNormIdeal.nD Cert.AdamEvenNormIdeal.τ).loc Cert.AdamEvenNormIdeal.main_arg1) = m ((c.tc : Thread Cert.AdamEvenNormIdeal.nD Cert.AdamEvenNormIdeal.τ).loc Cert.AdamEvenNormIdeal.main_arg1)
          ∧ r.2.mem ((c.tc : Thread Cert.AdamEvenNormIdeal.nD Cert.AdamEvenNormIdeal.τ).loc Cert.AdamEvenNormIdeal.main_arg2) = m ((c.tc : Thread Cert.AdamEvenNormIdeal.nD Cert.AdamEvenNormIdeal.τ).loc Cert.AdamEvenNormIdeal.main_arg2)
          ∧ r.2.mem ((c.tc : Thread Cert.AdamEvenNormIdeal.nD Cert.AdamEvenNormIdeal.τ).loc Cert.AdamEvenNormIdeal.main_arg3) = m ((c.tc : Thread Cert.AdamEvenNormIdeal.nD Cert.AdamEvenNormIdeal.τ).loc Cert.AdamEvenNormIdeal.main_arg3))
      ∧ θ_run (Cert.AdamEvenNormPlainIdeal.defs (F := Ideal)) (onTc (τ := Cert.AdamEvenNormPlainIdeal.τ) (Cert.AdamEvenNormPlainIdeal.main (F := Ideal))) ⟨m', fun _ => 0, g'⟩ (fun r => ∀ c : Dev Cert.AdamEvenNormPlainIdeal.nD,
          r.2.mem ((c.tc : Thread Cert.AdamEvenNormPlainIdeal.nD Cert.AdamEvenNormPlainIdeal.τ).loc Cert.AdamEvenNormPlainIdeal.main_v23) = v0 c
          ∧ r.2.mem ((c.tc : Thread Cert.AdamEvenNormPlainIdeal.nD Cert.AdamEvenNormPlainIdeal.τ).loc Cert.AdamEvenNormPlainIdeal.main_v4) = v1 c
          ∧ r.2.mem ((c.tc : Thread Cert.AdamEvenNormPlainIdeal.nD Cert.AdamEvenNormPlainIdeal.τ).loc Cert.AdamEvenNormPlainIdeal.main_v10) = v2 c
          ∧ r.2.mem ((c.tc : Thread Cert.AdamEvenNormPlainIdeal.nD Cert.AdamEvenNormPlainIdeal.τ).loc Cert.AdamEvenNormPlainIdeal.main_arg0) = m' ((c.tc : Thread Cert.AdamEvenNormPlainIdeal.nD Cert.AdamEvenNormPlainIdeal.τ).loc Cert.AdamEvenNormPlainIdeal.main_arg0)
          ∧ r.2.mem ((c.tc : Thread Cert.AdamEvenNormPlainIdeal.nD Cert.AdamEvenNormPlainIdeal.τ).loc Cert.AdamEvenNormPlainIdeal.main_arg1) = m' ((c.tc : Thread Cert.AdamEvenNormPlainIdeal.nD Cert.AdamEvenNormPlainIdeal.τ).loc Cert.AdamEvenNormPlainIdeal.main_arg1)
          ∧ r.2.mem ((c.tc : Thread Cert.AdamEvenNormPlainIdeal.nD Cert.AdamEvenNormPlainIdeal.τ).loc Cert.AdamEvenNormPlainIdeal.main_arg2) = m' ((c.tc : Thread Cert.AdamEvenNormPlainIdeal.nD Cert.AdamEvenNormPlainIdeal.τ).loc Cert.AdamEvenNormPlainIdeal.main_arg2)
          ∧ r.2.mem ((c.tc : Thread Cert.AdamEvenNormPlainIdeal.nD Cert.AdamEvenNormPlainIdeal.τ).loc Cert.AdamEvenNormPlainIdeal.main_arg3) = m' ((c.tc : Thread Cert.AdamEvenNormPlainIdeal.nD Cert.AdamEvenNormPlainIdeal.τ).loc Cert.AdamEvenNormPlainIdeal.main_arg3))

def preserves_AdamEvenOut_AdamEvenOutIdeal : Prop :=
  True

def algebraic_AdamEvenOutIdeal_AdamEvenOutPlainIdeal [hAdamEvenOutIdeal : Cert.AdamEvenOutIdeal.Facts] [hAdamEvenOutPlainIdeal : Cert.AdamEvenOutPlainIdeal.Facts] : Prop :=
  ∀ (m : (ℓ : Loc Cert.AdamEvenOutIdeal.nD Cert.AdamEvenOutIdeal.τ Cert.AdamEvenOutIdeal.sig) → Buf (Elt Ideal) ℓ) (g : Dev Cert.AdamEvenOutIdeal.nD → PrngReg)
    (m' : (ℓ : Loc Cert.AdamEvenOutPlainIdeal.nD Cert.AdamEvenOutPlainIdeal.τ Cert.AdamEvenOutPlainIdeal.sig) → Buf (Elt Ideal) ℓ) (g' : Dev Cert.AdamEvenOutPlainIdeal.nD → PrngReg), Pre_AdamEvenOutIdeal m →
    (∀ c : Dev Cert.AdamEvenOutIdeal.nD,
      m' ((c.tc : Thread Cert.AdamEvenOutPlainIdeal.nD Cert.AdamEvenOutPlainIdeal.τ).loc Cert.AdamEvenOutPlainIdeal.main_arg0) = m ((c.tc : Thread Cert.AdamEvenOutIdeal.nD Cert.AdamEvenOutIdeal.τ).loc Cert.AdamEvenOutIdeal.main_arg0)
      ∧ m' ((c.tc : Thread Cert.AdamEvenOutPlainIdeal.nD Cert.AdamEvenOutPlainIdeal.τ).loc Cert.AdamEvenOutPlainIdeal.main_arg1) = m ((c.tc : Thread Cert.AdamEvenOutIdeal.nD Cert.AdamEvenOutIdeal.τ).loc Cert.AdamEvenOutIdeal.main_arg1)
      ∧ m' ((c.tc : Thread Cert.AdamEvenOutPlainIdeal.nD Cert.AdamEvenOutPlainIdeal.τ).loc Cert.AdamEvenOutPlainIdeal.main_arg2) = m ((c.tc : Thread Cert.AdamEvenOutIdeal.nD Cert.AdamEvenOutIdeal.τ).loc Cert.AdamEvenOutIdeal.main_arg2)
      ∧ m' ((c.tc : Thread Cert.AdamEvenOutPlainIdeal.nD Cert.AdamEvenOutPlainIdeal.τ).loc Cert.AdamEvenOutPlainIdeal.main_arg3) = m ((c.tc : Thread Cert.AdamEvenOutIdeal.nD Cert.AdamEvenOutIdeal.τ).loc Cert.AdamEvenOutIdeal.main_arg3)) →
    ∃ (v0 : (c : Dev Cert.AdamEvenOutIdeal.nD) → Buf (Elt Ideal) ((c.tc : Thread Cert.AdamEvenOutIdeal.nD Cert.AdamEvenOutIdeal.τ).loc Cert.AdamEvenOutIdeal.main_v4_0)) (v1 : (c : Dev Cert.AdamEvenOutIdeal.nD) → Buf (Elt Ideal) ((c.tc : Thread Cert.AdamEvenOutIdeal.nD Cert.AdamEvenOutIdeal.τ).loc Cert.AdamEvenOutIdeal.main_v4_1)) (v2 : (c : Dev Cert.AdamEvenOutIdeal.nD) → Buf (Elt Ideal) ((c.tc : Thread Cert.AdamEvenOutIdeal.nD Cert.AdamEvenOutIdeal.τ).loc Cert.AdamEvenOutIdeal.main_v4_2)),
      θ_run (Cert.AdamEvenOutIdeal.defs (F := Ideal)) (onTc (τ := Cert.AdamEvenOutIdeal.τ) (Cert.AdamEvenOutIdeal.main (F := Ideal))) ⟨m, fun _ => 0, g⟩ (fun r => ∀ c : Dev Cert.AdamEvenOutIdeal.nD,
          r.2.mem ((c.tc : Thread Cert.AdamEvenOutIdeal.nD Cert.AdamEvenOutIdeal.τ).loc Cert.AdamEvenOutIdeal.main_v4_0) = v0 c
          ∧ r.2.mem ((c.tc : Thread Cert.AdamEvenOutIdeal.nD Cert.AdamEvenOutIdeal.τ).loc Cert.AdamEvenOutIdeal.main_v4_1) = v1 c
          ∧ r.2.mem ((c.tc : Thread Cert.AdamEvenOutIdeal.nD Cert.AdamEvenOutIdeal.τ).loc Cert.AdamEvenOutIdeal.main_v4_2) = v2 c
          ∧ r.2.mem ((c.tc : Thread Cert.AdamEvenOutIdeal.nD Cert.AdamEvenOutIdeal.τ).loc Cert.AdamEvenOutIdeal.main_arg0) = m ((c.tc : Thread Cert.AdamEvenOutIdeal.nD Cert.AdamEvenOutIdeal.τ).loc Cert.AdamEvenOutIdeal.main_arg0)
          ∧ r.2.mem ((c.tc : Thread Cert.AdamEvenOutIdeal.nD Cert.AdamEvenOutIdeal.τ).loc Cert.AdamEvenOutIdeal.main_arg1) = m ((c.tc : Thread Cert.AdamEvenOutIdeal.nD Cert.AdamEvenOutIdeal.τ).loc Cert.AdamEvenOutIdeal.main_arg1)
          ∧ r.2.mem ((c.tc : Thread Cert.AdamEvenOutIdeal.nD Cert.AdamEvenOutIdeal.τ).loc Cert.AdamEvenOutIdeal.main_arg2) = m ((c.tc : Thread Cert.AdamEvenOutIdeal.nD Cert.AdamEvenOutIdeal.τ).loc Cert.AdamEvenOutIdeal.main_arg2)
          ∧ r.2.mem ((c.tc : Thread Cert.AdamEvenOutIdeal.nD Cert.AdamEvenOutIdeal.τ).loc Cert.AdamEvenOutIdeal.main_arg3) = m ((c.tc : Thread Cert.AdamEvenOutIdeal.nD Cert.AdamEvenOutIdeal.τ).loc Cert.AdamEvenOutIdeal.main_arg3))
      ∧ θ_run (Cert.AdamEvenOutPlainIdeal.defs (F := Ideal)) (onTc (τ := Cert.AdamEvenOutPlainIdeal.τ) (Cert.AdamEvenOutPlainIdeal.main (F := Ideal))) ⟨m', fun _ => 0, g'⟩ (fun r => ∀ c : Dev Cert.AdamEvenOutPlainIdeal.nD,
          r.2.mem ((c.tc : Thread Cert.AdamEvenOutPlainIdeal.nD Cert.AdamEvenOutPlainIdeal.τ).loc Cert.AdamEvenOutPlainIdeal.main_v24) = v0 c
          ∧ r.2.mem ((c.tc : Thread Cert.AdamEvenOutPlainIdeal.nD Cert.AdamEvenOutPlainIdeal.τ).loc Cert.AdamEvenOutPlainIdeal.main_v25) = v1 c
          ∧ r.2.mem ((c.tc : Thread Cert.AdamEvenOutPlainIdeal.nD Cert.AdamEvenOutPlainIdeal.τ).loc Cert.AdamEvenOutPlainIdeal.main_v26) = v2 c
          ∧ r.2.mem ((c.tc : Thread Cert.AdamEvenOutPlainIdeal.nD Cert.AdamEvenOutPlainIdeal.τ).loc Cert.AdamEvenOutPlainIdeal.main_arg0) = m' ((c.tc : Thread Cert.AdamEvenOutPlainIdeal.nD Cert.AdamEvenOutPlainIdeal.τ).loc Cert.AdamEvenOutPlainIdeal.main_arg0)
          ∧ r.2.mem ((c.tc : Thread Cert.AdamEvenOutPlainIdeal.nD Cert.AdamEvenOutPlainIdeal.τ).loc Cert.AdamEvenOutPlainIdeal.main_arg1) = m' ((c.tc : Thread Cert.AdamEvenOutPlainIdeal.nD Cert.AdamEvenOutPlainIdeal.τ).loc Cert.AdamEvenOutPlainIdeal.main_arg1)
          ∧ r.2.mem ((c.tc : Thread Cert.AdamEvenOutPlainIdeal.nD Cert.AdamEvenOutPlainIdeal.τ).loc Cert.AdamEvenOutPlainIdeal.main_arg2) = m' ((c.tc : Thread Cert.AdamEvenOutPlainIdeal.nD Cert.AdamEvenOutPlainIdeal.τ).loc Cert.AdamEvenOutPlainIdeal.main_arg2)
          ∧ r.2.mem ((c.tc : Thread Cert.AdamEvenOutPlainIdeal.nD Cert.AdamEvenOutPlainIdeal.τ).loc Cert.AdamEvenOutPlainIdeal.main_arg3) = m' ((c.tc : Thread Cert.AdamEvenOutPlainIdeal.nD Cert.AdamEvenOutPlainIdeal.τ).loc Cert.AdamEvenOutPlainIdeal.main_arg3))

def preserves_AdamOddIn_AdamOddInIdeal : Prop :=
  True

def algebraic_AdamOddInIdeal_AdamOddInPlainIdeal [hAdamOddInIdeal : Cert.AdamOddInIdeal.Facts] [hAdamOddInPlainIdeal : Cert.AdamOddInPlainIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg)
    (m' : (ℓ : Loc Cert.AdamOddInPlainIdeal.nD Cert.AdamOddInPlainIdeal.τ Cert.AdamOddInPlainIdeal.sig) → Buf (Elt Ideal) ℓ) (g' : Dev Cert.AdamOddInPlainIdeal.nD → PrngReg), Pre_AdamOddInIdeal m →
    (∀ c : Dev Cert.AdamOddInIdeal.nD,
      m' ((c.tc : Thread Cert.AdamOddInPlainIdeal.nD Cert.AdamOddInPlainIdeal.τ).loc Cert.AdamOddInPlainIdeal.main_arg0) = m ((c.tc : Thread Cert.AdamOddInIdeal.nD Cert.AdamOddInIdeal.τ).loc Cert.AdamOddInIdeal.main_arg0)
      ∧ m' ((c.tc : Thread Cert.AdamOddInPlainIdeal.nD Cert.AdamOddInPlainIdeal.τ).loc Cert.AdamOddInPlainIdeal.main_arg1) = m ((c.tc : Thread Cert.AdamOddInIdeal.nD Cert.AdamOddInIdeal.τ).loc Cert.AdamOddInIdeal.main_arg1)
      ∧ m' ((c.tc : Thread Cert.AdamOddInPlainIdeal.nD Cert.AdamOddInPlainIdeal.τ).loc Cert.AdamOddInPlainIdeal.main_arg2) = m ((c.tc : Thread Cert.AdamOddInIdeal.nD Cert.AdamOddInIdeal.τ).loc Cert.AdamOddInIdeal.main_arg2)
      ∧ m' ((c.tc : Thread Cert.AdamOddInPlainIdeal.nD Cert.AdamOddInPlainIdeal.τ).loc Cert.AdamOddInPlainIdeal.main_arg3) = m ((c.tc : Thread Cert.AdamOddInIdeal.nD Cert.AdamOddInIdeal.τ).loc Cert.AdamOddInIdeal.main_arg3)) →
    ∃ (v0 : (c : Dev Cert.AdamOddInIdeal.nD) → Buf (Elt Ideal) ((c.tc : Thread Cert.AdamOddInIdeal.nD Cert.AdamOddInIdeal.τ).loc Cert.AdamOddInIdeal.main_v4_0)) (v1 : (c : Dev Cert.AdamOddInIdeal.nD) → Buf (Elt Ideal) ((c.tc : Thread Cert.AdamOddInIdeal.nD Cert.AdamOddInIdeal.τ).loc Cert.AdamOddInIdeal.main_v4_1)) (v2 : (c : Dev Cert.AdamOddInIdeal.nD) → Buf (Elt Ideal) ((c.tc : Thread Cert.AdamOddInIdeal.nD Cert.AdamOddInIdeal.τ).loc Cert.AdamOddInIdeal.main_v4_2)),
      θ_run (Cert.AdamOddInIdeal.defs (F := Ideal)) (onTc (τ := Cert.AdamOddInIdeal.τ) (Cert.AdamOddInIdeal.main (F := Ideal))) ⟨m, fun _ => 0, g⟩ (fun r => ∀ c : Dev Cert.AdamOddInIdeal.nD,
          r.2.mem ((c.tc : Thread Cert.AdamOddInIdeal.nD Cert.AdamOddInIdeal.τ).loc Cert.AdamOddInIdeal.main_v4_0) = v0 c
          ∧ r.2.mem ((c.tc : Thread Cert.AdamOddInIdeal.nD Cert.AdamOddInIdeal.τ).loc Cert.AdamOddInIdeal.main_v4_1) = v1 c
          ∧ r.2.mem ((c.tc : Thread Cert.AdamOddInIdeal.nD Cert.AdamOddInIdeal.τ).loc Cert.AdamOddInIdeal.main_v4_2) = v2 c
          ∧ r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
          ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
          ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
          ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ θ_run (Cert.AdamOddInPlainIdeal.defs (F := Ideal)) (onTc (τ := Cert.AdamOddInPlainIdeal.τ) (Cert.AdamOddInPlainIdeal.main (F := Ideal))) ⟨m', fun _ => 0, g'⟩ (fun r => ∀ c : Dev Cert.AdamOddInPlainIdeal.nD,
          r.2.mem ((c.tc : Thread Cert.AdamOddInPlainIdeal.nD Cert.AdamOddInPlainIdeal.τ).loc Cert.AdamOddInPlainIdeal.main_v24) = v0 c
          ∧ r.2.mem ((c.tc : Thread Cert.AdamOddInPlainIdeal.nD Cert.AdamOddInPlainIdeal.τ).loc Cert.AdamOddInPlainIdeal.main_v25) = v1 c
          ∧ r.2.mem ((c.tc : Thread Cert.AdamOddInPlainIdeal.nD Cert.AdamOddInPlainIdeal.τ).loc Cert.AdamOddInPlainIdeal.main_v26) = v2 c
          ∧ r.2.mem ((c.tc : Thread Cert.AdamOddInPlainIdeal.nD Cert.AdamOddInPlainIdeal.τ).loc Cert.AdamOddInPlainIdeal.main_arg0) = m' ((c.tc : Thread Cert.AdamOddInPlainIdeal.nD Cert.AdamOddInPlainIdeal.τ).loc Cert.AdamOddInPlainIdeal.main_arg0)
          ∧ r.2.mem ((c.tc : Thread Cert.AdamOddInPlainIdeal.nD Cert.AdamOddInPlainIdeal.τ).loc Cert.AdamOddInPlainIdeal.main_arg1) = m' ((c.tc : Thread Cert.AdamOddInPlainIdeal.nD Cert.AdamOddInPlainIdeal.τ).loc Cert.AdamOddInPlainIdeal.main_arg1)
          ∧ r.2.mem ((c.tc : Thread Cert.AdamOddInPlainIdeal.nD Cert.AdamOddInPlainIdeal.τ).loc Cert.AdamOddInPlainIdeal.main_arg2) = m' ((c.tc : Thread Cert.AdamOddInPlainIdeal.nD Cert.AdamOddInPlainIdeal.τ).loc Cert.AdamOddInPlainIdeal.main_arg2)
          ∧ r.2.mem ((c.tc : Thread Cert.AdamOddInPlainIdeal.nD Cert.AdamOddInPlainIdeal.τ).loc Cert.AdamOddInPlainIdeal.main_arg3) = m' ((c.tc : Thread Cert.AdamOddInPlainIdeal.nD Cert.AdamOddInPlainIdeal.τ).loc Cert.AdamOddInPlainIdeal.main_arg3))

def preserves_AdamOddConv_AdamOddConvIdeal : Prop :=
  True

def algebraic_AdamOddConvIdeal_AdamOddConvPlainIdeal [hAdamOddConvIdeal : Cert.AdamOddConvIdeal.Facts] [hAdamOddConvPlainIdeal : Cert.AdamOddConvPlainIdeal.Facts] : Prop :=
  ∀ (m : (ℓ : Loc Cert.AdamOddConvIdeal.nD Cert.AdamOddConvIdeal.τ Cert.AdamOddConvIdeal.sig) → Buf (Elt Ideal) ℓ) (g : Dev Cert.AdamOddConvIdeal.nD → PrngReg)
    (m' : (ℓ : Loc Cert.AdamOddConvPlainIdeal.nD Cert.AdamOddConvPlainIdeal.τ Cert.AdamOddConvPlainIdeal.sig) → Buf (Elt Ideal) ℓ) (g' : Dev Cert.AdamOddConvPlainIdeal.nD → PrngReg), Pre_AdamOddConvIdeal m →
    (∀ c : Dev Cert.AdamOddConvIdeal.nD,
      m' ((c.tc : Thread Cert.AdamOddConvPlainIdeal.nD Cert.AdamOddConvPlainIdeal.τ).loc Cert.AdamOddConvPlainIdeal.main_arg0) = m ((c.tc : Thread Cert.AdamOddConvIdeal.nD Cert.AdamOddConvIdeal.τ).loc Cert.AdamOddConvIdeal.main_arg0)
      ∧ m' ((c.tc : Thread Cert.AdamOddConvPlainIdeal.nD Cert.AdamOddConvPlainIdeal.τ).loc Cert.AdamOddConvPlainIdeal.main_arg1) = m ((c.tc : Thread Cert.AdamOddConvIdeal.nD Cert.AdamOddConvIdeal.τ).loc Cert.AdamOddConvIdeal.main_arg1)
      ∧ m' ((c.tc : Thread Cert.AdamOddConvPlainIdeal.nD Cert.AdamOddConvPlainIdeal.τ).loc Cert.AdamOddConvPlainIdeal.main_arg2) = m ((c.tc : Thread Cert.AdamOddConvIdeal.nD Cert.AdamOddConvIdeal.τ).loc Cert.AdamOddConvIdeal.main_arg2)
      ∧ m' ((c.tc : Thread Cert.AdamOddConvPlainIdeal.nD Cert.AdamOddConvPlainIdeal.τ).loc Cert.AdamOddConvPlainIdeal.main_arg3) = m ((c.tc : Thread Cert.AdamOddConvIdeal.nD Cert.AdamOddConvIdeal.τ).loc Cert.AdamOddConvIdeal.main_arg3)) →
    ∃ (v0 : (c : Dev Cert.AdamOddConvIdeal.nD) → Buf (Elt Ideal) ((c.tc : Thread Cert.AdamOddConvIdeal.nD Cert.AdamOddConvIdeal.τ).loc Cert.AdamOddConvIdeal.main_v4_0)) (v1 : (c : Dev Cert.AdamOddConvIdeal.nD) → Buf (Elt Ideal) ((c.tc : Thread Cert.AdamOddConvIdeal.nD Cert.AdamOddConvIdeal.τ).loc Cert.AdamOddConvIdeal.main_v4_1)) (v2 : (c : Dev Cert.AdamOddConvIdeal.nD) → Buf (Elt Ideal) ((c.tc : Thread Cert.AdamOddConvIdeal.nD Cert.AdamOddConvIdeal.τ).loc Cert.AdamOddConvIdeal.main_v4_2)),
      θ_run (Cert.AdamOddConvIdeal.defs (F := Ideal)) (onTc (τ := Cert.AdamOddConvIdeal.τ) (Cert.AdamOddConvIdeal.main (F := Ideal))) ⟨m, fun _ => 0, g⟩ (fun r => ∀ c : Dev Cert.AdamOddConvIdeal.nD,
          r.2.mem ((c.tc : Thread Cert.AdamOddConvIdeal.nD Cert.AdamOddConvIdeal.τ).loc Cert.AdamOddConvIdeal.main_v4_0) = v0 c
          ∧ r.2.mem ((c.tc : Thread Cert.AdamOddConvIdeal.nD Cert.AdamOddConvIdeal.τ).loc Cert.AdamOddConvIdeal.main_v4_1) = v1 c
          ∧ r.2.mem ((c.tc : Thread Cert.AdamOddConvIdeal.nD Cert.AdamOddConvIdeal.τ).loc Cert.AdamOddConvIdeal.main_v4_2) = v2 c
          ∧ r.2.mem ((c.tc : Thread Cert.AdamOddConvIdeal.nD Cert.AdamOddConvIdeal.τ).loc Cert.AdamOddConvIdeal.main_arg0) = m ((c.tc : Thread Cert.AdamOddConvIdeal.nD Cert.AdamOddConvIdeal.τ).loc Cert.AdamOddConvIdeal.main_arg0)
          ∧ r.2.mem ((c.tc : Thread Cert.AdamOddConvIdeal.nD Cert.AdamOddConvIdeal.τ).loc Cert.AdamOddConvIdeal.main_arg1) = m ((c.tc : Thread Cert.AdamOddConvIdeal.nD Cert.AdamOddConvIdeal.τ).loc Cert.AdamOddConvIdeal.main_arg1)
          ∧ r.2.mem ((c.tc : Thread Cert.AdamOddConvIdeal.nD Cert.AdamOddConvIdeal.τ).loc Cert.AdamOddConvIdeal.main_arg2) = m ((c.tc : Thread Cert.AdamOddConvIdeal.nD Cert.AdamOddConvIdeal.τ).loc Cert.AdamOddConvIdeal.main_arg2)
          ∧ r.2.mem ((c.tc : Thread Cert.AdamOddConvIdeal.nD Cert.AdamOddConvIdeal.τ).loc Cert.AdamOddConvIdeal.main_arg3) = m ((c.tc : Thread Cert.AdamOddConvIdeal.nD Cert.AdamOddConvIdeal.τ).loc Cert.AdamOddConvIdeal.main_arg3))
      ∧ θ_run (Cert.AdamOddConvPlainIdeal.defs (F := Ideal)) (onTc (τ := Cert.AdamOddConvPlainIdeal.τ) (Cert.AdamOddConvPlainIdeal.main (F := Ideal))) ⟨m', fun _ => 0, g'⟩ (fun r => ∀ c : Dev Cert.AdamOddConvPlainIdeal.nD,
          r.2.mem ((c.tc : Thread Cert.AdamOddConvPlainIdeal.nD Cert.AdamOddConvPlainIdeal.τ).loc Cert.AdamOddConvPlainIdeal.main_v24) = v0 c
          ∧ r.2.mem ((c.tc : Thread Cert.AdamOddConvPlainIdeal.nD Cert.AdamOddConvPlainIdeal.τ).loc Cert.AdamOddConvPlainIdeal.main_v25) = v1 c
          ∧ r.2.mem ((c.tc : Thread Cert.AdamOddConvPlainIdeal.nD Cert.AdamOddConvPlainIdeal.τ).loc Cert.AdamOddConvPlainIdeal.main_v26) = v2 c
          ∧ r.2.mem ((c.tc : Thread Cert.AdamOddConvPlainIdeal.nD Cert.AdamOddConvPlainIdeal.τ).loc Cert.AdamOddConvPlainIdeal.main_arg0) = m' ((c.tc : Thread Cert.AdamOddConvPlainIdeal.nD Cert.AdamOddConvPlainIdeal.τ).loc Cert.AdamOddConvPlainIdeal.main_arg0)
          ∧ r.2.mem ((c.tc : Thread Cert.AdamOddConvPlainIdeal.nD Cert.AdamOddConvPlainIdeal.τ).loc Cert.AdamOddConvPlainIdeal.main_arg1) = m' ((c.tc : Thread Cert.AdamOddConvPlainIdeal.nD Cert.AdamOddConvPlainIdeal.τ).loc Cert.AdamOddConvPlainIdeal.main_arg1)
          ∧ r.2.mem ((c.tc : Thread Cert.AdamOddConvPlainIdeal.nD Cert.AdamOddConvPlainIdeal.τ).loc Cert.AdamOddConvPlainIdeal.main_arg2) = m' ((c.tc : Thread Cert.AdamOddConvPlainIdeal.nD Cert.AdamOddConvPlainIdeal.τ).loc Cert.AdamOddConvPlainIdeal.main_arg2)
          ∧ r.2.mem ((c.tc : Thread Cert.AdamOddConvPlainIdeal.nD Cert.AdamOddConvPlainIdeal.τ).loc Cert.AdamOddConvPlainIdeal.main_arg3) = m' ((c.tc : Thread Cert.AdamOddConvPlainIdeal.nD Cert.AdamOddConvPlainIdeal.τ).loc Cert.AdamOddConvPlainIdeal.main_arg3))

def preserves_AdamOddRow_AdamOddRowIdeal : Prop :=
  True

def algebraic_AdamOddRowIdeal_AdamOddRowPlainIdeal [hAdamOddRowIdeal : Cert.AdamOddRowIdeal.Facts] [hAdamOddRowPlainIdeal : Cert.AdamOddRowPlainIdeal.Facts] : Prop :=
  ∀ (m : (ℓ : Loc Cert.AdamOddRowIdeal.nD Cert.AdamOddRowIdeal.τ Cert.AdamOddRowIdeal.sig) → Buf (Elt Ideal) ℓ) (g : Dev Cert.AdamOddRowIdeal.nD → PrngReg)
    (m' : (ℓ : Loc Cert.AdamOddRowPlainIdeal.nD Cert.AdamOddRowPlainIdeal.τ Cert.AdamOddRowPlainIdeal.sig) → Buf (Elt Ideal) ℓ) (g' : Dev Cert.AdamOddRowPlainIdeal.nD → PrngReg), Pre_AdamOddRowIdeal m →
    (∀ c : Dev Cert.AdamOddRowIdeal.nD,
      m' ((c.tc : Thread Cert.AdamOddRowPlainIdeal.nD Cert.AdamOddRowPlainIdeal.τ).loc Cert.AdamOddRowPlainIdeal.main_arg0) = m ((c.tc : Thread Cert.AdamOddRowIdeal.nD Cert.AdamOddRowIdeal.τ).loc Cert.AdamOddRowIdeal.main_arg0)
      ∧ m' ((c.tc : Thread Cert.AdamOddRowPlainIdeal.nD Cert.AdamOddRowPlainIdeal.τ).loc Cert.AdamOddRowPlainIdeal.main_arg1) = m ((c.tc : Thread Cert.AdamOddRowIdeal.nD Cert.AdamOddRowIdeal.τ).loc Cert.AdamOddRowIdeal.main_arg1)
      ∧ m' ((c.tc : Thread Cert.AdamOddRowPlainIdeal.nD Cert.AdamOddRowPlainIdeal.τ).loc Cert.AdamOddRowPlainIdeal.main_arg2) = m ((c.tc : Thread Cert.AdamOddRowIdeal.nD Cert.AdamOddRowIdeal.τ).loc Cert.AdamOddRowIdeal.main_arg2)
      ∧ m' ((c.tc : Thread Cert.AdamOddRowPlainIdeal.nD Cert.AdamOddRowPlainIdeal.τ).loc Cert.AdamOddRowPlainIdeal.main_arg3) = m ((c.tc : Thread Cert.AdamOddRowIdeal.nD Cert.AdamOddRowIdeal.τ).loc Cert.AdamOddRowIdeal.main_arg3)) →
    ∃ (v0 : (c : Dev Cert.AdamOddRowIdeal.nD) → Buf (Elt Ideal) ((c.tc : Thread Cert.AdamOddRowIdeal.nD Cert.AdamOddRowIdeal.τ).loc Cert.AdamOddRowIdeal.main_v0_0)) (v1 : (c : Dev Cert.AdamOddRowIdeal.nD) → Buf (Elt Ideal) ((c.tc : Thread Cert.AdamOddRowIdeal.nD Cert.AdamOddRowIdeal.τ).loc Cert.AdamOddRowIdeal.main_v0_1)) (v2 : (c : Dev Cert.AdamOddRowIdeal.nD) → Buf (Elt Ideal) ((c.tc : Thread Cert.AdamOddRowIdeal.nD Cert.AdamOddRowIdeal.τ).loc Cert.AdamOddRowIdeal.main_v0_2)),
      θ_run (Cert.AdamOddRowIdeal.defs (F := Ideal)) (onTc (τ := Cert.AdamOddRowIdeal.τ) (Cert.AdamOddRowIdeal.main (F := Ideal))) ⟨m, fun _ => 0, g⟩ (fun r => ∀ c : Dev Cert.AdamOddRowIdeal.nD,
          r.2.mem ((c.tc : Thread Cert.AdamOddRowIdeal.nD Cert.AdamOddRowIdeal.τ).loc Cert.AdamOddRowIdeal.main_v0_0) = v0 c
          ∧ r.2.mem ((c.tc : Thread Cert.AdamOddRowIdeal.nD Cert.AdamOddRowIdeal.τ).loc Cert.AdamOddRowIdeal.main_v0_1) = v1 c
          ∧ r.2.mem ((c.tc : Thread Cert.AdamOddRowIdeal.nD Cert.AdamOddRowIdeal.τ).loc Cert.AdamOddRowIdeal.main_v0_2) = v2 c
          ∧ r.2.mem ((c.tc : Thread Cert.AdamOddRowIdeal.nD Cert.AdamOddRowIdeal.τ).loc Cert.AdamOddRowIdeal.main_arg0) = m ((c.tc : Thread Cert.AdamOddRowIdeal.nD Cert.AdamOddRowIdeal.τ).loc Cert.AdamOddRowIdeal.main_arg0)
          ∧ r.2.mem ((c.tc : Thread Cert.AdamOddRowIdeal.nD Cert.AdamOddRowIdeal.τ).loc Cert.AdamOddRowIdeal.main_arg1) = m ((c.tc : Thread Cert.AdamOddRowIdeal.nD Cert.AdamOddRowIdeal.τ).loc Cert.AdamOddRowIdeal.main_arg1)
          ∧ r.2.mem ((c.tc : Thread Cert.AdamOddRowIdeal.nD Cert.AdamOddRowIdeal.τ).loc Cert.AdamOddRowIdeal.main_arg2) = m ((c.tc : Thread Cert.AdamOddRowIdeal.nD Cert.AdamOddRowIdeal.τ).loc Cert.AdamOddRowIdeal.main_arg2)
          ∧ r.2.mem ((c.tc : Thread Cert.AdamOddRowIdeal.nD Cert.AdamOddRowIdeal.τ).loc Cert.AdamOddRowIdeal.main_arg3) = m ((c.tc : Thread Cert.AdamOddRowIdeal.nD Cert.AdamOddRowIdeal.τ).loc Cert.AdamOddRowIdeal.main_arg3))
      ∧ θ_run (Cert.AdamOddRowPlainIdeal.defs (F := Ideal)) (onTc (τ := Cert.AdamOddRowPlainIdeal.τ) (Cert.AdamOddRowPlainIdeal.main (F := Ideal))) ⟨m', fun _ => 0, g'⟩ (fun r => ∀ c : Dev Cert.AdamOddRowPlainIdeal.nD,
          r.2.mem ((c.tc : Thread Cert.AdamOddRowPlainIdeal.nD Cert.AdamOddRowPlainIdeal.τ).loc Cert.AdamOddRowPlainIdeal.main_v23) = v0 c
          ∧ r.2.mem ((c.tc : Thread Cert.AdamOddRowPlainIdeal.nD Cert.AdamOddRowPlainIdeal.τ).loc Cert.AdamOddRowPlainIdeal.main_v4) = v1 c
          ∧ r.2.mem ((c.tc : Thread Cert.AdamOddRowPlainIdeal.nD Cert.AdamOddRowPlainIdeal.τ).loc Cert.AdamOddRowPlainIdeal.main_v10) = v2 c
          ∧ r.2.mem ((c.tc : Thread Cert.AdamOddRowPlainIdeal.nD Cert.AdamOddRowPlainIdeal.τ).loc Cert.AdamOddRowPlainIdeal.main_arg0) = m' ((c.tc : Thread Cert.AdamOddRowPlainIdeal.nD Cert.AdamOddRowPlainIdeal.τ).loc Cert.AdamOddRowPlainIdeal.main_arg0)
          ∧ r.2.mem ((c.tc : Thread Cert.AdamOddRowPlainIdeal.nD Cert.AdamOddRowPlainIdeal.τ).loc Cert.AdamOddRowPlainIdeal.main_arg1) = m' ((c.tc : Thread Cert.AdamOddRowPlainIdeal.nD Cert.AdamOddRowPlainIdeal.τ).loc Cert.AdamOddRowPlainIdeal.main_arg1)
          ∧ r.2.mem ((c.tc : Thread Cert.AdamOddRowPlainIdeal.nD Cert.AdamOddRowPlainIdeal.τ).loc Cert.AdamOddRowPlainIdeal.main_arg2) = m' ((c.tc : Thread Cert.AdamOddRowPlainIdeal.nD Cert.AdamOddRowPlainIdeal.τ).loc Cert.AdamOddRowPlainIdeal.main_arg2)
          ∧ r.2.mem ((c.tc : Thread Cert.AdamOddRowPlainIdeal.nD Cert.AdamOddRowPlainIdeal.τ).loc Cert.AdamOddRowPlainIdeal.main_arg3) = m' ((c.tc : Thread Cert.AdamOddRowPlainIdeal.nD Cert.AdamOddRowPlainIdeal.τ).loc Cert.AdamOddRowPlainIdeal.main_arg3))

def preserves_AdamOddPoles_AdamOddPolesIdeal : Prop :=
  True

def algebraic_AdamOddPolesIdeal_AdamOddPolesPlainIdeal [hAdamOddPolesIdeal : Cert.AdamOddPolesIdeal.Facts] [hAdamOddPolesPlainIdeal : Cert.AdamOddPolesPlainIdeal.Facts] : Prop :=
  ∀ (m : (ℓ : Loc Cert.AdamOddPolesIdeal.nD Cert.AdamOddPolesIdeal.τ Cert.AdamOddPolesIdeal.sig) → Buf (Elt Ideal) ℓ) (g : Dev Cert.AdamOddPolesIdeal.nD → PrngReg)
    (m' : (ℓ : Loc Cert.AdamOddPolesPlainIdeal.nD Cert.AdamOddPolesPlainIdeal.τ Cert.AdamOddPolesPlainIdeal.sig) → Buf (Elt Ideal) ℓ) (g' : Dev Cert.AdamOddPolesPlainIdeal.nD → PrngReg), Pre_AdamOddPolesIdeal m →
    (∀ c : Dev Cert.AdamOddPolesIdeal.nD,
      m' ((c.tc : Thread Cert.AdamOddPolesPlainIdeal.nD Cert.AdamOddPolesPlainIdeal.τ).loc Cert.AdamOddPolesPlainIdeal.main_arg0) = m ((c.tc : Thread Cert.AdamOddPolesIdeal.nD Cert.AdamOddPolesIdeal.τ).loc Cert.AdamOddPolesIdeal.main_arg0)
      ∧ m' ((c.tc : Thread Cert.AdamOddPolesPlainIdeal.nD Cert.AdamOddPolesPlainIdeal.τ).loc Cert.AdamOddPolesPlainIdeal.main_arg1) = m ((c.tc : Thread Cert.AdamOddPolesIdeal.nD Cert.AdamOddPolesIdeal.τ).loc Cert.AdamOddPolesIdeal.main_arg1)
      ∧ m' ((c.tc : Thread Cert.AdamOddPolesPlainIdeal.nD Cert.AdamOddPolesPlainIdeal.τ).loc Cert.AdamOddPolesPlainIdeal.main_arg2) = m ((c.tc : Thread Cert.AdamOddPolesIdeal.nD Cert.AdamOddPolesIdeal.τ).loc Cert.AdamOddPolesIdeal.main_arg2)
      ∧ m' ((c.tc : Thread Cert.AdamOddPolesPlainIdeal.nD Cert.AdamOddPolesPlainIdeal.τ).loc Cert.AdamOddPolesPlainIdeal.main_arg3) = m ((c.tc : Thread Cert.AdamOddPolesIdeal.nD Cert.AdamOddPolesIdeal.τ).loc Cert.AdamOddPolesIdeal.main_arg3)) →
    ∃ (v0 : (c : Dev Cert.AdamOddPolesIdeal.nD) → Buf (Elt Ideal) ((c.tc : Thread Cert.AdamOddPolesIdeal.nD Cert.AdamOddPolesIdeal.τ).loc Cert.AdamOddPolesIdeal.main_v4_0)) (v1 : (c : Dev Cert.AdamOddPolesIdeal.nD) → Buf (Elt Ideal) ((c.tc : Thread Cert.AdamOddPolesIdeal.nD Cert.AdamOddPolesIdeal.τ).loc Cert.AdamOddPolesIdeal.main_v4_1)) (v2 : (c : Dev Cert.AdamOddPolesIdeal.nD) → Buf (Elt Ideal) ((c.tc : Thread Cert.AdamOddPolesIdeal.nD Cert.AdamOddPolesIdeal.τ).loc Cert.AdamOddPolesIdeal.main_v4_2)),
      θ_run (Cert.AdamOddPolesIdeal.defs (F := Ideal)) (onTc (τ := Cert.AdamOddPolesIdeal.τ) (Cert.AdamOddPolesIdeal.main (F := Ideal))) ⟨m, fun _ => 0, g⟩ (fun r => ∀ c : Dev Cert.AdamOddPolesIdeal.nD,
          r.2.mem ((c.tc : Thread Cert.AdamOddPolesIdeal.nD Cert.AdamOddPolesIdeal.τ).loc Cert.AdamOddPolesIdeal.main_v4_0) = v0 c
          ∧ r.2.mem ((c.tc : Thread Cert.AdamOddPolesIdeal.nD Cert.AdamOddPolesIdeal.τ).loc Cert.AdamOddPolesIdeal.main_v4_1) = v1 c
          ∧ r.2.mem ((c.tc : Thread Cert.AdamOddPolesIdeal.nD Cert.AdamOddPolesIdeal.τ).loc Cert.AdamOddPolesIdeal.main_v4_2) = v2 c
          ∧ r.2.mem ((c.tc : Thread Cert.AdamOddPolesIdeal.nD Cert.AdamOddPolesIdeal.τ).loc Cert.AdamOddPolesIdeal.main_arg0) = m ((c.tc : Thread Cert.AdamOddPolesIdeal.nD Cert.AdamOddPolesIdeal.τ).loc Cert.AdamOddPolesIdeal.main_arg0)
          ∧ r.2.mem ((c.tc : Thread Cert.AdamOddPolesIdeal.nD Cert.AdamOddPolesIdeal.τ).loc Cert.AdamOddPolesIdeal.main_arg1) = m ((c.tc : Thread Cert.AdamOddPolesIdeal.nD Cert.AdamOddPolesIdeal.τ).loc Cert.AdamOddPolesIdeal.main_arg1)
          ∧ r.2.mem ((c.tc : Thread Cert.AdamOddPolesIdeal.nD Cert.AdamOddPolesIdeal.τ).loc Cert.AdamOddPolesIdeal.main_arg2) = m ((c.tc : Thread Cert.AdamOddPolesIdeal.nD Cert.AdamOddPolesIdeal.τ).loc Cert.AdamOddPolesIdeal.main_arg2)
          ∧ r.2.mem ((c.tc : Thread Cert.AdamOddPolesIdeal.nD Cert.AdamOddPolesIdeal.τ).loc Cert.AdamOddPolesIdeal.main_arg3) = m ((c.tc : Thread Cert.AdamOddPolesIdeal.nD Cert.AdamOddPolesIdeal.τ).loc Cert.AdamOddPolesIdeal.main_arg3))
      ∧ θ_run (Cert.AdamOddPolesPlainIdeal.defs (F := Ideal)) (onTc (τ := Cert.AdamOddPolesPlainIdeal.τ) (Cert.AdamOddPolesPlainIdeal.main (F := Ideal))) ⟨m', fun _ => 0, g'⟩ (fun r => ∀ c : Dev Cert.AdamOddPolesPlainIdeal.nD,
          r.2.mem ((c.tc : Thread Cert.AdamOddPolesPlainIdeal.nD Cert.AdamOddPolesPlainIdeal.τ).loc Cert.AdamOddPolesPlainIdeal.main_v24) = v0 c
          ∧ r.2.mem ((c.tc : Thread Cert.AdamOddPolesPlainIdeal.nD Cert.AdamOddPolesPlainIdeal.τ).loc Cert.AdamOddPolesPlainIdeal.main_v25) = v1 c
          ∧ r.2.mem ((c.tc : Thread Cert.AdamOddPolesPlainIdeal.nD Cert.AdamOddPolesPlainIdeal.τ).loc Cert.AdamOddPolesPlainIdeal.main_v26) = v2 c
          ∧ r.2.mem ((c.tc : Thread Cert.AdamOddPolesPlainIdeal.nD Cert.AdamOddPolesPlainIdeal.τ).loc Cert.AdamOddPolesPlainIdeal.main_arg0) = m' ((c.tc : Thread Cert.AdamOddPolesPlainIdeal.nD Cert.AdamOddPolesPlainIdeal.τ).loc Cert.AdamOddPolesPlainIdeal.main_arg0)
          ∧ r.2.mem ((c.tc : Thread Cert.AdamOddPolesPlainIdeal.nD Cert.AdamOddPolesPlainIdeal.τ).loc Cert.AdamOddPolesPlainIdeal.main_arg1) = m' ((c.tc : Thread Cert.AdamOddPolesPlainIdeal.nD Cert.AdamOddPolesPlainIdeal.τ).loc Cert.AdamOddPolesPlainIdeal.main_arg1)
          ∧ r.2.mem ((c.tc : Thread Cert.AdamOddPolesPlainIdeal.nD Cert.AdamOddPolesPlainIdeal.τ).loc Cert.AdamOddPolesPlainIdeal.main_arg2) = m' ((c.tc : Thread Cert.AdamOddPolesPlainIdeal.nD Cert.AdamOddPolesPlainIdeal.τ).loc Cert.AdamOddPolesPlainIdeal.main_arg2)
          ∧ r.2.mem ((c.tc : Thread Cert.AdamOddPolesPlainIdeal.nD Cert.AdamOddPolesPlainIdeal.τ).loc Cert.AdamOddPolesPlainIdeal.main_arg3) = m' ((c.tc : Thread Cert.AdamOddPolesPlainIdeal.nD Cert.AdamOddPolesPlainIdeal.τ).loc Cert.AdamOddPolesPlainIdeal.main_arg3))

def preserves_AdamOddInputs_AdamOddInputsIdeal : Prop :=
  True

def algebraic_AdamOddInputsIdeal_AdamOddInputsPlainIdeal [hAdamOddInputsIdeal : Cert.AdamOddInputsIdeal.Facts] [hAdamOddInputsPlainIdeal : Cert.AdamOddInputsPlainIdeal.Facts] : Prop :=
  ∀ (m : (ℓ : Loc Cert.AdamOddInputsIdeal.nD Cert.AdamOddInputsIdeal.τ Cert.AdamOddInputsIdeal.sig) → Buf (Elt Ideal) ℓ) (g : Dev Cert.AdamOddInputsIdeal.nD → PrngReg)
    (m' : (ℓ : Loc Cert.AdamOddInputsPlainIdeal.nD Cert.AdamOddInputsPlainIdeal.τ Cert.AdamOddInputsPlainIdeal.sig) → Buf (Elt Ideal) ℓ) (g' : Dev Cert.AdamOddInputsPlainIdeal.nD → PrngReg), Pre_AdamOddInputsIdeal m →
    (∀ c : Dev Cert.AdamOddInputsIdeal.nD,
      m' ((c.tc : Thread Cert.AdamOddInputsPlainIdeal.nD Cert.AdamOddInputsPlainIdeal.τ).loc Cert.AdamOddInputsPlainIdeal.main_arg0) = m ((c.tc : Thread Cert.AdamOddInputsIdeal.nD Cert.AdamOddInputsIdeal.τ).loc Cert.AdamOddInputsIdeal.main_arg0)
      ∧ m' ((c.tc : Thread Cert.AdamOddInputsPlainIdeal.nD Cert.AdamOddInputsPlainIdeal.τ).loc Cert.AdamOddInputsPlainIdeal.main_arg1) = m ((c.tc : Thread Cert.AdamOddInputsIdeal.nD Cert.AdamOddInputsIdeal.τ).loc Cert.AdamOddInputsIdeal.main_arg1)
      ∧ m' ((c.tc : Thread Cert.AdamOddInputsPlainIdeal.nD Cert.AdamOddInputsPlainIdeal.τ).loc Cert.AdamOddInputsPlainIdeal.main_arg2) = m ((c.tc : Thread Cert.AdamOddInputsIdeal.nD Cert.AdamOddInputsIdeal.τ).loc Cert.AdamOddInputsIdeal.main_arg2)
      ∧ m' ((c.tc : Thread Cert.AdamOddInputsPlainIdeal.nD Cert.AdamOddInputsPlainIdeal.τ).loc Cert.AdamOddInputsPlainIdeal.main_arg3) = m ((c.tc : Thread Cert.AdamOddInputsIdeal.nD Cert.AdamOddInputsIdeal.τ).loc Cert.AdamOddInputsIdeal.main_arg3)) →
    ∃ (v0 : (c : Dev Cert.AdamOddInputsIdeal.nD) → Buf (Elt Ideal) ((c.tc : Thread Cert.AdamOddInputsIdeal.nD Cert.AdamOddInputsIdeal.τ).loc Cert.AdamOddInputsIdeal.main_v4_0)) (v1 : (c : Dev Cert.AdamOddInputsIdeal.nD) → Buf (Elt Ideal) ((c.tc : Thread Cert.AdamOddInputsIdeal.nD Cert.AdamOddInputsIdeal.τ).loc Cert.AdamOddInputsIdeal.main_v4_1)) (v2 : (c : Dev Cert.AdamOddInputsIdeal.nD) → Buf (Elt Ideal) ((c.tc : Thread Cert.AdamOddInputsIdeal.nD Cert.AdamOddInputsIdeal.τ).loc Cert.AdamOddInputsIdeal.main_v4_2)),
      θ_run (Cert.AdamOddInputsIdeal.defs (F := Ideal)) (onTc (τ := Cert.AdamOddInputsIdeal.τ) (Cert.AdamOddInputsIdeal.main (F := Ideal))) ⟨m, fun _ => 0, g⟩ (fun r => ∀ c : Dev Cert.AdamOddInputsIdeal.nD,
          r.2.mem ((c.tc : Thread Cert.AdamOddInputsIdeal.nD Cert.AdamOddInputsIdeal.τ).loc Cert.AdamOddInputsIdeal.main_v4_0) = v0 c
          ∧ r.2.mem ((c.tc : Thread Cert.AdamOddInputsIdeal.nD Cert.AdamOddInputsIdeal.τ).loc Cert.AdamOddInputsIdeal.main_v4_1) = v1 c
          ∧ r.2.mem ((c.tc : Thread Cert.AdamOddInputsIdeal.nD Cert.AdamOddInputsIdeal.τ).loc Cert.AdamOddInputsIdeal.main_v4_2) = v2 c
          ∧ r.2.mem ((c.tc : Thread Cert.AdamOddInputsIdeal.nD Cert.AdamOddInputsIdeal.τ).loc Cert.AdamOddInputsIdeal.main_arg0) = m ((c.tc : Thread Cert.AdamOddInputsIdeal.nD Cert.AdamOddInputsIdeal.τ).loc Cert.AdamOddInputsIdeal.main_arg0)
          ∧ r.2.mem ((c.tc : Thread Cert.AdamOddInputsIdeal.nD Cert.AdamOddInputsIdeal.τ).loc Cert.AdamOddInputsIdeal.main_arg1) = m ((c.tc : Thread Cert.AdamOddInputsIdeal.nD Cert.AdamOddInputsIdeal.τ).loc Cert.AdamOddInputsIdeal.main_arg1)
          ∧ r.2.mem ((c.tc : Thread Cert.AdamOddInputsIdeal.nD Cert.AdamOddInputsIdeal.τ).loc Cert.AdamOddInputsIdeal.main_arg2) = m ((c.tc : Thread Cert.AdamOddInputsIdeal.nD Cert.AdamOddInputsIdeal.τ).loc Cert.AdamOddInputsIdeal.main_arg2)
          ∧ r.2.mem ((c.tc : Thread Cert.AdamOddInputsIdeal.nD Cert.AdamOddInputsIdeal.τ).loc Cert.AdamOddInputsIdeal.main_arg3) = m ((c.tc : Thread Cert.AdamOddInputsIdeal.nD Cert.AdamOddInputsIdeal.τ).loc Cert.AdamOddInputsIdeal.main_arg3))
      ∧ θ_run (Cert.AdamOddInputsPlainIdeal.defs (F := Ideal)) (onTc (τ := Cert.AdamOddInputsPlainIdeal.τ) (Cert.AdamOddInputsPlainIdeal.main (F := Ideal))) ⟨m', fun _ => 0, g'⟩ (fun r => ∀ c : Dev Cert.AdamOddInputsPlainIdeal.nD,
          r.2.mem ((c.tc : Thread Cert.AdamOddInputsPlainIdeal.nD Cert.AdamOddInputsPlainIdeal.τ).loc Cert.AdamOddInputsPlainIdeal.main_v24) = v0 c
          ∧ r.2.mem ((c.tc : Thread Cert.AdamOddInputsPlainIdeal.nD Cert.AdamOddInputsPlainIdeal.τ).loc Cert.AdamOddInputsPlainIdeal.main_v25) = v1 c
          ∧ r.2.mem ((c.tc : Thread Cert.AdamOddInputsPlainIdeal.nD Cert.AdamOddInputsPlainIdeal.τ).loc Cert.AdamOddInputsPlainIdeal.main_v26) = v2 c
          ∧ r.2.mem ((c.tc : Thread Cert.AdamOddInputsPlainIdeal.nD Cert.AdamOddInputsPlainIdeal.τ).loc Cert.AdamOddInputsPlainIdeal.main_arg0) = m' ((c.tc : Thread Cert.AdamOddInputsPlainIdeal.nD Cert.AdamOddInputsPlainIdeal.τ).loc Cert.AdamOddInputsPlainIdeal.main_arg0)
          ∧ r.2.mem ((c.tc : Thread Cert.AdamOddInputsPlainIdeal.nD Cert.AdamOddInputsPlainIdeal.τ).loc Cert.AdamOddInputsPlainIdeal.main_arg1) = m' ((c.tc : Thread Cert.AdamOddInputsPlainIdeal.nD Cert.AdamOddInputsPlainIdeal.τ).loc Cert.AdamOddInputsPlainIdeal.main_arg1)
          ∧ r.2.mem ((c.tc : Thread Cert.AdamOddInputsPlainIdeal.nD Cert.AdamOddInputsPlainIdeal.τ).loc Cert.AdamOddInputsPlainIdeal.main_arg2) = m' ((c.tc : Thread Cert.AdamOddInputsPlainIdeal.nD Cert.AdamOddInputsPlainIdeal.τ).loc Cert.AdamOddInputsPlainIdeal.main_arg2)
          ∧ r.2.mem ((c.tc : Thread Cert.AdamOddInputsPlainIdeal.nD Cert.AdamOddInputsPlainIdeal.τ).loc Cert.AdamOddInputsPlainIdeal.main_arg3) = m' ((c.tc : Thread Cert.AdamOddInputsPlainIdeal.nD Cert.AdamOddInputsPlainIdeal.τ).loc Cert.AdamOddInputsPlainIdeal.main_arg3))

def preserves_AdamOddOutputs_AdamOddOutputsIdeal : Prop :=
  True

def algebraic_AdamOddOutputsIdeal_AdamOddOutputsPlainIdeal [hAdamOddOutputsIdeal : Cert.AdamOddOutputsIdeal.Facts] [hAdamOddOutputsPlainIdeal : Cert.AdamOddOutputsPlainIdeal.Facts] : Prop :=
  ∀ (m : (ℓ : Loc Cert.AdamOddOutputsIdeal.nD Cert.AdamOddOutputsIdeal.τ Cert.AdamOddOutputsIdeal.sig) → Buf (Elt Ideal) ℓ) (g : Dev Cert.AdamOddOutputsIdeal.nD → PrngReg)
    (m' : (ℓ : Loc Cert.AdamOddOutputsPlainIdeal.nD Cert.AdamOddOutputsPlainIdeal.τ Cert.AdamOddOutputsPlainIdeal.sig) → Buf (Elt Ideal) ℓ) (g' : Dev Cert.AdamOddOutputsPlainIdeal.nD → PrngReg), Pre_AdamOddOutputsIdeal m →
    (∀ c : Dev Cert.AdamOddOutputsIdeal.nD,
      m' ((c.tc : Thread Cert.AdamOddOutputsPlainIdeal.nD Cert.AdamOddOutputsPlainIdeal.τ).loc Cert.AdamOddOutputsPlainIdeal.main_arg0) = m ((c.tc : Thread Cert.AdamOddOutputsIdeal.nD Cert.AdamOddOutputsIdeal.τ).loc Cert.AdamOddOutputsIdeal.main_arg0)
      ∧ m' ((c.tc : Thread Cert.AdamOddOutputsPlainIdeal.nD Cert.AdamOddOutputsPlainIdeal.τ).loc Cert.AdamOddOutputsPlainIdeal.main_arg1) = m ((c.tc : Thread Cert.AdamOddOutputsIdeal.nD Cert.AdamOddOutputsIdeal.τ).loc Cert.AdamOddOutputsIdeal.main_arg1)
      ∧ m' ((c.tc : Thread Cert.AdamOddOutputsPlainIdeal.nD Cert.AdamOddOutputsPlainIdeal.τ).loc Cert.AdamOddOutputsPlainIdeal.main_arg2) = m ((c.tc : Thread Cert.AdamOddOutputsIdeal.nD Cert.AdamOddOutputsIdeal.τ).loc Cert.AdamOddOutputsIdeal.main_arg2)
      ∧ m' ((c.tc : Thread Cert.AdamOddOutputsPlainIdeal.nD Cert.AdamOddOutputsPlainIdeal.τ).loc Cert.AdamOddOutputsPlainIdeal.main_arg3) = m ((c.tc : Thread Cert.AdamOddOutputsIdeal.nD Cert.AdamOddOutputsIdeal.τ).loc Cert.AdamOddOutputsIdeal.main_arg3)) →
    ∃ (v0 : (c : Dev Cert.AdamOddOutputsIdeal.nD) → Buf (Elt Ideal) ((c.tc : Thread Cert.AdamOddOutputsIdeal.nD Cert.AdamOddOutputsIdeal.τ).loc Cert.AdamOddOutputsIdeal.main_v4_0)) (v1 : (c : Dev Cert.AdamOddOutputsIdeal.nD) → Buf (Elt Ideal) ((c.tc : Thread Cert.AdamOddOutputsIdeal.nD Cert.AdamOddOutputsIdeal.τ).loc Cert.AdamOddOutputsIdeal.main_v4_1)) (v2 : (c : Dev Cert.AdamOddOutputsIdeal.nD) → Buf (Elt Ideal) ((c.tc : Thread Cert.AdamOddOutputsIdeal.nD Cert.AdamOddOutputsIdeal.τ).loc Cert.AdamOddOutputsIdeal.main_v4_2)),
      θ_run (Cert.AdamOddOutputsIdeal.defs (F := Ideal)) (onTc (τ := Cert.AdamOddOutputsIdeal.τ) (Cert.AdamOddOutputsIdeal.main (F := Ideal))) ⟨m, fun _ => 0, g⟩ (fun r => ∀ c : Dev Cert.AdamOddOutputsIdeal.nD,
          r.2.mem ((c.tc : Thread Cert.AdamOddOutputsIdeal.nD Cert.AdamOddOutputsIdeal.τ).loc Cert.AdamOddOutputsIdeal.main_v4_0) = v0 c
          ∧ r.2.mem ((c.tc : Thread Cert.AdamOddOutputsIdeal.nD Cert.AdamOddOutputsIdeal.τ).loc Cert.AdamOddOutputsIdeal.main_v4_1) = v1 c
          ∧ r.2.mem ((c.tc : Thread Cert.AdamOddOutputsIdeal.nD Cert.AdamOddOutputsIdeal.τ).loc Cert.AdamOddOutputsIdeal.main_v4_2) = v2 c
          ∧ r.2.mem ((c.tc : Thread Cert.AdamOddOutputsIdeal.nD Cert.AdamOddOutputsIdeal.τ).loc Cert.AdamOddOutputsIdeal.main_arg0) = m ((c.tc : Thread Cert.AdamOddOutputsIdeal.nD Cert.AdamOddOutputsIdeal.τ).loc Cert.AdamOddOutputsIdeal.main_arg0)
          ∧ r.2.mem ((c.tc : Thread Cert.AdamOddOutputsIdeal.nD Cert.AdamOddOutputsIdeal.τ).loc Cert.AdamOddOutputsIdeal.main_arg1) = m ((c.tc : Thread Cert.AdamOddOutputsIdeal.nD Cert.AdamOddOutputsIdeal.τ).loc Cert.AdamOddOutputsIdeal.main_arg1)
          ∧ r.2.mem ((c.tc : Thread Cert.AdamOddOutputsIdeal.nD Cert.AdamOddOutputsIdeal.τ).loc Cert.AdamOddOutputsIdeal.main_arg2) = m ((c.tc : Thread Cert.AdamOddOutputsIdeal.nD Cert.AdamOddOutputsIdeal.τ).loc Cert.AdamOddOutputsIdeal.main_arg2)
          ∧ r.2.mem ((c.tc : Thread Cert.AdamOddOutputsIdeal.nD Cert.AdamOddOutputsIdeal.τ).loc Cert.AdamOddOutputsIdeal.main_arg3) = m ((c.tc : Thread Cert.AdamOddOutputsIdeal.nD Cert.AdamOddOutputsIdeal.τ).loc Cert.AdamOddOutputsIdeal.main_arg3))
      ∧ θ_run (Cert.AdamOddOutputsPlainIdeal.defs (F := Ideal)) (onTc (τ := Cert.AdamOddOutputsPlainIdeal.τ) (Cert.AdamOddOutputsPlainIdeal.main (F := Ideal))) ⟨m', fun _ => 0, g'⟩ (fun r => ∀ c : Dev Cert.AdamOddOutputsPlainIdeal.nD,
          r.2.mem ((c.tc : Thread Cert.AdamOddOutputsPlainIdeal.nD Cert.AdamOddOutputsPlainIdeal.τ).loc Cert.AdamOddOutputsPlainIdeal.main_v24) = v0 c
          ∧ r.2.mem ((c.tc : Thread Cert.AdamOddOutputsPlainIdeal.nD Cert.AdamOddOutputsPlainIdeal.τ).loc Cert.AdamOddOutputsPlainIdeal.main_v25) = v1 c
          ∧ r.2.mem ((c.tc : Thread Cert.AdamOddOutputsPlainIdeal.nD Cert.AdamOddOutputsPlainIdeal.τ).loc Cert.AdamOddOutputsPlainIdeal.main_v26) = v2 c
          ∧ r.2.mem ((c.tc : Thread Cert.AdamOddOutputsPlainIdeal.nD Cert.AdamOddOutputsPlainIdeal.τ).loc Cert.AdamOddOutputsPlainIdeal.main_arg0) = m' ((c.tc : Thread Cert.AdamOddOutputsPlainIdeal.nD Cert.AdamOddOutputsPlainIdeal.τ).loc Cert.AdamOddOutputsPlainIdeal.main_arg0)
          ∧ r.2.mem ((c.tc : Thread Cert.AdamOddOutputsPlainIdeal.nD Cert.AdamOddOutputsPlainIdeal.τ).loc Cert.AdamOddOutputsPlainIdeal.main_arg1) = m' ((c.tc : Thread Cert.AdamOddOutputsPlainIdeal.nD Cert.AdamOddOutputsPlainIdeal.τ).loc Cert.AdamOddOutputsPlainIdeal.main_arg1)
          ∧ r.2.mem ((c.tc : Thread Cert.AdamOddOutputsPlainIdeal.nD Cert.AdamOddOutputsPlainIdeal.τ).loc Cert.AdamOddOutputsPlainIdeal.main_arg2) = m' ((c.tc : Thread Cert.AdamOddOutputsPlainIdeal.nD Cert.AdamOddOutputsPlainIdeal.τ).loc Cert.AdamOddOutputsPlainIdeal.main_arg2)
          ∧ r.2.mem ((c.tc : Thread Cert.AdamOddOutputsPlainIdeal.nD Cert.AdamOddOutputsPlainIdeal.τ).loc Cert.AdamOddOutputsPlainIdeal.main_arg3) = m' ((c.tc : Thread Cert.AdamOddOutputsPlainIdeal.nD Cert.AdamOddOutputsPlainIdeal.τ).loc Cert.AdamOddOutputsPlainIdeal.main_arg3))

def preserves_AdamOddSteps_AdamOddStepsIdeal : Prop :=
  True

def algebraic_AdamOddStepsIdeal_AdamOddStepsPlainIdeal [hAdamOddStepsIdeal : Cert.AdamOddStepsIdeal.Facts] [hAdamOddStepsPlainIdeal : Cert.AdamOddStepsPlainIdeal.Facts] : Prop :=
  ∀ (m : (ℓ : Loc Cert.AdamOddStepsIdeal.nD Cert.AdamOddStepsIdeal.τ Cert.AdamOddStepsIdeal.sig) → Buf (Elt Ideal) ℓ) (g : Dev Cert.AdamOddStepsIdeal.nD → PrngReg)
    (m' : (ℓ : Loc Cert.AdamOddStepsPlainIdeal.nD Cert.AdamOddStepsPlainIdeal.τ Cert.AdamOddStepsPlainIdeal.sig) → Buf (Elt Ideal) ℓ) (g' : Dev Cert.AdamOddStepsPlainIdeal.nD → PrngReg), Pre_AdamOddStepsIdeal m →
    (∀ c : Dev Cert.AdamOddStepsIdeal.nD,
      m' ((c.tc : Thread Cert.AdamOddStepsPlainIdeal.nD Cert.AdamOddStepsPlainIdeal.τ).loc Cert.AdamOddStepsPlainIdeal.main_arg0) = m ((c.tc : Thread Cert.AdamOddStepsIdeal.nD Cert.AdamOddStepsIdeal.τ).loc Cert.AdamOddStepsIdeal.main_arg0)
      ∧ m' ((c.tc : Thread Cert.AdamOddStepsPlainIdeal.nD Cert.AdamOddStepsPlainIdeal.τ).loc Cert.AdamOddStepsPlainIdeal.main_arg1) = m ((c.tc : Thread Cert.AdamOddStepsIdeal.nD Cert.AdamOddStepsIdeal.τ).loc Cert.AdamOddStepsIdeal.main_arg1)
      ∧ m' ((c.tc : Thread Cert.AdamOddStepsPlainIdeal.nD Cert.AdamOddStepsPlainIdeal.τ).loc Cert.AdamOddStepsPlainIdeal.main_arg2) = m ((c.tc : Thread Cert.AdamOddStepsIdeal.nD Cert.AdamOddStepsIdeal.τ).loc Cert.AdamOddStepsIdeal.main_arg2)
      ∧ m' ((c.tc : Thread Cert.AdamOddStepsPlainIdeal.nD Cert.AdamOddStepsPlainIdeal.τ).loc Cert.AdamOddStepsPlainIdeal.main_arg3) = m ((c.tc : Thread Cert.AdamOddStepsIdeal.nD Cert.AdamOddStepsIdeal.τ).loc Cert.AdamOddStepsIdeal.main_arg3)) →
    ∃ (v0 : (c : Dev Cert.AdamOddStepsIdeal.nD) → Buf (Elt Ideal) ((c.tc : Thread Cert.AdamOddStepsIdeal.nD Cert.AdamOddStepsIdeal.τ).loc Cert.AdamOddStepsIdeal.main_v0_0)) (v1 : (c : Dev Cert.AdamOddStepsIdeal.nD) → Buf (Elt Ideal) ((c.tc : Thread Cert.AdamOddStepsIdeal.nD Cert.AdamOddStepsIdeal.τ).loc Cert.AdamOddStepsIdeal.main_v0_1)) (v2 : (c : Dev Cert.AdamOddStepsIdeal.nD) → Buf (Elt Ideal) ((c.tc : Thread Cert.AdamOddStepsIdeal.nD Cert.AdamOddStepsIdeal.τ).loc Cert.AdamOddStepsIdeal.main_v0_2)),
      θ_run (Cert.AdamOddStepsIdeal.defs (F := Ideal)) (onTc (τ := Cert.AdamOddStepsIdeal.τ) (Cert.AdamOddStepsIdeal.main (F := Ideal))) ⟨m, fun _ => 0, g⟩ (fun r => ∀ c : Dev Cert.AdamOddStepsIdeal.nD,
          r.2.mem ((c.tc : Thread Cert.AdamOddStepsIdeal.nD Cert.AdamOddStepsIdeal.τ).loc Cert.AdamOddStepsIdeal.main_v0_0) = v0 c
          ∧ r.2.mem ((c.tc : Thread Cert.AdamOddStepsIdeal.nD Cert.AdamOddStepsIdeal.τ).loc Cert.AdamOddStepsIdeal.main_v0_1) = v1 c
          ∧ r.2.mem ((c.tc : Thread Cert.AdamOddStepsIdeal.nD Cert.AdamOddStepsIdeal.τ).loc Cert.AdamOddStepsIdeal.main_v0_2) = v2 c
          ∧ r.2.mem ((c.tc : Thread Cert.AdamOddStepsIdeal.nD Cert.AdamOddStepsIdeal.τ).loc Cert.AdamOddStepsIdeal.main_arg0) = m ((c.tc : Thread Cert.AdamOddStepsIdeal.nD Cert.AdamOddStepsIdeal.τ).loc Cert.AdamOddStepsIdeal.main_arg0)
          ∧ r.2.mem ((c.tc : Thread Cert.AdamOddStepsIdeal.nD Cert.AdamOddStepsIdeal.τ).loc Cert.AdamOddStepsIdeal.main_arg1) = m ((c.tc : Thread Cert.AdamOddStepsIdeal.nD Cert.AdamOddStepsIdeal.τ).loc Cert.AdamOddStepsIdeal.main_arg1)
          ∧ r.2.mem ((c.tc : Thread Cert.AdamOddStepsIdeal.nD Cert.AdamOddStepsIdeal.τ).loc Cert.AdamOddStepsIdeal.main_arg2) = m ((c.tc : Thread Cert.AdamOddStepsIdeal.nD Cert.AdamOddStepsIdeal.τ).loc Cert.AdamOddStepsIdeal.main_arg2)
          ∧ r.2.mem ((c.tc : Thread Cert.AdamOddStepsIdeal.nD Cert.AdamOddStepsIdeal.τ).loc Cert.AdamOddStepsIdeal.main_arg3) = m ((c.tc : Thread Cert.AdamOddStepsIdeal.nD Cert.AdamOddStepsIdeal.τ).loc Cert.AdamOddStepsIdeal.main_arg3))
      ∧ θ_run (Cert.AdamOddStepsPlainIdeal.defs (F := Ideal)) (onTc (τ := Cert.AdamOddStepsPlainIdeal.τ) (Cert.AdamOddStepsPlainIdeal.main (F := Ideal))) ⟨m', fun _ => 0, g'⟩ (fun r => ∀ c : Dev Cert.AdamOddStepsPlainIdeal.nD,
          r.2.mem ((c.tc : Thread Cert.AdamOddStepsPlainIdeal.nD Cert.AdamOddStepsPlainIdeal.τ).loc Cert.AdamOddStepsPlainIdeal.main_v23) = v0 c
          ∧ r.2.mem ((c.tc : Thread Cert.AdamOddStepsPlainIdeal.nD Cert.AdamOddStepsPlainIdeal.τ).loc Cert.AdamOddStepsPlainIdeal.main_v4) = v1 c
          ∧ r.2.mem ((c.tc : Thread Cert.AdamOddStepsPlainIdeal.nD Cert.AdamOddStepsPlainIdeal.τ).loc Cert.AdamOddStepsPlainIdeal.main_v10) = v2 c
          ∧ r.2.mem ((c.tc : Thread Cert.AdamOddStepsPlainIdeal.nD Cert.AdamOddStepsPlainIdeal.τ).loc Cert.AdamOddStepsPlainIdeal.main_arg0) = m' ((c.tc : Thread Cert.AdamOddStepsPlainIdeal.nD Cert.AdamOddStepsPlainIdeal.τ).loc Cert.AdamOddStepsPlainIdeal.main_arg0)
          ∧ r.2.mem ((c.tc : Thread Cert.AdamOddStepsPlainIdeal.nD Cert.AdamOddStepsPlainIdeal.τ).loc Cert.AdamOddStepsPlainIdeal.main_arg1) = m' ((c.tc : Thread Cert.AdamOddStepsPlainIdeal.nD Cert.AdamOddStepsPlainIdeal.τ).loc Cert.AdamOddStepsPlainIdeal.main_arg1)
          ∧ r.2.mem ((c.tc : Thread Cert.AdamOddStepsPlainIdeal.nD Cert.AdamOddStepsPlainIdeal.τ).loc Cert.AdamOddStepsPlainIdeal.main_arg2) = m' ((c.tc : Thread Cert.AdamOddStepsPlainIdeal.nD Cert.AdamOddStepsPlainIdeal.τ).loc Cert.AdamOddStepsPlainIdeal.main_arg2)
          ∧ r.2.mem ((c.tc : Thread Cert.AdamOddStepsPlainIdeal.nD Cert.AdamOddStepsPlainIdeal.τ).loc Cert.AdamOddStepsPlainIdeal.main_arg3) = m' ((c.tc : Thread Cert.AdamOddStepsPlainIdeal.nD Cert.AdamOddStepsPlainIdeal.τ).loc Cert.AdamOddStepsPlainIdeal.main_arg3))

def preserves_AdamOddGate_AdamOddGateIdeal : Prop :=
  True

def algebraic_AdamOddGateIdeal_AdamOddGatePlainIdeal [hAdamOddGateIdeal : Cert.AdamOddGateIdeal.Facts] [hAdamOddGatePlainIdeal : Cert.AdamOddGatePlainIdeal.Facts] : Prop :=
  ∀ (m : (ℓ : Loc Cert.AdamOddGateIdeal.nD Cert.AdamOddGateIdeal.τ Cert.AdamOddGateIdeal.sig) → Buf (Elt Ideal) ℓ) (g : Dev Cert.AdamOddGateIdeal.nD → PrngReg)
    (m' : (ℓ : Loc Cert.AdamOddGatePlainIdeal.nD Cert.AdamOddGatePlainIdeal.τ Cert.AdamOddGatePlainIdeal.sig) → Buf (Elt Ideal) ℓ) (g' : Dev Cert.AdamOddGatePlainIdeal.nD → PrngReg), Pre_AdamOddGateIdeal m →
    (∀ c : Dev Cert.AdamOddGateIdeal.nD,
      m' ((c.tc : Thread Cert.AdamOddGatePlainIdeal.nD Cert.AdamOddGatePlainIdeal.τ).loc Cert.AdamOddGatePlainIdeal.main_arg0) = m ((c.tc : Thread Cert.AdamOddGateIdeal.nD Cert.AdamOddGateIdeal.τ).loc Cert.AdamOddGateIdeal.main_arg0)
      ∧ m' ((c.tc : Thread Cert.AdamOddGatePlainIdeal.nD Cert.AdamOddGatePlainIdeal.τ).loc Cert.AdamOddGatePlainIdeal.main_arg1) = m ((c.tc : Thread Cert.AdamOddGateIdeal.nD Cert.AdamOddGateIdeal.τ).loc Cert.AdamOddGateIdeal.main_arg1)
      ∧ m' ((c.tc : Thread Cert.AdamOddGatePlainIdeal.nD Cert.AdamOddGatePlainIdeal.τ).loc Cert.AdamOddGatePlainIdeal.main_arg2) = m ((c.tc : Thread Cert.AdamOddGateIdeal.nD Cert.AdamOddGateIdeal.τ).loc Cert.AdamOddGateIdeal.main_arg2)
      ∧ m' ((c.tc : Thread Cert.AdamOddGatePlainIdeal.nD Cert.AdamOddGatePlainIdeal.τ).loc Cert.AdamOddGatePlainIdeal.main_arg3) = m ((c.tc : Thread Cert.AdamOddGateIdeal.nD Cert.AdamOddGateIdeal.τ).loc Cert.AdamOddGateIdeal.main_arg3)) →
    ∃ (v0 : (c : Dev Cert.AdamOddGateIdeal.nD) → Buf (Elt Ideal) ((c.tc : Thread Cert.AdamOddGateIdeal.nD Cert.AdamOddGateIdeal.τ).loc Cert.AdamOddGateIdeal.main_v4_0)) (v1 : (c : Dev Cert.AdamOddGateIdeal.nD) → Buf (Elt Ideal) ((c.tc : Thread Cert.AdamOddGateIdeal.nD Cert.AdamOddGateIdeal.τ).loc Cert.AdamOddGateIdeal.main_v4_1)) (v2 : (c : Dev Cert.AdamOddGateIdeal.nD) → Buf (Elt Ideal) ((c.tc : Thread Cert.AdamOddGateIdeal.nD Cert.AdamOddGateIdeal.τ).loc Cert.AdamOddGateIdeal.main_v4_2)),
      θ_run (Cert.AdamOddGateIdeal.defs (F := Ideal)) (onTc (τ := Cert.AdamOddGateIdeal.τ) (Cert.AdamOddGateIdeal.main (F := Ideal))) ⟨m, fun _ => 0, g⟩ (fun r => ∀ c : Dev Cert.AdamOddGateIdeal.nD,
          r.2.mem ((c.tc : Thread Cert.AdamOddGateIdeal.nD Cert.AdamOddGateIdeal.τ).loc Cert.AdamOddGateIdeal.main_v4_0) = v0 c
          ∧ r.2.mem ((c.tc : Thread Cert.AdamOddGateIdeal.nD Cert.AdamOddGateIdeal.τ).loc Cert.AdamOddGateIdeal.main_v4_1) = v1 c
          ∧ r.2.mem ((c.tc : Thread Cert.AdamOddGateIdeal.nD Cert.AdamOddGateIdeal.τ).loc Cert.AdamOddGateIdeal.main_v4_2) = v2 c
          ∧ r.2.mem ((c.tc : Thread Cert.AdamOddGateIdeal.nD Cert.AdamOddGateIdeal.τ).loc Cert.AdamOddGateIdeal.main_arg0) = m ((c.tc : Thread Cert.AdamOddGateIdeal.nD Cert.AdamOddGateIdeal.τ).loc Cert.AdamOddGateIdeal.main_arg0)
          ∧ r.2.mem ((c.tc : Thread Cert.AdamOddGateIdeal.nD Cert.AdamOddGateIdeal.τ).loc Cert.AdamOddGateIdeal.main_arg1) = m ((c.tc : Thread Cert.AdamOddGateIdeal.nD Cert.AdamOddGateIdeal.τ).loc Cert.AdamOddGateIdeal.main_arg1)
          ∧ r.2.mem ((c.tc : Thread Cert.AdamOddGateIdeal.nD Cert.AdamOddGateIdeal.τ).loc Cert.AdamOddGateIdeal.main_arg2) = m ((c.tc : Thread Cert.AdamOddGateIdeal.nD Cert.AdamOddGateIdeal.τ).loc Cert.AdamOddGateIdeal.main_arg2)
          ∧ r.2.mem ((c.tc : Thread Cert.AdamOddGateIdeal.nD Cert.AdamOddGateIdeal.τ).loc Cert.AdamOddGateIdeal.main_arg3) = m ((c.tc : Thread Cert.AdamOddGateIdeal.nD Cert.AdamOddGateIdeal.τ).loc Cert.AdamOddGateIdeal.main_arg3))
      ∧ θ_run (Cert.AdamOddGatePlainIdeal.defs (F := Ideal)) (onTc (τ := Cert.AdamOddGatePlainIdeal.τ) (Cert.AdamOddGatePlainIdeal.main (F := Ideal))) ⟨m', fun _ => 0, g'⟩ (fun r => ∀ c : Dev Cert.AdamOddGatePlainIdeal.nD,
          r.2.mem ((c.tc : Thread Cert.AdamOddGatePlainIdeal.nD Cert.AdamOddGatePlainIdeal.τ).loc Cert.AdamOddGatePlainIdeal.main_v24) = v0 c
          ∧ r.2.mem ((c.tc : Thread Cert.AdamOddGatePlainIdeal.nD Cert.AdamOddGatePlainIdeal.τ).loc Cert.AdamOddGatePlainIdeal.main_v25) = v1 c
          ∧ r.2.mem ((c.tc : Thread Cert.AdamOddGatePlainIdeal.nD Cert.AdamOddGatePlainIdeal.τ).loc Cert.AdamOddGatePlainIdeal.main_v26) = v2 c
          ∧ r.2.mem ((c.tc : Thread Cert.AdamOddGatePlainIdeal.nD Cert.AdamOddGatePlainIdeal.τ).loc Cert.AdamOddGatePlainIdeal.main_arg0) = m' ((c.tc : Thread Cert.AdamOddGatePlainIdeal.nD Cert.AdamOddGatePlainIdeal.τ).loc Cert.AdamOddGatePlainIdeal.main_arg0)
          ∧ r.2.mem ((c.tc : Thread Cert.AdamOddGatePlainIdeal.nD Cert.AdamOddGatePlainIdeal.τ).loc Cert.AdamOddGatePlainIdeal.main_arg1) = m' ((c.tc : Thread Cert.AdamOddGatePlainIdeal.nD Cert.AdamOddGatePlainIdeal.τ).loc Cert.AdamOddGatePlainIdeal.main_arg1)
          ∧ r.2.mem ((c.tc : Thread Cert.AdamOddGatePlainIdeal.nD Cert.AdamOddGatePlainIdeal.τ).loc Cert.AdamOddGatePlainIdeal.main_arg2) = m' ((c.tc : Thread Cert.AdamOddGatePlainIdeal.nD Cert.AdamOddGatePlainIdeal.τ).loc Cert.AdamOddGatePlainIdeal.main_arg2)
          ∧ r.2.mem ((c.tc : Thread Cert.AdamOddGatePlainIdeal.nD Cert.AdamOddGatePlainIdeal.τ).loc Cert.AdamOddGatePlainIdeal.main_arg3) = m' ((c.tc : Thread Cert.AdamOddGatePlainIdeal.nD Cert.AdamOddGatePlainIdeal.τ).loc Cert.AdamOddGatePlainIdeal.main_arg3))

def preserves_AdamOddOut_AdamOddOutIdeal : Prop :=
  True

def algebraic_AdamOddOutIdeal_AdamOddOutPlainIdeal [hAdamOddOutIdeal : Cert.AdamOddOutIdeal.Facts] [hAdamOddOutPlainIdeal : Cert.AdamOddOutPlainIdeal.Facts] : Prop :=
  ∀ (m : (ℓ : Loc Cert.AdamOddOutIdeal.nD Cert.AdamOddOutIdeal.τ Cert.AdamOddOutIdeal.sig) → Buf (Elt Ideal) ℓ) (g : Dev Cert.AdamOddOutIdeal.nD → PrngReg)
    (m' : (ℓ : Loc Cert.AdamOddOutPlainIdeal.nD Cert.AdamOddOutPlainIdeal.τ Cert.AdamOddOutPlainIdeal.sig) → Buf (Elt Ideal) ℓ) (g' : Dev Cert.AdamOddOutPlainIdeal.nD → PrngReg), Pre_AdamOddOutIdeal m →
    (∀ c : Dev Cert.AdamOddOutIdeal.nD,
      m' ((c.tc : Thread Cert.AdamOddOutPlainIdeal.nD Cert.AdamOddOutPlainIdeal.τ).loc Cert.AdamOddOutPlainIdeal.main_arg0) = m ((c.tc : Thread Cert.AdamOddOutIdeal.nD Cert.AdamOddOutIdeal.τ).loc Cert.AdamOddOutIdeal.main_arg0)
      ∧ m' ((c.tc : Thread Cert.AdamOddOutPlainIdeal.nD Cert.AdamOddOutPlainIdeal.τ).loc Cert.AdamOddOutPlainIdeal.main_arg1) = m ((c.tc : Thread Cert.AdamOddOutIdeal.nD Cert.AdamOddOutIdeal.τ).loc Cert.AdamOddOutIdeal.main_arg1)
      ∧ m' ((c.tc : Thread Cert.AdamOddOutPlainIdeal.nD Cert.AdamOddOutPlainIdeal.τ).loc Cert.AdamOddOutPlainIdeal.main_arg2) = m ((c.tc : Thread Cert.AdamOddOutIdeal.nD Cert.AdamOddOutIdeal.τ).loc Cert.AdamOddOutIdeal.main_arg2)
      ∧ m' ((c.tc : Thread Cert.AdamOddOutPlainIdeal.nD Cert.AdamOddOutPlainIdeal.τ).loc Cert.AdamOddOutPlainIdeal.main_arg3) = m ((c.tc : Thread Cert.AdamOddOutIdeal.nD Cert.AdamOddOutIdeal.τ).loc Cert.AdamOddOutIdeal.main_arg3)) →
    ∃ (v0 : (c : Dev Cert.AdamOddOutIdeal.nD) → Buf (Elt Ideal) ((c.tc : Thread Cert.AdamOddOutIdeal.nD Cert.AdamOddOutIdeal.τ).loc Cert.AdamOddOutIdeal.main_v4_0)) (v1 : (c : Dev Cert.AdamOddOutIdeal.nD) → Buf (Elt Ideal) ((c.tc : Thread Cert.AdamOddOutIdeal.nD Cert.AdamOddOutIdeal.τ).loc Cert.AdamOddOutIdeal.main_v4_1)) (v2 : (c : Dev Cert.AdamOddOutIdeal.nD) → Buf (Elt Ideal) ((c.tc : Thread Cert.AdamOddOutIdeal.nD Cert.AdamOddOutIdeal.τ).loc Cert.AdamOddOutIdeal.main_v4_2)),
      θ_run (Cert.AdamOddOutIdeal.defs (F := Ideal)) (onTc (τ := Cert.AdamOddOutIdeal.τ) (Cert.AdamOddOutIdeal.main (F := Ideal))) ⟨m, fun _ => 0, g⟩ (fun r => ∀ c : Dev Cert.AdamOddOutIdeal.nD,
          r.2.mem ((c.tc : Thread Cert.AdamOddOutIdeal.nD Cert.AdamOddOutIdeal.τ).loc Cert.AdamOddOutIdeal.main_v4_0) = v0 c
          ∧ r.2.mem ((c.tc : Thread Cert.AdamOddOutIdeal.nD Cert.AdamOddOutIdeal.τ).loc Cert.AdamOddOutIdeal.main_v4_1) = v1 c
          ∧ r.2.mem ((c.tc : Thread Cert.AdamOddOutIdeal.nD Cert.AdamOddOutIdeal.τ).loc Cert.AdamOddOutIdeal.main_v4_2) = v2 c
          ∧ r.2.mem ((c.tc : Thread Cert.AdamOddOutIdeal.nD Cert.AdamOddOutIdeal.τ).loc Cert.AdamOddOutIdeal.main_arg0) = m ((c.tc : Thread Cert.AdamOddOutIdeal.nD Cert.AdamOddOutIdeal.τ).loc Cert.AdamOddOutIdeal.main_arg0)
          ∧ r.2.mem ((c.tc : Thread Cert.AdamOddOutIdeal.nD Cert.AdamOddOutIdeal.τ).loc Cert.AdamOddOutIdeal.main_arg1) = m ((c.tc : Thread Cert.AdamOddOutIdeal.nD Cert.AdamOddOutIdeal.τ).loc Cert.AdamOddOutIdeal.main_arg1)
          ∧ r.2.mem ((c.tc : Thread Cert.AdamOddOutIdeal.nD Cert.AdamOddOutIdeal.τ).loc Cert.AdamOddOutIdeal.main_arg2) = m ((c.tc : Thread Cert.AdamOddOutIdeal.nD Cert.AdamOddOutIdeal.τ).loc Cert.AdamOddOutIdeal.main_arg2)
          ∧ r.2.mem ((c.tc : Thread Cert.AdamOddOutIdeal.nD Cert.AdamOddOutIdeal.τ).loc Cert.AdamOddOutIdeal.main_arg3) = m ((c.tc : Thread Cert.AdamOddOutIdeal.nD Cert.AdamOddOutIdeal.τ).loc Cert.AdamOddOutIdeal.main_arg3))
      ∧ θ_run (Cert.AdamOddOutPlainIdeal.defs (F := Ideal)) (onTc (τ := Cert.AdamOddOutPlainIdeal.τ) (Cert.AdamOddOutPlainIdeal.main (F := Ideal))) ⟨m', fun _ => 0, g'⟩ (fun r => ∀ c : Dev Cert.AdamOddOutPlainIdeal.nD,
          r.2.mem ((c.tc : Thread Cert.AdamOddOutPlainIdeal.nD Cert.AdamOddOutPlainIdeal.τ).loc Cert.AdamOddOutPlainIdeal.main_v24) = v0 c
          ∧ r.2.mem ((c.tc : Thread Cert.AdamOddOutPlainIdeal.nD Cert.AdamOddOutPlainIdeal.τ).loc Cert.AdamOddOutPlainIdeal.main_v25) = v1 c
          ∧ r.2.mem ((c.tc : Thread Cert.AdamOddOutPlainIdeal.nD Cert.AdamOddOutPlainIdeal.τ).loc Cert.AdamOddOutPlainIdeal.main_v26) = v2 c
          ∧ r.2.mem ((c.tc : Thread Cert.AdamOddOutPlainIdeal.nD Cert.AdamOddOutPlainIdeal.τ).loc Cert.AdamOddOutPlainIdeal.main_arg0) = m' ((c.tc : Thread Cert.AdamOddOutPlainIdeal.nD Cert.AdamOddOutPlainIdeal.τ).loc Cert.AdamOddOutPlainIdeal.main_arg0)
          ∧ r.2.mem ((c.tc : Thread Cert.AdamOddOutPlainIdeal.nD Cert.AdamOddOutPlainIdeal.τ).loc Cert.AdamOddOutPlainIdeal.main_arg1) = m' ((c.tc : Thread Cert.AdamOddOutPlainIdeal.nD Cert.AdamOddOutPlainIdeal.τ).loc Cert.AdamOddOutPlainIdeal.main_arg1)
          ∧ r.2.mem ((c.tc : Thread Cert.AdamOddOutPlainIdeal.nD Cert.AdamOddOutPlainIdeal.τ).loc Cert.AdamOddOutPlainIdeal.main_arg2) = m' ((c.tc : Thread Cert.AdamOddOutPlainIdeal.nD Cert.AdamOddOutPlainIdeal.τ).loc Cert.AdamOddOutPlainIdeal.main_arg2)
          ∧ r.2.mem ((c.tc : Thread Cert.AdamOddOutPlainIdeal.nD Cert.AdamOddOutPlainIdeal.τ).loc Cert.AdamOddOutPlainIdeal.main_arg3) = m' ((c.tc : Thread Cert.AdamOddOutPlainIdeal.nD Cert.AdamOddOutPlainIdeal.τ).loc Cert.AdamOddOutPlainIdeal.main_arg3))

def preserves_AdamUp_AdamUpIdeal : Prop :=
  True

def algebraic_AdamUpIdeal_AdamUpPlainIdeal [hAdamUpIdeal : Cert.AdamUpIdeal.Facts] [hAdamUpPlainIdeal : Cert.AdamUpPlainIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpPlainIdeal.nD Cert.AdamUpPlainIdeal.τ Cert.AdamUpPlainIdeal.sig) → Buf (Elt Ideal) ℓ) (g' : Dev Cert.AdamUpPlainIdeal.nD → PrngReg), Pre_AdamUpIdeal m →
    (∀ c : Dev Cert.AdamUpIdeal.nD,
      m' ((c.tc : Thread Cert.AdamUpPlainIdeal.nD Cert.AdamUpPlainIdeal.τ).loc Cert.AdamUpPlainIdeal.main_arg0) = m ((c.tc : Thread Cert.AdamUpIdeal.nD Cert.AdamUpIdeal.τ).loc Cert.AdamUpIdeal.main_arg0)
      ∧ m' ((c.tc : Thread Cert.AdamUpPlainIdeal.nD Cert.AdamUpPlainIdeal.τ).loc Cert.AdamUpPlainIdeal.main_arg1) = m ((c.tc : Thread Cert.AdamUpIdeal.nD Cert.AdamUpIdeal.τ).loc Cert.AdamUpIdeal.main_arg1)
      ∧ m' ((c.tc : Thread Cert.AdamUpPlainIdeal.nD Cert.AdamUpPlainIdeal.τ).loc Cert.AdamUpPlainIdeal.main_arg2) = m ((c.tc : Thread Cert.AdamUpIdeal.nD Cert.AdamUpIdeal.τ).loc Cert.AdamUpIdeal.main_arg2)
      ∧ m' ((c.tc : Thread Cert.AdamUpPlainIdeal.nD Cert.AdamUpPlainIdeal.τ).loc Cert.AdamUpPlainIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpPlainIdeal.defs (F := Ideal)) (onTc (τ := Cert.AdamUpPlainIdeal.τ) (Cert.AdamUpPlainIdeal.main (F := Ideal))) ⟨m', fun _ => 0, g'⟩ (fun r => ∀ c : Dev Cert.AdamUpPlainIdeal.nD,
          r.2.mem ((c.tc : Thread Cert.AdamUpPlainIdeal.nD Cert.AdamUpPlainIdeal.τ).loc Cert.AdamUpPlainIdeal.main_v24) = v0 c
          ∧ r.2.mem ((c.tc : Thread Cert.AdamUpPlainIdeal.nD Cert.AdamUpPlainIdeal.τ).loc Cert.AdamUpPlainIdeal.main_v25) = v1 c
          ∧ r.2.mem ((c.tc : Thread Cert.AdamUpPlainIdeal.nD Cert.AdamUpPlainIdeal.τ).loc Cert.AdamUpPlainIdeal.main_v26) = v2 c
          ∧ r.2.mem ((c.tc : Thread Cert.AdamUpPlainIdeal.nD Cert.AdamUpPlainIdeal.τ).loc Cert.AdamUpPlainIdeal.main_arg0) = m' ((c.tc : Thread Cert.AdamUpPlainIdeal.nD Cert.AdamUpPlainIdeal.τ).loc Cert.AdamUpPlainIdeal.main_arg0)
          ∧ r.2.mem ((c.tc : Thread Cert.AdamUpPlainIdeal.nD Cert.AdamUpPlainIdeal.τ).loc Cert.AdamUpPlainIdeal.main_arg1) = m' ((c.tc : Thread Cert.AdamUpPlainIdeal.nD Cert.AdamUpPlainIdeal.τ).loc Cert.AdamUpPlainIdeal.main_arg1)
          ∧ r.2.mem ((c.tc : Thread Cert.AdamUpPlainIdeal.nD Cert.AdamUpPlainIdeal.τ).loc Cert.AdamUpPlainIdeal.main_arg2) = m' ((c.tc : Thread Cert.AdamUpPlainIdeal.nD Cert.AdamUpPlainIdeal.τ).loc Cert.AdamUpPlainIdeal.main_arg2)
          ∧ r.2.mem ((c.tc : Thread Cert.AdamUpPlainIdeal.nD Cert.AdamUpPlainIdeal.τ).loc Cert.AdamUpPlainIdeal.main_arg3) = m' ((c.tc : Thread Cert.AdamUpPlainIdeal.nD Cert.AdamUpPlainIdeal.τ).loc Cert.AdamUpPlainIdeal.main_arg3))

def preserves_AdamConv_AdamConvIdeal : Prop :=
  True

def algebraic_AdamConvIdeal_AdamConvPlainIdeal [hAdamConvIdeal : Cert.AdamConvIdeal.Facts] [hAdamConvPlainIdeal : Cert.AdamConvPlainIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvPlainIdeal.nD Cert.AdamConvPlainIdeal.τ Cert.AdamConvPlainIdeal.sig) → Buf (Elt Ideal) ℓ) (g' : Dev Cert.AdamConvPlainIdeal.nD → PrngReg), Pre_AdamConvIdeal m →
    (∀ c : Dev Cert.AdamConvIdeal.nD,
      m' ((c.tc : Thread Cert.AdamConvPlainIdeal.nD Cert.AdamConvPlainIdeal.τ).loc Cert.AdamConvPlainIdeal.main_arg0) = m ((c.tc : Thread Cert.AdamConvIdeal.nD Cert.AdamConvIdeal.τ).loc Cert.AdamConvIdeal.main_arg0)
      ∧ m' ((c.tc : Thread Cert.AdamConvPlainIdeal.nD Cert.AdamConvPlainIdeal.τ).loc Cert.AdamConvPlainIdeal.main_arg1) = m ((c.tc : Thread Cert.AdamConvIdeal.nD Cert.AdamConvIdeal.τ).loc Cert.AdamConvIdeal.main_arg1)
      ∧ m' ((c.tc : Thread Cert.AdamConvPlainIdeal.nD Cert.AdamConvPlainIdeal.τ).loc Cert.AdamConvPlainIdeal.main_arg2) = m ((c.tc : Thread Cert.AdamConvIdeal.nD Cert.AdamConvIdeal.τ).loc Cert.AdamConvIdeal.main_arg2)
      ∧ m' ((c.tc : Thread Cert.AdamConvPlainIdeal.nD Cert.AdamConvPlainIdeal.τ).loc Cert.AdamConvPlainIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v4_0)) (v1 : (c : Dev Cert.AdamConvIdeal.nD) → Buf (Elt Ideal) ((c.tc : Thread Cert.AdamConvIdeal.nD Cert.AdamConvIdeal.τ).loc Cert.AdamConvIdeal.main_v4_1)) (v2 : (c : Dev Cert.AdamConvIdeal.nD) → Buf (Elt Ideal) ((c.tc : Thread Cert.AdamConvIdeal.nD Cert.AdamConvIdeal.τ).loc Cert.AdamConvIdeal.main_v4_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v4_0) = v0 c
          ∧ r.2.mem ((c.tc : Thread Cert.AdamConvIdeal.nD Cert.AdamConvIdeal.τ).loc Cert.AdamConvIdeal.main_v4_1) = v1 c
          ∧ r.2.mem ((c.tc : Thread Cert.AdamConvIdeal.nD Cert.AdamConvIdeal.τ).loc Cert.AdamConvIdeal.main_v4_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvPlainIdeal.defs (F := Ideal)) (onTc (τ := Cert.AdamConvPlainIdeal.τ) (Cert.AdamConvPlainIdeal.main (F := Ideal))) ⟨m', fun _ => 0, g'⟩ (fun r => ∀ c : Dev Cert.AdamConvPlainIdeal.nD,
          r.2.mem ((c.tc : Thread Cert.AdamConvPlainIdeal.nD Cert.AdamConvPlainIdeal.τ).loc Cert.AdamConvPlainIdeal.main_v24) = v0 c
          ∧ r.2.mem ((c.tc : Thread Cert.AdamConvPlainIdeal.nD Cert.AdamConvPlainIdeal.τ).loc Cert.AdamConvPlainIdeal.main_v25) = v1 c
          ∧ r.2.mem ((c.tc : Thread Cert.AdamConvPlainIdeal.nD Cert.AdamConvPlainIdeal.τ).loc Cert.AdamConvPlainIdeal.main_v26) = v2 c
          ∧ r.2.mem ((c.tc : Thread Cert.AdamConvPlainIdeal.nD Cert.AdamConvPlainIdeal.τ).loc Cert.AdamConvPlainIdeal.main_arg0) = m' ((c.tc : Thread Cert.AdamConvPlainIdeal.nD Cert.AdamConvPlainIdeal.τ).loc Cert.AdamConvPlainIdeal.main_arg0)
          ∧ r.2.mem ((c.tc : Thread Cert.AdamConvPlainIdeal.nD Cert.AdamConvPlainIdeal.τ).loc Cert.AdamConvPlainIdeal.main_arg1) = m' ((c.tc : Thread Cert.AdamConvPlainIdeal.nD Cert.AdamConvPlainIdeal.τ).loc Cert.AdamConvPlainIdeal.main_arg1)
          ∧ r.2.mem ((c.tc : Thread Cert.AdamConvPlainIdeal.nD Cert.AdamConvPlainIdeal.τ).loc Cert.AdamConvPlainIdeal.main_arg2) = m' ((c.tc : Thread Cert.AdamConvPlainIdeal.nD Cert.AdamConvPlainIdeal.τ).loc Cert.AdamConvPlainIdeal.main_arg2)
          ∧ r.2.mem ((c.tc : Thread Cert.AdamConvPlainIdeal.nD Cert.AdamConvPlainIdeal.τ).loc Cert.AdamConvPlainIdeal.main_arg3) = m' ((c.tc : Thread Cert.AdamConvPlainIdeal.nD Cert.AdamConvPlainIdeal.τ).loc Cert.AdamConvPlainIdeal.main_arg3))

def preserves_AdamBias_AdamBiasIdeal : Prop :=
  True

def algebraic_AdamBiasIdeal_AdamBiasPlainIdeal [hAdamBiasIdeal : Cert.AdamBiasIdeal.Facts] [hAdamBiasPlainIdeal : Cert.AdamBiasPlainIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasPlainIdeal.nD Cert.AdamBiasPlainIdeal.τ Cert.AdamBiasPlainIdeal.sig) → Buf (Elt Ideal) ℓ) (g' : Dev Cert.AdamBiasPlainIdeal.nD → PrngReg), Pre_AdamBiasIdeal m →
    (∀ c : Dev Cert.AdamBiasIdeal.nD,
      m' ((c.tc : Thread Cert.AdamBiasPlainIdeal.nD Cert.AdamBiasPlainIdeal.τ).loc Cert.AdamBiasPlainIdeal.main_arg0) = m ((c.tc : Thread Cert.AdamBiasIdeal.nD Cert.AdamBiasIdeal.τ).loc Cert.AdamBiasIdeal.main_arg0)
      ∧ m' ((c.tc : Thread Cert.AdamBiasPlainIdeal.nD Cert.AdamBiasPlainIdeal.τ).loc Cert.AdamBiasPlainIdeal.main_arg1) = m ((c.tc : Thread Cert.AdamBiasIdeal.nD Cert.AdamBiasIdeal.τ).loc Cert.AdamBiasIdeal.main_arg1)
      ∧ m' ((c.tc : Thread Cert.AdamBiasPlainIdeal.nD Cert.AdamBiasPlainIdeal.τ).loc Cert.AdamBiasPlainIdeal.main_arg2) = m ((c.tc : Thread Cert.AdamBiasIdeal.nD Cert.AdamBiasIdeal.τ).loc Cert.AdamBiasIdeal.main_arg2)
      ∧ m' ((c.tc : Thread Cert.AdamBiasPlainIdeal.nD Cert.AdamBiasPlainIdeal.τ).loc Cert.AdamBiasPlainIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasPlainIdeal.defs (F := Ideal)) (onTc (τ := Cert.AdamBiasPlainIdeal.τ) (Cert.AdamBiasPlainIdeal.main (F := Ideal))) ⟨m', fun _ => 0, g'⟩ (fun r => ∀ c : Dev Cert.AdamBiasPlainIdeal.nD,
          r.2.mem ((c.tc : Thread Cert.AdamBiasPlainIdeal.nD Cert.AdamBiasPlainIdeal.τ).loc Cert.AdamBiasPlainIdeal.main_v23) = v0 c
          ∧ r.2.mem ((c.tc : Thread Cert.AdamBiasPlainIdeal.nD Cert.AdamBiasPlainIdeal.τ).loc Cert.AdamBiasPlainIdeal.main_v4) = v1 c
          ∧ r.2.mem ((c.tc : Thread Cert.AdamBiasPlainIdeal.nD Cert.AdamBiasPlainIdeal.τ).loc Cert.AdamBiasPlainIdeal.main_v10) = v2 c
          ∧ r.2.mem ((c.tc : Thread Cert.AdamBiasPlainIdeal.nD Cert.AdamBiasPlainIdeal.τ).loc Cert.AdamBiasPlainIdeal.main_arg0) = m' ((c.tc : Thread Cert.AdamBiasPlainIdeal.nD Cert.AdamBiasPlainIdeal.τ).loc Cert.AdamBiasPlainIdeal.main_arg0)
          ∧ r.2.mem ((c.tc : Thread Cert.AdamBiasPlainIdeal.nD Cert.AdamBiasPlainIdeal.τ).loc Cert.AdamBiasPlainIdeal.main_arg1) = m' ((c.tc : Thread Cert.AdamBiasPlainIdeal.nD Cert.AdamBiasPlainIdeal.τ).loc Cert.AdamBiasPlainIdeal.main_arg1)
          ∧ r.2.mem ((c.tc : Thread Cert.AdamBiasPlainIdeal.nD Cert.AdamBiasPlainIdeal.τ).loc Cert.AdamBiasPlainIdeal.main_arg2) = m' ((c.tc : Thread Cert.AdamBiasPlainIdeal.nD Cert.AdamBiasPlainIdeal.τ).loc Cert.AdamBiasPlainIdeal.main_arg2)
          ∧ r.2.mem ((c.tc : Thread Cert.AdamBiasPlainIdeal.nD Cert.AdamBiasPlainIdeal.τ).loc Cert.AdamBiasPlainIdeal.main_arg3) = m' ((c.tc : Thread Cert.AdamBiasPlainIdeal.nD Cert.AdamBiasPlainIdeal.τ).loc Cert.AdamBiasPlainIdeal.main_arg3))

def preserves_AdamDown_AdamDownIdeal : Prop :=
  True

def algebraic_AdamDownIdeal_AdamDownPlainIdeal [hAdamDownIdeal : Cert.AdamDownIdeal.Facts] [hAdamDownPlainIdeal : Cert.AdamDownPlainIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownPlainIdeal.nD Cert.AdamDownPlainIdeal.τ Cert.AdamDownPlainIdeal.sig) → Buf (Elt Ideal) ℓ) (g' : Dev Cert.AdamDownPlainIdeal.nD → PrngReg), Pre_AdamDownIdeal m →
    (∀ c : Dev Cert.AdamDownIdeal.nD,
      m' ((c.tc : Thread Cert.AdamDownPlainIdeal.nD Cert.AdamDownPlainIdeal.τ).loc Cert.AdamDownPlainIdeal.main_arg0) = m ((c.tc : Thread Cert.AdamDownIdeal.nD Cert.AdamDownIdeal.τ).loc Cert.AdamDownIdeal.main_arg0)
      ∧ m' ((c.tc : Thread Cert.AdamDownPlainIdeal.nD Cert.AdamDownPlainIdeal.τ).loc Cert.AdamDownPlainIdeal.main_arg1) = m ((c.tc : Thread Cert.AdamDownIdeal.nD Cert.AdamDownIdeal.τ).loc Cert.AdamDownIdeal.main_arg1)
      ∧ m' ((c.tc : Thread Cert.AdamDownPlainIdeal.nD Cert.AdamDownPlainIdeal.τ).loc Cert.AdamDownPlainIdeal.main_arg2) = m ((c.tc : Thread Cert.AdamDownIdeal.nD Cert.AdamDownIdeal.τ).loc Cert.AdamDownIdeal.main_arg2)
      ∧ m' ((c.tc : Thread Cert.AdamDownPlainIdeal.nD Cert.AdamDownPlainIdeal.τ).loc Cert.AdamDownPlainIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownPlainIdeal.defs (F := Ideal)) (onTc (τ := Cert.AdamDownPlainIdeal.τ) (Cert.AdamDownPlainIdeal.main (F := Ideal))) ⟨m', fun _ => 0, g'⟩ (fun r => ∀ c : Dev Cert.AdamDownPlainIdeal.nD,
          r.2.mem ((c.tc : Thread Cert.AdamDownPlainIdeal.nD Cert.AdamDownPlainIdeal.τ).loc Cert.AdamDownPlainIdeal.main_v24) = v0 c
          ∧ r.2.mem ((c.tc : Thread Cert.AdamDownPlainIdeal.nD Cert.AdamDownPlainIdeal.τ).loc Cert.AdamDownPlainIdeal.main_v25) = v1 c
          ∧ r.2.mem ((c.tc : Thread Cert.AdamDownPlainIdeal.nD Cert.AdamDownPlainIdeal.τ).loc Cert.AdamDownPlainIdeal.main_v26) = v2 c
          ∧ r.2.mem ((c.tc : Thread Cert.AdamDownPlainIdeal.nD Cert.AdamDownPlainIdeal.τ).loc Cert.AdamDownPlainIdeal.main_arg0) = m' ((c.tc : Thread Cert.AdamDownPlainIdeal.nD Cert.AdamDownPlainIdeal.τ).loc Cert.AdamDownPlainIdeal.main_arg0)
          ∧ r.2.mem ((c.tc : Thread Cert.AdamDownPlainIdeal.nD Cert.AdamDownPlainIdeal.τ).loc Cert.AdamDownPlainIdeal.main_arg1) = m' ((c.tc : Thread Cert.AdamDownPlainIdeal.nD Cert.AdamDownPlainIdeal.τ).loc Cert.AdamDownPlainIdeal.main_arg1)
          ∧ r.2.mem ((c.tc : Thread Cert.AdamDownPlainIdeal.nD Cert.AdamDownPlainIdeal.τ).loc Cert.AdamDownPlainIdeal.main_arg2) = m' ((c.tc : Thread Cert.AdamDownPlainIdeal.nD Cert.AdamDownPlainIdeal.τ).loc Cert.AdamDownPlainIdeal.main_arg2)
          ∧ r.2.mem ((c.tc : Thread Cert.AdamDownPlainIdeal.nD Cert.AdamDownPlainIdeal.τ).loc Cert.AdamDownPlainIdeal.main_arg3) = m' ((c.tc : Thread Cert.AdamDownPlainIdeal.nD Cert.AdamDownPlainIdeal.τ).loc Cert.AdamDownPlainIdeal.main_arg3))

def preserves_AdamFinal_AdamFinalIdeal : Prop :=
  True

def algebraic_AdamFinalIdeal_AdamFinalPlainIdeal [hAdamFinalIdeal : Cert.AdamFinalIdeal.Facts] [hAdamFinalPlainIdeal : Cert.AdamFinalPlainIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg)
    (m' : (ℓ : Loc Cert.AdamFinalPlainIdeal.nD Cert.AdamFinalPlainIdeal.τ Cert.AdamFinalPlainIdeal.sig) → Buf (Elt Ideal) ℓ) (g' : Dev Cert.AdamFinalPlainIdeal.nD → PrngReg), Pre_AdamFinalIdeal m →
    (∀ c : Dev Cert.AdamFinalIdeal.nD,
      m' ((c.tc : Thread Cert.AdamFinalPlainIdeal.nD Cert.AdamFinalPlainIdeal.τ).loc Cert.AdamFinalPlainIdeal.main_arg0) = m ((c.tc : Thread Cert.AdamFinalIdeal.nD Cert.AdamFinalIdeal.τ).loc Cert.AdamFinalIdeal.main_arg0)
      ∧ m' ((c.tc : Thread Cert.AdamFinalPlainIdeal.nD Cert.AdamFinalPlainIdeal.τ).loc Cert.AdamFinalPlainIdeal.main_arg1) = m ((c.tc : Thread Cert.AdamFinalIdeal.nD Cert.AdamFinalIdeal.τ).loc Cert.AdamFinalIdeal.main_arg1)
      ∧ m' ((c.tc : Thread Cert.AdamFinalPlainIdeal.nD Cert.AdamFinalPlainIdeal.τ).loc Cert.AdamFinalPlainIdeal.main_arg2) = m ((c.tc : Thread Cert.AdamFinalIdeal.nD Cert.AdamFinalIdeal.τ).loc Cert.AdamFinalIdeal.main_arg2)
      ∧ m' ((c.tc : Thread Cert.AdamFinalPlainIdeal.nD Cert.AdamFinalPlainIdeal.τ).loc Cert.AdamFinalPlainIdeal.main_arg3) = m ((c.tc : Thread Cert.AdamFinalIdeal.nD Cert.AdamFinalIdeal.τ).loc Cert.AdamFinalIdeal.main_arg3)) →
    ∃ (v0 : (c : Dev Cert.AdamFinalIdeal.nD) → Buf (Elt Ideal) ((c.tc : Thread Cert.AdamFinalIdeal.nD Cert.AdamFinalIdeal.τ).loc Cert.AdamFinalIdeal.main_v4_0)) (v1 : (c : Dev Cert.AdamFinalIdeal.nD) → Buf (Elt Ideal) ((c.tc : Thread Cert.AdamFinalIdeal.nD Cert.AdamFinalIdeal.τ).loc Cert.AdamFinalIdeal.main_v4_1)) (v2 : (c : Dev Cert.AdamFinalIdeal.nD) → Buf (Elt Ideal) ((c.tc : Thread Cert.AdamFinalIdeal.nD Cert.AdamFinalIdeal.τ).loc Cert.AdamFinalIdeal.main_v4_2)),
      θ_run (Cert.AdamFinalIdeal.defs (F := Ideal)) (onTc (τ := Cert.AdamFinalIdeal.τ) (Cert.AdamFinalIdeal.main (F := Ideal))) ⟨m, fun _ => 0, g⟩ (fun r => ∀ c : Dev Cert.AdamFinalIdeal.nD,
          r.2.mem ((c.tc : Thread Cert.AdamFinalIdeal.nD Cert.AdamFinalIdeal.τ).loc Cert.AdamFinalIdeal.main_v4_0) = v0 c
          ∧ r.2.mem ((c.tc : Thread Cert.AdamFinalIdeal.nD Cert.AdamFinalIdeal.τ).loc Cert.AdamFinalIdeal.main_v4_1) = v1 c
          ∧ r.2.mem ((c.tc : Thread Cert.AdamFinalIdeal.nD Cert.AdamFinalIdeal.τ).loc Cert.AdamFinalIdeal.main_v4_2) = v2 c
          ∧ r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
          ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
          ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
          ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ θ_run (Cert.AdamFinalPlainIdeal.defs (F := Ideal)) (onTc (τ := Cert.AdamFinalPlainIdeal.τ) (Cert.AdamFinalPlainIdeal.main (F := Ideal))) ⟨m', fun _ => 0, g'⟩ (fun r => ∀ c : Dev Cert.AdamFinalPlainIdeal.nD,
          r.2.mem ((c.tc : Thread Cert.AdamFinalPlainIdeal.nD Cert.AdamFinalPlainIdeal.τ).loc Cert.AdamFinalPlainIdeal.main_v24) = v0 c
          ∧ r.2.mem ((c.tc : Thread Cert.AdamFinalPlainIdeal.nD Cert.AdamFinalPlainIdeal.τ).loc Cert.AdamFinalPlainIdeal.main_v25) = v1 c
          ∧ r.2.mem ((c.tc : Thread Cert.AdamFinalPlainIdeal.nD Cert.AdamFinalPlainIdeal.τ).loc Cert.AdamFinalPlainIdeal.main_v26) = v2 c
          ∧ r.2.mem ((c.tc : Thread Cert.AdamFinalPlainIdeal.nD Cert.AdamFinalPlainIdeal.τ).loc Cert.AdamFinalPlainIdeal.main_arg0) = m' ((c.tc : Thread Cert.AdamFinalPlainIdeal.nD Cert.AdamFinalPlainIdeal.τ).loc Cert.AdamFinalPlainIdeal.main_arg0)
          ∧ r.2.mem ((c.tc : Thread Cert.AdamFinalPlainIdeal.nD Cert.AdamFinalPlainIdeal.τ).loc Cert.AdamFinalPlainIdeal.main_arg1) = m' ((c.tc : Thread Cert.AdamFinalPlainIdeal.nD Cert.AdamFinalPlainIdeal.τ).loc Cert.AdamFinalPlainIdeal.main_arg1)
          ∧ r.2.mem ((c.tc : Thread Cert.AdamFinalPlainIdeal.nD Cert.AdamFinalPlainIdeal.τ).loc Cert.AdamFinalPlainIdeal.main_arg2) = m' ((c.tc : Thread Cert.AdamFinalPlainIdeal.nD Cert.AdamFinalPlainIdeal.τ).loc Cert.AdamFinalPlainIdeal.main_arg2)
          ∧ r.2.mem ((c.tc : Thread Cert.AdamFinalPlainIdeal.nD Cert.AdamFinalPlainIdeal.τ).loc Cert.AdamFinalPlainIdeal.main_arg3) = m' ((c.tc : Thread Cert.AdamFinalPlainIdeal.nD Cert.AdamFinalPlainIdeal.τ).loc Cert.AdamFinalPlainIdeal.main_arg3))

def preserves_Norm_NormIdeal : Prop :=
  True

def algebraic_NormIdeal_NormPlainIdeal [hNormIdeal : Cert.NormIdeal.Facts] [hNormPlainIdeal : Cert.NormPlainIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormPlainIdeal.nD Cert.NormPlainIdeal.τ Cert.NormPlainIdeal.sig) → Buf (Elt Ideal) ℓ) (g' : Dev Cert.NormPlainIdeal.nD → PrngReg), Pre_NormIdeal m →
    (∀ c : Dev Cert.NormIdeal.nD,
      m' ((c.tc : Thread Cert.NormPlainIdeal.nD Cert.NormPlainIdeal.τ).loc Cert.NormPlainIdeal.main_arg0) = m ((c.tc : Thread Cert.NormIdeal.nD Cert.NormIdeal.τ).loc Cert.NormIdeal.main_arg0)
      ∧ m' ((c.tc : Thread Cert.NormPlainIdeal.nD Cert.NormPlainIdeal.τ).loc Cert.NormPlainIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormPlainIdeal.defs (F := Ideal)) (onTc (τ := Cert.NormPlainIdeal.τ) (Cert.NormPlainIdeal.main (F := Ideal))) ⟨m', fun _ => 0, g'⟩ (fun r => ∀ c : Dev Cert.NormPlainIdeal.nD,
          r.2.mem ((c.tc : Thread Cert.NormPlainIdeal.nD Cert.NormPlainIdeal.τ).loc Cert.NormPlainIdeal.main_v14) = v0 c
          ∧ r.2.mem ((c.tc : Thread Cert.NormPlainIdeal.nD Cert.NormPlainIdeal.τ).loc Cert.NormPlainIdeal.main_arg0) = m' ((c.tc : Thread Cert.NormPlainIdeal.nD Cert.NormPlainIdeal.τ).loc Cert.NormPlainIdeal.main_arg0)
          ∧ r.2.mem ((c.tc : Thread Cert.NormPlainIdeal.nD Cert.NormPlainIdeal.τ).loc Cert.NormPlainIdeal.main_arg1) = m' ((c.tc : Thread Cert.NormPlainIdeal.nD Cert.NormPlainIdeal.τ).loc Cert.NormPlainIdeal.main_arg1))

def preserves_NormBwd_NormBwdIdeal : Prop :=
  True

def algebraic_NormBwdIdeal_NormBwdPlainIdeal [hNormBwdIdeal : Cert.NormBwdIdeal.Facts] [hNormBwdPlainIdeal : Cert.NormBwdPlainIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdPlainIdeal.nD Cert.NormBwdPlainIdeal.τ Cert.NormBwdPlainIdeal.sig) → Buf (Elt Ideal) ℓ) (g' : Dev Cert.NormBwdPlainIdeal.nD → PrngReg), Pre_NormBwdIdeal m →
    (∀ c : Dev Cert.NormBwdIdeal.nD,
      m' ((c.tc : Thread Cert.NormBwdPlainIdeal.nD Cert.NormBwdPlainIdeal.τ).loc Cert.NormBwdPlainIdeal.main_arg0) = m ((c.tc : Thread Cert.NormBwdIdeal.nD Cert.NormBwdIdeal.τ).loc Cert.NormBwdIdeal.main_arg0)
      ∧ m' ((c.tc : Thread Cert.NormBwdPlainIdeal.nD Cert.NormBwdPlainIdeal.τ).loc Cert.NormBwdPlainIdeal.main_arg1) = m ((c.tc : Thread Cert.NormBwdIdeal.nD Cert.NormBwdIdeal.τ).loc Cert.NormBwdIdeal.main_arg1)
      ∧ m' ((c.tc : Thread Cert.NormBwdPlainIdeal.nD Cert.NormBwdPlainIdeal.τ).loc Cert.NormBwdPlainIdeal.main_arg2) = m ((c.tc : Thread Cert.NormBwdIdeal.nD Cert.NormBwdIdeal.τ).loc Cert.NormBwdIdeal.main_arg2)
      ∧ m' ((c.tc : Thread Cert.NormBwdPlainIdeal.nD Cert.NormBwdPlainIdeal.τ).loc Cert.NormBwdPlainIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdPlainIdeal.defs (F := Ideal)) (onTc (τ := Cert.NormBwdPlainIdeal.τ) (Cert.NormBwdPlainIdeal.main (F := Ideal))) ⟨m', fun _ => 0, g'⟩ (fun r => ∀ c : Dev Cert.NormBwdPlainIdeal.nD,
          r.2.mem ((c.tc : Thread Cert.NormBwdPlainIdeal.nD Cert.NormBwdPlainIdeal.τ).loc Cert.NormBwdPlainIdeal.main_v37) = v0 c
          ∧ r.2.mem ((c.tc : Thread Cert.NormBwdPlainIdeal.nD Cert.NormBwdPlainIdeal.τ).loc Cert.NormBwdPlainIdeal.main_v38) = v1 c
          ∧ r.2.mem ((c.tc : Thread Cert.NormBwdPlainIdeal.nD Cert.NormBwdPlainIdeal.τ).loc Cert.NormBwdPlainIdeal.main_arg0) = m' ((c.tc : Thread Cert.NormBwdPlainIdeal.nD Cert.NormBwdPlainIdeal.τ).loc Cert.NormBwdPlainIdeal.main_arg0)
          ∧ r.2.mem ((c.tc : Thread Cert.NormBwdPlainIdeal.nD Cert.NormBwdPlainIdeal.τ).loc Cert.NormBwdPlainIdeal.main_arg1) = m' ((c.tc : Thread Cert.NormBwdPlainIdeal.nD Cert.NormBwdPlainIdeal.τ).loc Cert.NormBwdPlainIdeal.main_arg1)
          ∧ r.2.mem ((c.tc : Thread Cert.NormBwdPlainIdeal.nD Cert.NormBwdPlainIdeal.τ).loc Cert.NormBwdPlainIdeal.main_arg2) = m' ((c.tc : Thread Cert.NormBwdPlainIdeal.nD Cert.NormBwdPlainIdeal.τ).loc Cert.NormBwdPlainIdeal.main_arg2)
          ∧ r.2.mem ((c.tc : Thread Cert.NormBwdPlainIdeal.nD Cert.NormBwdPlainIdeal.τ).loc Cert.NormBwdPlainIdeal.main_arg3) = m' ((c.tc : Thread Cert.NormBwdPlainIdeal.nD Cert.NormBwdPlainIdeal.τ).loc Cert.NormBwdPlainIdeal.main_arg3))

def preserves_LossHead_LossHeadIdeal : Prop :=
  True

def algebraic_LossHeadIdeal_LossHeadPlainIdeal [hLossHeadIdeal : Cert.LossHeadIdeal.Facts] [hLossHeadPlainIdeal : Cert.LossHeadPlainIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadPlainIdeal.nD Cert.LossHeadPlainIdeal.τ Cert.LossHeadPlainIdeal.sig) → Buf (Elt Ideal) ℓ) (g' : Dev Cert.LossHeadPlainIdeal.nD → PrngReg), Pre_LossHeadIdeal m →
    (∀ c : Dev Cert.LossHeadIdeal.nD,
      m' ((c.tc : Thread Cert.LossHeadPlainIdeal.nD Cert.LossHeadPlainIdeal.τ).loc Cert.LossHeadPlainIdeal.main_arg0) = m ((c.tc : Thread Cert.LossHeadIdeal.nD Cert.LossHeadIdeal.τ).loc Cert.LossHeadIdeal.main_arg0)
      ∧ m' ((c.tc : Thread Cert.LossHeadPlainIdeal.nD Cert.LossHeadPlainIdeal.τ).loc Cert.LossHeadPlainIdeal.main_arg1) = m ((c.tc : Thread Cert.LossHeadIdeal.nD Cert.LossHeadIdeal.τ).loc Cert.LossHeadIdeal.main_arg1)
      ∧ m' ((c.tc : Thread Cert.LossHeadPlainIdeal.nD Cert.LossHeadPlainIdeal.τ).loc Cert.LossHeadPlainIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadPlainIdeal.defs (F := Ideal)) (onTc (τ := Cert.LossHeadPlainIdeal.τ) (Cert.LossHeadPlainIdeal.main (F := Ideal))) ⟨m', fun _ => 0, g'⟩ (fun r => ∀ c : Dev Cert.LossHeadPlainIdeal.nD,
          r.2.mem ((c.tc : Thread Cert.LossHeadPlainIdeal.nD Cert.LossHeadPlainIdeal.τ).loc Cert.LossHeadPlainIdeal.main_v52) = v0 c
          ∧ r.2.mem ((c.tc : Thread Cert.LossHeadPlainIdeal.nD Cert.LossHeadPlainIdeal.τ).loc Cert.LossHeadPlainIdeal.main_v51) = v1 c
          ∧ r.2.mem ((c.tc : Thread Cert.LossHeadPlainIdeal.nD Cert.LossHeadPlainIdeal.τ).loc Cert.LossHeadPlainIdeal.main_v53) = v2 c
          ∧ r.2.mem ((c.tc : Thread Cert.LossHeadPlainIdeal.nD Cert.LossHeadPlainIdeal.τ).loc Cert.LossHeadPlainIdeal.main_arg0) = m' ((c.tc : Thread Cert.LossHeadPlainIdeal.nD Cert.LossHeadPlainIdeal.τ).loc Cert.LossHeadPlainIdeal.main_arg0)
          ∧ r.2.mem ((c.tc : Thread Cert.LossHeadPlainIdeal.nD Cert.LossHeadPlainIdeal.τ).loc Cert.LossHeadPlainIdeal.main_arg1) = m' ((c.tc : Thread Cert.LossHeadPlainIdeal.nD Cert.LossHeadPlainIdeal.τ).loc Cert.LossHeadPlainIdeal.main_arg1)
          ∧ r.2.mem ((c.tc : Thread Cert.LossHeadPlainIdeal.nD Cert.LossHeadPlainIdeal.τ).loc Cert.LossHeadPlainIdeal.main_arg2) = m' ((c.tc : Thread Cert.LossHeadPlainIdeal.nD Cert.LossHeadPlainIdeal.τ).loc Cert.LossHeadPlainIdeal.main_arg2))

def preserves_EvenDt_EvenDtIdeal : Prop :=
  True

def algebraic_EvenDtIdeal_EvenDtPlainIdeal [hEvenDtIdeal : Cert.EvenDtIdeal.Facts] [hEvenDtPlainIdeal : Cert.EvenDtPlainIdeal.Facts] : Prop :=
  ∀ (m : (ℓ : Loc Cert.EvenDtIdeal.nD Cert.EvenDtIdeal.τ Cert.EvenDtIdeal.sig) → Buf (Elt Ideal) ℓ) (g : Dev Cert.EvenDtIdeal.nD → PrngReg)
    (m' : (ℓ : Loc Cert.EvenDtPlainIdeal.nD Cert.EvenDtPlainIdeal.τ Cert.EvenDtPlainIdeal.sig) → Buf (Elt Ideal) ℓ) (g' : Dev Cert.EvenDtPlainIdeal.nD → PrngReg), Pre_EvenDtIdeal m →
    (∀ c : Dev Cert.EvenDtIdeal.nD,
      m' ((c.tc : Thread Cert.EvenDtPlainIdeal.nD Cert.EvenDtPlainIdeal.τ).loc Cert.EvenDtPlainIdeal.main_arg0) = m ((c.tc : Thread Cert.EvenDtIdeal.nD Cert.EvenDtIdeal.τ).loc Cert.EvenDtIdeal.main_arg0)
      ∧ m' ((c.tc : Thread Cert.EvenDtPlainIdeal.nD Cert.EvenDtPlainIdeal.τ).loc Cert.EvenDtPlainIdeal.main_arg1) = m ((c.tc : Thread Cert.EvenDtIdeal.nD Cert.EvenDtIdeal.τ).loc Cert.EvenDtIdeal.main_arg1)) →
    ∃ (v0 : (c : Dev Cert.EvenDtIdeal.nD) → Buf (Elt Ideal) ((c.tc : Thread Cert.EvenDtIdeal.nD Cert.EvenDtIdeal.τ).loc Cert.EvenDtIdeal.main_v0)),
      θ_run (Cert.EvenDtIdeal.defs (F := Ideal)) (onTc (τ := Cert.EvenDtIdeal.τ) (Cert.EvenDtIdeal.main (F := Ideal))) ⟨m, fun _ => 0, g⟩ (fun r => ∀ c : Dev Cert.EvenDtIdeal.nD,
          r.2.mem ((c.tc : Thread Cert.EvenDtIdeal.nD Cert.EvenDtIdeal.τ).loc Cert.EvenDtIdeal.main_v0) = v0 c
          ∧ r.2.mem ((c.tc : Thread Cert.EvenDtIdeal.nD Cert.EvenDtIdeal.τ).loc Cert.EvenDtIdeal.main_arg0) = m ((c.tc : Thread Cert.EvenDtIdeal.nD Cert.EvenDtIdeal.τ).loc Cert.EvenDtIdeal.main_arg0)
          ∧ r.2.mem ((c.tc : Thread Cert.EvenDtIdeal.nD Cert.EvenDtIdeal.τ).loc Cert.EvenDtIdeal.main_arg1) = m ((c.tc : Thread Cert.EvenDtIdeal.nD Cert.EvenDtIdeal.τ).loc Cert.EvenDtIdeal.main_arg1))
      ∧ θ_run (Cert.EvenDtPlainIdeal.defs (F := Ideal)) (onTc (τ := Cert.EvenDtPlainIdeal.τ) (Cert.EvenDtPlainIdeal.main (F := Ideal))) ⟨m', fun _ => 0, g'⟩ (fun r => ∀ c : Dev Cert.EvenDtPlainIdeal.nD,
          r.2.mem ((c.tc : Thread Cert.EvenDtPlainIdeal.nD Cert.EvenDtPlainIdeal.τ).loc Cert.EvenDtPlainIdeal.main_v2) = v0 c
          ∧ r.2.mem ((c.tc : Thread Cert.EvenDtPlainIdeal.nD Cert.EvenDtPlainIdeal.τ).loc Cert.EvenDtPlainIdeal.main_arg0) = m' ((c.tc : Thread Cert.EvenDtPlainIdeal.nD Cert.EvenDtPlainIdeal.τ).loc Cert.EvenDtPlainIdeal.main_arg0)
          ∧ r.2.mem ((c.tc : Thread Cert.EvenDtPlainIdeal.nD Cert.EvenDtPlainIdeal.τ).loc Cert.EvenDtPlainIdeal.main_arg1) = m' ((c.tc : Thread Cert.EvenDtPlainIdeal.nD Cert.EvenDtPlainIdeal.τ).loc Cert.EvenDtPlainIdeal.main_arg1))

def preserves_Glu_GluIdeal : Prop :=
  True

def algebraic_GluIdeal_GluPlainIdeal [hGluIdeal : Cert.GluIdeal.Facts] [hGluPlainIdeal : Cert.GluPlainIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluPlainIdeal.nD Cert.GluPlainIdeal.τ Cert.GluPlainIdeal.sig) → Buf (Elt Ideal) ℓ) (g' : Dev Cert.GluPlainIdeal.nD → PrngReg), Pre_GluIdeal m →
    (∀ c : Dev Cert.GluIdeal.nD,
      m' ((c.tc : Thread Cert.GluPlainIdeal.nD Cert.GluPlainIdeal.τ).loc Cert.GluPlainIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.GluPlainIdeal.defs (F := Ideal)) (onTc (τ := Cert.GluPlainIdeal.τ) (Cert.GluPlainIdeal.main (F := Ideal))) ⟨m', fun _ => 0, g'⟩ (fun r => ∀ c : Dev Cert.GluPlainIdeal.nD,
          r.2.mem ((c.tc : Thread Cert.GluPlainIdeal.nD Cert.GluPlainIdeal.τ).loc Cert.GluPlainIdeal.main_v8) = v0 c
          ∧ r.2.mem ((c.tc : Thread Cert.GluPlainIdeal.nD Cert.GluPlainIdeal.τ).loc Cert.GluPlainIdeal.main_arg0) = m' ((c.tc : Thread Cert.GluPlainIdeal.nD Cert.GluPlainIdeal.τ).loc Cert.GluPlainIdeal.main_arg0))

def preserves_GluBwd_GluBwdIdeal : Prop :=
  True

def algebraic_GluBwdIdeal_GluBwdPlainIdeal [hGluBwdIdeal : Cert.GluBwdIdeal.Facts] [hGluBwdPlainIdeal : Cert.GluBwdPlainIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdPlainIdeal.nD Cert.GluBwdPlainIdeal.τ Cert.GluBwdPlainIdeal.sig) → Buf (Elt Ideal) ℓ) (g' : Dev Cert.GluBwdPlainIdeal.nD → PrngReg), Pre_GluBwdIdeal m →
    (∀ c : Dev Cert.GluBwdIdeal.nD,
      m' ((c.tc : Thread Cert.GluBwdPlainIdeal.nD Cert.GluBwdPlainIdeal.τ).loc Cert.GluBwdPlainIdeal.main_arg0) = m ((c.tc : Thread Cert.GluBwdIdeal.nD Cert.GluBwdIdeal.τ).loc Cert.GluBwdIdeal.main_arg0)
      ∧ m' ((c.tc : Thread Cert.GluBwdPlainIdeal.nD Cert.GluBwdPlainIdeal.τ).loc Cert.GluBwdPlainIdeal.main_arg1) = m ((c.tc : Thread Cert.GluBwdIdeal.nD Cert.GluBwdIdeal.τ).loc Cert.GluBwdIdeal.main_arg1)) →
    ∃ (v0 : (c : Dev Cert.GluBwdIdeal.nD) → Buf (Elt Ideal) ((c.tc : Thread Cert.GluBwdIdeal.nD Cert.GluBwdIdeal.τ).loc Cert.GluBwdIdeal.main_v0)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ θ_run (Cert.GluBwdPlainIdeal.defs (F := Ideal)) (onTc (τ := Cert.GluBwdPlainIdeal.τ) (Cert.GluBwdPlainIdeal.main (F := Ideal))) ⟨m', fun _ => 0, g'⟩ (fun r => ∀ c : Dev Cert.GluBwdPlainIdeal.nD,
          r.2.mem ((c.tc : Thread Cert.GluBwdPlainIdeal.nD Cert.GluBwdPlainIdeal.τ).loc Cert.GluBwdPlainIdeal.main_v16) = v0 c
          ∧ r.2.mem ((c.tc : Thread Cert.GluBwdPlainIdeal.nD Cert.GluBwdPlainIdeal.τ).loc Cert.GluBwdPlainIdeal.main_arg0) = m' ((c.tc : Thread Cert.GluBwdPlainIdeal.nD Cert.GluBwdPlainIdeal.τ).loc Cert.GluBwdPlainIdeal.main_arg0)
          ∧ r.2.mem ((c.tc : Thread Cert.GluBwdPlainIdeal.nD Cert.GluBwdPlainIdeal.τ).loc Cert.GluBwdPlainIdeal.main_arg1) = m' ((c.tc : Thread Cert.GluBwdPlainIdeal.nD Cert.GluBwdPlainIdeal.τ).loc Cert.GluBwdPlainIdeal.main_arg1))

def preserves_Ln_LnIdeal : Prop :=
  True

def algebraic_LnIdeal_LnPlainIdeal [hLnIdeal : Cert.LnIdeal.Facts] [hLnPlainIdeal : Cert.LnPlainIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnPlainIdeal.nD Cert.LnPlainIdeal.τ Cert.LnPlainIdeal.sig) → Buf (Elt Ideal) ℓ) (g' : Dev Cert.LnPlainIdeal.nD → PrngReg), Pre_LnIdeal m →
    (∀ c : Dev Cert.LnIdeal.nD,
      m' ((c.tc : Thread Cert.LnPlainIdeal.nD Cert.LnPlainIdeal.τ).loc Cert.LnPlainIdeal.main_arg0) = m ((c.tc : Thread Cert.LnIdeal.nD Cert.LnIdeal.τ).loc Cert.LnIdeal.main_arg0)
      ∧ m' ((c.tc : Thread Cert.LnPlainIdeal.nD Cert.LnPlainIdeal.τ).loc Cert.LnPlainIdeal.main_arg1) = m ((c.tc : Thread Cert.LnIdeal.nD Cert.LnIdeal.τ).loc Cert.LnIdeal.main_arg1)
      ∧ m' ((c.tc : Thread Cert.LnPlainIdeal.nD Cert.LnPlainIdeal.τ).loc Cert.LnPlainIdeal.main_arg2) = m ((c.tc : Thread Cert.LnIdeal.nD Cert.LnIdeal.τ).loc Cert.LnIdeal.main_arg2)) →
    ∃ (v0 : (c : Dev Cert.LnIdeal.nD) → Buf (Elt Ideal) ((c.tc : Thread Cert.LnIdeal.nD Cert.LnIdeal.τ).loc Cert.LnIdeal.main_v0)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0) = v0 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ θ_run (Cert.LnPlainIdeal.defs (F := Ideal)) (onTc (τ := Cert.LnPlainIdeal.τ) (Cert.LnPlainIdeal.main (F := Ideal))) ⟨m', fun _ => 0, g'⟩ (fun r => ∀ c : Dev Cert.LnPlainIdeal.nD,
          r.2.mem ((c.tc : Thread Cert.LnPlainIdeal.nD Cert.LnPlainIdeal.τ).loc Cert.LnPlainIdeal.main_v25) = v0 c
          ∧ r.2.mem ((c.tc : Thread Cert.LnPlainIdeal.nD Cert.LnPlainIdeal.τ).loc Cert.LnPlainIdeal.main_arg0) = m' ((c.tc : Thread Cert.LnPlainIdeal.nD Cert.LnPlainIdeal.τ).loc Cert.LnPlainIdeal.main_arg0)
          ∧ r.2.mem ((c.tc : Thread Cert.LnPlainIdeal.nD Cert.LnPlainIdeal.τ).loc Cert.LnPlainIdeal.main_arg1) = m' ((c.tc : Thread Cert.LnPlainIdeal.nD Cert.LnPlainIdeal.τ).loc Cert.LnPlainIdeal.main_arg1)
          ∧ r.2.mem ((c.tc : Thread Cert.LnPlainIdeal.nD Cert.LnPlainIdeal.τ).loc Cert.LnPlainIdeal.main_arg2) = m' ((c.tc : Thread Cert.LnPlainIdeal.nD Cert.LnPlainIdeal.τ).loc Cert.LnPlainIdeal.main_arg2))

def preserves_LnBwd_LnBwdIdeal : Prop :=
  True

def algebraic_LnBwdIdeal_LnBwdPlainIdeal [hLnBwdIdeal : Cert.LnBwdIdeal.Facts] [hLnBwdPlainIdeal : Cert.LnBwdPlainIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdPlainIdeal.nD Cert.LnBwdPlainIdeal.τ Cert.LnBwdPlainIdeal.sig) → Buf (Elt Ideal) ℓ) (g' : Dev Cert.LnBwdPlainIdeal.nD → PrngReg), Pre_LnBwdIdeal m →
    (∀ c : Dev Cert.LnBwdIdeal.nD,
      m' ((c.tc : Thread Cert.LnBwdPlainIdeal.nD Cert.LnBwdPlainIdeal.τ).loc Cert.LnBwdPlainIdeal.main_arg0) = m ((c.tc : Thread Cert.LnBwdIdeal.nD Cert.LnBwdIdeal.τ).loc Cert.LnBwdIdeal.main_arg0)
      ∧ m' ((c.tc : Thread Cert.LnBwdPlainIdeal.nD Cert.LnBwdPlainIdeal.τ).loc Cert.LnBwdPlainIdeal.main_arg1) = m ((c.tc : Thread Cert.LnBwdIdeal.nD Cert.LnBwdIdeal.τ).loc Cert.LnBwdIdeal.main_arg1)
      ∧ m' ((c.tc : Thread Cert.LnBwdPlainIdeal.nD Cert.LnBwdPlainIdeal.τ).loc Cert.LnBwdPlainIdeal.main_arg2) = m ((c.tc : Thread Cert.LnBwdIdeal.nD Cert.LnBwdIdeal.τ).loc Cert.LnBwdIdeal.main_arg2)
      ∧ m' ((c.tc : Thread Cert.LnBwdPlainIdeal.nD Cert.LnBwdPlainIdeal.τ).loc Cert.LnBwdPlainIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdPlainIdeal.defs (F := Ideal)) (onTc (τ := Cert.LnBwdPlainIdeal.τ) (Cert.LnBwdPlainIdeal.main (F := Ideal))) ⟨m', fun _ => 0, g'⟩ (fun r => ∀ c : Dev Cert.LnBwdPlainIdeal.nD,
          r.2.mem ((c.tc : Thread Cert.LnBwdPlainIdeal.nD Cert.LnBwdPlainIdeal.τ).loc Cert.LnBwdPlainIdeal.main_v61) = v0 c
          ∧ r.2.mem ((c.tc : Thread Cert.LnBwdPlainIdeal.nD Cert.LnBwdPlainIdeal.τ).loc Cert.LnBwdPlainIdeal.main_v62) = v1 c
          ∧ r.2.mem ((c.tc : Thread Cert.LnBwdPlainIdeal.nD Cert.LnBwdPlainIdeal.τ).loc Cert.LnBwdPlainIdeal.main_v63) = v2 c
          ∧ r.2.mem ((c.tc : Thread Cert.LnBwdPlainIdeal.nD Cert.LnBwdPlainIdeal.τ).loc Cert.LnBwdPlainIdeal.main_arg0) = m' ((c.tc : Thread Cert.LnBwdPlainIdeal.nD Cert.LnBwdPlainIdeal.τ).loc Cert.LnBwdPlainIdeal.main_arg0)
          ∧ r.2.mem ((c.tc : Thread Cert.LnBwdPlainIdeal.nD Cert.LnBwdPlainIdeal.τ).loc Cert.LnBwdPlainIdeal.main_arg1) = m' ((c.tc : Thread Cert.LnBwdPlainIdeal.nD Cert.LnBwdPlainIdeal.τ).loc Cert.LnBwdPlainIdeal.main_arg1)
          ∧ r.2.mem ((c.tc : Thread Cert.LnBwdPlainIdeal.nD Cert.LnBwdPlainIdeal.τ).loc Cert.LnBwdPlainIdeal.main_arg2) = m' ((c.tc : Thread Cert.LnBwdPlainIdeal.nD Cert.LnBwdPlainIdeal.τ).loc Cert.LnBwdPlainIdeal.main_arg2)
          ∧ r.2.mem ((c.tc : Thread Cert.LnBwdPlainIdeal.nD Cert.LnBwdPlainIdeal.τ).loc Cert.LnBwdPlainIdeal.main_arg3) = m' ((c.tc : Thread Cert.LnBwdPlainIdeal.nD Cert.LnBwdPlainIdeal.τ).loc Cert.LnBwdPlainIdeal.main_arg3))

def preserves_S5In_S5InIdeal : Prop :=
  True

def algebraic_S5InIdeal_S5InPlainIdeal [hS5InIdeal : Cert.S5InIdeal.Facts] [hS5InPlainIdeal : Cert.S5InPlainIdeal.Facts] : Prop :=
  ∀ (m : (ℓ : Loc Cert.S5InIdeal.nD Cert.S5InIdeal.τ Cert.S5InIdeal.sig) → Buf (Elt Ideal) ℓ) (g : Dev Cert.S5InIdeal.nD → PrngReg)
    (m' : (ℓ : Loc Cert.S5InPlainIdeal.nD Cert.S5InPlainIdeal.τ Cert.S5InPlainIdeal.sig) → Buf (Elt Ideal) ℓ) (g' : Dev Cert.S5InPlainIdeal.nD → PrngReg), Pre_S5InIdeal m →
    (∀ c : Dev Cert.S5InIdeal.nD,
      m' ((c.tc : Thread Cert.S5InPlainIdeal.nD Cert.S5InPlainIdeal.τ).loc Cert.S5InPlainIdeal.main_arg0) = m ((c.tc : Thread Cert.S5InIdeal.nD Cert.S5InIdeal.τ).loc Cert.S5InIdeal.main_arg0)
      ∧ m' ((c.tc : Thread Cert.S5InPlainIdeal.nD Cert.S5InPlainIdeal.τ).loc Cert.S5InPlainIdeal.main_arg1) = m ((c.tc : Thread Cert.S5InIdeal.nD Cert.S5InIdeal.τ).loc Cert.S5InIdeal.main_arg1)) →
    ∃ (v0 : (c : Dev Cert.S5InIdeal.nD) → Buf (Elt Ideal) ((c.tc : Thread Cert.S5InIdeal.nD Cert.S5InIdeal.τ).loc Cert.S5InIdeal.main_v0)),
      θ_run (Cert.S5InIdeal.defs (F := Ideal)) (onTc (τ := Cert.S5InIdeal.τ) (Cert.S5InIdeal.main (F := Ideal))) ⟨m, fun _ => 0, g⟩ (fun r => ∀ c : Dev Cert.S5InIdeal.nD,
          r.2.mem ((c.tc : Thread Cert.S5InIdeal.nD Cert.S5InIdeal.τ).loc Cert.S5InIdeal.main_v0) = v0 c
          ∧ r.2.mem ((c.tc : Thread Cert.S5InIdeal.nD Cert.S5InIdeal.τ).loc Cert.S5InIdeal.main_arg0) = m ((c.tc : Thread Cert.S5InIdeal.nD Cert.S5InIdeal.τ).loc Cert.S5InIdeal.main_arg0)
          ∧ r.2.mem ((c.tc : Thread Cert.S5InIdeal.nD Cert.S5InIdeal.τ).loc Cert.S5InIdeal.main_arg1) = m ((c.tc : Thread Cert.S5InIdeal.nD Cert.S5InIdeal.τ).loc Cert.S5InIdeal.main_arg1))
      ∧ θ_run (Cert.S5InPlainIdeal.defs (F := Ideal)) (onTc (τ := Cert.S5InPlainIdeal.τ) (Cert.S5InPlainIdeal.main (F := Ideal))) ⟨m', fun _ => 0, g'⟩ (fun r => ∀ c : Dev Cert.S5InPlainIdeal.nD,
          r.2.mem ((c.tc : Thread Cert.S5InPlainIdeal.nD Cert.S5InPlainIdeal.τ).loc Cert.S5InPlainIdeal.main_v1) = v0 c
          ∧ r.2.mem ((c.tc : Thread Cert.S5InPlainIdeal.nD Cert.S5InPlainIdeal.τ).loc Cert.S5InPlainIdeal.main_arg0) = m' ((c.tc : Thread Cert.S5InPlainIdeal.nD Cert.S5InPlainIdeal.τ).loc Cert.S5InPlainIdeal.main_arg0)
          ∧ r.2.mem ((c.tc : Thread Cert.S5InPlainIdeal.nD Cert.S5InPlainIdeal.τ).loc Cert.S5InPlainIdeal.main_arg1) = m' ((c.tc : Thread Cert.S5InPlainIdeal.nD Cert.S5InPlainIdeal.τ).loc Cert.S5InPlainIdeal.main_arg1))

def preserves_S5InDx_S5InDxIdeal : Prop :=
  True

def algebraic_S5InDxIdeal_S5InDxPlainIdeal [hS5InDxIdeal : Cert.S5InDxIdeal.Facts] [hS5InDxPlainIdeal : Cert.S5InDxPlainIdeal.Facts] : Prop :=
  ∀ (m : (ℓ : Loc Cert.S5InDxIdeal.nD Cert.S5InDxIdeal.τ Cert.S5InDxIdeal.sig) → Buf (Elt Ideal) ℓ) (g : Dev Cert.S5InDxIdeal.nD → PrngReg)
    (m' : (ℓ : Loc Cert.S5InDxPlainIdeal.nD Cert.S5InDxPlainIdeal.τ Cert.S5InDxPlainIdeal.sig) → Buf (Elt Ideal) ℓ) (g' : Dev Cert.S5InDxPlainIdeal.nD → PrngReg), Pre_S5InDxIdeal m →
    (∀ c : Dev Cert.S5InDxIdeal.nD,
      m' ((c.tc : Thread Cert.S5InDxPlainIdeal.nD Cert.S5InDxPlainIdeal.τ).loc Cert.S5InDxPlainIdeal.main_arg0) = m ((c.tc : Thread Cert.S5InDxIdeal.nD Cert.S5InDxIdeal.τ).loc Cert.S5InDxIdeal.main_arg0)
      ∧ m' ((c.tc : Thread Cert.S5InDxPlainIdeal.nD Cert.S5InDxPlainIdeal.τ).loc Cert.S5InDxPlainIdeal.main_arg1) = m ((c.tc : Thread Cert.S5InDxIdeal.nD Cert.S5InDxIdeal.τ).loc Cert.S5InDxIdeal.main_arg1)
      ∧ m' ((c.tc : Thread Cert.S5InDxPlainIdeal.nD Cert.S5InDxPlainIdeal.τ).loc Cert.S5InDxPlainIdeal.main_arg2) = m ((c.tc : Thread Cert.S5InDxIdeal.nD Cert.S5InDxIdeal.τ).loc Cert.S5InDxIdeal.main_arg2)) →
    ∃ (v0 : (c : Dev Cert.S5InDxIdeal.nD) → Buf (Elt Ideal) ((c.tc : Thread Cert.S5InDxIdeal.nD Cert.S5InDxIdeal.τ).loc Cert.S5InDxIdeal.main_v0)),
      θ_run (Cert.S5InDxIdeal.defs (F := Ideal)) (onTc (τ := Cert.S5InDxIdeal.τ) (Cert.S5InDxIdeal.main (F := Ideal))) ⟨m, fun _ => 0, g⟩ (fun r => ∀ c : Dev Cert.S5InDxIdeal.nD,
          r.2.mem ((c.tc : Thread Cert.S5InDxIdeal.nD Cert.S5InDxIdeal.τ).loc Cert.S5InDxIdeal.main_v0) = v0 c
          ∧ r.2.mem ((c.tc : Thread Cert.S5InDxIdeal.nD Cert.S5InDxIdeal.τ).loc Cert.S5InDxIdeal.main_arg0) = m ((c.tc : Thread Cert.S5InDxIdeal.nD Cert.S5InDxIdeal.τ).loc Cert.S5InDxIdeal.main_arg0)
          ∧ r.2.mem ((c.tc : Thread Cert.S5InDxIdeal.nD Cert.S5InDxIdeal.τ).loc Cert.S5InDxIdeal.main_arg1) = m ((c.tc : Thread Cert.S5InDxIdeal.nD Cert.S5InDxIdeal.τ).loc Cert.S5InDxIdeal.main_arg1)
          ∧ r.2.mem ((c.tc : Thread Cert.S5InDxIdeal.nD Cert.S5InDxIdeal.τ).loc Cert.S5InDxIdeal.main_arg2) = m ((c.tc : Thread Cert.S5InDxIdeal.nD Cert.S5InDxIdeal.τ).loc Cert.S5InDxIdeal.main_arg2))
      ∧ θ_run (Cert.S5InDxPlainIdeal.defs (F := Ideal)) (onTc (τ := Cert.S5InDxPlainIdeal.τ) (Cert.S5InDxPlainIdeal.main (F := Ideal))) ⟨m', fun _ => 0, g'⟩ (fun r => ∀ c : Dev Cert.S5InDxPlainIdeal.nD,
          r.2.mem ((c.tc : Thread Cert.S5InDxPlainIdeal.nD Cert.S5InDxPlainIdeal.τ).loc Cert.S5InDxPlainIdeal.main_v4) = v0 c
          ∧ r.2.mem ((c.tc : Thread Cert.S5InDxPlainIdeal.nD Cert.S5InDxPlainIdeal.τ).loc Cert.S5InDxPlainIdeal.main_arg0) = m' ((c.tc : Thread Cert.S5InDxPlainIdeal.nD Cert.S5InDxPlainIdeal.τ).loc Cert.S5InDxPlainIdeal.main_arg0)
          ∧ r.2.mem ((c.tc : Thread Cert.S5InDxPlainIdeal.nD Cert.S5InDxPlainIdeal.τ).loc Cert.S5InDxPlainIdeal.main_arg1) = m' ((c.tc : Thread Cert.S5InDxPlainIdeal.nD Cert.S5InDxPlainIdeal.τ).loc Cert.S5InDxPlainIdeal.main_arg1)
          ∧ r.2.mem ((c.tc : Thread Cert.S5InDxPlainIdeal.nD Cert.S5InDxPlainIdeal.τ).loc Cert.S5InDxPlainIdeal.main_arg2) = m' ((c.tc : Thread Cert.S5InDxPlainIdeal.nD Cert.S5InDxPlainIdeal.τ).loc Cert.S5InDxPlainIdeal.main_arg2))

def preserves_S5InDw_S5InDwIdeal : Prop :=
  True

def algebraic_S5InDwIdeal_S5InDwPlainIdeal [hS5InDwIdeal : Cert.S5InDwIdeal.Facts] [hS5InDwPlainIdeal : Cert.S5InDwPlainIdeal.Facts] : Prop :=
  ∀ (m : (ℓ : Loc Cert.S5InDwIdeal.nD Cert.S5InDwIdeal.τ Cert.S5InDwIdeal.sig) → Buf (Elt Ideal) ℓ) (g : Dev Cert.S5InDwIdeal.nD → PrngReg)
    (m' : (ℓ : Loc Cert.S5InDwPlainIdeal.nD Cert.S5InDwPlainIdeal.τ Cert.S5InDwPlainIdeal.sig) → Buf (Elt Ideal) ℓ) (g' : Dev Cert.S5InDwPlainIdeal.nD → PrngReg), Pre_S5InDwIdeal m →
    (∀ c : Dev Cert.S5InDwIdeal.nD,
      m' ((c.tc : Thread Cert.S5InDwPlainIdeal.nD Cert.S5InDwPlainIdeal.τ).loc Cert.S5InDwPlainIdeal.main_arg0) = m ((c.tc : Thread Cert.S5InDwIdeal.nD Cert.S5InDwIdeal.τ).loc Cert.S5InDwIdeal.main_arg0)
      ∧ m' ((c.tc : Thread Cert.S5InDwPlainIdeal.nD Cert.S5InDwPlainIdeal.τ).loc Cert.S5InDwPlainIdeal.main_arg1) = m ((c.tc : Thread Cert.S5InDwIdeal.nD Cert.S5InDwIdeal.τ).loc Cert.S5InDwIdeal.main_arg1)
      ∧ m' ((c.tc : Thread Cert.S5InDwPlainIdeal.nD Cert.S5InDwPlainIdeal.τ).loc Cert.S5InDwPlainIdeal.main_arg2) = m ((c.tc : Thread Cert.S5InDwIdeal.nD Cert.S5InDwIdeal.τ).loc Cert.S5InDwIdeal.main_arg2)) →
    ∃ (v0 : (c : Dev Cert.S5InDwIdeal.nD) → Buf (Elt Ideal) ((c.tc : Thread Cert.S5InDwIdeal.nD Cert.S5InDwIdeal.τ).loc Cert.S5InDwIdeal.main_v0)),
      θ_run (Cert.S5InDwIdeal.defs (F := Ideal)) (onTc (τ := Cert.S5InDwIdeal.τ) (Cert.S5InDwIdeal.main (F := Ideal))) ⟨m, fun _ => 0, g⟩ (fun r => ∀ c : Dev Cert.S5InDwIdeal.nD,
          r.2.mem ((c.tc : Thread Cert.S5InDwIdeal.nD Cert.S5InDwIdeal.τ).loc Cert.S5InDwIdeal.main_v0) = v0 c
          ∧ r.2.mem ((c.tc : Thread Cert.S5InDwIdeal.nD Cert.S5InDwIdeal.τ).loc Cert.S5InDwIdeal.main_arg0) = m ((c.tc : Thread Cert.S5InDwIdeal.nD Cert.S5InDwIdeal.τ).loc Cert.S5InDwIdeal.main_arg0)
          ∧ r.2.mem ((c.tc : Thread Cert.S5InDwIdeal.nD Cert.S5InDwIdeal.τ).loc Cert.S5InDwIdeal.main_arg1) = m ((c.tc : Thread Cert.S5InDwIdeal.nD Cert.S5InDwIdeal.τ).loc Cert.S5InDwIdeal.main_arg1)
          ∧ r.2.mem ((c.tc : Thread Cert.S5InDwIdeal.nD Cert.S5InDwIdeal.τ).loc Cert.S5InDwIdeal.main_arg2) = m ((c.tc : Thread Cert.S5InDwIdeal.nD Cert.S5InDwIdeal.τ).loc Cert.S5InDwIdeal.main_arg2))
      ∧ θ_run (Cert.S5InDwPlainIdeal.defs (F := Ideal)) (onTc (τ := Cert.S5InDwPlainIdeal.τ) (Cert.S5InDwPlainIdeal.main (F := Ideal))) ⟨m', fun _ => 0, g'⟩ (fun r => ∀ c : Dev Cert.S5InDwPlainIdeal.nD,
          r.2.mem ((c.tc : Thread Cert.S5InDwPlainIdeal.nD Cert.S5InDwPlainIdeal.τ).loc Cert.S5InDwPlainIdeal.main_v3) = v0 c
          ∧ r.2.mem ((c.tc : Thread Cert.S5InDwPlainIdeal.nD Cert.S5InDwPlainIdeal.τ).loc Cert.S5InDwPlainIdeal.main_arg0) = m' ((c.tc : Thread Cert.S5InDwPlainIdeal.nD Cert.S5InDwPlainIdeal.τ).loc Cert.S5InDwPlainIdeal.main_arg0)
          ∧ r.2.mem ((c.tc : Thread Cert.S5InDwPlainIdeal.nD Cert.S5InDwPlainIdeal.τ).loc Cert.S5InDwPlainIdeal.main_arg1) = m' ((c.tc : Thread Cert.S5InDwPlainIdeal.nD Cert.S5InDwPlainIdeal.τ).loc Cert.S5InDwPlainIdeal.main_arg1)
          ∧ r.2.mem ((c.tc : Thread Cert.S5InDwPlainIdeal.nD Cert.S5InDwPlainIdeal.τ).loc Cert.S5InDwPlainIdeal.main_arg2) = m' ((c.tc : Thread Cert.S5InDwPlainIdeal.nD Cert.S5InDwPlainIdeal.τ).loc Cert.S5InDwPlainIdeal.main_arg2))

def preserves_S5Out_S5OutIdeal : Prop :=
  True

def algebraic_S5OutIdeal_S5OutPlainIdeal [hS5OutIdeal : Cert.S5OutIdeal.Facts] [hS5OutPlainIdeal : Cert.S5OutPlainIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutPlainIdeal.nD Cert.S5OutPlainIdeal.τ Cert.S5OutPlainIdeal.sig) → Buf (Elt Ideal) ℓ) (g' : Dev Cert.S5OutPlainIdeal.nD → PrngReg), Pre_S5OutIdeal m →
    (∀ c : Dev Cert.S5OutIdeal.nD,
      m' ((c.tc : Thread Cert.S5OutPlainIdeal.nD Cert.S5OutPlainIdeal.τ).loc Cert.S5OutPlainIdeal.main_arg0) = m ((c.tc : Thread Cert.S5OutIdeal.nD Cert.S5OutIdeal.τ).loc Cert.S5OutIdeal.main_arg0)
      ∧ m' ((c.tc : Thread Cert.S5OutPlainIdeal.nD Cert.S5OutPlainIdeal.τ).loc Cert.S5OutPlainIdeal.main_arg1) = m ((c.tc : Thread Cert.S5OutIdeal.nD Cert.S5OutIdeal.τ).loc Cert.S5OutIdeal.main_arg1)
      ∧ m' ((c.tc : Thread Cert.S5OutPlainIdeal.nD Cert.S5OutPlainIdeal.τ).loc Cert.S5OutPlainIdeal.main_arg2) = m ((c.tc : Thread Cert.S5OutIdeal.nD Cert.S5OutIdeal.τ).loc Cert.S5OutIdeal.main_arg2)) →
    ∃ (v0 : (c : Dev Cert.S5OutIdeal.nD) → Buf (Elt Ideal) ((c.tc : Thread Cert.S5OutIdeal.nD Cert.S5OutIdeal.τ).loc Cert.S5OutIdeal.main_v0)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v0) = v0 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2))
      ∧ θ_run (Cert.S5OutPlainIdeal.defs (F := Ideal)) (onTc (τ := Cert.S5OutPlainIdeal.τ) (Cert.S5OutPlainIdeal.main (F := Ideal))) ⟨m', fun _ => 0, g'⟩ (fun r => ∀ c : Dev Cert.S5OutPlainIdeal.nD,
          r.2.mem ((c.tc : Thread Cert.S5OutPlainIdeal.nD Cert.S5OutPlainIdeal.τ).loc Cert.S5OutPlainIdeal.main_v3) = v0 c
          ∧ r.2.mem ((c.tc : Thread Cert.S5OutPlainIdeal.nD Cert.S5OutPlainIdeal.τ).loc Cert.S5OutPlainIdeal.main_arg0) = m' ((c.tc : Thread Cert.S5OutPlainIdeal.nD Cert.S5OutPlainIdeal.τ).loc Cert.S5OutPlainIdeal.main_arg0)
          ∧ r.2.mem ((c.tc : Thread Cert.S5OutPlainIdeal.nD Cert.S5OutPlainIdeal.τ).loc Cert.S5OutPlainIdeal.main_arg1) = m' ((c.tc : Thread Cert.S5OutPlainIdeal.nD Cert.S5OutPlainIdeal.τ).loc Cert.S5OutPlainIdeal.main_arg1)
          ∧ r.2.mem ((c.tc : Thread Cert.S5OutPlainIdeal.nD Cert.S5OutPlainIdeal.τ).loc Cert.S5OutPlainIdeal.main_arg2) = m' ((c.tc : Thread Cert.S5OutPlainIdeal.nD Cert.S5OutPlainIdeal.τ).loc Cert.S5OutPlainIdeal.main_arg2))

def preserves_S5Post_S5PostIdeal : Prop :=
  True

def algebraic_S5PostIdeal_S5PostPlainIdeal [hS5PostIdeal : Cert.S5PostIdeal.Facts] [hS5PostPlainIdeal : Cert.S5PostPlainIdeal.Facts] : Prop :=
  ∀ (m : (ℓ : Loc Cert.S5PostIdeal.nD Cert.S5PostIdeal.τ Cert.S5PostIdeal.sig) → Buf (Elt Ideal) ℓ) (g : Dev Cert.S5PostIdeal.nD → PrngReg)
    (m' : (ℓ : Loc Cert.S5PostPlainIdeal.nD Cert.S5PostPlainIdeal.τ Cert.S5PostPlainIdeal.sig) → Buf (Elt Ideal) ℓ) (g' : Dev Cert.S5PostPlainIdeal.nD → PrngReg), Pre_S5PostIdeal m →
    (∀ c : Dev Cert.S5PostIdeal.nD,
      m' ((c.tc : Thread Cert.S5PostPlainIdeal.nD Cert.S5PostPlainIdeal.τ).loc Cert.S5PostPlainIdeal.main_arg0) = m ((c.tc : Thread Cert.S5PostIdeal.nD Cert.S5PostIdeal.τ).loc Cert.S5PostIdeal.main_arg0)
      ∧ m' ((c.tc : Thread Cert.S5PostPlainIdeal.nD Cert.S5PostPlainIdeal.τ).loc Cert.S5PostPlainIdeal.main_arg1) = m ((c.tc : Thread Cert.S5PostIdeal.nD Cert.S5PostIdeal.τ).loc Cert.S5PostIdeal.main_arg1)
      ∧ m' ((c.tc : Thread Cert.S5PostPlainIdeal.nD Cert.S5PostPlainIdeal.τ).loc Cert.S5PostPlainIdeal.main_arg2) = m ((c.tc : Thread Cert.S5PostIdeal.nD Cert.S5PostIdeal.τ).loc Cert.S5PostIdeal.main_arg2)
      ∧ m' ((c.tc : Thread Cert.S5PostPlainIdeal.nD Cert.S5PostPlainIdeal.τ).loc Cert.S5PostPlainIdeal.main_arg3) = m ((c.tc : Thread Cert.S5PostIdeal.nD Cert.S5PostIdeal.τ).loc Cert.S5PostIdeal.main_arg3)) →
    ∃ (v0 : (c : Dev Cert.S5PostIdeal.nD) → Buf (Elt Ideal) ((c.tc : Thread Cert.S5PostIdeal.nD Cert.S5PostIdeal.τ).loc Cert.S5PostIdeal.main_v0)),
      θ_run (Cert.S5PostIdeal.defs (F := Ideal)) (onTc (τ := Cert.S5PostIdeal.τ) (Cert.S5PostIdeal.main (F := Ideal))) ⟨m, fun _ => 0, g⟩ (fun r => ∀ c : Dev Cert.S5PostIdeal.nD,
          r.2.mem ((c.tc : Thread Cert.S5PostIdeal.nD Cert.S5PostIdeal.τ).loc Cert.S5PostIdeal.main_v0) = v0 c
          ∧ r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
          ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
          ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
          ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3))
      ∧ θ_run (Cert.S5PostPlainIdeal.defs (F := Ideal)) (onTc (τ := Cert.S5PostPlainIdeal.τ) (Cert.S5PostPlainIdeal.main (F := Ideal))) ⟨m', fun _ => 0, g'⟩ (fun r => ∀ c : Dev Cert.S5PostPlainIdeal.nD,
          r.2.mem ((c.tc : Thread Cert.S5PostPlainIdeal.nD Cert.S5PostPlainIdeal.τ).loc Cert.S5PostPlainIdeal.main_v27) = v0 c
          ∧ r.2.mem ((c.tc : Thread Cert.S5PostPlainIdeal.nD Cert.S5PostPlainIdeal.τ).loc Cert.S5PostPlainIdeal.main_arg0) = m' ((c.tc : Thread Cert.S5PostPlainIdeal.nD Cert.S5PostPlainIdeal.τ).loc Cert.S5PostPlainIdeal.main_arg0)
          ∧ r.2.mem ((c.tc : Thread Cert.S5PostPlainIdeal.nD Cert.S5PostPlainIdeal.τ).loc Cert.S5PostPlainIdeal.main_arg1) = m' ((c.tc : Thread Cert.S5PostPlainIdeal.nD Cert.S5PostPlainIdeal.τ).loc Cert.S5PostPlainIdeal.main_arg1)
          ∧ r.2.mem ((c.tc : Thread Cert.S5PostPlainIdeal.nD Cert.S5PostPlainIdeal.τ).loc Cert.S5PostPlainIdeal.main_arg2) = m' ((c.tc : Thread Cert.S5PostPlainIdeal.nD Cert.S5PostPlainIdeal.τ).loc Cert.S5PostPlainIdeal.main_arg2)
          ∧ r.2.mem ((c.tc : Thread Cert.S5PostPlainIdeal.nD Cert.S5PostPlainIdeal.τ).loc Cert.S5PostPlainIdeal.main_arg3) = m' ((c.tc : Thread Cert.S5PostPlainIdeal.nD Cert.S5PostPlainIdeal.τ).loc Cert.S5PostPlainIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpPlainIdeal : Cert.UpPlainIdeal.Facts) (hUpDx : Cert.UpDx.Facts) (hUpDxIdeal : Cert.UpDxIdeal.Facts) (hUpDxPlainIdeal : Cert.UpDxPlainIdeal.Facts) (hUpDw : Cert.UpDw.Facts) (hUpDwIdeal : Cert.UpDwIdeal.Facts) (hUpDwPlainIdeal : Cert.UpDwPlainIdeal.Facts) (hDown : Cert.Down.Facts) (hDownIdeal : Cert.DownIdeal.Facts) (hDownPlainIdeal : Cert.DownPlainIdeal.Facts) (hDownDx : Cert.DownDx.Facts) (hDownDxIdeal : Cert.DownDxIdeal.Facts) (hDownDxPlainIdeal : Cert.DownDxPlainIdeal.Facts) (hDownDw : Cert.DownDw.Facts) (hDownDwIdeal : Cert.DownDwIdeal.Facts) (hDownDwPlainIdeal : Cert.DownDwPlainIdeal.Facts) (hEvenIn : Cert.EvenIn.Facts) (hEvenInIdeal : Cert.EvenInIdeal.Facts) (hEvenInPlainIdeal : Cert.EvenInPlainIdeal.Facts) (hEvenInDx : Cert.EvenInDx.Facts) (hEvenInDxIdeal : Cert.EvenInDxIdeal.Facts) (hEvenInDxPlainIdeal : Cert.EvenInDxPlainIdeal.Facts) (hEvenInDw : Cert.EvenInDw.Facts) (hEvenInDwIdeal : Cert.EvenInDwIdeal.Facts) (hEvenInDwPlainIdeal : Cert.EvenInDwPlainIdeal.Facts) (hEvenOut : Cert.EvenOut.Facts) (hEvenOutIdeal : Cert.EvenOutIdeal.Facts) (hEvenOutPlainIdeal : Cert.EvenOutPlainIdeal.Facts) (hEvenOutDx : Cert.EvenOutDx.Facts) (hEvenOutDxIdeal : Cert.EvenOutDxIdeal.Facts) (hEvenOutDxPlainIdeal : Cert.EvenOutDxPlainIdeal.Facts) (hEvenOutDw : Cert.EvenOutDw.Facts) (hEvenOutDwIdeal : Cert.EvenOutDwIdeal.Facts) (hEvenOutDwPlainIdeal : Cert.EvenOutDwPlainIdeal.Facts) (hOddIn : Cert.OddIn.Facts) (hOddInIdeal : Cert.OddInIdeal.Facts) (hOddInPlainIdeal : Cert.OddInPlainIdeal.Facts) (hOddInDx : Cert.OddInDx.Facts) (hOddInDxIdeal : Cert.OddInDxIdeal.Facts) (hOddInDxPlainIdeal : Cert.OddInDxPlainIdeal.Facts) (hOddInDw : Cert.OddInDw.Facts) (hOddInDwIdeal : Cert.OddInDwIdeal.Facts) (hOddInDwPlainIdeal : Cert.OddInDwPlainIdeal.Facts) (hOddOut : Cert.OddOut.Facts) (hOddOutIdeal : Cert.OddOutIdeal.Facts) (hOddOutPlainIdeal : Cert.OddOutPlainIdeal.Facts) (hOddOutDx : Cert.OddOutDx.Facts) (hOddOutDxIdeal : Cert.OddOutDxIdeal.Facts) (hOddOutDxPlainIdeal : Cert.OddOutDxPlainIdeal.Facts) (hOddOutDw : Cert.OddOutDw.Facts) (hOddOutDwIdeal : Cert.OddOutDwIdeal.Facts) (hOddOutDwPlainIdeal : Cert.OddOutDwPlainIdeal.Facts) (hAdamNorms : Cert.AdamNorms.Facts) (hAdamNormsIdeal : Cert.AdamNormsIdeal.Facts) (hAdamNormsPlainIdeal : Cert.AdamNormsPlainIdeal.Facts) (hAdamEvenIn : Cert.AdamEvenIn.Facts) (hAdamEvenInIdeal : Cert.AdamEvenInIdeal.Facts) (hAdamEvenInPlainIdeal : Cert.AdamEvenInPlainIdeal.Facts) (hAdamEvenConv : Cert.AdamEvenConv.Facts) (hAdamEvenConvIdeal : Cert.AdamEvenConvIdeal.Facts) (hAdamEvenConvPlainIdeal : Cert.AdamEvenConvPlainIdeal.Facts) (hAdamEvenBias : Cert.AdamEvenBias.Facts) (hAdamEvenBiasIdeal : Cert.AdamEvenBiasIdeal.Facts) (hAdamEvenBiasPlainIdeal : Cert.AdamEvenBiasPlainIdeal.Facts) (hAdamEvenHeads : Cert.AdamEvenHeads.Facts) (hAdamEvenHeadsIdeal : Cert.AdamEvenHeadsIdeal.Facts) (hAdamEvenHeadsPlainIdeal : Cert.AdamEvenHeadsPlainIdeal.Facts) (hAdamEvenNorm : Cert.AdamEvenNorm.Facts) (hAdamEvenNormIdeal : Cert.AdamEvenNormIdeal.Facts) (hAdamEvenNormPlainIdeal : Cert.AdamEvenNormPlainIdeal.Facts) (hAdamEvenOut : Cert.AdamEvenOut.Facts) (hAdamEvenOutIdeal : Cert.AdamEvenOutIdeal.Facts) (hAdamEvenOutPlainIdeal : Cert.AdamEvenOutPlainIdeal.Facts) (hAdamOddIn : Cert.AdamOddIn.Facts) (hAdamOddInIdeal : Cert.AdamOddInIdeal.Facts) (hAdamOddInPlainIdeal : Cert.AdamOddInPlainIdeal.Facts) (hAdamOddConv : Cert.AdamOddConv.Facts) (hAdamOddConvIdeal : Cert.AdamOddConvIdeal.Facts) (hAdamOddConvPlainIdeal : Cert.AdamOddConvPlainIdeal.Facts) (hAdamOddRow : Cert.AdamOddRow.Facts) (hAdamOddRowIdeal : Cert.AdamOddRowIdeal.Facts) (hAdamOddRowPlainIdeal : Cert.AdamOddRowPlainIdeal.Facts) (hAdamOddPoles : Cert.AdamOddPoles.Facts) (hAdamOddPolesIdeal : Cert.AdamOddPolesIdeal.Facts) (hAdamOddPolesPlainIdeal : Cert.AdamOddPolesPlainIdeal.Facts) (hAdamOddInputs : Cert.AdamOddInputs.Facts) (hAdamOddInputsIdeal : Cert.AdamOddInputsIdeal.Facts) (hAdamOddInputsPlainIdeal : Cert.AdamOddInputsPlainIdeal.Facts) (hAdamOddOutputs : Cert.AdamOddOutputs.Facts) (hAdamOddOutputsIdeal : Cert.AdamOddOutputsIdeal.Facts) (hAdamOddOutputsPlainIdeal : Cert.AdamOddOutputsPlainIdeal.Facts) (hAdamOddSteps : Cert.AdamOddSteps.Facts) (hAdamOddStepsIdeal : Cert.AdamOddStepsIdeal.Facts) (hAdamOddStepsPlainIdeal : Cert.AdamOddStepsPlainIdeal.Facts) (hAdamOddGate : Cert.AdamOddGate.Facts) (hAdamOddGateIdeal : Cert.AdamOddGateIdeal.Facts) (hAdamOddGatePlainIdeal : Cert.AdamOddGatePlainIdeal.Facts) (hAdamOddOut : Cert.AdamOddOut.Facts) (hAdamOddOutIdeal : Cert.AdamOddOutIdeal.Facts) (hAdamOddOutPlainIdeal : Cert.AdamOddOutPlainIdeal.Facts) (hAdamUp : Cert.AdamUp.Facts) (hAdamUpIdeal : Cert.AdamUpIdeal.Facts) (hAdamUpPlainIdeal : Cert.AdamUpPlainIdeal.Facts) (hAdamConv : Cert.AdamConv.Facts) (hAdamConvIdeal : Cert.AdamConvIdeal.Facts) (hAdamConvPlainIdeal : Cert.AdamConvPlainIdeal.Facts) (hAdamBias : Cert.AdamBias.Facts) (hAdamBiasIdeal : Cert.AdamBiasIdeal.Facts) (hAdamBiasPlainIdeal : Cert.AdamBiasPlainIdeal.Facts) (hAdamDown : Cert.AdamDown.Facts) (hAdamDownIdeal : Cert.AdamDownIdeal.Facts) (hAdamDownPlainIdeal : Cert.AdamDownPlainIdeal.Facts) (hAdamFinal : Cert.AdamFinal.Facts) (hAdamFinalIdeal : Cert.AdamFinalIdeal.Facts) (hAdamFinalPlainIdeal : Cert.AdamFinalPlainIdeal.Facts) (hNorm : Cert.Norm.Facts) (hNormIdeal : Cert.NormIdeal.Facts) (hNormPlainIdeal : Cert.NormPlainIdeal.Facts) (hNormBwd : Cert.NormBwd.Facts) (hNormBwdIdeal : Cert.NormBwdIdeal.Facts) (hNormBwdPlainIdeal : Cert.NormBwdPlainIdeal.Facts) (hLossHead : Cert.LossHead.Facts) (hLossHeadIdeal : Cert.LossHeadIdeal.Facts) (hLossHeadPlainIdeal : Cert.LossHeadPlainIdeal.Facts) (hEvenDt : Cert.EvenDt.Facts) (hEvenDtIdeal : Cert.EvenDtIdeal.Facts) (hEvenDtPlainIdeal : Cert.EvenDtPlainIdeal.Facts) (hGlu : Cert.Glu.Facts) (hGluIdeal : Cert.GluIdeal.Facts) (hGluPlainIdeal : Cert.GluPlainIdeal.Facts) (hGluBwd : Cert.GluBwd.Facts) (hGluBwdIdeal : Cert.GluBwdIdeal.Facts) (hGluBwdPlainIdeal : Cert.GluBwdPlainIdeal.Facts) (hLn : Cert.Ln.Facts) (hLnIdeal : Cert.LnIdeal.Facts) (hLnPlainIdeal : Cert.LnPlainIdeal.Facts) (hLnBwd : Cert.LnBwd.Facts) (hLnBwdIdeal : Cert.LnBwdIdeal.Facts) (hLnBwdPlainIdeal : Cert.LnBwdPlainIdeal.Facts) (hS5In : Cert.S5In.Facts) (hS5InIdeal : Cert.S5InIdeal.Facts) (hS5InPlainIdeal : Cert.S5InPlainIdeal.Facts) (hS5InDx : Cert.S5InDx.Facts) (hS5InDxIdeal : Cert.S5InDxIdeal.Facts) (hS5InDxPlainIdeal : Cert.S5InDxPlainIdeal.Facts) (hS5InDw : Cert.S5InDw.Facts) (hS5InDwIdeal : Cert.S5InDwIdeal.Facts) (hS5InDwPlainIdeal : Cert.S5InDwPlainIdeal.Facts) (hS5Out : Cert.S5Out.Facts) (hS5OutIdeal : Cert.S5OutIdeal.Facts) (hS5OutPlainIdeal : Cert.S5OutPlainIdeal.Facts) (hS5Post : Cert.S5Post.Facts) (hS5PostIdeal : Cert.S5PostIdeal.Facts) (hS5PostPlainIdeal : Cert.S5PostPlainIdeal.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpPlainIdeal (hUpPlainIdeal := hUpPlainIdeal)
    ∧ quiescent_UpDx (hUpDx := hUpDx)
    ∧ quiescent_UpDxIdeal (hUpDxIdeal := hUpDxIdeal)
    ∧ quiescent_UpDxPlainIdeal (hUpDxPlainIdeal := hUpDxPlainIdeal)
    ∧ quiescent_UpDw (hUpDw := hUpDw)
    ∧ quiescent_UpDwIdeal (hUpDwIdeal := hUpDwIdeal)
    ∧ quiescent_UpDwPlainIdeal (hUpDwPlainIdeal := hUpDwPlainIdeal)
    ∧ quiescent_Down (hDown := hDown)
    ∧ quiescent_DownIdeal (hDownIdeal := hDownIdeal)
    ∧ quiescent_DownPlainIdeal (hDownPlainIdeal := hDownPlainIdeal)
    ∧ quiescent_DownDx (hDownDx := hDownDx)
    ∧ quiescent_DownDxIdeal (hDownDxIdeal := hDownDxIdeal)
    ∧ quiescent_DownDxPlainIdeal (hDownDxPlainIdeal := hDownDxPlainIdeal)
    ∧ quiescent_DownDw (hDownDw := hDownDw)
    ∧ quiescent_DownDwIdeal (hDownDwIdeal := hDownDwIdeal)
    ∧ quiescent_DownDwPlainIdeal (hDownDwPlainIdeal := hDownDwPlainIdeal)
    ∧ quiescent_EvenIn (hEvenIn := hEvenIn)
    ∧ quiescent_EvenInIdeal (hEvenInIdeal := hEvenInIdeal)
    ∧ quiescent_EvenInPlainIdeal (hEvenInPlainIdeal := hEvenInPlainIdeal)
    ∧ quiescent_EvenInDx (hEvenInDx := hEvenInDx)
    ∧ quiescent_EvenInDxIdeal (hEvenInDxIdeal := hEvenInDxIdeal)
    ∧ quiescent_EvenInDxPlainIdeal (hEvenInDxPlainIdeal := hEvenInDxPlainIdeal)
    ∧ quiescent_EvenInDw (hEvenInDw := hEvenInDw)
    ∧ quiescent_EvenInDwIdeal (hEvenInDwIdeal := hEvenInDwIdeal)
    ∧ quiescent_EvenInDwPlainIdeal (hEvenInDwPlainIdeal := hEvenInDwPlainIdeal)
    ∧ quiescent_EvenOut (hEvenOut := hEvenOut)
    ∧ quiescent_EvenOutIdeal (hEvenOutIdeal := hEvenOutIdeal)
    ∧ quiescent_EvenOutPlainIdeal (hEvenOutPlainIdeal := hEvenOutPlainIdeal)
    ∧ quiescent_EvenOutDx (hEvenOutDx := hEvenOutDx)
    ∧ quiescent_EvenOutDxIdeal (hEvenOutDxIdeal := hEvenOutDxIdeal)
    ∧ quiescent_EvenOutDxPlainIdeal (hEvenOutDxPlainIdeal := hEvenOutDxPlainIdeal)
    ∧ quiescent_EvenOutDw (hEvenOutDw := hEvenOutDw)
    ∧ quiescent_EvenOutDwIdeal (hEvenOutDwIdeal := hEvenOutDwIdeal)
    ∧ quiescent_EvenOutDwPlainIdeal (hEvenOutDwPlainIdeal := hEvenOutDwPlainIdeal)
    ∧ quiescent_OddIn (hOddIn := hOddIn)
    ∧ quiescent_OddInIdeal (hOddInIdeal := hOddInIdeal)
    ∧ quiescent_OddInPlainIdeal (hOddInPlainIdeal := hOddInPlainIdeal)
    ∧ quiescent_OddInDx (hOddInDx := hOddInDx)
    ∧ quiescent_OddInDxIdeal (hOddInDxIdeal := hOddInDxIdeal)
    ∧ quiescent_OddInDxPlainIdeal (hOddInDxPlainIdeal := hOddInDxPlainIdeal)
    ∧ quiescent_OddInDw (hOddInDw := hOddInDw)
    ∧ quiescent_OddInDwIdeal (hOddInDwIdeal := hOddInDwIdeal)
    ∧ quiescent_OddInDwPlainIdeal (hOddInDwPlainIdeal := hOddInDwPlainIdeal)
    ∧ quiescent_OddOut (hOddOut := hOddOut)
    ∧ quiescent_OddOutIdeal (hOddOutIdeal := hOddOutIdeal)
    ∧ quiescent_OddOutPlainIdeal (hOddOutPlainIdeal := hOddOutPlainIdeal)
    ∧ quiescent_OddOutDx (hOddOutDx := hOddOutDx)
    ∧ quiescent_OddOutDxIdeal (hOddOutDxIdeal := hOddOutDxIdeal)
    ∧ quiescent_OddOutDxPlainIdeal (hOddOutDxPlainIdeal := hOddOutDxPlainIdeal)
    ∧ quiescent_OddOutDw (hOddOutDw := hOddOutDw)
    ∧ quiescent_OddOutDwIdeal (hOddOutDwIdeal := hOddOutDwIdeal)
    ∧ quiescent_OddOutDwPlainIdeal (hOddOutDwPlainIdeal := hOddOutDwPlainIdeal)
    ∧ quiescent_AdamNorms (hAdamNorms := hAdamNorms)
    ∧ quiescent_AdamNormsIdeal (hAdamNormsIdeal := hAdamNormsIdeal)
    ∧ quiescent_AdamNormsPlainIdeal (hAdamNormsPlainIdeal := hAdamNormsPlainIdeal)
    ∧ quiescent_AdamEvenIn (hAdamEvenIn := hAdamEvenIn)
    ∧ quiescent_AdamEvenInIdeal (hAdamEvenInIdeal := hAdamEvenInIdeal)
    ∧ quiescent_AdamEvenInPlainIdeal (hAdamEvenInPlainIdeal := hAdamEvenInPlainIdeal)
    ∧ quiescent_AdamEvenConv (hAdamEvenConv := hAdamEvenConv)
    ∧ quiescent_AdamEvenConvIdeal (hAdamEvenConvIdeal := hAdamEvenConvIdeal)
    ∧ quiescent_AdamEvenConvPlainIdeal (hAdamEvenConvPlainIdeal := hAdamEvenConvPlainIdeal)
    ∧ quiescent_AdamEvenBias (hAdamEvenBias := hAdamEvenBias)
    ∧ quiescent_AdamEvenBiasIdeal (hAdamEvenBiasIdeal := hAdamEvenBiasIdeal)
    ∧ quiescent_AdamEvenBiasPlainIdeal (hAdamEvenBiasPlainIdeal := hAdamEvenBiasPlainIdeal)
    ∧ quiescent_AdamEvenHeads (hAdamEvenHeads := hAdamEvenHeads)
    ∧ quiescent_AdamEvenHeadsIdeal (hAdamEvenHeadsIdeal := hAdamEvenHeadsIdeal)
    ∧ quiescent_AdamEvenHeadsPlainIdeal (hAdamEvenHeadsPlainIdeal := hAdamEvenHeadsPlainIdeal)
    ∧ quiescent_AdamEvenNorm (hAdamEvenNorm := hAdamEvenNorm)
    ∧ quiescent_AdamEvenNormIdeal (hAdamEvenNormIdeal := hAdamEvenNormIdeal)
    ∧ quiescent_AdamEvenNormPlainIdeal (hAdamEvenNormPlainIdeal := hAdamEvenNormPlainIdeal)
    ∧ quiescent_AdamEvenOut (hAdamEvenOut := hAdamEvenOut)
    ∧ quiescent_AdamEvenOutIdeal (hAdamEvenOutIdeal := hAdamEvenOutIdeal)
    ∧ quiescent_AdamEvenOutPlainIdeal (hAdamEvenOutPlainIdeal := hAdamEvenOutPlainIdeal)
    ∧ quiescent_AdamOddIn (hAdamOddIn := hAdamOddIn)
    ∧ quiescent_AdamOddInIdeal (hAdamOddInIdeal := hAdamOddInIdeal)
    ∧ quiescent_AdamOddInPlainIdeal (hAdamOddInPlainIdeal := hAdamOddInPlainIdeal)
    ∧ quiescent_AdamOddConv (hAdamOddConv := hAdamOddConv)
    ∧ quiescent_AdamOddConvIdeal (hAdamOddConvIdeal := hAdamOddConvIdeal)
    ∧ quiescent_AdamOddConvPlainIdeal (hAdamOddConvPlainIdeal := hAdamOddConvPlainIdeal)
    ∧ quiescent_AdamOddRow (hAdamOddRow := hAdamOddRow)
    ∧ quiescent_AdamOddRowIdeal (hAdamOddRowIdeal := hAdamOddRowIdeal)
    ∧ quiescent_AdamOddRowPlainIdeal (hAdamOddRowPlainIdeal := hAdamOddRowPlainIdeal)
    ∧ quiescent_AdamOddPoles (hAdamOddPoles := hAdamOddPoles)
    ∧ quiescent_AdamOddPolesIdeal (hAdamOddPolesIdeal := hAdamOddPolesIdeal)
    ∧ quiescent_AdamOddPolesPlainIdeal (hAdamOddPolesPlainIdeal := hAdamOddPolesPlainIdeal)
    ∧ quiescent_AdamOddInputs (hAdamOddInputs := hAdamOddInputs)
    ∧ quiescent_AdamOddInputsIdeal (hAdamOddInputsIdeal := hAdamOddInputsIdeal)
    ∧ quiescent_AdamOddInputsPlainIdeal (hAdamOddInputsPlainIdeal := hAdamOddInputsPlainIdeal)
    ∧ quiescent_AdamOddOutputs (hAdamOddOutputs := hAdamOddOutputs)
    ∧ quiescent_AdamOddOutputsIdeal (hAdamOddOutputsIdeal := hAdamOddOutputsIdeal)
    ∧ quiescent_AdamOddOutputsPlainIdeal (hAdamOddOutputsPlainIdeal := hAdamOddOutputsPlainIdeal)
    ∧ quiescent_AdamOddSteps (hAdamOddSteps := hAdamOddSteps)
    ∧ quiescent_AdamOddStepsIdeal (hAdamOddStepsIdeal := hAdamOddStepsIdeal)
    ∧ quiescent_AdamOddStepsPlainIdeal (hAdamOddStepsPlainIdeal := hAdamOddStepsPlainIdeal)
    ∧ quiescent_AdamOddGate (hAdamOddGate := hAdamOddGate)
    ∧ quiescent_AdamOddGateIdeal (hAdamOddGateIdeal := hAdamOddGateIdeal)
    ∧ quiescent_AdamOddGatePlainIdeal (hAdamOddGatePlainIdeal := hAdamOddGatePlainIdeal)
    ∧ quiescent_AdamOddOut (hAdamOddOut := hAdamOddOut)
    ∧ quiescent_AdamOddOutIdeal (hAdamOddOutIdeal := hAdamOddOutIdeal)
    ∧ quiescent_AdamOddOutPlainIdeal (hAdamOddOutPlainIdeal := hAdamOddOutPlainIdeal)
    ∧ quiescent_AdamUp (hAdamUp := hAdamUp)
    ∧ quiescent_AdamUpIdeal (hAdamUpIdeal := hAdamUpIdeal)
    ∧ quiescent_AdamUpPlainIdeal (hAdamUpPlainIdeal := hAdamUpPlainIdeal)
    ∧ quiescent_AdamConv (hAdamConv := hAdamConv)
    ∧ quiescent_AdamConvIdeal (hAdamConvIdeal := hAdamConvIdeal)
    ∧ quiescent_AdamConvPlainIdeal (hAdamConvPlainIdeal := hAdamConvPlainIdeal)
    ∧ quiescent_AdamBias (hAdamBias := hAdamBias)
    ∧ quiescent_AdamBiasIdeal (hAdamBiasIdeal := hAdamBiasIdeal)
    ∧ quiescent_AdamBiasPlainIdeal (hAdamBiasPlainIdeal := hAdamBiasPlainIdeal)
    ∧ quiescent_AdamDown (hAdamDown := hAdamDown)
    ∧ quiescent_AdamDownIdeal (hAdamDownIdeal := hAdamDownIdeal)
    ∧ quiescent_AdamDownPlainIdeal (hAdamDownPlainIdeal := hAdamDownPlainIdeal)
    ∧ quiescent_AdamFinal (hAdamFinal := hAdamFinal)
    ∧ quiescent_AdamFinalIdeal (hAdamFinalIdeal := hAdamFinalIdeal)
    ∧ quiescent_AdamFinalPlainIdeal (hAdamFinalPlainIdeal := hAdamFinalPlainIdeal)
    ∧ quiescent_Norm (hNorm := hNorm)
    ∧ quiescent_NormIdeal (hNormIdeal := hNormIdeal)
    ∧ quiescent_NormPlainIdeal (hNormPlainIdeal := hNormPlainIdeal)
    ∧ quiescent_NormBwd (hNormBwd := hNormBwd)
    ∧ quiescent_NormBwdIdeal (hNormBwdIdeal := hNormBwdIdeal)
    ∧ quiescent_NormBwdPlainIdeal (hNormBwdPlainIdeal := hNormBwdPlainIdeal)
    ∧ quiescent_LossHead (hLossHead := hLossHead)
    ∧ quiescent_LossHeadIdeal (hLossHeadIdeal := hLossHeadIdeal)
    ∧ quiescent_LossHeadPlainIdeal (hLossHeadPlainIdeal := hLossHeadPlainIdeal)
    ∧ quiescent_EvenDt (hEvenDt := hEvenDt)
    ∧ quiescent_EvenDtIdeal (hEvenDtIdeal := hEvenDtIdeal)
    ∧ quiescent_EvenDtPlainIdeal (hEvenDtPlainIdeal := hEvenDtPlainIdeal)
    ∧ quiescent_Glu (hGlu := hGlu)
    ∧ quiescent_GluIdeal (hGluIdeal := hGluIdeal)
    ∧ quiescent_GluPlainIdeal (hGluPlainIdeal := hGluPlainIdeal)
    ∧ quiescent_GluBwd (hGluBwd := hGluBwd)
    ∧ quiescent_GluBwdIdeal (hGluBwdIdeal := hGluBwdIdeal)
    ∧ quiescent_GluBwdPlainIdeal (hGluBwdPlainIdeal := hGluBwdPlainIdeal)
    ∧ quiescent_Ln (hLn := hLn)
    ∧ quiescent_LnIdeal (hLnIdeal := hLnIdeal)
    ∧ quiescent_LnPlainIdeal (hLnPlainIdeal := hLnPlainIdeal)
    ∧ quiescent_LnBwd (hLnBwd := hLnBwd)
    ∧ quiescent_LnBwdIdeal (hLnBwdIdeal := hLnBwdIdeal)
    ∧ quiescent_LnBwdPlainIdeal (hLnBwdPlainIdeal := hLnBwdPlainIdeal)
    ∧ quiescent_S5In (hS5In := hS5In)
    ∧ quiescent_S5InIdeal (hS5InIdeal := hS5InIdeal)
    ∧ quiescent_S5InPlainIdeal (hS5InPlainIdeal := hS5InPlainIdeal)
    ∧ quiescent_S5InDx (hS5InDx := hS5InDx)
    ∧ quiescent_S5InDxIdeal (hS5InDxIdeal := hS5InDxIdeal)
    ∧ quiescent_S5InDxPlainIdeal (hS5InDxPlainIdeal := hS5InDxPlainIdeal)
    ∧ quiescent_S5InDw (hS5InDw := hS5InDw)
    ∧ quiescent_S5InDwIdeal (hS5InDwIdeal := hS5InDwIdeal)
    ∧ quiescent_S5InDwPlainIdeal (hS5InDwPlainIdeal := hS5InDwPlainIdeal)
    ∧ quiescent_S5Out (hS5Out := hS5Out)
    ∧ quiescent_S5OutIdeal (hS5OutIdeal := hS5OutIdeal)
    ∧ quiescent_S5OutPlainIdeal (hS5OutPlainIdeal := hS5OutPlainIdeal)
    ∧ quiescent_S5Post (hS5Post := hS5Post)
    ∧ quiescent_S5PostIdeal (hS5PostIdeal := hS5PostIdeal)
    ∧ quiescent_S5PostPlainIdeal (hS5PostPlainIdeal := hS5PostPlainIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpPlainIdeal (hUpIdeal := hUpIdeal) (hUpPlainIdeal := hUpPlainIdeal)
    ∧ preserves_UpDx_UpDxIdeal
    ∧ algebraic_UpDxIdeal_UpDxPlainIdeal (hUpDxIdeal := hUpDxIdeal) (hUpDxPlainIdeal := hUpDxPlainIdeal)
    ∧ preserves_UpDw_UpDwIdeal
    ∧ algebraic_UpDwIdeal_UpDwPlainIdeal (hUpDwIdeal := hUpDwIdeal) (hUpDwPlainIdeal := hUpDwPlainIdeal)
    ∧ preserves_Down_DownIdeal
    ∧ algebraic_DownIdeal_DownPlainIdeal (hDownIdeal := hDownIdeal) (hDownPlainIdeal := hDownPlainIdeal)
    ∧ preserves_DownDx_DownDxIdeal
    ∧ algebraic_DownDxIdeal_DownDxPlainIdeal (hDownDxIdeal := hDownDxIdeal) (hDownDxPlainIdeal := hDownDxPlainIdeal)
    ∧ preserves_DownDw_DownDwIdeal
    ∧ algebraic_DownDwIdeal_DownDwPlainIdeal (hDownDwIdeal := hDownDwIdeal) (hDownDwPlainIdeal := hDownDwPlainIdeal)
    ∧ preserves_EvenIn_EvenInIdeal
    ∧ algebraic_EvenInIdeal_EvenInPlainIdeal (hEvenInIdeal := hEvenInIdeal) (hEvenInPlainIdeal := hEvenInPlainIdeal)
    ∧ preserves_EvenInDx_EvenInDxIdeal
    ∧ algebraic_EvenInDxIdeal_EvenInDxPlainIdeal (hEvenInDxIdeal := hEvenInDxIdeal) (hEvenInDxPlainIdeal := hEvenInDxPlainIdeal)
    ∧ preserves_EvenInDw_EvenInDwIdeal
    ∧ algebraic_EvenInDwIdeal_EvenInDwPlainIdeal (hEvenInDwIdeal := hEvenInDwIdeal) (hEvenInDwPlainIdeal := hEvenInDwPlainIdeal)
    ∧ preserves_EvenOut_EvenOutIdeal
    ∧ algebraic_EvenOutIdeal_EvenOutPlainIdeal (hEvenOutIdeal := hEvenOutIdeal) (hEvenOutPlainIdeal := hEvenOutPlainIdeal)
    ∧ preserves_EvenOutDx_EvenOutDxIdeal
    ∧ algebraic_EvenOutDxIdeal_EvenOutDxPlainIdeal (hEvenOutDxIdeal := hEvenOutDxIdeal) (hEvenOutDxPlainIdeal := hEvenOutDxPlainIdeal)
    ∧ preserves_EvenOutDw_EvenOutDwIdeal
    ∧ algebraic_EvenOutDwIdeal_EvenOutDwPlainIdeal (hEvenOutDwIdeal := hEvenOutDwIdeal) (hEvenOutDwPlainIdeal := hEvenOutDwPlainIdeal)
    ∧ preserves_OddIn_OddInIdeal
    ∧ algebraic_OddInIdeal_OddInPlainIdeal (hOddInIdeal := hOddInIdeal) (hOddInPlainIdeal := hOddInPlainIdeal)
    ∧ preserves_OddInDx_OddInDxIdeal
    ∧ algebraic_OddInDxIdeal_OddInDxPlainIdeal (hOddInDxIdeal := hOddInDxIdeal) (hOddInDxPlainIdeal := hOddInDxPlainIdeal)
    ∧ preserves_OddInDw_OddInDwIdeal
    ∧ algebraic_OddInDwIdeal_OddInDwPlainIdeal (hOddInDwIdeal := hOddInDwIdeal) (hOddInDwPlainIdeal := hOddInDwPlainIdeal)
    ∧ preserves_OddOut_OddOutIdeal
    ∧ algebraic_OddOutIdeal_OddOutPlainIdeal (hOddOutIdeal := hOddOutIdeal) (hOddOutPlainIdeal := hOddOutPlainIdeal)
    ∧ preserves_OddOutDx_OddOutDxIdeal
    ∧ algebraic_OddOutDxIdeal_OddOutDxPlainIdeal (hOddOutDxIdeal := hOddOutDxIdeal) (hOddOutDxPlainIdeal := hOddOutDxPlainIdeal)
    ∧ preserves_OddOutDw_OddOutDwIdeal
    ∧ algebraic_OddOutDwIdeal_OddOutDwPlainIdeal (hOddOutDwIdeal := hOddOutDwIdeal) (hOddOutDwPlainIdeal := hOddOutDwPlainIdeal)
    ∧ preserves_AdamNorms_AdamNormsIdeal
    ∧ algebraic_AdamNormsIdeal_AdamNormsPlainIdeal (hAdamNormsIdeal := hAdamNormsIdeal) (hAdamNormsPlainIdeal := hAdamNormsPlainIdeal)
    ∧ preserves_AdamEvenIn_AdamEvenInIdeal
    ∧ algebraic_AdamEvenInIdeal_AdamEvenInPlainIdeal (hAdamEvenInIdeal := hAdamEvenInIdeal) (hAdamEvenInPlainIdeal := hAdamEvenInPlainIdeal)
    ∧ preserves_AdamEvenConv_AdamEvenConvIdeal
    ∧ algebraic_AdamEvenConvIdeal_AdamEvenConvPlainIdeal (hAdamEvenConvIdeal := hAdamEvenConvIdeal) (hAdamEvenConvPlainIdeal := hAdamEvenConvPlainIdeal)
    ∧ preserves_AdamEvenBias_AdamEvenBiasIdeal
    ∧ algebraic_AdamEvenBiasIdeal_AdamEvenBiasPlainIdeal (hAdamEvenBiasIdeal := hAdamEvenBiasIdeal) (hAdamEvenBiasPlainIdeal := hAdamEvenBiasPlainIdeal)
    ∧ preserves_AdamEvenHeads_AdamEvenHeadsIdeal
    ∧ algebraic_AdamEvenHeadsIdeal_AdamEvenHeadsPlainIdeal (hAdamEvenHeadsIdeal := hAdamEvenHeadsIdeal) (hAdamEvenHeadsPlainIdeal := hAdamEvenHeadsPlainIdeal)
    ∧ preserves_AdamEvenNorm_AdamEvenNormIdeal
    ∧ algebraic_AdamEvenNormIdeal_AdamEvenNormPlainIdeal (hAdamEvenNormIdeal := hAdamEvenNormIdeal) (hAdamEvenNormPlainIdeal := hAdamEvenNormPlainIdeal)
    ∧ preserves_AdamEvenOut_AdamEvenOutIdeal
    ∧ algebraic_AdamEvenOutIdeal_AdamEvenOutPlainIdeal (hAdamEvenOutIdeal := hAdamEvenOutIdeal) (hAdamEvenOutPlainIdeal := hAdamEvenOutPlainIdeal)
    ∧ preserves_AdamOddIn_AdamOddInIdeal
    ∧ algebraic_AdamOddInIdeal_AdamOddInPlainIdeal (hAdamOddInIdeal := hAdamOddInIdeal) (hAdamOddInPlainIdeal := hAdamOddInPlainIdeal)
    ∧ preserves_AdamOddConv_AdamOddConvIdeal
    ∧ algebraic_AdamOddConvIdeal_AdamOddConvPlainIdeal (hAdamOddConvIdeal := hAdamOddConvIdeal) (hAdamOddConvPlainIdeal := hAdamOddConvPlainIdeal)
    ∧ preserves_AdamOddRow_AdamOddRowIdeal
    ∧ algebraic_AdamOddRowIdeal_AdamOddRowPlainIdeal (hAdamOddRowIdeal := hAdamOddRowIdeal) (hAdamOddRowPlainIdeal := hAdamOddRowPlainIdeal)
    ∧ preserves_AdamOddPoles_AdamOddPolesIdeal
    ∧ algebraic_AdamOddPolesIdeal_AdamOddPolesPlainIdeal (hAdamOddPolesIdeal := hAdamOddPolesIdeal) (hAdamOddPolesPlainIdeal := hAdamOddPolesPlainIdeal)
    ∧ preserves_AdamOddInputs_AdamOddInputsIdeal
    ∧ algebraic_AdamOddInputsIdeal_AdamOddInputsPlainIdeal (hAdamOddInputsIdeal := hAdamOddInputsIdeal) (hAdamOddInputsPlainIdeal := hAdamOddInputsPlainIdeal)
    ∧ preserves_AdamOddOutputs_AdamOddOutputsIdeal
    ∧ algebraic_AdamOddOutputsIdeal_AdamOddOutputsPlainIdeal (hAdamOddOutputsIdeal := hAdamOddOutputsIdeal) (hAdamOddOutputsPlainIdeal := hAdamOddOutputsPlainIdeal)
    ∧ preserves_AdamOddSteps_AdamOddStepsIdeal
    ∧ algebraic_AdamOddStepsIdeal_AdamOddStepsPlainIdeal (hAdamOddStepsIdeal := hAdamOddStepsIdeal) (hAdamOddStepsPlainIdeal := hAdamOddStepsPlainIdeal)
    ∧ preserves_AdamOddGate_AdamOddGateIdeal
    ∧ algebraic_AdamOddGateIdeal_AdamOddGatePlainIdeal (hAdamOddGateIdeal := hAdamOddGateIdeal) (hAdamOddGatePlainIdeal := hAdamOddGatePlainIdeal)
    ∧ preserves_AdamOddOut_AdamOddOutIdeal
    ∧ algebraic_AdamOddOutIdeal_AdamOddOutPlainIdeal (hAdamOddOutIdeal := hAdamOddOutIdeal) (hAdamOddOutPlainIdeal := hAdamOddOutPlainIdeal)
    ∧ preserves_AdamUp_AdamUpIdeal
    ∧ algebraic_AdamUpIdeal_AdamUpPlainIdeal (hAdamUpIdeal := hAdamUpIdeal) (hAdamUpPlainIdeal := hAdamUpPlainIdeal)
    ∧ preserves_AdamConv_AdamConvIdeal
    ∧ algebraic_AdamConvIdeal_AdamConvPlainIdeal (hAdamConvIdeal := hAdamConvIdeal) (hAdamConvPlainIdeal := hAdamConvPlainIdeal)
    ∧ preserves_AdamBias_AdamBiasIdeal
    ∧ algebraic_AdamBiasIdeal_AdamBiasPlainIdeal (hAdamBiasIdeal := hAdamBiasIdeal) (hAdamBiasPlainIdeal := hAdamBiasPlainIdeal)
    ∧ preserves_AdamDown_AdamDownIdeal
    ∧ algebraic_AdamDownIdeal_AdamDownPlainIdeal (hAdamDownIdeal := hAdamDownIdeal) (hAdamDownPlainIdeal := hAdamDownPlainIdeal)
    ∧ preserves_AdamFinal_AdamFinalIdeal
    ∧ algebraic_AdamFinalIdeal_AdamFinalPlainIdeal (hAdamFinalIdeal := hAdamFinalIdeal) (hAdamFinalPlainIdeal := hAdamFinalPlainIdeal)
    ∧ preserves_Norm_NormIdeal
    ∧ algebraic_NormIdeal_NormPlainIdeal (hNormIdeal := hNormIdeal) (hNormPlainIdeal := hNormPlainIdeal)
    ∧ preserves_NormBwd_NormBwdIdeal
    ∧ algebraic_NormBwdIdeal_NormBwdPlainIdeal (hNormBwdIdeal := hNormBwdIdeal) (hNormBwdPlainIdeal := hNormBwdPlainIdeal)
    ∧ preserves_LossHead_LossHeadIdeal
    ∧ algebraic_LossHeadIdeal_LossHeadPlainIdeal (hLossHeadIdeal := hLossHeadIdeal) (hLossHeadPlainIdeal := hLossHeadPlainIdeal)
    ∧ preserves_EvenDt_EvenDtIdeal
    ∧ algebraic_EvenDtIdeal_EvenDtPlainIdeal (hEvenDtIdeal := hEvenDtIdeal) (hEvenDtPlainIdeal := hEvenDtPlainIdeal)
    ∧ preserves_Glu_GluIdeal
    ∧ algebraic_GluIdeal_GluPlainIdeal (hGluIdeal := hGluIdeal) (hGluPlainIdeal := hGluPlainIdeal)
    ∧ preserves_GluBwd_GluBwdIdeal
    ∧ algebraic_GluBwdIdeal_GluBwdPlainIdeal (hGluBwdIdeal := hGluBwdIdeal) (hGluBwdPlainIdeal := hGluBwdPlainIdeal)
    ∧ preserves_Ln_LnIdeal
    ∧ algebraic_LnIdeal_LnPlainIdeal (hLnIdeal := hLnIdeal) (hLnPlainIdeal := hLnPlainIdeal)
    ∧ preserves_LnBwd_LnBwdIdeal
    ∧ algebraic_LnBwdIdeal_LnBwdPlainIdeal (hLnBwdIdeal := hLnBwdIdeal) (hLnBwdPlainIdeal := hLnBwdPlainIdeal)
    ∧ preserves_S5In_S5InIdeal
    ∧ algebraic_S5InIdeal_S5InPlainIdeal (hS5InIdeal := hS5InIdeal) (hS5InPlainIdeal := hS5InPlainIdeal)
    ∧ preserves_S5InDx_S5InDxIdeal
    ∧ algebraic_S5InDxIdeal_S5InDxPlainIdeal (hS5InDxIdeal := hS5InDxIdeal) (hS5InDxPlainIdeal := hS5InDxPlainIdeal)
    ∧ preserves_S5InDw_S5InDwIdeal
    ∧ algebraic_S5InDwIdeal_S5InDwPlainIdeal (hS5InDwIdeal := hS5InDwIdeal) (hS5InDwPlainIdeal := hS5InDwPlainIdeal)
    ∧ preserves_S5Out_S5OutIdeal
    ∧ algebraic_S5OutIdeal_S5OutPlainIdeal (hS5OutIdeal := hS5OutIdeal) (hS5OutPlainIdeal := hS5OutPlainIdeal)
    ∧ preserves_S5Post_S5PostIdeal
    ∧ algebraic_S5PostIdeal_S5PostPlainIdeal (hS5PostIdeal := hS5PostIdeal) (hS5PostPlainIdeal := hS5PostPlainIdeal)
-- ==== Kernel.lean ====
abbrev S4096x5760 : Shape := ⟨2, ![4096, 5760]⟩
abbrev S4096x2048 : Shape := ⟨2, ![4096, 2048]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x5760 : Shape := ⟨3, ![1, 4096, 5760]⟩
abbrev S1x4096x512 : Shape := ⟨3, ![1, 4096, 512]⟩
abbrev S1x4096x1024 : Shape := ⟨3, ![1, 4096, 1024]⟩
abbrev S1x4096x4x128 : Shape := ⟨4, ![1, 4096, 4, 128]⟩
abbrev S1x4096x1x64 : Shape := ⟨4, ![1, 4096, 1, 64]⟩
abbrev S1x4096x4x64 : Shape := ⟨4, ![1, 4096, 4, 64]⟩
abbrev S1x4096x4x256 : Shape := ⟨4, ![1, 4096, 4, 256]⟩
abbrev S4 : Shape := ⟨1, ![4]⟩
abbrev S128 : Shape := ⟨1, ![128]⟩
abbrev S1x32x128x4x128 : Shape := ⟨5, ![1, 32, 128, 4, 128]⟩
abbrev S1x32x128x4x256 : Shape := ⟨5, ![1, 32, 128, 4, 256]⟩
abbrev S128x1 : Shape := ⟨2, ![128, 1]⟩
abbrev S1x4 : Shape := ⟨2, ![1, 4]⟩
abbrev S128x4 : Shape := ⟨2, ![128, 4]⟩
abbrev S1x1x128x4x1 : Shape := ⟨5, ![1, 1, 128, 4, 1]⟩
abbrev S1x32x4x128x256 : Shape := ⟨5, ![1, 32, 4, 128, 256]⟩
abbrev S1x4x1x1 : Shape := ⟨4, ![1, 4, 1, 1]⟩
abbrev S1x1x4x128x256 : Shape := ⟨5, ![1, 1, 4, 128, 256]⟩
abbrev S1x4x128x256 : Shape := ⟨4, ![1, 4, 128, 256]⟩
abbrev S32x1x4x128x256 : Shape := ⟨5, ![32, 1, 4, 128, 256]⟩
abbrev S0x1x4x128x256 : Shape := ⟨5, ![0, 1, 4, 128, 256]⟩
abbrev S16x1x4x128x256 : Shape := ⟨5, ![16, 1, 4, 128, 256]⟩
abbrev S32x4x128x256 : Shape := ⟨4, ![32, 4, 128, 256]⟩
abbrev S4x32x128x256 : Shape := ⟨4, ![4, 32, 128, 256]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x256 : Shape := ⟨3, ![4, 128, 256]⟩
abbrev S4096x512 : Shape := ⟨2, ![4096, 512]⟩
abbrev S4096x1024 : Shape := ⟨2, ![4096, 1024]⟩
abbrev S128x512 : Shape := ⟨2, ![128, 512]⟩
abbrev S128x1024 : Shape := ⟨2, ![128, 1024]⟩
abbrev S4x1x128x256 : Shape := ⟨4, ![4, 1, 128, 256]⟩
abbrev S1x128x256 : Shape := ⟨3, ![1, 128, 256]⟩
abbrev S128x256 : Shape := ⟨2, ![128, 256]⟩
abbrev S1x1x128x256 : Shape := ⟨4, ![1, 1, 128, 256]⟩
abbrev S256x128 : Shape := ⟨2, ![256, 128]⟩

abbrev nBuf : Space → Nat
  | .hbm => 371
  | .vmem => 28
  | .smem => 0
  | _ => 0

abbrev hbmTy0_0 (i : Nat) : BufTy := match i % 128 with
  | 0 => ⟨S4096x5760, .bf16⟩
  | 1 => ⟨S4096x2048, .bf16⟩
  | 2 => ⟨S64, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S4096, .i32⟩
  | 17 => ⟨S4096, .f32⟩
  | 18 => ⟨S4096x1, .f32⟩
  | 19 => ⟨S1x64, .f32⟩
  | 20 => ⟨S4096x64, .f32⟩
  | 21 => ⟨S4096x64, .f32⟩
  | 22 => ⟨S4096x64, .f32⟩
  | 23 => ⟨S4096x64, .f32⟩
  | 24 => ⟨S4096x64, .f32⟩
  | 25 => ⟨S4096x128, .f32⟩
  | 26 => ⟨S4096x64, .f32⟩
  | 27 => ⟨S4096x128, .f32⟩
  | 28 => ⟨S4096x5760, .f32⟩
  | 29 => ⟨S1x4096x5760, .f32⟩
  | 30 => ⟨S1x4096x512, .f32⟩
  | 31 => ⟨S1x4096x1024, .f32⟩
  | 32 => ⟨S1x4096x4x128, .f32⟩
  | 33 => ⟨S4096, .i32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S4096, .f32⟩
  | 49 => ⟨S4096x1, .f32⟩
  | 50 => ⟨S1x64, .f32⟩
  | 51 => ⟨S4096x64, .f32⟩
  | 52 => ⟨S4096x64, .f32⟩
  | 53 => ⟨S4096x64, .f32⟩
  | 54 => ⟨S4096x64, .f32⟩
  | 55 => ⟨S1x4096x1x64, .f32⟩
  | 56 => ⟨S4096x64, .f32⟩
  | 57 => ⟨S1x4096x1x64, .f32⟩
  | 58 => ⟨S1x4096x4x64, .f32⟩
  | 59 => ⟨S1x4096x4x64, .f32⟩
  | 60 => ⟨S1x4096x4x64, .f32⟩
  | 61 => ⟨S1x4096x4x64, .f32⟩
  | 62 => ⟨S1x4096x4x64, .f32⟩
  | 63 => ⟨S1x4096x4x64, .f32⟩
  | 64 => ⟨S1x4096x4x64, .f32⟩
  | 65 => ⟨S1x4096x4x64, .f32⟩
  | 66 => ⟨S1x4096x4x64, .f32⟩
  | 67 => ⟨S1x4096x4x64, .f32⟩
  | 68 => ⟨S1x4096x4x64, .f32⟩
  | 69 => ⟨S1x4096x4x64, .f32⟩
  | 70 => ⟨S1x4096x4x128, .f32⟩
  | 71 => ⟨S1x4096x4x256, .f32⟩
  | 72 => ⟨S4, .f32⟩
  | 73 => ⟨S_, .f32⟩
  | 74 => ⟨S4, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S128, .f32⟩
  | 82 => ⟨S1x32x128x4x128, .f32⟩
  | 83 => ⟨S_, .f32⟩
  | 84 => ⟨S1x32x128x4x128, .f32⟩
  | 85 => ⟨S1x32x128x4x128, .f32⟩
  | 86 => ⟨S1x32x128x4x256, .f32⟩
  | 87 => ⟨S_, .f32⟩
  | 88 => ⟨S128, .f32⟩
  | 89 => ⟨S128, .f32⟩
  | 90 => ⟨S128x1, .f32⟩
  | 91 => ⟨S1x4, .f32⟩
  | 92 => ⟨S128x4, .f32⟩
  | 93 => ⟨S128x4, .f32⟩
  | 94 => ⟨S128x4, .f32⟩
  | 95 => ⟨S128x4, .f32⟩
  | 96 => ⟨S1x1x128x4x1, .f32⟩
  | 97 => ⟨S1x32x128x4x128, .f32⟩
  | 98 => ⟨S1x32x128x4x128, .f32⟩
  | 99 => ⟨S1x32x4x128x256, .f32⟩
  | 100 => ⟨S_, .f32⟩
  | 101 => ⟨S4, .f32⟩
  | 102 => ⟨S4, .f32⟩
  | 103 => ⟨S4, .f32⟩
  | 104 => ⟨S1x4x1x1, .f32⟩
  | 105 => ⟨S1x1x4x128x256, .f32⟩
  | 106 => ⟨S1x4x128x256, .f32⟩
  | 107 => ⟨S_, .f32⟩
  | 108 => ⟨S1x4x128x256, .f32⟩
  | 109 => ⟨S32x1x4x128x256, .f32⟩
  | 110 => ⟨S0x1x4x128x256, .f32⟩
  | 111 => ⟨S32x1x4x128x256, .f32⟩
  | 112 => ⟨S_, .f32⟩
  | 113 => ⟨S0x1x4x128x256, .f32⟩
  | 114 => ⟨S1x1x4x128x256, .f32⟩
  | 115 => ⟨S1x4x128x256, .f32⟩
  | 116 => ⟨S1x4x128x256, .f32⟩
  | 117 => ⟨S1x4x128x256, .f32⟩
  | 118 => ⟨S1x4x128x256, .f32⟩
  | 119 => ⟨S1x1x4x128x256, .f32⟩
  | 120 => ⟨S1x4x128x256, .f32⟩
  | 121 => ⟨S1x4x128x256, .f32⟩
  | 122 => ⟨S1x4x128x256, .f32⟩
  | 123 => ⟨S1x4x128x256, .f32⟩
  | 124 => ⟨S1x1x4x128x256, .f32⟩
  | 125 => ⟨S1x4x128x256, .f32⟩
  | 126 => ⟨S1x4x128x256, .f32⟩
  | 127 => ⟨S1x4x128x256, .f32⟩
  | _ => ⟨S4096x5760, .bf16⟩

abbrev hbmTy0_1 (i : Nat) : BufTy := match i % 128 with
  | 0 => ⟨S1x4x128x256, .f32⟩
  | 1 => ⟨S1x1x4x128x256, .f32⟩
  | 2 => ⟨S1x4x128x256, .f32⟩
  | 3 => ⟨S1x4x128x256, .f32⟩
  | 4 => ⟨S1x4x128x256, .f32⟩
  | 5 => ⟨S1x4x128x256, .f32⟩
  | 6 => ⟨S1x1x4x128x256, .f32⟩
  | 7 => ⟨S1x4x128x256, .f32⟩
  | 8 => ⟨S1x4x128x256, .f32⟩
  | 9 => ⟨S1x4x128x256, .f32⟩
  | 10 => ⟨S1x4x128x256, .f32⟩
  | 11 => ⟨S1x1x4x128x256, .f32⟩
  | 12 => ⟨S1x4x128x256, .f32⟩
  | 13 => ⟨S1x4x128x256, .f32⟩
  | 14 => ⟨S1x4x128x256, .f32⟩
  | 15 => ⟨S1x4x128x256, .f32⟩
  | 16 => ⟨S1x1x4x128x256, .f32⟩
  | 17 => ⟨S1x4x128x256, .f32⟩
  | 18 => ⟨S1x4x128x256, .f32⟩
  | 19 => ⟨S1x4x128x256, .f32⟩
  | 20 => ⟨S1x4x128x256, .f32⟩
  | 21 => ⟨S1x1x4x128x256, .f32⟩
  | 22 => ⟨S1x4x128x256, .f32⟩
  | 23 => ⟨S1x4x128x256, .f32⟩
  | 24 => ⟨S1x4x128x256, .f32⟩
  | 25 => ⟨S1x4x128x256, .f32⟩
  | 26 => ⟨S1x1x4x128x256, .f32⟩
  | 27 => ⟨S1x4x128x256, .f32⟩
  | 28 => ⟨S1x4x128x256, .f32⟩
  | 29 => ⟨S1x4x128x256, .f32⟩
  | 30 => ⟨S1x4x128x256, .f32⟩
  | 31 => ⟨S1x1x4x128x256, .f32⟩
  | 32 => ⟨S1x4x128x256, .f32⟩
  | 33 => ⟨S1x4x128x256, .f32⟩
  | 34 => ⟨S1x4x128x256, .f32⟩
  | 35 => ⟨S1x4x128x256, .f32⟩
  | 36 => ⟨S1x1x4x128x256, .f32⟩
  | 37 => ⟨S1x4x128x256, .f32⟩
  | 38 => ⟨S1x4x128x256, .f32⟩
  | 39 => ⟨S1x4x128x256, .f32⟩
  | 40 => ⟨S1x4x128x256, .f32⟩
  | 41 => ⟨S1x1x4x128x256, .f32⟩
  | 42 => ⟨S1x4x128x256, .f32⟩
  | 43 => ⟨S1x4x128x256, .f32⟩
  | 44 => ⟨S1x4x128x256, .f32⟩
  | 45 => ⟨S1x4x128x256, .f32⟩
  | 46 => ⟨S1x1x4x128x256, .f32⟩
  | 47 => ⟨S1x4x128x256, .f32⟩
  | 48 => ⟨S1x4x128x256, .f32⟩
  | 49 => ⟨S1x4x128x256, .f32⟩
  | 50 => ⟨S1x4x128x256, .f32⟩
  | 51 => ⟨S1x1x4x128x256, .f32⟩
  | 52 => ⟨S1x4x128x256, .f32⟩
  | 53 => ⟨S1x4x128x256, .f32⟩
  | 54 => ⟨S1x4x128x256, .f32⟩
  | 55 => ⟨S1x4x128x256, .f32⟩
  | 56 => ⟨S1x1x4x128x256, .f32⟩
  | 57 => ⟨S1x4x128x256, .f32⟩
  | 58 => ⟨S1x4x128x256, .f32⟩
  | 59 => ⟨S1x4x128x256, .f32⟩
  | 60 => ⟨S1x4x128x256, .f32⟩
  | 61 => ⟨S1x1x4x128x256, .f32⟩
  | 62 => ⟨S1x4x128x256, .f32⟩
  | 63 => ⟨S1x4x128x256, .f32⟩
  | 64 => ⟨S1x4x128x256, .f32⟩
  | 65 => ⟨S1x4x128x256, .f32⟩
  | 66 => ⟨S1x1x4x128x256, .f32⟩
  | 67 => ⟨S1x4x128x256, .f32⟩
  | 68 => ⟨S1x4x128x256, .f32⟩
  | 69 => ⟨S1x4x128x256, .f32⟩
  | 70 => ⟨S1x4x128x256, .f32⟩
  | 71 => ⟨S1x1x4x128x256, .f32⟩
  | 72 => ⟨S1x4x128x256, .f32⟩
  | 73 => ⟨S1x4x128x256, .f32⟩
  | 74 => ⟨S1x4x128x256, .f32⟩
  | 75 => ⟨S1x4x128x256, .f32⟩
  | 76 => ⟨S1x1x4x128x256, .f32⟩
  | 77 => ⟨S1x4x128x256, .f32⟩
  | 78 => ⟨S1x4x128x256, .f32⟩
  | 79 => ⟨S1x4x128x256, .f32⟩
  | 80 => ⟨S1x4x128x256, .f32⟩
  | 81 => ⟨S1x1x4x128x256, .f32⟩
  | 82 => ⟨S1x4x128x256, .f32⟩
  | 83 => ⟨S1x4x128x256, .f32⟩
  | 84 => ⟨S1x4x128x256, .f32⟩
  | 85 => ⟨S1x4x128x256, .f32⟩
  | 86 => ⟨S1x1x4x128x256, .f32⟩
  | 87 => ⟨S1x4x128x256, .f32⟩
  | 88 => ⟨S1x4x128x256, .f32⟩
  | 89 => ⟨S1x4x128x256, .f32⟩
  | 90 => ⟨S1x4x128x256, .f32⟩
  | 91 => ⟨S1x1x4x128x256, .f32⟩
  | 92 => ⟨S1x4x128x256, .f32⟩
  | 93 => ⟨S1x4x128x256, .f32⟩
  | 94 => ⟨S1x4x128x256, .f32⟩
  | 95 => ⟨S1x4x128x256, .f32⟩
  | 96 => ⟨S1x1x4x128x256, .f32⟩
  | 97 => ⟨S1x4x128x256, .f32⟩
  | 98 => ⟨S1x4x128x256, .f32⟩
  | 99 => ⟨S1x4x128x256, .f32⟩
  | 100 => ⟨S1x4x128x256, .f32⟩
  | 101 => ⟨S1x1x4x128x256, .f32⟩
  | 102 => ⟨S1x4x128x256, .f32⟩
  | 103 => ⟨S1x4x128x256, .f32⟩
  | 104 => ⟨S1x4x128x256, .f32⟩
  | 105 => ⟨S1x4x128x256, .f32⟩
  | 106 => ⟨S1x1x4x128x256, .f32⟩
  | 107 => ⟨S1x4x128x256, .f32⟩
  | 108 => ⟨S1x4x128x256, .f32⟩
  | 109 => ⟨S1x4x128x256, .f32⟩
  | 110 => ⟨S1x4x128x256, .f32⟩
  | 111 => ⟨S1x1x4x128x256, .f32⟩
  | 112 => ⟨S1x4x128x256, .f32⟩
  | 113 => ⟨S1x4x128x256, .f32⟩
  | 114 => ⟨S1x4x128x256, .f32⟩
  | 115 => ⟨S1x4x128x256, .f32⟩
  | 116 => ⟨S1x1x4x128x256, .f32⟩
  | 117 => ⟨S1x4x128x256, .f32⟩
  | 118 => ⟨S1x4x128x256, .f32⟩
  | 119 => ⟨S1x4x128x256, .f32⟩
  | 120 => ⟨S1x4x128x256, .f32⟩
  | 121 => ⟨S1x1x4x128x256, .f32⟩
  | 122 => ⟨S1x4x128x256, .f32⟩
  | 123 => ⟨S1x4x128x256, .f32⟩
  | 124 => ⟨S1x4x128x256, .f32⟩
  | 125 => ⟨S1x4x128x256, .f32⟩
  | 126 => ⟨S1x1x4x128x256, .f32⟩
  | 127 => ⟨S1x4x128x256, .f32⟩
  | _ => ⟨S4096x5760, .bf16⟩

abbrev hbmTy0_2 (i : Nat) : BufTy := match i % 128 with
  | 0 => ⟨S1x4x128x256, .f32⟩
  | 1 => ⟨S1x4x128x256, .f32⟩
  | 2 => ⟨S1x4x128x256, .f32⟩
  | 3 => ⟨S1x1x4x128x256, .f32⟩
  | 4 => ⟨S1x4x128x256, .f32⟩
  | 5 => ⟨S1x4x128x256, .f32⟩
  | 6 => ⟨S1x4x128x256, .f32⟩
  | 7 => ⟨S1x4x128x256, .f32⟩
  | 8 => ⟨S1x1x4x128x256, .f32⟩
  | 9 => ⟨S1x4x128x256, .f32⟩
  | 10 => ⟨S1x4x128x256, .f32⟩
  | 11 => ⟨S1x4x128x256, .f32⟩
  | 12 => ⟨S1x4x128x256, .f32⟩
  | 13 => ⟨S1x1x4x128x256, .f32⟩
  | 14 => ⟨S1x4x128x256, .f32⟩
  | 15 => ⟨S1x4x128x256, .f32⟩
  | 16 => ⟨S1x4x128x256, .f32⟩
  | 17 => ⟨S1x4x128x256, .f32⟩
  | 18 => ⟨S1x1x4x128x256, .f32⟩
  | 19 => ⟨S1x1x4x128x256, .f32⟩
  | 20 => ⟨S1x1x4x128x256, .f32⟩
  | 21 => ⟨S1x1x4x128x256, .f32⟩
  | 22 => ⟨S1x1x4x128x256, .f32⟩
  | 23 => ⟨S1x1x4x128x256, .f32⟩
  | 24 => ⟨S1x1x4x128x256, .f32⟩
  | 25 => ⟨S1x1x4x128x256, .f32⟩
  | 26 => ⟨S1x1x4x128x256, .f32⟩
  | 27 => ⟨S1x1x4x128x256, .f32⟩
  | 28 => ⟨S1x1x4x128x256, .f32⟩
  | 29 => ⟨S1x1x4x128x256, .f32⟩
  | 30 => ⟨S1x1x4x128x256, .f32⟩
  | 31 => ⟨S1x1x4x128x256, .f32⟩
  | 32 => ⟨S1x1x4x128x256, .f32⟩
  | 33 => ⟨S1x1x4x128x256, .f32⟩
  | 34 => ⟨S1x1x4x128x256, .f32⟩
  | 35 => ⟨S1x1x4x128x256, .f32⟩
  | 36 => ⟨S1x1x4x128x256, .f32⟩
  | 37 => ⟨S1x1x4x128x256, .f32⟩
  | 38 => ⟨S1x1x4x128x256, .f32⟩
  | 39 => ⟨S1x1x4x128x256, .f32⟩
  | 40 => ⟨S1x1x4x128x256, .f32⟩
  | 41 => ⟨S1x1x4x128x256, .f32⟩
  | 42 => ⟨S1x1x4x128x256, .f32⟩
  | 43 => ⟨S1x1x4x128x256, .f32⟩
  | 44 => ⟨S1x1x4x128x256, .f32⟩
  | 45 => ⟨S1x1x4x128x256, .f32⟩
  | 46 => ⟨S1x1x4x128x256, .f32⟩
  | 47 => ⟨S1x1x4x128x256, .f32⟩
  | 48 => ⟨S1x1x4x128x256, .f32⟩
  | 49 => ⟨S1x1x4x128x256, .f32⟩
  | 50 => ⟨S16x1x4x128x256, .f32⟩
  | 51 => ⟨S16x1x4x128x256, .f32⟩
  | 52 => ⟨S32x1x4x128x256, .f32⟩
  | 53 => ⟨S32x1x4x128x256, .f32⟩
  | 54 => ⟨S32x4x128x256, .f32⟩
  | 55 => ⟨S4x32x128x256, .f32⟩
  | 56 => ⟨S4, .f32⟩
  | 57 => ⟨S_, .f32⟩
  | 58 => ⟨S4, .f32⟩
  | 59 => ⟨S4, .f32⟩
  | 60 => ⟨S_, .f32⟩
  | 61 => ⟨S4, .f32⟩
  | 62 => ⟨S4, .f32⟩
  | 63 => ⟨S4, .f32⟩
  | 64 => ⟨S4, .f32⟩
  | 65 => ⟨S128, .f32⟩
  | 66 => ⟨S128x1, .f32⟩
  | 67 => ⟨S1x128, .f32⟩
  | 68 => ⟨S128x128, .f32⟩
  | 69 => ⟨S128x128, .f32⟩
  | 70 => ⟨S128x128, .f32⟩
  | 71 => ⟨S1x128x128, .f32⟩
  | 72 => ⟨S_, .f32⟩
  | 73 => ⟨S1x128x128, .f32⟩
  | 74 => ⟨S1x128x128, .i1⟩
  | 75 => ⟨S_, .f32⟩
  | 76 => ⟨S128x128, .f32⟩
  | 77 => ⟨S128x128, .f32⟩
  | 78 => ⟨S1x128x128, .f32⟩
  | 79 => ⟨S4x1x1, .f32⟩
  | 80 => ⟨S4x128x128, .f32⟩
  | 81 => ⟨S4x128x128, .f32⟩
  | 82 => ⟨S4x128x128, .f32⟩
  | 83 => ⟨S4x128x128, .f32⟩
  | 84 => ⟨S_, .f32⟩
  | 85 => ⟨S_, .f32⟩
  | 86 => ⟨S4x128x128, .i1⟩
  | 87 => ⟨S4x128x128, .f32⟩
  | 88 => ⟨S4x128x128, .f32⟩
  | 89 => ⟨S_, .f32⟩
  | 90 => ⟨S128, .f32⟩
  | 91 => ⟨S128, .f32⟩
  | 92 => ⟨S1x128, .f32⟩
  | 93 => ⟨S4x1, .f32⟩
  | 94 => ⟨S4x128, .f32⟩
  | 95 => ⟨S4x128, .f32⟩
  | 96 => ⟨S4x128, .f32⟩
  | 97 => ⟨S4x128, .f32⟩
  | 98 => ⟨S_, .f32⟩
  | 99 => ⟨S128, .f32⟩
  | 100 => ⟨S128, .f32⟩
  | 101 => ⟨S1x128, .f32⟩
  | 102 => ⟨S4x1, .f32⟩
  | 103 => ⟨S4x128, .f32⟩
  | 104 => ⟨S4x128, .f32⟩
  | 105 => ⟨S4x128, .f32⟩
  | 106 => ⟨S4x128, .f32⟩
  | 107 => ⟨S4x128x1, .f32⟩
  | 108 => ⟨S4x128x128, .f32⟩
  | 109 => ⟨S4x128x1, .f32⟩
  | 110 => ⟨S4x128x256, .f32⟩
  | 111 => ⟨S4096x512, .bf16⟩
  | 112 => ⟨S4096x512, .bf16⟩
  | 113 => ⟨S4096x1024, .bf16⟩
  | 114 => ⟨S4096x1024, .bf16⟩
  | _ => ⟨S4096x5760, .bf16⟩

abbrev hbmTy (i : Nat) : BufTy := match i / 128 with
  | 0 => hbmTy0_0 i
  | 1 => hbmTy0_1 i
  | 2 => hbmTy0_2 i
  | _ => ⟨S4096x5760, .bf16⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S4x128x128, .f32⟩
  | .local _ .vmem, ⟨13, _⟩ => ⟨S4x128x128, .f32⟩
  | .local _ .vmem, ⟨14, _⟩ => ⟨S4x128x256, .f32⟩
  | .local _ .vmem, ⟨15, _⟩ => ⟨S4x1x128x256, .f32⟩
  | .local _ .vmem, ⟨16, _⟩ => ⟨S4x1x128x256, .f32⟩
  | .local _ .vmem, ⟨17, _⟩ => ⟨S128x1024, .bf16⟩
  | .local _ .vmem, ⟨18, _⟩ => ⟨S128x1024, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S4x128x256, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_7 : Ref sig .tc := ⟨.hbm, 73, rfl⟩
abbrev main_v63 : Ref sig .tc := ⟨.hbm, 74, rfl⟩
abbrev main_v64 : Ref sig .tc := ⟨.hbm, 75, rfl⟩
abbrev main_cst_8 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_9 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_10 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_11 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_12 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_13 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_v287 : Ref sig .tc := ⟨.hbm, 304, rfl⟩
abbrev main_v288 : Ref sig .tc := ⟨.hbm, 305, rfl⟩
abbrev main_v289 : Ref sig .tc := ⟨.hbm, 306, rfl⟩
abbrev main_v290 : Ref sig .tc := ⟨.hbm, 307, rfl⟩
abbrev main_v291 : Ref sig .tc := ⟨.hbm, 308, rfl⟩
abbrev main_v292 : Ref sig .tc := ⟨.hbm, 309, rfl⟩
abbrev main_v293 : Ref sig .tc := ⟨.hbm, 310, rfl⟩
abbrev main_v294 : Ref sig .tc := ⟨.hbm, 311, rfl⟩
abbrev main_v295 : Ref sig .tc := ⟨.hbm, 312, rfl⟩
abbrev main_cst_14 : Ref sig .tc := ⟨.hbm, 313, rfl⟩
abbrev main_v296 : Ref sig .tc := ⟨.hbm, 314, rfl⟩
abbrev main_v297 : Ref sig .tc := ⟨.hbm, 315, rfl⟩
abbrev main_cst_15 : Ref sig .tc := ⟨.hbm, 316, rfl⟩
abbrev main_v298 : Ref sig .tc := ⟨.hbm, 317, rfl⟩
abbrev main_v299 : Ref sig .tc := ⟨.hbm, 318, rfl⟩
abbrev main_v300 : Ref sig .tc := ⟨.hbm, 319, rfl⟩
abbrev main_v301 : Ref sig .tc := ⟨.hbm, 320, rfl⟩
abbrev main_v302 : Ref sig .tc := ⟨.hbm, 321, rfl⟩
abbrev main_v303 : Ref sig .tc := ⟨.hbm, 322, rfl⟩
abbrev main_v304 : Ref sig .tc := ⟨.hbm, 323, rfl⟩
abbrev main_v305 : Ref sig .tc := ⟨.hbm, 324, rfl⟩
abbrev main_v306 : Ref sig .tc := ⟨.hbm, 325, rfl⟩
abbrev main_v307 : Ref sig .tc := ⟨.hbm, 326, rfl⟩
abbrev main_v308 : Ref sig .tc := ⟨.hbm, 327, rfl⟩
abbrev main_cst_16 : Ref sig .tc := ⟨.hbm, 328, rfl⟩
abbrev main_v309 : Ref sig .tc := ⟨.hbm, 329, rfl⟩
abbrev main_v310 : Ref sig .tc := ⟨.hbm, 330, rfl⟩
abbrev main_cst_17 : Ref sig .tc := ⟨.hbm, 331, rfl⟩
abbrev main_v311 : Ref sig .tc := ⟨.hbm, 332, rfl⟩
abbrev main_v312 : Ref sig .tc := ⟨.hbm, 333, rfl⟩
abbrev main_v313 : Ref sig .tc := ⟨.hbm, 334, rfl⟩
abbrev main_v314 : Ref sig .tc := ⟨.hbm, 335, rfl⟩
abbrev main_v315 : Ref sig .tc := ⟨.hbm, 336, rfl⟩
abbrev main_v316 : Ref sig .tc := ⟨.hbm, 337, rfl⟩
abbrev main_v317 : Ref sig .tc := ⟨.hbm, 338, rfl⟩
abbrev main_v318 : Ref sig .tc := ⟨.hbm, 339, rfl⟩
abbrev main_cst_18 : Ref sig .tc := ⟨.hbm, 340, rfl⟩
abbrev main_call0_v0 : Ref sig .tc := ⟨.hbm, 341, rfl⟩
abbrev main_call0_v1 : Ref sig .tc := ⟨.hbm, 342, rfl⟩
abbrev main_call0_v2 : Ref sig .tc := ⟨.hbm, 343, rfl⟩
abbrev main_v319 : Ref sig .tc := ⟨.hbm, 344, rfl⟩
abbrev main_cst_19 : Ref sig .tc := ⟨.hbm, 345, rfl⟩
abbrev main_v320 : Ref sig .tc := ⟨.hbm, 346, rfl⟩
abbrev main_v321 : Ref sig .tc := ⟨.hbm, 347, rfl⟩
abbrev main_v322 : Ref sig .tc := ⟨.hbm, 348, rfl⟩
abbrev main_v323 : Ref sig .tc := ⟨.hbm, 349, rfl⟩
abbrev main_v324 : Ref sig .tc := ⟨.hbm, 350, rfl⟩
abbrev main_v325 : Ref sig .tc := ⟨.hbm, 351, rfl⟩
abbrev main_v326 : Ref sig .tc := ⟨.hbm, 352, rfl⟩
abbrev main_v327 : Ref sig .tc := ⟨.hbm, 353, rfl⟩
abbrev main_cst_20 : Ref sig .tc := ⟨.hbm, 354, rfl⟩
abbrev main_v328 : Ref sig .tc := ⟨.hbm, 355, rfl⟩
abbrev main_v329 : Ref sig .tc := ⟨.hbm, 356, rfl⟩
abbrev main_v330 : Ref sig .tc := ⟨.hbm, 357, rfl⟩
abbrev main_v331 : Ref sig .tc := ⟨.hbm, 358, rfl⟩
abbrev main_v332 : Ref sig .tc := ⟨.hbm, 359, rfl⟩
abbrev main_v333 : Ref sig .tc := ⟨.hbm, 360, rfl⟩
abbrev main_v334 : Ref sig .tc := ⟨.hbm, 361, rfl⟩
abbrev main_v335 : Ref sig .tc := ⟨.hbm, 362, rfl⟩
abbrev main_v336 : Ref sig .tc := ⟨.hbm, 363, rfl⟩
abbrev main_v337 : Ref sig .tc := ⟨.hbm, 364, rfl⟩
abbrev main_v338 : Ref sig .tc := ⟨.hbm, 365, rfl⟩
abbrev main_v339 : Ref sig .tc := ⟨.hbm, 366, rfl⟩
abbrev main_v340_0 : Ref sig .tc := ⟨.hbm, 367, rfl⟩
abbrev main_v340_1 : Ref sig .tc := ⟨.hbm, 368, rfl⟩
abbrev main_v340_2 : Ref sig .tc := ⟨.hbm, 369, rfl⟩
abbrev main_v340_3 : Ref sig .tc := ⟨.hbm, 370, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "decay0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "decay1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "decay2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "decay3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none
-- ==== ReferenceIdeal.lean ====
abbrev S4096x5760 : Shape := ⟨2, ![4096, 5760]⟩
abbrev S4096x2048 : Shape := ⟨2, ![4096, 2048]⟩
abbrev S1x4096x5760 : Shape := ⟨3, ![1, 4096, 5760]⟩
abbrev S1x4096x512 : Shape := ⟨3, ![1, 4096, 512]⟩
abbrev S1x4096x1024 : Shape := ⟨3, ![1, 4096, 1024]⟩
abbrev S4096 : Shape := ⟨1, ![4096]⟩
abbrev S1x4096x4x128 : Shape := ⟨4, ![1, 4096, 4, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S1x4096x4x256 : Shape := ⟨4, ![1, 4096, 4, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x32x128x4x128 : Shape := ⟨5, ![1, 32, 128, 4, 128]⟩
abbrev S1x32x128x4x256 : Shape := ⟨5, ![1, 32, 128, 4, 256]⟩
abbrev S1x32x4x128x128 : Shape := ⟨5, ![1, 32, 4, 128, 128]⟩
abbrev S1x1x4x128x128 : Shape := ⟨5, ![1, 1, 4, 128, 128]⟩
abbrev S1x32x4x256x128 : Shape := ⟨5, ![1, 32, 4, 256, 128]⟩
abbrev S1x4 : Shape := ⟨2, ![1, 4]⟩
abbrev S128x4 : Shape := ⟨2, ![128, 4]⟩
abbrev S1x1x128x4x1 : Shape := ⟨5, ![1, 1, 128, 4, 1]⟩
abbrev S1x32x4x128x256 : Shape := ⟨5, ![1, 32, 4, 128, 256]⟩
abbrev S1x4x1x1 : Shape := ⟨4, ![1, 4, 1, 1]⟩
abbrev S1x1x4x128x256 : Shape := ⟨5, ![1, 1, 4, 128, 256]⟩
abbrev S1x4x128x256 : Shape := ⟨4, ![1, 4, 128, 256]⟩
abbrev S32x1x4x128x256 : Shape := ⟨5, ![32, 1, 4, 128, 256]⟩
abbrev S0x1x4x128x256 : Shape := ⟨5, ![0, 1, 4, 128, 256]⟩
abbrev S16x1x4x128x256 : Shape := ⟨5, ![16, 1, 4, 128, 256]⟩
abbrev S1x4096x4 : Shape := ⟨3, ![1, 4096, 4]⟩
abbrev S1x4096x4x1 : Shape := ⟨4, ![1, 4096, 4, 1]⟩
abbrev S4096x1024 : Shape := ⟨2, ![4096, 1024]⟩
abbrev S4096x4 : Shape := ⟨2, ![4096, 4]⟩
abbrev S4096x512 : Shape := ⟨2, ![4096, 512]⟩

abbrev nBuf : Space → Nat
  | .hbm => 737
  | .vmem => 0
  | .smem => 0
  | _ => 0

abbrev hbmTy0_0 (i : Nat) : BufTy := match i % 128 with
  | 0 => ⟨S4096x5760, .bf16⟩
  | 1 => ⟨S4096x2048, .bf16⟩
  | 2 => ⟨S4096x5760, .f32⟩
  | 3 => ⟨S1x4096x5760, .f32⟩
  | 4 => ⟨S1x4096x512, .f32⟩
  | 5 => ⟨S1x4096x512, .f32⟩
  | 6 => ⟨S1x4096x1024, .f32⟩
  | 7 => ⟨S1x4096x1024, .f32⟩
  | 8 => ⟨S4096, .i32⟩
  | 9 => ⟨S1x4096x4x128, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S4096, .f32⟩
  | 25 => ⟨S4096x1, .f32⟩
  | 26 => ⟨S1x64, .f32⟩
  | 27 => ⟨S4096x64, .f32⟩
  | 28 => ⟨S4096x64, .f32⟩
  | 29 => ⟨S4096x64, .f32⟩
  | 30 => ⟨S4096x64, .f32⟩
  | 31 => ⟨S1x4096x1x64, .f32⟩
  | 32 => ⟨S4096x64, .f32⟩
  | 33 => ⟨S1x4096x1x64, .f32⟩
  | 34 => ⟨S1x4096x4x64, .f32⟩
  | 35 => ⟨S1x4096x4x64, .f32⟩
  | 36 => ⟨S1x4096x4x64, .f32⟩
  | 37 => ⟨S1x4096x4x64, .f32⟩
  | 38 => ⟨S1x4096x4x64, .f32⟩
  | 39 => ⟨S1x4096x4x64, .f32⟩
  | 40 => ⟨S1x4096x4x64, .f32⟩
  | 41 => ⟨S1x4096x4x64, .f32⟩
  | 42 => ⟨S1x4096x4x64, .f32⟩
  | 43 => ⟨S1x4096x4x64, .f32⟩
  | 44 => ⟨S1x4096x4x64, .f32⟩
  | 45 => ⟨S1x4096x4x64, .f32⟩
  | 46 => ⟨S1x4096x4x128, .f32⟩
  | 47 => ⟨S1x4096x4x128, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S4096, .f32⟩
  | 63 => ⟨S4096x1, .f32⟩
  | 64 => ⟨S1x64, .f32⟩
  | 65 => ⟨S4096x64, .f32⟩
  | 66 => ⟨S4096x64, .f32⟩
  | 67 => ⟨S4096x64, .f32⟩
  | 68 => ⟨S4096x64, .f32⟩
  | 69 => ⟨S1x4096x1x64, .f32⟩
  | 70 => ⟨S4096x64, .f32⟩
  | 71 => ⟨S1x4096x1x64, .f32⟩
  | 72 => ⟨S1x4096x4x64, .f32⟩
  | 73 => ⟨S1x4096x4x64, .f32⟩
  | 74 => ⟨S1x4096x4x64, .f32⟩
  | 75 => ⟨S1x4096x4x64, .f32⟩
  | 76 => ⟨S1x4096x4x64, .f32⟩
  | 77 => ⟨S1x4096x4x64, .f32⟩
  | 78 => ⟨S1x4096x4x64, .f32⟩
  | 79 => ⟨S1x4096x4x64, .f32⟩
  | 80 => ⟨S1x4096x4x64, .f32⟩
  | 81 => ⟨S1x4096x4x64, .f32⟩
  | 82 => ⟨S1x4096x4x64, .f32⟩
  | 83 => ⟨S1x4096x4x64, .f32⟩
  | 84 => ⟨S1x4096x4x128, .f32⟩
  | 85 => ⟨S1x4096x4x256, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S4, .f32⟩
  | 95 => ⟨S128, .f32⟩
  | 96 => ⟨S128x1, .f32⟩
  | 97 => ⟨S1x128, .f32⟩
  | 98 => ⟨S128x128, .f32⟩
  | 99 => ⟨S128x128, .f32⟩
  | 100 => ⟨S128x128, .f32⟩
  | 101 => ⟨S1x128x128, .f32⟩
  | 102 => ⟨S_, .f32⟩
  | 103 => ⟨S1x128x128, .f32⟩
  | 104 => ⟨S1x128x128, .i1⟩
  | 105 => ⟨S_, .f32⟩
  | 106 => ⟨S128x128, .f32⟩
  | 107 => ⟨S128x128, .f32⟩
  | 108 => ⟨S1x128x128, .f32⟩
  | 109 => ⟨S4x1x1, .f32⟩
  | 110 => ⟨S4x128x128, .f32⟩
  | 111 => ⟨S4x128x128, .f32⟩
  | 112 => ⟨S4x128x128, .f32⟩
  | 113 => ⟨S4x128x128, .f32⟩
  | 114 => ⟨S_, .f32⟩
  | 115 => ⟨S_, .f32⟩
  | 116 => ⟨S4x128x128, .i1⟩
  | 117 => ⟨S4x128x128, .f32⟩
  | 118 => ⟨S4x128x128, .f32⟩
  | 119 => ⟨S1x32x128x4x128, .f32⟩
  | 120 => ⟨S1x32x128x4x128, .f32⟩
  | 121 => ⟨S_, .f32⟩
  | 122 => ⟨S1x32x128x4x128, .f32⟩
  | 123 => ⟨S1x32x128x4x128, .f32⟩
  | 124 => ⟨S1x32x128x4x256, .f32⟩
  | 125 => ⟨S1x32x4x128x128, .f32⟩
  | 126 => ⟨S1x1x4x128x128, .f32⟩
  | 127 => ⟨S1x32x4x128x128, .f32⟩
  | _ => ⟨S4096x5760, .bf16⟩

abbrev hbmTy0_1 (i : Nat) : BufTy := match i % 128 with
  | 0 => ⟨S1x32x4x128x128, .f32⟩
  | 1 => ⟨S1x32x4x256x128, .f32⟩
  | 2 => ⟨S1x32x128x4x256, .f32⟩
  | 3 => ⟨S_, .f32⟩
  | 4 => ⟨S128, .f32⟩
  | 5 => ⟨S128, .f32⟩
  | 6 => ⟨S128x1, .f32⟩
  | 7 => ⟨S1x4, .f32⟩
  | 8 => ⟨S128x4, .f32⟩
  | 9 => ⟨S128x4, .f32⟩
  | 10 => ⟨S128x4, .f32⟩
  | 11 => ⟨S128x4, .f32⟩
  | 12 => ⟨S1x1x128x4x1, .f32⟩
  | 13 => ⟨S1x32x128x4x128, .f32⟩
  | 14 => ⟨S1x32x128x4x128, .f32⟩
  | 15 => ⟨S1x32x4x128x256, .f32⟩
  | 16 => ⟨S_, .f32⟩
  | 17 => ⟨S4, .f32⟩
  | 18 => ⟨S4, .f32⟩
  | 19 => ⟨S4, .f32⟩
  | 20 => ⟨S1x4x1x1, .f32⟩
  | 21 => ⟨S1x1x4x128x256, .f32⟩
  | 22 => ⟨S1x4x128x256, .f32⟩
  | 23 => ⟨S_, .f32⟩
  | 24 => ⟨S1x4x128x256, .f32⟩
  | 25 => ⟨S32x1x4x128x256, .f32⟩
  | 26 => ⟨S0x1x4x128x256, .f32⟩
  | 27 => ⟨S32x1x4x128x256, .f32⟩
  | 28 => ⟨S_, .f32⟩
  | 29 => ⟨S0x1x4x128x256, .f32⟩
  | 30 => ⟨S1x1x4x128x256, .f32⟩
  | 31 => ⟨S1x4x128x256, .f32⟩
  | 32 => ⟨S1x4x128x256, .f32⟩
  | 33 => ⟨S1x4x128x256, .f32⟩
  | 34 => ⟨S1x4x128x256, .f32⟩
  | 35 => ⟨S1x1x4x128x256, .f32⟩
  | 36 => ⟨S1x4x128x256, .f32⟩
  | 37 => ⟨S1x4x128x256, .f32⟩
  | 38 => ⟨S1x4x128x256, .f32⟩
  | 39 => ⟨S1x4x128x256, .f32⟩
  | 40 => ⟨S1x1x4x128x256, .f32⟩
  | 41 => ⟨S1x4x128x256, .f32⟩
  | 42 => ⟨S1x4x128x256, .f32⟩
  | 43 => ⟨S1x4x128x256, .f32⟩
  | 44 => ⟨S1x4x128x256, .f32⟩
  | 45 => ⟨S1x1x4x128x256, .f32⟩
  | 46 => ⟨S1x4x128x256, .f32⟩
  | 47 => ⟨S1x4x128x256, .f32⟩
  | 48 => ⟨S1x4x128x256, .f32⟩
  | 49 => ⟨S1x4x128x256, .f32⟩
  | 50 => ⟨S1x1x4x128x256, .f32⟩
  | 51 => ⟨S1x4x128x256, .f32⟩
  | 52 => ⟨S1x4x128x256, .f32⟩
  | 53 => ⟨S1x4x128x256, .f32⟩
  | 54 => ⟨S1x4x128x256, .f32⟩
  | 55 => ⟨S1x1x4x128x256, .f32⟩
  | 56 => ⟨S1x4x128x256, .f32⟩
  | 57 => ⟨S1x4x128x256, .f32⟩
  | 58 => ⟨S1x4x128x256, .f32⟩
  | 59 => ⟨S1x4x128x256, .f32⟩
  | 60 => ⟨S1x1x4x128x256, .f32⟩
  | 61 => ⟨S1x4x128x256, .f32⟩
  | 62 => ⟨S1x4x128x256, .f32⟩
  | 63 => ⟨S1x4x128x256, .f32⟩
  | 64 => ⟨S1x4x128x256, .f32⟩
  | 65 => ⟨S1x1x4x128x256, .f32⟩
  | 66 => ⟨S1x4x128x256, .f32⟩
  | 67 => ⟨S1x4x128x256, .f32⟩
  | 68 => ⟨S1x4x128x256, .f32⟩
  | 69 => ⟨S1x4x128x256, .f32⟩
  | 70 => ⟨S1x1x4x128x256, .f32⟩
  | 71 => ⟨S1x4x128x256, .f32⟩
  | 72 => ⟨S1x4x128x256, .f32⟩
  | 73 => ⟨S1x4x128x256, .f32⟩
  | 74 => ⟨S1x4x128x256, .f32⟩
  | 75 => ⟨S1x1x4x128x256, .f32⟩
  | 76 => ⟨S1x4x128x256, .f32⟩
  | 77 => ⟨S1x4x128x256, .f32⟩
  | 78 => ⟨S1x4x128x256, .f32⟩
  | 79 => ⟨S1x4x128x256, .f32⟩
  | 80 => ⟨S1x1x4x128x256, .f32⟩
  | 81 => ⟨S1x4x128x256, .f32⟩
  | 82 => ⟨S1x4x128x256, .f32⟩
  | 83 => ⟨S1x4x128x256, .f32⟩
  | 84 => ⟨S1x4x128x256, .f32⟩
  | 85 => ⟨S1x1x4x128x256, .f32⟩
  | 86 => ⟨S1x4x128x256, .f32⟩
  | 87 => ⟨S1x4x128x256, .f32⟩
  | 88 => ⟨S1x4x128x256, .f32⟩
  | 89 => ⟨S1x4x128x256, .f32⟩
  | 90 => ⟨S1x1x4x128x256, .f32⟩
  | 91 => ⟨S1x4x128x256, .f32⟩
  | 92 => ⟨S1x4x128x256, .f32⟩
  | 93 => ⟨S1x4x128x256, .f32⟩
  | 94 => ⟨S1x4x128x256, .f32⟩
  | 95 => ⟨S1x1x4x128x256, .f32⟩
  | 96 => ⟨S1x4x128x256, .f32⟩
  | 97 => ⟨S1x4x128x256, .f32⟩
  | 98 => ⟨S1x4x128x256, .f32⟩
  | 99 => ⟨S1x4x128x256, .f32⟩
  | 100 => ⟨S1x1x4x128x256, .f32⟩
  | 101 => ⟨S1x4x128x256, .f32⟩
  | 102 => ⟨S1x4x128x256, .f32⟩
  | 103 => ⟨S1x4x128x256, .f32⟩
  | 104 => ⟨S1x4x128x256, .f32⟩
  | 105 => ⟨S1x1x4x128x256, .f32⟩
  | 106 => ⟨S1x4x128x256, .f32⟩
  | 107 => ⟨S1x4x128x256, .f32⟩
  | 108 => ⟨S1x4x128x256, .f32⟩
  | 109 => ⟨S1x4x128x256, .f32⟩
  | 110 => ⟨S1x1x4x128x256, .f32⟩
  | 111 => ⟨S1x4x128x256, .f32⟩
  | 112 => ⟨S1x4x128x256, .f32⟩
  | 113 => ⟨S1x4x128x256, .f32⟩
  | 114 => ⟨S1x4x128x256, .f32⟩
  | 115 => ⟨S1x1x4x128x256, .f32⟩
  | 116 => ⟨S1x4x128x256, .f32⟩
  | 117 => ⟨S1x4x128x256, .f32⟩
  | 118 => ⟨S1x4x128x256, .f32⟩
  | 119 => ⟨S1x4x128x256, .f32⟩
  | 120 => ⟨S1x1x4x128x256, .f32⟩
  | 121 => ⟨S1x4x128x256, .f32⟩
  | 122 => ⟨S1x4x128x256, .f32⟩
  | 123 => ⟨S1x4x128x256, .f32⟩
  | 124 => ⟨S1x4x128x256, .f32⟩
  | 125 => ⟨S1x1x4x128x256, .f32⟩
  | 126 => ⟨S1x4x128x256, .f32⟩
  | 127 => ⟨S1x4x128x256, .f32⟩
  | _ => ⟨S4096x5760, .bf16⟩

abbrev hbmTy0_2 (i : Nat) : BufTy := match i % 128 with
  | 0 => ⟨S1x4x128x256, .f32⟩
  | 1 => ⟨S1x4x128x256, .f32⟩
  | 2 => ⟨S1x1x4x128x256, .f32⟩
  | 3 => ⟨S1x4x128x256, .f32⟩
  | 4 => ⟨S1x4x128x256, .f32⟩
  | 5 => ⟨S1x4x128x256, .f32⟩
  | 6 => ⟨S1x4x128x256, .f32⟩
  | 7 => ⟨S1x1x4x128x256, .f32⟩
  | 8 => ⟨S1x4x128x256, .f32⟩
  | 9 => ⟨S1x4x128x256, .f32⟩
  | 10 => ⟨S1x4x128x256, .f32⟩
  | 11 => ⟨S1x4x128x256, .f32⟩
  | 12 => ⟨S1x1x4x128x256, .f32⟩
  | 13 => ⟨S1x4x128x256, .f32⟩
  | 14 => ⟨S1x4x128x256, .f32⟩
  | 15 => ⟨S1x4x128x256, .f32⟩
  | 16 => ⟨S1x4x128x256, .f32⟩
  | 17 => ⟨S1x1x4x128x256, .f32⟩
  | 18 => ⟨S1x4x128x256, .f32⟩
  | 19 => ⟨S1x4x128x256, .f32⟩
  | 20 => ⟨S1x4x128x256, .f32⟩
  | 21 => ⟨S1x4x128x256, .f32⟩
  | 22 => ⟨S1x1x4x128x256, .f32⟩
  | 23 => ⟨S1x4x128x256, .f32⟩
  | 24 => ⟨S1x4x128x256, .f32⟩
  | 25 => ⟨S1x4x128x256, .f32⟩
  | 26 => ⟨S1x4x128x256, .f32⟩
  | 27 => ⟨S1x1x4x128x256, .f32⟩
  | 28 => ⟨S1x4x128x256, .f32⟩
  | 29 => ⟨S1x4x128x256, .f32⟩
  | 30 => ⟨S1x4x128x256, .f32⟩
  | 31 => ⟨S1x4x128x256, .f32⟩
  | 32 => ⟨S1x1x4x128x256, .f32⟩
  | 33 => ⟨S1x4x128x256, .f32⟩
  | 34 => ⟨S1x4x128x256, .f32⟩
  | 35 => ⟨S1x4x128x256, .f32⟩
  | 36 => ⟨S1x4x128x256, .f32⟩
  | 37 => ⟨S1x1x4x128x256, .f32⟩
  | 38 => ⟨S1x4x128x256, .f32⟩
  | 39 => ⟨S1x4x128x256, .f32⟩
  | 40 => ⟨S1x4x128x256, .f32⟩
  | 41 => ⟨S1x4x128x256, .f32⟩
  | 42 => ⟨S1x1x4x128x256, .f32⟩
  | 43 => ⟨S1x4x128x256, .f32⟩
  | 44 => ⟨S1x4x128x256, .f32⟩
  | 45 => ⟨S1x4x128x256, .f32⟩
  | 46 => ⟨S1x4x128x256, .f32⟩
  | 47 => ⟨S1x1x4x128x256, .f32⟩
  | 48 => ⟨S1x4x128x256, .f32⟩
  | 49 => ⟨S1x4x128x256, .f32⟩
  | 50 => ⟨S1x4x128x256, .f32⟩
  | 51 => ⟨S1x4x128x256, .f32⟩
  | 52 => ⟨S1x1x4x128x256, .f32⟩
  | 53 => ⟨S1x4x128x256, .f32⟩
  | 54 => ⟨S1x4x128x256, .f32⟩
  | 55 => ⟨S1x4x128x256, .f32⟩
  | 56 => ⟨S1x4x128x256, .f32⟩
  | 57 => ⟨S1x1x4x128x256, .f32⟩
  | 58 => ⟨S1x4x128x256, .f32⟩
  | 59 => ⟨S1x4x128x256, .f32⟩
  | 60 => ⟨S1x4x128x256, .f32⟩
  | 61 => ⟨S1x4x128x256, .f32⟩
  | 62 => ⟨S1x1x4x128x256, .f32⟩
  | 63 => ⟨S1x1x4x128x256, .f32⟩
  | 64 => ⟨S1x1x4x128x256, .f32⟩
  | 65 => ⟨S1x1x4x128x256, .f32⟩
  | 66 => ⟨S1x1x4x128x256, .f32⟩
  | 67 => ⟨S1x1x4x128x256, .f32⟩
  | 68 => ⟨S1x1x4x128x256, .f32⟩
  | 69 => ⟨S1x1x4x128x256, .f32⟩
  | 70 => ⟨S1x1x4x128x256, .f32⟩
  | 71 => ⟨S1x1x4x128x256, .f32⟩
  | 72 => ⟨S1x1x4x128x256, .f32⟩
  | 73 => ⟨S1x1x4x128x256, .f32⟩
  | 74 => ⟨S1x1x4x128x256, .f32⟩
  | 75 => ⟨S1x1x4x128x256, .f32⟩
  | 76 => ⟨S1x1x4x128x256, .f32⟩
  | 77 => ⟨S1x1x4x128x256, .f32⟩
  | 78 => ⟨S1x1x4x128x256, .f32⟩
  | 79 => ⟨S1x1x4x128x256, .f32⟩
  | 80 => ⟨S1x1x4x128x256, .f32⟩
  | 81 => ⟨S1x1x4x128x256, .f32⟩
  | 82 => ⟨S1x1x4x128x256, .f32⟩
  | 83 => ⟨S1x1x4x128x256, .f32⟩
  | 84 => ⟨S1x1x4x128x256, .f32⟩
  | 85 => ⟨S1x1x4x128x256, .f32⟩
  | 86 => ⟨S1x1x4x128x256, .f32⟩
  | 87 => ⟨S1x1x4x128x256, .f32⟩
  | 88 => ⟨S1x1x4x128x256, .f32⟩
  | 89 => ⟨S1x1x4x128x256, .f32⟩
  | 90 => ⟨S1x1x4x128x256, .f32⟩
  | 91 => ⟨S1x1x4x128x256, .f32⟩
  | 92 => ⟨S1x1x4x128x256, .f32⟩
  | 93 => ⟨S1x1x4x128x256, .f32⟩
  | 94 => ⟨S16x1x4x128x256, .f32⟩
  | 95 => ⟨S16x1x4x128x256, .f32⟩
  | 96 => ⟨S32x1x4x128x256, .f32⟩
  | 97 => ⟨S32x1x4x128x256, .f32⟩
  | 98 => ⟨S1x32x4x128x256, .f32⟩
  | 99 => ⟨S_, .f32⟩
  | 100 => ⟨S128, .f32⟩
  | 101 => ⟨S128, .f32⟩
  | 102 => ⟨S128x1, .f32⟩
  | 103 => ⟨S1x4, .f32⟩
  | 104 => ⟨S128x4, .f32⟩
  | 105 => ⟨S128x4, .f32⟩
  | 106 => ⟨S128x4, .f32⟩
  | 107 => ⟨S128x4, .f32⟩
  | 108 => ⟨S1x32x4x256x128, .f32⟩
  | 109 => ⟨S1x32x128x4x256, .f32⟩
  | 110 => ⟨S1x1x128x4x1, .f32⟩
  | 111 => ⟨S1x32x128x4x256, .f32⟩
  | 112 => ⟨S1x32x128x4x256, .f32⟩
  | 113 => ⟨S1x32x128x4x256, .f32⟩
  | 114 => ⟨S1x4096x4x256, .f32⟩
  | 115 => ⟨S_, .f32⟩
  | 116 => ⟨S1x4096x4, .f32⟩
  | 117 => ⟨S1x4096x4x1, .f32⟩
  | 118 => ⟨S_, .f32⟩
  | 119 => ⟨S1x4096x4x1, .f32⟩
  | 120 => ⟨S1x4096x4x1, .f32⟩
  | 121 => ⟨S1x4096x4x256, .f32⟩
  | 122 => ⟨S1x4096x4x256, .f32⟩
  | 123 => ⟨S1x4096x4x256, .f32⟩
  | 124 => ⟨S_, .f32⟩
  | 125 => ⟨S1x4096x4, .f32⟩
  | 126 => ⟨S1x4096x4x1, .f32⟩
  | 127 => ⟨S_, .f32⟩
  | _ => ⟨S4096x5760, .bf16⟩

abbrev hbmTy0_3 (i : Nat) : BufTy := match i % 128 with
  | 0 => ⟨S1x4096x4x1, .f32⟩
  | 1 => ⟨S1x4096x4x1, .f32⟩
  | 2 => ⟨S_, .f32⟩
  | 3 => ⟨S1x4096x4x1, .f32⟩
  | 4 => ⟨S1x4096x4x1, .f32⟩
  | 5 => ⟨S1x4096x4x1, .f32⟩
  | 6 => ⟨S1x4096x4x1, .f32⟩
  | 7 => ⟨S_, .f32⟩
  | 8 => ⟨S1x4096x4x1, .f32⟩
  | 9 => ⟨S1x4096x4x1, .f32⟩
  | 10 => ⟨S1x4096x4x256, .f32⟩
  | 11 => ⟨S1x4096x4x256, .f32⟩
  | 12 => ⟨S1x4096x1024, .f32⟩
  | 13 => ⟨S1x4096x1024, .f32⟩
  | 14 => ⟨S1x4096x1024, .f32⟩
  | 15 => ⟨S_, .f32⟩
  | 16 => ⟨S1x4096x1024, .f32⟩
  | 17 => ⟨S1x4096x1024, .f32⟩
  | 18 => ⟨S_, .f32⟩
  | 19 => ⟨S1x4096x1024, .f32⟩
  | 20 => ⟨S1x4096x1024, .f32⟩
  | 21 => ⟨S_, .f32⟩
  | 22 => ⟨S1x4096x1024, .f32⟩
  | 23 => ⟨S1x4096x1024, .f32⟩
  | 24 => ⟨S1x4096x1024, .f32⟩
  | 25 => ⟨S1x4096x1024, .f32⟩
  | 26 => ⟨S1x4096x1024, .f32⟩
  | 27 => ⟨S4096x2048, .f32⟩
  | 28 => ⟨S4096x1024, .f32⟩
  | 29 => ⟨S1x4096x1024, .f32⟩
  | 30 => ⟨S_, .f32⟩
  | 31 => ⟨S1x4x128x256, .f32⟩
  | 32 => ⟨S1x4096x1024, .f32⟩
  | 33 => ⟨S1x4096x1024, .f32⟩
  | 34 => ⟨S1x4096x1024, .f32⟩
  | 35 => ⟨S1x4096x1024, .f32⟩
  | 36 => ⟨S1x4096x1024, .f32⟩
  | 37 => ⟨S1x4096x1024, .f32⟩
  | 38 => ⟨S1x4096x4x256, .f32⟩
  | 39 => ⟨S1x4096x4x256, .f32⟩
  | 40 => ⟨S_, .f32⟩
  | 41 => ⟨S1x4096x4, .f32⟩
  | 42 => ⟨S1x4096x4x1, .f32⟩
  | 43 => ⟨S1x4096x4x256, .f32⟩
  | 44 => ⟨S1x4096x4x256, .f32⟩
  | 45 => ⟨S1x4096x4x1, .f32⟩
  | 46 => ⟨S_, .f32⟩
  | 47 => ⟨S1x4096x4x1, .f32⟩
  | 48 => ⟨S1x4096x4x1, .f32⟩
  | 49 => ⟨S_, .f32⟩
  | 50 => ⟨S4096x4, .f32⟩
  | 51 => ⟨S1x4096x4, .f32⟩
  | 52 => ⟨S1x4096x4x256, .f32⟩
  | 53 => ⟨S1x4096x4x256, .f32⟩
  | 54 => ⟨S1x4096x4x256, .f32⟩
  | 55 => ⟨S1x4096x4x256, .f32⟩
  | 56 => ⟨S1x4096x4x256, .f32⟩
  | 57 => ⟨S1x4096x4x256, .f32⟩
  | 58 => ⟨S_, .f32⟩
  | 59 => ⟨S1x4096x4, .f32⟩
  | 60 => ⟨S1x4096x4x1, .f32⟩
  | 61 => ⟨S_, .f32⟩
  | 62 => ⟨S1x4096x4x1, .f32⟩
  | 63 => ⟨S1x4096x4x1, .f32⟩
  | 64 => ⟨S_, .f32⟩
  | 65 => ⟨S4096x4, .f32⟩
  | 66 => ⟨S1x4096x4, .f32⟩
  | 67 => ⟨S1x4096x4x256, .f32⟩
  | 68 => ⟨S1x4096x4x256, .f32⟩
  | 69 => ⟨S1x32x128x4x256, .f32⟩
  | 70 => ⟨S1x32x128x4x256, .f32⟩
  | 71 => ⟨S1x32x128x4x256, .f32⟩
  | 72 => ⟨S1x32x4x256x128, .f32⟩
  | 73 => ⟨S1x32x4x128x128, .f32⟩
  | 74 => ⟨S1x32x128x4x128, .f32⟩
  | 75 => ⟨S1x32x4x256x128, .f32⟩
  | 76 => ⟨S1x32x4x128x256, .f32⟩
  | 77 => ⟨S32x1x4x128x256, .f32⟩
  | 78 => ⟨S_, .f32⟩
  | 79 => ⟨S1x4x128x256, .f32⟩
  | 80 => ⟨S32x1x4x128x256, .f32⟩
  | 81 => ⟨S0x1x4x128x256, .f32⟩
  | 82 => ⟨S_, .f32⟩
  | 83 => ⟨S0x1x4x128x256, .f32⟩
  | 84 => ⟨S1x1x4x128x256, .f32⟩
  | 85 => ⟨S1x4x128x256, .f32⟩
  | 86 => ⟨S1x4x128x256, .f32⟩
  | 87 => ⟨S1x4x128x256, .f32⟩
  | 88 => ⟨S1x4x128x256, .f32⟩
  | 89 => ⟨S1x1x4x128x256, .f32⟩
  | 90 => ⟨S1x4x128x256, .f32⟩
  | 91 => ⟨S1x4x128x256, .f32⟩
  | 92 => ⟨S1x4x128x256, .f32⟩
  | 93 => ⟨S1x4x128x256, .f32⟩
  | 94 => ⟨S1x1x4x128x256, .f32⟩
  | 95 => ⟨S1x4x128x256, .f32⟩
  | 96 => ⟨S1x4x128x256, .f32⟩
  | 97 => ⟨S1x4x128x256, .f32⟩
  | 98 => ⟨S1x4x128x256, .f32⟩
  | 99 => ⟨S1x1x4x128x256, .f32⟩
  | 100 => ⟨S1x4x128x256, .f32⟩
  | 101 => ⟨S1x4x128x256, .f32⟩
  | 102 => ⟨S1x4x128x256, .f32⟩
  | 103 => ⟨S1x4x128x256, .f32⟩
  | 104 => ⟨S1x1x4x128x256, .f32⟩
  | 105 => ⟨S1x4x128x256, .f32⟩
  | 106 => ⟨S1x4x128x256, .f32⟩
  | 107 => ⟨S1x4x128x256, .f32⟩
  | 108 => ⟨S1x4x128x256, .f32⟩
  | 109 => ⟨S1x1x4x128x256, .f32⟩
  | 110 => ⟨S1x4x128x256, .f32⟩
  | 111 => ⟨S1x4x128x256, .f32⟩
  | 112 => ⟨S1x4x128x256, .f32⟩
  | 113 => ⟨S1x4x128x256, .f32⟩
  | 114 => ⟨S1x1x4x128x256, .f32⟩
  | 115 => ⟨S1x4x128x256, .f32⟩
  | 116 => ⟨S1x4x128x256, .f32⟩
  | 117 => ⟨S1x4x128x256, .f32⟩
  | 118 => ⟨S1x4x128x256, .f32⟩
  | 119 => ⟨S1x1x4x128x256, .f32⟩
  | 120 => ⟨S1x4x128x256, .f32⟩
  | 121 => ⟨S1x4x128x256, .f32⟩
  | 122 => ⟨S1x4x128x256, .f32⟩
  | 123 => ⟨S1x4x128x256, .f32⟩
  | 124 => ⟨S1x1x4x128x256, .f32⟩
  | 125 => ⟨S1x4x128x256, .f32⟩
  | 126 => ⟨S1x4x128x256, .f32⟩
  | 127 => ⟨S1x4x128x256, .f32⟩
  | _ => ⟨S4096x5760, .bf16⟩

abbrev hbmTy0_4 (i : Nat) : BufTy := match i % 128 with
  | 0 => ⟨S1x4x128x256, .f32⟩
  | 1 => ⟨S1x1x4x128x256, .f32⟩
  | 2 => ⟨S1x4x128x256, .f32⟩
  | 3 => ⟨S1x4x128x256, .f32⟩
  | 4 => ⟨S1x4x128x256, .f32⟩
  | 5 => ⟨S1x4x128x256, .f32⟩
  | 6 => ⟨S1x1x4x128x256, .f32⟩
  | 7 => ⟨S1x4x128x256, .f32⟩
  | 8 => ⟨S1x4x128x256, .f32⟩
  | 9 => ⟨S1x4x128x256, .f32⟩
  | 10 => ⟨S1x4x128x256, .f32⟩
  | 11 => ⟨S1x1x4x128x256, .f32⟩
  | 12 => ⟨S1x4x128x256, .f32⟩
  | 13 => ⟨S1x4x128x256, .f32⟩
  | 14 => ⟨S1x4x128x256, .f32⟩
  | 15 => ⟨S1x4x128x256, .f32⟩
  | 16 => ⟨S1x1x4x128x256, .f32⟩
  | 17 => ⟨S1x4x128x256, .f32⟩
  | 18 => ⟨S1x4x128x256, .f32⟩
  | 19 => ⟨S1x4x128x256, .f32⟩
  | 20 => ⟨S1x4x128x256, .f32⟩
  | 21 => ⟨S1x1x4x128x256, .f32⟩
  | 22 => ⟨S1x4x128x256, .f32⟩
  | 23 => ⟨S1x4x128x256, .f32⟩
  | 24 => ⟨S1x4x128x256, .f32⟩
  | 25 => ⟨S1x4x128x256, .f32⟩
  | 26 => ⟨S1x1x4x128x256, .f32⟩
  | 27 => ⟨S1x4x128x256, .f32⟩
  | 28 => ⟨S1x4x128x256, .f32⟩
  | 29 => ⟨S1x4x128x256, .f32⟩
  | 30 => ⟨S1x4x128x256, .f32⟩
  | 31 => ⟨S1x1x4x128x256, .f32⟩
  | 32 => ⟨S1x4x128x256, .f32⟩
  | 33 => ⟨S1x4x128x256, .f32⟩
  | 34 => ⟨S1x4x128x256, .f32⟩
  | 35 => ⟨S1x4x128x256, .f32⟩
  | 36 => ⟨S1x1x4x128x256, .f32⟩
  | 37 => ⟨S1x4x128x256, .f32⟩
  | 38 => ⟨S1x4x128x256, .f32⟩
  | 39 => ⟨S1x4x128x256, .f32⟩
  | 40 => ⟨S1x4x128x256, .f32⟩
  | 41 => ⟨S1x1x4x128x256, .f32⟩
  | 42 => ⟨S1x4x128x256, .f32⟩
  | 43 => ⟨S1x4x128x256, .f32⟩
  | 44 => ⟨S1x4x128x256, .f32⟩
  | 45 => ⟨S1x4x128x256, .f32⟩
  | 46 => ⟨S1x1x4x128x256, .f32⟩
  | 47 => ⟨S1x4x128x256, .f32⟩
  | 48 => ⟨S1x4x128x256, .f32⟩
  | 49 => ⟨S1x4x128x256, .f32⟩
  | 50 => ⟨S1x4x128x256, .f32⟩
  | 51 => ⟨S1x1x4x128x256, .f32⟩
  | 52 => ⟨S1x4x128x256, .f32⟩
  | 53 => ⟨S1x4x128x256, .f32⟩
  | 54 => ⟨S1x4x128x256, .f32⟩
  | 55 => ⟨S1x4x128x256, .f32⟩
  | 56 => ⟨S1x1x4x128x256, .f32⟩
  | 57 => ⟨S1x4x128x256, .f32⟩
  | 58 => ⟨S1x4x128x256, .f32⟩
  | 59 => ⟨S1x4x128x256, .f32⟩
  | 60 => ⟨S1x4x128x256, .f32⟩
  | 61 => ⟨S1x1x4x128x256, .f32⟩
  | 62 => ⟨S1x4x128x256, .f32⟩
  | 63 => ⟨S1x4x128x256, .f32⟩
  | 64 => ⟨S1x4x128x256, .f32⟩
  | 65 => ⟨S1x4x128x256, .f32⟩
  | 66 => ⟨S1x1x4x128x256, .f32⟩
  | 67 => ⟨S1x4x128x256, .f32⟩
  | 68 => ⟨S1x4x128x256, .f32⟩
  | 69 => ⟨S1x4x128x256, .f32⟩
  | 70 => ⟨S1x4x128x256, .f32⟩
  | 71 => ⟨S1x1x4x128x256, .f32⟩
  | 72 => ⟨S1x4x128x256, .f32⟩
  | 73 => ⟨S1x4x128x256, .f32⟩
  | 74 => ⟨S1x4x128x256, .f32⟩
  | 75 => ⟨S1x4x128x256, .f32⟩
  | 76 => ⟨S1x1x4x128x256, .f32⟩
  | 77 => ⟨S1x4x128x256, .f32⟩
  | 78 => ⟨S1x4x128x256, .f32⟩
  | 79 => ⟨S1x4x128x256, .f32⟩
  | 80 => ⟨S1x4x128x256, .f32⟩
  | 81 => ⟨S1x1x4x128x256, .f32⟩
  | 82 => ⟨S1x4x128x256, .f32⟩
  | 83 => ⟨S1x4x128x256, .f32⟩
  | 84 => ⟨S1x4x128x256, .f32⟩
  | 85 => ⟨S1x4x128x256, .f32⟩
  | 86 => ⟨S1x1x4x128x256, .f32⟩
  | 87 => ⟨S1x4x128x256, .f32⟩
  | 88 => ⟨S1x4x128x256, .f32⟩
  | 89 => ⟨S1x4x128x256, .f32⟩
  | 90 => ⟨S1x4x128x256, .f32⟩
  | 91 => ⟨S1x1x4x128x256, .f32⟩
  | 92 => ⟨S1x4x128x256, .f32⟩
  | 93 => ⟨S1x4x128x256, .f32⟩
  | 94 => ⟨S1x4x128x256, .f32⟩
  | 95 => ⟨S1x4x128x256, .f32⟩
  | 96 => ⟨S1x1x4x128x256, .f32⟩
  | 97 => ⟨S1x4x128x256, .f32⟩
  | 98 => ⟨S1x4x128x256, .f32⟩
  | 99 => ⟨S1x4x128x256, .f32⟩
  | 100 => ⟨S1x4x128x256, .f32⟩
  | 101 => ⟨S1x1x4x128x256, .f32⟩
  | 102 => ⟨S1x4x128x256, .f32⟩
  | 103 => ⟨S1x4x128x256, .f32⟩
  | 104 => ⟨S1x4x128x256, .f32⟩
  | 105 => ⟨S1x4x128x256, .f32⟩
  | 106 => ⟨S1x1x4x128x256, .f32⟩
  | 107 => ⟨S1x4x128x256, .f32⟩
  | 108 => ⟨S1x4x128x256, .f32⟩
  | 109 => ⟨S1x4x128x256, .f32⟩
  | 110 => ⟨S1x4x128x256, .f32⟩
  | 111 => ⟨S1x1x4x128x256, .f32⟩
  | 112 => ⟨S1x4x128x256, .f32⟩
  | 113 => ⟨S1x4x128x256, .f32⟩
  | 114 => ⟨S1x4x128x256, .f32⟩
  | 115 => ⟨S1x4x128x256, .f32⟩
  | 116 => ⟨S1x1x4x128x256, .f32⟩
  | 117 => ⟨S1x1x4x128x256, .f32⟩
  | 118 => ⟨S1x1x4x128x256, .f32⟩
  | 119 => ⟨S1x1x4x128x256, .f32⟩
  | 120 => ⟨S1x1x4x128x256, .f32⟩
  | 121 => ⟨S1x1x4x128x256, .f32⟩
  | 122 => ⟨S1x1x4x128x256, .f32⟩
  | 123 => ⟨S1x1x4x128x256, .f32⟩
  | 124 => ⟨S1x1x4x128x256, .f32⟩
  | 125 => ⟨S1x1x4x128x256, .f32⟩
  | 126 => ⟨S1x1x4x128x256, .f32⟩
  | 127 => ⟨S1x1x4x128x256, .f32⟩
  | _ => ⟨S4096x5760, .bf16⟩

abbrev hbmTy0_5 (i : Nat) : BufTy := match i % 128 with
  | 0 => ⟨S1x1x4x128x256, .f32⟩
  | 1 => ⟨S1x1x4x128x256, .f32⟩
  | 2 => ⟨S1x1x4x128x256, .f32⟩
  | 3 => ⟨S1x1x4x128x256, .f32⟩
  | 4 => ⟨S1x1x4x128x256, .f32⟩
  | 5 => ⟨S1x1x4x128x256, .f32⟩
  | 6 => ⟨S1x1x4x128x256, .f32⟩
  | 7 => ⟨S1x1x4x128x256, .f32⟩
  | 8 => ⟨S1x1x4x128x256, .f32⟩
  | 9 => ⟨S1x1x4x128x256, .f32⟩
  | 10 => ⟨S1x1x4x128x256, .f32⟩
  | 11 => ⟨S1x1x4x128x256, .f32⟩
  | 12 => ⟨S1x1x4x128x256, .f32⟩
  | 13 => ⟨S1x1x4x128x256, .f32⟩
  | 14 => ⟨S1x1x4x128x256, .f32⟩
  | 15 => ⟨S1x1x4x128x256, .f32⟩
  | 16 => ⟨S1x1x4x128x256, .f32⟩
  | 17 => ⟨S1x1x4x128x256, .f32⟩
  | 18 => ⟨S1x1x4x128x256, .f32⟩
  | 19 => ⟨S1x1x4x128x256, .f32⟩
  | 20 => ⟨S16x1x4x128x256, .f32⟩
  | 21 => ⟨S16x1x4x128x256, .f32⟩
  | 22 => ⟨S32x1x4x128x256, .f32⟩
  | 23 => ⟨S32x1x4x128x256, .f32⟩
  | 24 => ⟨S1x32x4x128x256, .f32⟩
  | 25 => ⟨S1x32x4x256x128, .f32⟩
  | 26 => ⟨S1x32x128x4x256, .f32⟩
  | 27 => ⟨S1x32x4x128x128, .f32⟩
  | 28 => ⟨S1x32x128x4x128, .f32⟩
  | 29 => ⟨S1x32x128x4x128, .f32⟩
  | 30 => ⟨S1x32x128x4x128, .f32⟩
  | 31 => ⟨S1x32x4x256x128, .f32⟩
  | 32 => ⟨S1x32x4x128x128, .f32⟩
  | 33 => ⟨S1x32x4x256x128, .f32⟩
  | 34 => ⟨S1x32x128x4x256, .f32⟩
  | 35 => ⟨S1x32x128x4x256, .f32⟩
  | 36 => ⟨S1x32x4x128x128, .f32⟩
  | 37 => ⟨S1x32x4x128x128, .f32⟩
  | 38 => ⟨S1x32x4x128x128, .f32⟩
  | 39 => ⟨S1x32x128x4x128, .f32⟩
  | 40 => ⟨S1x32x128x4x128, .f32⟩
  | 41 => ⟨S1x32x4x128x128, .f32⟩
  | 42 => ⟨S1x32x128x4x128, .f32⟩
  | 43 => ⟨S1x32x128x4x128, .f32⟩
  | 44 => ⟨S1x4096x4x256, .f32⟩
  | 45 => ⟨S_, .f32⟩
  | 46 => ⟨S1x32x128x4x128, .f32⟩
  | 47 => ⟨S1x32x128x4x128, .f32⟩
  | 48 => ⟨S1x4096x4x128, .f32⟩
  | 49 => ⟨S1x4096x4x128, .f32⟩
  | 50 => ⟨S1x4096x1024, .f32⟩
  | 51 => ⟨S1x4096x4x64, .f32⟩
  | 52 => ⟨S1x4096x4x64, .f32⟩
  | 53 => ⟨S1x4096x4x64, .f32⟩
  | 54 => ⟨S1x4096x4x64, .f32⟩
  | 55 => ⟨S1x4096x4x64, .f32⟩
  | 56 => ⟨S1x4096x4x64, .f32⟩
  | 57 => ⟨S1x4096x4x64, .f32⟩
  | 58 => ⟨S1x4096x4x64, .f32⟩
  | 59 => ⟨S1x4096x4x64, .f32⟩
  | 60 => ⟨S1x4096x4x64, .f32⟩
  | 61 => ⟨S1x4096x4x64, .f32⟩
  | 62 => ⟨S1x4096x4x64, .f32⟩
  | 63 => ⟨S1x4096x4x64, .f32⟩
  | 64 => ⟨S_, .f32⟩
  | 65 => ⟨S1x4096x4x128, .f32⟩
  | 66 => ⟨S_, .f32⟩
  | 67 => ⟨S1x4096x4x128, .f32⟩
  | 68 => ⟨S1x4096x4x128, .f32⟩
  | 69 => ⟨S1x4096x512, .f32⟩
  | 70 => ⟨S1x4096x4x64, .f32⟩
  | 71 => ⟨S1x4096x4x64, .f32⟩
  | 72 => ⟨S1x4096x4x64, .f32⟩
  | 73 => ⟨S1x4096x4x64, .f32⟩
  | 74 => ⟨S1x4096x4x64, .f32⟩
  | 75 => ⟨S1x4096x4x64, .f32⟩
  | 76 => ⟨S1x4096x4x64, .f32⟩
  | 77 => ⟨S1x4096x4x64, .f32⟩
  | 78 => ⟨S1x4096x4x64, .f32⟩
  | 79 => ⟨S1x4096x4x64, .f32⟩
  | 80 => ⟨S1x4096x4x64, .f32⟩
  | 81 => ⟨S1x4096x4x64, .f32⟩
  | 82 => ⟨S1x4096x4x64, .f32⟩
  | 83 => ⟨S_, .f32⟩
  | 84 => ⟨S1x4096x4x128, .f32⟩
  | 85 => ⟨S_, .f32⟩
  | 86 => ⟨S1x4096x4x128, .f32⟩
  | 87 => ⟨S1x4096x4x128, .f32⟩
  | 88 => ⟨S1x4096x512, .f32⟩
  | 89 => ⟨S4096x512, .f32⟩
  | 90 => ⟨S4096x512, .bf16⟩
  | 91 => ⟨S4096x512, .f32⟩
  | 92 => ⟨S4096x512, .bf16⟩
  | 93 => ⟨S4096x1024, .f32⟩
  | 94 => ⟨S4096x1024, .bf16⟩
  | 95 => ⟨S4096x1024, .f32⟩
  | 96 => ⟨S4096x1024, .bf16⟩
  | _ => ⟨S4096x5760, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x5760, .bf16⟩

abbrev bufTy : (tb : Table) → Fin (tcTables nBuf tb) → BufTy
  | .hbm, ⟨i, _⟩ => hbmTy i
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_v43 : Ref sig .tc := ⟨.hbm, 50, rfl⟩
abbrev main_v44 : Ref sig .tc := ⟨.hbm, 51, rfl⟩
abbrev main_cst_4 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_v49 : Ref sig .tc := ⟨.hbm, 58, rfl⟩
abbrev main_cst_6 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_7 : Ref sig .tc := ⟨.hbm, 87, rfl⟩
abbrev main_v77 : Ref sig .tc := ⟨.hbm, 88, rfl⟩
abbrev main_v78 : Ref sig .tc := ⟨.hbm, 89, rfl⟩
abbrev main_cst_8 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_9 : Ref sig .tc := ⟨.hbm, 102, rfl⟩
abbrev main_v90 : Ref sig .tc := ⟨.hbm, 103, rfl⟩
abbrev main_v91 : Ref sig .tc := ⟨.hbm, 104, rfl⟩
abbrev main_cst_10 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_11 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_12 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_13 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_14 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_cst_15 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_16 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_v302 : Ref sig .tc := ⟨.hbm, 325, rfl⟩
abbrev main_v303 : Ref sig .tc := ⟨.hbm, 326, rfl⟩
abbrev main_v304 : Ref sig .tc := ⟨.hbm, 327, rfl⟩
abbrev main_v305 : Ref sig .tc := ⟨.hbm, 328, rfl⟩
abbrev main_v306 : Ref sig .tc := ⟨.hbm, 329, rfl⟩
abbrev main_v307 : Ref sig .tc := ⟨.hbm, 330, rfl⟩
abbrev main_v308 : Ref sig .tc := ⟨.hbm, 331, rfl⟩
abbrev main_v309 : Ref sig .tc := ⟨.hbm, 332, rfl⟩
abbrev main_v310 : Ref sig .tc := ⟨.hbm, 333, rfl⟩
abbrev main_v311 : Ref sig .tc := ⟨.hbm, 334, rfl⟩
abbrev main_v312 : Ref sig .tc := ⟨.hbm, 335, rfl⟩
abbrev main_v313 : Ref sig .tc := ⟨.hbm, 336, rfl⟩
abbrev main_v314 : Ref sig .tc := ⟨.hbm, 337, rfl⟩
abbrev main_v315 : Ref sig .tc := ⟨.hbm, 338, rfl⟩
abbrev main_v316 : Ref sig .tc := ⟨.hbm, 339, rfl⟩
abbrev main_v317 : Ref sig .tc := ⟨.hbm, 340, rfl⟩
abbrev main_v318 : Ref sig .tc := ⟨.hbm, 341, rfl⟩
abbrev main_v319 : Ref sig .tc := ⟨.hbm, 342, rfl⟩
abbrev main_v320 : Ref sig .tc := ⟨.hbm, 343, rfl⟩
abbrev main_v321 : Ref sig .tc := ⟨.hbm, 344, rfl⟩
abbrev main_v322 : Ref sig .tc := ⟨.hbm, 345, rfl⟩
abbrev main_v323 : Ref sig .tc := ⟨.hbm, 346, rfl⟩
abbrev main_v324 : Ref sig .tc := ⟨.hbm, 347, rfl⟩
abbrev main_v325 : Ref sig .tc := ⟨.hbm, 348, rfl⟩
abbrev main_v326 : Ref sig .tc := ⟨.hbm, 349, rfl⟩
abbrev main_v327 : Ref sig .tc := ⟨.hbm, 350, rfl⟩
abbrev main_v328 : Ref sig .tc := ⟨.hbm, 351, rfl⟩
abbrev main_v329 : Ref sig .tc := ⟨.hbm, 352, rfl⟩
abbrev main_v330 : Ref sig .tc := ⟨.hbm, 353, rfl⟩
abbrev main_v331 : Ref sig .tc := ⟨.hbm, 354, rfl⟩
abbrev main_cst_17 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_cst_18 : Ref sig .tc := ⟨.hbm, 371, rfl⟩
abbrev main_v347 : Ref sig .tc := ⟨.hbm, 372, rfl⟩
abbrev main_v348 : Ref sig .tc := ⟨.hbm, 373, rfl⟩
abbrev main_cst_19 : Ref sig .tc := ⟨.hbm, 374, rfl⟩
abbrev main_v349 : Ref sig .tc := ⟨.hbm, 375, rfl⟩
abbrev main_v350 : Ref sig .tc := ⟨.hbm, 376, rfl⟩
abbrev main_v351 : Ref sig .tc := ⟨.hbm, 377, rfl⟩
abbrev main_v352 : Ref sig .tc := ⟨.hbm, 378, rfl⟩
abbrev main_v353 : Ref sig .tc := ⟨.hbm, 379, rfl⟩
abbrev main_cst_20 : Ref sig .tc := ⟨.hbm, 380, rfl⟩
abbrev main_v354 : Ref sig .tc := ⟨.hbm, 381, rfl⟩
abbrev main_v355 : Ref sig .tc := ⟨.hbm, 382, rfl⟩
abbrev main_cst_21 : Ref sig .tc := ⟨.hbm, 383, rfl⟩
abbrev main_v356 : Ref sig .tc := ⟨.hbm, 384, rfl⟩
abbrev main_v357 : Ref sig .tc := ⟨.hbm, 385, rfl⟩
abbrev main_cst_22 : Ref sig .tc := ⟨.hbm, 386, rfl⟩
abbrev main_v358 : Ref sig .tc := ⟨.hbm, 387, rfl⟩
abbrev main_v359 : Ref sig .tc := ⟨.hbm, 388, rfl⟩
abbrev main_v360 : Ref sig .tc := ⟨.hbm, 389, rfl⟩
abbrev main_v361 : Ref sig .tc := ⟨.hbm, 390, rfl⟩
abbrev main_cst_23 : Ref sig .tc := ⟨.hbm, 391, rfl⟩
abbrev main_v362 : Ref sig .tc := ⟨.hbm, 392, rfl⟩
abbrev main_v363 : Ref sig .tc := ⟨.hbm, 393, rfl⟩
abbrev main_v364 : Ref sig .tc := ⟨.hbm, 394, rfl⟩
abbrev main_v365 : Ref sig .tc := ⟨.hbm, 395, rfl⟩
abbrev main_v366 : Ref sig .tc := ⟨.hbm, 396, rfl⟩
abbrev main_call1_v0 : Ref sig .tc := ⟨.hbm, 397, rfl⟩
abbrev main_call1_v1 : Ref sig .tc := ⟨.hbm, 398, rfl⟩
abbrev main_call1_cst : Ref sig .tc := ⟨.hbm, 399, rfl⟩
abbrev main_call1_v2 : Ref sig .tc := ⟨.hbm, 400, rfl⟩
abbrev main_call1_v3 : Ref sig .tc := ⟨.hbm, 401, rfl⟩
abbrev main_call1_cst_0 : Ref sig .tc := ⟨.hbm, 402, rfl⟩
abbrev main_call1_v4 : Ref sig .tc := ⟨.hbm, 403, rfl⟩
abbrev main_v367_2 : Ref sig .tc := ⟨.hbm, 404, rfl⟩
abbrev main_call1_cst_1 : Ref sig .tc := ⟨.hbm, 405, rfl⟩
abbrev main_call1_v6 : Ref sig .tc := ⟨.hbm, 406, rfl⟩
abbrev main_call1_v7 : Ref sig .tc := ⟨.hbm, 407, rfl⟩
abbrev main_v367_1 : Ref sig .tc := ⟨.hbm, 408, rfl⟩
abbrev main_v367_0 : Ref sig .tc := ⟨.hbm, 409, rfl⟩
abbrev main_v368 : Ref sig .tc := ⟨.hbm, 410, rfl⟩
abbrev main_v369 : Ref sig .tc := ⟨.hbm, 411, rfl⟩
abbrev main_v370 : Ref sig .tc := ⟨.hbm, 412, rfl⟩
abbrev main_v371 : Ref sig .tc := ⟨.hbm, 413, rfl⟩
abbrev main_cst_24 : Ref sig .tc := ⟨.hbm, 414, rfl⟩
abbrev main_v372 : Ref sig .tc := ⟨.hbm, 415, rfl⟩
abbrev main_v373 : Ref sig .tc := ⟨.hbm, 416, rfl⟩
abbrev main_v374 : Ref sig .tc := ⟨.hbm, 417, rfl⟩
abbrev main_call2_v0 : Ref sig .tc := ⟨.hbm, 418, rfl⟩
abbrev main_call2_v1 : Ref sig .tc := ⟨.hbm, 419, rfl⟩
abbrev main_call2_v2 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_cst_25 : Ref sig .tc := ⟨.hbm, 424, rfl⟩
abbrev main_v378 : Ref sig .tc := ⟨.hbm, 425, rfl⟩
abbrev main_v379 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_cst_26 : Ref sig .tc := ⟨.hbm, 430, rfl⟩
abbrev main_v383 : Ref sig .tc := ⟨.hbm, 431, rfl⟩
abbrev main_v384 : Ref sig .tc := ⟨.hbm, 432, rfl⟩
abbrev main_cst_27 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_cst_28 : Ref sig .tc := ⟨.hbm, 442, rfl⟩
abbrev main_v393 : Ref sig .tc := ⟨.hbm, 443, rfl⟩
abbrev main_v394 : Ref sig .tc := ⟨.hbm, 444, rfl⟩
abbrev main_cst_29 : Ref sig .tc := ⟨.hbm, 445, rfl⟩
abbrev main_v395 : Ref sig .tc := ⟨.hbm, 446, rfl⟩
abbrev main_v396 : Ref sig .tc := ⟨.hbm, 447, rfl⟩
abbrev main_cst_30 : Ref sig .tc := ⟨.hbm, 448, rfl⟩
abbrev main_v397 : Ref sig .tc := ⟨.hbm, 449, rfl⟩
abbrev main_v398 : Ref sig .tc := ⟨.hbm, 450, rfl⟩
abbrev main_v399 : Ref sig .tc := ⟨.hbm, 451, rfl⟩
abbrev main_v400 : Ref sig .tc := ⟨.hbm, 452, rfl⟩
abbrev main_v401 : Ref sig .tc := ⟨.hbm, 453, rfl⟩
abbrev main_v402 : Ref sig .tc := ⟨.hbm, 454, rfl⟩
abbrev main_v403 : Ref sig .tc := ⟨.hbm, 455, rfl⟩
abbrev main_v404 : Ref sig .tc := ⟨.hbm, 456, rfl⟩
abbrev main_v405 : Ref sig .tc := ⟨.hbm, 457, rfl⟩
abbrev main_v406 : Ref sig .tc := ⟨.hbm, 458, rfl⟩
abbrev main_v407 : Ref sig .tc := ⟨.hbm, 459, rfl⟩
abbrev main_v408 : Ref sig .tc := ⟨.hbm, 460, rfl⟩
abbrev main_v409 : Ref sig .tc := ⟨.hbm, 461, rfl⟩
abbrev main_cst_31 : Ref sig .tc := ⟨.hbm, 462, rfl⟩
abbrev main_v410 : Ref sig .tc := ⟨.hbm, 463, rfl⟩
abbrev main_v411 : Ref sig .tc := ⟨.hbm, 464, rfl⟩
abbrev main_v412 : Ref sig .tc := ⟨.hbm, 465, rfl⟩
abbrev main_cst_32 : Ref sig .tc := ⟨.hbm, 466, rfl⟩
abbrev main_v413 : Ref sig .tc := ⟨.hbm, 467, rfl⟩
abbrev main_v414 : Ref sig .tc := ⟨.hbm, 468, rfl⟩
abbrev main_v415 : Ref sig .tc := ⟨.hbm, 469, rfl⟩
abbrev main_v416 : Ref sig .tc := ⟨.hbm, 470, rfl⟩
abbrev main_v417 : Ref sig .tc := ⟨.hbm, 471, rfl⟩
abbrev main_v418 : Ref sig .tc := ⟨.hbm, 472, rfl⟩
abbrev main_v419 : Ref sig .tc := ⟨.hbm, 473, rfl⟩
abbrev main_v420 : Ref sig .tc := ⟨.hbm, 474, rfl⟩
abbrev main_v421 : Ref sig .tc := ⟨.hbm, 475, rfl⟩
abbrev main_v422 : Ref sig .tc := ⟨.hbm, 476, rfl⟩
abbrev main_v423 : Ref sig .tc := ⟨.hbm, 477, rfl⟩
abbrev main_v424 : Ref sig .tc := ⟨.hbm, 478, rfl⟩
abbrev main_v425 : Ref sig .tc := ⟨.hbm, 479, rfl⟩
abbrev main_v426 : Ref sig .tc := ⟨.hbm, 480, rfl⟩
abbrev main_v427 : Ref sig .tc := ⟨.hbm, 481, rfl⟩
abbrev main_v428 : Ref sig .tc := ⟨.hbm, 482, rfl⟩
abbrev main_v429 : Ref sig .tc := ⟨.hbm, 483, rfl⟩
abbrev main_v430 : Ref sig .tc := ⟨.hbm, 484, rfl⟩
abbrev main_v431 : Ref sig .tc := ⟨.hbm, 485, rfl⟩
abbrev main_v432 : Ref sig .tc := ⟨.hbm, 486, rfl⟩
abbrev main_v433 : Ref sig .tc := ⟨.hbm, 487, rfl⟩
abbrev main_v434 : Ref sig .tc := ⟨.hbm, 488, rfl⟩
abbrev main_v435 : Ref sig .tc := ⟨.hbm, 489, rfl⟩
abbrev main_v436 : Ref sig .tc := ⟨.hbm, 490, rfl⟩
abbrev main_v437 : Ref sig .tc := ⟨.hbm, 491, rfl⟩
abbrev main_v438 : Ref sig .tc := ⟨.hbm, 492, rfl⟩
abbrev main_v439 : Ref sig .tc := ⟨.hbm, 493, rfl⟩
abbrev main_v440 : Ref sig .tc := ⟨.hbm, 494, rfl⟩
abbrev main_v441 : Ref sig .tc := ⟨.hbm, 495, rfl⟩
abbrev main_v442 : Ref sig .tc := ⟨.hbm, 496, rfl⟩
abbrev main_v443 : Ref sig .tc := ⟨.hbm, 497, rfl⟩
abbrev main_v444 : Ref sig .tc := ⟨.hbm, 498, rfl⟩
abbrev main_v445 : Ref sig .tc := ⟨.hbm, 499, rfl⟩
abbrev main_v446 : Ref sig .tc := ⟨.hbm, 500, rfl⟩
abbrev main_v447 : Ref sig .tc := ⟨.hbm, 501, rfl⟩
abbrev main_v448 : Ref sig .tc := ⟨.hbm, 502, rfl⟩
abbrev main_v449 : Ref sig .tc := ⟨.hbm, 503, rfl⟩
abbrev main_v450 : Ref sig .tc := ⟨.hbm, 504, rfl⟩
abbrev main_v451 : Ref sig .tc := ⟨.hbm, 505, rfl⟩
abbrev main_v452 : Ref sig .tc := ⟨.hbm, 506, rfl⟩
abbrev main_v453 : Ref sig .tc := ⟨.hbm, 507, rfl⟩
abbrev main_v454 : Ref sig .tc := ⟨.hbm, 508, rfl⟩
abbrev main_v455 : Ref sig .tc := ⟨.hbm, 509, rfl⟩
abbrev main_v456 : Ref sig .tc := ⟨.hbm, 510, rfl⟩
abbrev main_v457 : Ref sig .tc := ⟨.hbm, 511, rfl⟩
abbrev main_v458 : Ref sig .tc := ⟨.hbm, 512, rfl⟩
abbrev main_v459 : Ref sig .tc := ⟨.hbm, 513, rfl⟩
abbrev main_v460 : Ref sig .tc := ⟨.hbm, 514, rfl⟩
abbrev main_v461 : Ref sig .tc := ⟨.hbm, 515, rfl⟩
abbrev main_v462 : Ref sig .tc := ⟨.hbm, 516, rfl⟩
abbrev main_v463 : Ref sig .tc := ⟨.hbm, 517, rfl⟩
abbrev main_v464 : Ref sig .tc := ⟨.hbm, 518, rfl⟩
abbrev main_v465 : Ref sig .tc := ⟨.hbm, 519, rfl⟩
abbrev main_v466 : Ref sig .tc := ⟨.hbm, 520, rfl⟩
abbrev main_v467 : Ref sig .tc := ⟨.hbm, 521, rfl⟩
abbrev main_v468 : Ref sig .tc := ⟨.hbm, 522, rfl⟩
abbrev main_v469 : Ref sig .tc := ⟨.hbm, 523, rfl⟩
abbrev main_v470 : Ref sig .tc := ⟨.hbm, 524, rfl⟩
abbrev main_v471 : Ref sig .tc := ⟨.hbm, 525, rfl⟩
abbrev main_v472 : Ref sig .tc := ⟨.hbm, 526, rfl⟩
abbrev main_v473 : Ref sig .tc := ⟨.hbm, 527, rfl⟩
abbrev main_v474 : Ref sig .tc := ⟨.hbm, 528, rfl⟩
abbrev main_v475 : Ref sig .tc := ⟨.hbm, 529, rfl⟩
abbrev main_v476 : Ref sig .tc := ⟨.hbm, 530, rfl⟩
abbrev main_v477 : Ref sig .tc := ⟨.hbm, 531, rfl⟩
abbrev main_v478 : Ref sig .tc := ⟨.hbm, 532, rfl⟩
abbrev main_v479 : Ref sig .tc := ⟨.hbm, 533, rfl⟩
abbrev main_v480 : Ref sig .tc := ⟨.hbm, 534, rfl⟩
abbrev main_v481 : Ref sig .tc := ⟨.hbm, 535, rfl⟩
abbrev main_v482 : Ref sig .tc := ⟨.hbm, 536, rfl⟩
abbrev main_v483 : Ref sig .tc := ⟨.hbm, 537, rfl⟩
abbrev main_v484 : Ref sig .tc := ⟨.hbm, 538, rfl⟩
abbrev main_v485 : Ref sig .tc := ⟨.hbm, 539, rfl⟩
abbrev main_v486 : Ref sig .tc := ⟨.hbm, 540, rfl⟩
abbrev main_v487 : Ref sig .tc := ⟨.hbm, 541, rfl⟩
abbrev main_v488 : Ref sig .tc := ⟨.hbm, 542, rfl⟩
abbrev main_v489 : Ref sig .tc := ⟨.hbm, 543, rfl⟩
abbrev main_v490 : Ref sig .tc := ⟨.hbm, 544, rfl⟩
abbrev main_v491 : Ref sig .tc := ⟨.hbm, 545, rfl⟩
abbrev main_v492 : Ref sig .tc := ⟨.hbm, 546, rfl⟩
abbrev main_v493 : Ref sig .tc := ⟨.hbm, 547, rfl⟩
abbrev main_v494 : Ref sig .tc := ⟨.hbm, 548, rfl⟩
abbrev main_v495 : Ref sig .tc := ⟨.hbm, 549, rfl⟩
abbrev main_v496 : Ref sig .tc := ⟨.hbm, 550, rfl⟩
abbrev main_v497 : Ref sig .tc := ⟨.hbm, 551, rfl⟩
abbrev main_v498 : Ref sig .tc := ⟨.hbm, 552, rfl⟩
abbrev main_v499 : Ref sig .tc := ⟨.hbm, 553, rfl⟩
abbrev main_v500 : Ref sig .tc := ⟨.hbm, 554, rfl⟩
abbrev main_v501 : Ref sig .tc := ⟨.hbm, 555, rfl⟩
abbrev main_v502 : Ref sig .tc := ⟨.hbm, 556, rfl⟩
abbrev main_v503 : Ref sig .tc := ⟨.hbm, 557, rfl⟩
abbrev main_v504 : Ref sig .tc := ⟨.hbm, 558, rfl⟩
abbrev main_v505 : Ref sig .tc := ⟨.hbm, 559, rfl⟩
abbrev main_v506 : Ref sig .tc := ⟨.hbm, 560, rfl⟩
abbrev main_v507 : Ref sig .tc := ⟨.hbm, 561, rfl⟩
abbrev main_v508 : Ref sig .tc := ⟨.hbm, 562, rfl⟩
abbrev main_v509 : Ref sig .tc := ⟨.hbm, 563, rfl⟩
abbrev main_v510 : Ref sig .tc := ⟨.hbm, 564, rfl⟩
abbrev main_v511 : Ref sig .tc := ⟨.hbm, 565, rfl⟩
abbrev main_v512 : Ref sig .tc := ⟨.hbm, 566, rfl⟩
abbrev main_v513 : Ref sig .tc := ⟨.hbm, 567, rfl⟩
abbrev main_v514 : Ref sig .tc := ⟨.hbm, 568, rfl⟩
abbrev main_v515 : Ref sig .tc := ⟨.hbm, 569, rfl⟩
abbrev main_v516 : Ref sig .tc := ⟨.hbm, 570, rfl⟩
abbrev main_v517 : Ref sig .tc := ⟨.hbm, 571, rfl⟩
abbrev main_v518 : Ref sig .tc := ⟨.hbm, 572, rfl⟩
abbrev main_v519 : Ref sig .tc := ⟨.hbm, 573, rfl⟩
abbrev main_v520 : Ref sig .tc := ⟨.hbm, 574, rfl⟩
abbrev main_v521 : Ref sig .tc := ⟨.hbm, 575, rfl⟩
abbrev main_v522 : Ref sig .tc := ⟨.hbm, 576, rfl⟩
abbrev main_v523 : Ref sig .tc := ⟨.hbm, 577, rfl⟩
abbrev main_v524 : Ref sig .tc := ⟨.hbm, 578, rfl⟩
abbrev main_v525 : Ref sig .tc := ⟨.hbm, 579, rfl⟩
abbrev main_v526 : Ref sig .tc := ⟨.hbm, 580, rfl⟩
abbrev main_v527 : Ref sig .tc := ⟨.hbm, 581, rfl⟩
abbrev main_v528 : Ref sig .tc := ⟨.hbm, 582, rfl⟩
abbrev main_v529 : Ref sig .tc := ⟨.hbm, 583, rfl⟩
abbrev main_v530 : Ref sig .tc := ⟨.hbm, 584, rfl⟩
abbrev main_v531 : Ref sig .tc := ⟨.hbm, 585, rfl⟩
abbrev main_v532 : Ref sig .tc := ⟨.hbm, 586, rfl⟩
abbrev main_v533 : Ref sig .tc := ⟨.hbm, 587, rfl⟩
abbrev main_v534 : Ref sig .tc := ⟨.hbm, 588, rfl⟩
abbrev main_v535 : Ref sig .tc := ⟨.hbm, 589, rfl⟩
abbrev main_v536 : Ref sig .tc := ⟨.hbm, 590, rfl⟩
abbrev main_v537 : Ref sig .tc := ⟨.hbm, 591, rfl⟩
abbrev main_v538 : Ref sig .tc := ⟨.hbm, 592, rfl⟩
abbrev main_v539 : Ref sig .tc := ⟨.hbm, 593, rfl⟩
abbrev main_v540 : Ref sig .tc := ⟨.hbm, 594, rfl⟩
abbrev main_v541 : Ref sig .tc := ⟨.hbm, 595, rfl⟩
abbrev main_v542 : Ref sig .tc := ⟨.hbm, 596, rfl⟩
abbrev main_v543 : Ref sig .tc := ⟨.hbm, 597, rfl⟩
abbrev main_v544 : Ref sig .tc := ⟨.hbm, 598, rfl⟩
abbrev main_v545 : Ref sig .tc := ⟨.hbm, 599, rfl⟩
abbrev main_v546 : Ref sig .tc := ⟨.hbm, 600, rfl⟩
abbrev main_v547 : Ref sig .tc := ⟨.hbm, 601, rfl⟩
abbrev main_v548 : Ref sig .tc := ⟨.hbm, 602, rfl⟩
abbrev main_v549 : Ref sig .tc := ⟨.hbm, 603, rfl⟩
abbrev main_v550 : Ref sig .tc := ⟨.hbm, 604, rfl⟩
abbrev main_v551 : Ref sig .tc := ⟨.hbm, 605, rfl⟩
abbrev main_v552 : Ref sig .tc := ⟨.hbm, 606, rfl⟩
abbrev main_v553 : Ref sig .tc := ⟨.hbm, 607, rfl⟩
abbrev main_v554 : Ref sig .tc := ⟨.hbm, 608, rfl⟩
abbrev main_v555 : Ref sig .tc := ⟨.hbm, 609, rfl⟩
abbrev main_v556 : Ref sig .tc := ⟨.hbm, 610, rfl⟩
abbrev main_v557 : Ref sig .tc := ⟨.hbm, 611, rfl⟩
abbrev main_v558 : Ref sig .tc := ⟨.hbm, 612, rfl⟩
abbrev main_v559 : Ref sig .tc := ⟨.hbm, 613, rfl⟩
abbrev main_v560 : Ref sig .tc := ⟨.hbm, 614, rfl⟩
abbrev main_v561 : Ref sig .tc := ⟨.hbm, 615, rfl⟩
abbrev main_v562 : Ref sig .tc := ⟨.hbm, 616, rfl⟩
abbrev main_v563 : Ref sig .tc := ⟨.hbm, 617, rfl⟩
abbrev main_v564 : Ref sig .tc := ⟨.hbm, 618, rfl⟩
abbrev main_v565 : Ref sig .tc := ⟨.hbm, 619, rfl⟩
abbrev main_v566 : Ref sig .tc := ⟨.hbm, 620, rfl⟩
abbrev main_v567 : Ref sig .tc := ⟨.hbm, 621, rfl⟩
abbrev main_v568 : Ref sig .tc := ⟨.hbm, 622, rfl⟩
abbrev main_v569 : Ref sig .tc := ⟨.hbm, 623, rfl⟩
abbrev main_v570 : Ref sig .tc := ⟨.hbm, 624, rfl⟩
abbrev main_v571 : Ref sig .tc := ⟨.hbm, 625, rfl⟩
abbrev main_v572 : Ref sig .tc := ⟨.hbm, 626, rfl⟩
abbrev main_v573 : Ref sig .tc := ⟨.hbm, 627, rfl⟩
abbrev main_v574 : Ref sig .tc := ⟨.hbm, 628, rfl⟩
abbrev main_v575 : Ref sig .tc := ⟨.hbm, 629, rfl⟩
abbrev main_v576 : Ref sig .tc := ⟨.hbm, 630, rfl⟩
abbrev main_v577 : Ref sig .tc := ⟨.hbm, 631, rfl⟩
abbrev main_v578 : Ref sig .tc := ⟨.hbm, 632, rfl⟩
abbrev main_v579 : Ref sig .tc := ⟨.hbm, 633, rfl⟩
abbrev main_v580 : Ref sig .tc := ⟨.hbm, 634, rfl⟩
abbrev main_v581 : Ref sig .tc := ⟨.hbm, 635, rfl⟩
abbrev main_v582 : Ref sig .tc := ⟨.hbm, 636, rfl⟩
abbrev main_v583 : Ref sig .tc := ⟨.hbm, 637, rfl⟩
abbrev main_v584 : Ref sig .tc := ⟨.hbm, 638, rfl⟩
abbrev main_v585 : Ref sig .tc := ⟨.hbm, 639, rfl⟩
abbrev main_v586 : Ref sig .tc := ⟨.hbm, 640, rfl⟩
abbrev main_v587 : Ref sig .tc := ⟨.hbm, 641, rfl⟩
abbrev main_v588 : Ref sig .tc := ⟨.hbm, 642, rfl⟩
abbrev main_v589 : Ref sig .tc := ⟨.hbm, 643, rfl⟩
abbrev main_v590 : Ref sig .tc := ⟨.hbm, 644, rfl⟩
abbrev main_v591 : Ref sig .tc := ⟨.hbm, 645, rfl⟩
abbrev main_v592 : Ref sig .tc := ⟨.hbm, 646, rfl⟩
abbrev main_v593 : Ref sig .tc := ⟨.hbm, 647, rfl⟩
abbrev main_v594 : Ref sig .tc := ⟨.hbm, 648, rfl⟩
abbrev main_v595 : Ref sig .tc := ⟨.hbm, 649, rfl⟩
abbrev main_v596 : Ref sig .tc := ⟨.hbm, 650, rfl⟩
abbrev main_v597 : Ref sig .tc := ⟨.hbm, 651, rfl⟩
abbrev main_v598 : Ref sig .tc := ⟨.hbm, 652, rfl⟩
abbrev main_v599 : Ref sig .tc := ⟨.hbm, 653, rfl⟩
abbrev main_v600 : Ref sig .tc := ⟨.hbm, 654, rfl⟩
abbrev main_v601 : Ref sig .tc := ⟨.hbm, 655, rfl⟩
abbrev main_v602 : Ref sig .tc := ⟨.hbm, 656, rfl⟩
abbrev main_v603 : Ref sig .tc := ⟨.hbm, 657, rfl⟩
abbrev main_v604 : Ref sig .tc := ⟨.hbm, 658, rfl⟩
abbrev main_v605 : Ref sig .tc := ⟨.hbm, 659, rfl⟩
abbrev main_v606 : Ref sig .tc := ⟨.hbm, 660, rfl⟩
abbrev main_v607 : Ref sig .tc := ⟨.hbm, 661, rfl⟩
abbrev main_v608 : Ref sig .tc := ⟨.hbm, 662, rfl⟩
abbrev main_v609 : Ref sig .tc := ⟨.hbm, 663, rfl⟩
abbrev main_v610 : Ref sig .tc := ⟨.hbm, 664, rfl⟩
abbrev main_v611 : Ref sig .tc := ⟨.hbm, 665, rfl⟩
abbrev main_v612 : Ref sig .tc := ⟨.hbm, 666, rfl⟩
abbrev main_v613 : Ref sig .tc := ⟨.hbm, 667, rfl⟩
abbrev main_v614 : Ref sig .tc := ⟨.hbm, 668, rfl⟩
abbrev main_v615 : Ref sig .tc := ⟨.hbm, 669, rfl⟩
abbrev main_v616 : Ref sig .tc := ⟨.hbm, 670, rfl⟩
abbrev main_v617 : Ref sig .tc := ⟨.hbm, 671, rfl⟩
abbrev main_v618 : Ref sig .tc := ⟨.hbm, 672, rfl⟩
abbrev main_v619 : Ref sig .tc := ⟨.hbm, 673, rfl⟩
abbrev main_v620 : Ref sig .tc := ⟨.hbm, 674, rfl⟩
abbrev main_v621 : Ref sig .tc := ⟨.hbm, 675, rfl⟩
abbrev main_v622 : Ref sig .tc := ⟨.hbm, 676, rfl⟩
abbrev main_v623 : Ref sig .tc := ⟨.hbm, 677, rfl⟩
abbrev main_v624 : Ref sig .tc := ⟨.hbm, 678, rfl⟩
abbrev main_v625 : Ref sig .tc := ⟨.hbm, 679, rfl⟩
abbrev main_v626 : Ref sig .tc := ⟨.hbm, 680, rfl⟩
abbrev main_v627 : Ref sig .tc := ⟨.hbm, 681, rfl⟩
abbrev main_v628 : Ref sig .tc := ⟨.hbm, 682, rfl⟩
abbrev main_v629 : Ref sig .tc := ⟨.hbm, 683, rfl⟩
abbrev main_v630 : Ref sig .tc := ⟨.hbm, 684, rfl⟩
abbrev main_cst_33 : Ref sig .tc := ⟨.hbm, 685, rfl⟩
abbrev main_v631 : Ref sig .tc := ⟨.hbm, 686, rfl⟩
abbrev main_v632 : Ref sig .tc := ⟨.hbm, 687, rfl⟩
abbrev main_v633 : Ref sig .tc := ⟨.hbm, 688, rfl⟩
abbrev main_v634 : Ref sig .tc := ⟨.hbm, 689, rfl⟩
abbrev main_v635 : Ref sig .tc := ⟨.hbm, 690, rfl⟩
abbrev main_v636 : Ref sig .tc := ⟨.hbm, 691, rfl⟩
abbrev main_v637 : Ref sig .tc := ⟨.hbm, 692, rfl⟩
abbrev main_v638 : Ref sig .tc := ⟨.hbm, 693, rfl⟩
abbrev main_v639 : Ref sig .tc := ⟨.hbm, 694, rfl⟩
abbrev main_v640 : Ref sig .tc := ⟨.hbm, 695, rfl⟩
abbrev main_v641 : Ref sig .tc := ⟨.hbm, 696, rfl⟩
abbrev main_v642 : Ref sig .tc := ⟨.hbm, 697, rfl⟩
abbrev main_v643 : Ref sig .tc := ⟨.hbm, 698, rfl⟩
abbrev main_v644 : Ref sig .tc := ⟨.hbm, 699, rfl⟩
abbrev main_v645 : Ref sig .tc := ⟨.hbm, 700, rfl⟩
abbrev main_v646 : Ref sig .tc := ⟨.hbm, 701, rfl⟩
abbrev main_v647 : Ref sig .tc := ⟨.hbm, 702, rfl⟩
abbrev main_v648 : Ref sig .tc := ⟨.hbm, 703, rfl⟩
abbrev main_cst_34 : Ref sig .tc := ⟨.hbm, 704, rfl⟩
abbrev main_v649 : Ref sig .tc := ⟨.hbm, 705, rfl⟩
abbrev main_cst_35 : Ref sig .tc := ⟨.hbm, 706, rfl⟩
abbrev main_v650 : Ref sig .tc := ⟨.hbm, 707, rfl⟩
abbrev main_v651 : Ref sig .tc := ⟨.hbm, 708, rfl⟩
abbrev main_v652 : Ref sig .tc := ⟨.hbm, 709, rfl⟩
abbrev main_v653 : Ref sig .tc := ⟨.hbm, 710, rfl⟩
abbrev main_v654 : Ref sig .tc := ⟨.hbm, 711, rfl⟩
abbrev main_v655 : Ref sig .tc := ⟨.hbm, 712, rfl⟩
abbrev main_v656 : Ref sig .tc := ⟨.hbm, 713, rfl⟩
abbrev main_v657 : Ref sig .tc := ⟨.hbm, 714, rfl⟩
abbrev main_v658 : Ref sig .tc := ⟨.hbm, 715, rfl⟩
abbrev main_v659 : Ref sig .tc := ⟨.hbm, 716, rfl⟩
abbrev main_v660 : Ref sig .tc := ⟨.hbm, 717, rfl⟩
abbrev main_v661 : Ref sig .tc := ⟨.hbm, 718, rfl⟩
abbrev main_v662 : Ref sig .tc := ⟨.hbm, 719, rfl⟩
abbrev main_v663 : Ref sig .tc := ⟨.hbm, 720, rfl⟩
abbrev main_v664 : Ref sig .tc := ⟨.hbm, 721, rfl⟩
abbrev main_v665 : Ref sig .tc := ⟨.hbm, 722, rfl⟩
abbrev main_cst_36 : Ref sig .tc := ⟨.hbm, 723, rfl⟩
abbrev main_v666 : Ref sig .tc := ⟨.hbm, 724, rfl⟩
abbrev main_cst_37 : Ref sig .tc := ⟨.hbm, 725, rfl⟩
abbrev main_v667 : Ref sig .tc := ⟨.hbm, 726, rfl⟩
abbrev main_v668 : Ref sig .tc := ⟨.hbm, 727, rfl⟩
abbrev main_v669 : Ref sig .tc := ⟨.hbm, 728, rfl⟩
abbrev main_v670 : Ref sig .tc := ⟨.hbm, 729, rfl⟩
abbrev main_v671 : Ref sig .tc := ⟨.hbm, 730, rfl⟩
abbrev main_v672 : Ref sig .tc := ⟨.hbm, 731, rfl⟩
abbrev main_v673 : Ref sig .tc := ⟨.hbm, 732, rfl⟩
abbrev main_v674 : Ref sig .tc := ⟨.hbm, 733, rfl⟩
abbrev main_v675 : Ref sig .tc := ⟨.hbm, 734, rfl⟩
abbrev main_v676 : Ref sig .tc := ⟨.hbm, 735, rfl⟩
abbrev main_v677 : Ref sig .tc := ⟨.hbm, 736, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpIdeal.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpPlainIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDx.lean ====
abbrev S4096x1024 : Shape := ⟨2, ![4096, 1024]⟩
abbrev S1024x5632 : Shape := ⟨2, ![1024, 5632]⟩
abbrev S4096x5632 : Shape := ⟨2, ![4096, 5632]⟩
abbrev S512x5632 : Shape := ⟨2, ![512, 5632]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDxIdeal.lean ====
abbrev S4096x1024 : Shape := ⟨2, ![4096, 1024]⟩
abbrev S1024x5632 : Shape := ⟨2, ![1024, 5632]⟩
abbrev S4096x5632 : Shape := ⟨2, ![4096, 5632]⟩
abbrev S512x5632 : Shape := ⟨2, ![512, 5632]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDxPlainIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S4096x1024 : Shape := ⟨2, ![4096, 1024]⟩
abbrev S1024x5632 : Shape := ⟨2, ![1024, 5632]⟩
abbrev S4096x5632 : Shape := ⟨2, ![4096, 5632]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S1024x5632, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwIdeal.lean ====
abbrev S4096x1024 : Shape := ⟨2, ![4096, 1024]⟩
abbrev S1024x5632 : Shape := ⟨2, ![1024, 5632]⟩
abbrev S4096x5632 : Shape := ⟨2, ![4096, 5632]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S1024x5632, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwPlainIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownPlainIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDx.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxIdeal.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxPlainIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4096x2816, .f32⟩
  | .hbm, ⟨9, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S4096x2816 : Shape := ⟨2, ![4096, 2816]⟩
abbrev S2816x1024 : Shape := ⟨2, ![2816, 1024]⟩
abbrev S4096x1024 : Shape := ⟨2, ![4096, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .f32⟩
  | .local _ .vmem, ⟨3, _⟩ => ⟨S4096x512, .f32⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwIdeal.lean ====
abbrev S4096x2816 : Shape := ⟨2, ![4096, 2816]⟩
abbrev S2816x1024 : Shape := ⟨2, ![2816, 1024]⟩
abbrev S4096x1024 : Shape := ⟨2, ![4096, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .f32⟩
  | .local _ .vmem, ⟨3, _⟩ => ⟨S4096x512, .f32⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwPlainIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4096x2816, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenIn.lean ====
abbrev S4096x1024 : Shape := ⟨2, ![4096, 1024]⟩
abbrev S1024x5760 : Shape := ⟨2, ![1024, 5760]⟩
abbrev S4096x5760 : Shape := ⟨2, ![4096, 5760]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInIdeal.lean ====
abbrev S4096x1024 : Shape := ⟨2, ![4096, 1024]⟩
abbrev S1024x5760 : Shape := ⟨2, ![1024, 5760]⟩
abbrev S4096x5760 : Shape := ⟨2, ![4096, 5760]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInPlainIdeal.lean ====
abbrev S4096x1024 : Shape := ⟨2, ![4096, 1024]⟩
abbrev S1024x5760 : Shape := ⟨2, ![1024, 5760]⟩
abbrev S4096x5760 : Shape := ⟨2, ![4096, 5760]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x1024, .f32⟩
  | .hbm, ⟨3, _⟩ => ⟨S1024x5760, .f32⟩
  | .hbm, ⟨4, _⟩ => ⟨S4096x5760, .f32⟩
  | .hbm, ⟨5, _⟩ => ⟨S4096x5760, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenInDx.lean ====
abbrev S4096x1024 : Shape := ⟨2, ![4096, 1024]⟩
abbrev S1024x5760 : Shape := ⟨2, ![1024, 5760]⟩
abbrev S4096x5760 : Shape := ⟨2, ![4096, 5760]⟩
abbrev S512x5760 : Shape := ⟨2, ![512, 5760]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .bf16⟩
  | .hbm, ⟨3, _⟩ => ⟨S4096x1024, .f32⟩
  | .local _ .vmem, ⟨0, _⟩ => ⟨S512x5760, .bf16⟩
  | .local _ .vmem, ⟨1, _⟩ => ⟨S512x5760, .bf16⟩
  | .local _ .vmem, ⟨2, _⟩ => ⟨S1024x5760, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInDxIdeal.lean ====
abbrev S4096x1024 : Shape := ⟨2, ![4096, 1024]⟩
abbrev S1024x5760 : Shape := ⟨2, ![1024, 5760]⟩
abbrev S4096x5760 : Shape := ⟨2, ![4096, 5760]⟩
abbrev S512x5760 : Shape := ⟨2, ![512, 5760]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .bf16⟩
  | .hbm, ⟨3, _⟩ => ⟨S4096x1024, .f32⟩
  | .local _ .vmem, ⟨0, _⟩ => ⟨S512x5760, .bf16⟩
  | .local _ .vmem, ⟨1, _⟩ => ⟨S512x5760, .bf16⟩
  | .local _ .vmem, ⟨2, _⟩ => ⟨S1024x5760, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInDxPlainIdeal.lean ====
abbrev S4096x1024 : Shape := ⟨2, ![4096, 1024]⟩
abbrev S1024x5760 : Shape := ⟨2, ![1024, 5760]⟩
abbrev S4096x5760 : Shape := ⟨2, ![4096, 5760]⟩
abbrev S5760x1024 : Shape := ⟨2, ![5760, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .bf16⟩
  | .hbm, ⟨3, _⟩ => ⟨S4096x1024, .f32⟩
  | .hbm, ⟨4, _⟩ => ⟨S1024x5760, .f32⟩
  | .hbm, ⟨5, _⟩ => ⟨S4096x5760, .f32⟩
  | .hbm, ⟨6, _⟩ => ⟨S4096x5760, .f32⟩
  | .hbm, ⟨7, _⟩ => ⟨S5760x1024, .f32⟩
  | .hbm, ⟨8, _⟩ => ⟨S1024x5760, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenInDw.lean ====
abbrev S4096x1024 : Shape := ⟨2, ![4096, 1024]⟩
abbrev S1024x5760 : Shape := ⟨2, ![1024, 5760]⟩
abbrev S4096x5760 : Shape := ⟨2, ![4096, 5760]⟩
abbrev S4096x1152 : Shape := ⟨2, ![4096, 1152]⟩
abbrev S1024x1152 : Shape := ⟨2, ![1024, 1152]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .bf16⟩
  | .hbm, ⟨3, _⟩ => ⟨S1024x5760, .f32⟩
  | .local _ .vmem, ⟨0, _⟩ => ⟨S4096x1024, .bf16⟩
  | .local _ .vmem, ⟨1, _⟩ => ⟨S4096x1152, .bf16⟩
  | .local _ .vmem, ⟨2, _⟩ => ⟨S4096x1152, .bf16⟩
  | .local _ .vmem, ⟨3, _⟩ => ⟨S1024x1152, .f32⟩
  | .local _ .vmem, ⟨4, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInDwIdeal.lean ====
abbrev S4096x1024 : Shape := ⟨2, ![4096, 1024]⟩
abbrev S1024x5760 : Shape := ⟨2, ![1024, 5760]⟩
abbrev S4096x5760 : Shape := ⟨2, ![4096, 5760]⟩
abbrev S4096x1152 : Shape := ⟨2, ![4096, 1152]⟩
abbrev S1024x1152 : Shape := ⟨2, ![1024, 1152]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .bf16⟩
  | .hbm, ⟨3, _⟩ => ⟨S1024x5760, .f32⟩
  | .local _ .vmem, ⟨0, _⟩ => ⟨S4096x1024, .bf16⟩
  | .local _ .vmem, ⟨1, _⟩ => ⟨S4096x1152, .bf16⟩
  | .local _ .vmem, ⟨2, _⟩ => ⟨S4096x1152, .bf16⟩
  | .local _ .vmem, ⟨3, _⟩ => ⟨S1024x1152, .f32⟩
  | .local _ .vmem, ⟨4, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInDwPlainIdeal.lean ====
abbrev S4096x1024 : Shape := ⟨2, ![4096, 1024]⟩
abbrev S1024x5760 : Shape := ⟨2, ![1024, 5760]⟩
abbrev S4096x5760 : Shape := ⟨2, ![4096, 5760]⟩
abbrev S5760x1024 : Shape := ⟨2, ![5760, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .bf16⟩
  | .hbm, ⟨3, _⟩ => ⟨S4096x1024, .f32⟩
  | .hbm, ⟨4, _⟩ => ⟨S1024x5760, .f32⟩
  | .hbm, ⟨5, _⟩ => ⟨S4096x5760, .f32⟩
  | .hbm, ⟨6, _⟩ => ⟨S4096x5760, .f32⟩
  | .hbm, ⟨7, _⟩ => ⟨S5760x1024, .f32⟩
  | .hbm, ⟨8, _⟩ => ⟨S1024x5760, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenOut.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenOutIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenOutPlainIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenOutDx.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenOutDxIdeal.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenOutDxPlainIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenOutDw.lean ====
abbrev S4096x2048 : Shape := ⟨2, ![4096, 2048]⟩
abbrev S2048x1024 : Shape := ⟨2, ![2048, 1024]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .f32⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenOutDwIdeal.lean ====
abbrev S4096x2048 : Shape := ⟨2, ![4096, 2048]⟩
abbrev S2048x1024 : Shape := ⟨2, ![2048, 1024]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .f32⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenOutDwPlainIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddIn.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInIdeal.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInPlainIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddInDx.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInDxIdeal.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInDxPlainIdeal.lean ====
abbrev S4096x1024 : Shape := ⟨2, ![4096, 1024]⟩
abbrev S1024x1536 : Shape := ⟨2, ![1024, 1536]⟩
abbrev S4096x1536 : Shape := ⟨2, ![4096, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .hbm, ⟨3, _⟩ => ⟨S4096x1024, .f32⟩
  | .hbm, ⟨4, _⟩ => ⟨S1024x1536, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddInDw.lean ====
abbrev S4096x1024 : Shape := ⟨2, ![4096, 1024]⟩
abbrev S1024x1536 : Shape := ⟨2, ![1024, 1536]⟩
abbrev S4096x1536 : Shape := ⟨2, ![4096, 1536]⟩
abbrev S4096x768 : Shape := ⟨2, ![4096, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .hbm, ⟨3, _⟩ => ⟨S1024x1536, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInDwIdeal.lean ====
abbrev S4096x1024 : Shape := ⟨2, ![4096, 1024]⟩
abbrev S1024x1536 : Shape := ⟨2, ![1024, 1536]⟩
abbrev S4096x1536 : Shape := ⟨2, ![4096, 1536]⟩
abbrev S4096x768 : Shape := ⟨2, ![4096, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .hbm, ⟨3, _⟩ => ⟨S1024x1536, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInDwPlainIdeal.lean ====
abbrev S4096x1024 : Shape := ⟨2, ![4096, 1024]⟩
abbrev S1024x1536 : Shape := ⟨2, ![1024, 1536]⟩
abbrev S4096x1536 : Shape := ⟨2, ![4096, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .hbm, ⟨3, _⟩ => ⟨S4096x1024, .f32⟩
  | .hbm, ⟨4, _⟩ => ⟨S1024x1536, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddOut.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutPlainIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OddOutDx.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddOutDxPlainIdeal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddOutDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .f32⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddOutDwPlainIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamNorms.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsPlainIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamEvenIn.lean ====
abbrev S1x1024x1412 : Shape := ⟨3, ![1, 1024, 1412]⟩
abbrev S1024x1412 : Shape := ⟨2, ![1024, 1412]⟩
abbrev S256x1412 : Shape := ⟨2, ![256, 1412]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1412, .f32⟩
  | .hbm, ⟨1, _⟩ => ⟨S1x1024x1412, .f32⟩
  | .hbm, ⟨2, _⟩ => ⟨S1x1024x1412, .f32⟩
  | .hbm, ⟨3, _⟩ => ⟨S1x1024x1412, .f32⟩
  | .hbm, ⟨4, _⟩ => ⟨S1024x1412, .f32⟩
  | .hbm, ⟨5, _⟩ => ⟨S1024x1412, .f32⟩
  | .hbm, ⟨6, _⟩ => ⟨S1024x1412, .f32⟩
  | .hbm, ⟨7, _⟩ => ⟨S1024x1412, .f32⟩
  | .hbm, ⟨8, _⟩ => ⟨S1024x1412, .f32⟩
  | .hbm, ⟨9, _⟩ => ⟨S1024x1412, .f32⟩
  | .hbm, ⟨10, _⟩ => ⟨S1024x1412, .f32⟩
  | .local _ .vmem, ⟨0, _⟩ => ⟨S256x1412, .f32⟩
  | .local _ .vmem, ⟨1, _⟩ => ⟨S256x1412, .f32⟩
  | .local _ .vmem, ⟨2, _⟩ => ⟨S256x1412, .f32⟩
  | .local _ .vmem, ⟨3, _⟩ => ⟨S256x1412, .f32⟩
  | .local _ .vmem, ⟨4, _⟩ => ⟨S256x1412, .f32⟩
  | .local _ .vmem, ⟨5, _⟩ => ⟨S256x1412, .f32⟩
  | .local _ .vmem, ⟨6, _⟩ => ⟨S256x1412, .f32⟩
  | .local _ .vmem, ⟨7, _⟩ => ⟨S256x1412, .f32⟩
  | .local _ .vmem, ⟨8, _⟩ => ⟨S256x1412, .f32⟩
  | .local _ .vmem, ⟨9, _⟩ => ⟨S256x1412, .f32⟩
  | .local _ .vmem, ⟨10, _⟩ => ⟨S256x1412, .f32⟩
  | .local _ .vmem, ⟨11, _⟩ => ⟨S256x1412, .f32⟩
  | .local _ .vmem, ⟨12, _⟩ => ⟨S256x1412, .f32⟩
  | .local _ .vmem, ⟨13, _⟩ => ⟨S256x1412, .f32⟩
  | _, _ => ⟨S1x1024x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1412 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1412 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1412 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1412 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1412 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1412 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvenInIdeal.lean ====
abbrev S1x1024x1412 : Shape := ⟨3, ![1, 1024, 1412]⟩
abbrev S1024x1412 : Shape := ⟨2, ![1024, 1412]⟩
abbrev S256x1412 : Shape := ⟨2, ![256, 1412]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1412, .f32⟩
  | .hbm, ⟨1, _⟩ => ⟨S1x1024x1412, .f32⟩
  | .hbm, ⟨2, _⟩ => ⟨S1x1024x1412, .f32⟩
  | .hbm, ⟨3, _⟩ => ⟨S1x1024x1412, .f32⟩
  | .hbm, ⟨4, _⟩ => ⟨S1024x1412, .f32⟩
  | .hbm, ⟨5, _⟩ => ⟨S1024x1412, .f32⟩
  | .hbm, ⟨6, _⟩ => ⟨S1024x1412, .f32⟩
  | .hbm, ⟨7, _⟩ => ⟨S1024x1412, .f32⟩
  | .hbm, ⟨8, _⟩ => ⟨S1024x1412, .f32⟩
  | .hbm, ⟨9, _⟩ => ⟨S1024x1412, .f32⟩
  | .hbm, ⟨10, _⟩ => ⟨S1024x1412, .f32⟩
  | .local _ .vmem, ⟨0, _⟩ => ⟨S256x1412, .f32⟩
  | .local _ .vmem, ⟨1, _⟩ => ⟨S256x1412, .f32⟩
  | .local _ .vmem, ⟨2, _⟩ => ⟨S256x1412, .f32⟩
  | .local _ .vmem, ⟨3, _⟩ => ⟨S256x1412, .f32⟩
  | .local _ .vmem, ⟨4, _⟩ => ⟨S256x1412, .f32⟩
  | .local _ .vmem, ⟨5, _⟩ => ⟨S256x1412, .f32⟩
  | .local _ .vmem, ⟨6, _⟩ => ⟨S256x1412, .f32⟩
  | .local _ .vmem, ⟨7, _⟩ => ⟨S256x1412, .f32⟩
  | .local _ .vmem, ⟨8, _⟩ => ⟨S256x1412, .f32⟩
  | .local _ .vmem, ⟨9, _⟩ => ⟨S256x1412, .f32⟩
  | .local _ .vmem, ⟨10, _⟩ => ⟨S256x1412, .f32⟩
  | .local _ .vmem, ⟨11, _⟩ => ⟨S256x1412, .f32⟩
  | .local _ .vmem, ⟨12, _⟩ => ⟨S256x1412, .f32⟩
  | .local _ .vmem, ⟨13, _⟩ => ⟨S256x1412, .f32⟩
  | _, _ => ⟨S1x1024x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1412 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1412 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1412 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1412 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1412 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1412 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvenInPlainIdeal.lean ====
abbrev S1x1024x1412 : Shape := ⟨3, ![1, 1024, 1412]⟩
abbrev S_ : Shape := ⟨0, ![]⟩
abbrev S1024x1412 : Shape := ⟨2, ![1024, 1412]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1412, .f32⟩
  | .hbm, ⟨1, _⟩ => ⟨S1x1024x1412, .f32⟩
  | .hbm, ⟨2, _⟩ => ⟨S1x1024x1412, .f32⟩
  | .hbm, ⟨3, _⟩ => ⟨S1x1024x1412, .f32⟩
  | .hbm, ⟨4, _⟩ => ⟨S_, .f32⟩
  | .hbm, ⟨5, _⟩ => ⟨S1x1024x1412, .f32⟩
  | .hbm, ⟨6, _⟩ => ⟨S1x1024x1412, .f32⟩
  | .hbm, ⟨7, _⟩ => ⟨S_, .f32⟩
  | .hbm, ⟨8, _⟩ => ⟨S1x1024x1412, .f32⟩
  | .hbm, ⟨9, _⟩ => ⟨S1x1024x1412, .f32⟩
  | .hbm, ⟨10, _⟩ => ⟨S1x1024x1412, .f32⟩
  | .hbm, ⟨11, _⟩ => ⟨S_, .f32⟩
  | .hbm, ⟨12, _⟩ => ⟨S1x1024x1412, .f32⟩
  | .hbm, ⟨13, _⟩ => ⟨S1x1024x1412, .f32⟩
  | .hbm, ⟨14, _⟩ => ⟨S1x1024x1412, .f32⟩
  | .hbm, ⟨15, _⟩ => ⟨S_, .f32⟩
  | .hbm, ⟨16, _⟩ => ⟨S1x1024x1412, .f32⟩
  | .hbm, ⟨17, _⟩ => ⟨S1x1024x1412, .f32⟩
  | .hbm, ⟨18, _⟩ => ⟨S1x1024x1412, .f32⟩
  | .hbm, ⟨19, _⟩ => ⟨S_, .f32⟩
  | .hbm, ⟨20, _⟩ => ⟨S1x1024x1412, .f32⟩
  | .hbm, ⟨21, _⟩ => ⟨S1x1024x1412, .f32⟩
  | .hbm, ⟨22, _⟩ => ⟨S_, .f32⟩
  | .hbm, ⟨23, _⟩ => ⟨S1x1024x1412, .f32⟩
  | .hbm, ⟨24, _⟩ => ⟨S1x1024x1412, .f32⟩
  | .hbm, ⟨25, _⟩ => ⟨S1x1024x1412, .f32⟩
  | .hbm, ⟨26, _⟩ => ⟨S_, .f32⟩
  | .hbm, ⟨27, _⟩ => ⟨S1x1024x1412, .f32⟩
  | .hbm, ⟨28, _⟩ => ⟨S1x1024x1412, .f32⟩
  | .hbm, ⟨29, _⟩ => ⟨S1x1024x1412, .f32⟩
  | .hbm, ⟨30, _⟩ => ⟨S_, .f32⟩
  | .hbm, ⟨31, _⟩ => ⟨S1x1024x1412, .f32⟩
  | .hbm, ⟨32, _⟩ => ⟨S1x1024x1412, .f32⟩
  | .hbm, ⟨33, _⟩ => ⟨S1x1024x1412, .f32⟩
  | .hbm, ⟨34, _⟩ => ⟨S_, .f32⟩
  | .hbm, ⟨35, _⟩ => ⟨S1x1024x1412, .f32⟩
  | .hbm, ⟨36, _⟩ => ⟨S1x1024x1412, .f32⟩
  | .hbm, ⟨37, _⟩ => ⟨S1024x1412, .f32⟩
  | .hbm, ⟨38, _⟩ => ⟨S1024x1412, .f32⟩
  | .hbm, ⟨39, _⟩ => ⟨S1024x1412, .f32⟩
  | _, _ => ⟨S1x1024x1412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamEvenConv.lean ====
abbrev S1x4x384 : Shape := ⟨3, ![1, 4, 384]⟩
abbrev S4x384 : Shape := ⟨2, ![4, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S4x384, .f32⟩
  | .hbm, ⟨9, _⟩ => ⟨S4x384, .f32⟩
  | .hbm, ⟨10, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenConvIdeal.lean ====
abbrev S1x4x384 : Shape := ⟨3, ![1, 4, 384]⟩
abbrev S4x384 : Shape := ⟨2, ![4, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S4x384, .f32⟩
  | .hbm, ⟨9, _⟩ => ⟨S4x384, .f32⟩
  | .hbm, ⟨10, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenConvPlainIdeal.lean ====
abbrev S1x4x384 : Shape := ⟨3, ![1, 4, 384]⟩
abbrev S_ : Shape := ⟨0, ![]⟩
abbrev S4x384 : Shape := ⟨2, ![4, 384]⟩

abbrev nBuf : Space → Nat
  | .hbm => 40
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S_, .f32⟩
  | .hbm, ⟨5, _⟩ => ⟨S1x4x384, .f32⟩
  | .hbm, ⟨6, _⟩ => ⟨S1x4x384, .f32⟩
  | .hbm, ⟨7, _⟩ => ⟨S_, .f32⟩
  | .hbm, ⟨8, _⟩ => ⟨S1x4x384, .f32⟩
  | .hbm, ⟨9, _⟩ => ⟨S1x4x384, .f32⟩
  | .hbm, ⟨10, _⟩ => ⟨S1x4x384, .f32⟩
  | .hbm, ⟨11, _⟩ => ⟨S_, .f32⟩
  | .hbm, ⟨12, _⟩ => ⟨S1x4x384, .f32⟩
  | .hbm, ⟨13, _⟩ => ⟨S1x4x384, .f32⟩
  | .hbm, ⟨14, _⟩ => ⟨S1x4x384, .f32⟩
  | .hbm, ⟨15, _⟩ => ⟨S_, .f32⟩
  | .hbm, ⟨16, _⟩ => ⟨S1x4x384, .f32⟩
  | .hbm, ⟨17, _⟩ => ⟨S1x4x384, .f32⟩
  | .hbm, ⟨18, _⟩ => ⟨S1x4x384, .f32⟩
  | .hbm, ⟨19, _⟩ => ⟨S_, .f32⟩
  | .hbm, ⟨20, _⟩ => ⟨S1x4x384, .f32⟩
  | .hbm, ⟨21, _⟩ => ⟨S1x4x384, .f32⟩
  | .hbm, ⟨22, _⟩ => ⟨S_, .f32⟩
  | .hbm, ⟨23, _⟩ => ⟨S1x4x384, .f32⟩
  | .hbm, ⟨24, _⟩ => ⟨S1x4x384, .f32⟩
  | .hbm, ⟨25, _⟩ => ⟨S1x4x384, .f32⟩
  | .hbm, ⟨26, _⟩ => ⟨S_, .f32⟩
  | .hbm, ⟨27, _⟩ => ⟨S1x4x384, .f32⟩
  | .hbm, ⟨28, _⟩ => ⟨S1x4x384, .f32⟩
  | .hbm, ⟨29, _⟩ => ⟨S1x4x384, .f32⟩
  | .hbm, ⟨30, _⟩ => ⟨S_, .f32⟩
  | .hbm, ⟨31, _⟩ => ⟨S1x4x384, .f32⟩
  | .hbm, ⟨32, _⟩ => ⟨S1x4x384, .f32⟩
  | .hbm, ⟨33, _⟩ => ⟨S1x4x384, .f32⟩
  | .hbm, ⟨34, _⟩ => ⟨S_, .f32⟩
  | .hbm, ⟨35, _⟩ => ⟨S1x4x384, .f32⟩
  | .hbm, ⟨36, _⟩ => ⟨S1x4x384, .f32⟩
  | .hbm, ⟨37, _⟩ => ⟨S4x384, .f32⟩
  | .hbm, ⟨38, _⟩ => ⟨S4x384, .f32⟩
  | .hbm, ⟨39, _⟩ => ⟨S4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamEvenBias.lean ====
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S1x1536, .f32⟩
  | .hbm, ⟨5, _⟩ => ⟨S1x1536, .f32⟩
  | .hbm, ⟨6, _⟩ => ⟨S1x1536, .f32⟩
  | .local _ .vmem, ⟨0, _⟩ => ⟨S1x1536, .f32⟩
  | .local _ .vmem, ⟨1, _⟩ => ⟨S1x1536, .f32⟩
  | .local _ .vmem, ⟨2, _⟩ => ⟨S1x1536, .f32⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | _, _ => ⟨S1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenBiasIdeal.lean ====
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S1x1536, .f32⟩
  | .hbm, ⟨5, _⟩ => ⟨S1x1536, .f32⟩
  | .hbm, ⟨6, _⟩ => ⟨S1x1536, .f32⟩
  | .local _ .vmem, ⟨0, _⟩ => ⟨S1x1536, .f32⟩
  | .local _ .vmem, ⟨1, _⟩ => ⟨S1x1536, .f32⟩
  | .local _ .vmem, ⟨2, _⟩ => ⟨S1x1536, .f32⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | _, _ => ⟨S1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenBiasPlainIdeal.lean ====
abbrev S1x1536 : Shape := ⟨2, ![1, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S_, .f32⟩
  | .hbm, ⟨5, _⟩ => ⟨S1x1536, .f32⟩
  | .hbm, ⟨6, _⟩ => ⟨S1x1536, .f32⟩
  | .hbm, ⟨7, _⟩ => ⟨S_, .f32⟩
  | .hbm, ⟨8, _⟩ => ⟨S1x1536, .f32⟩
  | .hbm, ⟨9, _⟩ => ⟨S1x1536, .f32⟩
  | .hbm, ⟨10, _⟩ => ⟨S1x1536, .f32⟩
  | .hbm, ⟨11, _⟩ => ⟨S_, .f32⟩
  | .hbm, ⟨12, _⟩ => ⟨S1x1536, .f32⟩
  | .hbm, ⟨13, _⟩ => ⟨S1x1536, .f32⟩
  | .hbm, ⟨14, _⟩ => ⟨S1x1536, .f32⟩
  | .hbm, ⟨15, _⟩ => ⟨S_, .f32⟩
  | .hbm, ⟨16, _⟩ => ⟨S1x1536, .f32⟩
  | .hbm, ⟨17, _⟩ => ⟨S1x1536, .f32⟩
  | .hbm, ⟨18, _⟩ => ⟨S1x1536, .f32⟩
  | .hbm, ⟨19, _⟩ => ⟨S_, .f32⟩
  | .hbm, ⟨20, _⟩ => ⟨S1x1536, .f32⟩
  | .hbm, ⟨21, _⟩ => ⟨S1x1536, .f32⟩
  | .hbm, ⟨22, _⟩ => ⟨S_, .f32⟩
  | .hbm, ⟨23, _⟩ => ⟨S1x1536, .f32⟩
  | .hbm, ⟨24, _⟩ => ⟨S1x1536, .f32⟩
  | .hbm, ⟨25, _⟩ => ⟨S1x1536, .f32⟩
  | .hbm, ⟨26, _⟩ => ⟨S_, .f32⟩
  | .hbm, ⟨27, _⟩ => ⟨S1x1536, .f32⟩
  | .hbm, ⟨28, _⟩ => ⟨S1x1536, .f32⟩
  | .hbm, ⟨29, _⟩ => ⟨S1x1536, .f32⟩
  | .hbm, ⟨30, _⟩ => ⟨S_, .f32⟩
  | .hbm, ⟨31, _⟩ => ⟨S1x1536, .f32⟩
  | .hbm, ⟨32, _⟩ => ⟨S1x1536, .f32⟩
  | .hbm, ⟨33, _⟩ => ⟨S1x1536, .f32⟩
  | .hbm, ⟨34, _⟩ => ⟨S_, .f32⟩
  | .hbm, ⟨35, _⟩ => ⟨S1x1536, .f32⟩
  | .hbm, ⟨36, _⟩ => ⟨S1x1536, .f32⟩
  | _, _ => ⟨S1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamEvenHeads.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenHeadsIdeal.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenHeadsPlainIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamEvenNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenNormIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenNormPlainIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamEvenOut.lean ====
abbrev S1x512x1024 : Shape := ⟨3, ![1, 512, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenOutIdeal.lean ====
abbrev S1x512x1024 : Shape := ⟨3, ![1, 512, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenOutPlainIdeal.lean ====
abbrev S1x512x1024 : Shape := ⟨3, ![1, 512, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S1x512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOddIn.lean ====
abbrev S1x1024x384 : Shape := ⟨3, ![1, 1024, 384]⟩
abbrev S1024x384 : Shape := ⟨2, ![1024, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddInIdeal.lean ====
abbrev S1x1024x384 : Shape := ⟨3, ![1, 1024, 384]⟩
abbrev S1024x384 : Shape := ⟨2, ![1024, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddInPlainIdeal.lean ====
abbrev S1x1024x384 : Shape := ⟨3, ![1, 1024, 384]⟩
abbrev S_ : Shape := ⟨0, ![]⟩
abbrev S1024x384 : Shape := ⟨2, ![1024, 384]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S_, .f32⟩
  | .hbm, ⟨5, _⟩ => ⟨S1x1024x384, .f32⟩
  | .hbm, ⟨6, _⟩ => ⟨S1x1024x384, .f32⟩
  | .hbm, ⟨7, _⟩ => ⟨S_, .f32⟩
  | .hbm, ⟨8, _⟩ => ⟨S1x1024x384, .f32⟩
  | .hbm, ⟨9, _⟩ => ⟨S1x1024x384, .f32⟩
  | .hbm, ⟨10, _⟩ => ⟨S1x1024x384, .f32⟩
  | .hbm, ⟨11, _⟩ => ⟨S_, .f32⟩
  | .hbm, ⟨12, _⟩ => ⟨S1x1024x384, .f32⟩
  | .hbm, ⟨13, _⟩ => ⟨S1x1024x384, .f32⟩
  | .hbm, ⟨14, _⟩ => ⟨S1x1024x384, .f32⟩
  | .hbm, ⟨15, _⟩ => ⟨S_, .f32⟩
  | .hbm, ⟨16, _⟩ => ⟨S1x1024x384, .f32⟩
  | .hbm, ⟨17, _⟩ => ⟨S1x1024x384, .f32⟩
  | .hbm, ⟨18, _⟩ => ⟨S1x1024x384, .f32⟩
  | .hbm, ⟨19, _⟩ => ⟨S_, .f32⟩
  | .hbm, ⟨20, _⟩ => ⟨S1x1024x384, .f32⟩
  | .hbm, ⟨21, _⟩ => ⟨S1x1024x384, .f32⟩
  | .hbm, ⟨22, _⟩ => ⟨S_, .f32⟩
  | .hbm, ⟨23, _⟩ => ⟨S1x1024x384, .f32⟩
  | .hbm, ⟨24, _⟩ => ⟨S1x1024x384, .f32⟩
  | .hbm, ⟨25, _⟩ => ⟨S1x1024x384, .f32⟩
  | .hbm, ⟨26, _⟩ => ⟨S_, .f32⟩
  | .hbm, ⟨27, _⟩ => ⟨S1x1024x384, .f32⟩
  | .hbm, ⟨28, _⟩ => ⟨S1x1024x384, .f32⟩
  | .hbm, ⟨29, _⟩ => ⟨S1x1024x384, .f32⟩
  | .hbm, ⟨30, _⟩ => ⟨S_, .f32⟩
  | .hbm, ⟨31, _⟩ => ⟨S1x1024x384, .f32⟩
  | .hbm, ⟨32, _⟩ => ⟨S1x1024x384, .f32⟩
  | .hbm, ⟨33, _⟩ => ⟨S1x1024x384, .f32⟩
  | .hbm, ⟨34, _⟩ => ⟨S_, .f32⟩
  | .hbm, ⟨35, _⟩ => ⟨S1x1024x384, .f32⟩
  | .hbm, ⟨36, _⟩ => ⟨S1x1024x384, .f32⟩
  | .hbm, ⟨37, _⟩ => ⟨S1024x384, .f32⟩
  | .hbm, ⟨38, _⟩ => ⟨S1024x384, .f32⟩
  | .hbm, ⟨39, _⟩ => ⟨S1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOddConv.lean ====
abbrev S1x31x128 : Shape := ⟨3, ![1, 31, 128]⟩
abbrev S31x128 : Shape := ⟨2, ![31, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S31x128, .f32⟩
  | .hbm, ⟨5, _⟩ => ⟨S31x128, .f32⟩
  | .hbm, ⟨6, _⟩ => ⟨S31x128, .f32⟩
  | .hbm, ⟨7, _⟩ => ⟨S31x128, .f32⟩
  | .hbm, ⟨8, _⟩ => ⟨S31x128, .f32⟩
  | .hbm, ⟨9, _⟩ => ⟨S31x128, .f32⟩
  | .hbm, ⟨10, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S1x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddConvIdeal.lean ====
abbrev S1x31x128 : Shape := ⟨3, ![1, 31, 128]⟩
abbrev S31x128 : Shape := ⟨2, ![31, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S31x128, .f32⟩
  | .hbm, ⟨5, _⟩ => ⟨S31x128, .f32⟩
  | .hbm, ⟨6, _⟩ => ⟨S31x128, .f32⟩
  | .hbm, ⟨7, _⟩ => ⟨S31x128, .f32⟩
  | .hbm, ⟨8, _⟩ => ⟨S31x128, .f32⟩
  | .hbm, ⟨9, _⟩ => ⟨S31x128, .f32⟩
  | .hbm, ⟨10, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S1x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddConvPlainIdeal.lean ====
abbrev S1x31x128 : Shape := ⟨3, ![1, 31, 128]⟩
abbrev S_ : Shape := ⟨0, ![]⟩
abbrev S31x128 : Shape := ⟨2, ![31, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S_, .f32⟩
  | .hbm, ⟨5, _⟩ => ⟨S1x31x128, .f32⟩
  | .hbm, ⟨6, _⟩ => ⟨S1x31x128, .f32⟩
  | .hbm, ⟨7, _⟩ => ⟨S_, .f32⟩
  | .hbm, ⟨8, _⟩ => ⟨S1x31x128, .f32⟩
  | .hbm, ⟨9, _⟩ => ⟨S1x31x128, .f32⟩
  | .hbm, ⟨10, _⟩ => ⟨S1x31x128, .f32⟩
  | .hbm, ⟨11, _⟩ => ⟨S_, .f32⟩
  | .hbm, ⟨12, _⟩ => ⟨S1x31x128, .f32⟩
  | .hbm, ⟨13, _⟩ => ⟨S1x31x128, .f32⟩
  | .hbm, ⟨14, _⟩ => ⟨S1x31x128, .f32⟩
  | .hbm, ⟨15, _⟩ => ⟨S_, .f32⟩
  | .hbm, ⟨16, _⟩ => ⟨S1x31x128, .f32⟩
  | .hbm, ⟨17, _⟩ => ⟨S1x31x128, .f32⟩
  | .hbm, ⟨18, _⟩ => ⟨S1x31x128, .f32⟩
  | .hbm, ⟨19, _⟩ => ⟨S_, .f32⟩
  | .hbm, ⟨20, _⟩ => ⟨S1x31x128, .f32⟩
  | .hbm, ⟨21, _⟩ => ⟨S1x31x128, .f32⟩
  | .hbm, ⟨22, _⟩ => ⟨S_, .f32⟩
  | .hbm, ⟨23, _⟩ => ⟨S1x31x128, .f32⟩
  | .hbm, ⟨24, _⟩ => ⟨S1x31x128, .f32⟩
  | .hbm, ⟨25, _⟩ => ⟨S1x31x128, .f32⟩
  | .hbm, ⟨26, _⟩ => ⟨S_, .f32⟩
  | .hbm, ⟨27, _⟩ => ⟨S1x31x128, .f32⟩
  | .hbm, ⟨28, _⟩ => ⟨S1x31x128, .f32⟩
  | .hbm, ⟨29, _⟩ => ⟨S1x31x128, .f32⟩
  | .hbm, ⟨30, _⟩ => ⟨S_, .f32⟩
  | .hbm, ⟨31, _⟩ => ⟨S1x31x128, .f32⟩
  | .hbm, ⟨32, _⟩ => ⟨S1x31x128, .f32⟩
  | .hbm, ⟨33, _⟩ => ⟨S1x31x128, .f32⟩
  | .hbm, ⟨34, _⟩ => ⟨S_, .f32⟩
  | .hbm, ⟨35, _⟩ => ⟨S1x31x128, .f32⟩
  | .hbm, ⟨36, _⟩ => ⟨S1x31x128, .f32⟩
  | .hbm, ⟨37, _⟩ => ⟨S31x128, .f32⟩
  | .hbm, ⟨38, _⟩ => ⟨S31x128, .f32⟩
  | .hbm, ⟨39, _⟩ => ⟨S31x128, .f32⟩
  | _, _ => ⟨S1x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOddRow.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddRowIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddRowPlainIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOddPoles.lean ====
abbrev S1x32x64 : Shape := ⟨3, ![1, 32, 64]⟩
abbrev S32x64 : Shape := ⟨2, ![32, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32x64, .f32⟩
  | .hbm, ⟨3, _⟩ => ⟨S1x32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddPolesIdeal.lean ====
abbrev S1x32x64 : Shape := ⟨3, ![1, 32, 64]⟩
abbrev S32x64 : Shape := ⟨2, ![32, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32x64, .f32⟩
  | .hbm, ⟨3, _⟩ => ⟨S1x32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddPolesPlainIdeal.lean ====
abbrev S1x32x64 : Shape := ⟨3, ![1, 32, 64]⟩
abbrev S_ : Shape := ⟨0, ![]⟩
abbrev S32x64 : Shape := ⟨2, ![32, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32x64, .f32⟩
  | .hbm, ⟨3, _⟩ => ⟨S1x32x64, .f32⟩
  | .hbm, ⟨4, _⟩ => ⟨S_, .f32⟩
  | .hbm, ⟨5, _⟩ => ⟨S1x32x64, .f32⟩
  | .hbm, ⟨6, _⟩ => ⟨S1x32x64, .f32⟩
  | .hbm, ⟨7, _⟩ => ⟨S_, .f32⟩
  | .hbm, ⟨8, _⟩ => ⟨S1x32x64, .f32⟩
  | .hbm, ⟨9, _⟩ => ⟨S1x32x64, .f32⟩
  | .hbm, ⟨10, _⟩ => ⟨S1x32x64, .f32⟩
  | .hbm, ⟨11, _⟩ => ⟨S_, .f32⟩
  | .hbm, ⟨12, _⟩ => ⟨S1x32x64, .f32⟩
  | .hbm, ⟨13, _⟩ => ⟨S1x32x64, .f32⟩
  | .hbm, ⟨14, _⟩ => ⟨S1x32x64, .f32⟩
  | .hbm, ⟨15, _⟩ => ⟨S_, .f32⟩
  | .hbm, ⟨16, _⟩ => ⟨S1x32x64, .f32⟩
  | .hbm, ⟨17, _⟩ => ⟨S1x32x64, .f32⟩
  | .hbm, ⟨18, _⟩ => ⟨S1x32x64, .f32⟩
  | .hbm, ⟨19, _⟩ => ⟨S_, .f32⟩
  | .hbm, ⟨20, _⟩ => ⟨S1x32x64, .f32⟩
  | .hbm, ⟨21, _⟩ => ⟨S1x32x64, .f32⟩
  | .hbm, ⟨22, _⟩ => ⟨S_, .f32⟩
  | .hbm, ⟨23, _⟩ => ⟨S1x32x64, .f32⟩
  | .hbm, ⟨24, _⟩ => ⟨S1x32x64, .f32⟩
  | .hbm, ⟨25, _⟩ => ⟨S1x32x64, .f32⟩
  | .hbm, ⟨26, _⟩ => ⟨S_, .f32⟩
  | .hbm, ⟨27, _⟩ => ⟨S1x32x64, .f32⟩
  | .hbm, ⟨28, _⟩ => ⟨S1x32x64, .f32⟩
  | .hbm, ⟨29, _⟩ => ⟨S1x32x64, .f32⟩
  | .hbm, ⟨30, _⟩ => ⟨S_, .f32⟩
  | .hbm, ⟨31, _⟩ => ⟨S1x32x64, .f32⟩
  | .hbm, ⟨32, _⟩ => ⟨S1x32x64, .f32⟩
  | .hbm, ⟨33, _⟩ => ⟨S1x32x64, .f32⟩
  | .hbm, ⟨34, _⟩ => ⟨S_, .f32⟩
  | .hbm, ⟨35, _⟩ => ⟨S1x32x64, .f32⟩
  | .hbm, ⟨36, _⟩ => ⟨S1x32x64, .f32⟩
  | .hbm, ⟨37, _⟩ => ⟨S32x64, .f32⟩
  | .hbm, ⟨38, _⟩ => ⟨S32x64, .f32⟩
  | .hbm, ⟨39, _⟩ => ⟨S32x64, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOddInputs.lean ====
abbrev S1x32x64x16 : Shape := ⟨4, ![1, 32, 64, 16]⟩
abbrev S2048x16 : Shape := ⟨2, ![2048, 16]⟩

abbrev nBuf : Space → Nat
  | .hbm => 11
  | .vmem => 7
  | .smem => 0
  | _ => 0

abbrev bufTy : (tb : Table) → Fin (tcTables nBuf tb) → BufTy
  | .hbm, ⟨0, _⟩ => ⟨S1x32x64x16, .f32⟩
  | .hbm, ⟨1, _⟩ => ⟨S1x32x64x16, .f32⟩
  | .hbm, ⟨2, _⟩ => ⟨S1x32x64x16, .f32⟩
  | .hbm, ⟨3, _⟩ => ⟨S1x32x64x16, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S2048x16, .f32⟩
  | .hbm, ⟨9, _⟩ => ⟨S2048x16, .f32⟩
  | .hbm, ⟨10, _⟩ => ⟨S2048x16, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | _, _ => ⟨S1x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddInputsIdeal.lean ====
abbrev S1x32x64x16 : Shape := ⟨4, ![1, 32, 64, 16]⟩
abbrev S2048x16 : Shape := ⟨2, ![2048, 16]⟩

abbrev nBuf : Space → Nat
  | .hbm => 11
  | .vmem => 7
  | .smem => 0
  | _ => 0

abbrev bufTy : (tb : Table) → Fin (tcTables nBuf tb) → BufTy
  | .hbm, ⟨0, _⟩ => ⟨S1x32x64x16, .f32⟩
  | .hbm, ⟨1, _⟩ => ⟨S1x32x64x16, .f32⟩
  | .hbm, ⟨2, _⟩ => ⟨S1x32x64x16, .f32⟩
  | .hbm, ⟨3, _⟩ => ⟨S1x32x64x16, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S2048x16, .f32⟩
  | .hbm, ⟨9, _⟩ => ⟨S2048x16, .f32⟩
  | .hbm, ⟨10, _⟩ => ⟨S2048x16, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | _, _ => ⟨S1x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddInputsPlainIdeal.lean ====
abbrev S1x32x64x16 : Shape := ⟨4, ![1, 32, 64, 16]⟩
abbrev S_ : Shape := ⟨0, ![]⟩
abbrev S2048x16 : Shape := ⟨2, ![2048, 16]⟩

abbrev nBuf : Space → Nat
  | .hbm => 40
  | .vmem => 0
  | .smem => 0
  | _ => 0

abbrev bufTy : (tb : Table) → Fin (tcTables nBuf tb) → BufTy
  | .hbm, ⟨0, _⟩ => ⟨S1x32x64x16, .f32⟩
  | .hbm, ⟨1, _⟩ => ⟨S1x32x64x16, .f32⟩
  | .hbm, ⟨2, _⟩ => ⟨S1x32x64x16, .f32⟩
  | .hbm, ⟨3, _⟩ => ⟨S1x32x64x16, .f32⟩
  | .hbm, ⟨4, _⟩ => ⟨S_, .f32⟩
  | .hbm, ⟨5, _⟩ => ⟨S1x32x64x16, .f32⟩
  | .hbm, ⟨6, _⟩ => ⟨S1x32x64x16, .f32⟩
  | .hbm, ⟨7, _⟩ => ⟨S_, .f32⟩
  | .hbm, ⟨8, _⟩ => ⟨S1x32x64x16, .f32⟩
  | .hbm, ⟨9, _⟩ => ⟨S1x32x64x16, .f32⟩
  | .hbm, ⟨10, _⟩ => ⟨S1x32x64x16, .f32⟩
  | .hbm, ⟨11, _⟩ => ⟨S_, .f32⟩
  | .hbm, ⟨12, _⟩ => ⟨S1x32x64x16, .f32⟩
  | .hbm, ⟨13, _⟩ => ⟨S1x32x64x16, .f32⟩
  | .hbm, ⟨14, _⟩ => ⟨S1x32x64x16, .f32⟩
  | .hbm, ⟨15, _⟩ => ⟨S_, .f32⟩
  | .hbm, ⟨16, _⟩ => ⟨S1x32x64x16, .f32⟩
  | .hbm, ⟨17, _⟩ => ⟨S1x32x64x16, .f32⟩
  | .hbm, ⟨18, _⟩ => ⟨S1x32x64x16, .f32⟩
  | .hbm, ⟨19, _⟩ => ⟨S_, .f32⟩
  | .hbm, ⟨20, _⟩ => ⟨S1x32x64x16, .f32⟩
  | .hbm, ⟨21, _⟩ => ⟨S1x32x64x16, .f32⟩
  | .hbm, ⟨22, _⟩ => ⟨S_, .f32⟩
  | .hbm, ⟨23, _⟩ => ⟨S1x32x64x16, .f32⟩
  | .hbm, ⟨24, _⟩ => ⟨S1x32x64x16, .f32⟩
  | .hbm, ⟨25, _⟩ => ⟨S1x32x64x16, .f32⟩
  | .hbm, ⟨26, _⟩ => ⟨S_, .f32⟩
  | .hbm, ⟨27, _⟩ => ⟨S1x32x64x16, .f32⟩
  | .hbm, ⟨28, _⟩ => ⟨S1x32x64x16, .f32⟩
  | .hbm, ⟨29, _⟩ => ⟨S1x32x64x16, .f32⟩
  | .hbm, ⟨30, _⟩ => ⟨S_, .f32⟩
  | .hbm, ⟨31, _⟩ => ⟨S1x32x64x16, .f32⟩
  | .hbm, ⟨32, _⟩ => ⟨S1x32x64x16, .f32⟩
  | .hbm, ⟨33, _⟩ => ⟨S1x32x64x16, .f32⟩
  | .hbm, ⟨34, _⟩ => ⟨S_, .f32⟩
  | .hbm, ⟨35, _⟩ => ⟨S1x32x64x16, .f32⟩
  | .hbm, ⟨36, _⟩ => ⟨S1x32x64x16, .f32⟩
  | .hbm, ⟨37, _⟩ => ⟨S2048x16, .f32⟩
  | .hbm, ⟨38, _⟩ => ⟨S2048x16, .f32⟩
  | .hbm, ⟨39, _⟩ => ⟨S2048x16, .f32⟩
  | _, _ => ⟨S1x32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOddOutputs.lean ====
abbrev S1x32x16x64 : Shape := ⟨4, ![1, 32, 16, 64]⟩
abbrev S512x64 : Shape := ⟨2, ![512, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x32x16x64, .f32⟩
  | .hbm, ⟨1, _⟩ => ⟨S1x32x16x64, .f32⟩
  | .hbm, ⟨2, _⟩ => ⟨S1x32x16x64, .f32⟩
  | .hbm, ⟨3, _⟩ => ⟨S1x32x16x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S512x64, .f32⟩
  | .hbm, ⟨10, _⟩ => ⟨S512x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | _, _ => ⟨S1x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddOutputsIdeal.lean ====
abbrev S1x32x16x64 : Shape := ⟨4, ![1, 32, 16, 64]⟩
abbrev S512x64 : Shape := ⟨2, ![512, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x32x16x64, .f32⟩
  | .hbm, ⟨1, _⟩ => ⟨S1x32x16x64, .f32⟩
  | .hbm, ⟨2, _⟩ => ⟨S1x32x16x64, .f32⟩
  | .hbm, ⟨3, _⟩ => ⟨S1x32x16x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S512x64, .f32⟩
  | .hbm, ⟨10, _⟩ => ⟨S512x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | _, _ => ⟨S1x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddOutputsPlainIdeal.lean ====
abbrev S1x32x16x64 : Shape := ⟨4, ![1, 32, 16, 64]⟩
abbrev S_ : Shape := ⟨0, ![]⟩
abbrev S512x64 : Shape := ⟨2, ![512, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x32x16x64, .f32⟩
  | .hbm, ⟨1, _⟩ => ⟨S1x32x16x64, .f32⟩
  | .hbm, ⟨2, _⟩ => ⟨S1x32x16x64, .f32⟩
  | .hbm, ⟨3, _⟩ => ⟨S1x32x16x64, .f32⟩
  | .hbm, ⟨4, _⟩ => ⟨S_, .f32⟩
  | .hbm, ⟨5, _⟩ => ⟨S1x32x16x64, .f32⟩
  | .hbm, ⟨6, _⟩ => ⟨S1x32x16x64, .f32⟩
  | .hbm, ⟨7, _⟩ => ⟨S_, .f32⟩
  | .hbm, ⟨8, _⟩ => ⟨S1x32x16x64, .f32⟩
  | .hbm, ⟨9, _⟩ => ⟨S1x32x16x64, .f32⟩
  | .hbm, ⟨10, _⟩ => ⟨S1x32x16x64, .f32⟩
  | .hbm, ⟨11, _⟩ => ⟨S_, .f32⟩
  | .hbm, ⟨12, _⟩ => ⟨S1x32x16x64, .f32⟩
  | .hbm, ⟨13, _⟩ => ⟨S1x32x16x64, .f32⟩
  | .hbm, ⟨14, _⟩ => ⟨S1x32x16x64, .f32⟩
  | .hbm, ⟨15, _⟩ => ⟨S_, .f32⟩
  | .hbm, ⟨16, _⟩ => ⟨S1x32x16x64, .f32⟩
  | .hbm, ⟨17, _⟩ => ⟨S1x32x16x64, .f32⟩
  | .hbm, ⟨18, _⟩ => ⟨S1x32x16x64, .f32⟩
  | .hbm, ⟨19, _⟩ => ⟨S_, .f32⟩
  | .hbm, ⟨20, _⟩ => ⟨S1x32x16x64, .f32⟩
  | .hbm, ⟨21, _⟩ => ⟨S1x32x16x64, .f32⟩
  | .hbm, ⟨22, _⟩ => ⟨S_, .f32⟩
  | .hbm, ⟨23, _⟩ => ⟨S1x32x16x64, .f32⟩
  | .hbm, ⟨24, _⟩ => ⟨S1x32x16x64, .f32⟩
  | .hbm, ⟨25, _⟩ => ⟨S1x32x16x64, .f32⟩
  | .hbm, ⟨26, _⟩ => ⟨S_, .f32⟩
  | .hbm, ⟨27, _⟩ => ⟨S1x32x16x64, .f32⟩
  | .hbm, ⟨28, _⟩ => ⟨S1x32x16x64, .f32⟩
  | .hbm, ⟨29, _⟩ => ⟨S1x32x16x64, .f32⟩
  | .hbm, ⟨30, _⟩ => ⟨S_, .f32⟩
  | .hbm, ⟨31, _⟩ => ⟨S1x32x16x64, .f32⟩
  | .hbm, ⟨32, _⟩ => ⟨S1x32x16x64, .f32⟩
  | .hbm, ⟨33, _⟩ => ⟨S1x32x16x64, .f32⟩
  | .hbm, ⟨34, _⟩ => ⟨S_, .f32⟩
  | .hbm, ⟨35, _⟩ => ⟨S1x32x16x64, .f32⟩
  | .hbm, ⟨36, _⟩ => ⟨S1x32x16x64, .f32⟩
  | .hbm, ⟨37, _⟩ => ⟨S512x64, .f32⟩
  | .hbm, ⟨38, _⟩ => ⟨S512x64, .f32⟩
  | .hbm, ⟨39, _⟩ => ⟨S512x64, .f32⟩
  | _, _ => ⟨S1x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOddSteps.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddStepsIdeal.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddStepsPlainIdeal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOddGate.lean ====
abbrev S1x128x512 : Shape := ⟨3, ![1, 128, 512]⟩
abbrev S128x512 : Shape := ⟨2, ![128, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x128x512, .f32⟩
  | .hbm, ⟨1, _⟩ => ⟨S1x128x512, .f32⟩
  | .hbm, ⟨2, _⟩ => ⟨S1x128x512, .f32⟩
  | .hbm, ⟨3, _⟩ => ⟨S1x128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddGateIdeal.lean ====
abbrev S1x128x512 : Shape := ⟨3, ![1, 128, 512]⟩
abbrev S128x512 : Shape := ⟨2, ![128, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x128x512, .f32⟩
  | .hbm, ⟨1, _⟩ => ⟨S1x128x512, .f32⟩
  | .hbm, ⟨2, _⟩ => ⟨S1x128x512, .f32⟩
  | .hbm, ⟨3, _⟩ => ⟨S1x128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddGatePlainIdeal.lean ====
abbrev S1x128x512 : Shape := ⟨3, ![1, 128, 512]⟩
abbrev S_ : Shape := ⟨0, ![]⟩
abbrev S128x512 : Shape := ⟨2, ![128, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x128x512, .f32⟩
  | .hbm, ⟨1, _⟩ => ⟨S1x128x512, .f32⟩
  | .hbm, ⟨2, _⟩ => ⟨S1x128x512, .f32⟩
  | .hbm, ⟨3, _⟩ => ⟨S1x128x512, .f32⟩
  | .hbm, ⟨4, _⟩ => ⟨S_, .f32⟩
  | .hbm, ⟨5, _⟩ => ⟨S1x128x512, .f32⟩
  | .hbm, ⟨6, _⟩ => ⟨S1x128x512, .f32⟩
  | .hbm, ⟨7, _⟩ => ⟨S_, .f32⟩
  | .hbm, ⟨8, _⟩ => ⟨S1x128x512, .f32⟩
  | .hbm, ⟨9, _⟩ => ⟨S1x128x512, .f32⟩
  | .hbm, ⟨10, _⟩ => ⟨S1x128x512, .f32⟩
  | .hbm, ⟨11, _⟩ => ⟨S_, .f32⟩
  | .hbm, ⟨12, _⟩ => ⟨S1x128x512, .f32⟩
  | .hbm, ⟨13, _⟩ => ⟨S1x128x512, .f32⟩
  | .hbm, ⟨14, _⟩ => ⟨S1x128x512, .f32⟩
  | .hbm, ⟨15, _⟩ => ⟨S_, .f32⟩
  | .hbm, ⟨16, _⟩ => ⟨S1x128x512, .f32⟩
  | .hbm, ⟨17, _⟩ => ⟨S1x128x512, .f32⟩
  | .hbm, ⟨18, _⟩ => ⟨S1x128x512, .f32⟩
  | .hbm, ⟨19, _⟩ => ⟨S_, .f32⟩
  | .hbm, ⟨20, _⟩ => ⟨S1x128x512, .f32⟩
  | .hbm, ⟨21, _⟩ => ⟨S1x128x512, .f32⟩
  | .hbm, ⟨22, _⟩ => ⟨S_, .f32⟩
  | .hbm, ⟨23, _⟩ => ⟨S1x128x512, .f32⟩
  | .hbm, ⟨24, _⟩ => ⟨S1x128x512, .f32⟩
  | .hbm, ⟨25, _⟩ => ⟨S1x128x512, .f32⟩
  | .hbm, ⟨26, _⟩ => ⟨S_, .f32⟩
  | .hbm, ⟨27, _⟩ => ⟨S1x128x512, .f32⟩
  | .hbm, ⟨28, _⟩ => ⟨S1x128x512, .f32⟩
  | .hbm, ⟨29, _⟩ => ⟨S1x128x512, .f32⟩
  | .hbm, ⟨30, _⟩ => ⟨S_, .f32⟩
  | .hbm, ⟨31, _⟩ => ⟨S1x128x512, .f32⟩
  | .hbm, ⟨32, _⟩ => ⟨S1x128x512, .f32⟩
  | .hbm, ⟨33, _⟩ => ⟨S1x128x512, .f32⟩
  | .hbm, ⟨34, _⟩ => ⟨S_, .f32⟩
  | .hbm, ⟨35, _⟩ => ⟨S1x128x512, .f32⟩
  | .hbm, ⟨36, _⟩ => ⟨S1x128x512, .f32⟩
  | .hbm, ⟨37, _⟩ => ⟨S128x512, .f32⟩
  | .hbm, ⟨38, _⟩ => ⟨S128x512, .f32⟩
  | .hbm, ⟨39, _⟩ => ⟨S128x512, .f32⟩
  | _, _ => ⟨S1x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOddOut.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddOutIdeal.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddOutPlainIdeal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUp.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpPlainIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConv.lean ====
abbrev S2x3x1408 : Shape := ⟨3, ![2, 3, 1408]⟩
abbrev S6x1408 : Shape := ⟨2, ![6, 1408]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S2x3x1408 : Shape := ⟨3, ![2, 3, 1408]⟩
abbrev S6x1408 : Shape := ⟨2, ![6, 1408]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvPlainIdeal.lean ====
abbrev S2x3x1408 : Shape := ⟨3, ![2, 3, 1408]⟩
abbrev S_ : Shape := ⟨0, ![]⟩
abbrev S6x1408 : Shape := ⟨2, ![6, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | .hbm, ⟨37, _⟩ => ⟨S6x1408, .f32⟩
  | .hbm, ⟨38, _⟩ => ⟨S6x1408, .f32⟩
  | .hbm, ⟨39, _⟩ => ⟨S6x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBias.lean ====
abbrev S2x5632 : Shape := ⟨2, ![2, 5632]⟩

abbrev nBuf : Space → Nat
  | .hbm => 7
  | .vmem => 7
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S2x5632, .f32⟩
  | .hbm, ⟨5, _⟩ => ⟨S2x5632, .f32⟩
  | .hbm, ⟨6, _⟩ => ⟨S2x5632, .f32⟩
  | .local _ .vmem, ⟨0, _⟩ => ⟨S2x5632, .f32⟩
  | .local _ .vmem, ⟨1, _⟩ => ⟨S2x5632, .f32⟩
  | .local _ .vmem, ⟨2, _⟩ => ⟨S2x5632, .f32⟩
  | .local _ .vmem, ⟨3, _⟩ => ⟨S2x5632, .f32⟩
  | .local _ .vmem, ⟨4, _⟩ => ⟨S2x5632, .f32⟩
  | .local _ .vmem, ⟨5, _⟩ => ⟨S2x5632, .f32⟩
  | .local _ .vmem, ⟨6, _⟩ => ⟨S2x5632, .f32⟩
  | _, _ => ⟨S2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
abbrev S2x5632 : Shape := ⟨2, ![2, 5632]⟩

abbrev nBuf : Space → Nat
  | .hbm => 7
  | .vmem => 7
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S2x5632, .f32⟩
  | .hbm, ⟨5, _⟩ => ⟨S2x5632, .f32⟩
  | .hbm, ⟨6, _⟩ => ⟨S2x5632, .f32⟩
  | .local _ .vmem, ⟨0, _⟩ => ⟨S2x5632, .f32⟩
  | .local _ .vmem, ⟨1, _⟩ => ⟨S2x5632, .f32⟩
  | .local _ .vmem, ⟨2, _⟩ => ⟨S2x5632, .f32⟩
  | .local _ .vmem, ⟨3, _⟩ => ⟨S2x5632, .f32⟩
  | .local _ .vmem, ⟨4, _⟩ => ⟨S2x5632, .f32⟩
  | .local _ .vmem, ⟨5, _⟩ => ⟨S2x5632, .f32⟩
  | .local _ .vmem, ⟨6, _⟩ => ⟨S2x5632, .f32⟩
  | _, _ => ⟨S2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasPlainIdeal.lean ====
abbrev S2x5632 : Shape := ⟨2, ![2, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S_, .f32⟩
  | .hbm, ⟨5, _⟩ => ⟨S2x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S2x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2x5632, .f32⟩
  | .hbm, ⟨14, _⟩ => ⟨S2x5632, .f32⟩
  | .hbm, ⟨15, _⟩ => ⟨S_, .f32⟩
  | .hbm, ⟨16, _⟩ => ⟨S2x5632, .f32⟩
  | .hbm, ⟨17, _⟩ => ⟨S2x5632, .f32⟩
  | .hbm, ⟨18, _⟩ => ⟨S2x5632, .f32⟩
  | .hbm, ⟨19, _⟩ => ⟨S_, .f32⟩
  | .hbm, ⟨20, _⟩ => ⟨S2x5632, .f32⟩
  | .hbm, ⟨21, _⟩ => ⟨S2x5632, .f32⟩
  | .hbm, ⟨22, _⟩ => ⟨S_, .f32⟩
  | .hbm, ⟨23, _⟩ => ⟨S2x5632, .f32⟩
  | .hbm, ⟨24, _⟩ => ⟨S2x5632, .f32⟩
  | .hbm, ⟨25, _⟩ => ⟨S2x5632, .f32⟩
  | .hbm, ⟨26, _⟩ => ⟨S_, .f32⟩
  | .hbm, ⟨27, _⟩ => ⟨S2x5632, .f32⟩
  | .hbm, ⟨28, _⟩ => ⟨S2x5632, .f32⟩
  | .hbm, ⟨29, _⟩ => ⟨S2x5632, .f32⟩
  | .hbm, ⟨30, _⟩ => ⟨S_, .f32⟩
  | .hbm, ⟨31, _⟩ => ⟨S2x5632, .f32⟩
  | .hbm, ⟨32, _⟩ => ⟨S2x5632, .f32⟩
  | .hbm, ⟨33, _⟩ => ⟨S2x5632, .f32⟩
  | .hbm, ⟨34, _⟩ => ⟨S_, .f32⟩
  | .hbm, ⟨35, _⟩ => ⟨S2x5632, .f32⟩
  | .hbm, ⟨36, _⟩ => ⟨S2x5632, .f32⟩
  | _, _ => ⟨S2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownPlainIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFinal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalPlainIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPlainIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdPlainIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x128, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_19 : BitVec 32 := 0#32
  let v55 : BitVec 1 := Scalar.cmpi .ne v54 c0_i32_19
  v55

def k0_cond2 (i : grid0.Coords) : BitVec 1 :=
  let arg0 : BitVec 32 := BitVec.ofNat 32 (i 0).val
  let c0_i32_20 : BitVec 32 := 0#32
  let v56 : BitVec 1 := Scalar.cmpi .sgt arg0 c0_i32_20
  let v57 : BitVec 32 := Scalar.extui v56
  let c0_i32_21 : BitVec 32 := 0#32
  let v58 : BitVec 1 := Scalar.cmpi .ne v57 c0_i32_21
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadPlainIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x128, .f32⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== EvenDt.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenDtPlainIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Glu.lean ====
abbrev S4096x1536 : Shape := ⟨2, ![4096, 1536]⟩
abbrev S4096x512 : Shape := ⟨2, ![4096, 512]⟩
abbrev S512x512 : Shape := ⟨2, ![512, 512]⟩

abbrev nBuf : Space → Nat
  | .hbm => 2
  | .vmem => 6
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluPlainIdeal.lean ====
abbrev S4096x1536 : Shape := ⟨2, ![4096, 1536]⟩
abbrev S4096x512 : Shape := ⟨2, ![4096, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S4096x512, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GluBwd.lean ====
abbrev S4096x1536 : Shape := ⟨2, ![4096, 1536]⟩
abbrev S4096x512 : Shape := ⟨2, ![4096, 512]⟩
abbrev S4096x1024 : Shape := ⟨2, ![4096, 1024]⟩
abbrev S512x512 : Shape := ⟨2, ![512, 512]⟩
abbrev S512x1024 : Shape := ⟨2, ![512, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluBwdPlainIdeal.lean ====
abbrev S4096x1536 : Shape := ⟨2, ![4096, 1536]⟩
abbrev S4096x512 : Shape := ⟨2, ![4096, 512]⟩
abbrev S_ : Shape := ⟨0, ![]⟩
abbrev S4096x1024 : Shape := ⟨2, ![4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x1024, .f32⟩
  | .hbm, ⟨21, _⟩ => ⟨S4096x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Ln.lean ====
abbrev S4096x512 : Shape := ⟨2, ![4096, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnPlainIdeal.lean ====
abbrev S4096x512 : Shape := ⟨2, ![4096, 512]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== LnBwd.lean ====
abbrev S4096x512 : Shape := ⟨2, ![4096, 512]⟩
abbrev S1x512 : Shape := ⟨2, ![1, 512]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .bf16⟩
  | .hbm, ⟨4, _⟩ => ⟨S4096x512, .f32⟩
  | .hbm, ⟨5, _⟩ => ⟨S1x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_24 : BitVec 32 := 0#32
  let v71 : BitVec 1 := Scalar.cmpi .ne v70 c0_i32_24
  v71

def k0_cond2 (i : grid0.Coords) : BitVec 1 :=
  let arg0 : BitVec 32 := BitVec.ofNat 32 (i 0).val
  let c0_i32_25 : BitVec 32 := 0#32
  let v72 : BitVec 1 := Scalar.cmpi .sgt arg0 c0_i32_25
  let v73 : BitVec 32 := Scalar.extui v72
  let c0_i32_26 : BitVec 32 := 0#32
  let v74 : BitVec 1 := Scalar.cmpi .ne v73 c0_i32_26
  v74

def k0_cond3 (i : grid0.Coords) : BitVec 1 :=
  let arg0 : BitVec 32 := BitVec.ofNat 32 (i 0).val
  let c0_i32_27 : BitVec 32 := 0#32
  let v75 : BitVec 1 := Scalar.cmpi .eq arg0 c0_i32_27
  let v76 : BitVec 32 := Scalar.extui v75
  let c0_i32_28 : BitVec 32 := 0#32
  let v77 : BitVec 1 := Scalar.cmpi .ne v76 c0_i32_28
  v77

def k0_cond4 (i : grid0.Coords) : BitVec 1 :=
  let arg0 : BitVec 32 := BitVec.ofNat 32 (i 0).val
  let c0_i32_29 : BitVec 32 := 0#32
  let v78 : BitVec 1 := Scalar.cmpi .sgt arg0 c0_i32_29
  let v79 : BitVec 32 := Scalar.extui v78
  let c0_i32_30 : BitVec 32 := 0#32
  let v80 : BitVec 1 := Scalar.cmpi .ne v79 c0_i32_30
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdPlainIdeal.lean ====
abbrev S4096x512 : Shape := ⟨2, ![4096, 512]⟩
abbrev S1x512 : Shape := ⟨2, ![1, 512]⟩
abbrev S4096x1024 : Shape := ⟨2, ![4096, 1024]⟩
abbrev S512 : Shape := ⟨1, ![512]⟩
abbrev S_ : Shape := ⟨0, ![]⟩
abbrev S4096 : Shape := ⟨1, ![4096]⟩
abbrev S4096x1 : Shape := ⟨2, ![4096, 1]⟩

abbrev nBuf : Space → Nat
  | .hbm => 99
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .bf16⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .bf16⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S_, .f32⟩
  | .hbm, ⟨60, _⟩ => ⟨S512, .f32⟩
  | .hbm, ⟨61, _⟩ => ⟨S4096x512, .f32⟩
  | .hbm, ⟨62, _⟩ => ⟨S_, .f32⟩
  | .hbm, ⟨63, _⟩ => ⟨S512, .f32⟩
  | .hbm, ⟨64, _⟩ => ⟨S1x512, .f32⟩
  | .hbm, ⟨65, _⟩ => ⟨S4096x512, .f32⟩
  | .hbm, ⟨66, _⟩ => ⟨S4096x512, .f32⟩
  | .hbm, ⟨67, _⟩ => ⟨S_, .f32⟩
  | .hbm, ⟨68, _⟩ => ⟨S512, .f32⟩
  | .hbm, ⟨69, _⟩ => ⟨S4096x512, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x512, .f32⟩
  | .hbm, ⟨74, _⟩ => ⟨S4096x512, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S4096x512, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x512, .f32⟩
  | .hbm, ⟨96, _⟩ => ⟨S4096x512, .f32⟩
  | .hbm, ⟨97, _⟩ => ⟨S1x512, .f32⟩
  | .hbm, ⟨98, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v27_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v27_1 : Ref sig .tc := ⟨.hbm, 48, rfl⟩
abbrev main_v27_0 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩

abbrev nD : Nat := 1
abbrev τ : Topo := Topo.v7x

variable {F : FTy → Type} [FloatOps F]
-- ==== S5In.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== S5InPlainIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S512x2048, .f32⟩
  | .hbm, ⟨3, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== S5InDx.lean ====
abbrev S4096x512 : Shape := ⟨2, ![4096, 512]⟩
abbrev S512x2048 : Shape := ⟨2, ![512, 2048]⟩
abbrev S4096x2048 : Shape := ⟨2, ![4096, 2048]⟩
abbrev S1024x2048 : Shape := ⟨2, ![1024, 2048]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S4096x2048, .f32⟩
  | .hbm, ⟨3, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== S5InDxPlainIdeal.lean ====
abbrev S4096x512 : Shape := ⟨2, ![4096, 512]⟩
abbrev S512x2048 : Shape := ⟨2, ![512, 2048]⟩
abbrev S4096x2048 : Shape := ⟨2, ![4096, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S4096x2048, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | .hbm, ⟨7, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== S5InDw.lean ====
abbrev S4096x512 : Shape := ⟨2, ![4096, 512]⟩
abbrev S512x2048 : Shape := ⟨2, ![512, 2048]⟩
abbrev S4096x2048 : Shape := ⟨2, ![4096, 2048]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S4096x2048, .f32⟩
  | .hbm, ⟨3, _⟩ => ⟨S512x2048, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== S5InDwPlainIdeal.lean ====
abbrev S4096x512 : Shape := ⟨2, ![4096, 512]⟩
abbrev S512x2048 : Shape := ⟨2, ![512, 2048]⟩
abbrev S4096x2048 : Shape := ⟨2, ![4096, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S4096x2048, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | .hbm, ⟨7, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== S5Out.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S512x2048, .bf16⟩
  | .hbm, ⟨2, _⟩ => ⟨S4096x512, .f32⟩
  | .hbm, ⟨3, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== S5OutPlainIdeal.lean ====
abbrev S4096x2048 : Shape := ⟨2, ![4096, 2048]⟩
abbrev S512x2048 : Shape := ⟨2, ![512, 2048]⟩
abbrev S4096x512 : Shape := ⟨2, ![4096, 512]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S2048x512, .f32⟩
  | .hbm, ⟨5, _⟩ => ⟨S4096x512, .f32⟩
  | .hbm, ⟨6, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== S5Post.lean ====
abbrev S4096x512 : Shape := ⟨2, ![4096, 512]⟩
abbrev S4096x1536 : Shape := ⟨2, ![4096, 1536]⟩
abbrev S1x512 : Shape := ⟨2, ![1, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x1536, .f32⟩
  | .hbm, ⟨2, _⟩ => ⟨S1x512, .f32⟩
  | .hbm, ⟨3, _⟩ => ⟨S512x512, .f32⟩
  | .hbm, ⟨4, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== S5PostPlainIdeal.lean ====
abbrev S4096x512 : Shape := ⟨2, ![4096, 512]⟩
abbrev S4096x1536 : Shape := ⟨2, ![4096, 1536]⟩
abbrev S1x512 : Shape := ⟨2, ![1, 512]⟩
abbrev S512x512 : Shape := ⟨2, ![512, 512]⟩
abbrev S512 : Shape := ⟨1, ![512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1536, .f32⟩
  | .hbm, ⟨2, _⟩ => ⟨S1x512, .f32⟩
  | .hbm, ⟨3, _⟩ => ⟨S512x512, .f32⟩
  | .hbm, ⟨4, _⟩ => ⟨S4096x512, .f32⟩
  | .hbm, ⟨5, _⟩ => ⟨S512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Maths.lean ====
/-
  The gradient of one chunk of retention for one head, as functions of matrices of extended reals. `Q` and `K` are the
  rotated queries and the rotated, scaled keys of the chunk (a row is a position, a column an element of the head), `V`,
  `G` and `Y` the values, the gates and the cotangent of the output, `S` the state that enters the chunk, `D` the
  cotangent of the state that leaves it, `A` the decay between two positions of the chunk, `Z` the decay from a position
  to the chunk's end and `X` the decay from the chunk's start to a position.
-/
module

public import Idealize.ShloMosaic.Lib.Pointwise

@[expose] public section

namespace Cert.Retention

open Idealize.ShloMosaic

noncomputable section

/-- The width of a head's values, as the word both programs hold. -/
def width : EReal := Ideal.ofBits .f32 0x43800000#32
/-- The summand under the root of the group norm. -/
def eps : EReal := Ideal.ofBits .f32 0x358637BD#32
/-- Minus one half. -/
def minusHalf : EReal := Ideal.ofBits .f32 0xBF000000#32
/-- The scale of the keys. -/
def scale : EReal := Ideal.ofBits .f32 0x3DB504F3#32

/-- The decayed scores of the positions `i` and `j`. -/
def score (Q K A : Fin 128 → Fin 128 → EReal) (i j : Fin 128) : EReal := (∑ d, Q i d * K j d) * A i j

/-- The retention's output before its norm: within the chunk, and from the state before it. -/
def out (Q K A : Fin 128 → Fin 128 → EReal) (V S X : Fin 128 → Fin 256 → EReal) (i : Fin 128) (e : Fin 256) : EReal :=
  (∑ j, score Q K A i j * V j e) + (∑ d, Q i d * S d e) * X i e

/-- A row without its mean. -/
def centred (O : Fin 128 → Fin 256 → EReal) (i : Fin 128) (e : Fin 256) : EReal :=
  O i e - Ideal.div (∑ e', O i e') width

/-- The mean square of a row, and the summand under the root. -/
def spread (C : Fin 128 → Fin 256 → EReal) (i : Fin 128) : EReal :=
  Ideal.div (∑ e, C i e * C i e) width + eps

/-- The gate's slope times its argument. -/
def gate (G : Fin 128 → Fin 256 → EReal) (i : Fin 128) (e : Fin 256) : EReal := G i e * Ideal.logistic (G i e)

/-- The cotangent of the mean square of row `i`, over the width: `R` is the cotangent of the normed row. -/
def pull (C R : Fin 128 → Fin 256 → EReal) (i : Fin 128) : EReal :=
  Ideal.div ((∑ e, C i e * R i e) * (minusHalf * Ideal.div (Ideal.rsqrt (spread C i)) (spread C i))) width

/-- The cotangent of the centred row. -/
def dCentred (C R : Fin 128 → Fin 256 → EReal) (i : Fin 128) (e : Fin 256) : EReal :=
  R i e * Ideal.rsqrt (spread C i) + C i e * pull C R i + pull C R i * C i e

/-- The cotangent of the output before its norm. -/
def dOut (C R : Fin 128 → Fin 256 → EReal) (i : Fin 128) (e : Fin 256) : EReal :=
  dCentred C R i e + Ideal.div (∑ e', -dCentred C R i e') width

/-- The cotangent of the normed row. -/
def dNormed (G Y : Fin 128 → Fin 256 → EReal) (i : Fin 128) (e : Fin 256) : EReal := gate G i e * Y i e

/-- The cotangent of the gate. -/
def dGate (C G Y : Fin 128 → Fin 256 → EReal) (i : Fin 128) (e : Fin 256) : EReal :=
  Y i e * (C i e * Ideal.rsqrt (spread C i)) * Ideal.logistic (G i e) +
    G i e * (Y i e * (C i e * Ideal.rsqrt (spread C i))) *
      (Ideal.logistic (G i e) * (Ideal.ofBits .f32 0x3F800000#32 - Ideal.logistic (G i e)))

/-- The cotangent of the values: from the scores, and from the state that leaves the chunk. -/
def dValue (Q K A Z : Fin 128 → Fin 128 → EReal) (O' D : Fin 128 → Fin 256 → EReal) (j : Fin 128) (e : Fin 256) : EReal :=
  (∑ i, O' i e * score Q K A i j) + ∑ d, D d e * (K j d * Z j d)

/-- The cotangent of the products of queries and keys. -/
def dScore (A : Fin 128 → Fin 128 → EReal) (O' V : Fin 128 → Fin 256 → EReal) (i j : Fin 128) : EReal :=
  (∑ e, O' i e * V j e) * A i j

/-- The cotangent of the rotated queries. -/
def dQuery (K A : Fin 128 → Fin 128 → EReal) (O' V S X : Fin 128 → Fin 256 → EReal) (i d : Fin 128) : EReal :=
  (∑ e, O' i e * X i e * S d e) + ∑ j, dScore A O' V i j * K j d

/-- The cotangent of the rotated keys, scaled. -/
def dKey (Q A Z : Fin 128 → Fin 128 → EReal) (O' V D : Fin 128 → Fin 256 → EReal) (j d : Fin 128) : EReal :=
  ((∑ e, D d e * V j e) * Z j d + ∑ i, dScore A O' V i j * Q i d) * scale

/-- The cotangent of the state that enters the chunk. -/
def dState (decay : EReal) (Q : Fin 128 → Fin 128 → EReal) (O' X D : Fin 128 → Fin 256 → EReal) (d : Fin 128)
    (e : Fin 256) : EReal :=
  D d e * decay + ∑ i, O' i e * X i e * Q i d

/-- What a chunk adds to the state. -/
def gain (K Z : Fin 128 → Fin 128 → EReal) (V : Fin 128 → Fin 256 → EReal) (d : Fin 128) (e : Fin 256) : EReal :=
  ∑ j, K j d * Z j d * V j e

/-- The other half of a head's elements, from the element `d`. -/
def other (d : Fin 128) : Fin 128 := ⟨(d.val + 64) % 128, Nat.mod_lt _ (by decide)⟩

/-- The rotation of a row's pairs, over tables of the cosines and of the signed sines. -/
def turn (C N : Fin 128 → Fin 128 → EReal) (x : Fin 128 → Fin 128 → EReal) (i d : Fin 128) : EReal :=
  x i d * C i d + x i (other d) * N i d

/-- The rotation back. -/
def back (C N : Fin 128 → Fin 128 → EReal) (y : Fin 128 → Fin 128 → EReal) (i d : Fin 128) : EReal :=
  y i d * C i d + y i (other d) * N i (other d)

end

end Cert.Retention
-- ==== Proof.Head.lean ====
/-
  One head of the kernel's body, as vector operations over the blocks it reads, and what each of them is at an index.
-/
module

public import proofs.«01_k».proof.Proof.Gen.KernelIdeal.Skeleton
public import proofs.«01_k».proof.Proof.Maths

@[expose] public section

set_option maxRecDepth 16384

noncomputable section

namespace Cert.Retention

open Idealize.ShloMosaic Idealize.ShloMosaic.TcCoe Idealize.SL.Sem
open Cert.KernelIdeal Cert.KernelIdeal.Gen

/-- A vector read as a matrix. -/
abbrev mat {m n : ℕ} {φ : FTy} (v : FVec Ideal ⟨2, ![m, n]⟩ φ) (i : Fin m) (j : Fin n) : EReal := v (ix2 i j)

/-- A vector of one row of a block read as a matrix. -/
abbrev mat₁ {m n : ℕ} {φ : FTy} (v : FVec Ideal ⟨3, ![1, m, n]⟩ φ) (i : Fin m) (j : Fin n) : EReal := v (ix3 0 i j)

section Turn

variable (cs sn : FVec Ideal S128x128 .f32)

/-- The rotation of a head's elements. -/
def turnV (x : FVec Ideal S128x128 .bf16) : FVec Ideal S128x128 .f32 :=
  addf (mulf (extf .f32 x bitsLt_bf16_f32) (shapeCast S128x128 cs shapeCasts_S128x128_S128x128))
    (mulf (dynamicRotate 1 64#32 none (extf .f32 x bitsLt_bf16_f32) rotates_S128x128_d1) (shapeCast S128x128 sn shapeCasts_S128x128_S128x128))

theorem turnV_at (x : FVec Ideal S128x128 .bf16) (i d : Fin 128) :
    turnV cs sn x (ix2 i d) = turn (mat cs) (mat sn) (mat x) i d := by
  have e : (d : ℕ) + 128 - 64 = d + 64 := by omega
  pointwise [turnV, turn, mat, other]
  simp only [e]

/-- The rotation of a head's elements, scaled. -/
def turnScaleV (x : FVec Ideal S128x128 .bf16) : FVec Ideal S128x128 .f32 :=
  mulf (turnV cs sn x) (broadcast S128x128 (Scalar.ofBits .f32 0x3DB504F3#32))

theorem turnScaleV_at (x : FVec Ideal S128x128 .bf16) (i d : Fin 128) :
    turnScaleV cs sn x (ix2 i d) = turn (mat cs) (mat sn) (mat x) i d * scale := by
  have h := turnV_at cs sn x i d
  pointwise [turnScaleV, scale, h]

/-- The rotation back of a head's cotangent. -/
def backV (y : FVec Ideal S128x128 .f32) : FVec Ideal S128x128 .bf16 :=
  truncf .bf16 (addf (mulf y (shapeCast S128x128 cs shapeCasts_S128x128_S128x128))
    (dynamicRotate 1 64#32 none (mulf y (shapeCast S128x128 sn shapeCasts_S128x128_S128x128)) rotates_S128x128_d1)) bitsLt_bf16_f32

theorem backV_at (y : FVec Ideal S128x128 .f32) (i d : Fin 128) :
    backV cs sn y (ix2 i d) = back (mat cs) (mat sn) (mat y) i d := by
  have e : (d : ℕ) + 128 - 64 = d + 64 := by omega
  pointwise [backV, back, mat, other]
  simp only [e]

end Turn

section Norm

variable (q k : FVec Ideal S128x128 .f32) (v g : FVec Ideal S128x256 .bf16) (it zt : FVec Ideal S1x128x128 .f32)
  (xt : FVec Ideal S1x128x256 .f32) (st : FVec Ideal S1x1x128x256 .f32) (dy : FVec Ideal S128x256 .bf16)
  (ds : FVec Ideal S1x128x256 .f32)

/-- The decayed scores. -/
def scoreV : FVec Ideal S128x128 .bf16 :=
  truncf .bf16 (mulf (matmul dot_S128x128_S128x128_S128x128_1_1_0_0_n_n none (truncf .bf16 q bitsLt_bf16_f32)
    (truncf .bf16 k bitsLt_bf16_f32) (constant S128x128 .f32 0x00000000#32)) (shapeCast S128x128 it shapeCasts_S1x128x128_S128x128)) bitsLt_bf16_f32

theorem scoreV_at (i j : Fin 128) : scoreV q k it (ix2 i j) = score (mat q) (mat k) (mat₁ it) i j := by
  pointwise [scoreV, score, mat, mat₁]

/-- The output before its norm. -/
def outV : FVec Ideal S128x256 .f32 :=
  addf (matmul dot_S128x128_S128x256_S128x256_1_0_0_1_n_n none (scoreV q k it)
      (truncf .bf16 (extf .f32 v bitsLt_bf16_f32) bitsLt_bf16_f32 : FVec Ideal S128x256 .bf16) (constant S128x256 .f32 0x00000000#32))
    (mulf (matmul dot_S128x128_S128x256_S128x256_1_0_0_1_n_n none (truncf .bf16 q bitsLt_bf16_f32)
      (truncf .bf16 (shapeCast S128x256 st shapeCasts_S1x1x128x256_S128x256) bitsLt_bf16_f32) (constant S128x256 .f32 0x00000000#32))
      (shapeCast S128x256 xt shapeCasts_S1x128x256_S128x256))

theorem outV_at (i : Fin 128) (e : Fin 256) : outV q k v it xt st (ix2 i e) =
    out (mat q) (mat k) (mat₁ it) (mat v) (fun d e => st (ix4 0 0 d e)) (mat₁ xt) i e := by
  have h := scoreV_at q k it
  pointwise [outV, out, mat, mat₁, h]

/-- A row's sum over the width. -/
def meanV (o : FVec Ideal S128x256 .f32) : FVec Ideal S128x1 .f32 :=
  divf (shapeCast S128x1 (multiReduction .add [1] S128 o 0x00000000#32 reduces_S128x256_S128 (.inl rfl) rfl) shapeCasts_S128_S128x1)
    (broadcast S128x1 (Scalar.ofBits .f32 0x43800000#32))

theorem meanV_at (o : FVec Ideal S128x256 .f32) (i : Fin 128) (z : Fin 1) : meanV o (ix2 i z) = Ideal.div (∑ e, o (ix2 i e)) width := by
  pointwise [meanV, width]

/-- The rows without their means. -/
def centredV (o : FVec Ideal S128x256 .f32) : FVec Ideal S128x256 .f32 :=
  subf o (broadcastTo S128x256 (meanV o) broadcasts_S128x1_S128x256)

theorem centredV_at (o : FVec Ideal S128x256 .f32) (i : Fin 128) (e : Fin 256) : centredV o (ix2 i e) = centred (mat o) i e := by
  have h := meanV_at o
  pointwise [centredV, centred, mat, h]

/-- The summand under the root. -/
def spreadV (c : FVec Ideal S128x256 .f32) : FVec Ideal S128x1 .f32 :=
  addf (meanV (mulf c c)) (broadcast S128x1 (Scalar.ofBits .f32 0x358637BD#32))

theorem spreadV_at (c : FVec Ideal S128x256 .f32) (i : Fin 128) (z : Fin 1) : spreadV c (ix2 i z) = spread (mat c) i := by
  have h := meanV_at (mulf c c)
  pointwise [spreadV, spread, mat, eps, h]

/-- The cotangent of the normed rows. -/
def dNormedV : FVec Ideal S128x256 .f32 :=
  mulf (mulf (extf .f32 g bitsLt_bf16_f32) (logistic (extf .f32 g bitsLt_bf16_f32))) (extf .f32 dy bitsLt_bf16_f32)

theorem dNormedV_at (i : Fin 128) (e : Fin 256) : dNormedV g dy (ix2 i e) = dNormed (mat g) (mat dy) i e := by
  pointwise [dNormedV, dNormed, gate, mat]

/-- A column summed over its single element. -/
def onceV (x : FVec Ideal S128x1 .f32) : FVec Ideal S128x1 .f32 :=
  shapeCast S128x1 (multiReduction .add [1] S128 x 0x00000000#32 reduces_S128x1_S128 (.inl rfl) rfl) shapeCasts_S128_S128x1

theorem onceV_at (x : FVec Ideal S128x1 .f32) (i : Fin 128) (z : Fin 1) : onceV x (ix2 i z) = x (ix2 i 0) := by
  pointwise [onceV]
  simp

/-- The cotangent of the mean squares, over the width. -/
def pullV (c r : FVec Ideal S128x256 .f32) : FVec Ideal S128x1 .f32 :=
  onceV (divf (mulf (shapeCast S128x1 (multiReduction .add [1] S128 (mulf c r) 0x00000000#32 reduces_S128x256_S128 (.inl rfl) rfl) shapeCasts_S128_S128x1)
    (mulf (broadcast S128x1 (Scalar.ofBits .f32 0xBF000000#32)) (divf (rsqrt (spreadV c)) (spreadV c))))
    (broadcast S128x1 (Scalar.ofBits .f32 0x43800000#32)))

theorem pullV_at (c r : FVec Ideal S128x256 .f32) (i : Fin 128) (z : Fin 1) : pullV c r (ix2 i z) = pull (mat c) (mat r) i := by
  have h := spreadV_at c
  rw [pullV, onceV_at]
  pointwise [pull, mat, minusHalf, width, h]

/-- The cotangent of the centred rows. -/
def dCentredV (c r : FVec Ideal S128x256 .f32) : FVec Ideal S128x256 .f32 :=
  addf (addf (mulf r (broadcastTo S128x256 (rsqrt (spreadV c)) broadcasts_S128x1_S128x256))
    (mulf c (broadcastTo S128x256 (pullV c r) broadcasts_S128x1_S128x256)))
    (mulf (broadcastTo S128x256 (pullV c r) broadcasts_S128x1_S128x256) c)

theorem dCentredV_at (c r : FVec Ideal S128x256 .f32) (i : Fin 128) (e : Fin 256) :
    dCentredV c r (ix2 i e) = dCentred (mat c) (mat r) i e := by
  have h := spreadV_at c
  have h' := pullV_at c r
  pointwise [dCentredV, dCentred, mat, h, h']

/-- The cotangent of the output before its norm. -/
def dOutV (c r : FVec Ideal S128x256 .f32) : FVec Ideal S128x256 .f32 :=
  addf (dCentredV c r) (broadcastTo S128x256 (onceV (meanV (subf (broadcast S128x256 (Scalar.ofBits .f32 0x00000000#32)) (dCentredV c r)))) broadcasts_S128x1_S128x256)

theorem dOutV_at (c r : FVec Ideal S128x256 .f32) (i : Fin 128) (e : Fin 256) :
    dOutV c r (ix2 i e) = dOut (mat c) (mat r) i e := by
  have h := dCentredV_at c r
  pointwise [dOutV, dOut, mat, h]
  rw [onceV_at, meanV_at]
  pointwise [h]
  simp only [zero_sub]

/-- The cotangent of the gate. -/
def dGateV (c : FVec Ideal S128x256 .f32) : FVec Ideal S128x256 .bf16 :=
  truncf .bf16 (addf (mulf (mulf (extf .f32 dy bitsLt_bf16_f32) (mulf c (broadcastTo S128x256 (rsqrt (spreadV c)) broadcasts_S128x1_S128x256)))
      (logistic (extf .f32 g bitsLt_bf16_f32)))
    (mulf (mulf (extf .f32 g bitsLt_bf16_f32) (mulf (extf .f32 dy bitsLt_bf16_f32) (mulf c (broadcastTo S128x256 (rsqrt (spreadV c)) broadcasts_S128x1_S128x256))))
      (mulf (logistic (extf .f32 g bitsLt_bf16_f32)) (subf (broadcast S128x256 (Scalar.ofBits .f32 0x3F800000#32)) (logistic (extf .f32 g bitsLt_bf16_f32)))))) bitsLt_bf16_f32

theorem dGateV_at (c : FVec Ideal S128x256 .f32) (i : Fin 128) (e : Fin 256) :
    dGateV g dy c (ix2 i e) = dGate (mat c) (mat g) (mat dy) i e := by
  have h := spreadV_at c
  pointwise [dGateV, dGate, mat, h]

end Norm

section Pull

variable (q k : FVec Ideal S128x128 .f32) (v : FVec Ideal S128x256 .bf16) (it zt : FVec Ideal S1x128x128 .f32)
  (xt : FVec Ideal S1x128x256 .f32) (st : FVec Ideal S1x1x128x256 .f32) (o : FVec Ideal S128x256 .f32)
  (ds : FVec Ideal S1x128x256 .f32)

/-- The cotangent of the values. -/
def dValueV : FVec Ideal S128x256 .bf16 :=
  truncf .bf16 (addf
    (extf .f32 (truncf .bf16 (transpose S128x256 [1, 0] (matmul dot_S128x256_S128x128_S256x128_0_0_1_1_n_n none o (scoreV q k it)
      (constant S256x128 .f32 0x00000000#32)) transposes_S256x128_p1_0_S128x256) bitsLt_bf16_f32 : FVec Ideal S128x256 .bf16) bitsLt_bf16_f32)
    (extf .f32 (truncf .bf16 (transpose S128x256 [1, 0] (matmul dot_S128x256_S128x128_S256x128_0_1_1_0_n_n none
      (shapeCast S128x256 (shapeCast S128x256 ds shapeCasts_S1x128x256_S128x256) shapeCasts_S128x256_S128x256)
      (truncf .bf16 (mulf k (shapeCast S128x128 zt shapeCasts_S1x128x128_S128x128)) bitsLt_bf16_f32)
      (constant S256x128 .f32 0x00000000#32)) transposes_S256x128_p1_0_S128x256) bitsLt_bf16_f32 : FVec Ideal S128x256 .bf16) bitsLt_bf16_f32)) bitsLt_bf16_f32

theorem dValueV_at (j : Fin 128) (e : Fin 256) : dValueV q k it zt o ds (ix2 j e) =
    dValue (mat q) (mat k) (mat₁ it) (mat₁ zt) (mat o) (mat₁ ds) j e := by
  have h := scoreV_at q k it
  pointwise [dValueV, dValue, mat, mat₁, h]

/-- The cotangent of the products. -/
def dScoreV : FVec Ideal S128x128 .f32 :=
  mulf (extf .f32 (truncf .bf16 (matmul dot_S128x256_S128x256_S128x128_1_1_0_0_n_n none o
      (truncf .bf16 (extf .f32 v bitsLt_bf16_f32) bitsLt_bf16_f32 : FVec Ideal S128x256 .bf16)
      (constant S128x128 .f32 0x00000000#32)) bitsLt_bf16_f32 : FVec Ideal S128x128 .bf16) bitsLt_bf16_f32)
    (shapeCast S128x128 it shapeCasts_S1x128x128_S128x128)

theorem dScoreV_at (i j : Fin 128) : dScoreV v it o (ix2 i j) = dScore (mat₁ it) (mat o) (mat v) i j := by
  pointwise [dScoreV, dScore, mat, mat₁]

/-- The cotangent of the rotated queries. -/
def dQueryV : FVec Ideal S128x128 .f32 :=
  addf (extf .f32 (truncf .bf16 (matmul dot_S128x256_S128x256_S128x128_1_1_0_0_n_n none
      (mulf o (shapeCast S128x256 xt shapeCasts_S1x128x256_S128x256))
      (truncf .bf16 (shapeCast S128x256 st shapeCasts_S1x1x128x256_S128x256) bitsLt_bf16_f32)
      (constant S128x128 .f32 0x00000000#32)) bitsLt_bf16_f32 : FVec Ideal S128x128 .bf16) bitsLt_bf16_f32)
    (extf .f32 (truncf .bf16 (matmul dot_S128x128_S128x128_S128x128_1_0_0_1_n_n none (dScoreV v it o)
      (truncf .bf16 k bitsLt_bf16_f32) (constant S128x128 .f32 0x00000000#32)) bitsLt_bf16_f32 : FVec Ideal S128x128 .bf16) bitsLt_bf16_f32)

theorem dQueryV_at (i d : Fin 128) : dQueryV k v it xt st o (ix2 i d) =
    dQuery (mat k) (mat₁ it) (mat o) (mat v) (fun d e => st (ix4 0 0 d e)) (mat₁ xt) i d := by
  have h := dScoreV_at v it o
  pointwise [dQueryV, dQuery, mat, mat₁, h]

/-- The cotangent of the rotated keys, scaled. -/
def dKeyV : FVec Ideal S128x128 .f32 :=
  mulf (addf (mulf (extf .f32 (truncf .bf16 (transpose S128x128 [1, 0] (matmul dot_S128x256_S128x256_S128x128_1_1_0_0_n_n none
      (shapeCast S128x256 (shapeCast S128x256 ds shapeCasts_S1x128x256_S128x256) shapeCasts_S128x256_S128x256)
      (truncf .bf16 (extf .f32 v bitsLt_bf16_f32) bitsLt_bf16_f32 : FVec Ideal S128x256 .bf16)
      (constant S128x128 .f32 0x00000000#32)) transposes_S128x128_p1_0_S128x128) bitsLt_bf16_f32 : FVec Ideal S128x128 .bf16) bitsLt_bf16_f32)
      (shapeCast S128x128 zt shapeCasts_S1x128x128_S128x128))
    (extf .f32 (truncf .bf16 (matmul dot_S128x128_S128x128_S128x128_0_0_1_1_n_n none (dScoreV v it o)
      (truncf .bf16 q bitsLt_bf16_f32) (constant S128x128 .f32 0x00000000#32)) bitsLt_bf16_f32 : FVec Ideal S128x128 .bf16) bitsLt_bf16_f32))
    (broadcast S128x128 (Scalar.ofBits .f32 0x3DB504F3#32))

theorem dKeyV_at (j d : Fin 128) : dKeyV q v it zt o ds (ix2 j d) =
    dKey (mat q) (mat₁ it) (mat₁ zt) (mat o) (mat v) (mat₁ ds) j d := by
  have h := dScoreV_at v it o
  pointwise [dKeyV, dKey, mat, mat₁, scale, h]

/-- The cotangent of the state before the chunk, over the named decay. -/
def dStateV (decay : EReal) : FVec Ideal S1x128x256 .f32 :=
  shapeCast S1x128x256 (addf
    (mulf (shapeCast S128x256 (shapeCast S128x256 ds shapeCasts_S1x128x256_S128x256) shapeCasts_S128x256_S128x256)
      (broadcast S128x256 (show Ideal .f32 from decay)))
    (extf .f32 (truncf .bf16 (transpose S128x256 [1, 0] (matmul dot_S128x256_S128x128_S256x128_0_0_1_1_n_n none
      (mulf o (shapeCast S128x256 xt shapeCasts_S1x128x256_S128x256)) (truncf .bf16 q bitsLt_bf16_f32 : FVec Ideal S128x128 .bf16)
      (constant S256x128 .f32 0x00000000#32)) transposes_S256x128_p1_0_S128x256) bitsLt_bf16_f32 : FVec Ideal S128x256 .bf16) bitsLt_bf16_f32)) shapeCasts_S128x256_S1x128x256

theorem dStateV_at (decay : EReal) (z : Fin 1) (d : Fin 128) (e : Fin 256) : dStateV q xt o ds decay (ix3 z d e) =
    dState decay (mat q) (mat o) (mat₁ xt) (mat₁ ds) d e := by
  pointwise [dStateV, dState, mat, mat₁]

end Pull

end Cert.Retention

end
-- ==== Proof.Chunk.lean ====
/-
  One head of one chunk: what the retention's backward pass makes of the chunk's queries, keys, values, gates and
  cotangents, of the decays and of the states that meet it.
-/
module

public import proofs.«01_k».proof.Proof.Maths

@[expose] public section

noncomputable section

namespace Cert.Retention

open Idealize.ShloMosaic

/-- What one head of one chunk is given. -/
structure Chunk where
  /-- The cosines of the chunk's rotations. -/
  cs : Fin 128 → Fin 128 → EReal
  /-- Their sines, signed. -/
  sn : Fin 128 → Fin 128 → EReal
  /-- The queries. -/
  q : Fin 128 → Fin 128 → EReal
  /-- The keys. -/
  k : Fin 128 → Fin 128 → EReal
  /-- The values. -/
  v : Fin 128 → Fin 256 → EReal
  /-- The gates. -/
  g : Fin 128 → Fin 256 → EReal
  /-- The cotangent of the result. -/
  y : Fin 128 → Fin 256 → EReal
  /-- The decay between two positions. -/
  a : Fin 128 → Fin 128 → EReal
  /-- The decay from a position to the chunk's end. -/
  z : Fin 128 → Fin 128 → EReal
  /-- The decay from the chunk's start to a position. -/
  x : Fin 128 → Fin 256 → EReal
  /-- The state that enters the chunk. -/
  s : Fin 128 → Fin 256 → EReal
  /-- The cotangent of the state that leaves it. -/
  d : Fin 128 → Fin 256 → EReal

namespace Chunk

variable (C : Chunk)

/-- The rotated queries. -/
def rq : Fin 128 → Fin 128 → EReal := turn C.cs C.sn C.q

/-- The rotated keys, scaled. -/
def rk (i d : Fin 128) : EReal := turn C.cs C.sn C.k i d * scale

/-- The output without its rows' means. -/
def o : Fin 128 → Fin 256 → EReal := centred (out C.rq C.rk C.a C.v C.s C.x)

/-- The cotangent of the output before its norm. -/
def o' : Fin 128 → Fin 256 → EReal := dOut C.o (dNormed C.g C.y)

/-- The cotangent of the queries. -/
def dq : Fin 128 → Fin 128 → EReal := back C.cs C.sn (dQuery C.rk C.a C.o' C.v C.s C.x)

/-- The cotangent of the keys. -/
def dk : Fin 128 → Fin 128 → EReal := back C.cs C.sn (dKey C.rq C.a C.z C.o' C.v C.d)

/-- The cotangent of the values. -/
def dv : Fin 128 → Fin 256 → EReal := dValue C.rq C.rk C.a C.z C.o' C.d

/-- The cotangent of the gates. -/
def dg : Fin 128 → Fin 256 → EReal := dGate C.o C.g C.y

/-- The cotangent of the state that enters the chunk. -/
def ds (decay : EReal) : Fin 128 → Fin 256 → EReal := dState decay C.rq C.o' C.x C.d

/-- What the chunk adds to the state. -/
def gain : Fin 128 → Fin 256 → EReal := Retention.gain C.rk C.z C.v

/-- The cotangent of the queries takes no cotangent of a state. -/
theorem dq_with (D : Fin 128 → Fin 256 → EReal) : { C with d := D }.dq = C.dq := rfl

/-- Nor does the cotangent of the gates. -/
theorem dg_with (D : Fin 128 → Fin 256 → EReal) : { C with d := D }.dg = C.dg := rfl

end Chunk

end Cert.Retention

end
-- ==== Proof.ChunkVec.lean ====
/-
  One head of one grid point: the composition of the head's vector operations, and what it is at an index.
-/
module

public import proofs.«01_k».proof.Proof.Head
public import proofs.«01_k».proof.Proof.Chunk

@[expose] public section

set_option maxRecDepth 16384

noncomputable section

namespace Cert.Retention

open Idealize.ShloMosaic Idealize.ShloMosaic.TcCoe Idealize.SL.Sem
open Cert.KernelIdeal Cert.KernelIdeal.Gen

variable (cs sn : FVec Ideal S128x128 .f32) (q k : FVec Ideal S128x128 .bf16) (v g dy : FVec Ideal S128x256 .bf16)
  (it zt : FVec Ideal S1x128x128 .f32) (xt : FVec Ideal S1x128x256 .f32) (st : FVec Ideal S1x1x128x256 .f32)
  (ds : FVec Ideal S1x128x256 .f32)

/-- The head's inputs as matrices. -/
def chunkOf : Chunk :=
  { cs := mat cs, sn := mat sn, q := mat q, k := mat k, v := mat v, g := mat g, y := mat dy, a := mat₁ it, z := mat₁ zt
    x := mat₁ xt, s := fun d e => st (ix4 0 0 d e), d := mat₁ ds }

/-- The centred output of a head. -/
def oV : FVec Ideal S128x256 .f32 := centredV (outV (turnV cs sn q) (turnScaleV cs sn k) v it xt st)

/-- The cotangent of a head's output. -/
def oV' : FVec Ideal S128x256 .f32 := dOutV (oV cs sn q k v it xt st) (dNormedV g dy)

/-- What a head stores of the queries' cotangent. -/
def dqV : FVec Ideal S128x128 .bf16 :=
  backV cs sn (dQueryV (turnScaleV cs sn k) v it xt st (oV' cs sn q k v g dy it xt st))

/-- What a head stores of the keys' cotangent. -/
def dkV : FVec Ideal S128x128 .bf16 :=
  backV cs sn (dKeyV (turnV cs sn q) v it zt (oV' cs sn q k v g dy it xt st) ds)

/-- What a head stores of the values' cotangent. -/
def dvV : FVec Ideal S128x256 .bf16 :=
  dValueV (turnV cs sn q) (turnScaleV cs sn k) it zt (oV' cs sn q k v g dy it xt st) ds

/-- What a head stores of the gates' cotangent. -/
def dgV : FVec Ideal S128x256 .bf16 := dGateV g dy (oV cs sn q k v it xt st)

/-- What a head leaves of the state's cotangent. -/
def dsV (decay : EReal) : FVec Ideal S1x128x256 .f32 := dStateV (turnV cs sn q) xt (oV' cs sn q k v g dy it xt st) ds decay

theorem mat_turnV (x : FVec Ideal S128x128 .bf16) : mat (turnV cs sn x) = turn (mat cs) (mat sn) (mat x) := by
  funext i d; exact turnV_at cs sn x i d

theorem mat_turnScaleV (x : FVec Ideal S128x128 .bf16) :
    mat (turnScaleV cs sn x) = fun i d => turn (mat cs) (mat sn) (mat x) i d * scale := by
  funext i d; exact turnScaleV_at cs sn x i d

theorem mat_oV : mat (oV cs sn q k v it xt st) = (chunkOf cs sn q k v g dy it zt xt st ds).o := by
  funext i e
  refine (centredV_at _ i e).trans ?_
  have h : mat (outV (turnV cs sn q) (turnScaleV cs sn k) v it xt st) =
      out (mat (turnV cs sn q)) (mat (turnScaleV cs sn k)) (mat₁ it) (mat v) (fun d e => st (ix4 0 0 d e)) (mat₁ xt) := by
    funext i e; exact outV_at _ _ v it xt st i e
  rw [h, mat_turnV, mat_turnScaleV]; rfl

theorem mat_oV' : mat (oV' cs sn q k v g dy it xt st) = (chunkOf cs sn q k v g dy it zt xt st ds).o' := by
  funext i e
  refine (dOutV_at _ _ i e).trans ?_
  have h : mat (dNormedV g dy) = dNormed (mat g) (mat dy) := by funext i e; exact dNormedV_at g dy i e
  rw [h, mat_oV cs sn q k v g dy it zt xt st ds]; rfl

theorem dqV_at (i d : Fin 128) :
    dqV cs sn q k v g dy it xt st (ix2 i d) = (chunkOf cs sn q k v g dy it zt xt st ds).dq i d := by
  refine (backV_at cs sn _ i d).trans ?_
  have h : mat (dQueryV (turnScaleV cs sn k) v it xt st (oV' cs sn q k v g dy it xt st)) =
      dQuery (mat (turnScaleV cs sn k)) (mat₁ it) (mat (oV' cs sn q k v g dy it xt st)) (mat v) (fun d e => st (ix4 0 0 d e)) (mat₁ xt) := by
    funext i d; exact dQueryV_at _ v it xt st _ i d
  rw [h, mat_turnScaleV, mat_oV' cs sn q k v g dy it zt xt st ds]; rfl

theorem dkV_at (i d : Fin 128) :
    dkV cs sn q k v g dy it zt xt st ds (ix2 i d) = (chunkOf cs sn q k v g dy it zt xt st ds).dk i d := by
  refine (backV_at cs sn _ i d).trans ?_
  have h : mat (dKeyV (turnV cs sn q) v it zt (oV' cs sn q k v g dy it xt st) ds) =
      dKey (mat (turnV cs sn q)) (mat₁ it) (mat₁ zt) (mat (oV' cs sn q k v g dy it xt st)) (mat v) (mat₁ ds) := by
    funext i d; exact dKeyV_at _ v it zt _ ds i d
  rw [h, mat_turnV, mat_oV' cs sn q k v g dy it zt xt st ds]; rfl

theorem dvV_at (i : Fin 128) (e : Fin 256) :
    dvV cs sn q k v g dy it zt xt st ds (ix2 i e) = (chunkOf cs sn q k v g dy it zt xt st ds).dv i e := by
  refine (dValueV_at _ _ it zt _ ds i e).trans ?_
  rw [mat_turnV, mat_turnScaleV, mat_oV' cs sn q k v g dy it zt xt st ds]; rfl

theorem dgV_at (i : Fin 128) (e : Fin 256) :
    dgV cs sn q k v g dy it xt st (ix2 i e) = (chunkOf cs sn q k v g dy it zt xt st ds).dg i e := by
  refine (dGateV_at g dy _ i e).trans ?_
  rw [mat_oV cs sn q k v g dy it zt xt st ds]; rfl

theorem dsV_at (decay : EReal) (z : Fin 1) (d : Fin 128) (e : Fin 256) :
    dsV cs sn q k v g dy it xt st ds decay (ix3 z d e) = (chunkOf cs sn q k v g dy it zt xt st ds).ds decay d e := by
  refine (dStateV_at _ xt _ ds decay z d e).trans ?_
  rw [mat_turnV, mat_oV' cs sn q k v g dy it zt xt st ds]; rfl

end Cert.Retention

end
-- ==== Proof.Point.lean ====
/-
  What a grid point of the kernel leaves in its outputs and in the carried states, head by head.
-/
module

public import proofs.«01_k».proof.Proof.Gen.KernelIdeal.Frame
public import proofs.«01_k».proof.Proof.ChunkVec
public import Idealize.ShloMosaic.Lib.Pipeline.ValueKit
public import Idealize.ShloMosaic.Lib.Pipeline.ReadBack

@[expose] public section

set_option maxRecDepth 16384

noncomputable section

namespace Cert.Retention

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The head that a column of four heads of width `w` belongs to. -/
def headOf {n : ℕ} (w : ℕ) (hw : n ≤ w * 4) (y : Fin n) : Fin 4 := ⟨y / w, Nat.div_lt_of_lt_mul (lt_of_lt_of_le y.isLt hw)⟩

/-- The column `d` of head `h` among four heads of width `w`. -/
def col {n : ℕ} (w : ℕ) (hw : w * 4 ≤ n) (h : Fin 4) (d : Fin w) : Fin n :=
  ⟨w * h + d, lt_of_lt_of_le (lt_of_lt_of_le (Nat.add_lt_add_left d.isLt _) (Nat.mul_le_mul_left w h.isLt)) hw⟩

/-- The inputs of head `h` in a grid point's blocks, over the states' cotangent `D`. -/
def chunkAt (x0 x1 : FVec Ideal S128x512 .bf16) (x2 x3 : FVec Ideal S128x1024 .bf16) (x4 x5 : FVec Ideal S128x128 .f32)
    (x6 x7 : FVec Ideal S4x128x128 .f32) (x8 : FVec Ideal S4x128x256 .f32) (x9 : FVec Ideal S4x1x128x256 .f32)
    (x10 : FVec Ideal S128x1024 .bf16) (D : FVec Ideal S4x128x256 .f32) (h : Fin 4) : Chunk :=
  { cs := fun i d => x4 (ix2 i d), sn := fun i d => x5 (ix2 i d)
    q := fun i d => x0 (ix2 i (col 128 (by decide) h d)), k := fun i d => x1 (ix2 i (col 128 (by decide) h d))
    v := fun i e => x2 (ix2 i (col 256 (by decide) h e)), g := fun i e => x3 (ix2 i (col 256 (by decide) h e))
    y := fun i e => x10 (ix2 i (col 256 (by decide) h e))
    a := fun i j => x6 (ix3 h i j), z := fun i j => x7 (ix3 h i j), x := fun i e => x8 (ix3 h i e)
    s := fun d e => x9 (ix4 h 0 d e), d := fun d e => D (ix3 h d e) }

/-- What the blocks of grid point `t` give head `h`. -/
def chunkPt (c : Dev nD) (t : Fin cfg0.N) (D : FVec Ideal S4x128x256 .f32) (h : Fin 4) : Chunk :=
  chunkAt (X0_0 m c t) (X0_1 m c t) (X0_2 m c t) (X0_3 m c t) (iblk m c 4 t) (iblk m c 5 t) (iblk m c 6 t) (iblk m c 7 t)
    (iblk m c 8 t) (iblk m c 9 t) (iblk m c 10 t) D h

/-- The columns of a narrow head. -/
abbrev ldN (D : Vec Ideal S128x512 .bf16) (p : ℕ)
    (h : ∀ a, (![0, p] : Fin 2 → ℕ) a + (![128, 128] : Fin 2 → ℕ) a ≤ S128x512.size a) : FVec Ideal S128x128 .bf16 :=
  View.ld (Val := Elt Ideal) (e' := .bf16) D (Rect.unit (s := S128x512) ![0, p] ![128, 128] h)

/-- The columns of a wide head. -/
abbrev ldW (D : Vec Ideal S128x1024 .bf16) (p : ℕ)
    (h : ∀ a, (![0, p] : Fin 2 → ℕ) a + (![128, 256] : Fin 2 → ℕ) a ≤ S128x1024.size a) : FVec Ideal S128x256 .bf16 :=
  View.ld (Val := Elt Ideal) (e' := .bf16) D (Rect.unit (s := S128x1024) ![0, p] ![128, 256] h)

/-- Row `p` of a table of decays. -/
abbrev rowA (D : Vec Ideal S4x128x128 .f32) (p : ℕ)
    (h : ∀ a, (![p, 0, 0] : Fin 3 → ℕ) a + (![1, 128, 128] : Fin 3 → ℕ) a ≤ S4x128x128.size a) : FVec Ideal S1x128x128 .f32 :=
  View.ld (Val := Elt Ideal) (e' := .f32) D (Rect.unit (s := S4x128x128) ![p, 0, 0] ![1, 128, 128] h)

/-- The state of head `p`. -/
abbrev rowS (D : Vec Ideal S4x1x128x256 .f32) (p : ℕ)
    (h : ∀ a, (![p, 0, 0, 0] : Fin 4 → ℕ) a + (![1, 1, 128, 256] : Fin 4 → ℕ) a ≤ S4x1x128x256.size a) : FVec Ideal S1x1x128x256 .f32 :=
  View.ld (Val := Elt Ideal) (e' := .f32) D (Rect.unit (s := S4x1x128x256) ![p, 0, 0, 0] ![1, 1, 128, 256] h)

/-- Row `p` of a table of states. -/
abbrev rowD (D : Vec Ideal S4x128x256 .f32) (p : ℕ)
    (h : ∀ a, (![p, 0, 0] : Fin 3 → ℕ) a + (![1, 128, 256] : Fin 3 → ℕ) a ≤ S4x128x256.size a) : FVec Ideal S1x128x256 .f32 :=
  View.ld (Val := Elt Ideal) (e' := .f32) D (Rect.unit (s := S4x128x256) ![p, 0, 0] ![1, 128, 256] h)

/-- The decay of head `h` over a chunk, as the kernel names it. -/
def decayOf : Fin 4 → EReal :=
  ![Named.named (F := Ideal) (φ := .f32) κ "decay0" 0x3C8CC36A#32, Named.named (F := Ideal) (φ := .f32) κ "decay1" 0x3E08698E#32,
    Named.named (F := Ideal) (φ := .f32) κ "decay2" 0x3EBB9DB9#32, Named.named (F := Ideal) (φ := .f32) κ "decay3" 0x3F1B1EB1#32]

/-- What grid point `t` finds in the carried states. -/
def found (c : Dev nD) (t : Fin cfg0.N) : FVec Ideal S4x128x256 .f32 :=
  if t.val % 32 = 0 then k0_pay2 (F := Ideal)
  else (outsAt0 m c (t.val - 1) (Nat.lt_of_le_of_lt (Nat.sub_le _ _) t.isLt)).2.2.2.2

/-- Stores that cover the buffer leave what they would have left without the stores before them. -/
theorem canon_append_of_cover {Val : EltTy → Type} [∀ e, Nonempty (Val e)] {S : Shape} {e : EltTy} (L' : List (View.Piece Val S e)) :
    ∀ (L : List (View.Piece Val S e)) (y : S.Idx), (∃ p ∈ L, y ∈ p.1.set) → View.canon (L ++ L') y = View.canon L y
  | [], _, hc => by obtain ⟨p, hp, _⟩ := hc; exact absurd hp List.not_mem_nil
  | p :: L, y, hc => by
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      obtain ⟨q, hq, hy⟩ := hc
      rcases List.mem_cons.mp hq with rfl | hq
      · exact absurd hy hm
      · exact canon_append_of_cover L' L y ⟨q, hq, hy⟩

section Loads

variable (x0 x1 : FVec Ideal S128x512 .bf16) (x2 x3 : FVec Ideal S128x1024 .bf16) (x4 x5 : FVec Ideal S128x128 .f32)
    (x6 x7 : FVec Ideal S4x128x128 .f32) (x8 : FVec Ideal S4x128x256 .f32) (x9 : FVec Ideal S4x1x128x256 .f32)
    (x10 : FVec Ideal S128x1024 .bf16) (D : FVec Ideal S4x128x256 .f32)

theorem chunkOf_ld0 :
    chunkOf x4
      x5 (ldN x0 0 inb_S128x512_S128x128_0_0) (ldN x1 0 inb_S128x512_S128x128_0_0) (ldW x2 0 inb_S128x1024_S128x256_0_0) (ldW x3 0 inb_S128x1024_S128x256_0_0) (ldW x10 0 inb_S128x1024_S128x256_0_0) (rowA x6 0 inb_S4x128x128_S1x128x128_0_0_0) (rowA x7 0 inb_S4x128x128_S1x128x128_0_0_0) (rowD x8 0 inb_S4x128x256_S1x128x256_0_0_0) (rowS x9 0 inb_S4x1x128x256_S1x1x128x256_0_0_0_0) (rowD D 0 inb_S4x128x256_S1x128x256_0_0_0) = chunkAt x0 x1 x2 x3 x4 x5 x6 x7 x8 x9 x10 D 0 := by
  unfold chunkOf chunkAt
  congr 1 <;> funext i d
  all_goals (pointwise [mat, mat₁, rowD, rowA, rowS, ldN, ldW, col]; try rfl)

theorem chunkOf_ld1 :
    chunkOf x4
      x5 (ldN x0 128 inb_S128x512_S128x128_0_128) (ldN x1 128 inb_S128x512_S128x128_0_128) (ldW x2 256 inb_S128x1024_S128x256_0_256) (ldW x3 256 inb_S128x1024_S128x256_0_256) (ldW x10 256 inb_S128x1024_S128x256_0_256) (rowA x6 1 inb_S4x128x128_S1x128x128_1_0_0) (rowA x7 1 inb_S4x128x128_S1x128x128_1_0_0) (rowD x8 1 inb_S4x128x256_S1x128x256_1_0_0) (rowS x9 1 inb_S4x1x128x256_S1x1x128x256_1_0_0_0) (rowD D 1 inb_S4x128x256_S1x128x256_1_0_0) = chunkAt x0 x1 x2 x3 x4 x5 x6 x7 x8 x9 x10 D 1 := by
  unfold chunkOf chunkAt
  congr 1 <;> funext i d
  all_goals (pointwise [mat, mat₁, rowD, rowA, rowS, ldN, ldW, col]; try rfl)

theorem chunkOf_ld2 :
    chunkOf x4
      x5 (ldN x0 256 inb_S128x512_S128x128_0_256) (ldN x1 256 inb_S128x512_S128x128_0_256) (ldW x2 512 inb_S128x1024_S128x256_0_512) (ldW x3 512 inb_S128x1024_S128x256_0_512) (ldW x10 512 inb_S128x1024_S128x256_0_512) (rowA x6 2 inb_S4x128x128_S1x128x128_2_0_0) (rowA x7 2 inb_S4x128x128_S1x128x128_2_0_0) (rowD x8 2 inb_S4x128x256_S1x128x256_2_0_0) (rowS x9 2 inb_S4x1x128x256_S1x1x128x256_2_0_0_0) (rowD D 2 inb_S4x128x256_S1x128x256_2_0_0) = chunkAt x0 x1 x2 x3 x4 x5 x6 x7 x8 x9 x10 D 2 := by
  unfold chunkOf chunkAt
  congr 1 <;> funext i d
  all_goals (pointwise [mat, mat₁, rowD, rowA, rowS, ldN, ldW, col]; try rfl)

theorem chunkOf_ld3 :
    chunkOf x4
      x5 (ldN x0 384 inb_S128x512_S128x128_0_384) (ldN x1 384 inb_S128x512_S128x128_0_384) (ldW x2 768 inb_S128x1024_S128x256_0_768) (ldW x3 768 inb_S128x1024_S128x256_0_768) (ldW x10 768 inb_S128x1024_S128x256_0_768) (rowA x6 3 inb_S4x128x128_S1x128x128_3_0_0) (rowA x7 3 inb_S4x128x128_S1x128x128_3_0_0) (rowD x8 3 inb_S4x128x256_S1x128x256_3_0_0) (rowS x9 3 inb_S4x1x128x256_S1x1x128x256_3_0_0_0) (rowD D 3 inb_S4x128x256_S1x128x256_3_0_0) = chunkAt x0 x1 x2 x3 x4 x5 x6 x7 x8 x9 x10 D 3 := by
  unfold chunkOf chunkAt
  congr 1 <;> funext i d
  all_goals (pointwise [mat, mat₁, rowD, rowA, rowS, ldN, ldW, col]; try rfl)

end Loads

theorem dq_A (c : Dev nD) (t : Fin cfg0.N) (ht : t.val % 32 = 0) (y : S128x512.Idx) :
    (outsAt0 m c t.val t.isLt).1 y = (chunkPt m c t (k0_pay2 (F := Ideal)) (headOf 128 (by decide) (y 1))).dq (y 0) ⟨(y 1 : ℕ) % 128, Nat.mod_lt _ (by decide)⟩ := by
  rw [outsAt0_A m c t ht]; frame_open
  simp (disch := decide) only [↓ View.readCov_skip, ↓ View.readCov_cons_toLoadRect, ↓ View.readCov_fill]
  frame_out
  try simp only [read_unread_whole]
  canon_tiles x hx
  case piece3 =>
    have e1 : headOf 128 (by decide) (y 1) = 0 := Fin.ext (show (y 1 : ℕ) / 128 = 0 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dqV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowD (iblk m c 8 t) 0 inb_S4x128x256_S1x128x256_0_0_0) (rowS (iblk m c 9 t) 0 inb_S4x1x128x256_S1x1x128x256_0_0_0_0) x = _ := (congrArg _ (eq_ix2 x)).trans (dqV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (k0_pay2 (F := Ideal)) 0 inb_S4x128x256_S1x128x256_0_0_0) (x 0) (x 1))
    rw [chunkOf_ld0] at e
    exact e
  case piece2 =>
    have e1 : headOf 128 (by decide) (y 1) = 1 := Fin.ext (show (y 1 : ℕ) / 128 = 1 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dqV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowD (iblk m c 8 t) 1 inb_S4x128x256_S1x128x256_1_0_0) (rowS (iblk m c 9 t) 1 inb_S4x1x128x256_S1x1x128x256_1_0_0_0) x = _ := (congrArg _ (eq_ix2 x)).trans (dqV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (k0_pay2 (F := Ideal)) 1 inb_S4x128x256_S1x128x256_1_0_0) (x 0) (x 1))
    rw [chunkOf_ld1] at e
    exact e
  case piece1 =>
    have e1 : headOf 128 (by decide) (y 1) = 2 := Fin.ext (show (y 1 : ℕ) / 128 = 2 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dqV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowD (iblk m c 8 t) 2 inb_S4x128x256_S1x128x256_2_0_0) (rowS (iblk m c 9 t) 2 inb_S4x1x128x256_S1x1x128x256_2_0_0_0) x = _ := (congrArg _ (eq_ix2 x)).trans (dqV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (k0_pay2 (F := Ideal)) 2 inb_S4x128x256_S1x128x256_2_0_0) (x 0) (x 1))
    rw [chunkOf_ld2] at e
    exact e
  case piece0 =>
    have e1 : headOf 128 (by decide) (y 1) = 3 := Fin.ext (show (y 1 : ℕ) / 128 = 3 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dqV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowD (iblk m c 8 t) 3 inb_S4x128x256_S1x128x256_3_0_0) (rowS (iblk m c 9 t) 3 inb_S4x1x128x256_S1x1x128x256_3_0_0_0) x = _ := (congrArg _ (eq_ix2 x)).trans (dqV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (k0_pay2 (F := Ideal)) 3 inb_S4x128x256_S1x128x256_3_0_0) (x 0) (x 1))
    rw [chunkOf_ld3] at e
    exact e

theorem dq_B (c : Dev nD) (t : Fin cfg0.N) (ht : ¬t.val % 32 = 0) (y : S128x512.Idx) :
    (outsAt0 m c t.val t.isLt).1 y = (chunkPt m c t (outsAt0 m c (t.val - 1) (Nat.lt_of_le_of_lt (Nat.sub_le _ _) t.isLt)).2.2.2.2 (headOf 128 (by decide) (y 1))).dq (y 0) ⟨(y 1 : ℕ) % 128, Nat.mod_lt _ (by decide)⟩ := by
  rw [outsAt0_B m c t ht]; frame_open
  simp (disch := decide) only [↓ View.readCov_skip, ↓ View.readCov_cons_toLoadRect, ↓ View.readCov_fill]
  frame_out
  try simp only [read_unread_whole]
  canon_tiles x hx
  case piece3 =>
    have e1 : headOf 128 (by decide) (y 1) = 0 := Fin.ext (show (y 1 : ℕ) / 128 = 0 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dqV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowD (iblk m c 8 t) 0 inb_S4x128x256_S1x128x256_0_0_0) (rowS (iblk m c 9 t) 0 inb_S4x1x128x256_S1x1x128x256_0_0_0_0) x = _ := (congrArg _ (eq_ix2 x)).trans (dqV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (outsAt0 m c (t.val - 1) (Nat.lt_of_le_of_lt (Nat.sub_le _ _) t.isLt)).2.2.2.2 0 inb_S4x128x256_S1x128x256_0_0_0) (x 0) (x 1))
    rw [chunkOf_ld0] at e
    exact e
  case piece2 =>
    have e1 : headOf 128 (by decide) (y 1) = 1 := Fin.ext (show (y 1 : ℕ) / 128 = 1 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dqV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowD (iblk m c 8 t) 1 inb_S4x128x256_S1x128x256_1_0_0) (rowS (iblk m c 9 t) 1 inb_S4x1x128x256_S1x1x128x256_1_0_0_0) x = _ := (congrArg _ (eq_ix2 x)).trans (dqV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (outsAt0 m c (t.val - 1) (Nat.lt_of_le_of_lt (Nat.sub_le _ _) t.isLt)).2.2.2.2 1 inb_S4x128x256_S1x128x256_1_0_0) (x 0) (x 1))
    rw [chunkOf_ld1] at e
    exact e
  case piece1 =>
    have e1 : headOf 128 (by decide) (y 1) = 2 := Fin.ext (show (y 1 : ℕ) / 128 = 2 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dqV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowD (iblk m c 8 t) 2 inb_S4x128x256_S1x128x256_2_0_0) (rowS (iblk m c 9 t) 2 inb_S4x1x128x256_S1x1x128x256_2_0_0_0) x = _ := (congrArg _ (eq_ix2 x)).trans (dqV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (outsAt0 m c (t.val - 1) (Nat.lt_of_le_of_lt (Nat.sub_le _ _) t.isLt)).2.2.2.2 2 inb_S4x128x256_S1x128x256_2_0_0) (x 0) (x 1))
    rw [chunkOf_ld2] at e
    exact e
  case piece0 =>
    have e1 : headOf 128 (by decide) (y 1) = 3 := Fin.ext (show (y 1 : ℕ) / 128 = 3 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dqV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowD (iblk m c 8 t) 3 inb_S4x128x256_S1x128x256_3_0_0) (rowS (iblk m c 9 t) 3 inb_S4x1x128x256_S1x1x128x256_3_0_0_0) x = _ := (congrArg _ (eq_ix2 x)).trans (dqV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (outsAt0 m c (t.val - 1) (Nat.lt_of_le_of_lt (Nat.sub_le _ _) t.isLt)).2.2.2.2 3 inb_S4x128x256_S1x128x256_3_0_0) (x 0) (x 1))
    rw [chunkOf_ld3] at e
    exact e

theorem dk_A (c : Dev nD) (t : Fin cfg0.N) (ht : t.val % 32 = 0) (y : S128x512.Idx) :
    (outsAt0 m c t.val t.isLt).2.1 y = (chunkPt m c t (k0_pay2 (F := Ideal)) (headOf 128 (by decide) (y 1))).dk (y 0) ⟨(y 1 : ℕ) % 128, Nat.mod_lt _ (by decide)⟩ := by
  rw [outsAt0_A m c t ht]; frame_open
  simp (disch := decide) only [↓ View.readCov_skip, ↓ View.readCov_cons_toLoadRect, ↓ View.readCov_fill]
  frame_out
  try simp only [read_unread_whole]
  canon_tiles x hx
  case piece3 =>
    have e1 : headOf 128 (by decide) (y 1) = 0 := Fin.ext (show (y 1 : ℕ) / 128 = 0 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dkV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (k0_pay2 (F := Ideal)) 0 inb_S4x128x256_S1x128x256_0_0_0) x = _ := (congrArg _ (eq_ix2 x)).trans (dkV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (k0_pay2 (F := Ideal)) 0 inb_S4x128x256_S1x128x256_0_0_0) (x 0) (x 1))
    rw [chunkOf_ld0] at e
    exact e
  case piece2 =>
    have e1 : headOf 128 (by decide) (y 1) = 1 := Fin.ext (show (y 1 : ℕ) / 128 = 1 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dkV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (k0_pay2 (F := Ideal)) 1 inb_S4x128x256_S1x128x256_1_0_0) x = _ := (congrArg _ (eq_ix2 x)).trans (dkV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (k0_pay2 (F := Ideal)) 1 inb_S4x128x256_S1x128x256_1_0_0) (x 0) (x 1))
    rw [chunkOf_ld1] at e
    exact e
  case piece1 =>
    have e1 : headOf 128 (by decide) (y 1) = 2 := Fin.ext (show (y 1 : ℕ) / 128 = 2 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dkV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (k0_pay2 (F := Ideal)) 2 inb_S4x128x256_S1x128x256_2_0_0) x = _ := (congrArg _ (eq_ix2 x)).trans (dkV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (k0_pay2 (F := Ideal)) 2 inb_S4x128x256_S1x128x256_2_0_0) (x 0) (x 1))
    rw [chunkOf_ld2] at e
    exact e
  case piece0 =>
    have e1 : headOf 128 (by decide) (y 1) = 3 := Fin.ext (show (y 1 : ℕ) / 128 = 3 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dkV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (k0_pay2 (F := Ideal)) 3 inb_S4x128x256_S1x128x256_3_0_0) x = _ := (congrArg _ (eq_ix2 x)).trans (dkV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (k0_pay2 (F := Ideal)) 3 inb_S4x128x256_S1x128x256_3_0_0) (x 0) (x 1))
    rw [chunkOf_ld3] at e
    exact e

theorem dk_B (c : Dev nD) (t : Fin cfg0.N) (ht : ¬t.val % 32 = 0) (y : S128x512.Idx) :
    (outsAt0 m c t.val t.isLt).2.1 y = (chunkPt m c t (outsAt0 m c (t.val - 1) (Nat.lt_of_le_of_lt (Nat.sub_le _ _) t.isLt)).2.2.2.2 (headOf 128 (by decide) (y 1))).dk (y 0) ⟨(y 1 : ℕ) % 128, Nat.mod_lt _ (by decide)⟩ := by
  rw [outsAt0_B m c t ht]; frame_open
  simp (disch := decide) only [↓ View.readCov_skip, ↓ View.readCov_cons_toLoadRect, ↓ View.readCov_fill]
  frame_out
  try simp only [read_unread_whole]
  canon_tiles x hx
  case piece3 =>
    have e1 : headOf 128 (by decide) (y 1) = 0 := Fin.ext (show (y 1 : ℕ) / 128 = 0 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dkV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (outsAt0 m c (t.val - 1) (Nat.lt_of_le_of_lt (Nat.sub_le _ _) t.isLt)).2.2.2.2 0 inb_S4x128x256_S1x128x256_0_0_0) x = _ := (congrArg _ (eq_ix2 x)).trans (dkV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (outsAt0 m c (t.val - 1) (Nat.lt_of_le_of_lt (Nat.sub_le _ _) t.isLt)).2.2.2.2 0 inb_S4x128x256_S1x128x256_0_0_0) (x 0) (x 1))
    rw [chunkOf_ld0] at e
    exact e
  case piece2 =>
    have e1 : headOf 128 (by decide) (y 1) = 1 := Fin.ext (show (y 1 : ℕ) / 128 = 1 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dkV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (outsAt0 m c (t.val - 1) (Nat.lt_of_le_of_lt (Nat.sub_le _ _) t.isLt)).2.2.2.2 1 inb_S4x128x256_S1x128x256_1_0_0) x = _ := (congrArg _ (eq_ix2 x)).trans (dkV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (outsAt0 m c (t.val - 1) (Nat.lt_of_le_of_lt (Nat.sub_le _ _) t.isLt)).2.2.2.2 1 inb_S4x128x256_S1x128x256_1_0_0) (x 0) (x 1))
    rw [chunkOf_ld1] at e
    exact e
  case piece1 =>
    have e1 : headOf 128 (by decide) (y 1) = 2 := Fin.ext (show (y 1 : ℕ) / 128 = 2 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dkV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (outsAt0 m c (t.val - 1) (Nat.lt_of_le_of_lt (Nat.sub_le _ _) t.isLt)).2.2.2.2 2 inb_S4x128x256_S1x128x256_2_0_0) x = _ := (congrArg _ (eq_ix2 x)).trans (dkV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (outsAt0 m c (t.val - 1) (Nat.lt_of_le_of_lt (Nat.sub_le _ _) t.isLt)).2.2.2.2 2 inb_S4x128x256_S1x128x256_2_0_0) (x 0) (x 1))
    rw [chunkOf_ld2] at e
    exact e
  case piece0 =>
    have e1 : headOf 128 (by decide) (y 1) = 3 := Fin.ext (show (y 1 : ℕ) / 128 = 3 by omega)
    have e2 : (⟨(y 1 : ℕ) % 128, Nat.mod_lt _ (by decide)⟩ : Fin 128) = x 1 := Fin.ext (show (y 1 : ℕ) % 128 = x 1 by omega)
    rw [e1, e2, show y 0 = x 0 from Fin.ext hx0]
    have e : dkV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (outsAt0 m c (t.val - 1) (Nat.lt_of_le_of_lt (Nat.sub_le _ _) t.isLt)).2.2.2.2 3 inb_S4x128x256_S1x128x256_3_0_0) x = _ := (congrArg _ (eq_ix2 x)).trans (dkV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (outsAt0 m c (t.val - 1) (Nat.lt_of_le_of_lt (Nat.sub_le _ _) t.isLt)).2.2.2.2 3 inb_S4x128x256_S1x128x256_3_0_0) (x 0) (x 1))
    rw [chunkOf_ld3] at e
    exact e

theorem dv_A (c : Dev nD) (t : Fin cfg0.N) (ht : t.val % 32 = 0) (y : S128x1024.Idx) :
    (outsAt0 m c t.val t.isLt).2.2.1 y = (chunkPt m c t (k0_pay2 (F := Ideal)) (headOf 256 (by decide) (y 1))).dv (y 0) ⟨(y 1 : ℕ) % 256, Nat.mod_lt _ (by decide)⟩ := by
  rw [outsAt0_A m c t ht]; frame_open
  simp (disch := decide) only [↓ View.readCov_skip, ↓ View.readCov_cons_toLoadRect, ↓ View.readCov_fill]
  frame_out
  try simp only [read_unread_whole]
  canon_tiles x hx
  case piece3 =>
    have e1 : headOf 256 (by decide) (y 1) = 0 := Fin.ext (show (y 1 : ℕ) / 256 = 0 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dvV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (k0_pay2 (F := Ideal)) 0 inb_S4x128x256_S1x128x256_0_0_0) x = _ := (congrArg _ (eq_ix2 x)).trans (dvV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (k0_pay2 (F := Ideal)) 0 inb_S4x128x256_S1x128x256_0_0_0) (x 0) (x 1))
    rw [chunkOf_ld0] at e
    exact e
  case piece2 =>
    have e1 : headOf 256 (by decide) (y 1) = 1 := Fin.ext (show (y 1 : ℕ) / 256 = 1 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dvV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (k0_pay2 (F := Ideal)) 1 inb_S4x128x256_S1x128x256_1_0_0) x = _ := (congrArg _ (eq_ix2 x)).trans (dvV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (k0_pay2 (F := Ideal)) 1 inb_S4x128x256_S1x128x256_1_0_0) (x 0) (x 1))
    rw [chunkOf_ld1] at e
    exact e
  case piece1 =>
    have e1 : headOf 256 (by decide) (y 1) = 2 := Fin.ext (show (y 1 : ℕ) / 256 = 2 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dvV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (k0_pay2 (F := Ideal)) 2 inb_S4x128x256_S1x128x256_2_0_0) x = _ := (congrArg _ (eq_ix2 x)).trans (dvV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (k0_pay2 (F := Ideal)) 2 inb_S4x128x256_S1x128x256_2_0_0) (x 0) (x 1))
    rw [chunkOf_ld2] at e
    exact e
  case piece0 =>
    have e1 : headOf 256 (by decide) (y 1) = 3 := Fin.ext (show (y 1 : ℕ) / 256 = 3 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dvV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (k0_pay2 (F := Ideal)) 3 inb_S4x128x256_S1x128x256_3_0_0) x = _ := (congrArg _ (eq_ix2 x)).trans (dvV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (k0_pay2 (F := Ideal)) 3 inb_S4x128x256_S1x128x256_3_0_0) (x 0) (x 1))
    rw [chunkOf_ld3] at e
    exact e

theorem dv_B (c : Dev nD) (t : Fin cfg0.N) (ht : ¬t.val % 32 = 0) (y : S128x1024.Idx) :
    (outsAt0 m c t.val t.isLt).2.2.1 y = (chunkPt m c t (outsAt0 m c (t.val - 1) (Nat.lt_of_le_of_lt (Nat.sub_le _ _) t.isLt)).2.2.2.2 (headOf 256 (by decide) (y 1))).dv (y 0) ⟨(y 1 : ℕ) % 256, Nat.mod_lt _ (by decide)⟩ := by
  rw [outsAt0_B m c t ht]; frame_open
  simp (disch := decide) only [↓ View.readCov_skip, ↓ View.readCov_cons_toLoadRect, ↓ View.readCov_fill]
  frame_out
  try simp only [read_unread_whole]
  canon_tiles x hx
  case piece3 =>
    have e1 : headOf 256 (by decide) (y 1) = 0 := Fin.ext (show (y 1 : ℕ) / 256 = 0 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dvV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (outsAt0 m c (t.val - 1) (Nat.lt_of_le_of_lt (Nat.sub_le _ _) t.isLt)).2.2.2.2 0 inb_S4x128x256_S1x128x256_0_0_0) x = _ := (congrArg _ (eq_ix2 x)).trans (dvV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (outsAt0 m c (t.val - 1) (Nat.lt_of_le_of_lt (Nat.sub_le _ _) t.isLt)).2.2.2.2 0 inb_S4x128x256_S1x128x256_0_0_0) (x 0) (x 1))
    rw [chunkOf_ld0] at e
    exact e
  case piece2 =>
    have e1 : headOf 256 (by decide) (y 1) = 1 := Fin.ext (show (y 1 : ℕ) / 256 = 1 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dvV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (outsAt0 m c (t.val - 1) (Nat.lt_of_le_of_lt (Nat.sub_le _ _) t.isLt)).2.2.2.2 1 inb_S4x128x256_S1x128x256_1_0_0) x = _ := (congrArg _ (eq_ix2 x)).trans (dvV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (outsAt0 m c (t.val - 1) (Nat.lt_of_le_of_lt (Nat.sub_le _ _) t.isLt)).2.2.2.2 1 inb_S4x128x256_S1x128x256_1_0_0) (x 0) (x 1))
    rw [chunkOf_ld1] at e
    exact e
  case piece1 =>
    have e1 : headOf 256 (by decide) (y 1) = 2 := Fin.ext (show (y 1 : ℕ) / 256 = 2 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dvV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (outsAt0 m c (t.val - 1) (Nat.lt_of_le_of_lt (Nat.sub_le _ _) t.isLt)).2.2.2.2 2 inb_S4x128x256_S1x128x256_2_0_0) x = _ := (congrArg _ (eq_ix2 x)).trans (dvV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (outsAt0 m c (t.val - 1) (Nat.lt_of_le_of_lt (Nat.sub_le _ _) t.isLt)).2.2.2.2 2 inb_S4x128x256_S1x128x256_2_0_0) (x 0) (x 1))
    rw [chunkOf_ld2] at e
    exact e
  case piece0 =>
    have e1 : headOf 256 (by decide) (y 1) = 3 := Fin.ext (show (y 1 : ℕ) / 256 = 3 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dvV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (outsAt0 m c (t.val - 1) (Nat.lt_of_le_of_lt (Nat.sub_le _ _) t.isLt)).2.2.2.2 3 inb_S4x128x256_S1x128x256_3_0_0) x = _ := (congrArg _ (eq_ix2 x)).trans (dvV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (outsAt0 m c (t.val - 1) (Nat.lt_of_le_of_lt (Nat.sub_le _ _) t.isLt)).2.2.2.2 3 inb_S4x128x256_S1x128x256_3_0_0) (x 0) (x 1))
    rw [chunkOf_ld3] at e
    exact e

theorem dg_A (c : Dev nD) (t : Fin cfg0.N) (ht : t.val % 32 = 0) (y : S128x1024.Idx) :
    (outsAt0 m c t.val t.isLt).2.2.2.1 y = (chunkPt m c t (k0_pay2 (F := Ideal)) (headOf 256 (by decide) (y 1))).dg (y 0) ⟨(y 1 : ℕ) % 256, Nat.mod_lt _ (by decide)⟩ := by
  rw [outsAt0_A m c t ht]; frame_open
  simp (disch := decide) only [↓ View.readCov_skip, ↓ View.readCov_cons_toLoadRect, ↓ View.readCov_fill]
  frame_out
  try simp only [read_unread_whole]
  canon_tiles x hx
  case piece3 =>
    have e1 : headOf 256 (by decide) (y 1) = 0 := Fin.ext (show (y 1 : ℕ) / 256 = 0 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dgV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowD (iblk m c 8 t) 0 inb_S4x128x256_S1x128x256_0_0_0) (rowS (iblk m c 9 t) 0 inb_S4x1x128x256_S1x1x128x256_0_0_0_0) x = _ := (congrArg _ (eq_ix2 x)).trans (dgV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (k0_pay2 (F := Ideal)) 0 inb_S4x128x256_S1x128x256_0_0_0) (x 0) (x 1))
    rw [chunkOf_ld0] at e
    exact e
  case piece2 =>
    have e1 : headOf 256 (by decide) (y 1) = 1 := Fin.ext (show (y 1 : ℕ) / 256 = 1 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dgV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowD (iblk m c 8 t) 1 inb_S4x128x256_S1x128x256_1_0_0) (rowS (iblk m c 9 t) 1 inb_S4x1x128x256_S1x1x128x256_1_0_0_0) x = _ := (congrArg _ (eq_ix2 x)).trans (dgV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (k0_pay2 (F := Ideal)) 1 inb_S4x128x256_S1x128x256_1_0_0) (x 0) (x 1))
    rw [chunkOf_ld1] at e
    exact e
  case piece1 =>
    have e1 : headOf 256 (by decide) (y 1) = 2 := Fin.ext (show (y 1 : ℕ) / 256 = 2 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dgV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowD (iblk m c 8 t) 2 inb_S4x128x256_S1x128x256_2_0_0) (rowS (iblk m c 9 t) 2 inb_S4x1x128x256_S1x1x128x256_2_0_0_0) x = _ := (congrArg _ (eq_ix2 x)).trans (dgV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (k0_pay2 (F := Ideal)) 2 inb_S4x128x256_S1x128x256_2_0_0) (x 0) (x 1))
    rw [chunkOf_ld2] at e
    exact e
  case piece0 =>
    have e1 : headOf 256 (by decide) (y 1) = 3 := Fin.ext (show (y 1 : ℕ) / 256 = 3 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dgV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowD (iblk m c 8 t) 3 inb_S4x128x256_S1x128x256_3_0_0) (rowS (iblk m c 9 t) 3 inb_S4x1x128x256_S1x1x128x256_3_0_0_0) x = _ := (congrArg _ (eq_ix2 x)).trans (dgV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (k0_pay2 (F := Ideal)) 3 inb_S4x128x256_S1x128x256_3_0_0) (x 0) (x 1))
    rw [chunkOf_ld3] at e
    exact e

theorem dg_B (c : Dev nD) (t : Fin cfg0.N) (ht : ¬t.val % 32 = 0) (y : S128x1024.Idx) :
    (outsAt0 m c t.val t.isLt).2.2.2.1 y = (chunkPt m c t (outsAt0 m c (t.val - 1) (Nat.lt_of_le_of_lt (Nat.sub_le _ _) t.isLt)).2.2.2.2 (headOf 256 (by decide) (y 1))).dg (y 0) ⟨(y 1 : ℕ) % 256, Nat.mod_lt _ (by decide)⟩ := by
  rw [outsAt0_B m c t ht]; frame_open
  simp (disch := decide) only [↓ View.readCov_skip, ↓ View.readCov_cons_toLoadRect, ↓ View.readCov_fill]
  frame_out
  try simp only [read_unread_whole]
  canon_tiles x hx
  case piece3 =>
    have e1 : headOf 256 (by decide) (y 1) = 0 := Fin.ext (show (y 1 : ℕ) / 256 = 0 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dgV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowD (iblk m c 8 t) 0 inb_S4x128x256_S1x128x256_0_0_0) (rowS (iblk m c 9 t) 0 inb_S4x1x128x256_S1x1x128x256_0_0_0_0) x = _ := (congrArg _ (eq_ix2 x)).trans (dgV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (outsAt0 m c (t.val - 1) (Nat.lt_of_le_of_lt (Nat.sub_le _ _) t.isLt)).2.2.2.2 0 inb_S4x128x256_S1x128x256_0_0_0) (x 0) (x 1))
    rw [chunkOf_ld0] at e
    exact e
  case piece2 =>
    have e1 : headOf 256 (by decide) (y 1) = 1 := Fin.ext (show (y 1 : ℕ) / 256 = 1 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dgV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowD (iblk m c 8 t) 1 inb_S4x128x256_S1x128x256_1_0_0) (rowS (iblk m c 9 t) 1 inb_S4x1x128x256_S1x1x128x256_1_0_0_0) x = _ := (congrArg _ (eq_ix2 x)).trans (dgV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (outsAt0 m c (t.val - 1) (Nat.lt_of_le_of_lt (Nat.sub_le _ _) t.isLt)).2.2.2.2 1 inb_S4x128x256_S1x128x256_1_0_0) (x 0) (x 1))
    rw [chunkOf_ld1] at e
    exact e
  case piece1 =>
    have e1 : headOf 256 (by decide) (y 1) = 2 := Fin.ext (show (y 1 : ℕ) / 256 = 2 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dgV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowD (iblk m c 8 t) 2 inb_S4x128x256_S1x128x256_2_0_0) (rowS (iblk m c 9 t) 2 inb_S4x1x128x256_S1x1x128x256_2_0_0_0) x = _ := (congrArg _ (eq_ix2 x)).trans (dgV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (outsAt0 m c (t.val - 1) (Nat.lt_of_le_of_lt (Nat.sub_le _ _) t.isLt)).2.2.2.2 2 inb_S4x128x256_S1x128x256_2_0_0) (x 0) (x 1))
    rw [chunkOf_ld2] at e
    exact e
  case piece0 =>
    have e1 : headOf 256 (by decide) (y 1) = 3 := Fin.ext (show (y 1 : ℕ) / 256 = 3 by omega)
    have e2 : (⟨(y 1 : ℕ) % 256, Nat.mod_lt _ (by decide)⟩ : Fin 256) = x 1 := Fin.ext (show (y 1 : ℕ) % 256 = x 1 by omega)
    rw [e1, e2, show y 0 = x 0 from Fin.ext hx0]
    have e : dgV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowD (iblk m c 8 t) 3 inb_S4x128x256_S1x128x256_3_0_0) (rowS (iblk m c 9 t) 3 inb_S4x1x128x256_S1x1x128x256_3_0_0_0) x = _ := (congrArg _ (eq_ix2 x)).trans (dgV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (outsAt0 m c (t.val - 1) (Nat.lt_of_le_of_lt (Nat.sub_le _ _) t.isLt)).2.2.2.2 3 inb_S4x128x256_S1x128x256_3_0_0) (x 0) (x 1))
    rw [chunkOf_ld3] at e
    exact e

theorem ds_A (c : Dev nD) (t : Fin cfg0.N) (ht : t.val % 32 = 0) (y : S4x128x256.Idx) :
    (outsAt0 m c t.val t.isLt).2.2.2.2 y = (chunkPt m c t (k0_pay2 (F := Ideal)) (y 0)).ds (decayOf (y 0)) (y 1) (y 2) := by
  rw [outsAt0_A m c t ht]; frame_open
  simp (disch := decide) only [↓ View.readCov_skip, ↓ View.readCov_cons_toLoadRect, ↓ View.readCov_fill]
  frame_out
  try simp only [read_unread_whole]
  refine (canon_append_of_cover [_] [_, _, _, _] y (View.cover_of_tiled_head _ _ _ rfl y)).trans ?_
  canon_tiles x hx
  case piece3 =>
    rw [show y 0 = (0 : Fin 4) from Fin.ext (show (y 0 : ℕ) = 0 by omega), show y 1 = x 1 from Fin.ext hx1, show y 2 = x 2 from Fin.ext hx2]
    have e : dsV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowD (iblk m c 8 t) 0 inb_S4x128x256_S1x128x256_0_0_0) (rowS (iblk m c 9 t) 0 inb_S4x1x128x256_S1x1x128x256_0_0_0_0) (rowD (k0_pay2 (F := Ideal)) 0 inb_S4x128x256_S1x128x256_0_0_0) (decayOf 0) x = _ := (congrArg _ (eq_ix3 x)).trans (dsV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (k0_pay2 (F := Ideal)) 0 inb_S4x128x256_S1x128x256_0_0_0) (decayOf 0) (x 0) (x 1) (x 2))
    rw [chunkOf_ld0] at e
    exact e
  case piece2 =>
    rw [show y 0 = (1 : Fin 4) from Fin.ext (show (y 0 : ℕ) = 1 by omega), show y 1 = x 1 from Fin.ext hx1, show y 2 = x 2 from Fin.ext hx2]
    have e : dsV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowD (iblk m c 8 t) 1 inb_S4x128x256_S1x128x256_1_0_0) (rowS (iblk m c 9 t) 1 inb_S4x1x128x256_S1x1x128x256_1_0_0_0) (rowD (k0_pay2 (F := Ideal)) 1 inb_S4x128x256_S1x128x256_1_0_0) (decayOf 1) x = _ := (congrArg _ (eq_ix3 x)).trans (dsV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (k0_pay2 (F := Ideal)) 1 inb_S4x128x256_S1x128x256_1_0_0) (decayOf 1) (x 0) (x 1) (x 2))
    rw [chunkOf_ld1] at e
    exact e
  case piece1 =>
    rw [show y 0 = (2 : Fin 4) from Fin.ext (show (y 0 : ℕ) = 2 by omega), show y 1 = x 1 from Fin.ext hx1, show y 2 = x 2 from Fin.ext hx2]
    have e : dsV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowD (iblk m c 8 t) 2 inb_S4x128x256_S1x128x256_2_0_0) (rowS (iblk m c 9 t) 2 inb_S4x1x128x256_S1x1x128x256_2_0_0_0) (rowD (k0_pay2 (F := Ideal)) 2 inb_S4x128x256_S1x128x256_2_0_0) (decayOf 2) x = _ := (congrArg _ (eq_ix3 x)).trans (dsV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (k0_pay2 (F := Ideal)) 2 inb_S4x128x256_S1x128x256_2_0_0) (decayOf 2) (x 0) (x 1) (x 2))
    rw [chunkOf_ld2] at e
    exact e
  case piece0 =>
    rw [show y 0 = (3 : Fin 4) from Fin.ext (show (y 0 : ℕ) = 3 by omega), show y 1 = x 1 from Fin.ext hx1, show y 2 = x 2 from Fin.ext hx2]
    have e : dsV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowD (iblk m c 8 t) 3 inb_S4x128x256_S1x128x256_3_0_0) (rowS (iblk m c 9 t) 3 inb_S4x1x128x256_S1x1x128x256_3_0_0_0) (rowD (k0_pay2 (F := Ideal)) 3 inb_S4x128x256_S1x128x256_3_0_0) (decayOf 3) x = _ := (congrArg _ (eq_ix3 x)).trans (dsV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (k0_pay2 (F := Ideal)) 3 inb_S4x128x256_S1x128x256_3_0_0) (decayOf 3) (x 0) (x 1) (x 2))
    rw [chunkOf_ld3] at e
    exact e

theorem ds_B (c : Dev nD) (t : Fin cfg0.N) (ht : ¬t.val % 32 = 0) (y : S4x128x256.Idx) :
    (outsAt0 m c t.val t.isLt).2.2.2.2 y = (chunkPt m c t (outsAt0 m c (t.val - 1) (Nat.lt_of_le_of_lt (Nat.sub_le _ _) t.isLt)).2.2.2.2 (y 0)).ds (decayOf (y 0)) (y 1) (y 2) := by
  rw [outsAt0_B m c t ht]; frame_open
  simp (disch := decide) only [↓ View.readCov_skip, ↓ View.readCov_cons_toLoadRect, ↓ View.readCov_fill]
  frame_out
  try simp only [read_unread_whole]
  canon_tiles x hx
  case piece3 =>
    rw [show y 0 = (0 : Fin 4) from Fin.ext (show (y 0 : ℕ) = 0 by omega), show y 1 = x 1 from Fin.ext hx1, show y 2 = x 2 from Fin.ext hx2]
    have e : dsV (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowD (iblk m c 8 t) 0 inb_S4x128x256_S1x128x256_0_0_0) (rowS (iblk m c 9 t) 0 inb_S4x1x128x256_S1x1x128x256_0_0_0_0) (rowD (outsAt0 m c (t.val - 1) (Nat.lt_of_le_of_lt (Nat.sub_le _ _) t.isLt)).2.2.2.2 0 inb_S4x128x256_S1x128x256_0_0_0) (decayOf 0) x = _ := (congrArg _ (eq_ix3 x)).trans (dsV_at (iblk m c 4 t) (iblk m c 5 t) (ldN (X0_0 m c t) 0 inb_S128x512_S128x128_0_0) (ldN (X0_1 m c t) 0 inb_S128x512_S128x128_0_0) (ldW (X0_2 m c t) 0 inb_S128x1024_S128x256_0_0) (ldW (X0_3 m c t) 0 inb_S128x1024_S128x256_0_0) (ldW (iblk m c 10 t) 0 inb_S128x1024_S128x256_0_0) (rowA (iblk m c 6 t) 0 inb_S4x128x128_S1x128x128_0_0_0) (rowA (iblk m c 7 t) 0 inb_S4x128x128_S1x128x128_0_0_0) (rowD (iblk m c 8 t) 0 inb_S4x128x256_S1x128x256_0_0_0) (rowS (iblk m c 9 t) 0 inb_S4x1x128x256_S1x1x128x256_0_0_0_0) (rowD (outsAt0 m c (t.val - 1) (Nat.lt_of_le_of_lt (Nat.sub_le _ _) t.isLt)).2.2.2.2 0 inb_S4x128x256_S1x128x256_0_0_0) (decayOf 0) (x 0) (x 1) (x 2))
    rw [chunkOf_ld0] at e
    exact e
  case piece2 =>
    rw [show y 0 = (1 : Fin 4) from Fin.ext (show (y 0 : ℕ) = 1 by omega), show y 1 = x 1 from Fin.ext hx1, show y 2 = x 2 from Fin.ext hx2]
    have e : dsV (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowD (iblk m c 8 t) 1 inb_S4x128x256_S1x128x256_1_0_0) (rowS (iblk m c 9 t) 1 inb_S4x1x128x256_S1x1x128x256_1_0_0_0) (rowD (outsAt0 m c (t.val - 1) (Nat.lt_of_le_of_lt (Nat.sub_le _ _) t.isLt)).2.2.2.2 1 inb_S4x128x256_S1x128x256_1_0_0) (decayOf 1) x = _ := (congrArg _ (eq_ix3 x)).trans (dsV_at (iblk m c 4 t) (iblk m c 5 t) (ldN (X0_0 m c t) 128 inb_S128x512_S128x128_0_128) (ldN (X0_1 m c t) 128 inb_S128x512_S128x128_0_128) (ldW (X0_2 m c t) 256 inb_S128x1024_S128x256_0_256) (ldW (X0_3 m c t) 256 inb_S128x1024_S128x256_0_256) (ldW (iblk m c 10 t) 256 inb_S128x1024_S128x256_0_256) (rowA (iblk m c 6 t) 1 inb_S4x128x128_S1x128x128_1_0_0) (rowA (iblk m c 7 t) 1 inb_S4x128x128_S1x128x128_1_0_0) (rowD (iblk m c 8 t) 1 inb_S4x128x256_S1x128x256_1_0_0) (rowS (iblk m c 9 t) 1 inb_S4x1x128x256_S1x1x128x256_1_0_0_0) (rowD (outsAt0 m c (t.val - 1) (Nat.lt_of_le_of_lt (Nat.sub_le _ _) t.isLt)).2.2.2.2 1 inb_S4x128x256_S1x128x256_1_0_0) (decayOf 1) (x 0) (x 1) (x 2))
    rw [chunkOf_ld1] at e
    exact e
  case piece1 =>
    rw [show y 0 = (2 : Fin 4) from Fin.ext (show (y 0 : ℕ) = 2 by omega), show y 1 = x 1 from Fin.ext hx1, show y 2 = x 2 from Fin.ext hx2]
    have e : dsV (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowD (iblk m c 8 t) 2 inb_S4x128x256_S1x128x256_2_0_0) (rowS (iblk m c 9 t) 2 inb_S4x1x128x256_S1x1x128x256_2_0_0_0) (rowD (outsAt0 m c (t.val - 1) (Nat.lt_of_le_of_lt (Nat.sub_le _ _) t.isLt)).2.2.2.2 2 inb_S4x128x256_S1x128x256_2_0_0) (decayOf 2) x = _ := (congrArg _ (eq_ix3 x)).trans (dsV_at (iblk m c 4 t) (iblk m c 5 t) (ldN (X0_0 m c t) 256 inb_S128x512_S128x128_0_256) (ldN (X0_1 m c t) 256 inb_S128x512_S128x128_0_256) (ldW (X0_2 m c t) 512 inb_S128x1024_S128x256_0_512) (ldW (X0_3 m c t) 512 inb_S128x1024_S128x256_0_512) (ldW (iblk m c 10 t) 512 inb_S128x1024_S128x256_0_512) (rowA (iblk m c 6 t) 2 inb_S4x128x128_S1x128x128_2_0_0) (rowA (iblk m c 7 t) 2 inb_S4x128x128_S1x128x128_2_0_0) (rowD (iblk m c 8 t) 2 inb_S4x128x256_S1x128x256_2_0_0) (rowS (iblk m c 9 t) 2 inb_S4x1x128x256_S1x1x128x256_2_0_0_0) (rowD (outsAt0 m c (t.val - 1) (Nat.lt_of_le_of_lt (Nat.sub_le _ _) t.isLt)).2.2.2.2 2 inb_S4x128x256_S1x128x256_2_0_0) (decayOf 2) (x 0) (x 1) (x 2))
    rw [chunkOf_ld2] at e
    exact e
  case piece0 =>
    rw [show y 0 = (3 : Fin 4) from Fin.ext (show (y 0 : ℕ) = 3 by omega), show y 1 = x 1 from Fin.ext hx1, show y 2 = x 2 from Fin.ext hx2]
    have e : dsV (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowD (iblk m c 8 t) 3 inb_S4x128x256_S1x128x256_3_0_0) (rowS (iblk m c 9 t) 3 inb_S4x1x128x256_S1x1x128x256_3_0_0_0) (rowD (outsAt0 m c (t.val - 1) (Nat.lt_of_le_of_lt (Nat.sub_le _ _) t.isLt)).2.2.2.2 3 inb_S4x128x256_S1x128x256_3_0_0) (decayOf 3) x = _ := (congrArg _ (eq_ix3 x)).trans (dsV_at (iblk m c 4 t) (iblk m c 5 t) (ldN (X0_0 m c t) 384 inb_S128x512_S128x128_0_384) (ldN (X0_1 m c t) 384 inb_S128x512_S128x128_0_384) (ldW (X0_2 m c t) 768 inb_S128x1024_S128x256_0_768) (ldW (X0_3 m c t) 768 inb_S128x1024_S128x256_0_768) (ldW (iblk m c 10 t) 768 inb_S128x1024_S128x256_0_768) (rowA (iblk m c 6 t) 3 inb_S4x128x128_S1x128x128_3_0_0) (rowA (iblk m c 7 t) 3 inb_S4x128x128_S1x128x128_3_0_0) (rowD (iblk m c 8 t) 3 inb_S4x128x256_S1x128x256_3_0_0) (rowS (iblk m c 9 t) 3 inb_S4x1x128x256_S1x1x128x256_3_0_0_0) (rowD (outsAt0 m c (t.val - 1) (Nat.lt_of_le_of_lt (Nat.sub_le _ _) t.isLt)).2.2.2.2 3 inb_S4x128x256_S1x128x256_3_0_0) (decayOf 3) (x 0) (x 1) (x 2))
    rw [chunkOf_ld3] at e
    exact e

theorem dq_pt (c : Dev nD) (t : Fin cfg0.N) (y : S128x512.Idx) :
    (outsAt0 m c t.val t.isLt).1 y = (chunkPt m c t (found m c t) (headOf 128 (by decide) (y 1))).dq (y 0) ⟨(y 1 : ℕ) % 128, Nat.mod_lt _ (by decide)⟩ := by
  unfold found; split
  · exact dq_A m c t ‹_› y
  · exact dq_B m c t ‹_› y

theorem dk_pt (c : Dev nD) (t : Fin cfg0.N) (y : S128x512.Idx) :
    (outsAt0 m c t.val t.isLt).2.1 y = (chunkPt m c t (found m c t) (headOf 128 (by decide) (y 1))).dk (y 0) ⟨(y 1 : ℕ) % 128, Nat.mod_lt _ (by decide)⟩ := by
  unfold found; split
  · exact dk_A m c t ‹_› y
  · exact dk_B m c t ‹_› y

theorem dv_pt (c : Dev nD) (t : Fin cfg0.N) (y : S128x1024.Idx) :
    (outsAt0 m c t.val t.isLt).2.2.1 y = (chunkPt m c t (found m c t) (headOf 256 (by decide) (y 1))).dv (y 0) ⟨(y 1 : ℕ) % 256, Nat.mod_lt _ (by decide)⟩ := by
  unfold found; split
  · exact dv_A m c t ‹_› y
  · exact dv_B m c t ‹_› y

theorem dg_pt (c : Dev nD) (t : Fin cfg0.N) (y : S128x1024.Idx) :
    (outsAt0 m c t.val t.isLt).2.2.2.1 y = (chunkPt m c t (found m c t) (headOf 256 (by decide) (y 1))).dg (y 0) ⟨(y 1 : ℕ) % 256, Nat.mod_lt _ (by decide)⟩ := by
  unfold found; split
  · exact dg_A m c t ‹_› y
  · exact dg_B m c t ‹_› y

theorem ds_pt (c : Dev nD) (t : Fin cfg0.N) (y : S4x128x256.Idx) :
    (outsAt0 m c t.val t.isLt).2.2.2.2 y = (chunkPt m c t (found m c t) (y 0)).ds (decayOf (y 0)) (y 1) (y 2) := by
  unfold found; split
  · exact ds_A m c t ‹_› y
  · exact ds_B m c t ‹_› y

end Cert.Retention

end
-- ==== Proof.Signal.lean ====
/-
  The heads of the chunks of a sequence, over the projections and the cotangent that the step hands to the retention's
  backward pass: the rotations, the decays, the states before each chunk and the cotangents of the states after it.
-/
module

public import proofs.«01_k».proof.Proof.ChunkVec

@[expose] public section

noncomputable section

namespace Cert.Retention

open Idealize.ShloMosaic

/-- A natural number, as the programs' tables hold it. -/
def num (n : ℕ) : EReal := FloatOps.sitofp (F := Ideal) .f32 (BitVec.ofNat 32 n)

/-- The angle of pair `i` at position `r`. -/
def angle (r i : ℕ) : EReal :=
  num r * Ideal.pow (Ideal.ofBits .f32 1176256512#32)
    (Ideal.div (-(Ideal.ofBits .f32 1073741824#32 * num i)) (Ideal.ofBits .f32 1124073472#32))

/-- The cosine for element `d` at position `r`. -/
def cosT (r d : ℕ) : EReal := if d < 64 then Ideal.cos (angle r d) else Ideal.cos (angle r (d - 64))

/-- The signed sine for element `d` at position `r`. -/
def sinT (r d : ℕ) : EReal := if d < 64 then -Ideal.sin (angle r d) else Ideal.sin (angle r (d - 64))

/-- The logarithm of a head's decay. -/
def logDecay (h : ℕ) : EReal :=
  Ideal.log1p (-Ideal.pow (Ideal.ofBits .f32 1073741824#32) (Ideal.ofBits .f32 3231711232#32 - num h))

/-- The decay between two positions of a chunk. -/
def decayBetween (h i j : ℕ) : EReal := if 0 ≤ num i - num j then Ideal.exp (max (num i - num j) 0 * logDecay h) else 0

/-- The decay from a position to the chunk's end. -/
def decayToEnd (h j : ℕ) : EReal := Ideal.exp ((Ideal.ofBits .f32 1123942400#32 - num j) * logDecay h)

/-- The decay from the chunk's start to a position. -/
def decayFromStart (h i : ℕ) : EReal := Ideal.exp ((num i + 1) * logDecay h)

/-- The decay over a chunk. -/
def decayOver (h : ℕ) : EReal := Ideal.exp (Ideal.ofBits .f32 1124073472#32 * logDecay h)

/-- Position `i` of chunk `c`. -/
def row (c : Fin 32) (i : Fin 128) : Fin 4096 := ⟨c * 128 + i, by omega⟩

/-- Element `d` of head `h` among the columns that start at `o`, a head being `w` wide. -/
def elt {n : ℕ} (o w : ℕ) (hw : o + w * 4 ≤ n) (h : Fin 4) (d : Fin w) : Fin n :=
  ⟨o + (h * w + d), by
    have := d.isLt; have := Nat.mul_le_mul_left w h.isLt; rw [Nat.succ_eq_add_one, Nat.mul_add, Nat.mul_comm w h] at this; omega⟩

theorem other_lo (d : Fin 128) (h : (d : ℕ) < 64) : ((other d : Fin 128) : ℕ) = 64 + d := by
  show (d.val + 64) % 128 = _; omega
theorem other_hi (d : Fin 128) (h : ¬(d : ℕ) < 64) : ((other d : Fin 128) : ℕ) = d - 64 := by
  show (d.val + 64) % 128 = _; omega

/-- The rotation of a row's pairs, half by half. -/
theorem turn_halves (r : ℕ) (x : Fin 128 → EReal) (d : Fin 128) :
    turn (fun _ d => cosT r d) (fun _ d => sinT r d) (fun _ d => x d) 0 d =
      if h : (d : ℕ) < 64 then x d * Ideal.cos (angle r d) - x ⟨64 + d, by omega⟩ * Ideal.sin (angle r d)
      else x ⟨d - 64, by omega⟩ * Ideal.sin (angle r (d - 64)) + x ⟨64 + (d - 64), by omega⟩ * Ideal.cos (angle r (d - 64)) := by
  unfold turn cosT sinT
  by_cases h : (d : ℕ) < 64
  · simp only [h, ↓reduceIte, ↓reduceDIte]
    rw [show other d = ⟨64 + d, by omega⟩ from Fin.ext (other_lo d h), mul_neg]; rfl
  · simp only [h, ↓reduceIte, ↓reduceDIte]
    rw [show other d = ⟨d - 64, by omega⟩ from Fin.ext (other_hi d h), add_comm,
      show (⟨64 + (d - 64), by omega⟩ : Fin 128) = d from Fin.ext (by show 64 + ((d : ℕ) - 64) = d; omega)]

variable (A : FVec Ideal Cert.KernelIdeal.S4096x5760 .bf16) (Y : FVec Ideal Cert.KernelIdeal.S4096x2048 .bf16)

/-- Head `h` of chunk `c`, between the state `S` before it and the cotangent `D` of the state after it. -/
def headAt (c : Fin 32) (h : Fin 4) (S D : Fin 128 → Fin 256 → EReal) : Chunk where
  cs i d := cosT (row c i) d
  sn i d := sinT (row c i) d
  q i d := A (ix2 (row c i) (elt 0 128 (by decide) h d))
  k i d := A (ix2 (row c i) (elt 512 128 (by decide) h d))
  v i e := A (ix2 (row c i) (elt 1024 256 (by decide) h e))
  g i e := A (ix2 (row c i) (elt 2048 256 (by decide) h e))
  y i e := Y (ix2 (row c i) (elt 0 256 (by decide) h e))
  a i j := decayBetween h i j
  z i _ := decayToEnd h i
  x i _ := decayFromStart h i
  s := S
  d := D

/-- What chunk `c` adds to the state of head `h`. -/
def gainAt (c : Fin 32) (h : Fin 4) (d : Fin 128) (e : Fin 256) : EReal :=
  ∑ j, turn (fun i d => cosT (row c i) d) (fun i d => sinT (row c i) d) (fun i d => A (ix2 (row c i) (elt 512 128 (by decide) h d))) j d *
    scale * decayToEnd h j * A (ix2 (row c j) (elt 1024 256 (by decide) h e))

/-- The chunk of number `n`. -/
def chunkNo (n : ℕ) : Fin 32 := ⟨n % 32, Nat.mod_lt _ (by decide)⟩

/-- The state of head `h` before chunk `n`. -/
def stateAt : ℕ → Fin 4 → Fin 128 → Fin 256 → EReal
  | 0 => fun _ _ _ => 0
  | n + 1 => fun h d e => stateAt n h d e * decayOver h + gainAt A (chunkNo n) h d e

/-- The cotangent of the state of head `h` after chunk `31 - n`. -/
def costateAt : ℕ → Fin 4 → Fin 128 → Fin 256 → EReal
  | 0 => fun _ _ _ => 0
  | n + 1 => fun h =>
      (headAt A Y (chunkNo (31 - n)) h (stateAt A (31 - n) h) (costateAt n h)).ds (decayOver h)

/-- Head `h` of chunk `c` of the sequence. -/
def chunk (c : Fin 32) (h : Fin 4) : Chunk := headAt A Y c h (stateAt A c h) (costateAt A Y (31 - c) h)

end Cert.Retention

end
-- ==== Proof.Entry.lean ====
/-
  What the host writes before the kernel runs: the tables of the rotations and of the decays, and the states before each
  chunk.
-/
module

public import proofs.«01_k».proof.Proof.Gen.KernelIdeal.Frame
public import proofs.«01_k».proof.Proof.Signal
public import Idealize.ShloMosaic.Lib.StableHlo.ReadAt
public import Idealize.ShloMosaic.Lib.Pipeline.ValueKit

@[expose] public section

set_option maxRecDepth 16384

noncomputable section

namespace Cert.Retention

open Idealize.ShloMosaic Idealize.ShloMosaic.TcCoe Idealize.SL.Sem
open Cert.KernelIdeal Cert.KernelIdeal.Gen
open Idealize.ShloMosaic.StableHlo (upto)

variable (m : (ℓ : Loc nD τ sig) → Buf (Elt Ideal) ℓ)

/-- The projections, as launched. -/
abbrev argA (c : Dev nD) : FVec Ideal S4096x5760 .bf16 := m (c, Proc.devRef .tc main_arg0)
/-- The cotangent of the mixed result, as launched. -/
abbrev argY (c : Dev nD) : FVec Ideal S4096x2048 .bf16 := m (c, Proc.devRef .tc main_arg1)
/-- The host's operations before the kernel. -/
abbrev line : List (HloOp τ sig (Elt Ideal)) := List.flatten [hostOps0, hostOps0_1, hostOps0_2]

theorem V_cos (c : Dev nD) (r : Fin 4096) (d : Fin 128) :
    (V m c main_v19 : FVec Ideal S4096x128 .f32) (ix2 r d) = (cosT r d : EReal) := by
  unfold V; after_reads_at; unfold cosT angle num; simp only [dite_eq_ite]
theorem V_sin (c : Dev nD) (r : Fin 4096) (d : Fin 128) :
    (V m c main_v21 : FVec Ideal S4096x128 .f32) (ix2 r d) = (sinT r d : EReal) := by
  unfold V; after_reads_at; unfold sinT angle num; simp only [dite_eq_ite]
theorem V_between (c : Dev nD) (h : Fin 4) (i j : Fin 128) :
    (V m c main_v319 : FVec Ideal S4x128x128 .f32) (ix3 h i j) = (decayBetween h i j : EReal) := by
  unfold V; after_reads_at; simp only [id]; pointwise; rfl
theorem V_toEnd (c : Dev nD) (h : Fin 4) (i j : Fin 128) :
    (V m c main_v337 : FVec Ideal S4x128x128 .f32) (ix3 h i j) = (decayToEnd h i : EReal) := by
  unfold V; after_reads_at; rfl
theorem V_fromStart (c : Dev nD) (h : Fin 4) (i : Fin 128) (e : Fin 256) :
    (V m c main_v339 : FVec Ideal S4x128x256 .f32) (ix3 h i e) = (decayFromStart h i : EReal) := by
  unfold V; after_reads_at; rfl

/-- The rotated keys of every head. -/
def keysV (A : FVec Ideal S4096x5760 .bf16) : FVec Ideal S1x4096x4x128 .f32 := fun x =>
  turn (fun _ d => cosT (x 1) d) (fun _ d => sinT (x 1) d) (fun _ d => A (ix2 (x 1) (elt 512 128 (by decide) (x 2) d))) 0 (x 3)
/-- What each chunk adds to the states. -/
def gainV (A : FVec Ideal S4096x5760 .bf16) : FVec Ideal S32x1x4x128x256 .f32 := fun x => gainAt A (x 0) (x 2) (x 3) (x 4)
/-- The heads' decays over a chunk. -/
def overV : FVec Ideal S4 .f32 := fun x => decayOver (x 0)
/-- The heads' states before chunk `n`. -/
def stateV (A : FVec Ideal S4096x5760 .bf16) (n : ℕ) : FVec Ideal S1x4x128x256 .f32 := fun x => stateAt A n (x 1) (x 2) (x 3)

theorem keys_read (c : Dev nD) :
    upto line (fun b => m (c, b)) 80 (no_index (Proc.devRef .tc main_v60)) = keysV (argA m c) := by
  refine funext fun (x : S1x4096x4x128.Idx) => ?_
  rw [eq_ix4 x, show x 0 = (0 : Fin 1) from Subsingleton.elim (α := Fin 1) _ _]
  unfold line
  refine Eq.trans ?_ (turn_halves (x 1 : Fin 4096) (fun d => argA m c (ix2 (x 1) (elt 512 128 (by decide) (x 2) d))) (x 3)).symm
  generalize x 1 = r
  generalize x 2 = h
  generalize x 3 = d
  after_reads_at
  rfl

theorem over_read (c : Dev nD) :
    upto line (fun b => m (c, b)) 102 (no_index (Proc.devRef .tc main_v88)) = overV := by
  funext x
  rw [eq_ix1 x]
  unfold line
  generalize x 0 = h
  after_reads_at
  rfl

theorem gain_read (c : Dev nD) :
    upto line (fun b => m (c, b)) 109 (no_index (Proc.devRef .tc main_v93)) = gainV (argA m c) := by
  refine funext fun (x : S32x1x4x128x256.Idx) => ?_
  rw [eq_ix5 x, show x 1 = (0 : Fin 1) from Subsingleton.elim (α := Fin 1) _ _]
  have hR := keys_read m c
  unfold line at hR ⊢
  generalize x 0 = n
  generalize x 2 = h
  generalize x 3 = d
  generalize x 4 = e
  after_reads_simp [hR]
  clean_types
  pointwise [keysV, gainV]
  exact Finset.sum_congr rfl fun j _ => rfl

theorem state0_step (c : Dev nD) :
    upto line (fun b => m (c, b)) 115 (no_index (Proc.devRef .tc main_v92)) = stateV (argA m c) 0 := by
  unfold line
  after_reads_simp
  funext x; rw [eq_ix4 x]; pointwise [stateV]; rfl

theorem state0_stack (c : Dev nD) :
    upto line (fun b => m (c, b)) 272 (no_index (Proc.devRef .tc main_v92)) = stateV (argA m c) 0 := by
  unfold line
  after_reads_simp
  funext x; rw [eq_ix4 x]; pointwise [stateV]; rfl

theorem state1_step (c : Dev nD) :
    upto line (fun b => m (c, b)) 120 (no_index (Proc.devRef .tc main_v101)) = stateV (argA m c) 1 := by
  have h0 := over_read m c
  have h1 := gain_read m c
  have h2 := state0_step m c
  unfold line at h0 h1 h2 ⊢
  after_reads_simp [h0, h1, h2]
  funext x; rw [eq_ix4 x]; pointwise [stateV, gainV, overV]; rfl

theorem state1_stack (c : Dev nD) :
    upto line (fun b => m (c, b)) 273 (no_index (Proc.devRef .tc main_v101)) = stateV (argA m c) 1 := by
  have h0 := over_read m c
  have h1 := gain_read m c
  have h2 := state0_step m c
  unfold line at h0 h1 h2 ⊢
  after_reads_simp [h0, h1, h2]
  funext x; rw [eq_ix4 x]; pointwise [stateV, gainV, overV]; rfl

theorem state2_step (c : Dev nD) :
    upto line (fun b => m (c, b)) 125 (no_index (Proc.devRef .tc main_v106)) = stateV (argA m c) 2 := by
  have h0 := over_read m c
  have h1 := gain_read m c
  have h2 := state1_step m c
  unfold line at h0 h1 h2 ⊢
  after_reads_simp [h0, h1, h2]
  funext x; rw [eq_ix4 x]; pointwise [stateV, gainV, overV]; rfl

theorem state2_stack (c : Dev nD) :
    upto line (fun b => m (c, b)) 274 (no_index (Proc.devRef .tc main_v106)) = stateV (argA m c) 2 := by
  have h0 := over_read m c
  have h1 := gain_read m c
  have h2 := state1_step m c
  unfold line at h0 h1 h2 ⊢
  after_reads_simp [h0, h1, h2]
  funext x; rw [eq_ix4 x]; pointwise [stateV, gainV, overV]; rfl

theorem state3_step (c : Dev nD) :
    upto line (fun b => m (c, b)) 130 (no_index (Proc.devRef .tc main_v111)) = stateV (argA m c) 3 := by
  have h0 := over_read m c
  have h1 := gain_read m c
  have h2 := state2_step m c
  unfold line at h0 h1 h2 ⊢
  after_reads_simp [h0, h1, h2]
  funext x; rw [eq_ix4 x]; pointwise [stateV, gainV, overV]; rfl

theorem state3_stack (c : Dev nD) :
    upto line (fun b => m (c, b)) 275 (no_index (Proc.devRef .tc main_v111)) = stateV (argA m c) 3 := by
  have h0 := over_read m c
  have h1 := gain_read m c
  have h2 := state2_step m c
  unfold line at h0 h1 h2 ⊢
  after_reads_simp [h0, h1, h2]
  funext x; rw [eq_ix4 x]; pointwise [stateV, gainV, overV]; rfl

theorem state4_step (c : Dev nD) :
    upto line (fun b => m (c, b)) 135 (no_index (Proc.devRef .tc main_v116)) = stateV (argA m c) 4 := by
  have h0 := over_read m c
  have h1 := gain_read m c
  have h2 := state3_step m c
  unfold line at h0 h1 h2 ⊢
  after_reads_simp [h0, h1, h2]
  funext x; rw [eq_ix4 x]; pointwise [stateV, gainV, overV]; rfl

theorem state4_stack (c : Dev nD) :
    upto line (fun b => m (c, b)) 276 (no_index (Proc.devRef .tc main_v116)) = stateV (argA m c) 4 := by
  have h0 := over_read m c
  have h1 := gain_read m c
  have h2 := state3_step m c
  unfold line at h0 h1 h2 ⊢
  after_reads_simp [h0, h1, h2]
  funext x; rw [eq_ix4 x]; pointwise [stateV, gainV, overV]; rfl

theorem state5_step (c : Dev nD) :
    upto line (fun b => m (c, b)) 140 (no_index (Proc.devRef .tc main_v121)) = stateV (argA m c) 5 := by
  have h0 := over_read m c
  have h1 := gain_read m c
  have h2 := state4_step m c
  unfold line at h0 h1 h2 ⊢
  after_reads_simp [h0, h1, h2]
  funext x; rw [eq_ix4 x]; pointwise [stateV, gainV, overV]; rfl

theorem state5_stack (c : Dev nD) :
    upto line (fun b => m (c, b)) 277 (no_index (Proc.devRef .tc main_v121)) = stateV (argA m c) 5 := by
  have h0 := over_read m c
  have h1 := gain_read m c
  have h2 := state4_step m c
  unfold line at h0 h1 h2 ⊢
  after_reads_simp [h0, h1, h2]
  funext x; rw [eq_ix4 x]; pointwise [stateV, gainV, overV]; rfl

theorem state6_step (c : Dev nD) :
    upto line (fun b => m (c, b)) 145 (no_index (Proc.devRef .tc main_v126)) = stateV (argA m c) 6 := by
  have h0 := over_read m c
  have h1 := gain_read m c
  have h2 := state5_step m c
  unfold line at h0 h1 h2 ⊢
  after_reads_simp [h0, h1, h2]
  funext x; rw [eq_ix4 x]; pointwise [stateV, gainV, overV]; rfl

theorem state6_stack (c : Dev nD) :
    upto line (fun b => m (c, b)) 278 (no_index (Proc.devRef .tc main_v126)) = stateV (argA m c) 6 := by
  have h0 := over_read m c
  have h1 := gain_read m c
  have h2 := state5_step m c
  unfold line at h0 h1 h2 ⊢
  after_reads_simp [h0, h1, h2]
  funext x; rw [eq_ix4 x]; pointwise [stateV, gainV, overV]; rfl

theorem state7_step (c : Dev nD) :
    upto line (fun b => m (c, b)) 150 (no_index (Proc.devRef .tc main_v131)) = stateV (argA m c) 7 := by
  have h0 := over_read m c
  have h1 := gain_read m c
  have h2 := state6_step m c
  unfold line at h0 h1 h2 ⊢
  after_reads_simp [h0, h1, h2]
  funext x; rw [eq_ix4 x]; pointwise [stateV, gainV, overV]; rfl

theorem state7_stack (c : Dev nD) :
    upto line (fun b => m (c, b)) 279 (no_index (Proc.devRef .tc main_v131)) = stateV (argA m c) 7 := by
  have h0 := over_read m c
  have h1 := gain_read m c
  have h2 := state6_step m c
  unfold line at h0 h1 h2 ⊢
  after_reads_simp [h0, h1, h2]
  funext x; rw [eq_ix4 x]; pointwise [stateV, gainV, overV]; rfl

theorem state8_step (c : Dev nD) :
    upto line (fun b => m (c, b)) 155 (no_index (Proc.devRef .tc main_v136)) = stateV (argA m c) 8 := by
  have h0 := over_read m c
  have h1 := gain_read m c
  have h2 := state7_step m c
  unfold line at h0 h1 h2 ⊢
  after_reads_simp [h0, h1, h2]
  funext x; rw [eq_ix4 x]; pointwise [stateV, gainV, overV]; rfl

theorem state8_stack (c : Dev nD) :
    upto line (fun b => m (c, b)) 280 (no_index (Proc.devRef .tc main_v136)) = stateV (argA m c) 8 := by
  have h0 := over_read m c
  have h1 := gain_read m c
  have h2 := state7_step m c
  unfold line at h0 h1 h2 ⊢
  after_reads_simp [h0, h1, h2]
  funext x; rw [eq_ix4 x]; pointwise [stateV, gainV, overV]; rfl

theorem state9_step (c : Dev nD) :
    upto line (fun b => m (c, b)) 160 (no_index (Proc.devRef .tc main_v141)) = stateV (argA m c) 9 := by
  have h0 := over_read m c
  have h1 := gain_read m c
  have h2 := state8_step m c
  unfold line at h0 h1 h2 ⊢
  after_reads_simp [h0, h1, h2]
  funext x; rw [eq_ix4 x]; pointwise [stateV, gainV, overV]; rfl

theorem state9_stack (c : Dev nD) :
    upto line (fun b => m (c, b)) 281 (no_index (Proc.devRef .tc main_v141)) = stateV (argA m c) 9 := by
  have h0 := over_read m c
  have h1 := gain_read m c
  have h2 := state8_step m c
  unfold line at h0 h1 h2 ⊢
  after_reads_simp [h0, h1, h2]
  funext x; rw [eq_ix4 x]; pointwise [stateV, gainV, overV]; rfl

theorem state10_step (c : Dev nD) :
    upto line (fun b => m (c, b)) 165 (no_index (Proc.devRef .tc main_v146)) = stateV (argA m c) 10 := by
  have h0 := over_read m c
  have h1 := gain_read m c
  have h2 := state9_step m c
  unfold line at h0 h1 h2 ⊢
  after_reads_simp [h0, h1, h2]
  funext x; rw [eq_ix4 x]; pointwise [stateV, gainV, overV]; rfl

theorem state10_stack (c : Dev nD) :
    upto line (fun b => m (c, b)) 282 (no_index (Proc.devRef .tc main_v146)) = stateV (argA m c) 10 := by
  have h0 := over_read m c
  have h1 := gain_read m c
  have h2 := state9_step m c
  unfold line at h0 h1 h2 ⊢
  after_reads_simp [h0, h1, h2]
  funext x; rw [eq_ix4 x]; pointwise [stateV, gainV, overV]; rfl

theorem state11_step (c : Dev nD) :
    upto line (fun b => m (c, b)) 170 (no_index (Proc.devRef .tc main_v151)) = stateV (argA m c) 11 := by
  have h0 := over_read m c
  have h1 := gain_read m c
  have h2 := state10_step m c
  unfold line at h0 h1 h2 ⊢
  after_reads_simp [h0, h1, h2]
  funext x; rw [eq_ix4 x]; pointwise [stateV, gainV, overV]; rfl

theorem state11_stack (c : Dev nD) :
    upto line (fun b => m (c, b)) 283 (no_index (Proc.devRef .tc main_v151)) = stateV (argA m c) 11 := by
  have h0 := over_read m c
  have h1 := gain_read m c
  have h2 := state10_step m c
  unfold line at h0 h1 h2 ⊢
  after_reads_simp [h0, h1, h2]
  funext x; rw [eq_ix4 x]; pointwise [stateV, gainV, overV]; rfl

theorem state12_step (c : Dev nD) :
    upto line (fun b => m (c, b)) 175 (no_index (Proc.devRef .tc main_v156)) = stateV (argA m c) 12 := by
  have h0 := over_read m c
  have h1 := gain_read m c
  have h2 := state11_step m c
  unfold line at h0 h1 h2 ⊢
  after_reads_simp [h0, h1, h2]
  funext x; rw [eq_ix4 x]; pointwise [stateV, gainV, overV]; rfl

theorem state12_stack (c : Dev nD) :
    upto line (fun b => m (c, b)) 284 (no_index (Proc.devRef .tc main_v156)) = stateV (argA m c) 12 := by
  have h0 := over_read m c
  have h1 := gain_read m c
  have h2 := state11_step m c
  unfold line at h0 h1 h2 ⊢
  after_reads_simp [h0, h1, h2]
  funext x; rw [eq_ix4 x]; pointwise [stateV, gainV, overV]; rfl

theorem state13_step (c : Dev nD) :
    upto line (fun b => m (c, b)) 180 (no_index (Proc.devRef .tc main_v161)) = stateV (argA m c) 13 := by
  have h0 := over_read m c
  have h1 := gain_read m c
  have h2 := state12_step m c
  unfold line at h0 h1 h2 ⊢
  after_reads_simp [h0, h1, h2]
  funext x; rw [eq_ix4 x]; pointwise [stateV, gainV, overV]; rfl

theorem state13_stack (c : Dev nD) :
    upto line (fun b => m (c, b)) 285 (no_index (Proc.devRef .tc main_v161)) = stateV (argA m c) 13 := by
  have h0 := over_read m c
  have h1 := gain_read m c
  have h2 := state12_step m c
  unfold line at h0 h1 h2 ⊢
  after_reads_simp [h0, h1, h2]
  funext x; rw [eq_ix4 x]; pointwise [stateV, gainV, overV]; rfl

theorem state14_step (c : Dev nD) :
    upto line (fun b => m (c, b)) 185 (no_index (Proc.devRef .tc main_v166)) = stateV (argA m c) 14 := by
  have h0 := over_read m c
  have h1 := gain_read m c
  have h2 := state13_step m c
  unfold line at h0 h1 h2 ⊢
  after_reads_simp [h0, h1, h2]
  funext x; rw [eq_ix4 x]; pointwise [stateV, gainV, overV]; rfl

theorem state14_stack (c : Dev nD) :
    upto line (fun b => m (c, b)) 286 (no_index (Proc.devRef .tc main_v166)) = stateV (argA m c) 14 := by
  have h0 := over_read m c
  have h1 := gain_read m c
  have h2 := state13_step m c
  unfold line at h0 h1 h2 ⊢
  after_reads_simp [h0, h1, h2]
  funext x; rw [eq_ix4 x]; pointwise [stateV, gainV, overV]; rfl

theorem state15_step (c : Dev nD) :
    upto line (fun b => m (c, b)) 190 (no_index (Proc.devRef .tc main_v171)) = stateV (argA m c) 15 := by
  have h0 := over_read m c
  have h1 := gain_read m c
  have h2 := state14_step m c
  unfold line at h0 h1 h2 ⊢
  after_reads_simp [h0, h1, h2]
  funext x; rw [eq_ix4 x]; pointwise [stateV, gainV, overV]; rfl

theorem state15_stack (c : Dev nD) :
    upto line (fun b => m (c, b)) 287 (no_index (Proc.devRef .tc main_v171)) = stateV (argA m c) 15 := by
  have h0 := over_read m c
  have h1 := gain_read m c
  have h2 := state14_step m c
  unfold line at h0 h1 h2 ⊢
  after_reads_simp [h0, h1, h2]
  funext x; rw [eq_ix4 x]; pointwise [stateV, gainV, overV]; rfl

theorem state16_step (c : Dev nD) :
    upto line (fun b => m (c, b)) 195 (no_index (Proc.devRef .tc main_v176)) = stateV (argA m c) 16 := by
  have h0 := over_read m c
  have h1 := gain_read m c
  have h2 := state15_step m c
  unfold line at h0 h1 h2 ⊢
  after_reads_simp [h0, h1, h2]
  funext x; rw [eq_ix4 x]; pointwise [stateV, gainV, overV]; rfl

theorem state16_stack (c : Dev nD) :
    upto line (fun b => m (c, b)) 288 (no_index (Proc.devRef .tc main_v176)) = stateV (argA m c) 16 := by
  have h0 := over_read m c
  have h1 := gain_read m c
  have h2 := state15_step m c
  unfold line at h0 h1 h2 ⊢
  after_reads_simp [h0, h1, h2]
  funext x; rw [eq_ix4 x]; pointwise [stateV, gainV, overV]; rfl

theorem state17_step (c : Dev nD) :
    upto line (fun b => m (c, b)) 200 (no_index (Proc.devRef .tc main_v181)) = stateV (argA m c) 17 := by
  have h0 := over_read m c
  have h1 := gain_read m c
  have h2 := state16_step m c
  unfold line at h0 h1 h2 ⊢
  after_reads_simp [h0, h1, h2]
  funext x; rw [eq_ix4 x]; pointwise [stateV, gainV, overV]; rfl

theorem state17_stack (c : Dev nD) :
    upto line (fun b => m (c, b)) 289 (no_index (Proc.devRef .tc main_v181)) = stateV (argA m c) 17 := by
  have h0 := over_read m c
  have h1 := gain_read m c
  have h2 := state16_step m c
  unfold line at h0 h1 h2 ⊢
  after_reads_simp [h0, h1, h2]
  funext x; rw [eq_ix4 x]; pointwise [stateV, gainV, overV]; rfl

theorem state18_step (c : Dev nD) :
    upto line (fun b => m (c, b)) 205 (no_index (Proc.devRef .tc main_v186)) = stateV (argA m c) 18 := by
  have h0 := over_read m c
  have h1 := gain_read m c
  have h2 := state17_step m c
  unfold line at h0 h1 h2 ⊢
  after_reads_simp [h0, h1, h2]
  funext x; rw [eq_ix4 x]; pointwise [stateV, gainV, overV]; rfl

theorem state18_stack (c : Dev nD) :
    upto line (fun b => m (c, b)) 290 (no_index (Proc.devRef .tc main_v186)) = stateV (argA m c) 18 := by
  have h0 := over_read m c
  have h1 := gain_read m c
  have h2 := state17_step m c
  unfold line at h0 h1 h2 ⊢
  after_reads_simp [h0, h1, h2]
  funext x; rw [eq_ix4 x]; pointwise [stateV, gainV, overV]; rfl

theorem state19_step (c : Dev nD) :
    upto line (fun b => m (c, b)) 210 (no_index (Proc.devRef .tc main_v191)) = stateV (argA m c) 19 := by
  have h0 := over_read m c
  have h1 := gain_read m c
  have h2 := state18_step m c
  unfold line at h0 h1 h2 ⊢
  after_reads_simp [h0, h1, h2]
  funext x; rw [eq_ix4 x]; pointwise [stateV, gainV, overV]; rfl

theorem state19_stack (c : Dev nD) :
    upto line (fun b => m (c, b)) 291 (no_index (Proc.devRef .tc main_v191)) = stateV (argA m c) 19 := by
  have h0 := over_read m c
  have h1 := gain_read m c
  have h2 := state18_step m c
  unfold line at h0 h1 h2 ⊢
  after_reads_simp [h0, h1, h2]
  funext x; rw [eq_ix4 x]; pointwise [stateV, gainV, overV]; rfl

theorem state20_step (c : Dev nD) :
    upto line (fun b => m (c, b)) 215 (no_index (Proc.devRef .tc main_v196)) = stateV (argA m c) 20 := by
  have h0 := over_read m c
  have h1 := gain_read m c
  have h2 := state19_step m c
  unfold line at h0 h1 h2 ⊢
  after_reads_simp [h0, h1, h2]
  funext x; rw [eq_ix4 x]; pointwise [stateV, gainV, overV]; rfl

theorem state20_stack (c : Dev nD) :
    upto line (fun b => m (c, b)) 292 (no_index (Proc.devRef .tc main_v196)) = stateV (argA m c) 20 := by
  have h0 := over_read m c
  have h1 := gain_read m c
  have h2 := state19_step m c
  unfold line at h0 h1 h2 ⊢
  after_reads_simp [h0, h1, h2]
  funext x; rw [eq_ix4 x]; pointwise [stateV, gainV, overV]; rfl

theorem state21_step (c : Dev nD) :
    upto line (fun b => m (c, b)) 220 (no_index (Proc.devRef .tc main_v201)) = stateV (argA m c) 21 := by
  have h0 := over_read m c
  have h1 := gain_read m c
  have h2 := state20_step m c
  unfold line at h0 h1 h2 ⊢
  after_reads_simp [h0, h1, h2]
  funext x; rw [eq_ix4 x]; pointwise [stateV, gainV, overV]; rfl

theorem state21_stack (c : Dev nD) :
    upto line (fun b => m (c, b)) 293 (no_index (Proc.devRef .tc main_v201)) = stateV (argA m c) 21 := by
  have h0 := over_read m c
  have h1 := gain_read m c
  have h2 := state20_step m c
  unfold line at h0 h1 h2 ⊢
  after_reads_simp [h0, h1, h2]
  funext x; rw [eq_ix4 x]; pointwise [stateV, gainV, overV]; rfl

theorem state22_step (c : Dev nD) :
    upto line (fun b => m (c, b)) 225 (no_index (Proc.devRef .tc main_v206)) = stateV (argA m c) 22 := by
  have h0 := over_read m c
  have h1 := gain_read m c
  have h2 := state21_step m c
  unfold line at h0 h1 h2 ⊢
  after_reads_simp [h0, h1, h2]
  funext x; rw [eq_ix4 x]; pointwise [stateV, gainV, overV]; rfl

theorem state22_stack (c : Dev nD) :
    upto line (fun b => m (c, b)) 294 (no_index (Proc.devRef .tc main_v206)) = stateV (argA m c) 22 := by
  have h0 := over_read m c
  have h1 := gain_read m c
  have h2 := state21_step m c
  unfold line at h0 h1 h2 ⊢
  after_reads_simp [h0, h1, h2]
  funext x; rw [eq_ix4 x]; pointwise [stateV, gainV, overV]; rfl

theorem state23_step (c : Dev nD) :
    upto line (fun b => m (c, b)) 230 (no_index (Proc.devRef .tc main_v211)) = stateV (argA m c) 23 := by
  have h0 := over_read m c
  have h1 := gain_read m c
  have h2 := state22_step m c
  unfold line at h0 h1 h2 ⊢
  after_reads_simp [h0, h1, h2]
  funext x; rw [eq_ix4 x]; pointwise [stateV, gainV, overV]; rfl

theorem state23_stack (c : Dev nD) :
    upto line (fun b => m (c, b)) 295 (no_index (Proc.devRef .tc main_v211)) = stateV (argA m c) 23 := by
  have h0 := over_read m c
  have h1 := gain_read m c
  have h2 := state22_step m c
  unfold line at h0 h1 h2 ⊢
  after_reads_simp [h0, h1, h2]
  funext x; rw [eq_ix4 x]; pointwise [stateV, gainV, overV]; rfl

theorem state24_step (c : Dev nD) :
    upto line (fun b => m (c, b)) 235 (no_index (Proc.devRef .tc main_v216)) = stateV (argA m c) 24 := by
  have h0 := over_read m c
  have h1 := gain_read m c
  have h2 := state23_step m c
  unfold line at h0 h1 h2 ⊢
  after_reads_simp [h0, h1, h2]
  funext x; rw [eq_ix4 x]; pointwise [stateV, gainV, overV]; rfl

theorem state24_stack (c : Dev nD) :
    upto line (fun b => m (c, b)) 296 (no_index (Proc.devRef .tc main_v216)) = stateV (argA m c) 24 := by
  have h0 := over_read m c
  have h1 := gain_read m c
  have h2 := state23_step m c
  unfold line at h0 h1 h2 ⊢
  after_reads_simp [h0, h1, h2]
  funext x; rw [eq_ix4 x]; pointwise [stateV, gainV, overV]; rfl

theorem state25_step (c : Dev nD) :
    upto line (fun b => m (c, b)) 240 (no_index (Proc.devRef .tc main_v221)) = stateV (argA m c) 25 := by
  have h0 := over_read m c
  have h1 := gain_read m c
  have h2 := state24_step m c
  unfold line at h0 h1 h2 ⊢
  after_reads_simp [h0, h1, h2]
  funext x; rw [eq_ix4 x]; pointwise [stateV, gainV, overV]; rfl

theorem state25_stack (c : Dev nD) :
    upto line (fun b => m (c, b)) 297 (no_index (Proc.devRef .tc main_v221)) = stateV (argA m c) 25 := by
  have h0 := over_read m c
  have h1 := gain_read m c
  have h2 := state24_step m c
  unfold line at h0 h1 h2 ⊢
  after_reads_simp [h0, h1, h2]
  funext x; rw [eq_ix4 x]; pointwise [stateV, gainV, overV]; rfl

theorem state26_step (c : Dev nD) :
    upto line (fun b => m (c, b)) 245 (no_index (Proc.devRef .tc main_v226)) = stateV (argA m c) 26 := by
  have h0 := over_read m c
  have h1 := gain_read m c
  have h2 := state25_step m c
  unfold line at h0 h1 h2 ⊢
  after_reads_simp [h0, h1, h2]
  funext x; rw [eq_ix4 x]; pointwise [stateV, gainV, overV]; rfl

theorem state26_stack (c : Dev nD) :
    upto line (fun b => m (c, b)) 298 (no_index (Proc.devRef .tc main_v226)) = stateV (argA m c) 26 := by
  have h0 := over_read m c
  have h1 := gain_read m c
  have h2 := state25_step m c
  unfold line at h0 h1 h2 ⊢
  after_reads_simp [h0, h1, h2]
  funext x; rw [eq_ix4 x]; pointwise [stateV, gainV, overV]; rfl

theorem state27_step (c : Dev nD) :
    upto line (fun b => m (c, b)) 250 (no_index (Proc.devRef .tc main_v231)) = stateV (argA m c) 27 := by
  have h0 := over_read m c
  have h1 := gain_read m c
  have h2 := state26_step m c
  unfold line at h0 h1 h2 ⊢
  after_reads_simp [h0, h1, h2]
  funext x; rw [eq_ix4 x]; pointwise [stateV, gainV, overV]; rfl

theorem state27_stack (c : Dev nD) :
    upto line (fun b => m (c, b)) 299 (no_index (Proc.devRef .tc main_v231)) = stateV (argA m c) 27 := by
  have h0 := over_read m c
  have h1 := gain_read m c
  have h2 := state26_step m c
  unfold line at h0 h1 h2 ⊢
  after_reads_simp [h0, h1, h2]
  funext x; rw [eq_ix4 x]; pointwise [stateV, gainV, overV]; rfl

theorem state28_step (c : Dev nD) :
    upto line (fun b => m (c, b)) 255 (no_index (Proc.devRef .tc main_v236)) = stateV (argA m c) 28 := by
  have h0 := over_read m c
  have h1 := gain_read m c
  have h2 := state27_step m c
  unfold line at h0 h1 h2 ⊢
  after_reads_simp [h0, h1, h2]
  funext x; rw [eq_ix4 x]; pointwise [stateV, gainV, overV]; rfl

theorem state28_stack (c : Dev nD) :
    upto line (fun b => m (c, b)) 300 (no_index (Proc.devRef .tc main_v236)) = stateV (argA m c) 28 := by
  have h0 := over_read m c
  have h1 := gain_read m c
  have h2 := state27_step m c
  unfold line at h0 h1 h2 ⊢
  after_reads_simp [h0, h1, h2]
  funext x; rw [eq_ix4 x]; pointwise [stateV, gainV, overV]; rfl

theorem state29_step (c : Dev nD) :
    upto line (fun b => m (c, b)) 260 (no_index (Proc.devRef .tc main_v241)) = stateV (argA m c) 29 := by
  have h0 := over_read m c
  have h1 := gain_read m c
  have h2 := state28_step m c
  unfold line at h0 h1 h2 ⊢
  after_reads_simp [h0, h1, h2]
  funext x; rw [eq_ix4 x]; pointwise [stateV, gainV, overV]; rfl

theorem state29_stack (c : Dev nD) :
    upto line (fun b => m (c, b)) 301 (no_index (Proc.devRef .tc main_v241)) = stateV (argA m c) 29 := by
  have h0 := over_read m c
  have h1 := gain_read m c
  have h2 := state28_step m c
  unfold line at h0 h1 h2 ⊢
  after_reads_simp [h0, h1, h2]
  funext x; rw [eq_ix4 x]; pointwise [stateV, gainV, overV]; rfl

theorem state30_step (c : Dev nD) :
    upto line (fun b => m (c, b)) 265 (no_index (Proc.devRef .tc main_v246)) = stateV (argA m c) 30 := by
  have h0 := over_read m c
  have h1 := gain_read m c
  have h2 := state29_step m c
  unfold line at h0 h1 h2 ⊢
  after_reads_simp [h0, h1, h2]
  funext x; rw [eq_ix4 x]; pointwise [stateV, gainV, overV]; rfl

theorem state30_stack (c : Dev nD) :
    upto line (fun b => m (c, b)) 302 (no_index (Proc.devRef .tc main_v246)) = stateV (argA m c) 30 := by
  have h0 := over_read m c
  have h1 := gain_read m c
  have h2 := state29_step m c
  unfold line at h0 h1 h2 ⊢
  after_reads_simp [h0, h1, h2]
  funext x; rw [eq_ix4 x]; pointwise [stateV, gainV, overV]; rfl

theorem state31_stack (c : Dev nD) :
    upto line (fun b => m (c, b)) 303 (no_index (Proc.devRef .tc main_v251)) = stateV (argA m c) 31 := by
  have h0 := over_read m c
  have h1 := gain_read m c
  have h2 := state30_step m c
  unfold line at h0 h1 h2 ⊢
  after_reads_simp [h0, h1, h2]
  funext x; rw [eq_ix4 x]; pointwise [stateV, gainV, overV]; rfl

theorem low_read (c : Dev nD) :
    upto line (fun b => m (c, b)) 306 (no_index (Proc.devRef .tc main_v289)) =
      fun x : S16x1x4x128x256.Idx => (stateAt (argA m c) (0 + x 0) (x 2) (x 3) (x 4) : EReal) := by
  refine funext fun (x : S16x1x4x128x256.Idx) => ?_
  unfold line
  after_reads_simp
  concat_tiles i h
  case piece0 =>
    have hs := state0_stack m c
    unfold line at hs
    change (StableHlo.unary main_v92 main_v257 _ _ _).result _ (Proc.devRef .tc main_v257) i = _
    after_reads_simp [hs]
    rw [h, ← show i 2 = x 2 from Fin.ext h2, ← show i 3 = x 3 from Fin.ext h3, ← show i 4 = x 4 from Fin.ext h4, eq_ix5 i]
    pointwise [stateV]
  case piece1 =>
    have hs := state1_stack m c
    unfold line at hs
    change (StableHlo.unary main_v101 main_v258 _ _ _).result _ (Proc.devRef .tc main_v258) i = _
    after_reads_simp [hs]
    rw [h, ← show i 2 = x 2 from Fin.ext h2, ← show i 3 = x 3 from Fin.ext h3, ← show i 4 = x 4 from Fin.ext h4, eq_ix5 i]
    pointwise [stateV]
  case piece2 =>
    have hs := state2_stack m c
    unfold line at hs
    change (StableHlo.unary main_v106 main_v259 _ _ _).result _ (Proc.devRef .tc main_v259) i = _
    after_reads_simp [hs]
    rw [h, ← show i 2 = x 2 from Fin.ext h2, ← show i 3 = x 3 from Fin.ext h3, ← show i 4 = x 4 from Fin.ext h4, eq_ix5 i]
    pointwise [stateV]
  case piece3 =>
    have hs := state3_stack m c
    unfold line at hs
    change (StableHlo.unary main_v111 main_v260 _ _ _).result _ (Proc.devRef .tc main_v260) i = _
    after_reads_simp [hs]
    rw [h, ← show i 2 = x 2 from Fin.ext h2, ← show i 3 = x 3 from Fin.ext h3, ← show i 4 = x 4 from Fin.ext h4, eq_ix5 i]
    pointwise [stateV]
  case piece4 =>
    have hs := state4_stack m c
    unfold line at hs
    change (StableHlo.unary main_v116 main_v261 _ _ _).result _ (Proc.devRef .tc main_v261) i = _
    after_reads_simp [hs]
    rw [h, ← show i 2 = x 2 from Fin.ext h2, ← show i 3 = x 3 from Fin.ext h3, ← show i 4 = x 4 from Fin.ext h4, eq_ix5 i]
    pointwise [stateV]
  case piece5 =>
    have hs := state5_stack m c
    unfold line at hs
    change (StableHlo.unary main_v121 main_v262 _ _ _).result _ (Proc.devRef .tc main_v262) i = _
    after_reads_simp [hs]
    rw [h, ← show i 2 = x 2 from Fin.ext h2, ← show i 3 = x 3 from Fin.ext h3, ← show i 4 = x 4 from Fin.ext h4, eq_ix5 i]
    pointwise [stateV]
  case piece6 =>
    have hs := state6_stack m c
    unfold line at hs
    change (StableHlo.unary main_v126 main_v263 _ _ _).result _ (Proc.devRef .tc main_v263) i = _
    after_reads_simp [hs]
    rw [h, ← show i 2 = x 2 from Fin.ext h2, ← show i 3 = x 3 from Fin.ext h3, ← show i 4 = x 4 from Fin.ext h4, eq_ix5 i]
    pointwise [stateV]
  case piece7 =>
    have hs := state7_stack m c
    unfold line at hs
    change (StableHlo.unary main_v131 main_v264 _ _ _).result _ (Proc.devRef .tc main_v264) i = _
    after_reads_simp [hs]
    rw [h, ← show i 2 = x 2 from Fin.ext h2, ← show i 3 = x 3 from Fin.ext h3, ← show i 4 = x 4 from Fin.ext h4, eq_ix5 i]
    pointwise [stateV]
  case piece8 =>
    have hs := state8_stack m c
    unfold line at hs
    change (StableHlo.unary main_v136 main_v265 _ _ _).result _ (Proc.devRef .tc main_v265) i = _
    after_reads_simp [hs]
    rw [h, ← show i 2 = x 2 from Fin.ext h2, ← show i 3 = x 3 from Fin.ext h3, ← show i 4 = x 4 from Fin.ext h4, eq_ix5 i]
    pointwise [stateV]
  case piece9 =>
    have hs := state9_stack m c
    unfold line at hs
    change (StableHlo.unary main_v141 main_v266 _ _ _).result _ (Proc.devRef .tc main_v266) i = _
    after_reads_simp [hs]
    rw [h, ← show i 2 = x 2 from Fin.ext h2, ← show i 3 = x 3 from Fin.ext h3, ← show i 4 = x 4 from Fin.ext h4, eq_ix5 i]
    pointwise [stateV]
  case piece10 =>
    have hs := state10_stack m c
    unfold line at hs
    change (StableHlo.unary main_v146 main_v267 _ _ _).result _ (Proc.devRef .tc main_v267) i = _
    after_reads_simp [hs]
    rw [h, ← show i 2 = x 2 from Fin.ext h2, ← show i 3 = x 3 from Fin.ext h3, ← show i 4 = x 4 from Fin.ext h4, eq_ix5 i]
    pointwise [stateV]
  case piece11 =>
    have hs := state11_stack m c
    unfold line at hs
    change (StableHlo.unary main_v151 main_v268 _ _ _).result _ (Proc.devRef .tc main_v268) i = _
    after_reads_simp [hs]
    rw [h, ← show i 2 = x 2 from Fin.ext h2, ← show i 3 = x 3 from Fin.ext h3, ← show i 4 = x 4 from Fin.ext h4, eq_ix5 i]
    pointwise [stateV]
  case piece12 =>
    have hs := state12_stack m c
    unfold line at hs
    change (StableHlo.unary main_v156 main_v269 _ _ _).result _ (Proc.devRef .tc main_v269) i = _
    after_reads_simp [hs]
    rw [h, ← show i 2 = x 2 from Fin.ext h2, ← show i 3 = x 3 from Fin.ext h3, ← show i 4 = x 4 from Fin.ext h4, eq_ix5 i]
    pointwise [stateV]
  case piece13 =>
    have hs := state13_stack m c
    unfold line at hs
    change (StableHlo.unary main_v161 main_v270 _ _ _).result _ (Proc.devRef .tc main_v270) i = _
    after_reads_simp [hs]
    rw [h, ← show i 2 = x 2 from Fin.ext h2, ← show i 3 = x 3 from Fin.ext h3, ← show i 4 = x 4 from Fin.ext h4, eq_ix5 i]
    pointwise [stateV]
  case piece14 =>
    have hs := state14_stack m c
    unfold line at hs
    change (StableHlo.unary main_v166 main_v271 _ _ _).result _ (Proc.devRef .tc main_v271) i = _
    after_reads_simp [hs]
    rw [h, ← show i 2 = x 2 from Fin.ext h2, ← show i 3 = x 3 from Fin.ext h3, ← show i 4 = x 4 from Fin.ext h4, eq_ix5 i]
    pointwise [stateV]
  case piece15 =>
    have hs := state15_stack m c
    unfold line at hs
    change (StableHlo.unary main_v171 main_v272 _ _ _).result _ (Proc.devRef .tc main_v272) i = _
    after_reads_simp [hs]
    rw [h, ← show i 2 = x 2 from Fin.ext h2, ← show i 3 = x 3 from Fin.ext h3, ← show i 4 = x 4 from Fin.ext h4, eq_ix5 i]
    pointwise [stateV]

theorem high_read (c : Dev nD) :
    upto line (fun b => m (c, b)) 306 (no_index (Proc.devRef .tc main_v290)) =
      fun x : S16x1x4x128x256.Idx => (stateAt (argA m c) (16 + x 0) (x 2) (x 3) (x 4) : EReal) := by
  refine funext fun (x : S16x1x4x128x256.Idx) => ?_
  unfold line
  after_reads_simp
  concat_tiles i h
  case piece0 =>
    have hs := state16_stack m c
    unfold line at hs
    change (StableHlo.unary main_v176 main_v273 _ _ _).result _ (Proc.devRef .tc main_v273) i = _
    after_reads_simp [hs]
    rw [h, ← show i 2 = x 2 from Fin.ext h2, ← show i 3 = x 3 from Fin.ext h3, ← show i 4 = x 4 from Fin.ext h4, eq_ix5 i]
    pointwise [stateV]
  case piece1 =>
    have hs := state17_stack m c
    unfold line at hs
    change (StableHlo.unary main_v181 main_v274 _ _ _).result _ (Proc.devRef .tc main_v274) i = _
    after_reads_simp [hs]
    rw [h, ← show i 2 = x 2 from Fin.ext h2, ← show i 3 = x 3 from Fin.ext h3, ← show i 4 = x 4 from Fin.ext h4, eq_ix5 i]
    pointwise [stateV]
  case piece2 =>
    have hs := state18_stack m c
    unfold line at hs
    change (StableHlo.unary main_v186 main_v275 _ _ _).result _ (Proc.devRef .tc main_v275) i = _
    after_reads_simp [hs]
    rw [h, ← show i 2 = x 2 from Fin.ext h2, ← show i 3 = x 3 from Fin.ext h3, ← show i 4 = x 4 from Fin.ext h4, eq_ix5 i]
    pointwise [stateV]
  case piece3 =>
    have hs := state19_stack m c
    unfold line at hs
    change (StableHlo.unary main_v191 main_v276 _ _ _).result _ (Proc.devRef .tc main_v276) i = _
    after_reads_simp [hs]
    rw [h, ← show i 2 = x 2 from Fin.ext h2, ← show i 3 = x 3 from Fin.ext h3, ← show i 4 = x 4 from Fin.ext h4, eq_ix5 i]
    pointwise [stateV]
  case piece4 =>
    have hs := state20_stack m c
    unfold line at hs
    change (StableHlo.unary main_v196 main_v277 _ _ _).result _ (Proc.devRef .tc main_v277) i = _
    after_reads_simp [hs]
    rw [h, ← show i 2 = x 2 from Fin.ext h2, ← show i 3 = x 3 from Fin.ext h3, ← show i 4 = x 4 from Fin.ext h4, eq_ix5 i]
    pointwise [stateV]
  case piece5 =>
    have hs := state21_stack m c
    unfold line at hs
    change (StableHlo.unary main_v201 main_v278 _ _ _).result _ (Proc.devRef .tc main_v278) i = _
    after_reads_simp [hs]
    rw [h, ← show i 2 = x 2 from Fin.ext h2, ← show i 3 = x 3 from Fin.ext h3, ← show i 4 = x 4 from Fin.ext h4, eq_ix5 i]
    pointwise [stateV]
  case piece6 =>
    have hs := state22_stack m c
    unfold line at hs
    change (StableHlo.unary main_v206 main_v279 _ _ _).result _ (Proc.devRef .tc main_v279) i = _
    after_reads_simp [hs]
    rw [h, ← show i 2 = x 2 from Fin.ext h2, ← show i 3 = x 3 from Fin.ext h3, ← show i 4 = x 4 from Fin.ext h4, eq_ix5 i]
    pointwise [stateV]
  case piece7 =>
    have hs := state23_stack m c
    unfold line at hs
    change (StableHlo.unary main_v211 main_v280 _ _ _).result _ (Proc.devRef .tc main_v280) i = _
    after_reads_simp [hs]
    rw [h, ← show i 2 = x 2 from Fin.ext h2, ← show i 3 = x 3 from Fin.ext h3, ← show i 4 = x 4 from Fin.ext h4, eq_ix5 i]
    pointwise [stateV]
  case piece8 =>
    have hs := state24_stack m c
    unfold line at hs
    change (StableHlo.unary main_v216 main_v281 _ _ _).result _ (Proc.devRef .tc main_v281) i = _
    after_reads_simp [hs]
    rw [h, ← show i 2 = x 2 from Fin.ext h2, ← show i 3 = x 3 from Fin.ext h3, ← show i 4 = x 4 from Fin.ext h4, eq_ix5 i]
    pointwise [stateV]
  case piece9 =>
    have hs := state25_stack m c
    unfold line at hs
    change (StableHlo.unary main_v221 main_v282 _ _ _).result _ (Proc.devRef .tc main_v282) i = _
    after_reads_simp [hs]
    rw [h, ← show i 2 = x 2 from Fin.ext h2, ← show i 3 = x 3 from Fin.ext h3, ← show i 4 = x 4 from Fin.ext h4, eq_ix5 i]
    pointwise [stateV]
  case piece10 =>
    have hs := state26_stack m c
    unfold line at hs
    change (StableHlo.unary main_v226 main_v283 _ _ _).result _ (Proc.devRef .tc main_v283) i = _
    after_reads_simp [hs]
    rw [h, ← show i 2 = x 2 from Fin.ext h2, ← show i 3 = x 3 from Fin.ext h3, ← show i 4 = x 4 from Fin.ext h4, eq_ix5 i]
    pointwise [stateV]
  case piece11 =>
    have hs := state27_stack m c
    unfold line at hs
    change (StableHlo.unary main_v231 main_v284 _ _ _).result _ (Proc.devRef .tc main_v284) i = _
    after_reads_simp [hs]
    rw [h, ← show i 2 = x 2 from Fin.ext h2, ← show i 3 = x 3 from Fin.ext h3, ← show i 4 = x 4 from Fin.ext h4, eq_ix5 i]
    pointwise [stateV]
  case piece12 =>
    have hs := state28_stack m c
    unfold line at hs
    change (StableHlo.unary main_v236 main_v285 _ _ _).result _ (Proc.devRef .tc main_v285) i = _
    after_reads_simp [hs]
    rw [h, ← show i 2 = x 2 from Fin.ext h2, ← show i 3 = x 3 from Fin.ext h3, ← show i 4 = x 4 from Fin.ext h4, eq_ix5 i]
    pointwise [stateV]
  case piece13 =>
    have hs := state29_stack m c
    unfold line at hs
    change (StableHlo.unary main_v241 main_v286 _ _ _).result _ (Proc.devRef .tc main_v286) i = _
    after_reads_simp [hs]
    rw [h, ← show i 2 = x 2 from Fin.ext h2, ← show i 3 = x 3 from Fin.ext h3, ← show i 4 = x 4 from Fin.ext h4, eq_ix5 i]
    pointwise [stateV]
  case piece14 =>
    have hs := state30_stack m c
    unfold line at hs
    change (StableHlo.unary main_v246 main_v287 _ _ _).result _ (Proc.devRef .tc main_v287) i = _
    after_reads_simp [hs]
    rw [h, ← show i 2 = x 2 from Fin.ext h2, ← show i 3 = x 3 from Fin.ext h3, ← show i 4 = x 4 from Fin.ext h4, eq_ix5 i]
    pointwise [stateV]
  case piece15 =>
    have hs := state31_stack m c
    unfold line at hs
    change (StableHlo.unary main_v251 main_v288 _ _ _).result _ (Proc.devRef .tc main_v288) i = _
    after_reads_simp [hs]
    rw [h, ← show i 2 = x 2 from Fin.ext h2, ← show i 3 = x 3 from Fin.ext h3, ← show i 4 = x 4 from Fin.ext h4, eq_ix5 i]
    pointwise [stateV]

end Cert.Retention

end
-- ==== Proof.Blocks.lean ====
/-
  The blocks of a grid point are those of the heads of its chunk.
-/
module

public import proofs.«01_k».proof.Proof.Point
public import proofs.«01_k».proof.Proof.Entry

@[expose] public section

set_option maxRecDepth 16384

noncomputable section

namespace Cert.Retention

open Idealize.ShloMosaic Idealize.ShloMosaic.TcCoe Idealize.SL.Sem
open Cert.KernelIdeal Cert.KernelIdeal.Gen
open Idealize.ShloMosaic.StableHlo (upto)

variable (m : (ℓ : Loc nD τ sig) → Buf (Elt Ideal) ℓ)

theorem join_halves (A : FVec Ideal S4096x5760 .bf16) (a b : FVec Ideal S16x1x4x128x256 .f32)
    (ha : a = fun x : S16x1x4x128x256.Idx => (stateAt A (0 + x 0) (x 2) (x 3) (x 4) : EReal))
    (hb : b = fun x : S16x1x4x128x256.Idx => (stateAt A (16 + x 0) (x 2) (x 3) (x 4) : EReal)) :
    concatenate S32x1x4x128x256 0 [⟨S16x1x4x128x256, a⟩, ⟨S16x1x4x128x256, b⟩]
        concatenates_S16x1x4x128x256_S16x1x4x128x256_S32x1x4x128x256_d0 =
      fun x : S32x1x4x128x256.Idx => (stateAt A (x 0) (x 2) (x 3) (x 4) : EReal) := by
  funext x
  rw [eq_ix5 x, show x 1 = (0 : Fin 1) from Subsingleton.elim (α := Fin 1) _ _]
  subst ha hb
  pointwise
  by_cases hn : (x 0 : ℕ) < 16
  · simp only [hn, ↓reduceIte, ↓reduceDIte, Nat.zero_add]
  · simp only [hn, ↓reduceIte, ↓reduceDIte, Nat.add_sub_cancel' (Nat.le_of_not_lt hn)]

theorem all_read (c : Dev nD) :
    upto line (fun b => m (c, b)) 307 (no_index (Proc.devRef .tc main_v291)) =
      fun x : S32x1x4x128x256.Idx => (stateAt (argA m c) (x 0) (x 2) (x 3) (x 4) : EReal) := by
  have h0 := low_read m c
  have h1 := high_read m c
  unfold line at h0 h1 ⊢
  after_reads_simp
  exact join_halves (argA m c) _ _ h0 h1

theorem V_states (c : Dev nD) (h : Fin 4) (n : Fin 32) (d : Fin 128) (e : Fin 256) :
    (V m c main_v294 : FVec Ideal S4x32x128x256 .f32) (ix4 h n d e) = (stateAt (argA m c) n h d e : EReal) := by
  have h0 := all_read m c
  unfold V
  unfold line at h0
  after_reads_simp
  clean_types
  pointwise
  rw [dif_neg (Nat.not_lt_zero _), h0]
  pointwise

/-- A grid point's chunk: the grid runs the sequence backwards. -/
def back32 (t : Fin cfg0.N) : Fin 32 := ⟨31 - t.val, by omega⟩

/-- The blocks that the windows take at a grid point. -/
theorem idx : ∀ t : Fin cfg0.N,
    win0_0.index t = ![31 - t.val, 0] ∧ win0_1.index t = ![31 - t.val, 1] ∧ win0_2.index t = ![31 - t.val, 1] ∧
      win0_3.index t = ![31 - t.val, 2] ∧ win0_4.index t = ![31 - t.val, 0] ∧ win0_5.index t = ![31 - t.val, 0] ∧
      win0_6.index t = ![0, 0, 0] ∧ win0_7.index t = ![0, 0, 0] ∧ win0_8.index t = ![0, 0, 0] ∧
      win0_9.index t = ![0, 31 - t.val, 0, 0] ∧ win0_10.index t = ![31 - t.val, 0] ∧ win0_11.index t = ![31 - t.val, 0] ∧
      win0_12.index t = ![31 - t.val, 0] ∧ win0_13.index t = ![31 - t.val, 0] ∧ win0_14.index t = ![31 - t.val, 0] :=
  (by decide +kernel : ∀ t : Fin grid0.N, _)

theorem blk_q (c : Dev nD) (t : Fin cfg0.N) (i : Fin 128) (x : Fin 512) :
    (X0_0 m c t : FVec Ideal S128x512 .bf16) (ix2 i x) = argA m c (ix2 (row (back32 t) i) ⟨0 + x, by omega⟩) := by
  unfold X0_0 Pipeline.Window.fill
  rw [dif_pos (moved0_0 t _)]
  blk_simp [iblk, V_main_arg0]
  blk_ext [idx t]
  all_goals rfl

theorem blk_k (c : Dev nD) (t : Fin cfg0.N) (i : Fin 128) (x : Fin 512) :
    (X0_1 m c t : FVec Ideal S128x512 .bf16) (ix2 i x) = argA m c (ix2 (row (back32 t) i) ⟨512 + x, by omega⟩) := by
  unfold X0_1 Pipeline.Window.fill
  rw [dif_pos (moved0_1 t _)]
  blk_simp [iblk, V_main_arg0]
  blk_ext [idx t]
  all_goals rfl

theorem blk_v (c : Dev nD) (t : Fin cfg0.N) (i : Fin 128) (x : Fin 1024) :
    (X0_2 m c t : FVec Ideal S128x1024 .bf16) (ix2 i x) = argA m c (ix2 (row (back32 t) i) ⟨1024 + x, by omega⟩) := by
  unfold X0_2 Pipeline.Window.fill
  rw [dif_pos (moved0_2 t _)]
  blk_simp [iblk, V_main_arg0]
  blk_ext [idx t]
  all_goals rfl

theorem blk_g (c : Dev nD) (t : Fin cfg0.N) (i : Fin 128) (x : Fin 1024) :
    (X0_3 m c t : FVec Ideal S128x1024 .bf16) (ix2 i x) = argA m c (ix2 (row (back32 t) i) ⟨2048 + x, by omega⟩) := by
  unfold X0_3 Pipeline.Window.fill
  rw [dif_pos (moved0_3 t _)]
  blk_simp [iblk, V_main_arg0]
  blk_ext [idx t]
  all_goals rfl

theorem blk_cos (c : Dev nD) (t : Fin cfg0.N) (i d : Fin 128) :
    (iblk m c 4 t : FVec Ideal S128x128 .f32) (ix2 i d) = (cosT (row (back32 t) i) d : EReal) := by
  refine Eq.trans ?_ (V_cos m c (row (back32 t) i) d)
  blk_ext [iblk, idx t]
  all_goals rfl

theorem blk_sin (c : Dev nD) (t : Fin cfg0.N) (i d : Fin 128) :
    (iblk m c 5 t : FVec Ideal S128x128 .f32) (ix2 i d) = (sinT (row (back32 t) i) d : EReal) := by
  refine Eq.trans ?_ (V_sin m c (row (back32 t) i) d)
  blk_ext [iblk, idx t]
  all_goals rfl

theorem blk_between (c : Dev nD) (t : Fin cfg0.N) (h : Fin 4) (i j : Fin 128) :
    (iblk m c 6 t : FVec Ideal S4x128x128 .f32) (ix3 h i j) = (decayBetween h i j : EReal) := by
  refine Eq.trans ?_ (V_between m c h i j)
  blk_ext [iblk, idx t]
  all_goals rfl

theorem blk_toEnd (c : Dev nD) (t : Fin cfg0.N) (h : Fin 4) (i j : Fin 128) :
    (iblk m c 7 t : FVec Ideal S4x128x128 .f32) (ix3 h i j) = (decayToEnd h i : EReal) := by
  refine Eq.trans ?_ (V_toEnd m c h i j)
  blk_ext [iblk, idx t]
  all_goals rfl

theorem blk_fromStart (c : Dev nD) (t : Fin cfg0.N) (h : Fin 4) (i : Fin 128) (e : Fin 256) :
    (iblk m c 8 t : FVec Ideal S4x128x256 .f32) (ix3 h i e) = (decayFromStart h i : EReal) := by
  refine Eq.trans ?_ (V_fromStart m c h i e)
  blk_ext [iblk, idx t]
  all_goals rfl

theorem blk_states (c : Dev nD) (t : Fin cfg0.N) (h : Fin 4) (d : Fin 128) (e : Fin 256) :
    (iblk m c 9 t : FVec Ideal S4x1x128x256 .f32) (ix4 h 0 d e) = (stateAt (argA m c) (back32 t) h d e : EReal) := by
  refine Eq.trans ?_ (V_states m c h (back32 t) d e)
  blk_ext [iblk, idx t]
  all_goals rfl

theorem blk_y (c : Dev nD) (t : Fin cfg0.N) (i : Fin 128) (x : Fin 1024) :
    (iblk m c 10 t : FVec Ideal S128x1024 .bf16) (ix2 i x) = argY m c (ix2 (row (back32 t) i) ⟨0 + x, by omega⟩) := by
  blk_simp [iblk, V_main_arg1]
  blk_ext [idx t]
  all_goals rfl

theorem col_elt {n k : ℕ} (o w : ℕ) (h1 : w * 4 ≤ n) (h2 : o + w * 4 ≤ k) (h : Fin 4) (d : Fin w)
    (h3 : o + (col w h1 h d).val < k) : (⟨o + (col w h1 h d).val, h3⟩ : Fin k) = elt o w h2 h d :=
  Fin.ext (by show o + (w * h + d) = o + (h * w + d); rw [Nat.mul_comm])

/-- Blocks that hold a chunk's rows give each head what the sequence gives it. -/
theorem chunkAt_eq (A : FVec Ideal S4096x5760 .bf16) (Y : FVec Ideal S4096x2048 .bf16) (n : Fin 32)
    (x0 x1 : FVec Ideal S128x512 .bf16) (x2 x3 : FVec Ideal S128x1024 .bf16) (x4 x5 : FVec Ideal S128x128 .f32)
    (x6 x7 : FVec Ideal S4x128x128 .f32) (x8 : FVec Ideal S4x128x256 .f32) (x9 : FVec Ideal S4x1x128x256 .f32)
    (x10 : FVec Ideal S128x1024 .bf16) (D : FVec Ideal S4x128x256 .f32) (h : Fin 4)
    (hq : ∀ i x, x0 (ix2 i x) = A (ix2 (row n i) ⟨0 + x.val, by omega⟩))
    (hk : ∀ i x, x1 (ix2 i x) = A (ix2 (row n i) ⟨512 + x.val, by omega⟩))
    (hv : ∀ i x, x2 (ix2 i x) = A (ix2 (row n i) ⟨1024 + x.val, by omega⟩))
    (hg : ∀ i x, x3 (ix2 i x) = A (ix2 (row n i) ⟨2048 + x.val, by omega⟩))
    (hc : ∀ i d, x4 (ix2 i d) = cosT (row n i) d) (hs : ∀ i d, x5 (ix2 i d) = sinT (row n i) d)
    (ha : ∀ h i j, x6 (ix3 h i j) = decayBetween h.val i j) (hz : ∀ h i j, x7 (ix3 h i j) = decayToEnd h.val i)
    (hx : ∀ h i e, x8 (ix3 h i e) = decayFromStart h.val i) (hS : ∀ h d e, x9 (ix4 h 0 d e) = stateAt A n h d e)
    (hy : ∀ i x, x10 (ix2 i x) = Y (ix2 (row n i) ⟨0 + x.val, by omega⟩)) :
    chunkAt x0 x1 x2 x3 x4 x5 x6 x7 x8 x9 x10 D h = headAt A Y n h (stateAt A n h) (fun d e => D (ix3 h d e)) := by
  unfold chunkAt headAt
  simp only [hq, hk, hv, hg, hc, hs, ha, hz, hx, hS, hy, Chunk.mk.injEq]
  refine ⟨trivial, trivial, ?_, ?_, ?_, ?_, ?_, trivial, trivial, trivial, trivial, trivial⟩ <;> funext i d <;>
    rw [col_elt]

end Cert.Retention

end
-- ==== Proof.Decay.lean ====
/-
  The decay of each head over a chunk: the rational number that the kernel is given is the exponential that the
  retention takes.
-/
module

public import proofs.«01_k».proof.Proof.Signal

@[expose] public section

set_option maxRecDepth 16384
set_option exponentiation.threshold 4096

noncomputable section

namespace Cert.Retention

open Idealize.ShloMosaic

theorem bits_two : Ideal.ofBits .f32 1073741824#32 = ((2 : ℝ) : EReal) := by
  simp [Ideal.ofBits, Ideal.ieee, -EReal.coe_mul]; norm_num

theorem bits_five : Ideal.ofBits .f32 3231711232#32 = ((-5 : ℝ) : EReal) := by
  simp [Ideal.ofBits, Ideal.ieee, -EReal.coe_mul]; norm_num

theorem bits_chunk : Ideal.ofBits .f32 1124073472#32 = ((128 : ℝ) : EReal) := by
  simp [Ideal.ofBits, Ideal.ieee, -EReal.coe_mul]; norm_num

theorem num_eq (n : ℕ) (hn : n < 4) : num n = ((n : ℝ) : EReal) := by
  unfold num
  show (((BitVec.ofNat 32 n).toInt : ℝ) : EReal) = _
  have e : (BitVec.ofNat 32 n).toInt = (n : ℤ) := by interval_cases n <;> decide
  rw [e]; push_cast; rfl

/-- The decay over a chunk of a head that loses `2 ^ -n` of its state at each position. -/
theorem decayOver_eq (h : ℕ) (hh : h < 4) (q : ℝ) (hq : q = 1 - (2 : ℝ)⁻¹ ^ (5 + h)) : decayOver h = ((q ^ 128 : ℝ) : EReal) := by
  have hp : (2 : ℝ).rpow (-5 - (h : ℝ)) = (2 : ℝ)⁻¹ ^ (5 + h) := by
    show (2 : ℝ) ^ (-5 - (h : ℝ)) = _
    rw [show (-5 - (h : ℝ)) = -((5 + h : ℕ) : ℝ) by push_cast; ring, Real.rpow_neg (by norm_num), Real.rpow_natCast, inv_pow]
  have hlt : (2 : ℝ)⁻¹ ^ (5 + h) < 1 := pow_lt_one₀ (by norm_num) (by norm_num) (by omega)
  have hq0 : 0 < q := by rw [hq]; linarith
  have hsub : ((-5 : ℝ) : EReal) - ((h : ℝ) : EReal) = ((-5 - (h : ℝ) : ℝ) : EReal) := (EReal.coe_sub _ _).symm
  have hone : (1 : EReal) + -(((2 : ℝ)⁻¹ ^ (5 + h) : ℝ) : EReal) = ((q : ℝ) : EReal) := by
    rw [hq, ← EReal.coe_neg, ← EReal.coe_one, ← EReal.coe_add, sub_eq_add_neg]
  unfold decayOver logDecay
  rw [bits_two, bits_five, bits_chunk, num_eq h hh, hsub, Ideal.pow_coe_coe, hp]
  unfold Ideal.log1p
  rw [hone]
  show Ideal.exp (((128 : ℝ) : EReal) * (if q ≤ 0 then ⊥ else ((Real.log q : ℝ) : EReal))) = _
  rw [if_neg (not_le.mpr hq0), ← EReal.coe_mul, Ideal.exp_coe]
  congr 1
  rw [show (128 : ℝ) * Real.log q = Real.log (q ^ 128) by rw [Real.log_pow]; norm_num, Real.exp_log (pow_pos hq0 128)]

end Cert.Retention

end
-- ==== Proof.Carry.lean ====
/-
  The states' cotangent that each grid point finds is the one the sequence has there.
-/
module

public import proofs.«01_k».proof.Proof.Blocks
public import proofs.«01_k».proof.Proof.Decay

@[expose] public section

set_option maxRecDepth 16384
set_option exponentiation.threshold 4096

noncomputable section

namespace Cert.Retention

open Idealize.ShloMosaic Idealize.ShloMosaic.TcCoe Idealize.SL.Sem
open Cert.KernelIdeal Cert.KernelIdeal.Gen

variable (m : (ℓ : Loc nD τ sig) → Buf (Elt Ideal) ℓ)

/-- The blocks of a grid point give each head what the sequence gives it. -/
theorem chunkPt_eq (c : Dev nD) (t : Fin cfg0.N) (D : FVec Ideal S4x128x256 .f32) (h : Fin 4) :
    chunkPt m c t D h =
      headAt (argA m c) (argY m c) (back32 t) h (stateAt (argA m c) (back32 t) h) (fun d e => D (ix3 h d e)) := by
  unfold chunkPt
  exact chunkAt_eq (argA m c) (argY m c) (back32 t) (X0_0 m c t) (X0_1 m c t) (X0_2 m c t) (X0_3 m c t) (iblk m c 4 t)
    (iblk m c 5 t) (iblk m c 6 t) (iblk m c 7 t) (iblk m c 8 t) (iblk m c 9 t) (iblk m c 10 t) D h
    (blk_q m c t) (blk_k m c t) (blk_v m c t) (blk_g m c t) (blk_cos m c t)
    (blk_sin m c t) (blk_between m c t) (blk_toEnd m c t) (blk_fromStart m c t) (blk_states m c t) (blk_y m c t)

/-- The number the kernel is given for a head is its decay over a chunk. -/
theorem decayOf_eq (h : Fin 4) : decayOf h = decayOver h := by
  match h with
  | ⟨0, _⟩ =>
    refine (IdealRules.named_const.ideal_named_scalar _ "decay0" (φ := .f32) _ _ rfl).trans ?_
    refine Eq.trans ?_ (decayOver_eq 0 (by decide) (31 / 32) (by norm_num)).symm
    exact congrArg Real.toEReal (by norm_num)
  | ⟨1, _⟩ =>
    refine (IdealRules.named_const.ideal_named_scalar _ "decay1" (φ := .f32) _ _ rfl).trans ?_
    refine Eq.trans ?_ (decayOver_eq 1 (by decide) (63 / 64) (by norm_num)).symm
    exact congrArg Real.toEReal (by norm_num)
  | ⟨2, _⟩ =>
    refine (IdealRules.named_const.ideal_named_scalar _ "decay2" (φ := .f32) _ _ rfl).trans ?_
    refine Eq.trans ?_ (decayOver_eq 2 (by decide) (127 / 128) (by norm_num)).symm
    exact congrArg Real.toEReal (by norm_num)
  | ⟨3, _⟩ =>
    refine (IdealRules.named_const.ideal_named_scalar _ "decay3" (φ := .f32) _ _ rfl).trans ?_
    refine Eq.trans ?_ (decayOver_eq 3 (by decide) (255 / 256) (by norm_num)).symm
    exact congrArg Real.toEReal (by norm_num)

theorem points : cfg0.N = 32 := by decide

theorem back32_eq (n : ℕ) (hn : n < cfg0.N) : back32 ⟨n, hn⟩ = chunkNo (31 - n) := by
  have hN := points
  apply Fin.ext
  show 31 - n = (31 - n) % 32
  omega

/-- Grid point `n` finds the cotangent of the state after chunk `31 - n`. -/
theorem found_eq (c : Dev nD) : ∀ (n : ℕ) (hn : n < cfg0.N) (h : Fin 4) (d : Fin 128) (e : Fin 256),
    found m c ⟨n, hn⟩ (ix3 h d e) = costateAt (argA m c) (argY m c) n h d e
  | 0, hn, h, d, e => by
    unfold found
    rw [if_pos (show (0 : ℕ) % 32 = 0 from rfl)]
    pointwise [k0_pay2]
    try rfl
  | n + 1, hn, h, d, e => by
    have hN := points
    have hn' : n < cfg0.N := Nat.lt_of_succ_lt hn
    have ih := found_eq c n hn'
    unfold found
    rw [if_neg (show ¬(n + 1) % 32 = 0 by omega)]
    refine (ds_pt m c ⟨n, hn'⟩ (ix3 h d e)).trans ?_
    show (chunkPt m c ⟨n, hn'⟩ (found m c ⟨n, hn'⟩) h).ds (decayOf h) d e = _
    rw [chunkPt_eq, decayOf_eq, back32_eq]
    have e1 : (fun (d : Fin 128) (e : Fin 256) => found m c ⟨n, hn'⟩ (ix3 h d e)) = costateAt (argA m c) (argY m c) n h :=
      funext fun d => funext fun e => ih h d e
    rw [e1]
    have e2 : ((chunkNo (31 - n) : Fin 32) : ℕ) = 31 - n := by show (31 - n) % 32 = 31 - n; omega
    rw [e2]
    rfl

/-- What each grid point sees of a head is the head's chunk of the sequence. -/
theorem chunkPt_chunk (c : Dev nD) (t : Fin cfg0.N) (h : Fin 4) :
    chunkPt m c t (found m c t) h = chunk (argA m c) (argY m c) (back32 t) h := by
  have hN := points
  have ht := t.isLt
  rw [chunkPt_eq]
  have e1 : (fun (d : Fin 128) (e : Fin 256) => found m c t (ix3 h d e)) = costateAt (argA m c) (argY m c) t.val h :=
    funext fun d => funext fun e => found_eq m c t.val t.isLt h d e
  rw [e1]
  unfold chunk
  have e2 : 31 - (back32 t : ℕ) = t.val := by show 31 - (31 - t.val) = t.val; omega
  rw [e2]

end Cert.Retention

end
-- ==== Proof.Results.lean ====
/-
  The four results of the retention's backward pass, as arrays over the projections and the cotangent.
-/
module

public import proofs.«01_k».proof.Proof.Signal

@[expose] public section

noncomputable section

namespace Cert.Retention

open Idealize.ShloMosaic

variable (A : FVec Ideal Cert.KernelIdeal.S4096x5760 .bf16) (Y : FVec Ideal Cert.KernelIdeal.S4096x2048 .bf16)

/-- The chunk of a position. -/
def chunkIx (r : Fin 4096) : Fin 32 := ⟨r / 128, by have := r.isLt; omega⟩

/-- The place of a position in its chunk. -/
def posIx (r : Fin 4096) : Fin 128 := ⟨r % 128, Nat.mod_lt _ (by decide)⟩

theorem row_eq (r : Fin 4096) : row (chunkIx r) (posIx r) = r := by
  apply Fin.ext; show (r : ℕ) / 128 * 128 + r % 128 = r; omega

/-- The cotangent of the queries. -/
def dqAll : FVec Ideal Cert.KernelIdeal.S4096x512 .bf16 := fun x =>
  (chunk A Y (chunkIx (x 0)) ⟨(x 1 : ℕ) / 128, by have := (x 1).isLt; change (x 1 : ℕ) < 512 at this; omega⟩).dq (posIx (x 0))
    ⟨(x 1 : ℕ) % 128, Nat.mod_lt _ (by decide)⟩

/-- The cotangent of the keys. -/
def dkAll : FVec Ideal Cert.KernelIdeal.S4096x512 .bf16 := fun x =>
  (chunk A Y (chunkIx (x 0)) ⟨(x 1 : ℕ) / 128, by have := (x 1).isLt; change (x 1 : ℕ) < 512 at this; omega⟩).dk (posIx (x 0))
    ⟨(x 1 : ℕ) % 128, Nat.mod_lt _ (by decide)⟩

/-- The cotangent of the values. -/
def dvAll : FVec Ideal Cert.KernelIdeal.S4096x1024 .bf16 := fun x =>
  (chunk A Y (chunkIx (x 0)) ⟨(x 1 : ℕ) / 256, by have := (x 1).isLt; change (x 1 : ℕ) < 1024 at this; omega⟩).dv (posIx (x 0))
    ⟨(x 1 : ℕ) % 256, Nat.mod_lt _ (by decide)⟩

/-- The cotangent of the gates. -/
def dgAll : FVec Ideal Cert.KernelIdeal.S4096x1024 .bf16 := fun x =>
  (chunk A Y (chunkIx (x 0)) ⟨(x 1 : ℕ) / 256, by have := (x 1).isLt; change (x 1 : ℕ) < 1024 at this; omega⟩).dg (posIx (x 0))
    ⟨(x 1 : ℕ) % 256, Nat.mod_lt _ (by decide)⟩

end Cert.Retention

end
-- ==== Proof.Values.lean ====
/-
  The four arrays after the run.
-/
module

public import proofs.«01_k».proof.Proof.Carry
public import proofs.«01_k».proof.Proof.Results

@[expose] public section

set_option maxRecDepth 16384

noncomputable section

namespace Cert.Retention

open Idealize.ShloMosaic Idealize.ShloMosaic.TcCoe Idealize.SL.Sem
open Cert.KernelIdeal Cert.KernelIdeal.Gen

section

variable (A : FVec Ideal S4096x5760 .bf16) (Y : FVec Ideal S4096x2048 .bf16)

theorem dqAll_at (n : Fin 32) (i : Fin 128) (y : Fin 512) (x : S4096x512.Idx) (h0 : (x 0 : ℕ) = n * 128 + i) (h1 : (x 1 : ℕ) = y) :
    (chunk A Y n (headOf 128 (by decide) y)).dq i ⟨(y : ℕ) % 128, Nat.mod_lt _ (by decide)⟩ = dqAll A Y x := by
  unfold dqAll
  have e0 : chunkIx (x 0) = n := Fin.ext (by show (x 0 : ℕ) / 128 = n; omega)
  have e1 : posIx (x 0) = i := Fin.ext (by show (x 0 : ℕ) % 128 = i; omega)
  simp only [e0, e1, h1, headOf]

theorem dkAll_at (n : Fin 32) (i : Fin 128) (y : Fin 512) (x : S4096x512.Idx) (h0 : (x 0 : ℕ) = n * 128 + i) (h1 : (x 1 : ℕ) = y) :
    (chunk A Y n (headOf 128 (by decide) y)).dk i ⟨(y : ℕ) % 128, Nat.mod_lt _ (by decide)⟩ = dkAll A Y x := by
  unfold dkAll
  have e0 : chunkIx (x 0) = n := Fin.ext (by show (x 0 : ℕ) / 128 = n; omega)
  have e1 : posIx (x 0) = i := Fin.ext (by show (x 0 : ℕ) % 128 = i; omega)
  simp only [e0, e1, h1, headOf]

theorem dvAll_at (n : Fin 32) (i : Fin 128) (y : Fin 1024) (x : S4096x1024.Idx) (h0 : (x 0 : ℕ) = n * 128 + i) (h1 : (x 1 : ℕ) = y) :
    (chunk A Y n (headOf 256 (by decide) y)).dv i ⟨(y : ℕ) % 256, Nat.mod_lt _ (by decide)⟩ = dvAll A Y x := by
  unfold dvAll
  have e0 : chunkIx (x 0) = n := Fin.ext (by show (x 0 : ℕ) / 128 = n; omega)
  have e1 : posIx (x 0) = i := Fin.ext (by show (x 0 : ℕ) % 128 = i; omega)
  simp only [e0, e1, h1, headOf]

theorem dgAll_at (n : Fin 32) (i : Fin 128) (y : Fin 1024) (x : S4096x1024.Idx) (h0 : (x 0 : ℕ) = n * 128 + i) (h1 : (x 1 : ℕ) = y) :
    (chunk A Y n (headOf 256 (by decide) y)).dg i ⟨(y : ℕ) % 256, Nat.mod_lt _ (by decide)⟩ = dgAll A Y x := by
  unfold dgAll
  have e0 : chunkIx (x 0) = n := Fin.ext (by show (x 0 : ℕ) / 128 = n; omega)
  have e1 : posIx (x 0) = i := Fin.ext (by show (x 0 : ℕ) % 128 = i; omega)
  simp only [e0, e1, h1, headOf]

end

variable (m : (ℓ : Loc nD τ sig) → Buf (Elt Ideal) ℓ)

/-- The cotangent of the queries after the run. -/
theorem dq_arr (c : Dev nD) : (dats m 0 c).arrAt 11 cfg0.N = dqAll (argA m c) (argY m c) := by
  refine (dats m 0 c).arrAt_eq_of_covers 11 (dqAll (argA m c) (argY m c)) (by decide +kernel) fun t hf y => ?_
  blk_simp
  rw [after0_11]
  refine (dq_pt m c t y).trans ?_
  rw [chunkPt_chunk]
  exact dqAll_at (argA m c) (argY m c) (back32 t) _ _ _ (by blk_simp [idx t]; rfl) (by blk_simp [idx t])

/-- The cotangent of the keys after the run. -/
theorem dk_arr (c : Dev nD) : (dats m 0 c).arrAt 12 cfg0.N = dkAll (argA m c) (argY m c) := by
  refine (dats m 0 c).arrAt_eq_of_covers 12 (dkAll (argA m c) (argY m c)) (by decide +kernel) fun t hf y => ?_
  blk_simp
  rw [after0_12]
  refine (dk_pt m c t y).trans ?_
  rw [chunkPt_chunk]
  exact dkAll_at (argA m c) (argY m c) (back32 t) _ _ _ (by blk_simp [idx t]; rfl) (by blk_simp [idx t])

/-- The cotangent of the values after the run. -/
theorem dv_arr (c : Dev nD) : (dats m 0 c).arrAt 13 cfg0.N = dvAll (argA m c) (argY m c) := by
  refine (dats m 0 c).arrAt_eq_of_covers 13 (dvAll (argA m c) (argY m c)) (by decide +kernel) fun t hf y => ?_
  blk_simp
  rw [after0_13]
  refine (dv_pt m c t y).trans ?_
  rw [chunkPt_chunk]
  exact dvAll_at (argA m c) (argY m c) (back32 t) _ _ _ (by blk_simp [idx t]; rfl) (by blk_simp [idx t])

/-- The cotangent of the gates after the run. -/
theorem dg_arr (c : Dev nD) : (dats m 0 c).arrAt 14 cfg0.N = dgAll (argA m c) (argY m c) := by
  refine (dats m 0 c).arrAt_eq_of_covers 14 (dgAll (argA m c) (argY m c)) (by decide +kernel) fun t hf y => ?_
  blk_simp
  rw [after0_14]
  refine (dg_pt m c t y).trans ?_
  rw [chunkPt_chunk]
  exact dgAll_at (argA m c) (argY m c) (back32 t) _ _ _ (by blk_simp [idx t]; rfl) (by blk_simp [idx t])

end Cert.Retention

end
-- ==== Proof.Ref.lean ====
/-
  The reference's arrays, element by element: up to what each chunk adds to the states.
-/
module

public import proofs.«01_k».proof.Proof.Gen.ReferenceIdeal.Run
public import proofs.«01_k».proof.Proof.Results
public import Idealize.ShloMosaic.Lib.Pipeline.ValueKit

@[expose] public section

set_option maxRecDepth 16384

noncomputable section

namespace Cert.Retention.Plain

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-- The projections. -/
abbrev pA : FVec Ideal S4096x5760 .bf16 := V0 (Proc.devRef .tc main_arg0)
/-- The cotangent of the mixed result. -/
abbrev pY : FVec Ideal S4096x2048 .bf16 := V0 (Proc.devRef .tc main_arg1)
/-- Head `h` of chunk `n`. -/
abbrev pC (n : Fin 32) (h : Fin 4) : Chunk := chunk (pA V0) (pY V0) n h

theorem v7_at (z : Fin 1) (r : Fin 4096) (h : Fin 4) (d : Fin 128) :
    res_main_v7 V0 (ix4 z r h d) = pA V0 (ix2 r (elt 0 128 (by decide) h d)) := by
  unfold res_main_v7 res_main_v1; pointwise
  rw [show elt 0 128 (by decide) h d = (⟨h * 128 + d, by omega⟩ : Fin 5760) from Fin.ext (Nat.zero_add _)]

theorem v41_at (z : Fin 1) (r : Fin 4096) (h : Fin 4) (d : Fin 128) :
    res_main_v41 V0 (ix4 z r h d) = pA V0 (ix2 r (elt 512 128 (by decide) h d)) := by
  unfold res_main_v41 res_main_v1; pointwise; rfl

theorem v5_at (z : Fin 1) (r : Fin 4096) (x : Fin 1024) :
    res_main_v5 V0 (ix3 z r x) = pA V0 (ix2 r ⟨2048 + x, by omega⟩) := by
  unfold res_main_v5 res_main_v1; pointwise

theorem v23_at (r : Fin 4096) (i : Fin 64) : res_main_v23 V0 (ix2 r i) = (angle r i : EReal) := by
  unfold res_main_v23 res_main_v6; pointwise; rfl

theorem v57_at (r : Fin 4096) (i : Fin 64) : res_main_v57 V0 (ix2 r i) = (angle r i : EReal) := by
  unfold res_main_v57 res_main_v6; pointwise; rfl

theorem v82_at (h : Fin 4) : res_main_v82 V0 (ix1 h) = (logDecay h : EReal) := by
  unfold res_main_v82; pointwise; rfl

theorem v88_at (i j : Fin 128) : res_main_v88 V0 (ix2 i j) = (num i - num j : EReal) := by
  unfold res_main_v88 res_main_v83; pointwise; rfl

theorem v101_at (z : Fin 1) (n : Fin 32) (i : Fin 128) (h : Fin 4) (d : Fin 128) :
    res_main_v101 V0 (ix5 z n i h d) = ((pC V0 n h).rq i d : EReal) := by
  unfold res_main_v101 res_main_v28 res_main_v29 res_main_v25 res_main_v27
  pointwise [v7_at, v23_at]
  exact (turn_halves (n * 128 + i) (fun d => pA V0 (ix2 (row n i) (elt 0 128 (by decide) h d))) d).symm

theorem v104_at (z : Fin 1) (n : Fin 32) (i : Fin 128) (h : Fin 4) (d : Fin 128) :
    res_main_v104 V0 (ix5 z n i h d) = ((pC V0 n h).rk i d : EReal) := by
  unfold res_main_v104 res_main_v62 res_main_v63 res_main_v59 res_main_v61
  pointwise [v41_at, v57_at]
  exact congrArg (· * scale) (turn_halves (n * 128 + i) (fun d => pA V0 (ix2 (row n i) (elt 512 128 (by decide) h d))) d).symm

theorem v105_at (z : Fin 1) (n : Fin 32) (i : Fin 128) (h : Fin 4) (e : Fin 256) :
    res_main_v105 V0 (ix5 z n i h e) = ((pC V0 n h).v i e : EReal) := by
  unfold res_main_v105 res_main_v1; pointwise; rfl

theorem v107_at (z z' : Fin 1) (h : Fin 4) (i j : Fin 128) :
    res_main_v107 V0 (ix5 z z' h i j) = (decayBetween h i j : EReal) := by
  unfold res_main_v107; simp only [id]; pointwise [v88_at, v82_at]; rfl

theorem v109_at (z : Fin 1) (n : Fin 32) (h : Fin 4) (i j : Fin 128) :
    res_main_v109 V0 (ix5 z n h i j) = (score (pC V0 n h).rq (pC V0 n h).rk (pC V0 n h).a i j : EReal) := by
  unfold res_main_v109; pointwise [v101_at, v104_at, v107_at]; rfl

theorem v120_at (z z' : Fin 1) (i : Fin 128) (h : Fin 4) (z'' : Fin 1) :
    res_main_v120 V0 (ix5 z z' i h z'') = (decayToEnd h i : EReal) := by
  unfold res_main_v120 res_main_v83; pointwise [v82_at]; rfl

theorem v342_at (z z' : Fin 1) (i : Fin 128) (h : Fin 4) (z'' : Fin 1) :
    res_main_v342 V0 (ix5 z z' i h z'') = (decayFromStart h i : EReal) := by
  unfold res_main_v342 res_main_v83; pointwise [v82_at]; rfl

theorem v122_at (z : Fin 1) (n : Fin 32) (i : Fin 128) (h : Fin 4) (d : Fin 128) :
    res_main_v122 V0 (ix5 z n i h d) = ((pC V0 n h).rk i d * (pC V0 n h).z i d : EReal) := by
  unfold res_main_v122; pointwise [v104_at, v120_at]; rfl

theorem v127_at (z : Fin 1) (h : Fin 4) (z' z'' : Fin 1) : res_main_v127 V0 (ix4 z h z' z'') = (decayOver h : EReal) := by
  unfold res_main_v127; pointwise [v82_at]; rfl

theorem v133_at (n : Fin 32) (z : Fin 1) (h : Fin 4) (d : Fin 128) (e : Fin 256) :
    res_main_v133 V0 (ix5 n z h d e) = (gainAt (pA V0) n h d e : EReal) := by
  unfold res_main_v133 res_main_v131 res_main_v123; pointwise [v122_at, v105_at]; rfl

theorem v130_at (z : Fin 1) (h : Fin 4) (d : Fin 128) (e : Fin 256) :
    res_main_v130 V0 (ix4 z h d e) = (stateAt (pA V0) 0 h d e : EReal) := by
  unfold res_main_v130; pointwise; rfl

end Cert.Retention.Plain

end
-- ==== Proof.RefStates.lean ====
/-
  The reference's states before each chunk.
-/
module

public import proofs.«01_k».proof.Proof.Ref

@[expose] public section

set_option maxRecDepth 16384

noncomputable section

namespace Cert.Retention.Plain

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

theorem state_succ (A : FVec Ideal S4096x5760 .bf16) (n : ℕ) (k : Fin 32) (hk : (k : ℕ) = n) (h : Fin 4) (d : Fin 128) (e : Fin 256) :
    stateAt A n h d e * decayOver h + gainAt A k h d e = stateAt A (n + 1) h d e := by
  have e1 : chunkNo n = k := Fin.ext (by show n % 32 = k; omega)
  show _ = stateAt A n h d e * decayOver h + gainAt A (chunkNo n) h d e
  rw [e1]

theorem v139_at (z : Fin 1) (h : Fin 4) (d : Fin 128) (e : Fin 256) :
    res_main_v139 V0 (ix4 z h d e) = (stateAt (pA V0) 1 h d e : EReal) := by
  unfold res_main_v139; pointwise [v130_at, v127_at, v133_at]
  exact state_succ (pA V0) 0 0 rfl h d e

theorem v144_at (z : Fin 1) (h : Fin 4) (d : Fin 128) (e : Fin 256) :
    res_main_v144 V0 (ix4 z h d e) = (stateAt (pA V0) 2 h d e : EReal) := by
  unfold res_main_v144; pointwise [v139_at, v127_at, v133_at]
  exact state_succ (pA V0) 1 1 rfl h d e

theorem v149_at (z : Fin 1) (h : Fin 4) (d : Fin 128) (e : Fin 256) :
    res_main_v149 V0 (ix4 z h d e) = (stateAt (pA V0) 3 h d e : EReal) := by
  unfold res_main_v149; pointwise [v144_at, v127_at, v133_at]
  exact state_succ (pA V0) 2 2 rfl h d e

theorem v154_at (z : Fin 1) (h : Fin 4) (d : Fin 128) (e : Fin 256) :
    res_main_v154 V0 (ix4 z h d e) = (stateAt (pA V0) 4 h d e : EReal) := by
  unfold res_main_v154; pointwise [v149_at, v127_at, v133_at]
  exact state_succ (pA V0) 3 3 rfl h d e

theorem v159_at (z : Fin 1) (h : Fin 4) (d : Fin 128) (e : Fin 256) :
    res_main_v159 V0 (ix4 z h d e) = (stateAt (pA V0) 5 h d e : EReal) := by
  unfold res_main_v159; pointwise [v154_at, v127_at, v133_at]
  exact state_succ (pA V0) 4 4 rfl h d e

theorem v164_at (z : Fin 1) (h : Fin 4) (d : Fin 128) (e : Fin 256) :
    res_main_v164 V0 (ix4 z h d e) = (stateAt (pA V0) 6 h d e : EReal) := by
  unfold res_main_v164; pointwise [v159_at, v127_at, v133_at]
  exact state_succ (pA V0) 5 5 rfl h d e

theorem v169_at (z : Fin 1) (h : Fin 4) (d : Fin 128) (e : Fin 256) :
    res_main_v169 V0 (ix4 z h d e) = (stateAt (pA V0) 7 h d e : EReal) := by
  unfold res_main_v169; pointwise [v164_at, v127_at, v133_at]
  exact state_succ (pA V0) 6 6 rfl h d e

theorem v174_at (z : Fin 1) (h : Fin 4) (d : Fin 128) (e : Fin 256) :
    res_main_v174 V0 (ix4 z h d e) = (stateAt (pA V0) 8 h d e : EReal) := by
  unfold res_main_v174; pointwise [v169_at, v127_at, v133_at]
  exact state_succ (pA V0) 7 7 rfl h d e

theorem v179_at (z : Fin 1) (h : Fin 4) (d : Fin 128) (e : Fin 256) :
    res_main_v179 V0 (ix4 z h d e) = (stateAt (pA V0) 9 h d e : EReal) := by
  unfold res_main_v179; pointwise [v174_at, v127_at, v133_at]
  exact state_succ (pA V0) 8 8 rfl h d e

theorem v184_at (z : Fin 1) (h : Fin 4) (d : Fin 128) (e : Fin 256) :
    res_main_v184 V0 (ix4 z h d e) = (stateAt (pA V0) 10 h d e : EReal) := by
  unfold res_main_v184; pointwise [v179_at, v127_at, v133_at]
  exact state_succ (pA V0) 9 9 rfl h d e

theorem v189_at (z : Fin 1) (h : Fin 4) (d : Fin 128) (e : Fin 256) :
    res_main_v189 V0 (ix4 z h d e) = (stateAt (pA V0) 11 h d e : EReal) := by
  unfold res_main_v189; pointwise [v184_at, v127_at, v133_at]
  exact state_succ (pA V0) 10 10 rfl h d e

theorem v194_at (z : Fin 1) (h : Fin 4) (d : Fin 128) (e : Fin 256) :
    res_main_v194 V0 (ix4 z h d e) = (stateAt (pA V0) 12 h d e : EReal) := by
  unfold res_main_v194; pointwise [v189_at, v127_at, v133_at]
  exact state_succ (pA V0) 11 11 rfl h d e

theorem v199_at (z : Fin 1) (h : Fin 4) (d : Fin 128) (e : Fin 256) :
    res_main_v199 V0 (ix4 z h d e) = (stateAt (pA V0) 13 h d e : EReal) := by
  unfold res_main_v199; pointwise [v194_at, v127_at, v133_at]
  exact state_succ (pA V0) 12 12 rfl h d e

theorem v204_at (z : Fin 1) (h : Fin 4) (d : Fin 128) (e : Fin 256) :
    res_main_v204 V0 (ix4 z h d e) = (stateAt (pA V0) 14 h d e : EReal) := by
  unfold res_main_v204; pointwise [v199_at, v127_at, v133_at]
  exact state_succ (pA V0) 13 13 rfl h d e

theorem v209_at (z : Fin 1) (h : Fin 4) (d : Fin 128) (e : Fin 256) :
    res_main_v209 V0 (ix4 z h d e) = (stateAt (pA V0) 15 h d e : EReal) := by
  unfold res_main_v209; pointwise [v204_at, v127_at, v133_at]
  exact state_succ (pA V0) 14 14 rfl h d e

theorem v214_at (z : Fin 1) (h : Fin 4) (d : Fin 128) (e : Fin 256) :
    res_main_v214 V0 (ix4 z h d e) = (stateAt (pA V0) 16 h d e : EReal) := by
  unfold res_main_v214; pointwise [v209_at, v127_at, v133_at]
  exact state_succ (pA V0) 15 15 rfl h d e

theorem v219_at (z : Fin 1) (h : Fin 4) (d : Fin 128) (e : Fin 256) :
    res_main_v219 V0 (ix4 z h d e) = (stateAt (pA V0) 17 h d e : EReal) := by
  unfold res_main_v219; pointwise [v214_at, v127_at, v133_at]
  exact state_succ (pA V0) 16 16 rfl h d e

theorem v224_at (z : Fin 1) (h : Fin 4) (d : Fin 128) (e : Fin 256) :
    res_main_v224 V0 (ix4 z h d e) = (stateAt (pA V0) 18 h d e : EReal) := by
  unfold res_main_v224; pointwise [v219_at, v127_at, v133_at]
  exact state_succ (pA V0) 17 17 rfl h d e

theorem v229_at (z : Fin 1) (h : Fin 4) (d : Fin 128) (e : Fin 256) :
    res_main_v229 V0 (ix4 z h d e) = (stateAt (pA V0) 19 h d e : EReal) := by
  unfold res_main_v229; pointwise [v224_at, v127_at, v133_at]
  exact state_succ (pA V0) 18 18 rfl h d e

theorem v234_at (z : Fin 1) (h : Fin 4) (d : Fin 128) (e : Fin 256) :
    res_main_v234 V0 (ix4 z h d e) = (stateAt (pA V0) 20 h d e : EReal) := by
  unfold res_main_v234; pointwise [v229_at, v127_at, v133_at]
  exact state_succ (pA V0) 19 19 rfl h d e

theorem v239_at (z : Fin 1) (h : Fin 4) (d : Fin 128) (e : Fin 256) :
    res_main_v239 V0 (ix4 z h d e) = (stateAt (pA V0) 21 h d e : EReal) := by
  unfold res_main_v239; pointwise [v234_at, v127_at, v133_at]
  exact state_succ (pA V0) 20 20 rfl h d e

theorem v244_at (z : Fin 1) (h : Fin 4) (d : Fin 128) (e : Fin 256) :
    res_main_v244 V0 (ix4 z h d e) = (stateAt (pA V0) 22 h d e : EReal) := by
  unfold res_main_v244; pointwise [v239_at, v127_at, v133_at]
  exact state_succ (pA V0) 21 21 rfl h d e

theorem v249_at (z : Fin 1) (h : Fin 4) (d : Fin 128) (e : Fin 256) :
    res_main_v249 V0 (ix4 z h d e) = (stateAt (pA V0) 23 h d e : EReal) := by
  unfold res_main_v249; pointwise [v244_at, v127_at, v133_at]
  exact state_succ (pA V0) 22 22 rfl h d e

theorem v254_at (z : Fin 1) (h : Fin 4) (d : Fin 128) (e : Fin 256) :
    res_main_v254 V0 (ix4 z h d e) = (stateAt (pA V0) 24 h d e : EReal) := by
  unfold res_main_v254; pointwise [v249_at, v127_at, v133_at]
  exact state_succ (pA V0) 23 23 rfl h d e

theorem v259_at (z : Fin 1) (h : Fin 4) (d : Fin 128) (e : Fin 256) :
    res_main_v259 V0 (ix4 z h d e) = (stateAt (pA V0) 25 h d e : EReal) := by
  unfold res_main_v259; pointwise [v254_at, v127_at, v133_at]
  exact state_succ (pA V0) 24 24 rfl h d e

theorem v264_at (z : Fin 1) (h : Fin 4) (d : Fin 128) (e : Fin 256) :
    res_main_v264 V0 (ix4 z h d e) = (stateAt (pA V0) 26 h d e : EReal) := by
  unfold res_main_v264; pointwise [v259_at, v127_at, v133_at]
  exact state_succ (pA V0) 25 25 rfl h d e

theorem v269_at (z : Fin 1) (h : Fin 4) (d : Fin 128) (e : Fin 256) :
    res_main_v269 V0 (ix4 z h d e) = (stateAt (pA V0) 27 h d e : EReal) := by
  unfold res_main_v269; pointwise [v264_at, v127_at, v133_at]
  exact state_succ (pA V0) 26 26 rfl h d e

theorem v274_at (z : Fin 1) (h : Fin 4) (d : Fin 128) (e : Fin 256) :
    res_main_v274 V0 (ix4 z h d e) = (stateAt (pA V0) 28 h d e : EReal) := by
  unfold res_main_v274; pointwise [v269_at, v127_at, v133_at]
  exact state_succ (pA V0) 27 27 rfl h d e

theorem v279_at (z : Fin 1) (h : Fin 4) (d : Fin 128) (e : Fin 256) :
    res_main_v279 V0 (ix4 z h d e) = (stateAt (pA V0) 29 h d e : EReal) := by
  unfold res_main_v279; pointwise [v274_at, v127_at, v133_at]
  exact state_succ (pA V0) 28 28 rfl h d e

theorem v284_at (z : Fin 1) (h : Fin 4) (d : Fin 128) (e : Fin 256) :
    res_main_v284 V0 (ix4 z h d e) = (stateAt (pA V0) 30 h d e : EReal) := by
  unfold res_main_v284; pointwise [v279_at, v127_at, v133_at]
  exact state_succ (pA V0) 29 29 rfl h d e

theorem v289_at (z : Fin 1) (h : Fin 4) (d : Fin 128) (e : Fin 256) :
    res_main_v289 V0 (ix4 z h d e) = (stateAt (pA V0) 31 h d e : EReal) := by
  unfold res_main_v289; pointwise [v284_at, v127_at, v133_at]
  exact state_succ (pA V0) 30 30 rfl h d e

theorem low_stack :
    (concatenate S16x1x4x128x256 0 [⟨S1x1x4x128x256, ((broadcastInDim S1x1x4x128x256 ![1, 2, 3, 4] bcast_S1x4x128x256_S1x1x4x128x256_1_2_3_4 (res_main_v130 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v139 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v144 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v149 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v154 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v159 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v164 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v169 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v174 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v179 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v184 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v189 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v194 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v199 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v204 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v209 V0)) : (⟨S1x1x4x128x256, .f32⟩ : BufTy).Contents (Elt Ideal))⟩] concatenates_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S16x1x4x128x256_d0 : FVec Ideal S16x1x4x128x256 .f32) =
      fun x : S16x1x4x128x256.Idx => (stateAt (pA V0) (0 + x 0) (x 2) (x 3) (x 4) : EReal) := by
  refine funext fun (x : S16x1x4x128x256.Idx) => ?_
  concat_tiles i h
  case piece0 =>
    rw [h, ← show i 2 = x 2 from Fin.ext h2, ← show i 3 = x 3 from Fin.ext h3, ← show i 4 = x 4 from Fin.ext h4, eq_ix5 i]
    pointwise [v130_at]
  case piece1 =>
    rw [h, ← show i 2 = x 2 from Fin.ext h2, ← show i 3 = x 3 from Fin.ext h3, ← show i 4 = x 4 from Fin.ext h4, eq_ix5 i]
    pointwise [v139_at]
  case piece2 =>
    rw [h, ← show i 2 = x 2 from Fin.ext h2, ← show i 3 = x 3 from Fin.ext h3, ← show i 4 = x 4 from Fin.ext h4, eq_ix5 i]
    pointwise [v144_at]
  case piece3 =>
    rw [h, ← show i 2 = x 2 from Fin.ext h2, ← show i 3 = x 3 from Fin.ext h3, ← show i 4 = x 4 from Fin.ext h4, eq_ix5 i]
    pointwise [v149_at]
  case piece4 =>
    rw [h, ← show i 2 = x 2 from Fin.ext h2, ← show i 3 = x 3 from Fin.ext h3, ← show i 4 = x 4 from Fin.ext h4, eq_ix5 i]
    pointwise [v154_at]
  case piece5 =>
    rw [h, ← show i 2 = x 2 from Fin.ext h2, ← show i 3 = x 3 from Fin.ext h3, ← show i 4 = x 4 from Fin.ext h4, eq_ix5 i]
    pointwise [v159_at]
  case piece6 =>
    rw [h, ← show i 2 = x 2 from Fin.ext h2, ← show i 3 = x 3 from Fin.ext h3, ← show i 4 = x 4 from Fin.ext h4, eq_ix5 i]
    pointwise [v164_at]
  case piece7 =>
    rw [h, ← show i 2 = x 2 from Fin.ext h2, ← show i 3 = x 3 from Fin.ext h3, ← show i 4 = x 4 from Fin.ext h4, eq_ix5 i]
    pointwise [v169_at]
  case piece8 =>
    rw [h, ← show i 2 = x 2 from Fin.ext h2, ← show i 3 = x 3 from Fin.ext h3, ← show i 4 = x 4 from Fin.ext h4, eq_ix5 i]
    pointwise [v174_at]
  case piece9 =>
    rw [h, ← show i 2 = x 2 from Fin.ext h2, ← show i 3 = x 3 from Fin.ext h3, ← show i 4 = x 4 from Fin.ext h4, eq_ix5 i]
    pointwise [v179_at]
  case piece10 =>
    rw [h, ← show i 2 = x 2 from Fin.ext h2, ← show i 3 = x 3 from Fin.ext h3, ← show i 4 = x 4 from Fin.ext h4, eq_ix5 i]
    pointwise [v184_at]
  case piece11 =>
    rw [h, ← show i 2 = x 2 from Fin.ext h2, ← show i 3 = x 3 from Fin.ext h3, ← show i 4 = x 4 from Fin.ext h4, eq_ix5 i]
    pointwise [v189_at]
  case piece12 =>
    rw [h, ← show i 2 = x 2 from Fin.ext h2, ← show i 3 = x 3 from Fin.ext h3, ← show i 4 = x 4 from Fin.ext h4, eq_ix5 i]
    pointwise [v194_at]
  case piece13 =>
    rw [h, ← show i 2 = x 2 from Fin.ext h2, ← show i 3 = x 3 from Fin.ext h3, ← show i 4 = x 4 from Fin.ext h4, eq_ix5 i]
    pointwise [v199_at]
  case piece14 =>
    rw [h, ← show i 2 = x 2 from Fin.ext h2, ← show i 3 = x 3 from Fin.ext h3, ← show i 4 = x 4 from Fin.ext h4, eq_ix5 i]
    pointwise [v204_at]
  case piece15 =>
    rw [h, ← show i 2 = x 2 from Fin.ext h2, ← show i 3 = x 3 from Fin.ext h3, ← show i 4 = x 4 from Fin.ext h4, eq_ix5 i]
    pointwise [v209_at]

theorem high_stack :
    (concatenate S16x1x4x128x256 0 [⟨S1x1x4x128x256, ((broadcastInDim S1x1x4x128x256 ![1, 2, 3, 4] bcast_S1x4x128x256_S1x1x4x128x256_1_2_3_4 (res_main_v214 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v219 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v224 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v229 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v234 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v239 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v244 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v249 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v254 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v259 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v264 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v269 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v274 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v279 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v284 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v289 V0)) : (⟨S1x1x4x128x256, .f32⟩ : BufTy).Contents (Elt Ideal))⟩] concatenates_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S16x1x4x128x256_d0 : FVec Ideal S16x1x4x128x256 .f32) =
      fun x : S16x1x4x128x256.Idx => (stateAt (pA V0) (16 + x 0) (x 2) (x 3) (x 4) : EReal) := by
  refine funext fun (x : S16x1x4x128x256.Idx) => ?_
  concat_tiles i h
  case piece0 =>
    rw [h, ← show i 2 = x 2 from Fin.ext h2, ← show i 3 = x 3 from Fin.ext h3, ← show i 4 = x 4 from Fin.ext h4, eq_ix5 i]
    pointwise [v214_at]
  case piece1 =>
    rw [h, ← show i 2 = x 2 from Fin.ext h2, ← show i 3 = x 3 from Fin.ext h3, ← show i 4 = x 4 from Fin.ext h4, eq_ix5 i]
    pointwise [v219_at]
  case piece2 =>
    rw [h, ← show i 2 = x 2 from Fin.ext h2, ← show i 3 = x 3 from Fin.ext h3, ← show i 4 = x 4 from Fin.ext h4, eq_ix5 i]
    pointwise [v224_at]
  case piece3 =>
    rw [h, ← show i 2 = x 2 from Fin.ext h2, ← show i 3 = x 3 from Fin.ext h3, ← show i 4 = x 4 from Fin.ext h4, eq_ix5 i]
    pointwise [v229_at]
  case piece4 =>
    rw [h, ← show i 2 = x 2 from Fin.ext h2, ← show i 3 = x 3 from Fin.ext h3, ← show i 4 = x 4 from Fin.ext h4, eq_ix5 i]
    pointwise [v234_at]
  case piece5 =>
    rw [h, ← show i 2 = x 2 from Fin.ext h2, ← show i 3 = x 3 from Fin.ext h3, ← show i 4 = x 4 from Fin.ext h4, eq_ix5 i]
    pointwise [v239_at]
  case piece6 =>
    rw [h, ← show i 2 = x 2 from Fin.ext h2, ← show i 3 = x 3 from Fin.ext h3, ← show i 4 = x 4 from Fin.ext h4, eq_ix5 i]
    pointwise [v244_at]
  case piece7 =>
    rw [h, ← show i 2 = x 2 from Fin.ext h2, ← show i 3 = x 3 from Fin.ext h3, ← show i 4 = x 4 from Fin.ext h4, eq_ix5 i]
    pointwise [v249_at]
  case piece8 =>
    rw [h, ← show i 2 = x 2 from Fin.ext h2, ← show i 3 = x 3 from Fin.ext h3, ← show i 4 = x 4 from Fin.ext h4, eq_ix5 i]
    pointwise [v254_at]
  case piece9 =>
    rw [h, ← show i 2 = x 2 from Fin.ext h2, ← show i 3 = x 3 from Fin.ext h3, ← show i 4 = x 4 from Fin.ext h4, eq_ix5 i]
    pointwise [v259_at]
  case piece10 =>
    rw [h, ← show i 2 = x 2 from Fin.ext h2, ← show i 3 = x 3 from Fin.ext h3, ← show i 4 = x 4 from Fin.ext h4, eq_ix5 i]
    pointwise [v264_at]
  case piece11 =>
    rw [h, ← show i 2 = x 2 from Fin.ext h2, ← show i 3 = x 3 from Fin.ext h3, ← show i 4 = x 4 from Fin.ext h4, eq_ix5 i]
    pointwise [v269_at]
  case piece12 =>
    rw [h, ← show i 2 = x 2 from Fin.ext h2, ← show i 3 = x 3 from Fin.ext h3, ← show i 4 = x 4 from Fin.ext h4, eq_ix5 i]
    pointwise [v274_at]
  case piece13 =>
    rw [h, ← show i 2 = x 2 from Fin.ext h2, ← show i 3 = x 3 from Fin.ext h3, ← show i 4 = x 4 from Fin.ext h4, eq_ix5 i]
    pointwise [v279_at]
  case piece14 =>
    rw [h, ← show i 2 = x 2 from Fin.ext h2, ← show i 3 = x 3 from Fin.ext h3, ← show i 4 = x 4 from Fin.ext h4, eq_ix5 i]
    pointwise [v284_at]
  case piece15 =>
    rw [h, ← show i 2 = x 2 from Fin.ext h2, ← show i 3 = x 3 from Fin.ext h3, ← show i 4 = x 4 from Fin.ext h4, eq_ix5 i]
    pointwise [v289_at]

theorem join_stacks (g : ℕ → Fin 4 → Fin 128 → Fin 256 → EReal) (a b : FVec Ideal S16x1x4x128x256 .f32)
    (ha : a = fun x : S16x1x4x128x256.Idx => (g (0 + x 0) (x 2) (x 3) (x 4) : EReal))
    (hb : b = fun x : S16x1x4x128x256.Idx => (g (16 + x 0) (x 2) (x 3) (x 4) : EReal)) :
    concatenate S32x1x4x128x256 0 [⟨S16x1x4x128x256, a⟩, ⟨S16x1x4x128x256, b⟩]
        concatenates_S16x1x4x128x256_S16x1x4x128x256_S32x1x4x128x256_d0 =
      fun x : S32x1x4x128x256.Idx => (g (x 0) (x 2) (x 3) (x 4) : EReal) := by
  funext x
  rw [eq_ix5 x, show x 1 = (0 : Fin 1) from Subsingleton.elim (α := Fin 1) _ _]
  subst ha hb
  pointwise
  by_cases hn : (x 0 : ℕ) < 16
  · simp only [hn, ↓reduceIte, ↓reduceDIte, Nat.zero_add]
  · simp only [hn, ↓reduceIte, ↓reduceDIte, Nat.add_sub_cancel' (Nat.le_of_not_lt hn)]

theorem v329_at (n : Fin 32) (z : Fin 1) (h : Fin 4) (d : Fin 128) (e : Fin 256) :
    res_main_v329 V0 (ix5 n z h d e) = (stateAt (pA V0) n h d e : EReal) := by
  unfold res_main_v329
  exact congrFun (join_stacks (stateAt (pA V0)) _ _ (low_stack V0) (high_stack V0)) (ix5 n z h d e)

theorem v331_at (z : Fin 1) (n : Fin 32) (h : Fin 4) (d : Fin 128) (e : Fin 256) :
    res_main_v331 V0 (ix5 z n h d e) = ((pC V0 n h).s d e : EReal) := by
  unfold res_main_v331
  pointwise [v329_at]
  rw [dif_neg (Nat.not_lt_zero _)]
  rfl

end Cert.Retention.Plain

end
-- ==== Proof.RefNorm.lean ====
/-
  The reference's group norm and its gate, and their cotangents.
-/
module

public import proofs.«01_k».proof.Proof.RefStates

@[expose] public section

set_option maxRecDepth 16384

noncomputable section

namespace Cert.Retention.Plain

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-- A sum over two axes of one element each. -/
theorem sum_one_one (w : Shape.ReducesTo S1x4096x4x1 [0, 3] S4096x4) (x : S1x4096x4x1.Idx → EReal) (init : EReal)
    (r : Fin 4096) (h : Fin 4) : Ideal.hostReduceAdd w x init (ix2 r h) = init + x (ix4 0 r h 0) := by
  unfold Ideal.hostReduceAdd
  have e : (Finset.univ.filter fun i : S1x4096x4x1.Idx => w.drop i = ix2 r h) = {ix4 0 r h 0} := by
    ext i
    simp only [Finset.mem_filter, Finset.mem_univ, true_and, Finset.mem_singleton]
    constructor
    · intro hi
      have h1 : (i 1 : ℕ) = r := congrArg Fin.val (congrFun hi 0)
      have h2 : (i 2 : ℕ) = h := congrArg Fin.val (congrFun hi 1)
      rw [eq_ix4 i, show i 0 = (0 : Fin 1) from Subsingleton.elim (α := Fin 1) _ _, show i 3 = (0 : Fin 1) from Subsingleton.elim (α := Fin 1) _ _,
        show i 1 = r from Fin.ext h1, show i 2 = h from Fin.ext h2]
    · intro hi
      subst hi
      funext b
      match b with
      | ⟨0, _⟩ => rfl
      | ⟨1, _⟩ => rfl
  rw [e, Finset.sum_singleton]

theorem v346_at (z : Fin 1) (n : Fin 32) (i : Fin 128) (p : (n : ℕ) * 128 + i < 4096) (h : Fin 4) (e : Fin 256) :
    res_main_v346 V0 (ix4 z ⟨n * 128 + i, p⟩ h e) = (out (pC V0 n h).rq (pC V0 n h).rk (pC V0 n h).a (pC V0 n h).v (pC V0 n h).s (pC V0 n h).x i e : EReal) := by
  unfold res_main_v346
  pointwise [v105_at, v109_at, v331_at, v101_at, v342_at]
  unfold out
  exact congrArg₂ (· + ·) (Finset.sum_congr rfl fun j _ => mul_comm _ _)
    (congrArg (· * decayFromStart h i) (Finset.sum_congr rfl fun d _ => mul_comm _ _))

theorem v352_at (z : Fin 1) (n : Fin 32) (i : Fin 128) (p : (n : ℕ) * 128 + i < 4096) (h : Fin 4) (e : Fin 256) :
    res_main_v352 V0 (ix4 z ⟨n * 128 + i, p⟩ h e) = ((pC V0 n h).o i e : EReal) := by
  unfold res_main_v352
  pointwise [v346_at]
  rfl

theorem v359_at (z : Fin 1) (n : Fin 32) (i : Fin 128) (p : (n : ℕ) * 128 + i < 4096) (h : Fin 4) (z' : Fin 1) :
    res_main_v359 V0 (ix4 z ⟨n * 128 + i, p⟩ h z') = (spread (pC V0 n h).o i : EReal) := by
  unfold res_main_v359
  pointwise [v352_at]
  rfl

theorem v360_at (z : Fin 1) (n : Fin 32) (i : Fin 128) (p : (n : ℕ) * 128 + i < 4096) (h : Fin 4) (z' : Fin 1) :
    res_main_v360 V0 (ix4 z ⟨n * 128 + i, p⟩ h z') = (Ideal.rsqrt (spread (pC V0 n h).o i) : EReal) := by
  unfold res_main_v360
  pointwise [v359_at]

theorem v366_at (z : Fin 1) (n : Fin 32) (i : Fin 128) (p : (n : ℕ) * 128 + i < 4096) (h : Fin 4) (e : Fin 256) (p' : (h : ℕ) * 256 + e < 1024) :
    res_main_v366 V0 (ix3 z ⟨n * 128 + i, p⟩ ⟨h * 256 + e, p'⟩) = ((pC V0 n h).o i e * Ideal.rsqrt (spread (pC V0 n h).o i) : EReal) := by
  unfold res_main_v366
  pointwise [v352_at, v360_at]

theorem v367_2_at (z : Fin 1) (n : Fin 32) (i : Fin 128) (p : (n : ℕ) * 128 + i < 4096) (h : Fin 4) (e : Fin 256) (p' : (h : ℕ) * 256 + e < 1024) :
    res_main_v367_2 V0 (ix3 z ⟨n * 128 + i, p⟩ ⟨h * 256 + e, p'⟩) = (Ideal.logistic ((pC V0 n h).g i e) : EReal) := by
  unfold res_main_v367_2
  pointwise [v5_at]
  rfl

theorem v367_0_at (z : Fin 1) (n : Fin 32) (i : Fin 128) (p : (n : ℕ) * 128 + i < 4096) (h : Fin 4) (e : Fin 256) (p' : (h : ℕ) * 256 + e < 1024) :
    res_main_v367_0 V0 (ix3 z ⟨n * 128 + i, p⟩ ⟨h * 256 + e, p'⟩) = (gate (pC V0 n h).g i e : EReal) := by
  unfold res_main_v367_0
  pointwise [v5_at, v367_2_at]
  rfl

theorem v371_at (z : Fin 1) (n : Fin 32) (i : Fin 128) (p : (n : ℕ) * 128 + i < 4096) (h : Fin 4) (e : Fin 256) (p' : (h : ℕ) * 256 + e < 1024) :
    res_main_v371 V0 (ix3 z ⟨n * 128 + i, p⟩ ⟨h * 256 + e, p'⟩) = ((pC V0 n h).y i e : EReal) := by
  unfold res_main_v371
  pointwise []
  refine congrArg (fun q => pY V0 (ix2 (row n i) q)) (Fin.ext ?_)
  exact (Nat.zero_add _).symm

theorem v374_at (z : Fin 1) (n : Fin 32) (i : Fin 128) (p : (n : ℕ) * 128 + i < 4096) (h : Fin 4) (e : Fin 256) (p' : (h : ℕ) * 256 + e < 1024) :
    res_main_v374 V0 (ix3 z ⟨n * 128 + i, p⟩ ⟨h * 256 + e, p'⟩) = ((pC V0 n h).y i e * ((pC V0 n h).o i e * Ideal.rsqrt (spread (pC V0 n h).o i)) : EReal) := by
  unfold res_main_v374
  pointwise [v371_at, v366_at]

theorem v376_at (z : Fin 1) (n : Fin 32) (i : Fin 128) (p : (n : ℕ) * 128 + i < 4096) (h : Fin 4) (e : Fin 256) :
    res_main_v376 V0 (ix4 z ⟨n * 128 + i, p⟩ h e) = (dNormed (pC V0 n h).g (pC V0 n h).y i e : EReal) := by
  unfold res_main_v376
  pointwise [v367_0_at, v371_at]
  rfl

theorem v387_at (z : Fin 1) (n : Fin 32) (i : Fin 128) (p : (n : ℕ) * 128 + i < 4096) (h : Fin 4) (e : Fin 256) :
    res_main_v387 V0 (ix4 z ⟨n * 128 + i, p⟩ h e) = (pull (pC V0 n h).o (dNormed (pC V0 n h).g (pC V0 n h).y) i : EReal) := by
  unfold res_main_v387
  pointwise [v352_at, v376_at, v360_at, v359_at]
  rw [sum_one_one]
  pointwise [v352_at, v376_at, v360_at, v359_at]
  rfl

theorem v391_at (z : Fin 1) (n : Fin 32) (i : Fin 128) (p : (n : ℕ) * 128 + i < 4096) (h : Fin 4) (e : Fin 256) :
    res_main_v391 V0 (ix4 z ⟨n * 128 + i, p⟩ h e) = (dCentred (pC V0 n h).o (dNormed (pC V0 n h).g (pC V0 n h).y) i e : EReal) := by
  unfold res_main_v391
  pointwise [v352_at, v376_at, v360_at, v387_at]
  rfl

theorem v401_at (z : Fin 1) (n : Fin 32) (i : Fin 128) (h : Fin 4) (e : Fin 256) :
    res_main_v401 V0 (ix5 z n i h e) = ((pC V0 n h).o' i e : EReal) := by
  unfold res_main_v401
  pointwise [v391_at]
  rw [sum_one_one]
  pointwise [v391_at]
  rfl

end Cert.Retention.Plain

end
-- ==== Proof.RefCostates.lean ====
/-
  The cotangents of the reference's states, chunk by chunk from the end.
-/
module

public import proofs.«01_k».proof.Proof.RefNorm

@[expose] public section

set_option maxRecDepth 16384

noncomputable section

namespace Cert.Retention.Plain

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

theorem v404_at (z : Fin 1) (n : Fin 32) (h : Fin 4) (e : Fin 256) (i : Fin 128) :
    res_main_v404 V0 (ix5 z n h e i) = ((pC V0 n h).o' i e * (pC V0 n h).x i e : EReal) := by
  unfold res_main_v404
  pointwise [v401_at, v342_at]
  rfl

theorem v411_at (n : Fin 32) (z : Fin 1) (h : Fin 4) (d : Fin 128) (e : Fin 256) :
    res_main_v411 V0 (ix5 n z h d e) = (∑ i, (pC V0 n h).o' i e * (pC V0 n h).x i e * (pC V0 n h).rq i d : EReal) := by
  unfold res_main_v411 res_main_v409
  pointwise [v404_at, v101_at]

theorem costate_succ (A : FVec Ideal S4096x5760 .bf16) (Y : FVec Ideal S4096x2048 .bf16) (n : ℕ) (k : Fin 32) (hk : (k : ℕ) = 31 - n)
    (h : Fin 4) (d : Fin 128) (e : Fin 256) :
    (∑ i, (chunk A Y k h).o' i e * (chunk A Y k h).x i e * (chunk A Y k h).rq i d) + costateAt A Y n h d e * decayOver h =
      costateAt A Y (n + 1) h d e := by
  have e1 : chunkNo (31 - n) = k := Fin.ext (by show (31 - n) % 32 = k; omega)
  rw [add_comm]
  show _ = (headAt A Y (chunkNo (31 - n)) h (stateAt A (31 - n) h) (costateAt A Y n h)).ds (decayOver h) d e
  rw [e1, ← hk]
  rfl

theorem v410_at (z : Fin 1) (h : Fin 4) (d : Fin 128) (e : Fin 256) :
    res_main_v410 V0 (ix4 z h d e) = (costateAt (pA V0) (pY V0) 0 h d e : EReal) := by
  unfold res_main_v410; pointwise; rfl

theorem v418_at (z : Fin 1) (h : Fin 4) (d : Fin 128) (e : Fin 256) :
    res_main_v418 V0 (ix4 z h d e) = (costateAt (pA V0) (pY V0) 1 h d e : EReal) := by
  unfold res_main_v418; pointwise [v410_at, v127_at, v411_at]
  exact costate_succ (pA V0) (pY V0) 0 31 rfl h d e

theorem v423_at (z : Fin 1) (h : Fin 4) (d : Fin 128) (e : Fin 256) :
    res_main_v423 V0 (ix4 z h d e) = (costateAt (pA V0) (pY V0) 2 h d e : EReal) := by
  unfold res_main_v423; pointwise [v418_at, v127_at, v411_at]
  exact costate_succ (pA V0) (pY V0) 1 30 rfl h d e

theorem v428_at (z : Fin 1) (h : Fin 4) (d : Fin 128) (e : Fin 256) :
    res_main_v428 V0 (ix4 z h d e) = (costateAt (pA V0) (pY V0) 3 h d e : EReal) := by
  unfold res_main_v428; pointwise [v423_at, v127_at, v411_at]
  exact costate_succ (pA V0) (pY V0) 2 29 rfl h d e

theorem v433_at (z : Fin 1) (h : Fin 4) (d : Fin 128) (e : Fin 256) :
    res_main_v433 V0 (ix4 z h d e) = (costateAt (pA V0) (pY V0) 4 h d e : EReal) := by
  unfold res_main_v433; pointwise [v428_at, v127_at, v411_at]
  exact costate_succ (pA V0) (pY V0) 3 28 rfl h d e

theorem v438_at (z : Fin 1) (h : Fin 4) (d : Fin 128) (e : Fin 256) :
    res_main_v438 V0 (ix4 z h d e) = (costateAt (pA V0) (pY V0) 5 h d e : EReal) := by
  unfold res_main_v438; pointwise [v433_at, v127_at, v411_at]
  exact costate_succ (pA V0) (pY V0) 4 27 rfl h d e

theorem v443_at (z : Fin 1) (h : Fin 4) (d : Fin 128) (e : Fin 256) :
    res_main_v443 V0 (ix4 z h d e) = (costateAt (pA V0) (pY V0) 6 h d e : EReal) := by
  unfold res_main_v443; pointwise [v438_at, v127_at, v411_at]
  exact costate_succ (pA V0) (pY V0) 5 26 rfl h d e

theorem v448_at (z : Fin 1) (h : Fin 4) (d : Fin 128) (e : Fin 256) :
    res_main_v448 V0 (ix4 z h d e) = (costateAt (pA V0) (pY V0) 7 h d e : EReal) := by
  unfold res_main_v448; pointwise [v443_at, v127_at, v411_at]
  exact costate_succ (pA V0) (pY V0) 6 25 rfl h d e

theorem v453_at (z : Fin 1) (h : Fin 4) (d : Fin 128) (e : Fin 256) :
    res_main_v453 V0 (ix4 z h d e) = (costateAt (pA V0) (pY V0) 8 h d e : EReal) := by
  unfold res_main_v453; pointwise [v448_at, v127_at, v411_at]
  exact costate_succ (pA V0) (pY V0) 7 24 rfl h d e

theorem v458_at (z : Fin 1) (h : Fin 4) (d : Fin 128) (e : Fin 256) :
    res_main_v458 V0 (ix4 z h d e) = (costateAt (pA V0) (pY V0) 9 h d e : EReal) := by
  unfold res_main_v458; pointwise [v453_at, v127_at, v411_at]
  exact costate_succ (pA V0) (pY V0) 8 23 rfl h d e

theorem v463_at (z : Fin 1) (h : Fin 4) (d : Fin 128) (e : Fin 256) :
    res_main_v463 V0 (ix4 z h d e) = (costateAt (pA V0) (pY V0) 10 h d e : EReal) := by
  unfold res_main_v463; pointwise [v458_at, v127_at, v411_at]
  exact costate_succ (pA V0) (pY V0) 9 22 rfl h d e

theorem v468_at (z : Fin 1) (h : Fin 4) (d : Fin 128) (e : Fin 256) :
    res_main_v468 V0 (ix4 z h d e) = (costateAt (pA V0) (pY V0) 11 h d e : EReal) := by
  unfold res_main_v468; pointwise [v463_at, v127_at, v411_at]
  exact costate_succ (pA V0) (pY V0) 10 21 rfl h d e

theorem v473_at (z : Fin 1) (h : Fin 4) (d : Fin 128) (e : Fin 256) :
    res_main_v473 V0 (ix4 z h d e) = (costateAt (pA V0) (pY V0) 12 h d e : EReal) := by
  unfold res_main_v473; pointwise [v468_at, v127_at, v411_at]
  exact costate_succ (pA V0) (pY V0) 11 20 rfl h d e

theorem v478_at (z : Fin 1) (h : Fin 4) (d : Fin 128) (e : Fin 256) :
    res_main_v478 V0 (ix4 z h d e) = (costateAt (pA V0) (pY V0) 13 h d e : EReal) := by
  unfold res_main_v478; pointwise [v473_at, v127_at, v411_at]
  exact costate_succ (pA V0) (pY V0) 12 19 rfl h d e

theorem v483_at (z : Fin 1) (h : Fin 4) (d : Fin 128) (e : Fin 256) :
    res_main_v483 V0 (ix4 z h d e) = (costateAt (pA V0) (pY V0) 14 h d e : EReal) := by
  unfold res_main_v483; pointwise [v478_at, v127_at, v411_at]
  exact costate_succ (pA V0) (pY V0) 13 18 rfl h d e

theorem v488_at (z : Fin 1) (h : Fin 4) (d : Fin 128) (e : Fin 256) :
    res_main_v488 V0 (ix4 z h d e) = (costateAt (pA V0) (pY V0) 15 h d e : EReal) := by
  unfold res_main_v488; pointwise [v483_at, v127_at, v411_at]
  exact costate_succ (pA V0) (pY V0) 14 17 rfl h d e

theorem v493_at (z : Fin 1) (h : Fin 4) (d : Fin 128) (e : Fin 256) :
    res_main_v493 V0 (ix4 z h d e) = (costateAt (pA V0) (pY V0) 16 h d e : EReal) := by
  unfold res_main_v493; pointwise [v488_at, v127_at, v411_at]
  exact costate_succ (pA V0) (pY V0) 15 16 rfl h d e

theorem v498_at (z : Fin 1) (h : Fin 4) (d : Fin 128) (e : Fin 256) :
    res_main_v498 V0 (ix4 z h d e) = (costateAt (pA V0) (pY V0) 17 h d e : EReal) := by
  unfold res_main_v498; pointwise [v493_at, v127_at, v411_at]
  exact costate_succ (pA V0) (pY V0) 16 15 rfl h d e

theorem v503_at (z : Fin 1) (h : Fin 4) (d : Fin 128) (e : Fin 256) :
    res_main_v503 V0 (ix4 z h d e) = (costateAt (pA V0) (pY V0) 18 h d e : EReal) := by
  unfold res_main_v503; pointwise [v498_at, v127_at, v411_at]
  exact costate_succ (pA V0) (pY V0) 17 14 rfl h d e

theorem v508_at (z : Fin 1) (h : Fin 4) (d : Fin 128) (e : Fin 256) :
    res_main_v508 V0 (ix4 z h d e) = (costateAt (pA V0) (pY V0) 19 h d e : EReal) := by
  unfold res_main_v508; pointwise [v503_at, v127_at, v411_at]
  exact costate_succ (pA V0) (pY V0) 18 13 rfl h d e

theorem v513_at (z : Fin 1) (h : Fin 4) (d : Fin 128) (e : Fin 256) :
    res_main_v513 V0 (ix4 z h d e) = (costateAt (pA V0) (pY V0) 20 h d e : EReal) := by
  unfold res_main_v513; pointwise [v508_at, v127_at, v411_at]
  exact costate_succ (pA V0) (pY V0) 19 12 rfl h d e

theorem v518_at (z : Fin 1) (h : Fin 4) (d : Fin 128) (e : Fin 256) :
    res_main_v518 V0 (ix4 z h d e) = (costateAt (pA V0) (pY V0) 21 h d e : EReal) := by
  unfold res_main_v518; pointwise [v513_at, v127_at, v411_at]
  exact costate_succ (pA V0) (pY V0) 20 11 rfl h d e

theorem v523_at (z : Fin 1) (h : Fin 4) (d : Fin 128) (e : Fin 256) :
    res_main_v523 V0 (ix4 z h d e) = (costateAt (pA V0) (pY V0) 22 h d e : EReal) := by
  unfold res_main_v523; pointwise [v518_at, v127_at, v411_at]
  exact costate_succ (pA V0) (pY V0) 21 10 rfl h d e

theorem v528_at (z : Fin 1) (h : Fin 4) (d : Fin 128) (e : Fin 256) :
    res_main_v528 V0 (ix4 z h d e) = (costateAt (pA V0) (pY V0) 23 h d e : EReal) := by
  unfold res_main_v528; pointwise [v523_at, v127_at, v411_at]
  exact costate_succ (pA V0) (pY V0) 22 9 rfl h d e

theorem v533_at (z : Fin 1) (h : Fin 4) (d : Fin 128) (e : Fin 256) :
    res_main_v533 V0 (ix4 z h d e) = (costateAt (pA V0) (pY V0) 24 h d e : EReal) := by
  unfold res_main_v533; pointwise [v528_at, v127_at, v411_at]
  exact costate_succ (pA V0) (pY V0) 23 8 rfl h d e

theorem v538_at (z : Fin 1) (h : Fin 4) (d : Fin 128) (e : Fin 256) :
    res_main_v538 V0 (ix4 z h d e) = (costateAt (pA V0) (pY V0) 25 h d e : EReal) := by
  unfold res_main_v538; pointwise [v533_at, v127_at, v411_at]
  exact costate_succ (pA V0) (pY V0) 24 7 rfl h d e

theorem v543_at (z : Fin 1) (h : Fin 4) (d : Fin 128) (e : Fin 256) :
    res_main_v543 V0 (ix4 z h d e) = (costateAt (pA V0) (pY V0) 26 h d e : EReal) := by
  unfold res_main_v543; pointwise [v538_at, v127_at, v411_at]
  exact costate_succ (pA V0) (pY V0) 25 6 rfl h d e

theorem v548_at (z : Fin 1) (h : Fin 4) (d : Fin 128) (e : Fin 256) :
    res_main_v548 V0 (ix4 z h d e) = (costateAt (pA V0) (pY V0) 27 h d e : EReal) := by
  unfold res_main_v548; pointwise [v543_at, v127_at, v411_at]
  exact costate_succ (pA V0) (pY V0) 26 5 rfl h d e

theorem v553_at (z : Fin 1) (h : Fin 4) (d : Fin 128) (e : Fin 256) :
    res_main_v553 V0 (ix4 z h d e) = (costateAt (pA V0) (pY V0) 28 h d e : EReal) := by
  unfold res_main_v553; pointwise [v548_at, v127_at, v411_at]
  exact costate_succ (pA V0) (pY V0) 27 4 rfl h d e

theorem v558_at (z : Fin 1) (h : Fin 4) (d : Fin 128) (e : Fin 256) :
    res_main_v558 V0 (ix4 z h d e) = (costateAt (pA V0) (pY V0) 29 h d e : EReal) := by
  unfold res_main_v558; pointwise [v553_at, v127_at, v411_at]
  exact costate_succ (pA V0) (pY V0) 28 3 rfl h d e

theorem v563_at (z : Fin 1) (h : Fin 4) (d : Fin 128) (e : Fin 256) :
    res_main_v563 V0 (ix4 z h d e) = (costateAt (pA V0) (pY V0) 30 h d e : EReal) := by
  unfold res_main_v563; pointwise [v558_at, v127_at, v411_at]
  exact costate_succ (pA V0) (pY V0) 29 2 rfl h d e

theorem v568_at (z : Fin 1) (h : Fin 4) (d : Fin 128) (e : Fin 256) :
    res_main_v568 V0 (ix4 z h d e) = (costateAt (pA V0) (pY V0) 31 h d e : EReal) := by
  unfold res_main_v568; pointwise [v563_at, v127_at, v411_at]
  exact costate_succ (pA V0) (pY V0) 30 1 rfl h d e

theorem low_costacks :
    (concatenate S16x1x4x128x256 0 [⟨S1x1x4x128x256, ((broadcastInDim S1x1x4x128x256 ![1, 2, 3, 4] bcast_S1x4x128x256_S1x1x4x128x256_1_2_3_4 (res_main_v568 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v563 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v558 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v553 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v548 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v543 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v538 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v533 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v528 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v523 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v518 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v513 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v508 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v503 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v498 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v493 V0)) : (⟨S1x1x4x128x256, .f32⟩ : BufTy).Contents (Elt Ideal))⟩] concatenates_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S16x1x4x128x256_d0 : FVec Ideal S16x1x4x128x256 .f32) =
      fun x : S16x1x4x128x256.Idx => (costateAt (pA V0) (pY V0) (31 - (0 + x 0)) (x 2) (x 3) (x 4) : EReal) := by
  refine funext fun (x : S16x1x4x128x256.Idx) => ?_
  concat_tiles i h
  case piece0 =>
    rw [h, ← show i 2 = x 2 from Fin.ext h2, ← show i 3 = x 3 from Fin.ext h3, ← show i 4 = x 4 from Fin.ext h4, eq_ix5 i]
    pointwise [v568_at]
  case piece1 =>
    rw [h, ← show i 2 = x 2 from Fin.ext h2, ← show i 3 = x 3 from Fin.ext h3, ← show i 4 = x 4 from Fin.ext h4, eq_ix5 i]
    pointwise [v563_at]
  case piece2 =>
    rw [h, ← show i 2 = x 2 from Fin.ext h2, ← show i 3 = x 3 from Fin.ext h3, ← show i 4 = x 4 from Fin.ext h4, eq_ix5 i]
    pointwise [v558_at]
  case piece3 =>
    rw [h, ← show i 2 = x 2 from Fin.ext h2, ← show i 3 = x 3 from Fin.ext h3, ← show i 4 = x 4 from Fin.ext h4, eq_ix5 i]
    pointwise [v553_at]
  case piece4 =>
    rw [h, ← show i 2 = x 2 from Fin.ext h2, ← show i 3 = x 3 from Fin.ext h3, ← show i 4 = x 4 from Fin.ext h4, eq_ix5 i]
    pointwise [v548_at]
  case piece5 =>
    rw [h, ← show i 2 = x 2 from Fin.ext h2, ← show i 3 = x 3 from Fin.ext h3, ← show i 4 = x 4 from Fin.ext h4, eq_ix5 i]
    pointwise [v543_at]
  case piece6 =>
    rw [h, ← show i 2 = x 2 from Fin.ext h2, ← show i 3 = x 3 from Fin.ext h3, ← show i 4 = x 4 from Fin.ext h4, eq_ix5 i]
    pointwise [v538_at]
  case piece7 =>
    rw [h, ← show i 2 = x 2 from Fin.ext h2, ← show i 3 = x 3 from Fin.ext h3, ← show i 4 = x 4 from Fin.ext h4, eq_ix5 i]
    pointwise [v533_at]
  case piece8 =>
    rw [h, ← show i 2 = x 2 from Fin.ext h2, ← show i 3 = x 3 from Fin.ext h3, ← show i 4 = x 4 from Fin.ext h4, eq_ix5 i]
    pointwise [v528_at]
  case piece9 =>
    rw [h, ← show i 2 = x 2 from Fin.ext h2, ← show i 3 = x 3 from Fin.ext h3, ← show i 4 = x 4 from Fin.ext h4, eq_ix5 i]
    pointwise [v523_at]
  case piece10 =>
    rw [h, ← show i 2 = x 2 from Fin.ext h2, ← show i 3 = x 3 from Fin.ext h3, ← show i 4 = x 4 from Fin.ext h4, eq_ix5 i]
    pointwise [v518_at]
  case piece11 =>
    rw [h, ← show i 2 = x 2 from Fin.ext h2, ← show i 3 = x 3 from Fin.ext h3, ← show i 4 = x 4 from Fin.ext h4, eq_ix5 i]
    pointwise [v513_at]
  case piece12 =>
    rw [h, ← show i 2 = x 2 from Fin.ext h2, ← show i 3 = x 3 from Fin.ext h3, ← show i 4 = x 4 from Fin.ext h4, eq_ix5 i]
    pointwise [v508_at]
  case piece13 =>
    rw [h, ← show i 2 = x 2 from Fin.ext h2, ← show i 3 = x 3 from Fin.ext h3, ← show i 4 = x 4 from Fin.ext h4, eq_ix5 i]
    pointwise [v503_at]
  case piece14 =>
    rw [h, ← show i 2 = x 2 from Fin.ext h2, ← show i 3 = x 3 from Fin.ext h3, ← show i 4 = x 4 from Fin.ext h4, eq_ix5 i]
    pointwise [v498_at]
  case piece15 =>
    rw [h, ← show i 2 = x 2 from Fin.ext h2, ← show i 3 = x 3 from Fin.ext h3, ← show i 4 = x 4 from Fin.ext h4, eq_ix5 i]
    pointwise [v493_at]

theorem high_costacks :
    (concatenate S16x1x4x128x256 0 [⟨S1x1x4x128x256, ((broadcastInDim S1x1x4x128x256 ![1, 2, 3, 4] bcast_S1x4x128x256_S1x1x4x128x256_1_2_3_4 (res_main_v488 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v483 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v478 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v473 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v468 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v463 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v458 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v453 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v448 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v443 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v438 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v433 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v428 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v423 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v418 V0)) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 (res_main_v410 V0)) : (⟨S1x1x4x128x256, .f32⟩ : BufTy).Contents (Elt Ideal))⟩] concatenates_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S16x1x4x128x256_d0 : FVec Ideal S16x1x4x128x256 .f32) =
      fun x : S16x1x4x128x256.Idx => (costateAt (pA V0) (pY V0) (31 - (16 + x 0)) (x 2) (x 3) (x 4) : EReal) := by
  refine funext fun (x : S16x1x4x128x256.Idx) => ?_
  concat_tiles i h
  case piece0 =>
    rw [h, ← show i 2 = x 2 from Fin.ext h2, ← show i 3 = x 3 from Fin.ext h3, ← show i 4 = x 4 from Fin.ext h4, eq_ix5 i]
    pointwise [v488_at]
  case piece1 =>
    rw [h, ← show i 2 = x 2 from Fin.ext h2, ← show i 3 = x 3 from Fin.ext h3, ← show i 4 = x 4 from Fin.ext h4, eq_ix5 i]
    pointwise [v483_at]
  case piece2 =>
    rw [h, ← show i 2 = x 2 from Fin.ext h2, ← show i 3 = x 3 from Fin.ext h3, ← show i 4 = x 4 from Fin.ext h4, eq_ix5 i]
    pointwise [v478_at]
  case piece3 =>
    rw [h, ← show i 2 = x 2 from Fin.ext h2, ← show i 3 = x 3 from Fin.ext h3, ← show i 4 = x 4 from Fin.ext h4, eq_ix5 i]
    pointwise [v473_at]
  case piece4 =>
    rw [h, ← show i 2 = x 2 from Fin.ext h2, ← show i 3 = x 3 from Fin.ext h3, ← show i 4 = x 4 from Fin.ext h4, eq_ix5 i]
    pointwise [v468_at]
  case piece5 =>
    rw [h, ← show i 2 = x 2 from Fin.ext h2, ← show i 3 = x 3 from Fin.ext h3, ← show i 4 = x 4 from Fin.ext h4, eq_ix5 i]
    pointwise [v463_at]
  case piece6 =>
    rw [h, ← show i 2 = x 2 from Fin.ext h2, ← show i 3 = x 3 from Fin.ext h3, ← show i 4 = x 4 from Fin.ext h4, eq_ix5 i]
    pointwise [v458_at]
  case piece7 =>
    rw [h, ← show i 2 = x 2 from Fin.ext h2, ← show i 3 = x 3 from Fin.ext h3, ← show i 4 = x 4 from Fin.ext h4, eq_ix5 i]
    pointwise [v453_at]
  case piece8 =>
    rw [h, ← show i 2 = x 2 from Fin.ext h2, ← show i 3 = x 3 from Fin.ext h3, ← show i 4 = x 4 from Fin.ext h4, eq_ix5 i]
    pointwise [v448_at]
  case piece9 =>
    rw [h, ← show i 2 = x 2 from Fin.ext h2, ← show i 3 = x 3 from Fin.ext h3, ← show i 4 = x 4 from Fin.ext h4, eq_ix5 i]
    pointwise [v443_at]
  case piece10 =>
    rw [h, ← show i 2 = x 2 from Fin.ext h2, ← show i 3 = x 3 from Fin.ext h3, ← show i 4 = x 4 from Fin.ext h4, eq_ix5 i]
    pointwise [v438_at]
  case piece11 =>
    rw [h, ← show i 2 = x 2 from Fin.ext h2, ← show i 3 = x 3 from Fin.ext h3, ← show i 4 = x 4 from Fin.ext h4, eq_ix5 i]
    pointwise [v433_at]
  case piece12 =>
    rw [h, ← show i 2 = x 2 from Fin.ext h2, ← show i 3 = x 3 from Fin.ext h3, ← show i 4 = x 4 from Fin.ext h4, eq_ix5 i]
    pointwise [v428_at]
  case piece13 =>
    rw [h, ← show i 2 = x 2 from Fin.ext h2, ← show i 3 = x 3 from Fin.ext h3, ← show i 4 = x 4 from Fin.ext h4, eq_ix5 i]
    pointwise [v423_at]
  case piece14 =>
    rw [h, ← show i 2 = x 2 from Fin.ext h2, ← show i 3 = x 3 from Fin.ext h3, ← show i 4 = x 4 from Fin.ext h4, eq_ix5 i]
    pointwise [v418_at]
  case piece15 =>
    rw [h, ← show i 2 = x 2 from Fin.ext h2, ← show i 3 = x 3 from Fin.ext h3, ← show i 4 = x 4 from Fin.ext h4, eq_ix5 i]
    pointwise [v410_at]

theorem v608_at (n : Fin 32) (z : Fin 1) (h : Fin 4) (d : Fin 128) (e : Fin 256) :
    res_main_v608 V0 (ix5 n z h d e) = (costateAt (pA V0) (pY V0) (31 - n) h d e : EReal) := by
  unfold res_main_v608
  exact congrFun (join_stacks (fun n => costateAt (pA V0) (pY V0) (31 - n)) _ _ (low_costacks V0) (high_costacks V0)) (ix5 n z h d e)

theorem v610_at (z : Fin 1) (n : Fin 32) (h : Fin 4) (d : Fin 128) (e : Fin 256) :
    res_main_v610 V0 (ix5 z n h d e) = ((pC V0 n h).d d e : EReal) := by
  unfold res_main_v610
  pointwise [v608_at]
  rfl

end Cert.Retention.Plain

end
-- ==== Proof.RefGrads.lean ====
/-
  The reference's results.
-/
module

public import proofs.«01_k».proof.Proof.RefCostates
public import Idealize.ShloMosaic.Lib.StableHlo.ReadAt

@[expose] public section

set_option maxRecDepth 16384

noncomputable section

namespace Cert.Retention.Plain

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

theorem v617_at (z : Fin 1) (n : Fin 32) (h : Fin 4) (e : Fin 256) (i : Fin 128) :
    res_main_v617 V0 (ix5 z n h e i) = ((pC V0 n h).o' i e : EReal) := by
  unfold res_main_v617
  pointwise [v401_at]

theorem v623_at (z : Fin 1) (n : Fin 32) (h : Fin 4) (i j : Fin 128) :
    res_main_v623 V0 (ix5 z n h i j) = (dScore (pC V0 n h).a (pC V0 n h).o' (pC V0 n h).v i j : EReal) := by
  unfold res_main_v623
  pointwise [v617_at, v105_at, v107_at]
  rfl

theorem v633_at (z : Fin 1) (n : Fin 32) (i : Fin 128) (p : (n : ℕ) * 128 + i < 4096) (h : Fin 4) (d : Fin 128) :
    res_main_v633 V0 (ix4 z ⟨n * 128 + i, p⟩ h d) = (dKey (pC V0 n h).rq (pC V0 n h).a (pC V0 n h).z (pC V0 n h).o' (pC V0 n h).v (pC V0 n h).d i d : EReal) := by
  unfold res_main_v633
  pointwise [v610_at, v105_at, v120_at, v623_at, v101_at]
  rfl

theorem v634_at (z : Fin 1) (n : Fin 32) (i : Fin 128) (p : (n : ℕ) * 128 + i < 4096) (h : Fin 4) (d : Fin 128) :
    res_main_v634 V0 (ix4 z ⟨n * 128 + i, p⟩ h d) = (dQuery (pC V0 n h).rk (pC V0 n h).a (pC V0 n h).o' (pC V0 n h).v (pC V0 n h).s (pC V0 n h).x i d : EReal) := by
  unfold res_main_v634
  pointwise [v404_at, v331_at, v623_at, v104_at]
  rfl

theorem v636_at (z : Fin 1) (n : Fin 32) (i : Fin 128) (p : (n : ℕ) * 128 + i < 4096) (h : Fin 4) (d : Fin 64) :
    res_main_v636 V0 (ix4 z ⟨n * 128 + i, p⟩ h d) = (dKey (pC V0 n h).rq (pC V0 n h).a (pC V0 n h).z (pC V0 n h).o' (pC V0 n h).v (pC V0 n h).d i ⟨d, by omega⟩ : EReal) := by
  unfold res_main_v636
  pointwise [v633_at]

theorem v637_at (z : Fin 1) (n : Fin 32) (i : Fin 128) (p : (n : ℕ) * 128 + i < 4096) (h : Fin 4) (d : Fin 64) :
    res_main_v637 V0 (ix4 z ⟨n * 128 + i, p⟩ h d) = (dKey (pC V0 n h).rq (pC V0 n h).a (pC V0 n h).z (pC V0 n h).o' (pC V0 n h).v (pC V0 n h).d i ⟨64 + d, by omega⟩ : EReal) := by
  unfold res_main_v637
  pointwise [v633_at]

theorem v653_at (z : Fin 1) (n : Fin 32) (i : Fin 128) (p : (n : ℕ) * 128 + i < 4096) (h : Fin 4) (d : Fin 64) :
    res_main_v653 V0 (ix4 z ⟨n * 128 + i, p⟩ h d) = (dQuery (pC V0 n h).rk (pC V0 n h).a (pC V0 n h).o' (pC V0 n h).v (pC V0 n h).s (pC V0 n h).x i ⟨d, by omega⟩ : EReal) := by
  unfold res_main_v653
  pointwise [v634_at]

theorem v654_at (z : Fin 1) (n : Fin 32) (i : Fin 128) (p : (n : ℕ) * 128 + i < 4096) (h : Fin 4) (d : Fin 64) :
    res_main_v654 V0 (ix4 z ⟨n * 128 + i, p⟩ h d) = (dQuery (pC V0 n h).rk (pC V0 n h).a (pC V0 n h).o' (pC V0 n h).v (pC V0 n h).s (pC V0 n h).x i ⟨64 + d, by omega⟩ : EReal) := by
  unfold res_main_v654
  pointwise [v634_at]

theorem v25_at (z : Fin 1) (r : Fin 4096) (z' : Fin 1) (i : Fin 64) :
    res_main_v25 V0 (ix4 z r z' i) = (Ideal.cos (angle r i) : EReal) := by
  unfold res_main_v25
  pointwise [v23_at, v57_at]

theorem v59_at (z : Fin 1) (r : Fin 4096) (z' : Fin 1) (i : Fin 64) :
    res_main_v59 V0 (ix4 z r z' i) = (Ideal.cos (angle r i) : EReal) := by
  unfold res_main_v59
  pointwise [v23_at, v57_at]

theorem v27_at (z : Fin 1) (r : Fin 4096) (z' : Fin 1) (i : Fin 64) :
    res_main_v27 V0 (ix4 z r z' i) = (Ideal.sin (angle r i) : EReal) := by
  unfold res_main_v27
  pointwise [v23_at, v57_at]

theorem v61_at (z : Fin 1) (r : Fin 4096) (z' : Fin 1) (i : Fin 64) :
    res_main_v61 V0 (ix4 z r z' i) = (Ideal.sin (angle r i) : EReal) := by
  unfold res_main_v61
  pointwise [v23_at, v57_at]

/-- The rotation back, half by half. -/
theorem back_halves (r : ℕ) (cs sn y : Fin 128 → Fin 128 → EReal) (i d : Fin 128)
    (hc : ∀ d, cs i d = cosT r d) (hs : ∀ d, sn i d = sinT r d) :
    back cs sn y i d =
      if h : (d : ℕ) < 64 then y i ⟨64 + d, by omega⟩ * Ideal.sin (angle r d) + y i d * Ideal.cos (angle r d)
      else y i d * Ideal.cos (angle r (d - 64)) + -y i ⟨d - 64, by omega⟩ * Ideal.sin (angle r (d - 64)) := by
  unfold back
  rw [hc, hs]
  unfold cosT sinT
  by_cases h : (d : ℕ) < 64
  · have ho := other_lo d h
    have hn : ¬((other d : Fin 128) : ℕ) < 64 := by omega
    simp only [h, hn, ↓reduceIte, ↓reduceDIte]
    rw [add_comm, ho, Nat.add_sub_cancel_left, show other d = ⟨64 + d, by omega⟩ from Fin.ext ho]
  · have ho := other_hi d h
    have hn : ((other d : Fin 128) : ℕ) < 64 := by omega
    simp only [h, hn, ↓reduceIte, ↓reduceDIte]
    rw [ho, show other d = ⟨d - 64, by omega⟩ from Fin.ext ho, mul_neg, neg_mul]

/-- Two padded halves side by side are one row of the rotation back. -/
theorem pad_halves (r : ℕ) (hr : r < 4096) (cs sn y : Fin 128 → Fin 128 → EReal) (i d : Fin 128)
    (hc : ∀ d, cs i d = cosT r d) (hs : ∀ d, sn i d = sinT r d) :
    ((if h : r < 4096 ∧ 64 ≤ (d : ℕ) ∧ (d : ℕ) - 64 < 64 then
        y i ⟨64 + (d - 64), by omega⟩ * Ideal.cos (angle r (d - 64)) + -y i ⟨d - 64, by omega⟩ * Ideal.sin (angle r (d - 64))
      else 0) +
      if h : r < 4096 ∧ (d : ℕ) < 64 then y i ⟨64 + d, by omega⟩ * Ideal.sin (angle r d) + y i d * Ideal.cos (angle r d)
      else 0) = back cs sn y i d := by
  rw [back_halves r cs sn y i d hc hs]
  have hd2 : (d : ℕ) < 128 := d.isLt
  by_cases hd : (d : ℕ) < 64
  · have c1 : ¬(r < 4096 ∧ 64 ≤ (d : ℕ) ∧ (d : ℕ) - 64 < 64) := by omega
    have c2 : r < 4096 ∧ (d : ℕ) < 64 := ⟨hr, hd⟩
    rw [dif_neg c1, dif_pos c2, dif_pos hd, zero_add]
  · have c1 : r < 4096 ∧ 64 ≤ (d : ℕ) ∧ (d : ℕ) - 64 < 64 := by omega
    have c2 : ¬(r < 4096 ∧ (d : ℕ) < 64) := by omega
    have ed : (⟨64 + ((d : ℕ) - 64), by omega⟩ : Fin 128) = d := Fin.ext (by show 64 + ((d : ℕ) - 64) = d; omega)
    rw [dif_pos c1, dif_neg c2, dif_neg hd, add_zero, ed]

/-- An array over the heads' columns, read at an index. -/
theorem heads_128 (f : FVec Ideal S4096x512 .bf16) (g : Fin 32 → Fin 4 → Fin 128 → Fin 128 → EReal)
    (hf : ∀ (n : Fin 32) (i : Fin 128) (h : Fin 4) (d : Fin 128) (p : (n : ℕ) * 128 + i < 4096) (p' : (h : ℕ) * 128 + d < 512),
      f (ix2 ⟨n * 128 + i, p⟩ ⟨h * 128 + d, p'⟩) = g n h i d) (x : S4096x512.Idx) (q : (x 1 : ℕ) / 128 < 4) (q' : (x 1 : ℕ) % 128 < 128) :
    f x = g (chunkIx (x 0)) ⟨(x 1 : ℕ) / 128, q⟩ (posIx (x 0)) ⟨(x 1 : ℕ) % 128, q'⟩ := by
  have hx1 : (x 1 : ℕ) < 512 := (x 1).isLt
  refine Eq.trans (congrArg f ((eq_ix2 x).trans (congrArg₂ ix2 (row_eq (x 0)).symm ?_)))
    (hf (chunkIx (x 0)) (posIx (x 0)) ⟨(x 1 : ℕ) / 128, q⟩ ⟨(x 1 : ℕ) % 128, q'⟩ (row (chunkIx (x 0)) (posIx (x 0))).isLt
      (by show (x 1 : ℕ) / 128 * 128 + (x 1 : ℕ) % 128 < 512; omega))
  exact Fin.ext (by show (x 1 : ℕ) = (x 1 : ℕ) / 128 * 128 + (x 1 : ℕ) % 128; omega)

/-- An array over the heads' columns, read at an index. -/
theorem heads_256 (f : FVec Ideal S4096x1024 .bf16) (g : Fin 32 → Fin 4 → Fin 128 → Fin 256 → EReal)
    (hf : ∀ (n : Fin 32) (i : Fin 128) (h : Fin 4) (d : Fin 256) (p : (n : ℕ) * 128 + i < 4096) (p' : (h : ℕ) * 256 + d < 1024),
      f (ix2 ⟨n * 128 + i, p⟩ ⟨h * 256 + d, p'⟩) = g n h i d) (x : S4096x1024.Idx) (q : (x 1 : ℕ) / 256 < 4) (q' : (x 1 : ℕ) % 256 < 256) :
    f x = g (chunkIx (x 0)) ⟨(x 1 : ℕ) / 256, q⟩ (posIx (x 0)) ⟨(x 1 : ℕ) % 256, q'⟩ := by
  have hx1 : (x 1 : ℕ) < 1024 := (x 1).isLt
  refine Eq.trans (congrArg f ((eq_ix2 x).trans (congrArg₂ ix2 (row_eq (x 0)).symm ?_)))
    (hf (chunkIx (x 0)) (posIx (x 0)) ⟨(x 1 : ℕ) / 256, q⟩ ⟨(x 1 : ℕ) % 256, q'⟩ (row (chunkIx (x 0)) (posIx (x 0))).isLt
      (by show (x 1 : ℕ) / 256 * 256 + (x 1 : ℕ) % 256 < 1024; omega))
  exact Fin.ext (by show (x 1 : ℕ) = (x 1 : ℕ) / 256 * 256 + (x 1 : ℕ) % 256; omega)

theorem dq_res : (truncf .bf16 (shapeCast S4096x512 (shapeCast S1x4096x512 (addf (pad S1x4096x4x128 ![0, 0, 0, 64] ![0, 0, 0, 0] ![0, 0, 0, 0] (addf (mulf (res_main_v654 V0) (broadcastInDim S1x4096x4x64 ![0, 1, 2, 3] bcast_S1x4096x1x64_S1x4096x4x64_0_1_2_3 (res_main_v25 V0))) (mulf (Host.negf (res_main_v653 V0)) (broadcastInDim S1x4096x4x64 ![0, 1, 2, 3] bcast_S1x4096x1x64_S1x4096x4x64_0_1_2_3 (res_main_v27 V0)))) (constant S_ .f32 0x00000000#32) pads_S1x4096x4x64_S1x4096x4x128_000_000_000_6400 h_S_) (pad S1x4096x4x128 ![0, 0, 0, 0] ![0, 0, 0, 64] ![0, 0, 0, 0] (addf (mulf (res_main_v654 V0) (broadcastInDim S1x4096x4x64 ![0, 1, 2, 3] bcast_S1x4096x1x64_S1x4096x4x64_0_1_2_3 (res_main_v27 V0))) (mulf (res_main_v653 V0) (broadcastInDim S1x4096x4x64 ![0, 1, 2, 3] bcast_S1x4096x1x64_S1x4096x4x64_0_1_2_3 (res_main_v25 V0)))) (constant S_ .f32 0x00000000#32) pads_S1x4096x4x64_S1x4096x4x128_000_000_000_0640 h_S_)) shapeCasts_S1x4096x4x128_S1x4096x512) shapeCasts_S1x4096x512_S4096x512) bitsLt_bf16_f32 : FVec Ideal S4096x512 .bf16) = dqAll (pA V0) (pY V0) := by
  refine funext fun (x : S4096x512.Idx) => heads_128 _ (fun n h => (pC V0 n h).dq) (fun n i h d p p' => ?_) x _ _
  clean_types
  pointwise [v25_at, v27_at, v653_at, v654_at]
  exact pad_halves (n * 128 + i) p (pC V0 n h).cs (pC V0 n h).sn (dQuery (pC V0 n h).rk (pC V0 n h).a (pC V0 n h).o' (pC V0 n h).v (pC V0 n h).s (pC V0 n h).x) i d (fun _ => rfl) (fun _ => rfl)

theorem dk_res : (truncf .bf16 (shapeCast S4096x512 (shapeCast S1x4096x512 (addf (pad S1x4096x4x128 ![0, 0, 0, 64] ![0, 0, 0, 0] ![0, 0, 0, 0] (addf (mulf (res_main_v637 V0) (broadcastInDim S1x4096x4x64 ![0, 1, 2, 3] bcast_S1x4096x1x64_S1x4096x4x64_0_1_2_3 (res_main_v59 V0))) (mulf (Host.negf (res_main_v636 V0)) (broadcastInDim S1x4096x4x64 ![0, 1, 2, 3] bcast_S1x4096x1x64_S1x4096x4x64_0_1_2_3 (res_main_v61 V0)))) (constant S_ .f32 0x00000000#32) pads_S1x4096x4x64_S1x4096x4x128_000_000_000_6400 h_S_) (pad S1x4096x4x128 ![0, 0, 0, 0] ![0, 0, 0, 64] ![0, 0, 0, 0] (addf (mulf (res_main_v637 V0) (broadcastInDim S1x4096x4x64 ![0, 1, 2, 3] bcast_S1x4096x1x64_S1x4096x4x64_0_1_2_3 (res_main_v61 V0))) (mulf (res_main_v636 V0) (broadcastInDim S1x4096x4x64 ![0, 1, 2, 3] bcast_S1x4096x1x64_S1x4096x4x64_0_1_2_3 (res_main_v59 V0)))) (constant S_ .f32 0x00000000#32) pads_S1x4096x4x64_S1x4096x4x128_000_000_000_0640 h_S_)) shapeCasts_S1x4096x4x128_S1x4096x512) shapeCasts_S1x4096x512_S4096x512) bitsLt_bf16_f32 : FVec Ideal S4096x512 .bf16) = dkAll (pA V0) (pY V0) := by
  refine funext fun (x : S4096x512.Idx) => heads_128 _ (fun n h => (pC V0 n h).dk) (fun n i h d p p' => ?_) x _ _
  clean_types
  pointwise [v59_at, v61_at, v636_at, v637_at]
  exact pad_halves (n * 128 + i) p (pC V0 n h).cs (pC V0 n h).sn (dKey (pC V0 n h).rq (pC V0 n h).a (pC V0 n h).z (pC V0 n h).o' (pC V0 n h).v (pC V0 n h).d) i d (fun _ => rfl) (fun _ => rfl)

theorem dv_res : (truncf .bf16 (shapeCast S4096x1024 (shapeCast S1x4096x1024 (shapeCast S1x4096x4x256 (addf (transpose S1x32x128x4x256 [0, 1, 4, 2, 3] (Host.dotGeneral (φ₁ := .f32) (φ₂ := .f32) dot_S1x32x4x128x256_S1x32x128x4x128_S1x32x4x256x128_3_4_4_2_012_013 none (res_main_v610 V0) (res_main_v122 V0)) transposes_S1x32x4x256x128_S1x32x128x4x256_0_1_4_2_3) (transpose S1x32x128x4x256 [0, 1, 4, 2, 3] (Host.dotGeneral (φ₁ := .f32) (φ₂ := .f32) dot_S1x32x4x256x128_S1x32x4x128x128_S1x32x4x256x128_4_3_3_4_012_012 none (res_main_v617 V0) (res_main_v109 V0)) transposes_S1x32x4x256x128_S1x32x128x4x256_0_1_4_2_3)) shapeCasts_S1x32x128x4x256_S1x4096x4x256) shapeCasts_S1x4096x4x256_S1x4096x1024) shapeCasts_S1x4096x1024_S4096x1024) bitsLt_bf16_f32 : FVec Ideal S4096x1024 .bf16) = dvAll (pA V0) (pY V0) := by
  refine funext fun (x : S4096x1024.Idx) => heads_256 _ (fun n h => (pC V0 n h).dv) (fun n i h d p p' => ?_) x _ _
  clean_types
  pointwise [v610_at, v122_at, v617_at, v109_at]
  rw [add_comm]
  rfl

theorem dg_res : (truncf .bf16 (shapeCast S4096x1024 (addf (mulf (res_main_v374 V0) (res_main_v367_2 V0)) (mulf (mulf (res_main_v5 V0) (res_main_v374 V0)) (mulf (res_main_v367_2 V0) (subf (broadcastInDim S1x4096x1024 ![] bcast_S_S1x4096x1024 (constant S_ .f32 0x3F800000#32)) (res_main_v367_2 V0))))) shapeCasts_S1x4096x1024_S4096x1024) bitsLt_bf16_f32 : FVec Ideal S4096x1024 .bf16) = dgAll (pA V0) (pY V0) := by
  refine funext fun (x : S4096x1024.Idx) => heads_256 _ (fun n h => (pC V0 n h).dg) (fun n i h d p p' => ?_) x _ _
  clean_types
  pointwise [v374_at, v367_2_at, v5_at]
  show _ = dGate (pC V0 n h).o (pC V0 n h).g (pC V0 n h).y i d
  unfold dGate
  pointwise
  rfl

end Cert.Retention.Plain

end
-- ==== Proof.Up.lean ====
/-
  The products of the feed-forward layer's first projection:
  forward, and the gradients of its rows and of its weight. The kernel multiplies tile by tile over the whole inner axis.
-/
module

public import proofs.«01_k».proof.Defs
public import proofs.«01_k».proof.Proof.Gen.Up.Frame
public import proofs.«01_k».proof.Proof.Gen.UpIdeal.Value
public import proofs.«01_k».proof.Proof.Gen.UpPlainIdeal.Run
public import proofs.«01_k».proof.Proof.Gen.UpDx.Frame
public import proofs.«01_k».proof.Proof.Gen.UpDxIdeal.Value
public import proofs.«01_k».proof.Proof.Gen.UpDxPlainIdeal.Run
public import proofs.«01_k».proof.Proof.Gen.UpDw.Frame
public import proofs.«01_k».proof.Proof.Gen.UpDwIdeal.Value
public import proofs.«01_k».proof.Proof.Gen.UpDwPlainIdeal.Run
public import Idealize.ShloMosaic.Lib.Pipeline.ValueKit

@[expose] public section

set_option maxRecDepth 16384

noncomputable section

namespace Cert.Products

open Idealize.ShloMosaic Idealize.ShloMosaic.TcCoe Idealize.SL.Sem

/-! ## The product -/

namespace Up

open Cert.UpIdeal Cert.UpIdeal.Gen

/-- The reference's result, of its arguments. -/
abbrev plain (a0 : FVec Ideal S4096x1024 .bf16) (a1 : FVec Ideal S1024x5632 .bf16) : FVec Ideal S4096x5632 .bf16 :=
  truncf .bf16 (Host.dotGeneral (φ₁ := .f32) (φ₂ := .f32) Cert.UpPlainIdeal.dot_S4096x1024_S1024x5632_S4096x5632_1_0_0_1_n_n none (extf .f32 a0 Cert.UpPlainIdeal.Gen.bitsLt_bf16_f32) (extf .f32 a1 Cert.UpPlainIdeal.Gen.bitsLt_bf16_f32)) Cert.UpPlainIdeal.Gen.bitsLt_bf16_f32

/-- The tiles that a grid point is given and writes. -/
theorem tiles : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_Up := fun m ρ _ => Cert.Up.Gen.frame m ρ

/-- So does the kernel over the extended reals. -/
theorem frame_ideal : Cert.quiescent_UpIdeal := fun m ρ _ => Cert.UpIdeal.Gen.frame m ρ

/-- The reference ends with its arguments and the counters as at the start. -/
theorem frame_plain : Cert.quiescent_UpPlainIdeal := fun m ρ _ =>
  (θ_run Cert.UpPlainIdeal.defs _ _).mono (fun r h => ⟨fun c => (h c).2, sem_eq_zero_of_no_sems (by decide) r.2⟩)
    (Cert.UpPlainIdeal.Value.run (F := Ideal) m ρ)

/-- Kernel and reference compute the same. -/
theorem algebraic : Cert.algebraic_UpIdeal_UpPlainIdeal := by
  intro m g m' g' _ hagree
  refine ⟨_, Cert.UpIdeal.Value.run_blocks m g, ?_⟩
  refine (θ_run Cert.UpPlainIdeal.defs _ _).mono (fun r h c => ⟨(h c).1.trans ?_, (h c).2⟩) (Cert.UpPlainIdeal.Value.run m' g')
  obtain ⟨e0, e1⟩ := hagree c
  rw [result m c, e0, e1]

end Up

/-! ## The gradient of the rows -/

namespace UpDx

open Cert.UpDxIdeal Cert.UpDxIdeal.Gen

/-- The reference's result, of its arguments. -/
abbrev plain (a1 : FVec Ideal S1024x5632 .bf16) (a2 : FVec Ideal S4096x5632 .bf16) : FVec Ideal S4096x1024 .f32 :=
  Host.dotGeneral (φ₁ := .f32) (φ₂ := .f32) Cert.UpDxPlainIdeal.dot_S4096x5632_S1024x5632_S4096x1024_1_1_0_0_n_n none (extf .f32 a2 Cert.UpDxPlainIdeal.Gen.bitsLt_bf16_f32) (extf .f32 a1 Cert.UpDxPlainIdeal.Gen.bitsLt_bf16_f32)

/-- The tiles that a grid point is given and writes. -/
theorem tiles : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg1)) (m ((c : Thread nD τ).loc main_arg2)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_UpDx := fun m ρ _ => Cert.UpDx.Gen.frame m ρ

/-- So does the kernel over the extended reals. -/
theorem frame_ideal : Cert.quiescent_UpDxIdeal := fun m ρ _ => Cert.UpDxIdeal.Gen.frame m ρ

/-- The reference ends with its arguments and the counters as at the start. -/
theorem frame_plain : Cert.quiescent_UpDxPlainIdeal := fun m ρ _ =>
  (θ_run Cert.UpDxPlainIdeal.defs _ _).mono (fun r h => ⟨fun c => (h c).2, sem_eq_zero_of_no_sems (by decide) r.2⟩)
    (Cert.UpDxPlainIdeal.Value.run (F := Ideal) m ρ)

/-- Kernel and reference compute the same. -/
theorem algebraic : Cert.algebraic_UpDxIdeal_UpDxPlainIdeal := by
  intro m g m' g' _ hagree
  refine ⟨_, Cert.UpDxIdeal.Value.run_blocks m g, ?_⟩
  refine (θ_run Cert.UpDxPlainIdeal.defs _ _).mono (fun r h c => ⟨(h c).1.trans ?_, (h c).2⟩) (Cert.UpDxPlainIdeal.Value.run m' g')
  obtain ⟨e0, e1, e2⟩ := hagree c
  rw [result m c, e1, e2]

end UpDx

/-! ## The gradient of the weight -/

namespace UpDw

open Cert.UpDwIdeal Cert.UpDwIdeal.Gen

/-- The reference's result, of its arguments. -/
abbrev plain (a0 : FVec Ideal S4096x1024 .bf16) (a2 : FVec Ideal S4096x5632 .bf16) : FVec Ideal S1024x5632 .f32 :=
  transpose S1024x5632 [1, 0] (Host.dotGeneral (φ₁ := .f32) (φ₂ := .f32) Cert.UpDwPlainIdeal.dot_S4096x5632_S4096x1024_S5632x1024_0_0_1_1_n_n none (extf .f32 a2 Cert.UpDwPlainIdeal.Gen.bitsLt_bf16_f32) (extf .f32 a0 Cert.UpDwPlainIdeal.Gen.bitsLt_bf16_f32)) Cert.UpDwPlainIdeal.Gen.transposes_S5632x1024_S1024x5632_1_0

/-- The tiles that a grid point is given and writes. -/
theorem tiles : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg2)) := by
  refine (dats m 0 c).arrAt_eq_of_covers 2 _ (by decide +kernel) fun t _ y => ?_
  blk_simp
  rw [after0_2]; frame_out
  pointwise [k0_pay1, plain]
  refine (Finset.sum_congr rfl fun x _ => mul_comm (_ : EReal) _).trans ?_
  blk_point [iblk, V, tiles t]

/-- The kernel ends with its arguments and the counters as at the start. -/
theorem frame : Cert.quiescent_UpDw := fun m ρ _ => Cert.UpDw.Gen.frame m ρ

/-- So does the kernel over the extended reals. -/
theorem frame_ideal : Cert.quiescent_UpDwIdeal := fun m ρ _ => Cert.UpDwIdeal.Gen.frame m ρ

/-- The reference ends with its arguments and the counters as at the start. -/
theorem frame_plain : Cert.quiescent_UpDwPlainIdeal := fun m ρ _ =>
  (θ_run Cert.UpDwPlainIdeal.defs _ _).mono (fun r h => ⟨fun c => (h c).2, sem_eq_zero_of_no_sems (by decide) r.2⟩)
    (Cert.UpDwPlainIdeal.Value.run (F := Ideal) m ρ)

/-- Kernel and reference compute the same. -/
theorem algebraic : Cert.algebraic_UpDwIdeal_UpDwPlainIdeal := by
  intro m g m' g' _ hagree
  refine ⟨_, Cert.UpDwIdeal.Value.run_blocks m g, ?_⟩
  refine (θ_run Cert.UpDwPlainIdeal.defs _ _).mono (fun r h c => ⟨(h c).1.trans ?_, (h c).2⟩) (Cert.UpDwPlainIdeal.Value.run m' g')
  obtain ⟨e0, e1, e2⟩ := hagree c
  rw [result m c, e0, e2]

end UpDw

end Cert.Products

end
-- ==== Proof.Down.lean ====
/-
  The products of the feed-forward layer's second projection, which adds the residual:
  forward, and the gradients of its rows and of its weight. The kernel multiplies tile by tile over the whole inner axis.
-/
module

public import proofs.«01_k».proof.Defs
public import proofs.«01_k».proof.Proof.Gen.Down.Frame
public import proofs.«01_k».proof.Proof.Gen.DownIdeal.Value
public import proofs.«01_k».proof.Proof.Gen.DownPlainIdeal.Run
public import proofs.«01_k».proof.Proof.Gen.DownDx.Frame
public import proofs.«01_k».proof.Proof.Gen.DownDxIdeal.Value
public import proofs.«01_k».proof.Proof.Gen.DownDxPlainIdeal.Run
public import proofs.«01_k».proof.Proof.Gen.DownDw.Frame
public import proofs.«01_k».proof.Proof.Gen.DownDwIdeal.Value
public import proofs.«01_k».proof.Proof.Gen.DownDwPlainIdeal.Run
public import Idealize.ShloMosaic.Lib.Pipeline.ValueKit

@[expose] public section

set_option maxRecDepth 16384

noncomputable section

namespace Cert.Products

open Idealize.ShloMosaic Idealize.ShloMosaic.TcCoe Idealize.SL.Sem

/-! ## The product -/

namespace Down

open Cert.DownIdeal Cert.DownIdeal.Gen

/-- The reference's result, of its arguments. -/
abbrev plain (a0 : FVec Ideal S4096x2816 .bf16) (a1 : FVec Ideal S2816x1024 .bf16) (a2 : FVec Ideal S4096x1024 .f32) : FVec Ideal S4096x1024 .f32 :=
  addf a2 (Host.dotGeneral (φ₁ := .f32) (φ₂ := .f32) Cert.DownPlainIdeal.dot_S4096x2816_S2816x1024_S4096x1024_1_0_0_1_n_n none (extf .f32 a0 Cert.DownPlainIdeal.Gen.bitsLt_bf16_f32) (extf .f32 a1 Cert.DownPlainIdeal.Gen.bitsLt_bf16_f32))

/-- The tiles that a grid point is given and writes. -/
theorem tiles : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 3 cfg0.N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, plain]
  blk_point [iblk, V, tiles t]

/-- The kernel ends with its arguments and the counters as at the start. -/
theorem frame : Cert.quiescent_Down := fun m ρ _ => Cert.Down.Gen.frame m ρ

/-- So does the kernel over the extended reals. -/
theorem frame_ideal : Cert.quiescent_DownIdeal := fun m ρ _ => Cert.DownIdeal.Gen.frame m ρ

/-- The reference ends with its arguments and the counters as at the start. -/
theorem frame_plain : Cert.quiescent_DownPlainIdeal := fun m ρ _ =>
  (θ_run Cert.DownPlainIdeal.defs _ _).mono (fun r h => ⟨fun c => (h c).2, sem_eq_zero_of_no_sems (by decide) r.2⟩)
    (Cert.DownPlainIdeal.Value.run (F := Ideal) m ρ)

/-- Kernel and reference compute the same. -/
theorem algebraic : Cert.algebraic_DownIdeal_DownPlainIdeal := by
  intro m g m' g' _ hagree
  refine ⟨_, Cert.DownIdeal.Value.run_blocks m g, ?_⟩
  refine (θ_run Cert.DownPlainIdeal.defs _ _).mono (fun r h c => ⟨(h c).1.trans ?_, (h c).2⟩) (Cert.DownPlainIdeal.Value.run m' g')
  obtain ⟨e0, e1, e2⟩ := hagree c
  rw [result m c, e0, e1, e2]

end Down

/-! ## The gradient of the rows -/

namespace DownDx

open Cert.DownDxIdeal Cert.DownDxIdeal.Gen

/-- The reference's result, of its arguments. -/
abbrev plain (a1 : FVec Ideal S2816x1024 .bf16) (a2 : FVec Ideal S4096x1024 .f32) : FVec Ideal S4096x2816 .bf16 :=
  truncf .bf16 (Host.dotGeneral (φ₁ := .f32) (φ₂ := .f32) Cert.DownDxPlainIdeal.dot_S4096x1024_S2816x1024_S4096x2816_1_1_0_0_n_n none a2 (extf .f32 a1 Cert.DownDxPlainIdeal.Gen.bitsLt_bf16_f32)) Cert.DownDxPlainIdeal.Gen.bitsLt_bf16_f32

/-- The tiles that a grid point is given and writes. -/
theorem tiles : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg1)) (m ((c : Thread nD τ).loc main_arg2)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_DownDx := fun m ρ _ => Cert.DownDx.Gen.frame m ρ

/-- So does the kernel over the extended reals. -/
theorem frame_ideal : Cert.quiescent_DownDxIdeal := fun m ρ _ => Cert.DownDxIdeal.Gen.frame m ρ

/-- The reference ends with its arguments and the counters as at the start. -/
theorem frame_plain : Cert.quiescent_DownDxPlainIdeal := fun m ρ _ =>
  (θ_run Cert.DownDxPlainIdeal.defs _ _).mono (fun r h => ⟨fun c => (h c).2, sem_eq_zero_of_no_sems (by decide) r.2⟩)
    (Cert.DownDxPlainIdeal.Value.run (F := Ideal) m ρ)

/-- Kernel and reference compute the same. -/
theorem algebraic : Cert.algebraic_DownDxIdeal_DownDxPlainIdeal := by
  intro m g m' g' _ hagree
  refine ⟨_, Cert.DownDxIdeal.Value.run_blocks m g, ?_⟩
  refine (θ_run Cert.DownDxPlainIdeal.defs _ _).mono (fun r h c => ⟨(h c).1.trans ?_, (h c).2⟩) (Cert.DownDxPlainIdeal.Value.run m' g')
  obtain ⟨e0, e1, e2⟩ := hagree c
  rw [result m c, e1, e2]

end DownDx

/-! ## The gradient of the weight -/

namespace DownDw

open Cert.DownDwIdeal Cert.DownDwIdeal.Gen

/-- The reference's result, of its arguments. -/
abbrev plain (a0 : FVec Ideal S4096x2816 .bf16) (a2 : FVec Ideal S4096x1024 .f32) : FVec Ideal S2816x1024 .f32 :=
  transpose S2816x1024 [1, 0] (Host.dotGeneral (φ₁ := .f32) (φ₂ := .f32) Cert.DownDwPlainIdeal.dot_S4096x1024_S4096x2816_S1024x2816_0_0_1_1_n_n none a2 (extf .f32 a0 Cert.DownDwPlainIdeal.Gen.bitsLt_bf16_f32)) Cert.DownDwPlainIdeal.Gen.transposes_S1024x2816_S2816x1024_1_0

/-- The tiles that a grid point is given and writes. -/
theorem tiles : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg2)) := by
  refine (dats m 0 c).arrAt_eq_of_covers 2 _ (by decide +kernel) fun t _ y => ?_
  blk_simp
  rw [after0_2]; frame_out
  pointwise [k0_pay1, plain]
  refine (Finset.sum_congr rfl fun x _ => mul_comm (_ : EReal) _).trans ?_
  blk_point [iblk, V, tiles t]

/-- The kernel ends with its arguments and the counters as at the start. -/
theorem frame : Cert.quiescent_DownDw := fun m ρ _ => Cert.DownDw.Gen.frame m ρ

/-- So does the kernel over the extended reals. -/
theorem frame_ideal : Cert.quiescent_DownDwIdeal := fun m ρ _ => Cert.DownDwIdeal.Gen.frame m ρ

/-- The reference ends with its arguments and the counters as at the start. -/
theorem frame_plain : Cert.quiescent_DownDwPlainIdeal := fun m ρ _ =>
  (θ_run Cert.DownDwPlainIdeal.defs _ _).mono (fun r h => ⟨fun c => (h c).2, sem_eq_zero_of_no_sems (by decide) r.2⟩)
    (Cert.DownDwPlainIdeal.Value.run (F := Ideal) m ρ)

/-- Kernel and reference compute the same. -/
theorem algebraic : Cert.algebraic_DownDwIdeal_DownDwPlainIdeal := by
  intro m g m' g' _ hagree
  refine ⟨_, Cert.DownDwIdeal.Value.run_blocks m g, ?_⟩
  refine (θ_run Cert.DownDwPlainIdeal.defs _ _).mono (fun r h c => ⟨(h c).1.trans ?_, (h c).2⟩) (Cert.DownDwPlainIdeal.Value.run m' g')
  obtain ⟨e0, e1, e2⟩ := hagree c
  rw [result m c, e0, e2]

end DownDw

end Cert.Products

end
-- ==== Proof.EvenIn.lean ====
/-
  The products of the even layer's first projection:
  forward, and the gradients of its rows and of its weight. The kernel multiplies tile by tile over the whole inner axis.
-/
module

public import proofs.«01_k».proof.Defs
public import proofs.«01_k».proof.Proof.Gen.EvenIn.Frame
public import proofs.«01_k».proof.Proof.Gen.EvenInIdeal.Value
public import proofs.«01_k».proof.Proof.Gen.EvenInPlainIdeal.Run
public import proofs.«01_k».proof.Proof.Gen.EvenInDx.Frame
public import proofs.«01_k».proof.Proof.Gen.EvenInDxIdeal.Value
public import proofs.«01_k».proof.Proof.Gen.EvenInDxPlainIdeal.Run
public import proofs.«01_k».proof.Proof.Gen.EvenInDw.Frame
public import proofs.«01_k».proof.Proof.Gen.EvenInDwIdeal.Value
public import proofs.«01_k».proof.Proof.Gen.EvenInDwPlainIdeal.Run
public import Idealize.ShloMosaic.Lib.Pipeline.ValueKit

@[expose] public section

set_option maxRecDepth 16384

noncomputable section

namespace Cert.Products

open Idealize.ShloMosaic Idealize.ShloMosaic.TcCoe Idealize.SL.Sem

/-! ## The product -/

namespace EvenIn

open Cert.EvenInIdeal Cert.EvenInIdeal.Gen

/-- The reference's result, of its arguments. -/
abbrev plain (a0 : FVec Ideal S4096x1024 .bf16) (a1 : FVec Ideal S1024x5760 .bf16) : FVec Ideal S4096x5760 .bf16 :=
  truncf .bf16 (Host.dotGeneral (φ₁ := .f32) (φ₂ := .f32) Cert.EvenInPlainIdeal.dot_S4096x1024_S1024x5760_S4096x5760_1_0_0_1_n_n none (extf .f32 a0 Cert.EvenInPlainIdeal.Gen.bitsLt_bf16_f32) (extf .f32 a1 Cert.EvenInPlainIdeal.Gen.bitsLt_bf16_f32)) Cert.EvenInPlainIdeal.Gen.bitsLt_bf16_f32

/-- The tiles that a grid point is given and writes. -/
theorem tiles : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_EvenIn := fun m ρ _ => Cert.EvenIn.Gen.frame m ρ

/-- So does the kernel over the extended reals. -/
theorem frame_ideal : Cert.quiescent_EvenInIdeal := fun m ρ _ => Cert.EvenInIdeal.Gen.frame m ρ

/-- The reference ends with its arguments and the counters as at the start. -/
theorem frame_plain : Cert.quiescent_EvenInPlainIdeal := fun m ρ _ =>
  (θ_run Cert.EvenInPlainIdeal.defs _ _).mono (fun r h => ⟨fun c => (h c).2, sem_eq_zero_of_no_sems (by decide) r.2⟩)
    (Cert.EvenInPlainIdeal.Value.run (F := Ideal) m ρ)

/-- Kernel and reference compute the same. -/
theorem algebraic : Cert.algebraic_EvenInIdeal_EvenInPlainIdeal := by
  intro m g m' g' _ hagree
  refine ⟨_, Cert.EvenInIdeal.Value.run_blocks m g, ?_⟩
  refine (θ_run Cert.EvenInPlainIdeal.defs _ _).mono (fun r h c => ⟨(h c).1.trans ?_, (h c).2⟩) (Cert.EvenInPlainIdeal.Value.run m' g')
  obtain ⟨e0, e1⟩ := hagree c
  rw [result m c, e0, e1]

end EvenIn

/-! ## The gradient of the rows -/

namespace EvenInDx

open Cert.EvenInDxIdeal Cert.EvenInDxIdeal.Gen

/-- The reference's result, of its arguments. -/
abbrev plain (a1 : FVec Ideal S1024x5760 .bf16) (a2 : FVec Ideal S4096x5760 .bf16) : FVec Ideal S4096x1024 .f32 :=
  Host.dotGeneral (φ₁ := .f32) (φ₂ := .f32) Cert.EvenInDxPlainIdeal.dot_S4096x5760_S1024x5760_S4096x1024_1_1_0_0_n_n none (extf .f32 a2 Cert.EvenInDxPlainIdeal.Gen.bitsLt_bf16_f32) (extf .f32 a1 Cert.EvenInDxPlainIdeal.Gen.bitsLt_bf16_f32)

/-- The tiles that a grid point is given and writes. -/
theorem tiles : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg1)) (m ((c : Thread nD τ).loc main_arg2)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_EvenInDx := fun m ρ _ => Cert.EvenInDx.Gen.frame m ρ

/-- So does the kernel over the extended reals. -/
theorem frame_ideal : Cert.quiescent_EvenInDxIdeal := fun m ρ _ => Cert.EvenInDxIdeal.Gen.frame m ρ

/-- The reference ends with its arguments and the counters as at the start. -/
theorem frame_plain : Cert.quiescent_EvenInDxPlainIdeal := fun m ρ _ =>
  (θ_run Cert.EvenInDxPlainIdeal.defs _ _).mono (fun r h => ⟨fun c => (h c).2, sem_eq_zero_of_no_sems (by decide) r.2⟩)
    (Cert.EvenInDxPlainIdeal.Value.run (F := Ideal) m ρ)

/-- Kernel and reference compute the same. -/
theorem algebraic : Cert.algebraic_EvenInDxIdeal_EvenInDxPlainIdeal := by
  intro m g m' g' _ hagree
  refine ⟨_, Cert.EvenInDxIdeal.Value.run_blocks m g, ?_⟩
  refine (θ_run Cert.EvenInDxPlainIdeal.defs _ _).mono (fun r h c => ⟨(h c).1.trans ?_, (h c).2⟩) (Cert.EvenInDxPlainIdeal.Value.run m' g')
  obtain ⟨e0, e1, e2⟩ := hagree c
  rw [result m c, e1, e2]

end EvenInDx

/-! ## The gradient of the weight -/

namespace EvenInDw

open Cert.EvenInDwIdeal Cert.EvenInDwIdeal.Gen

/-- The reference's result, of its arguments. -/
abbrev plain (a0 : FVec Ideal S4096x1024 .bf16) (a2 : FVec Ideal S4096x5760 .bf16) : FVec Ideal S1024x5760 .f32 :=
  transpose S1024x5760 [1, 0] (Host.dotGeneral (φ₁ := .f32) (φ₂ := .f32) Cert.EvenInDwPlainIdeal.dot_S4096x5760_S4096x1024_S5760x1024_0_0_1_1_n_n none (extf .f32 a2 Cert.EvenInDwPlainIdeal.Gen.bitsLt_bf16_f32) (extf .f32 a0 Cert.EvenInDwPlainIdeal.Gen.bitsLt_bf16_f32)) Cert.EvenInDwPlainIdeal.Gen.transposes_S5760x1024_S1024x5760_1_0

/-- The tiles that a grid point is given and writes. -/
theorem tiles : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg2)) := by
  refine (dats m 0 c).arrAt_eq_of_covers 2 _ (by decide +kernel) fun t _ y => ?_
  blk_simp
  rw [after0_2]; frame_out
  pointwise [k0_pay1, plain]
  refine (Finset.sum_congr rfl fun x _ => mul_comm (_ : EReal) _).trans ?_
  blk_point [iblk, V, tiles t]

/-- The kernel ends with its arguments and the counters as at the start. -/
theorem frame : Cert.quiescent_EvenInDw := fun m ρ _ => Cert.EvenInDw.Gen.frame m ρ

/-- So does the kernel over the extended reals. -/
theorem frame_ideal : Cert.quiescent_EvenInDwIdeal := fun m ρ _ => Cert.EvenInDwIdeal.Gen.frame m ρ

/-- The reference ends with its arguments and the counters as at the start. -/
theorem frame_plain : Cert.quiescent_EvenInDwPlainIdeal := fun m ρ _ =>
  (θ_run Cert.EvenInDwPlainIdeal.defs _ _).mono (fun r h => ⟨fun c => (h c).2, sem_eq_zero_of_no_sems (by decide) r.2⟩)
    (Cert.EvenInDwPlainIdeal.Value.run (F := Ideal) m ρ)

/-- Kernel and reference compute the same. -/
theorem algebraic : Cert.algebraic_EvenInDwIdeal_EvenInDwPlainIdeal := by
  intro m g m' g' _ hagree
  refine ⟨_, Cert.EvenInDwIdeal.Value.run_blocks m g, ?_⟩
  refine (θ_run Cert.EvenInDwPlainIdeal.defs _ _).mono (fun r h c => ⟨(h c).1.trans ?_, (h c).2⟩) (Cert.EvenInDwPlainIdeal.Value.run m' g')
  obtain ⟨e0, e1, e2⟩ := hagree c
  rw [result m c, e0, e2]

end EvenInDw

end Cert.Products

end
-- ==== Proof.EvenOut.lean ====
/-
  The products of the even layer's last projection, which adds the residual:
  forward, and the gradients of its rows and of its weight. The kernel multiplies tile by tile over the whole inner axis.
-/
module

public import proofs.«01_k».proof.Defs
public import proofs.«01_k».proof.Proof.Gen.EvenOut.Frame
public import proofs.«01_k».proof.Proof.Gen.EvenOutIdeal.Value
public import proofs.«01_k».proof.Proof.Gen.EvenOutPlainIdeal.Run
public import proofs.«01_k».proof.Proof.Gen.EvenOutDx.Frame
public import proofs.«01_k».proof.Proof.Gen.EvenOutDxIdeal.Value
public import proofs.«01_k».proof.Proof.Gen.EvenOutDxPlainIdeal.Run
public import proofs.«01_k».proof.Proof.Gen.EvenOutDw.Frame
public import proofs.«01_k».proof.Proof.Gen.EvenOutDwIdeal.Value
public import proofs.«01_k».proof.Proof.Gen.EvenOutDwPlainIdeal.Run
public import Idealize.ShloMosaic.Lib.Pipeline.ValueKit

@[expose] public section

set_option maxRecDepth 16384

noncomputable section

namespace Cert.Products

open Idealize.ShloMosaic Idealize.ShloMosaic.TcCoe Idealize.SL.Sem

/-! ## The product -/

namespace EvenOut

open Cert.EvenOutIdeal Cert.EvenOutIdeal.Gen

/-- The reference's result, of its arguments. -/
abbrev plain (a0 : FVec Ideal S4096x2048 .bf16) (a1 : FVec Ideal S2048x1024 .bf16) (a2 : FVec Ideal S4096x1024 .f32) : FVec Ideal S4096x1024 .f32 :=
  addf a2 (Host.dotGeneral (φ₁ := .f32) (φ₂ := .f32) Cert.EvenOutPlainIdeal.dot_S4096x2048_S2048x1024_S4096x1024_1_0_0_1_n_n none (extf .f32 a0 Cert.EvenOutPlainIdeal.Gen.bitsLt_bf16_f32) (extf .f32 a1 Cert.EvenOutPlainIdeal.Gen.bitsLt_bf16_f32))

/-- The tiles that a grid point is given and writes. -/
theorem tiles : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 3 cfg0.N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, plain]
  blk_point [iblk, V, tiles t]

/-- The kernel ends with its arguments and the counters as at the start. -/
theorem frame : Cert.quiescent_EvenOut := fun m ρ _ => Cert.EvenOut.Gen.frame m ρ

/-- So does the kernel over the extended reals. -/
theorem frame_ideal : Cert.quiescent_EvenOutIdeal := fun m ρ _ => Cert.EvenOutIdeal.Gen.frame m ρ

/-- The reference ends with its arguments and the counters as at the start. -/
theorem frame_plain : Cert.quiescent_EvenOutPlainIdeal := fun m ρ _ =>
  (θ_run Cert.EvenOutPlainIdeal.defs _ _).mono (fun r h => ⟨fun c => (h c).2, sem_eq_zero_of_no_sems (by decide) r.2⟩)
    (Cert.EvenOutPlainIdeal.Value.run (F := Ideal) m ρ)

/-- Kernel and reference compute the same. -/
theorem algebraic : Cert.algebraic_EvenOutIdeal_EvenOutPlainIdeal := by
  intro m g m' g' _ hagree
  refine ⟨_, Cert.EvenOutIdeal.Value.run_blocks m g, ?_⟩
  refine (θ_run Cert.EvenOutPlainIdeal.defs _ _).mono (fun r h c => ⟨(h c).1.trans ?_, (h c).2⟩) (Cert.EvenOutPlainIdeal.Value.run m' g')
  obtain ⟨e0, e1, e2⟩ := hagree c
  rw [result m c, e0, e1, e2]

end EvenOut

/-! ## The gradient of the rows -/

namespace EvenOutDx

open Cert.EvenOutDxIdeal Cert.EvenOutDxIdeal.Gen

/-- The reference's result, of its arguments. -/
abbrev plain (a1 : FVec Ideal S2048x1024 .bf16) (a2 : FVec Ideal S4096x1024 .f32) : FVec Ideal S4096x2048 .bf16 :=
  truncf .bf16 (Host.dotGeneral (φ₁ := .f32) (φ₂ := .f32) Cert.EvenOutDxPlainIdeal.dot_S4096x1024_S2048x1024_S4096x2048_1_1_0_0_n_n none a2 (extf .f32 a1 Cert.EvenOutDxPlainIdeal.Gen.bitsLt_bf16_f32)) Cert.EvenOutDxPlainIdeal.Gen.bitsLt_bf16_f32

/-- The tiles that a grid point is given and writes. -/
theorem tiles : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg1)) (m ((c : Thread nD τ).loc main_arg2)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_EvenOutDx := fun m ρ _ => Cert.EvenOutDx.Gen.frame m ρ

/-- So does the kernel over the extended reals. -/
theorem frame_ideal : Cert.quiescent_EvenOutDxIdeal := fun m ρ _ => Cert.EvenOutDxIdeal.Gen.frame m ρ

/-- The reference ends with its arguments and the counters as at the start. -/
theorem frame_plain : Cert.quiescent_EvenOutDxPlainIdeal := fun m ρ _ =>
  (θ_run Cert.EvenOutDxPlainIdeal.defs _ _).mono (fun r h => ⟨fun c => (h c).2, sem_eq_zero_of_no_sems (by decide) r.2⟩)
    (Cert.EvenOutDxPlainIdeal.Value.run (F := Ideal) m ρ)

/-- Kernel and reference compute the same. -/
theorem algebraic : Cert.algebraic_EvenOutDxIdeal_EvenOutDxPlainIdeal := by
  intro m g m' g' _ hagree
  refine ⟨_, Cert.EvenOutDxIdeal.Value.run_blocks m g, ?_⟩
  refine (θ_run Cert.EvenOutDxPlainIdeal.defs _ _).mono (fun r h c => ⟨(h c).1.trans ?_, (h c).2⟩) (Cert.EvenOutDxPlainIdeal.Value.run m' g')
  obtain ⟨e0, e1, e2⟩ := hagree c
  rw [result m c, e1, e2]

end EvenOutDx

/-! ## The gradient of the weight -/

namespace EvenOutDw

open Cert.EvenOutDwIdeal Cert.EvenOutDwIdeal.Gen

/-- The reference's result, of its arguments. -/
abbrev plain (a0 : FVec Ideal S4096x2048 .bf16) (a2 : FVec Ideal S4096x1024 .f32) : FVec Ideal S2048x1024 .f32 :=
  transpose S2048x1024 [1, 0] (Host.dotGeneral (φ₁ := .f32) (φ₂ := .f32) Cert.EvenOutDwPlainIdeal.dot_S4096x1024_S4096x2048_S1024x2048_0_0_1_1_n_n none a2 (extf .f32 a0 Cert.EvenOutDwPlainIdeal.Gen.bitsLt_bf16_f32)) Cert.EvenOutDwPlainIdeal.Gen.transposes_S1024x2048_S2048x1024_1_0

/-- The tiles that a grid point is given and writes. -/
theorem tiles : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg2)) := by
  refine (dats m 0 c).arrAt_eq_of_covers 2 _ (by decide +kernel) fun t _ y => ?_
  blk_simp
  rw [after0_2]; frame_out
  pointwise [k0_pay1, plain]
  refine (Finset.sum_congr rfl fun x _ => mul_comm (_ : EReal) _).trans ?_
  blk_point [iblk, V, tiles t]

/-- The kernel ends with its arguments and the counters as at the start. -/
theorem frame : Cert.quiescent_EvenOutDw := fun m ρ _ => Cert.EvenOutDw.Gen.frame m ρ

/-- So does the kernel over the extended reals. -/
theorem frame_ideal : Cert.quiescent_EvenOutDwIdeal := fun m ρ _ => Cert.EvenOutDwIdeal.Gen.frame m ρ

/-- The reference ends with its arguments and the counters as at the start. -/
theorem frame_plain : Cert.quiescent_EvenOutDwPlainIdeal := fun m ρ _ =>
  (θ_run Cert.EvenOutDwPlainIdeal.defs _ _).mono (fun r h => ⟨fun c => (h c).2, sem_eq_zero_of_no_sems (by decide) r.2⟩)
    (Cert.EvenOutDwPlainIdeal.Value.run (F := Ideal) m ρ)

/-- Kernel and reference compute the same. -/
theorem algebraic : Cert.algebraic_EvenOutDwIdeal_EvenOutDwPlainIdeal := by
  intro m g m' g' _ hagree
  refine ⟨_, Cert.EvenOutDwIdeal.Value.run_blocks m g, ?_⟩
  refine (θ_run Cert.EvenOutDwPlainIdeal.defs _ _).mono (fun r h c => ⟨(h c).1.trans ?_, (h c).2⟩) (Cert.EvenOutDwPlainIdeal.Value.run m' g')
  obtain ⟨e0, e1, e2⟩ := hagree c
  rw [result m c, e0, e2]

end EvenOutDw

end Cert.Products

end
-- ==== Proof.OddIn.lean ====
/-
  The products of the odd layer's first projection:
  forward, and the gradients of its rows and of its weight. The kernel multiplies tile by tile over the whole inner axis.
-/
module

public import proofs.«01_k».proof.Defs
public import proofs.«01_k».proof.Proof.Gen.OddIn.Frame
public import proofs.«01_k».proof.Proof.Gen.OddInIdeal.Value
public import proofs.«01_k».proof.Proof.Gen.OddInPlainIdeal.Run
public import proofs.«01_k».proof.Proof.Gen.OddInDx.Frame
public import proofs.«01_k».proof.Proof.Gen.OddInDxIdeal.Value
public import proofs.«01_k».proof.Proof.Gen.OddInDxPlainIdeal.Run
public import proofs.«01_k».proof.Proof.Gen.OddInDw.Frame
public import proofs.«01_k».proof.Proof.Gen.OddInDwIdeal.Value
public import proofs.«01_k».proof.Proof.Gen.OddInDwPlainIdeal.Run
public import Idealize.ShloMosaic.Lib.Pipeline.ValueKit

@[expose] public section

set_option maxRecDepth 16384

noncomputable section

namespace Cert.Products

open Idealize.ShloMosaic Idealize.ShloMosaic.TcCoe Idealize.SL.Sem

/-! ## The product -/

namespace OddIn

open Cert.OddInIdeal Cert.OddInIdeal.Gen

/-- The reference's result, of its arguments. -/
abbrev plain (a0 : FVec Ideal S4096x1024 .bf16) (a1 : FVec Ideal S1024x1536 .bf16) : FVec Ideal S4096x1536 .f32 :=
  Host.dotGeneral (φ₁ := .f32) (φ₂ := .f32) Cert.OddInPlainIdeal.dot_S4096x1024_S1024x1536_S4096x1536_1_0_0_1_n_n none (extf .f32 a0 Cert.OddInPlainIdeal.Gen.bitsLt_bf16_f32) (extf .f32 a1 Cert.OddInPlainIdeal.Gen.bitsLt_bf16_f32)

/-- The tiles that a grid point is given and writes. -/
theorem tiles : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_OddIn := fun m ρ _ => Cert.OddIn.Gen.frame m ρ

/-- So does the kernel over the extended reals. -/
theorem frame_ideal : Cert.quiescent_OddInIdeal := fun m ρ _ => Cert.OddInIdeal.Gen.frame m ρ

/-- The reference ends with its arguments and the counters as at the start. -/
theorem frame_plain : Cert.quiescent_OddInPlainIdeal := fun m ρ _ =>
  (θ_run Cert.OddInPlainIdeal.defs _ _).mono (fun r h => ⟨fun c => (h c).2, sem_eq_zero_of_no_sems (by decide) r.2⟩)
    (Cert.OddInPlainIdeal.Value.run (F := Ideal) m ρ)

/-- Kernel and reference compute the same. -/
theorem algebraic : Cert.algebraic_OddInIdeal_OddInPlainIdeal := by
  intro m g m' g' _ hagree
  refine ⟨_, Cert.OddInIdeal.Value.run_blocks m g, ?_⟩
  refine (θ_run Cert.OddInPlainIdeal.defs _ _).mono (fun r h c => ⟨(h c).1.trans ?_, (h c).2⟩) (Cert.OddInPlainIdeal.Value.run m' g')
  obtain ⟨e0, e1⟩ := hagree c
  rw [result m c, e0, e1]

end OddIn

/-! ## The gradient of the rows -/

namespace OddInDx

open Cert.OddInDxIdeal Cert.OddInDxIdeal.Gen

/-- The reference's result, of its arguments. -/
abbrev plain (a1 : FVec Ideal S1024x1536 .bf16) (a2 : FVec Ideal S4096x1536 .bf16) : FVec Ideal S4096x1024 .f32 :=
  Host.dotGeneral (φ₁ := .f32) (φ₂ := .f32) Cert.OddInDxPlainIdeal.dot_S4096x1536_S1024x1536_S4096x1024_1_1_0_0_n_n none (extf .f32 a2 Cert.OddInDxPlainIdeal.Gen.bitsLt_bf16_f32) (extf .f32 a1 Cert.OddInDxPlainIdeal.Gen.bitsLt_bf16_f32)

/-- The tiles that a grid point is given and writes. -/
theorem tiles : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg1)) (m ((c : Thread nD τ).loc main_arg2)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_OddInDx := fun m ρ _ => Cert.OddInDx.Gen.frame m ρ

/-- So does the kernel over the extended reals. -/
theorem frame_ideal : Cert.quiescent_OddInDxIdeal := fun m ρ _ => Cert.OddInDxIdeal.Gen.frame m ρ

/-- The reference ends with its arguments and the counters as at the start. -/
theorem frame_plain : Cert.quiescent_OddInDxPlainIdeal := fun m ρ _ =>
  (θ_run Cert.OddInDxPlainIdeal.defs _ _).mono (fun r h => ⟨fun c => (h c).2, sem_eq_zero_of_no_sems (by decide) r.2⟩)
    (Cert.OddInDxPlainIdeal.Value.run (F := Ideal) m ρ)

/-- Kernel and reference compute the same. -/
theorem algebraic : Cert.algebraic_OddInDxIdeal_OddInDxPlainIdeal := by
  intro m g m' g' _ hagree
  refine ⟨_, Cert.OddInDxIdeal.Value.run_blocks m g, ?_⟩
  refine (θ_run Cert.OddInDxPlainIdeal.defs _ _).mono (fun r h c => ⟨(h c).1.trans ?_, (h c).2⟩) (Cert.OddInDxPlainIdeal.Value.run m' g')
  obtain ⟨e0, e1, e2⟩ := hagree c
  rw [result m c, e1, e2]

end OddInDx

/-! ## The gradient of the weight -/

namespace OddInDw

open Cert.OddInDwIdeal Cert.OddInDwIdeal.Gen

/-- The reference's result, of its arguments. -/
abbrev plain (a0 : FVec Ideal S4096x1024 .bf16) (a2 : FVec Ideal S4096x1536 .bf16) : FVec Ideal S1024x1536 .f32 :=
  transpose S1024x1536 [1, 0] (Host.dotGeneral (φ₁ := .f32) (φ₂ := .f32) Cert.OddInDwPlainIdeal.dot_S4096x1536_S4096x1024_S1536x1024_0_0_1_1_n_n none (extf .f32 a2 Cert.OddInDwPlainIdeal.Gen.bitsLt_bf16_f32) (extf .f32 a0 Cert.OddInDwPlainIdeal.Gen.bitsLt_bf16_f32)) Cert.OddInDwPlainIdeal.Gen.transposes_S1536x1024_S1024x1536_1_0

/-- The tiles that a grid point is given and writes. -/
theorem tiles : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg2)) := by
  refine (dats m 0 c).arrAt_eq_of_covers 2 _ (by decide +kernel) fun t _ y => ?_
  blk_simp
  rw [after0_2]; frame_out
  pointwise [k0_pay1, plain]
  refine (Finset.sum_congr rfl fun x _ => mul_comm (_ : EReal) _).trans ?_
  blk_point [iblk, V, tiles t]

/-- The kernel ends with its arguments and the counters as at the start. -/
theorem frame : Cert.quiescent_OddInDw := fun m ρ _ => Cert.OddInDw.Gen.frame m ρ

/-- So does the kernel over the extended reals. -/
theorem frame_ideal : Cert.quiescent_OddInDwIdeal := fun m ρ _ => Cert.OddInDwIdeal.Gen.frame m ρ

/-- The reference ends with its arguments and the counters as at the start. -/
theorem frame_plain : Cert.quiescent_OddInDwPlainIdeal := fun m ρ _ =>
  (θ_run Cert.OddInDwPlainIdeal.defs _ _).mono (fun r h => ⟨fun c => (h c).2, sem_eq_zero_of_no_sems (by decide) r.2⟩)
    (Cert.OddInDwPlainIdeal.Value.run (F := Ideal) m ρ)

/-- Kernel and reference compute the same. -/
theorem algebraic : Cert.algebraic_OddInDwIdeal_OddInDwPlainIdeal := by
  intro m g m' g' _ hagree
  refine ⟨_, Cert.OddInDwIdeal.Value.run_blocks m g, ?_⟩
  refine (θ_run Cert.OddInDwPlainIdeal.defs _ _).mono (fun r h c => ⟨(h c).1.trans ?_, (h c).2⟩) (Cert.OddInDwPlainIdeal.Value.run m' g')
  obtain ⟨e0, e1, e2⟩ := hagree c
  rw [result m c, e0, e2]

end OddInDw

end Cert.Products

end
-- ==== Proof.OddOut.lean ====
/-
  The products of the odd layer's last projection, which adds the residual:
  forward, and the gradients of its rows and of its weight. The kernel multiplies tile by tile over the whole inner axis.
-/
module

public import proofs.«01_k».proof.Defs
public import proofs.«01_k».proof.Proof.Gen.OddOut.Frame
public import proofs.«01_k».proof.Proof.Gen.OddOutIdeal.Value
public import proofs.«01_k».proof.Proof.Gen.OddOutPlainIdeal.Run
public import proofs.«01_k».proof.Proof.Gen.OddOutDx.Frame
public import proofs.«01_k».proof.Proof.Gen.OddOutDxIdeal.Value
public import proofs.«01_k».proof.Proof.Gen.OddOutDxPlainIdeal.Run
public import proofs.«01_k».proof.Proof.Gen.OddOutDw.Frame
public import proofs.«01_k».proof.Proof.Gen.OddOutDwIdeal.Value
public import proofs.«01_k».proof.Proof.Gen.OddOutDwPlainIdeal.Run
public import Idealize.ShloMosaic.Lib.Pipeline.ValueKit

@[expose] public section

set_option maxRecDepth 16384

noncomputable section

namespace Cert.Products

open Idealize.ShloMosaic Idealize.ShloMosaic.TcCoe Idealize.SL.Sem

/-! ## The product -/

namespace OddOut

open Cert.OddOutIdeal Cert.OddOutIdeal.Gen

/-- The reference's result, of its arguments. -/
abbrev plain (a0 : FVec Ideal S4096x1024 .bf16) (a1 : FVec Ideal S1024x1024 .bf16) (a2 : FVec Ideal S4096x1024 .f32) : FVec Ideal S4096x1024 .f32 :=
  addf a2 (Host.dotGeneral (φ₁ := .f32) (φ₂ := .f32) Cert.OddOutPlainIdeal.dot_S4096x1024_S1024x1024_S4096x1024_1_0_0_1_n_n none (extf .f32 a0 Cert.OddOutPlainIdeal.Gen.bitsLt_bf16_f32) (extf .f32 a1 Cert.OddOutPlainIdeal.Gen.bitsLt_bf16_f32))

/-- The tiles that a grid point is given and writes. -/
theorem tiles : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 3 cfg0.N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, plain]
  blk_point [iblk, V, tiles t]

/-- The kernel ends with its arguments and the counters as at the start. -/
theorem frame : Cert.quiescent_OddOut := fun m ρ _ => Cert.OddOut.Gen.frame m ρ

/-- So does the kernel over the extended reals. -/
theorem frame_ideal : Cert.quiescent_OddOutIdeal := fun m ρ _ => Cert.OddOutIdeal.Gen.frame m ρ

/-- The reference ends with its arguments and the counters as at the start. -/
theorem frame_plain : Cert.quiescent_OddOutPlainIdeal := fun m ρ _ =>
  (θ_run Cert.OddOutPlainIdeal.defs _ _).mono (fun r h => ⟨fun c => (h c).2, sem_eq_zero_of_no_sems (by decide) r.2⟩)
    (Cert.OddOutPlainIdeal.Value.run (F := Ideal) m ρ)

/-- Kernel and reference compute the same. -/
theorem algebraic : Cert.algebraic_OddOutIdeal_OddOutPlainIdeal := by
  intro m g m' g' _ hagree
  refine ⟨_, Cert.OddOutIdeal.Value.run_blocks m g, ?_⟩
  refine (θ_run Cert.OddOutPlainIdeal.defs _ _).mono (fun r h c => ⟨(h c).1.trans ?_, (h c).2⟩) (Cert.OddOutPlainIdeal.Value.run m' g')
  obtain ⟨e0, e1, e2⟩ := hagree c
  rw [result m c, e0, e1, e2]

end OddOut

/-! ## The gradient of the rows -/

namespace OddOutDx

open Cert.OddOutDxIdeal Cert.OddOutDxIdeal.Gen

/-- The reference's result, of its arguments. -/
abbrev plain (a1 : FVec Ideal S1024x1024 .bf16) (a2 : FVec Ideal S4096x1024 .f32) : FVec Ideal S4096x1024 .bf16 :=
  truncf .bf16 (Host.dotGeneral (φ₁ := .f32) (φ₂ := .f32) Cert.OddOutDxPlainIdeal.dot_S4096x1024_S1024x1024_S4096x1024_1_1_0_0_n_n none a2 (extf .f32 a1 Cert.OddOutDxPlainIdeal.Gen.bitsLt_bf16_f32)) Cert.OddOutDxPlainIdeal.Gen.bitsLt_bf16_f32

/-- The tiles that a grid point is given and writes. -/
theorem tiles : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg1)) (m ((c : Thread nD τ).loc main_arg2)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_OddOutDx := fun m ρ _ => Cert.OddOutDx.Gen.frame m ρ

/-- So does the kernel over the extended reals. -/
theorem frame_ideal : Cert.quiescent_OddOutDxIdeal := fun m ρ _ => Cert.OddOutDxIdeal.Gen.frame m ρ

/-- The reference ends with its arguments and the counters as at the start. -/
theorem frame_plain : Cert.quiescent_OddOutDxPlainIdeal := fun m ρ _ =>
  (θ_run Cert.OddOutDxPlainIdeal.defs _ _).mono (fun r h => ⟨fun c => (h c).2, sem_eq_zero_of_no_sems (by decide) r.2⟩)
    (Cert.OddOutDxPlainIdeal.Value.run (F := Ideal) m ρ)

/-- Kernel and reference compute the same. -/
theorem algebraic : Cert.algebraic_OddOutDxIdeal_OddOutDxPlainIdeal := by
  intro m g m' g' _ hagree
  refine ⟨_, Cert.OddOutDxIdeal.Value.run_blocks m g, ?_⟩
  refine (θ_run Cert.OddOutDxPlainIdeal.defs _ _).mono (fun r h c => ⟨(h c).1.trans ?_, (h c).2⟩) (Cert.OddOutDxPlainIdeal.Value.run m' g')
  obtain ⟨e0, e1, e2⟩ := hagree c
  rw [result m c, e1, e2]

end OddOutDx

/-! ## The gradient of the weight -/

namespace OddOutDw

open Cert.OddOutDwIdeal Cert.OddOutDwIdeal.Gen

/-- The reference's result, of its arguments. -/
abbrev plain (a0 : FVec Ideal S4096x1024 .bf16) (a2 : FVec Ideal S4096x1024 .f32) : FVec Ideal S1024x1024 .f32 :=
  transpose S1024x1024 [1, 0] (Host.dotGeneral (φ₁ := .f32) (φ₂ := .f32) Cert.OddOutDwPlainIdeal.dot_S4096x1024_S4096x1024_S1024x1024_0_0_1_1_n_n none a2 (extf .f32 a0 Cert.OddOutDwPlainIdeal.Gen.bitsLt_bf16_f32)) Cert.OddOutDwPlainIdeal.Gen.transposes_S1024x1024_S1024x1024_1_0

/-- The tiles that a grid point is given and writes. -/
theorem tiles : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg2)) := by
  refine (dats m 0 c).arrAt_eq_of_covers 2 _ (by decide +kernel) fun t _ y => ?_
  blk_simp
  rw [after0_2]; frame_out
  pointwise [k0_pay1, plain]
  refine (Finset.sum_congr rfl fun x _ => mul_comm (_ : EReal) _).trans ?_
  blk_point [iblk, V, tiles t]

/-- The kernel ends with its arguments and the counters as at the start. -/
theorem frame : Cert.quiescent_OddOutDw := fun m ρ _ => Cert.OddOutDw.Gen.frame m ρ

/-- So does the kernel over the extended reals. -/
theorem frame_ideal : Cert.quiescent_OddOutDwIdeal := fun m ρ _ => Cert.OddOutDwIdeal.Gen.frame m ρ

/-- The reference ends with its arguments and the counters as at the start. -/
theorem frame_plain : Cert.quiescent_OddOutDwPlainIdeal := fun m ρ _ =>
  (θ_run Cert.OddOutDwPlainIdeal.defs _ _).mono (fun r h => ⟨fun c => (h c).2, sem_eq_zero_of_no_sems (by decide) r.2⟩)
    (Cert.OddOutDwPlainIdeal.Value.run (F := Ideal) m ρ)

/-- Kernel and reference compute the same. -/
theorem algebraic : Cert.algebraic_OddOutDwIdeal_OddOutDwPlainIdeal := by
  intro m g m' g' _ hagree
  refine ⟨_, Cert.OddOutDwIdeal.Value.run_blocks m g, ?_⟩
  refine (θ_run Cert.OddOutDwPlainIdeal.defs _ _).mono (fun r h c => ⟨(h c).1.trans ?_, (h c).2⟩) (Cert.OddOutDwPlainIdeal.Value.run m' g')
  obtain ⟨e0, e1, e2⟩ := hagree c
  rw [result m c, e0, e2]

end OddOutDw

end Cert.Products

end
-- ==== Proof.Adam.lean ====
/-
  The optimiser's step, as the reference has it, on an array of any shape.
-/
module

public import Idealize.ShloMosaic.PureOps.Ideal
public import Idealize.ShloMosaic.Lib.Pipeline.ValueKit

@[expose] public section

noncomputable section

namespace Cert.Adam

open Idealize.ShloMosaic

/-- The shape of a number. -/
abbrev S0 : Shape := ⟨0, ![]⟩

variable {s : Shape} (hb : S0.BroadcastsInDim s (![] : Fin 0 → Fin s.rank))

/-- The float word `b` everywhere. -/
abbrev all (b : BitVec 32) : FVec Ideal s .f32 := broadcastInDim s ![] hb (constant S0 .f32 b)

/-- The new first moment, of the gradient and the old one. -/
abbrev moment (g m : FVec Ideal s .f32) : FVec Ideal s .f32 :=
  addf (mulf (all hb 0x3F666666#32) m) (mulf (all hb 0x3DCCCCCD#32) g)

/-- The new second moment. -/
abbrev square (g v : FVec Ideal s .f32) : FVec Ideal s .f32 :=
  addf (mulf (all hb 0x3F7FBE77#32) v) (mulf (all hb 0x3A83126F#32) (mulf g g))

/-- The weight's change. -/
abbrev delta (w g m v : FVec Ideal s .f32) : FVec Ideal s .f32 :=
  mulf (all hb 0xBA83126F#32)
    (addf (Host.divf (Host.divf (moment hb g m) (all hb 0x3F26BD02#32))
        (addf (Host.sqrt (Host.divf (square hb g v) (all hb 0x3C231ACC#32))) (all hb 0x322BCC77#32)))
      (mulf (all hb 0x3C23D70A#32) w))

/-! The same of three or four numbers. -/

/-- The number that a float word is. -/
abbrev lit (b : BitVec 32) : EReal := Ideal.ofBits .f32 b

/-- The new first moment. -/
def moment1 (g m : EReal) : EReal := lit 0x3F666666#32 * m + lit 0x3DCCCCCD#32 * g

/-- The new second moment. -/
def square1 (g v : EReal) : EReal := lit 0x3F7FBE77#32 * v + lit 0x3A83126F#32 * (g * g)

/-- The weight's change. -/
def delta1 (w g m v : EReal) : EReal :=
  lit 0xBA83126F#32 * (Ideal.div (Ideal.div (moment1 g m) (lit 0x3F26BD02#32))
      (Ideal.sqrt (Ideal.div (square1 g v) (lit 0x3C231ACC#32)) + lit 0x322BCC77#32) + lit 0x3C23D70A#32 * w)

variable {r : Shape} (h : s.ShapeCasts r) (w g m v : FVec Ideal s .f32) (i : r.Idx) (j : s.Idx)

/-! The arrays are these element by element. -/

theorem moment_apply : moment hb g m j = moment1 (g j) (m j) := rfl

theorem square_apply : square hb g v j = square1 (g j) (v j) := rfl

theorem delta_apply : delta hb w g m v j = delta1 (w j) (g j) (m j) (v j) := rfl

/-! So they are when laid out in another shape. -/

theorem cast_moment : shapeCast r (moment hb g m) h i = moment1 (shapeCast r g h i) (shapeCast r m h i) := rfl

theorem cast_square : shapeCast r (square hb g v) h i = square1 (shapeCast r g h i) (shapeCast r v h i) := rfl

theorem cast_delta : shapeCast r (delta hb w g m v) h i
    = delta1 (shapeCast r w h i) (shapeCast r g h i) (shapeCast r m h i) (shapeCast r v h i) := rfl

end Cert.Adam

end
-- ==== Proof.AdamEven.lean ====
/-
  The optimiser's step of the even layer's weights, and of the layers' norms.
-/
module

public import proofs.«01_k».proof.Defs
public import proofs.«01_k».proof.Proof.Adam
public import proofs.«01_k».proof.Proof.Gen.AdamNorms.Frame
public import proofs.«01_k».proof.Proof.Gen.AdamNormsIdeal.Value
public import proofs.«01_k».proof.Proof.Gen.AdamNormsPlainIdeal.Run
public import proofs.«01_k».proof.Proof.Gen.AdamEvenIn.Frame
public import proofs.«01_k».proof.Proof.Gen.AdamEvenInIdeal.Value
public import proofs.«01_k».proof.Proof.Gen.AdamEvenInPlainIdeal.Run
public import proofs.«01_k».proof.Proof.Gen.AdamEvenConv.Frame
public import proofs.«01_k».proof.Proof.Gen.AdamEvenConvIdeal.Value
public import proofs.«01_k».proof.Proof.Gen.AdamEvenConvPlainIdeal.Run
public import proofs.«01_k».proof.Proof.Gen.AdamEvenBias.Frame
public import proofs.«01_k».proof.Proof.Gen.AdamEvenBiasIdeal.Value
public import proofs.«01_k».proof.Proof.Gen.AdamEvenBiasPlainIdeal.Run
public import proofs.«01_k».proof.Proof.Gen.AdamEvenHeads.Frame
public import proofs.«01_k».proof.Proof.Gen.AdamEvenHeadsIdeal.Value
public import proofs.«01_k».proof.Proof.Gen.AdamEvenHeadsPlainIdeal.Run
public import proofs.«01_k».proof.Proof.Gen.AdamEvenNorm.Frame
public import proofs.«01_k».proof.Proof.Gen.AdamEvenNormIdeal.Value
public import proofs.«01_k».proof.Proof.Gen.AdamEvenNormPlainIdeal.Run
public import proofs.«01_k».proof.Proof.Gen.AdamEvenOut.Frame
public import proofs.«01_k».proof.Proof.Gen.AdamEvenOutIdeal.Value
public import proofs.«01_k».proof.Proof.Gen.AdamEvenOutPlainIdeal.Run

@[expose] public section

set_option maxRecDepth 16384

noncomputable section

namespace Cert.Adam

open Idealize.ShloMosaic Idealize.ShloMosaic.TcCoe Idealize.SL.Sem

/-! ## 2 by 1024 -/

namespace AdamNorms

open Cert.AdamNormsIdeal Cert.AdamNormsIdeal.Gen

variable (m : (ℓ : Loc nD τ sig) → Buf (Elt Ideal) ℓ) (c : Dev nD) (t : Fin cfg0.N)

abbrev hb := Cert.AdamNormsPlainIdeal.Gen.facts.bcast_S_S2x1024

/-! A tile of the weight, of its gradient and of the two moments, by the elements of the whole. -/

theorem at0 (y) : iblk m c 0 t y = (m ((c : Thread nD τ).loc main_arg0)) (((cfg0.win 4).blk t).view.emb y) := rfl
theorem at1 (y) : iblk m c 1 t y = (m ((c : Thread nD τ).loc main_arg1)) (((cfg0.win 4).blk t).view.emb y) := rfl
theorem at2 (y) : iblk m c 2 t y = (m ((c : Thread nD τ).loc main_arg2)) (((cfg0.win 4).blk t).view.emb y) := rfl
theorem at3 (y) : iblk m c 3 t y = (m ((c : Thread nD τ).loc main_arg3)) (((cfg0.win 4).blk t).view.emb y) := rfl

/-! What the kernel writes, element by element. -/

theorem pay_moment (g m : FVec Ideal _ .f32) (y) : k0_pay1 (F := Ideal) g m y = moment1 (g y) (m y) := by
  pointwise [k0_pay1, moment1]
theorem pay_square (g v : FVec Ideal _ .f32) (y) : k0_pay2 (F := Ideal) g v y = square1 (g y) (v y) := by
  pointwise [k0_pay2, square1]
theorem pay_delta (w g m v : FVec Ideal _ .f32) (y) : k0_pay3 (F := Ideal) g m v w y = delta1 (w y) (g y) (m y) (v y) := by
  pointwise [k0_pay1, k0_pay2, k0_pay3, delta1, moment1, square1]

/-- The weight's change. -/
theorem changed : (dats m 0 c).arrAt 4 cfg0.N = delta hb (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  rw [pay_delta, delta_apply, at0 m c t y, at1 m c t y, at2 m c t y, at3 m c t y]

/-- The new first moment. -/
theorem first : (dats m 0 c).arrAt 5 cfg0.N = moment hb (m ((c : Thread nD τ).loc main_arg1)) (m ((c : Thread nD τ).loc main_arg2)) := by
  refine (dats m 0 c).arrAt_eq_of_covers 5 _ (by decide +kernel) fun t _ y => ?_
  blk_simp
  rw [after0_5]; frame_out
  rw [pay_moment, moment_apply, at1 m c t y, at2 m c t y]
  rfl

/-- The new second moment. -/
theorem second : (dats m 0 c).arrAt 6 cfg0.N = square hb (m ((c : Thread nD τ).loc main_arg1)) (m ((c : Thread nD τ).loc main_arg3)) := by
  refine (dats m 0 c).arrAt_eq_of_covers 6 _ (by decide +kernel) fun t _ y => ?_
  blk_simp
  rw [after0_6]; frame_out
  rw [pay_square, square_apply, at1 m c t y, at3 m c t y]
  rfl

theorem frame : Cert.quiescent_AdamNorms := fun m ρ _ => Cert.AdamNorms.Gen.frame m ρ

theorem frame_ideal : Cert.quiescent_AdamNormsIdeal := fun m ρ _ => Cert.AdamNormsIdeal.Gen.frame m ρ

theorem frame_plain : Cert.quiescent_AdamNormsPlainIdeal := fun m ρ _ =>
  (θ_run Cert.AdamNormsPlainIdeal.defs _ _).mono (fun r h => ⟨fun c => (h c).2.2.2, sem_eq_zero_of_no_sems (by decide) r.2⟩)
    (Cert.AdamNormsPlainIdeal.Value.run (F := Ideal) m ρ)

/-- Kernel and reference compute the same. -/
theorem algebraic : Cert.algebraic_AdamNormsIdeal_AdamNormsPlainIdeal := by
  intro m g m' g' _ hagree
  refine ⟨_, _, _, Cert.AdamNormsIdeal.Value.run_blocks m g, ?_⟩
  refine (θ_run Cert.AdamNormsPlainIdeal.defs _ _).mono (fun r h c => ?_) (Cert.AdamNormsPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamNorms

/-! ## 1 by 1024 by 1412, laid out as 1024 by 1412 -/

namespace AdamEvenIn

open Cert.AdamEvenInIdeal Cert.AdamEvenInIdeal.Gen

variable (m : (ℓ : Loc nD τ sig) → Buf (Elt Ideal) ℓ) (c : Dev nD) (t : Fin cfg0.N)

abbrev hb := Cert.AdamEvenInPlainIdeal.Gen.facts.bcast_S_S1x1024x1412
abbrev hs := Cert.AdamEvenInPlainIdeal.Gen.facts.shapeCasts_S1x1024x1412_S1024x1412

/-! A tile of the weight, of its gradient and of the two moments, by the elements of the whole. -/

theorem at0 (y) : iblk m c 0 t y = shapeCast S1024x1412 (m ((c : Thread nD τ).loc main_arg0)) hs (((cfg0.win 4).blk t).view.emb y) := rfl
theorem at1 (y) : iblk m c 1 t y = shapeCast S1024x1412 (m ((c : Thread nD τ).loc main_arg1)) hs (((cfg0.win 4).blk t).view.emb y) := rfl
theorem at2 (y) : iblk m c 2 t y = shapeCast S1024x1412 (m ((c : Thread nD τ).loc main_arg2)) hs (((cfg0.win 4).blk t).view.emb y) := rfl
theorem at3 (y) : iblk m c 3 t y = shapeCast S1024x1412 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S1024x1412 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S1024x1412 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S1024x1412 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamEvenIn := fun m ρ _ => Cert.AdamEvenIn.Gen.frame m ρ

theorem frame_ideal : Cert.quiescent_AdamEvenInIdeal := fun m ρ _ => Cert.AdamEvenInIdeal.Gen.frame m ρ

theorem frame_plain : Cert.quiescent_AdamEvenInPlainIdeal := fun m ρ _ =>
  (θ_run Cert.AdamEvenInPlainIdeal.defs _ _).mono (fun r h => ⟨fun c => (h c).2.2.2, sem_eq_zero_of_no_sems (by decide) r.2⟩)
    (Cert.AdamEvenInPlainIdeal.Value.run (F := Ideal) m ρ)

/-- Kernel and reference compute the same. -/
theorem algebraic : Cert.algebraic_AdamEvenInIdeal_AdamEvenInPlainIdeal := by
  intro m g m' g' _ hagree
  refine ⟨_, _, _, Cert.AdamEvenInIdeal.Value.run_blocks m g, ?_⟩
  refine (θ_run Cert.AdamEvenInPlainIdeal.defs _ _).mono (fun r h c => ?_) (Cert.AdamEvenInPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamEvenIn

/-! ## 1 by 4 by 384, laid out as 4 by 384 -/

namespace AdamEvenConv

open Cert.AdamEvenConvIdeal Cert.AdamEvenConvIdeal.Gen

variable (m : (ℓ : Loc nD τ sig) → Buf (Elt Ideal) ℓ) (c : Dev nD) (t : Fin cfg0.N)

abbrev hb := Cert.AdamEvenConvPlainIdeal.Gen.facts.bcast_S_S1x4x384
abbrev hs := Cert.AdamEvenConvPlainIdeal.Gen.facts.shapeCasts_S1x4x384_S4x384

/-! A tile of the weight, of its gradient and of the two moments, by the elements of the whole. -/

theorem at0 (y) : iblk m c 0 t y = shapeCast S4x384 (m ((c : Thread nD τ).loc main_arg0)) hs (((cfg0.win 4).blk t).view.emb y) := rfl
theorem at1 (y) : iblk m c 1 t y = shapeCast S4x384 (m ((c : Thread nD τ).loc main_arg1)) hs (((cfg0.win 4).blk t).view.emb y) := rfl
theorem at2 (y) : iblk m c 2 t y = shapeCast S4x384 (m ((c : Thread nD τ).loc main_arg2)) hs (((cfg0.win 4).blk t).view.emb y) := rfl
theorem at3 (y) : iblk m c 3 t y = shapeCast S4x384 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S4x384 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S4x384 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S4x384 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamEvenConv := fun m ρ _ => Cert.AdamEvenConv.Gen.frame m ρ

theorem frame_ideal : Cert.quiescent_AdamEvenConvIdeal := fun m ρ _ => Cert.AdamEvenConvIdeal.Gen.frame m ρ

theorem frame_plain : Cert.quiescent_AdamEvenConvPlainIdeal := fun m ρ _ =>
  (θ_run Cert.AdamEvenConvPlainIdeal.defs _ _).mono (fun r h => ⟨fun c => (h c).2.2.2, sem_eq_zero_of_no_sems (by decide) r.2⟩)
    (Cert.AdamEvenConvPlainIdeal.Value.run (F := Ideal) m ρ)

/-- Kernel and reference compute the same. -/
theorem algebraic : Cert.algebraic_AdamEvenConvIdeal_AdamEvenConvPlainIdeal := by
  intro m g m' g' _ hagree
  refine ⟨_, _, _, Cert.AdamEvenConvIdeal.Value.run_blocks m g, ?_⟩
  refine (θ_run Cert.AdamEvenConvPlainIdeal.defs _ _).mono (fun r h c => ?_) (Cert.AdamEvenConvPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamEvenConv

/-! ## 1 by 1536 -/

namespace AdamEvenBias

open Cert.AdamEvenBiasIdeal Cert.AdamEvenBiasIdeal.Gen

variable (m : (ℓ : Loc nD τ sig) → Buf (Elt Ideal) ℓ) (c : Dev nD) (t : Fin cfg0.N)

abbrev hb := Cert.AdamEvenBiasPlainIdeal.Gen.facts.bcast_S_S1x1536

/-! A tile of the weight, of its gradient and of the two moments, by the elements of the whole. -/

theorem at0 (y) : iblk m c 0 t y = (m ((c : Thread nD τ).loc main_arg0)) (((cfg0.win 4).blk t).view.emb y) := rfl
theorem at1 (y) : iblk m c 1 t y = (m ((c : Thread nD τ).loc main_arg1)) (((cfg0.win 4).blk t).view.emb y) := rfl
theorem at2 (y) : iblk m c 2 t y = (m ((c : Thread nD τ).loc main_arg2)) (((cfg0.win 4).blk t).view.emb y) := rfl
theorem at3 (y) : iblk m c 3 t y = (m ((c : Thread nD τ).loc main_arg3)) (((cfg0.win 4).blk t).view.emb y) := rfl

/-! What the kernel writes, element by element. -/

theorem pay_moment (g m : FVec Ideal _ .f32) (y) : k0_pay1 (F := Ideal) g m y = moment1 (g y) (m y) := by
  pointwise [k0_pay1, moment1]
theorem pay_square (g v : FVec Ideal _ .f32) (y) : k0_pay2 (F := Ideal) g v y = square1 (g y) (v y) := by
  pointwise [k0_pay2, square1]
theorem pay_delta (w g m v : FVec Ideal _ .f32) (y) : k0_pay3 (F := Ideal) g m v w y = delta1 (w y) (g y) (m y) (v y) := by
  pointwise [k0_pay1, k0_pay2, k0_pay3, delta1, moment1, square1]

/-- The weight's change. -/
theorem changed : (dats m 0 c).arrAt 4 cfg0.N = delta hb (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  rw [pay_delta, delta_apply, at0 m c t y, at1 m c t y, at2 m c t y, at3 m c t y]

/-- The new first moment. -/
theorem first : (dats m 0 c).arrAt 5 cfg0.N = moment hb (m ((c : Thread nD τ).loc main_arg1)) (m ((c : Thread nD τ).loc main_arg2)) := by
  refine (dats m 0 c).arrAt_eq_of_covers 5 _ (by decide +kernel) fun t _ y => ?_
  blk_simp
  rw [after0_5]; frame_out
  rw [pay_moment, moment_apply, at1 m c t y, at2 m c t y]
  rfl

/-- The new second moment. -/
theorem second : (dats m 0 c).arrAt 6 cfg0.N = square hb (m ((c : Thread nD τ).loc main_arg1)) (m ((c : Thread nD τ).loc main_arg3)) := by
  refine (dats m 0 c).arrAt_eq_of_covers 6 _ (by decide +kernel) fun t _ y => ?_
  blk_simp
  rw [after0_6]; frame_out
  rw [pay_square, square_apply, at1 m c t y, at3 m c t y]
  rfl

theorem frame : Cert.quiescent_AdamEvenBias := fun m ρ _ => Cert.AdamEvenBias.Gen.frame m ρ

theorem frame_ideal : Cert.quiescent_AdamEvenBiasIdeal := fun m ρ _ => Cert.AdamEvenBiasIdeal.Gen.frame m ρ

theorem frame_plain : Cert.quiescent_AdamEvenBiasPlainIdeal := fun m ρ _ =>
  (θ_run Cert.AdamEvenBiasPlainIdeal.defs _ _).mono (fun r h => ⟨fun c => (h c).2.2.2, sem_eq_zero_of_no_sems (by decide) r.2⟩)
    (Cert.AdamEvenBiasPlainIdeal.Value.run (F := Ideal) m ρ)

/-- Kernel and reference compute the same. -/
theorem algebraic : Cert.algebraic_AdamEvenBiasIdeal_AdamEvenBiasPlainIdeal := by
  intro m g m' g' _ hagree
  refine ⟨_, _, _, Cert.AdamEvenBiasIdeal.Value.run_blocks m g, ?_⟩
  refine (θ_run Cert.AdamEvenBiasPlainIdeal.defs _ _).mono (fun r h c => ?_) (Cert.AdamEvenBiasPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamEvenBias

/-! ## 1 by 16 -/

namespace AdamEvenHeads

open Cert.AdamEvenHeadsIdeal Cert.AdamEvenHeadsIdeal.Gen

variable (m : (ℓ : Loc nD τ sig) → Buf (Elt Ideal) ℓ) (c : Dev nD) (t : Fin cfg0.N)

abbrev hb := Cert.AdamEvenHeadsPlainIdeal.Gen.facts.bcast_S_S1x16

/-! A tile of the weight, of its gradient and of the two moments, by the elements of the whole. -/

theorem at0 (y) : iblk m c 0 t y = (m ((c : Thread nD τ).loc main_arg0)) (((cfg0.win 4).blk t).view.emb y) := rfl
theorem at1 (y) : iblk m c 1 t y = (m ((c : Thread nD τ).loc main_arg1)) (((cfg0.win 4).blk t).view.emb y) := rfl
theorem at2 (y) : iblk m c 2 t y = (m ((c : Thread nD τ).loc main_arg2)) (((cfg0.win 4).blk t).view.emb y) := rfl
theorem at3 (y) : iblk m c 3 t y = (m ((c : Thread nD τ).loc main_arg3)) (((cfg0.win 4).blk t).view.emb y) := rfl

/-! What the kernel writes, element by element. -/

theorem pay_moment (g m : FVec Ideal _ .f32) (y) : k0_pay1 (F := Ideal) g m y = moment1 (g y) (m y) := by
  pointwise [k0_pay1, moment1]
theorem pay_square (g v : FVec Ideal _ .f32) (y) : k0_pay2 (F := Ideal) g v y = square1 (g y) (v y) := by
  pointwise [k0_pay2, square1]
theorem pay_delta (w g m v : FVec Ideal _ .f32) (y) : k0_pay3 (F := Ideal) g m v w y = delta1 (w y) (g y) (m y) (v y) := by
  pointwise [k0_pay1, k0_pay2, k0_pay3, delta1, moment1, square1]

/-- The weight's change. -/
theorem changed : (dats m 0 c).arrAt 4 cfg0.N = delta hb (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  rw [pay_delta, delta_apply, at0 m c t y, at1 m c t y, at2 m c t y, at3 m c t y]

/-- The new first moment. -/
theorem first : (dats m 0 c).arrAt 5 cfg0.N = moment hb (m ((c : Thread nD τ).loc main_arg1)) (m ((c : Thread nD τ).loc main_arg2)) := by
  refine (dats m 0 c).arrAt_eq_of_covers 5 _ (by decide +kernel) fun t _ y => ?_
  blk_simp
  rw [after0_5]; frame_out
  rw [pay_moment, moment_apply, at1 m c t y, at2 m c t y]
  rfl

/-- The new second moment. -/
theorem second : (dats m 0 c).arrAt 6 cfg0.N = square hb (m ((c : Thread nD τ).loc main_arg1)) (m ((c : Thread nD τ).loc main_arg3)) := by
  refine (dats m 0 c).arrAt_eq_of_covers 6 _ (by decide +kernel) fun t _ y => ?_
  blk_simp
  rw [after0_6]; frame_out
  rw [pay_square, square_apply, at1 m c t y, at3 m c t y]
  rfl

theorem frame : Cert.quiescent_AdamEvenHeads := fun m ρ _ => Cert.AdamEvenHeads.Gen.frame m ρ

theorem frame_ideal : Cert.quiescent_AdamEvenHeadsIdeal := fun m ρ _ => Cert.AdamEvenHeadsIdeal.Gen.frame m ρ

theorem frame_plain : Cert.quiescent_AdamEvenHeadsPlainIdeal := fun m ρ _ =>
  (θ_run Cert.AdamEvenHeadsPlainIdeal.defs _ _).mono (fun r h => ⟨fun c => (h c).2.2.2, sem_eq_zero_of_no_sems (by decide) r.2⟩)
    (Cert.AdamEvenHeadsPlainIdeal.Value.run (F := Ideal) m ρ)

/-- Kernel and reference compute the same. -/
theorem algebraic : Cert.algebraic_AdamEvenHeadsIdeal_AdamEvenHeadsPlainIdeal := by
  intro m g m' g' _ hagree
  refine ⟨_, _, _, Cert.AdamEvenHeadsIdeal.Value.run_blocks m g, ?_⟩
  refine (θ_run Cert.AdamEvenHeadsPlainIdeal.defs _ _).mono (fun r h c => ?_) (Cert.AdamEvenHeadsPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamEvenHeads

/-! ## 1 by 1024 -/

namespace AdamEvenNorm

open Cert.AdamEvenNormIdeal Cert.AdamEvenNormIdeal.Gen

variable (m : (ℓ : Loc nD τ sig) → Buf (Elt Ideal) ℓ) (c : Dev nD) (t : Fin cfg0.N)

abbrev hb := Cert.AdamEvenNormPlainIdeal.Gen.facts.bcast_S_S1x1024

/-! A tile of the weight, of its gradient and of the two moments, by the elements of the whole. -/

theorem at0 (y) : iblk m c 0 t y = (m ((c : Thread nD τ).loc main_arg0)) (((cfg0.win 4).blk t).view.emb y) := rfl
theorem at1 (y) : iblk m c 1 t y = (m ((c : Thread nD τ).loc main_arg1)) (((cfg0.win 4).blk t).view.emb y) := rfl
theorem at2 (y) : iblk m c 2 t y = (m ((c : Thread nD τ).loc main_arg2)) (((cfg0.win 4).blk t).view.emb y) := rfl
theorem at3 (y) : iblk m c 3 t y = (m ((c : Thread nD τ).loc main_arg3)) (((cfg0.win 4).blk t).view.emb y) := rfl

/-! What the kernel writes, element by element. -/

theorem pay_moment (g m : FVec Ideal _ .f32) (y) : k0_pay1 (F := Ideal) g m y = moment1 (g y) (m y) := by
  pointwise [k0_pay1, moment1]
theorem pay_square (g v : FVec Ideal _ .f32) (y) : k0_pay2 (F := Ideal) g v y = square1 (g y) (v y) := by
  pointwise [k0_pay2, square1]
theorem pay_delta (w g m v : FVec Ideal _ .f32) (y) : k0_pay3 (F := Ideal) g m v w y = delta1 (w y) (g y) (m y) (v y) := by
  pointwise [k0_pay1, k0_pay2, k0_pay3, delta1, moment1, square1]

/-- The weight's change. -/
theorem changed : (dats m 0 c).arrAt 4 cfg0.N = delta hb (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  rw [pay_delta, delta_apply, at0 m c t y, at1 m c t y, at2 m c t y, at3 m c t y]

/-- The new first moment. -/
theorem first : (dats m 0 c).arrAt 5 cfg0.N = moment hb (m ((c : Thread nD τ).loc main_arg1)) (m ((c : Thread nD τ).loc main_arg2)) := by
  refine (dats m 0 c).arrAt_eq_of_covers 5 _ (by decide +kernel) fun t _ y => ?_
  blk_simp
  rw [after0_5]; frame_out
  rw [pay_moment, moment_apply, at1 m c t y, at2 m c t y]
  rfl

/-- The new second moment. -/
theorem second : (dats m 0 c).arrAt 6 cfg0.N = square hb (m ((c : Thread nD τ).loc main_arg1)) (m ((c : Thread nD τ).loc main_arg3)) := by
  refine (dats m 0 c).arrAt_eq_of_covers 6 _ (by decide +kernel) fun t _ y => ?_
  blk_simp
  rw [after0_6]; frame_out
  rw [pay_square, square_apply, at1 m c t y, at3 m c t y]
  rfl

theorem frame : Cert.quiescent_AdamEvenNorm := fun m ρ _ => Cert.AdamEvenNorm.Gen.frame m ρ

theorem frame_ideal : Cert.quiescent_AdamEvenNormIdeal := fun m ρ _ => Cert.AdamEvenNormIdeal.Gen.frame m ρ

theorem frame_plain : Cert.quiescent_AdamEvenNormPlainIdeal := fun m ρ _ =>
  (θ_run Cert.AdamEvenNormPlainIdeal.defs _ _).mono (fun r h => ⟨fun c => (h c).2.2.2, sem_eq_zero_of_no_sems (by decide) r.2⟩)
    (Cert.AdamEvenNormPlainIdeal.Value.run (F := Ideal) m ρ)

/-- Kernel and reference compute the same. -/
theorem algebraic : Cert.algebraic_AdamEvenNormIdeal_AdamEvenNormPlainIdeal := by
  intro m g m' g' _ hagree
  refine ⟨_, _, _, Cert.AdamEvenNormIdeal.Value.run_blocks m g, ?_⟩
  refine (θ_run Cert.AdamEvenNormPlainIdeal.defs _ _).mono (fun r h c => ?_) (Cert.AdamEvenNormPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamEvenNorm

/-! ## 1 by 512 by 1024, laid out as 512 by 1024 -/

namespace AdamEvenOut

open Cert.AdamEvenOutIdeal Cert.AdamEvenOutIdeal.Gen

variable (m : (ℓ : Loc nD τ sig) → Buf (Elt Ideal) ℓ) (c : Dev nD) (t : Fin cfg0.N)

abbrev hb := Cert.AdamEvenOutPlainIdeal.Gen.facts.bcast_S_S1x512x1024
abbrev hs := Cert.AdamEvenOutPlainIdeal.Gen.facts.shapeCasts_S1x512x1024_S512x1024

/-! A tile of the weight, of its gradient and of the two moments, by the elements of the whole. -/

theorem at0 (y) : iblk m c 0 t y = shapeCast S512x1024 (m ((c : Thread nD τ).loc main_arg0)) hs (((cfg0.win 4).blk t).view.emb y) := rfl
theorem at1 (y) : iblk m c 1 t y = shapeCast S512x1024 (m ((c : Thread nD τ).loc main_arg1)) hs (((cfg0.win 4).blk t).view.emb y) := rfl
theorem at2 (y) : iblk m c 2 t y = shapeCast S512x1024 (m ((c : Thread nD τ).loc main_arg2)) hs (((cfg0.win 4).blk t).view.emb y) := rfl
theorem at3 (y) : iblk m c 3 t y = shapeCast S512x1024 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S512x1024 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S512x1024 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S512x1024 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamEvenOut := fun m ρ _ => Cert.AdamEvenOut.Gen.frame m ρ

theorem frame_ideal : Cert.quiescent_AdamEvenOutIdeal := fun m ρ _ => Cert.AdamEvenOutIdeal.Gen.frame m ρ

theorem frame_plain : Cert.quiescent_AdamEvenOutPlainIdeal := fun m ρ _ =>
  (θ_run Cert.AdamEvenOutPlainIdeal.defs _ _).mono (fun r h => ⟨fun c => (h c).2.2.2, sem_eq_zero_of_no_sems (by decide) r.2⟩)
    (Cert.AdamEvenOutPlainIdeal.Value.run (F := Ideal) m ρ)

/-- Kernel and reference compute the same. -/
theorem algebraic : Cert.algebraic_AdamEvenOutIdeal_AdamEvenOutPlainIdeal := by
  intro m g m' g' _ hagree
  refine ⟨_, _, _, Cert.AdamEvenOutIdeal.Value.run_blocks m g, ?_⟩
  refine (θ_run Cert.AdamEvenOutPlainIdeal.defs _ _).mono (fun r h c => ?_) (Cert.AdamEvenOutPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamEvenOut

end Cert.Adam

end
-- ==== Proof.AdamOdd.lean ====
/-
  The optimiser's step of the odd layer's weights.
-/
module

public import proofs.«01_k».proof.Defs
public import proofs.«01_k».proof.Proof.Adam
public import proofs.«01_k».proof.Proof.Gen.AdamOddIn.Frame
public import proofs.«01_k».proof.Proof.Gen.AdamOddInIdeal.Value
public import proofs.«01_k».proof.Proof.Gen.AdamOddInPlainIdeal.Run
public import proofs.«01_k».proof.Proof.Gen.AdamOddConv.Frame
public import proofs.«01_k».proof.Proof.Gen.AdamOddConvIdeal.Value
public import proofs.«01_k».proof.Proof.Gen.AdamOddConvPlainIdeal.Run
public import proofs.«01_k».proof.Proof.Gen.AdamOddRow.Frame
public import proofs.«01_k».proof.Proof.Gen.AdamOddRowIdeal.Value
public import proofs.«01_k».proof.Proof.Gen.AdamOddRowPlainIdeal.Run
public import proofs.«01_k».proof.Proof.Gen.AdamOddPoles.Frame
public import proofs.«01_k».proof.Proof.Gen.AdamOddPolesIdeal.Value
public import proofs.«01_k».proof.Proof.Gen.AdamOddPolesPlainIdeal.Run
public import proofs.«01_k».proof.Proof.Gen.AdamOddInputs.Frame
public import proofs.«01_k».proof.Proof.Gen.AdamOddInputsIdeal.Value
public import proofs.«01_k».proof.Proof.Gen.AdamOddInputsPlainIdeal.Run
public import proofs.«01_k».proof.Proof.Gen.AdamOddOutputs.Frame
public import proofs.«01_k».proof.Proof.Gen.AdamOddOutputsIdeal.Value
public import proofs.«01_k».proof.Proof.Gen.AdamOddOutputsPlainIdeal.Run
public import proofs.«01_k».proof.Proof.Gen.AdamOddSteps.Frame
public import proofs.«01_k».proof.Proof.Gen.AdamOddStepsIdeal.Value
public import proofs.«01_k».proof.Proof.Gen.AdamOddStepsPlainIdeal.Run
public import proofs.«01_k».proof.Proof.Gen.AdamOddGate.Frame
public import proofs.«01_k».proof.Proof.Gen.AdamOddGateIdeal.Value
public import proofs.«01_k».proof.Proof.Gen.AdamOddGatePlainIdeal.Run
public import proofs.«01_k».proof.Proof.Gen.AdamOddOut.Frame
public import proofs.«01_k».proof.Proof.Gen.AdamOddOutIdeal.Value
public import proofs.«01_k».proof.Proof.Gen.AdamOddOutPlainIdeal.Run

@[expose] public section

set_option maxRecDepth 16384

noncomputable section

namespace Cert.Adam

open Idealize.ShloMosaic Idealize.ShloMosaic.TcCoe Idealize.SL.Sem

/-! ## 1 by 1024 by 384, laid out as 1024 by 384 -/

namespace AdamOddIn

open Cert.AdamOddInIdeal Cert.AdamOddInIdeal.Gen

variable (m : (ℓ : Loc nD τ sig) → Buf (Elt Ideal) ℓ) (c : Dev nD) (t : Fin cfg0.N)

abbrev hb := Cert.AdamOddInPlainIdeal.Gen.facts.bcast_S_S1x1024x384
abbrev hs := Cert.AdamOddInPlainIdeal.Gen.facts.shapeCasts_S1x1024x384_S1024x384

/-! A tile of the weight, of its gradient and of the two moments, by the elements of the whole. -/

theorem at0 (y) : iblk m c 0 t y = shapeCast S1024x384 (m ((c : Thread nD τ).loc main_arg0)) hs (((cfg0.win 4).blk t).view.emb y) := rfl
theorem at1 (y) : iblk m c 1 t y = shapeCast S1024x384 (m ((c : Thread nD τ).loc main_arg1)) hs (((cfg0.win 4).blk t).view.emb y) := rfl
theorem at2 (y) : iblk m c 2 t y = shapeCast S1024x384 (m ((c : Thread nD τ).loc main_arg2)) hs (((cfg0.win 4).blk t).view.emb y) := rfl
theorem at3 (y) : iblk m c 3 t y = shapeCast S1024x384 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S1024x384 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S1024x384 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S1024x384 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamOddIn := fun m ρ _ => Cert.AdamOddIn.Gen.frame m ρ

theorem frame_ideal : Cert.quiescent_AdamOddInIdeal := fun m ρ _ => Cert.AdamOddInIdeal.Gen.frame m ρ

theorem frame_plain : Cert.quiescent_AdamOddInPlainIdeal := fun m ρ _ =>
  (θ_run Cert.AdamOddInPlainIdeal.defs _ _).mono (fun r h => ⟨fun c => (h c).2.2.2, sem_eq_zero_of_no_sems (by decide) r.2⟩)
    (Cert.AdamOddInPlainIdeal.Value.run (F := Ideal) m ρ)

/-- Kernel and reference compute the same. -/
theorem algebraic : Cert.algebraic_AdamOddInIdeal_AdamOddInPlainIdeal := by
  intro m g m' g' _ hagree
  refine ⟨_, _, _, Cert.AdamOddInIdeal.Value.run_blocks m g, ?_⟩
  refine (θ_run Cert.AdamOddInPlainIdeal.defs _ _).mono (fun r h c => ?_) (Cert.AdamOddInPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamOddIn

/-! ## 1 by 31 by 128, laid out as 31 by 128 -/

namespace AdamOddConv

open Cert.AdamOddConvIdeal Cert.AdamOddConvIdeal.Gen

variable (m : (ℓ : Loc nD τ sig) → Buf (Elt Ideal) ℓ) (c : Dev nD) (t : Fin cfg0.N)

abbrev hb := Cert.AdamOddConvPlainIdeal.Gen.facts.bcast_S_S1x31x128
abbrev hs := Cert.AdamOddConvPlainIdeal.Gen.facts.shapeCasts_S1x31x128_S31x128

/-! A tile of the weight, of its gradient and of the two moments, by the elements of the whole. -/

theorem at0 (y) : iblk m c 0 t y = shapeCast S31x128 (m ((c : Thread nD τ).loc main_arg0)) hs (((cfg0.win 4).blk t).view.emb y) := rfl
theorem at1 (y) : iblk m c 1 t y = shapeCast S31x128 (m ((c : Thread nD τ).loc main_arg1)) hs (((cfg0.win 4).blk t).view.emb y) := rfl
theorem at2 (y) : iblk m c 2 t y = shapeCast S31x128 (m ((c : Thread nD τ).loc main_arg2)) hs (((cfg0.win 4).blk t).view.emb y) := rfl
theorem at3 (y) : iblk m c 3 t y = shapeCast S31x128 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S31x128 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S31x128 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S31x128 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamOddConv := fun m ρ _ => Cert.AdamOddConv.Gen.frame m ρ

theorem frame_ideal : Cert.quiescent_AdamOddConvIdeal := fun m ρ _ => Cert.AdamOddConvIdeal.Gen.frame m ρ

theorem frame_plain : Cert.quiescent_AdamOddConvPlainIdeal := fun m ρ _ =>
  (θ_run Cert.AdamOddConvPlainIdeal.defs _ _).mono (fun r h => ⟨fun c => (h c).2.2.2, sem_eq_zero_of_no_sems (by decide) r.2⟩)
    (Cert.AdamOddConvPlainIdeal.Value.run (F := Ideal) m ρ)

/-- Kernel and reference compute the same. -/
theorem algebraic : Cert.algebraic_AdamOddConvIdeal_AdamOddConvPlainIdeal := by
  intro m g m' g' _ hagree
  refine ⟨_, _, _, Cert.AdamOddConvIdeal.Value.run_blocks m g, ?_⟩
  refine (θ_run Cert.AdamOddConvPlainIdeal.defs _ _).mono (fun r h c => ?_) (Cert.AdamOddConvPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamOddConv

/-! ## 1 by 128 -/

namespace AdamOddRow

open Cert.AdamOddRowIdeal Cert.AdamOddRowIdeal.Gen

variable (m : (ℓ : Loc nD τ sig) → Buf (Elt Ideal) ℓ) (c : Dev nD) (t : Fin cfg0.N)

abbrev hb := Cert.AdamOddRowPlainIdeal.Gen.facts.bcast_S_S1x128

/-! A tile of the weight, of its gradient and of the two moments, by the elements of the whole. -/

theorem at0 (y) : iblk m c 0 t y = (m ((c : Thread nD τ).loc main_arg0)) (((cfg0.win 4).blk t).view.emb y) := rfl
theorem at1 (y) : iblk m c 1 t y = (m ((c : Thread nD τ).loc main_arg1)) (((cfg0.win 4).blk t).view.emb y) := rfl
theorem at2 (y) : iblk m c 2 t y = (m ((c : Thread nD τ).loc main_arg2)) (((cfg0.win 4).blk t).view.emb y) := rfl
theorem at3 (y) : iblk m c 3 t y = (m ((c : Thread nD τ).loc main_arg3)) (((cfg0.win 4).blk t).view.emb y) := rfl

/-! What the kernel writes, element by element. -/

theorem pay_moment (g m : FVec Ideal _ .f32) (y) : k0_pay1 (F := Ideal) g m y = moment1 (g y) (m y) := by
  pointwise [k0_pay1, moment1]
theorem pay_square (g v : FVec Ideal _ .f32) (y) : k0_pay2 (F := Ideal) g v y = square1 (g y) (v y) := by
  pointwise [k0_pay2, square1]
theorem pay_delta (w g m v : FVec Ideal _ .f32) (y) : k0_pay3 (F := Ideal) g m v w y = delta1 (w y) (g y) (m y) (v y) := by
  pointwise [k0_pay1, k0_pay2, k0_pay3, delta1, moment1, square1]

/-- The weight's change. -/
theorem changed : (dats m 0 c).arrAt 4 cfg0.N = delta hb (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  rw [pay_delta, delta_apply, at0 m c t y, at1 m c t y, at2 m c t y, at3 m c t y]

/-- The new first moment. -/
theorem first : (dats m 0 c).arrAt 5 cfg0.N = moment hb (m ((c : Thread nD τ).loc main_arg1)) (m ((c : Thread nD τ).loc main_arg2)) := by
  refine (dats m 0 c).arrAt_eq_of_covers 5 _ (by decide +kernel) fun t _ y => ?_
  blk_simp
  rw [after0_5]; frame_out
  rw [pay_moment, moment_apply, at1 m c t y, at2 m c t y]
  rfl

/-- The new second moment. -/
theorem second : (dats m 0 c).arrAt 6 cfg0.N = square hb (m ((c : Thread nD τ).loc main_arg1)) (m ((c : Thread nD τ).loc main_arg3)) := by
  refine (dats m 0 c).arrAt_eq_of_covers 6 _ (by decide +kernel) fun t _ y => ?_
  blk_simp
  rw [after0_6]; frame_out
  rw [pay_square, square_apply, at1 m c t y, at3 m c t y]
  rfl

theorem frame : Cert.quiescent_AdamOddRow := fun m ρ _ => Cert.AdamOddRow.Gen.frame m ρ

theorem frame_ideal : Cert.quiescent_AdamOddRowIdeal := fun m ρ _ => Cert.AdamOddRowIdeal.Gen.frame m ρ

theorem frame_plain : Cert.quiescent_AdamOddRowPlainIdeal := fun m ρ _ =>
  (θ_run Cert.AdamOddRowPlainIdeal.defs _ _).mono (fun r h => ⟨fun c => (h c).2.2.2, sem_eq_zero_of_no_sems (by decide) r.2⟩)
    (Cert.AdamOddRowPlainIdeal.Value.run (F := Ideal) m ρ)

/-- Kernel and reference compute the same. -/
theorem algebraic : Cert.algebraic_AdamOddRowIdeal_AdamOddRowPlainIdeal := by
  intro m g m' g' _ hagree
  refine ⟨_, _, _, Cert.AdamOddRowIdeal.Value.run_blocks m g, ?_⟩
  refine (θ_run Cert.AdamOddRowPlainIdeal.defs _ _).mono (fun r h c => ?_) (Cert.AdamOddRowPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamOddRow

/-! ## 1 by 32 by 64, laid out as 32 by 64 -/

namespace AdamOddPoles

open Cert.AdamOddPolesIdeal Cert.AdamOddPolesIdeal.Gen

variable (m : (ℓ : Loc nD τ sig) → Buf (Elt Ideal) ℓ) (c : Dev nD) (t : Fin cfg0.N)

abbrev hb := Cert.AdamOddPolesPlainIdeal.Gen.facts.bcast_S_S1x32x64
abbrev hs := Cert.AdamOddPolesPlainIdeal.Gen.facts.shapeCasts_S1x32x64_S32x64

/-! A tile of the weight, of its gradient and of the two moments, by the elements of the whole. -/

theorem at0 (y) : iblk m c 0 t y = shapeCast S32x64 (m ((c : Thread nD τ).loc main_arg0)) hs (((cfg0.win 4).blk t).view.emb y) := rfl
theorem at1 (y) : iblk m c 1 t y = shapeCast S32x64 (m ((c : Thread nD τ).loc main_arg1)) hs (((cfg0.win 4).blk t).view.emb y) := rfl
theorem at2 (y) : iblk m c 2 t y = shapeCast S32x64 (m ((c : Thread nD τ).loc main_arg2)) hs (((cfg0.win 4).blk t).view.emb y) := rfl
theorem at3 (y) : iblk m c 3 t y = shapeCast S32x64 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S32x64 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S32x64 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S32x64 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamOddPoles := fun m ρ _ => Cert.AdamOddPoles.Gen.frame m ρ

theorem frame_ideal : Cert.quiescent_AdamOddPolesIdeal := fun m ρ _ => Cert.AdamOddPolesIdeal.Gen.frame m ρ

theorem frame_plain : Cert.quiescent_AdamOddPolesPlainIdeal := fun m ρ _ =>
  (θ_run Cert.AdamOddPolesPlainIdeal.defs _ _).mono (fun r h => ⟨fun c => (h c).2.2.2, sem_eq_zero_of_no_sems (by decide) r.2⟩)
    (Cert.AdamOddPolesPlainIdeal.Value.run (F := Ideal) m ρ)

/-- Kernel and reference compute the same. -/
theorem algebraic : Cert.algebraic_AdamOddPolesIdeal_AdamOddPolesPlainIdeal := by
  intro m g m' g' _ hagree
  refine ⟨_, _, _, Cert.AdamOddPolesIdeal.Value.run_blocks m g, ?_⟩
  refine (θ_run Cert.AdamOddPolesPlainIdeal.defs _ _).mono (fun r h c => ?_) (Cert.AdamOddPolesPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamOddPoles

/-! ## 1 by 32 by 64 by 16, laid out as 2048 by 16 -/

namespace AdamOddInputs

open Cert.AdamOddInputsIdeal Cert.AdamOddInputsIdeal.Gen

variable (m : (ℓ : Loc nD τ sig) → Buf (Elt Ideal) ℓ) (c : Dev nD) (t : Fin cfg0.N)

abbrev hb := Cert.AdamOddInputsPlainIdeal.Gen.facts.bcast_S_S1x32x64x16
abbrev hs := Cert.AdamOddInputsPlainIdeal.Gen.facts.shapeCasts_S1x32x64x16_S2048x16

/-! A tile of the weight, of its gradient and of the two moments, by the elements of the whole. -/

theorem at0 (y) : iblk m c 0 t y = shapeCast S2048x16 (m ((c : Thread nD τ).loc main_arg0)) hs (((cfg0.win 4).blk t).view.emb y) := rfl
theorem at1 (y) : iblk m c 1 t y = shapeCast S2048x16 (m ((c : Thread nD τ).loc main_arg1)) hs (((cfg0.win 4).blk t).view.emb y) := rfl
theorem at2 (y) : iblk m c 2 t y = shapeCast S2048x16 (m ((c : Thread nD τ).loc main_arg2)) hs (((cfg0.win 4).blk t).view.emb y) := rfl
theorem at3 (y) : iblk m c 3 t y = shapeCast S2048x16 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S2048x16 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S2048x16 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S2048x16 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamOddInputs := fun m ρ _ => Cert.AdamOddInputs.Gen.frame m ρ

theorem frame_ideal : Cert.quiescent_AdamOddInputsIdeal := fun m ρ _ => Cert.AdamOddInputsIdeal.Gen.frame m ρ

theorem frame_plain : Cert.quiescent_AdamOddInputsPlainIdeal := fun m ρ _ =>
  (θ_run Cert.AdamOddInputsPlainIdeal.defs _ _).mono (fun r h => ⟨fun c => (h c).2.2.2, sem_eq_zero_of_no_sems (by decide) r.2⟩)
    (Cert.AdamOddInputsPlainIdeal.Value.run (F := Ideal) m ρ)

/-- Kernel and reference compute the same. -/
theorem algebraic : Cert.algebraic_AdamOddInputsIdeal_AdamOddInputsPlainIdeal := by
  intro m g m' g' _ hagree
  refine ⟨_, _, _, Cert.AdamOddInputsIdeal.Value.run_blocks m g, ?_⟩
  refine (θ_run Cert.AdamOddInputsPlainIdeal.defs _ _).mono (fun r h c => ?_) (Cert.AdamOddInputsPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamOddInputs

/-! ## 1 by 32 by 16 by 64, laid out as 512 by 64 -/

namespace AdamOddOutputs

open Cert.AdamOddOutputsIdeal Cert.AdamOddOutputsIdeal.Gen

variable (m : (ℓ : Loc nD τ sig) → Buf (Elt Ideal) ℓ) (c : Dev nD) (t : Fin cfg0.N)

abbrev hb := Cert.AdamOddOutputsPlainIdeal.Gen.facts.bcast_S_S1x32x16x64
abbrev hs := Cert.AdamOddOutputsPlainIdeal.Gen.facts.shapeCasts_S1x32x16x64_S512x64

/-! A tile of the weight, of its gradient and of the two moments, by the elements of the whole. -/

theorem at0 (y) : iblk m c 0 t y = shapeCast S512x64 (m ((c : Thread nD τ).loc main_arg0)) hs (((cfg0.win 4).blk t).view.emb y) := rfl
theorem at1 (y) : iblk m c 1 t y = shapeCast S512x64 (m ((c : Thread nD τ).loc main_arg1)) hs (((cfg0.win 4).blk t).view.emb y) := rfl
theorem at2 (y) : iblk m c 2 t y = shapeCast S512x64 (m ((c : Thread nD τ).loc main_arg2)) hs (((cfg0.win 4).blk t).view.emb y) := rfl
theorem at3 (y) : iblk m c 3 t y = shapeCast S512x64 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S512x64 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S512x64 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S512x64 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamOddOutputs := fun m ρ _ => Cert.AdamOddOutputs.Gen.frame m ρ

theorem frame_ideal : Cert.quiescent_AdamOddOutputsIdeal := fun m ρ _ => Cert.AdamOddOutputsIdeal.Gen.frame m ρ

theorem frame_plain : Cert.quiescent_AdamOddOutputsPlainIdeal := fun m ρ _ =>
  (θ_run Cert.AdamOddOutputsPlainIdeal.defs _ _).mono (fun r h => ⟨fun c => (h c).2.2.2, sem_eq_zero_of_no_sems (by decide) r.2⟩)
    (Cert.AdamOddOutputsPlainIdeal.Value.run (F := Ideal) m ρ)

/-- Kernel and reference compute the same. -/
theorem algebraic : Cert.algebraic_AdamOddOutputsIdeal_AdamOddOutputsPlainIdeal := by
  intro m g m' g' _ hagree
  refine ⟨_, _, _, Cert.AdamOddOutputsIdeal.Value.run_blocks m g, ?_⟩
  refine (θ_run Cert.AdamOddOutputsPlainIdeal.defs _ _).mono (fun r h c => ?_) (Cert.AdamOddOutputsPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamOddOutputs

/-! ## 1 by 32 -/

namespace AdamOddSteps

open Cert.AdamOddStepsIdeal Cert.AdamOddStepsIdeal.Gen

variable (m : (ℓ : Loc nD τ sig) → Buf (Elt Ideal) ℓ) (c : Dev nD) (t : Fin cfg0.N)

abbrev hb := Cert.AdamOddStepsPlainIdeal.Gen.facts.bcast_S_S1x32

/-! A tile of the weight, of its gradient and of the two moments, by the elements of the whole. -/

theorem at0 (y) : iblk m c 0 t y = (m ((c : Thread nD τ).loc main_arg0)) (((cfg0.win 4).blk t).view.emb y) := rfl
theorem at1 (y) : iblk m c 1 t y = (m ((c : Thread nD τ).loc main_arg1)) (((cfg0.win 4).blk t).view.emb y) := rfl
theorem at2 (y) : iblk m c 2 t y = (m ((c : Thread nD τ).loc main_arg2)) (((cfg0.win 4).blk t).view.emb y) := rfl
theorem at3 (y) : iblk m c 3 t y = (m ((c : Thread nD τ).loc main_arg3)) (((cfg0.win 4).blk t).view.emb y) := rfl

/-! What the kernel writes, element by element. -/

theorem pay_moment (g m : FVec Ideal _ .f32) (y) : k0_pay1 (F := Ideal) g m y = moment1 (g y) (m y) := by
  pointwise [k0_pay1, moment1]
theorem pay_square (g v : FVec Ideal _ .f32) (y) : k0_pay2 (F := Ideal) g v y = square1 (g y) (v y) := by
  pointwise [k0_pay2, square1]
theorem pay_delta (w g m v : FVec Ideal _ .f32) (y) : k0_pay3 (F := Ideal) g m v w y = delta1 (w y) (g y) (m y) (v y) := by
  pointwise [k0_pay1, k0_pay2, k0_pay3, delta1, moment1, square1]

/-- The weight's change. -/
theorem changed : (dats m 0 c).arrAt 4 cfg0.N = delta hb (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  rw [pay_delta, delta_apply, at0 m c t y, at1 m c t y, at2 m c t y, at3 m c t y]

/-- The new first moment. -/
theorem first : (dats m 0 c).arrAt 5 cfg0.N = moment hb (m ((c : Thread nD τ).loc main_arg1)) (m ((c : Thread nD τ).loc main_arg2)) := by
  refine (dats m 0 c).arrAt_eq_of_covers 5 _ (by decide +kernel) fun t _ y => ?_
  blk_simp
  rw [after0_5]; frame_out
  rw [pay_moment, moment_apply, at1 m c t y, at2 m c t y]
  rfl

/-- The new second moment. -/
theorem second : (dats m 0 c).arrAt 6 cfg0.N = square hb (m ((c : Thread nD τ).loc main_arg1)) (m ((c : Thread nD τ).loc main_arg3)) := by
  refine (dats m 0 c).arrAt_eq_of_covers 6 _ (by decide +kernel) fun t _ y => ?_
  blk_simp
  rw [after0_6]; frame_out
  rw [pay_square, square_apply, at1 m c t y, at3 m c t y]
  rfl

theorem frame : Cert.quiescent_AdamOddSteps := fun m ρ _ => Cert.AdamOddSteps.Gen.frame m ρ

theorem frame_ideal : Cert.quiescent_AdamOddStepsIdeal := fun m ρ _ => Cert.AdamOddStepsIdeal.Gen.frame m ρ

theorem frame_plain : Cert.quiescent_AdamOddStepsPlainIdeal := fun m ρ _ =>
  (θ_run Cert.AdamOddStepsPlainIdeal.defs _ _).mono (fun r h => ⟨fun c => (h c).2.2.2, sem_eq_zero_of_no_sems (by decide) r.2⟩)
    (Cert.AdamOddStepsPlainIdeal.Value.run (F := Ideal) m ρ)

/-- Kernel and reference compute the same. -/
theorem algebraic : Cert.algebraic_AdamOddStepsIdeal_AdamOddStepsPlainIdeal := by
  intro m g m' g' _ hagree
  refine ⟨_, _, _, Cert.AdamOddStepsIdeal.Value.run_blocks m g, ?_⟩
  refine (θ_run Cert.AdamOddStepsPlainIdeal.defs _ _).mono (fun r h c => ?_) (Cert.AdamOddStepsPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamOddSteps

/-! ## 1 by 128 by 512, laid out as 128 by 512 -/

namespace AdamOddGate

open Cert.AdamOddGateIdeal Cert.AdamOddGateIdeal.Gen

variable (m : (ℓ : Loc nD τ sig) → Buf (Elt Ideal) ℓ) (c : Dev nD) (t : Fin cfg0.N)

abbrev hb := Cert.AdamOddGatePlainIdeal.Gen.facts.bcast_S_S1x128x512
abbrev hs := Cert.AdamOddGatePlainIdeal.Gen.facts.shapeCasts_S1x128x512_S128x512

/-! A tile of the weight, of its gradient and of the two moments, by the elements of the whole. -/

theorem at0 (y) : iblk m c 0 t y = shapeCast S128x512 (m ((c : Thread nD τ).loc main_arg0)) hs (((cfg0.win 4).blk t).view.emb y) := rfl
theorem at1 (y) : iblk m c 1 t y = shapeCast S128x512 (m ((c : Thread nD τ).loc main_arg1)) hs (((cfg0.win 4).blk t).view.emb y) := rfl
theorem at2 (y) : iblk m c 2 t y = shapeCast S128x512 (m ((c : Thread nD τ).loc main_arg2)) hs (((cfg0.win 4).blk t).view.emb y) := rfl
theorem at3 (y) : iblk m c 3 t y = shapeCast S128x512 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S128x512 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S128x512 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S128x512 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamOddGate := fun m ρ _ => Cert.AdamOddGate.Gen.frame m ρ

theorem frame_ideal : Cert.quiescent_AdamOddGateIdeal := fun m ρ _ => Cert.AdamOddGateIdeal.Gen.frame m ρ

theorem frame_plain : Cert.quiescent_AdamOddGatePlainIdeal := fun m ρ _ =>
  (θ_run Cert.AdamOddGatePlainIdeal.defs _ _).mono (fun r h => ⟨fun c => (h c).2.2.2, sem_eq_zero_of_no_sems (by decide) r.2⟩)
    (Cert.AdamOddGatePlainIdeal.Value.run (F := Ideal) m ρ)

/-- Kernel and reference compute the same. -/
theorem algebraic : Cert.algebraic_AdamOddGateIdeal_AdamOddGatePlainIdeal := by
  intro m g m' g' _ hagree
  refine ⟨_, _, _, Cert.AdamOddGateIdeal.Value.run_blocks m g, ?_⟩
  refine (θ_run Cert.AdamOddGatePlainIdeal.defs _ _).mono (fun r h c => ?_) (Cert.AdamOddGatePlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamOddGate

/-! ## 1 by 256 by 1024, laid out as 256 by 1024 -/

namespace AdamOddOut

open Cert.AdamOddOutIdeal Cert.AdamOddOutIdeal.Gen

variable (m : (ℓ : Loc nD τ sig) → Buf (Elt Ideal) ℓ) (c : Dev nD) (t : Fin cfg0.N)

abbrev hb := Cert.AdamOddOutPlainIdeal.Gen.facts.bcast_S_S1x256x1024
abbrev hs := Cert.AdamOddOutPlainIdeal.Gen.facts.shapeCasts_S1x256x1024_S256x1024

/-! A tile of the weight, of its gradient and of the two moments, by the elements of the whole. -/

theorem at0 (y) : iblk m c 0 t y = shapeCast S256x1024 (m ((c : Thread nD τ).loc main_arg0)) hs (((cfg0.win 4).blk t).view.emb y) := rfl
theorem at1 (y) : iblk m c 1 t y = shapeCast S256x1024 (m ((c : Thread nD τ).loc main_arg1)) hs (((cfg0.win 4).blk t).view.emb y) := rfl
theorem at2 (y) : iblk m c 2 t y = shapeCast S256x1024 (m ((c : Thread nD τ).loc main_arg2)) hs (((cfg0.win 4).blk t).view.emb y) := rfl
theorem at3 (y) : iblk m c 3 t y = shapeCast S256x1024 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S256x1024 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S256x1024 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S256x1024 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamOddOut := fun m ρ _ => Cert.AdamOddOut.Gen.frame m ρ

theorem frame_ideal : Cert.quiescent_AdamOddOutIdeal := fun m ρ _ => Cert.AdamOddOutIdeal.Gen.frame m ρ

theorem frame_plain : Cert.quiescent_AdamOddOutPlainIdeal := fun m ρ _ =>
  (θ_run Cert.AdamOddOutPlainIdeal.defs _ _).mono (fun r h => ⟨fun c => (h c).2.2.2, sem_eq_zero_of_no_sems (by decide) r.2⟩)
    (Cert.AdamOddOutPlainIdeal.Value.run (F := Ideal) m ρ)

/-- Kernel and reference compute the same. -/
theorem algebraic : Cert.algebraic_AdamOddOutIdeal_AdamOddOutPlainIdeal := by
  intro m g m' g' _ hagree
  refine ⟨_, _, _, Cert.AdamOddOutIdeal.Value.run_blocks m g, ?_⟩
  refine (θ_run Cert.AdamOddOutPlainIdeal.defs _ _).mono (fun r h c => ?_) (Cert.AdamOddOutPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamOddOut

end Cert.Adam

end
-- ==== Proof.AdamFfn.lean ====
/-
  The optimiser's step of the feed-forward layers' weights, and of the last norm.
-/
module

public import proofs.«01_k».proof.Defs
public import proofs.«01_k».proof.Proof.Adam
public import proofs.«01_k».proof.Proof.Gen.AdamUp.Frame
public import proofs.«01_k».proof.Proof.Gen.AdamUpIdeal.Value
public import proofs.«01_k».proof.Proof.Gen.AdamUpPlainIdeal.Run
public import proofs.«01_k».proof.Proof.Gen.AdamConv.Frame
public import proofs.«01_k».proof.Proof.Gen.AdamConvIdeal.Value
public import proofs.«01_k».proof.Proof.Gen.AdamConvPlainIdeal.Run
public import proofs.«01_k».proof.Proof.Gen.AdamBias.Frame
public import proofs.«01_k».proof.Proof.Gen.AdamBiasIdeal.Value
public import proofs.«01_k».proof.Proof.Gen.AdamBiasPlainIdeal.Run
public import proofs.«01_k».proof.Proof.Gen.AdamDown.Frame
public import proofs.«01_k».proof.Proof.Gen.AdamDownIdeal.Value
public import proofs.«01_k».proof.Proof.Gen.AdamDownPlainIdeal.Run
public import proofs.«01_k».proof.Proof.Gen.AdamFinal.Frame
public import proofs.«01_k».proof.Proof.Gen.AdamFinalIdeal.Value
public import proofs.«01_k».proof.Proof.Gen.AdamFinalPlainIdeal.Run

@[expose] public section

set_option maxRecDepth 16384

noncomputable section

namespace Cert.Adam

open Idealize.ShloMosaic Idealize.ShloMosaic.TcCoe Idealize.SL.Sem

/-! ## 2 by 1024 by 1408, laid out as 2048 by 1408 -/

namespace AdamUp

open Cert.AdamUpIdeal Cert.AdamUpIdeal.Gen

variable (m : (ℓ : Loc nD τ sig) → Buf (Elt Ideal) ℓ) (c : Dev nD) (t : Fin cfg0.N)

abbrev hb := Cert.AdamUpPlainIdeal.Gen.facts.bcast_S_S2x1024x1408
abbrev hs := Cert.AdamUpPlainIdeal.Gen.facts.shapeCasts_S2x1024x1408_S2048x1408

/-! A tile of the weight, of its gradient and of the two moments, by the elements of the whole. -/

theorem at0 (y) : iblk m c 0 t y = shapeCast S2048x1408 (m ((c : Thread nD τ).loc main_arg0)) hs (((cfg0.win 4).blk t).view.emb y) := rfl
theorem at1 (y) : iblk m c 1 t y = shapeCast S2048x1408 (m ((c : Thread nD τ).loc main_arg1)) hs (((cfg0.win 4).blk t).view.emb y) := rfl
theorem at2 (y) : iblk m c 2 t y = shapeCast S2048x1408 (m ((c : Thread nD τ).loc main_arg2)) hs (((cfg0.win 4).blk t).view.emb y) := rfl
theorem at3 (y) : iblk m c 3 t y = shapeCast S2048x1408 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S2048x1408 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S2048x1408 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S2048x1408 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamUp := fun m ρ _ => Cert.AdamUp.Gen.frame m ρ

theorem frame_ideal : Cert.quiescent_AdamUpIdeal := fun m ρ _ => Cert.AdamUpIdeal.Gen.frame m ρ

theorem frame_plain : Cert.quiescent_AdamUpPlainIdeal := fun m ρ _ =>
  (θ_run Cert.AdamUpPlainIdeal.defs _ _).mono (fun r h => ⟨fun c => (h c).2.2.2, sem_eq_zero_of_no_sems (by decide) r.2⟩)
    (Cert.AdamUpPlainIdeal.Value.run (F := Ideal) m ρ)

/-- Kernel and reference compute the same. -/
theorem algebraic : Cert.algebraic_AdamUpIdeal_AdamUpPlainIdeal := by
  intro m g m' g' _ hagree
  refine ⟨_, _, _, Cert.AdamUpIdeal.Value.run_blocks m g, ?_⟩
  refine (θ_run Cert.AdamUpPlainIdeal.defs _ _).mono (fun r h c => ?_) (Cert.AdamUpPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamUp

/-! ## 2 by 3 by 1408, laid out as 6 by 1408 -/

namespace AdamConv

open Cert.AdamConvIdeal Cert.AdamConvIdeal.Gen

variable (m : (ℓ : Loc nD τ sig) → Buf (Elt Ideal) ℓ) (c : Dev nD) (t : Fin cfg0.N)

abbrev hb := Cert.AdamConvPlainIdeal.Gen.facts.bcast_S_S2x3x1408
abbrev hs := Cert.AdamConvPlainIdeal.Gen.facts.shapeCasts_S2x3x1408_S6x1408

/-! A tile of the weight, of its gradient and of the two moments, by the elements of the whole. -/

theorem at0 (y) : iblk m c 0 t y = shapeCast S6x1408 (m ((c : Thread nD τ).loc main_arg0)) hs (((cfg0.win 4).blk t).view.emb y) := rfl
theorem at1 (y) : iblk m c 1 t y = shapeCast S6x1408 (m ((c : Thread nD τ).loc main_arg1)) hs (((cfg0.win 4).blk t).view.emb y) := rfl
theorem at2 (y) : iblk m c 2 t y = shapeCast S6x1408 (m ((c : Thread nD τ).loc main_arg2)) hs (((cfg0.win 4).blk t).view.emb y) := rfl
theorem at3 (y) : iblk m c 3 t y = shapeCast S6x1408 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S6x1408 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S6x1408 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S6x1408 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamConv := fun m ρ _ => Cert.AdamConv.Gen.frame m ρ

theorem frame_ideal : Cert.quiescent_AdamConvIdeal := fun m ρ _ => Cert.AdamConvIdeal.Gen.frame m ρ

theorem frame_plain : Cert.quiescent_AdamConvPlainIdeal := fun m ρ _ =>
  (θ_run Cert.AdamConvPlainIdeal.defs _ _).mono (fun r h => ⟨fun c => (h c).2.2.2, sem_eq_zero_of_no_sems (by decide) r.2⟩)
    (Cert.AdamConvPlainIdeal.Value.run (F := Ideal) m ρ)

/-- Kernel and reference compute the same. -/
theorem algebraic : Cert.algebraic_AdamConvIdeal_AdamConvPlainIdeal := by
  intro m g m' g' _ hagree
  refine ⟨_, _, _, Cert.AdamConvIdeal.Value.run_blocks m g, ?_⟩
  refine (θ_run Cert.AdamConvPlainIdeal.defs _ _).mono (fun r h c => ?_) (Cert.AdamConvPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamConv

/-! ## 2 by 5632 -/

namespace AdamBias

open Cert.AdamBiasIdeal Cert.AdamBiasIdeal.Gen

variable (m : (ℓ : Loc nD τ sig) → Buf (Elt Ideal) ℓ) (c : Dev nD) (t : Fin cfg0.N)

abbrev hb := Cert.AdamBiasPlainIdeal.Gen.facts.bcast_S_S2x5632

/-! A tile of the weight, of its gradient and of the two moments, by the elements of the whole. -/

theorem at0 (y) : iblk m c 0 t y = (m ((c : Thread nD τ).loc main_arg0)) (((cfg0.win 4).blk t).view.emb y) := rfl
theorem at1 (y) : iblk m c 1 t y = (m ((c : Thread nD τ).loc main_arg1)) (((cfg0.win 4).blk t).view.emb y) := rfl
theorem at2 (y) : iblk m c 2 t y = (m ((c : Thread nD τ).loc main_arg2)) (((cfg0.win 4).blk t).view.emb y) := rfl
theorem at3 (y) : iblk m c 3 t y = (m ((c : Thread nD τ).loc main_arg3)) (((cfg0.win 4).blk t).view.emb y) := rfl

/-! What the kernel writes, element by element. -/

theorem pay_moment (g m : FVec Ideal _ .f32) (y) : k0_pay1 (F := Ideal) g m y = moment1 (g y) (m y) := by
  pointwise [k0_pay1, moment1]
theorem pay_square (g v : FVec Ideal _ .f32) (y) : k0_pay2 (F := Ideal) g v y = square1 (g y) (v y) := by
  pointwise [k0_pay2, square1]
theorem pay_delta (w g m v : FVec Ideal _ .f32) (y) : k0_pay3 (F := Ideal) g m v w y = delta1 (w y) (g y) (m y) (v y) := by
  pointwise [k0_pay1, k0_pay2, k0_pay3, delta1, moment1, square1]

/-- The weight's change. -/
theorem changed : (dats m 0 c).arrAt 4 cfg0.N = delta hb (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  rw [pay_delta, delta_apply, at0 m c t y, at1 m c t y, at2 m c t y, at3 m c t y]

/-- The new first moment. -/
theorem first : (dats m 0 c).arrAt 5 cfg0.N = moment hb (m ((c : Thread nD τ).loc main_arg1)) (m ((c : Thread nD τ).loc main_arg2)) := by
  refine (dats m 0 c).arrAt_eq_of_covers 5 _ (by decide +kernel) fun t _ y => ?_
  blk_simp
  rw [after0_5]; frame_out
  rw [pay_moment, moment_apply, at1 m c t y, at2 m c t y]
  rfl

/-- The new second moment. -/
theorem second : (dats m 0 c).arrAt 6 cfg0.N = square hb (m ((c : Thread nD τ).loc main_arg1)) (m ((c : Thread nD τ).loc main_arg3)) := by
  refine (dats m 0 c).arrAt_eq_of_covers 6 _ (by decide +kernel) fun t _ y => ?_
  blk_simp
  rw [after0_6]; frame_out
  rw [pay_square, square_apply, at1 m c t y, at3 m c t y]
  rfl

theorem frame : Cert.quiescent_AdamBias := fun m ρ _ => Cert.AdamBias.Gen.frame m ρ

theorem frame_ideal : Cert.quiescent_AdamBiasIdeal := fun m ρ _ => Cert.AdamBiasIdeal.Gen.frame m ρ

theorem frame_plain : Cert.quiescent_AdamBiasPlainIdeal := fun m ρ _ =>
  (θ_run Cert.AdamBiasPlainIdeal.defs _ _).mono (fun r h => ⟨fun c => (h c).2.2.2, sem_eq_zero_of_no_sems (by decide) r.2⟩)
    (Cert.AdamBiasPlainIdeal.Value.run (F := Ideal) m ρ)

/-- Kernel and reference compute the same. -/
theorem algebraic : Cert.algebraic_AdamBiasIdeal_AdamBiasPlainIdeal := by
  intro m g m' g' _ hagree
  refine ⟨_, _, _, Cert.AdamBiasIdeal.Value.run_blocks m g, ?_⟩
  refine (θ_run Cert.AdamBiasPlainIdeal.defs _ _).mono (fun r h c => ?_) (Cert.AdamBiasPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamBias

/-! ## 2 by 704 by 1024, laid out as 1408 by 1024 -/

namespace AdamDown

open Cert.AdamDownIdeal Cert.AdamDownIdeal.Gen

variable (m : (ℓ : Loc nD τ sig) → Buf (Elt Ideal) ℓ) (c : Dev nD) (t : Fin cfg0.N)

abbrev hb := Cert.AdamDownPlainIdeal.Gen.facts.bcast_S_S2x704x1024
abbrev hs := Cert.AdamDownPlainIdeal.Gen.facts.shapeCasts_S2x704x1024_S1408x1024

/-! A tile of the weight, of its gradient and of the two moments, by the elements of the whole. -/

theorem at0 (y) : iblk m c 0 t y = shapeCast S1408x1024 (m ((c : Thread nD τ).loc main_arg0)) hs (((cfg0.win 4).blk t).view.emb y) := rfl
theorem at1 (y) : iblk m c 1 t y = shapeCast S1408x1024 (m ((c : Thread nD τ).loc main_arg1)) hs (((cfg0.win 4).blk t).view.emb y) := rfl
theorem at2 (y) : iblk m c 2 t y = shapeCast S1408x1024 (m ((c : Thread nD τ).loc main_arg2)) hs (((cfg0.win 4).blk t).view.emb y) := rfl
theorem at3 (y) : iblk m c 3 t y = shapeCast S1408x1024 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S1408x1024 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S1408x1024 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S1408x1024 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamDown := fun m ρ _ => Cert.AdamDown.Gen.frame m ρ

theorem frame_ideal : Cert.quiescent_AdamDownIdeal := fun m ρ _ => Cert.AdamDownIdeal.Gen.frame m ρ

theorem frame_plain : Cert.quiescent_AdamDownPlainIdeal := fun m ρ _ =>
  (θ_run Cert.AdamDownPlainIdeal.defs _ _).mono (fun r h => ⟨fun c => (h c).2.2.2, sem_eq_zero_of_no_sems (by decide) r.2⟩)
    (Cert.AdamDownPlainIdeal.Value.run (F := Ideal) m ρ)

/-- Kernel and reference compute the same. -/
theorem algebraic : Cert.algebraic_AdamDownIdeal_AdamDownPlainIdeal := by
  intro m g m' g' _ hagree
  refine ⟨_, _, _, Cert.AdamDownIdeal.Value.run_blocks m g, ?_⟩
  refine (θ_run Cert.AdamDownPlainIdeal.defs _ _).mono (fun r h c => ?_) (Cert.AdamDownPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamDown

/-! ## 1024, laid out as 1 by 1024 -/

namespace AdamFinal

open Cert.AdamFinalIdeal Cert.AdamFinalIdeal.Gen

variable (m : (ℓ : Loc nD τ sig) → Buf (Elt Ideal) ℓ) (c : Dev nD) (t : Fin cfg0.N)

abbrev hb := Cert.AdamFinalPlainIdeal.Gen.facts.bcast_S_S1024
abbrev hs := Cert.AdamFinalPlainIdeal.Gen.facts.shapeCasts_S1024_S1x1024

/-! A tile of the weight, of its gradient and of the two moments, by the elements of the whole. -/

theorem at0 (y) : iblk m c 0 t y = shapeCast S1x1024 (m ((c : Thread nD τ).loc main_arg0)) hs (((cfg0.win 4).blk t).view.emb y) := rfl
theorem at1 (y) : iblk m c 1 t y = shapeCast S1x1024 (m ((c : Thread nD τ).loc main_arg1)) hs (((cfg0.win 4).blk t).view.emb y) := rfl
theorem at2 (y) : iblk m c 2 t y = shapeCast S1x1024 (m ((c : Thread nD τ).loc main_arg2)) hs (((cfg0.win 4).blk t).view.emb y) := rfl
theorem at3 (y) : iblk m c 3 t y = shapeCast S1x1024 (m ((c : Thread nD τ).loc main_arg3)) hs (((cfg0.win 4).blk t).view.emb y) := rfl

/-! What the kernel writes, element by element. -/

theorem pay_moment (g m : FVec Ideal _ .f32) (y) : k0_pay2 (F := Ideal) g m y = moment1 (g y) (m y) := by
  pointwise [k0_pay1, k0_pay2, moment1]
theorem pay_square (g v : FVec Ideal _ .f32) (y) : k0_pay3 (F := Ideal) g v y = square1 (g y) (v y) := by
  pointwise [k0_pay1, k0_pay3, square1]
theorem pay_delta (w g m v : FVec Ideal _ .f32) (y) : k0_pay4 (F := Ideal) g m v w y = delta1 (w y) (g y) (m y) (v y) := by
  pointwise [k0_pay1, k0_pay2, k0_pay3, k0_pay4, delta1, moment1, square1]

/-- The weight's change. -/
theorem changed : (dats m 0 c).arrAt 4 cfg0.N = shapeCast S1x1024 (delta hb (m ((c : Thread nD τ).loc main_arg0)) (m ((c : Thread nD τ).loc main_arg1)) (m ((c : Thread nD τ).loc main_arg2)) (m ((c : Thread nD τ).loc main_arg3))) hs := by
  refine (dats m 0 c).arrAt_eq_of_covers 4 _ (by decide +kernel) fun t _ y => ?_
  blk_simp
  rw [after0_4]; frame_out
  rw [pay_delta, cast_delta, at0 m c t y, at1 m c t y, at2 m c t y, at3 m c t y]

/-- The new first moment. -/
theorem first : (dats m 0 c).arrAt 5 cfg0.N = shapeCast S1x1024 (moment hb (m ((c : Thread nD τ).loc main_arg1)) (m ((c : Thread nD τ).loc main_arg2))) hs := by
  refine (dats m 0 c).arrAt_eq_of_covers 5 _ (by decide +kernel) fun t _ y => ?_
  blk_simp
  rw [after0_5]; frame_out
  rw [pay_moment, cast_moment, at1 m c t y, at2 m c t y]
  rfl

/-- The new second moment. -/
theorem second : (dats m 0 c).arrAt 6 cfg0.N = shapeCast S1x1024 (square hb (m ((c : Thread nD τ).loc main_arg1)) (m ((c : Thread nD τ).loc main_arg3))) hs := by
  refine (dats m 0 c).arrAt_eq_of_covers 6 _ (by decide +kernel) fun t _ y => ?_
  blk_simp
  rw [after0_6]; frame_out
  rw [pay_square, cast_square, at1 m c t y, at3 m c t y]
  rfl

theorem frame : Cert.quiescent_AdamFinal := fun m ρ _ => Cert.AdamFinal.Gen.frame m ρ

theorem frame_ideal : Cert.quiescent_AdamFinalIdeal := fun m ρ _ => Cert.AdamFinalIdeal.Gen.frame m ρ

theorem frame_plain : Cert.quiescent_AdamFinalPlainIdeal := fun m ρ _ =>
  (θ_run Cert.AdamFinalPlainIdeal.defs _ _).mono (fun r h => ⟨fun c => (h c).2.2.2, sem_eq_zero_of_no_sems (by decide) r.2⟩)
    (Cert.AdamFinalPlainIdeal.Value.run (F := Ideal) m ρ)

/-- Kernel and reference compute the same. -/
theorem algebraic : Cert.algebraic_AdamFinalIdeal_AdamFinalPlainIdeal := by
  intro m g m' g' _ hagree
  refine ⟨_, _, _, Cert.AdamFinalIdeal.Value.run_blocks m g, ?_⟩
  refine (θ_run Cert.AdamFinalPlainIdeal.defs _ _).mono (fun r h c => ?_) (Cert.AdamFinalPlainIdeal.Value.run m' g')
  obtain ⟨h0, h1, h2, keep⟩ := h c
  obtain ⟨e0, e1, e2, e3⟩ := hagree c
  refine ⟨h0.trans ?_, h1.trans ?_, h2.trans ?_, keep⟩
  · rw [changed m c, e0, e1, e2, e3]
  · rw [first m c, e1, e2]
  · rw [second m c, e1, e3]

end AdamFinal

end Cert.Adam

end
-- ==== Proof.NormMaths.lean ====
/-
  The root-mean-square norm of a row and its pull-back, and sums over rows that come in blocks.
-/
module

public import Idealize.ShloMosaic.PureOps.Ideal
public import Idealize.ShloMosaic.Lib.Pipeline.ValueKit

@[expose] public section

noncomputable section

namespace Cert.Norms

open Idealize.ShloMosaic

/-- The mean square of a row, and the small constant that keeps it off zero. -/
def meanSquare (x : Fin 1024 → EReal) : EReal :=
  Ideal.div (∑ k, x k * x k) (Ideal.ofBits .f32 0x44800000#32) + Ideal.ofBits .f32 0x358637BD#32

/-- The norm of a row, with the gain `g`. -/
def normed (x g : Fin 1024 → EReal) (q : Fin 1024) : EReal := x q * Ideal.rsqrt (meanSquare x) * g q

/-- The cotangent that reaches the row through its mean square: over the gain `g` and the result's cotangent `y`. -/
def throughMean (x g y : Fin 1024 → EReal) : EReal :=
  ∑ _ : Fin 1, Ideal.div ((∑ k, x k * (y k * g k)) *
    (Ideal.ofBits .f32 0xBF000000#32 * Ideal.div (Ideal.rsqrt (meanSquare x)) (meanSquare x))) (Ideal.ofBits .f32 0x44800000#32)

/-- The row's cotangent. -/
def dRow (x g y : Fin 1024 → EReal) (q : Fin 1024) : EReal :=
  y q * g q * Ideal.rsqrt (meanSquare x) + x q * throughMean x g y + throughMean x g y * x q

/-- What a row adds to the gain's cotangent. -/
def dGain (x y : Fin 1024 → EReal) (q : Fin 1024) : EReal := x q * Ideal.rsqrt (meanSquare x) * y q

/-! The loss of a row against its target `u`: half the mean square of the normed row's error. -/

/-- The error of a normed row. -/
def miss (x g u : Fin 1024 → EReal) (q : Fin 1024) : EReal := normed x g q - u q

/-- The cotangent of the normed row. -/
def slope (x g u : Fin 1024 → EReal) (q : Fin 1024) : EReal := miss x g u q * Ideal.ofBits .f32 0x3A800000#32

/-- The mean square of a row's errors. -/
def missSquare (x g u : Fin 1024 → EReal) : EReal := Ideal.div (∑ k, miss x g u k * miss x g u k) (Ideal.ofBits .f32 0x44800000#32)

theorem bits_half : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_width : Ideal.ofBits .f32 0x44800000#32 = ((1024 : ℝ) : EReal) := by
  simp [Ideal.ofBits, Ideal.ieee, -EReal.coe_mul]; norm_num

theorem bits_per_width : Ideal.ofBits .f32 0x3A800000#32 = ((1 / 1024 : ℝ) : EReal) := by
  simp [Ideal.ofBits, Ideal.ieee, -EReal.coe_mul]; norm_num

/-- The derivative of half a mean square, as it comes from the rule of powers. -/
theorem slope_of_square (e : EReal) :
    Ideal.div (Ideal.ofBits .f32 0x3F000000#32) (Ideal.ofBits .f32 0x44800000#32) * (Ideal.ofBits .f32 0x40000000#32 * e)
      = e * Ideal.ofBits .f32 0x3A800000#32 := by
  rw [bits_half, bits_two, bits_width, bits_per_width, Ideal.div_coe (by norm_num), ← mul_assoc, mul_comm e]
  congr 1
  rw [← EReal.coe_mul, ← EReal.coe_mul]
  congr 1
  norm_num

/-- Half of a sum is the sum of the halves, whatever the summands. -/
theorem half_sum {ι : Type*} (s : Finset ι) (f : ι → EReal) :
    Ideal.ofBits .f32 0x3F000000#32 * ∑ i ∈ s, f i = ∑ i ∈ s, Ideal.ofBits .f32 0x3F000000#32 * f i := by
  classical
  refine Finset.induction_on s (by simp) fun a s ha ih => ?_
  rw [Finset.sum_insert ha, Finset.sum_insert ha, ← ih, bits_half]
  exact EReal.left_distrib_of_nonneg_of_ne_top (by norm_num) (EReal.coe_ne_top _) _ _

/-- Row `p` of block `t`. -/
def row (t : Fin 8) (p : Fin 512) : Fin 4096 := ⟨t * 512 + p, by omega⟩

/-- A sum over the rows, block by block. -/
theorem sum_rows (f : Fin 4096 → EReal) : ∑ r, f r = ∑ t, ∑ p, f (row t p) :=
  ((Equiv.sum_comp (finProdFinEquiv (m := 8) (n := 512)) f).symm.trans (Fintype.sum_prod_type _)).trans
    (Finset.sum_congr rfl fun t _ => Finset.sum_congr rfl fun p _ => congrArg f (Fin.ext (by
      simp only [row, finProdFinEquiv_apply_val]
      omega)))

end Cert.Norms

end
-- ==== Proof.Norm.lean ====
/-
  The layers' root-mean-square norm, forward. The kernel goes over the rows in eight blocks of 512.
-/
module

public import proofs.«01_k».proof.Defs
public import proofs.«01_k».proof.Proof.NormMaths
public import proofs.«01_k».proof.Proof.Gen.Norm.Frame
public import proofs.«01_k».proof.Proof.Gen.NormIdeal.Value
public import proofs.«01_k».proof.Proof.Gen.NormPlainIdeal.Run
public import Idealize.ShloMosaic.Lib.Pipeline.ValueKit

@[expose] public section

set_option maxRecDepth 16384

noncomputable section

namespace Cert.Norms.Fwd

open Idealize.ShloMosaic Idealize.ShloMosaic.TcCoe Idealize.SL.Sem
open Cert.NormIdeal Cert.NormIdeal.Gen

variable (m : (ℓ : Loc nD τ sig) → Buf (Elt Ideal) ℓ) (c : Dev nD)

/-- What the kernel computes from a block. -/
theorem pay_at (x : FVec Ideal S512x1024 .f32) (g : FVec Ideal S1x1024 .f32) (p : Fin 512) (q : Fin 1024) :
    k0_pay1 (F := Ideal) x g (ix2 p q) = normed (fun k => x (ix2 p k)) (fun k => g (ix2 0 k)) q := by
  pointwise [k0_pay1]
  rfl

/-- The tiles that a grid point is given and writes. -/
theorem tiles : ∀ t : Fin cfg0.N, win0_0.index t = ![t.val, 0] ∧ win0_1.index t = ![0, 0] ∧ win0_2.index t = ![t.val, 0] :=
  (by decide +kernel : ∀ t : Fin grid0.N, _)

theorem at0 (t : Fin cfg0.N) (p : Fin 512) (q : Fin 1024) :
    iblk m c 0 t (ix2 p q) = m ((c : Thread nD τ).loc main_arg0) (ix2 (row (t.cast N_0) p) q) := by
  blk_point [iblk, V, tiles t]
  rfl

theorem at1 (t : Fin cfg0.N) (q : Fin 1024) : iblk m c 1 t (ix2 0 q) = m ((c : Thread nD τ).loc main_arg1) (ix2 0 q) := by
  blk_point [iblk, V, tiles t]

theorem block2 (t : Fin cfg0.N) (p : Fin 512) (q : Fin 1024) : ((cfg0.win 2).blk t).view.emb (ix2 p q) = ix2 (row (t.cast N_0) p) q := by
  blk_point [tiles t]
  rfl

/-- The norms of all rows. -/
def rows (x : FVec Ideal S4096x1024 .f32) (g : FVec Ideal S1x1024 .f32) : FVec Ideal S4096x1024 .bf16 :=
  fun i => normed (fun k => x (ix2 (i 0) k)) (fun k => g (ix2 0 k)) (i 1)

/-- The kernel's result. -/
theorem result : (dats m 0 c).arrAt 2 cfg0.N = rows (m ((c : Thread nD τ).loc main_arg0)) (m ((c : Thread nD τ).loc main_arg1)) := by
  refine (dats m 0 c).arrAt_eq_of_covers 2 _ (by decide +kernel) fun t _ y => ?_
  blk_simp
  rw [after0_2]; frame_out
  obtain ⟨p, q, rfl⟩ : ∃ (p : Fin 512) (q : Fin 1024), y = ix2 p q := ⟨y 0, y 1, eq_ix2 y⟩
  rw [block2]
  refine (pay_at _ _ p q).trans ?_
  simp only [at0, at1]
  rfl

end Cert.Norms.Fwd

namespace Cert.Norms.FwdPlain

open Idealize.ShloMosaic Idealize.ShloMosaic.TcCoe Idealize.SL.Sem
open Cert.NormPlainIdeal Cert.NormPlainIdeal.Gen

/-- The norms of all rows, as the reference writes them. -/
abbrev rows (x : FVec Ideal S4096x1024 .f32) (g : FVec Ideal S1x1024 .f32) : FVec Ideal S4096x1024 .bf16 :=
  truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ g shapeCasts_S1x1024_S1024)))) bitsLt_bf16_f32

/-- They are the same. -/
theorem rows_eq (x : FVec Ideal S4096x1024 .f32) (g : FVec Ideal S1x1024 .f32) : rows x g = Fwd.rows x g := by
  funext i
  obtain ⟨p, q, rfl⟩ : ∃ (p : Fin 4096) (q : Fin 1024), i = ix2 p q := ⟨i 0, i 1, eq_ix2 i⟩
  pointwise [rows]
  rfl

end Cert.Norms.FwdPlain

namespace Cert.Norms.Fwd

open Idealize.ShloMosaic Idealize.ShloMosaic.TcCoe Idealize.SL.Sem

/-- The kernel ends with its arguments and the counters as at the start. -/
theorem frame : Cert.quiescent_Norm := fun m ρ _ => Cert.Norm.Gen.frame m ρ

/-- So does the kernel over the extended reals. -/
theorem frame_ideal : Cert.quiescent_NormIdeal := fun m ρ _ => Cert.NormIdeal.Gen.frame m ρ

/-- The reference ends with its arguments and the counters as at the start. -/
theorem frame_plain : Cert.quiescent_NormPlainIdeal := fun m ρ _ =>
  (θ_run Cert.NormPlainIdeal.defs _ _).mono (fun r h => ⟨fun c => (h c).2, sem_eq_zero_of_no_sems (by decide) r.2⟩)
    (Cert.NormPlainIdeal.Value.run (F := Ideal) m ρ)

/-- Kernel and reference compute the same. -/
theorem algebraic : Cert.algebraic_NormIdeal_NormPlainIdeal := by
  intro m g m' g' _ hagree
  refine ⟨_, Cert.NormIdeal.Value.run_blocks m g, ?_⟩
  refine (θ_run Cert.NormPlainIdeal.defs _ _).mono (fun r h c => ⟨(h c).1.trans ?_, (h c).2⟩) (Cert.NormPlainIdeal.Value.run m' g')
  obtain ⟨e0, e1⟩ := hagree c
  rw [result m c, e0, e1]
  exact FwdPlain.rows_eq _ _

end Cert.Norms.Fwd

end
-- ==== Proof.NormBwd.lean ====
/-
  The pull-back of the layers' root-mean-square norm. The kernel goes over the rows in eight blocks of 512, and adds
  the gradient of the gain up in one output that every block meets.
-/
module

public import proofs.«01_k».proof.Defs
public import proofs.«01_k».proof.Proof.NormMaths
public import proofs.«01_k».proof.Proof.Gen.NormBwd.Frame
public import proofs.«01_k».proof.Proof.Gen.NormBwdIdeal.Value
public import proofs.«01_k».proof.Proof.Gen.NormBwdPlainIdeal.Run
public import Idealize.ShloMosaic.Lib.Pipeline.ValueKit
public import Idealize.ShloMosaic.Lib.Pipeline.ReadBack

@[expose] public section

set_option maxRecDepth 16384

noncomputable section

namespace Cert.Norms

open Idealize.ShloMosaic Idealize.ShloMosaic.TcCoe Idealize.SL.Sem

namespace Bwd

open Cert.NormBwdIdeal Cert.NormBwdIdeal.Gen

/-! ## What the kernel computes from a block -/

/-- The body's rows: the row's cotangent and the one that bypasses the norm. -/
theorem pay5_at (x : FVec Ideal S512x1024 .f32) (g : FVec Ideal S1x1024 .f32) (y a : FVec Ideal S512x1024 .f32) (p : Fin 512) (q : Fin 1024) :
    k0_pay5 (F := Ideal) x g y a (ix2 p q) = dRow (fun k => x (ix2 p k)) (fun k => g (ix2 0 k)) (fun k => y (ix2 p k)) q + a (ix2 p q) := by
  pointwise [k0_pay5, k0_pay3, k0_pay2]
  rfl

/-- What the body adds to the gain's cotangent. -/
theorem pay4_at (x y : FVec Ideal S512x1024 .f32) (z : Fin 1) (q : Fin 1024) :
    k0_pay4 (F := Ideal) x y (ix2 z q) = ∑ p : Fin 512, dGain (fun k => x (ix2 p k)) (fun k => y (ix2 p k)) q := by
  pointwise [k0_pay4, k0_pay3, k0_pay2]
  rfl

/-! ## What a grid point leaves -/

variable (m : (ℓ : Loc nD τ sig) → Buf (Elt Ideal) ℓ) (c : Dev nD)

/-- The rows that a grid point leaves, at the first point and later. -/
theorem rows4 (t : Fin cfg0.N) : (outsAt0 m c t.val t.isLt).1 = k0_pay5 (F := Ideal) (iblk m c 0 t) (iblk m c 1 t) (iblk m c 2 t) (iblk m c 3 t) := by
  have hN : t.val < 8 := lt_of_lt_of_eq t.isLt (show cfg0.N = 8 from N_0)
  by_cases h : t.val = 0
  · rw [outsAt0_A m c t (by omega) (by omega)]
    dsimp only
    frame_out
  · rw [outsAt0_B m c t (by omega) (by omega)]
    dsimp only
    frame_out

/-- The first block starts the gain's cotangent. -/
theorem start5 (t : Fin cfg0.N) (h : t.val = 0) : (outsAt0 m c t.val t.isLt).2 = k0_pay4 (F := Ideal) (iblk m c 0 t) (iblk m c 2 t) := by
  rw [outsAt0_A m c t (by omega) (by omega)]
  dsimp only
  frame_out

/-- Every other block adds to it. -/
theorem step5 (t : Fin cfg0.N) (h : t.val ≠ 0) : (outsAt0 m c t.val t.isLt).2
    = addf (outsAt0 m c (t.val - 1) (Nat.lt_of_le_of_lt (Nat.sub_le _ _) t.isLt)).2 (k0_pay4 (F := Ideal) (iblk m c 0 t) (iblk m c 2 t)) := by
  have hN : t.val < 8 := lt_of_lt_of_eq t.isLt (show cfg0.N = 8 from N_0)
  rw [outsAt0_B m c t (by omega) (by omega)]
  dsimp only
  frame_out
  simp only [k0_pay1, shapeCast_self]

/-- The tiles that a grid point is given and writes. -/
theorem tiles : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

theorem at0 (t : Fin cfg0.N) (p : Fin 512) (q : Fin 1024) :
    iblk m c 0 t (ix2 p q) = m ((c : Thread nD τ).loc main_arg0) (ix2 (row (t.cast N_0) p) q) := by
  blk_point [iblk, V, tiles t]
  rfl

theorem at1 (t : Fin cfg0.N) (q : Fin 1024) :
    iblk m c 1 t (ix2 0 q) = m ((c : Thread nD τ).loc main_arg1) (ix2 0 q) := by
  blk_point [iblk, V, tiles t]

theorem at2 (t : Fin cfg0.N) (p : Fin 512) (q : Fin 1024) :
    iblk m c 2 t (ix2 p q) = m ((c : Thread nD τ).loc main_arg2) (ix2 (row (t.cast N_0) p) q) := by
  blk_point [iblk, V, tiles t]
  rfl

theorem at3 (t : Fin cfg0.N) (p : Fin 512) (q : Fin 1024) :
    iblk m c 3 t (ix2 p q) = m ((c : Thread nD τ).loc main_arg3) (ix2 (row (t.cast N_0) p) q) := by
  blk_point [iblk, V, tiles t]
  rfl

theorem block4 (t : Fin cfg0.N) (p : Fin 512) (q : Fin 1024) : ((cfg0.win 4).blk t).view.emb (ix2 p q) = ix2 (row (t.cast N_0) p) q := by
  blk_point [tiles t]
  rfl

theorem block5 (t : Fin cfg0.N) (p : Fin 1) (q : Fin 1024) : ((cfg0.win 5).blk t).view.emb (ix2 p q) = ix2 p q := by
  blk_point [tiles t]

/-- The rows' cotangent, with the cotangent that bypasses the norm, of the arguments. -/
def rows (x : FVec Ideal S4096x1024 .f32) (g : FVec Ideal S1x1024 .f32) (y a : FVec Ideal S4096x1024 .f32) : FVec Ideal S4096x1024 .f32 :=
  fun i => dRow (fun k => x (ix2 (i 0) k)) (fun k => g (ix2 0 k)) (fun k => y (ix2 (i 0) k)) (i 1) + a i

/-- The gain's cotangent. -/
def gains (x y : FVec Ideal S4096x1024 .f32) : FVec Ideal S1x1024 .f32 :=
  fun i => ∑ r : Fin 4096, dGain (fun k => x (ix2 r k)) (fun k => y (ix2 r k)) (i 1)

/-- The kernel's rows. -/
theorem result4 : (dats m 0 c).arrAt 4 cfg0.N = rows (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4, rows4]
  obtain ⟨p, q, rfl⟩ : ∃ (p : Fin 512) (q : Fin 1024), y = ix2 p q := ⟨y 0, y 1, eq_ix2 y⟩
  rw [block4]
  refine (pay5_at _ _ _ _ p q).trans ?_
  simp only [at0, at1, at2, at3]
  rfl

/-- What block `t` adds to the gain's cotangent. -/
def add5 (t : ℕ) (q : Fin 1024) : EReal := if h : t < 8 then ∑ p : Fin 512,
  dGain (fun k => m ((c : Thread nD τ).loc main_arg0) (ix2 (row ⟨t, h⟩ p) k)) (fun k => m ((c : Thread nD τ).loc main_arg2) (ix2 (row ⟨t, h⟩ p) k)) q else 0

theorem adds (t : Fin cfg0.N) (z : Fin 1) (q : Fin 1024) : k0_pay4 (F := Ideal) (iblk m c 0 t) (iblk m c 2 t) (ix2 z q) = add5 m c t.val q := by
  have hN : t.val < 8 := lt_of_lt_of_eq t.isLt (show cfg0.N = 8 from N_0)
  refine (pay4_at _ _ z q).trans ?_
  simp only [at0, at2, add5, dif_pos hN]
  rfl

/-- After point `n` the output holds the sum of the blocks up to it. -/
theorem sums5 (z : Fin 1) (q : Fin 1024) : ∀ (n : ℕ) (h : n < cfg0.N), (outsAt0 m c n h).2 (ix2 z q) = ∑ s ∈ Finset.range (n + 1), add5 m c s q
  | 0, h => by
    refine (congrFun (start5 m c ⟨0, h⟩ rfl) _).trans ((adds m c ⟨0, h⟩ z q).trans ?_)
    simp
  | n + 1, h => by
    refine (congrFun (step5 m c ⟨n + 1, h⟩ (Nat.succ_ne_zero n)) _).trans ?_
    rw [Finset.sum_range_succ, ← sums5 z q n (Nat.lt_of_succ_lt h), ← adds m c ⟨n + 1, h⟩ z q]
    rfl

/-- The kernel's gain. -/
theorem result5 : (dats m 0 c).arrAt 5 cfg0.N = gains (m ((c : Thread nD τ).loc main_arg0)) (m ((c : Thread nD τ).loc main_arg2)) := by
  refine (dats m 0 c).arrAt_eq_of_covers 5 _ (by decide +kernel) fun t hf y => ?_
  have hN : t.val < 8 := lt_of_lt_of_eq t.isLt (show cfg0.N = 8 from N_0)
  have h7 : t.val = 7 := by have := (flush0_5 t).mp hf; omega
  blk_simp
  rw [after0_5]
  obtain ⟨z, q, rfl⟩ : ∃ (z : Fin 1) (q : Fin 1024), y = ix2 z q := ⟨y 0, y 1, eq_ix2 y⟩
  rw [block5]
  refine (sums5 m c z q t.val t.isLt).trans ?_
  rw [h7, Finset.sum_range]
  refine Eq.trans ?_ (sum_rows _).symm
  exact Finset.sum_congr rfl fun s _ => dif_pos s.isLt

/-! ## What the reference computes -/

/-- The reference's rows. -/
theorem plain4 (m : (ℓ : Loc Cert.NormBwdPlainIdeal.nD Cert.NormBwdPlainIdeal.τ Cert.NormBwdPlainIdeal.sig) → Buf (Elt Ideal) ℓ) (c : Dev Cert.NormBwdPlainIdeal.nD) :
    Cert.NormBwdPlainIdeal.Value.res_main_v37 (F := Ideal) m c
      = rows (m (c.tc.loc Cert.NormBwdPlainIdeal.main_arg0)) (m (c.tc.loc Cert.NormBwdPlainIdeal.main_arg1))
        (m (c.tc.loc Cert.NormBwdPlainIdeal.main_arg2)) (m (c.tc.loc Cert.NormBwdPlainIdeal.main_arg3)) := by
  funext i
  obtain ⟨p, q, rfl⟩ : ∃ (p : Fin 4096) (q : Fin 1024), i = ix2 p q := ⟨i 0, i 1, eq_ix2 i⟩
  unfold Cert.NormBwdPlainIdeal.Value.res_main_v37
  pointwise []
  exact add_comm (_ : EReal) _

end Bwd

namespace Gain

open Cert.NormBwdPlainIdeal Cert.NormBwdPlainIdeal.Gen

/-- The gain's cotangent as the reference writes it. -/
abbrev gainPlain (x y : FVec Ideal S4096x1024 .f32) : FVec Ideal S1x1024 .f32 :=
  shapeCast S1x1024 (Host.reduceAdd (shapeCast S1x1024 (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) y) (constant S_ .f32 0x00000000#32) reducesTo_S4096x1024_S1024_d0 h_S_) shapeCasts_S1024_S1x1024) (constant S_ .f32 0x00000000#32) reducesTo_S1x1024_S1024_d0 h_S_) shapeCasts_S1024_S1x1024

end Gain

namespace Bwd

open Cert.NormBwdIdeal Cert.NormBwdIdeal.Gen Gain

/-- The reference's gain. -/
theorem plain5 (x y : FVec Ideal S4096x1024 .f32) : gainPlain x y = gains x y := by
  funext i
  obtain ⟨p, q, rfl⟩ : ∃ (p : Fin 1) (q : Fin 1024), i = ix2 p q := ⟨i 0, i 1, eq_ix2 i⟩
  pointwise [gainPlain]
  exact Fintype.sum_unique _

/-! ## The claims -/

/-- The kernel ends with its arguments and the counters as at the start. -/
theorem frame : Cert.quiescent_NormBwd := fun m ρ _ => Cert.NormBwd.Gen.frame m ρ

/-- So does the kernel over the extended reals. -/
theorem frame_ideal : Cert.quiescent_NormBwdIdeal := fun m ρ _ => Cert.NormBwdIdeal.Gen.frame m ρ

/-- The reference ends with its arguments and the counters as at the start. -/
theorem frame_plain : Cert.quiescent_NormBwdPlainIdeal := fun m ρ _ =>
  (θ_run Cert.NormBwdPlainIdeal.defs _ _).mono (fun r h => ⟨fun c => (h c).2.2, sem_eq_zero_of_no_sems (by decide) r.2⟩)
    (Cert.NormBwdPlainIdeal.Value.run (F := Ideal) m ρ)

/-- Kernel and reference compute the same. -/
theorem algebraic : Cert.algebraic_NormBwdIdeal_NormBwdPlainIdeal := by
  intro m g m' g' _ hagree
  refine ⟨_, _, Cert.NormBwdIdeal.Value.run_blocks m g, ?_⟩
  refine (θ_run Cert.NormBwdPlainIdeal.defs _ _).mono (fun r h c => ?_) (Cert.NormBwdPlainIdeal.Value.run m' g')
  obtain ⟨h0, h1, keep⟩ := h c
  obtain ⟨e0, e1, e2, e3⟩ := hagree c
  refine ⟨h0.trans ?_, h1.trans ?_, keep⟩
  · rw [plain4, result4 m c, e0, e1, e2, e3]
  · rw [result5 m c, e0, e2]
    exact plain5 _ _

end Bwd

end Cert.Norms

end
-- ==== Proof.LossHead.lean ====
/-
  The loss head: the last norm, half the mean square of its errors summed over a device's rows, and the gradients of the
  rows and of the gain. The loss and the gain's gradient are added up in outputs that every block of rows meets.
-/
module

public import proofs.«01_k».proof.Defs
public import proofs.«01_k».proof.Proof.NormMaths
public import proofs.«01_k».proof.Proof.Gen.LossHead.Frame
public import proofs.«01_k».proof.Proof.Gen.LossHeadIdeal.Value
public import proofs.«01_k».proof.Proof.Gen.LossHeadPlainIdeal.Run
public import Idealize.ShloMosaic.Lib.Pipeline.ValueKit
public import Idealize.ShloMosaic.Lib.Pipeline.ReadBack

@[expose] public section

set_option maxRecDepth 16384

noncomputable section

namespace Cert.Norms.Loss

open Idealize.ShloMosaic Idealize.ShloMosaic.TcCoe Idealize.SL.Sem
open Cert.LossHeadIdeal Cert.LossHeadIdeal.Gen

/-! ## What the kernel computes from a block -/

section Block

variable (x : FVec Ideal S512x1024 .f32) (g : FVec Ideal S1x1024 .f32) (u : FVec Ideal S512x1024 .f32)

/-- The body's errors. -/
theorem miss_at (p : Fin 512) (q : Fin 1024) :
    k0_pay7 (F := Ideal) x g u (ix2 p q) = miss (fun k => x (ix2 p k)) (fun k => g (ix2 0 k)) (fun k => u (ix2 p k)) q := by
  pointwise [k0_pay7, k0_pay6, k0_pay5, k0_pay4]
  rfl

/-- The cotangents of the body's normed rows. -/
theorem slope_at (p : Fin 512) (q : Fin 1024) :
    k0_pay8 (F := Ideal) x g u (ix2 p q) = slope (fun k => x (ix2 p k)) (fun k => g (ix2 0 k)) (fun k => u (ix2 p k)) q := by
  pointwise [k0_pay8, miss_at]
  rfl

/-- What the body adds to the gain's gradient. -/
theorem gain_at (z : Fin 1) (q : Fin 1024) :
    k0_pay9 (F := Ideal) x g u (ix2 z q)
      = ∑ p : Fin 512, dGain (fun k => x (ix2 p k)) (slope (fun k => x (ix2 p k)) (fun k => g (ix2 0 k)) (fun k => u (ix2 p k))) q := by
  pointwise [k0_pay9, slope_at, k0_pay6, k0_pay5, k0_pay4]
  rfl

/-- The body's gradients of the rows. -/
theorem row_at (p : Fin 512) (q : Fin 1024) :
    k0_pay10 (F := Ideal) x g u (ix2 p q)
      = dRow (fun k => x (ix2 p k)) (fun k => g (ix2 0 k)) (slope (fun k => x (ix2 p k)) (fun k => g (ix2 0 k)) (fun k => u (ix2 p k))) q := by
  pointwise [k0_pay10, slope_at, k0_pay5, k0_pay4]
  rfl

/-- What the body adds to the loss. -/
theorem loss_at (z : Fin 1) (q : Fin 128) :
    k0_pay1 (F := Ideal) (k0_pay7 (F := Ideal) x g u) (ix2 z q)
      = Ideal.ofBits .f32 0x3F000000#32 * ∑ p : Fin 512, missSquare (fun k => x (ix2 p k)) (fun k => g (ix2 0 k)) (fun k => u (ix2 p k)) := by
  pointwise [k0_pay1, miss_at]
  rfl

end Block

/-! ## What a grid point leaves -/

variable (m : (ℓ : Loc nD τ sig) → Buf (Elt Ideal) ℓ) (c : Dev nD)

/-- The errors, the rows' gradient and the gain's gradient of block `t`. -/
abbrev errors (t : Fin cfg0.N) := k0_pay7 (F := Ideal) (iblk m c 0 t) (iblk m c 2 t) (iblk m c 1 t)
abbrev rowsOf (t : Fin cfg0.N) := k0_pay10 (F := Ideal) (iblk m c 0 t) (iblk m c 2 t) (iblk m c 1 t)
abbrev gainOf (t : Fin cfg0.N) := k0_pay9 (F := Ideal) (iblk m c 0 t) (iblk m c 2 t) (iblk m c 1 t)

/-- The first block starts the sums. -/
theorem start (t : Fin cfg0.N) (h : t.val = 0) : outsAt0 m c t.val t.isLt = (k0_pay1 (F := Ideal) (errors m c t), rowsOf m c t, gainOf m c t) := by
  rw [outsAt0_A m c t (by omega) (by omega)]
  refine Prod.ext ?_ (Prod.ext ?_ ?_)
  · dsimp only
    frame_out
  · dsimp only
    frame_out
  · dsimp only
    frame_out

/-- Every other block adds to them. -/
theorem step (t : Fin cfg0.N) (h : t.val ≠ 0) : outsAt0 m c t.val t.isLt
    = (addf (outsAt0 m c (t.val - 1) (Nat.lt_of_le_of_lt (Nat.sub_le _ _) t.isLt)).1 (k0_pay1 (F := Ideal) (errors m c t)), rowsOf m c t,
      addf (outsAt0 m c (t.val - 1) (Nat.lt_of_le_of_lt (Nat.sub_le _ _) t.isLt)).2.2 (gainOf m c t)) := by
  have hN : t.val < 8 := lt_of_lt_of_eq t.isLt (show cfg0.N = 8 from N_0)
  rw [outsAt0_B m c t (by omega) (by omega)]
  refine Prod.ext ?_ (Prod.ext ?_ ?_)
  · dsimp only
    frame_out
    simp only [k0_pay2, shapeCast_self]
  · dsimp only
    frame_out
  · dsimp only
    frame_out
    simp only [k0_pay3, shapeCast_self]

/-- The rows that a grid point leaves. -/
theorem rows4 (t : Fin cfg0.N) : (outsAt0 m c t.val t.isLt).2.1 = rowsOf m c t := by
  by_cases h : t.val = 0
  · rw [start m c t h]
  · rw [step m c t h]

/-! ## The blocks, by the arrays' elements -/

/-- The tiles that a grid point is given and writes. -/
theorem tiles : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] :=
  (by decide +kernel : ∀ t : Fin grid0.N, _)

theorem at0 (t : Fin cfg0.N) (p : Fin 512) (q : Fin 1024) :
    iblk m c 0 t (ix2 p q) = m ((c : Thread nD τ).loc main_arg0) (ix2 (row (t.cast N_0) p) q) := by
  blk_point [iblk, V, tiles t]
  rfl

theorem at1 (t : Fin cfg0.N) (p : Fin 512) (q : Fin 1024) :
    iblk m c 1 t (ix2 p q) = m ((c : Thread nD τ).loc main_arg1) (ix2 (row (t.cast N_0) p) q) := by
  blk_point [iblk, V, tiles t]
  rfl

theorem at2 (t : Fin cfg0.N) (q : Fin 1024) : iblk m c 2 t (ix2 0 q) = m ((c : Thread nD τ).loc main_arg2) (ix2 0 q) := by
  blk_point [iblk, V, tiles t]

theorem block3 (t : Fin cfg0.N) (z : Fin 1) (q : Fin 128) : ((cfg0.win 3).blk t).view.emb (ix2 z q) = ix2 z q := by
  blk_point [tiles t]

theorem block4 (t : Fin cfg0.N) (p : Fin 512) (q : Fin 1024) : ((cfg0.win 4).blk t).view.emb (ix2 p q) = ix2 (row (t.cast N_0) p) q := by
  blk_point [tiles t]
  rfl

theorem block5 (t : Fin cfg0.N) (z : Fin 1) (q : Fin 1024) : ((cfg0.win 5).blk t).view.emb (ix2 z q) = ix2 z q := by
  blk_point [tiles t]

/-! ## The results -/

section Results

variable (x u : FVec Ideal S4096x1024 .f32) (g : FVec Ideal S1x1024 .f32)

/-- A row of `x` or of the targets. -/
abbrev rowX (r : Fin 4096) : Fin 1024 → EReal := fun k => x (ix2 r k)

/-- The gain. -/
abbrev gain : Fin 1024 → EReal := fun k => g (ix2 0 k)

/-- The loss of a device's rows. -/
def loss : FVec Ideal S1x128 .f32 :=
  fun _ => Ideal.ofBits .f32 0x3F000000#32 * ∑ r : Fin 4096, missSquare (rowX x r) (gain g) (rowX u r)

/-- The gradient of the rows. -/
def rows : FVec Ideal S4096x1024 .f32 :=
  fun i => dRow (rowX x (i 0)) (gain g) (slope (rowX x (i 0)) (gain g) (rowX u (i 0))) (i 1)

/-- The gradient of the gain. -/
def gains : FVec Ideal S1x1024 .f32 :=
  fun i => ∑ r : Fin 4096, dGain (rowX x r) (slope (rowX x r) (gain g) (rowX u r)) (i 1)

/-- What block `t` adds to the loss and to the gain's gradient. -/
def addLoss (t : ℕ) : EReal := if h : t < 8 then Ideal.ofBits .f32 0x3F000000#32 * ∑ p : Fin 512,
  missSquare (rowX x (row ⟨t, h⟩ p)) (gain g) (rowX u (row ⟨t, h⟩ p)) else 0

/-- What block `t` adds to the gain's gradient. -/
def addGain (t : ℕ) (q : Fin 1024) : EReal := if h : t < 8 then ∑ p : Fin 512,
  dGain (rowX x (row ⟨t, h⟩ p)) (slope (rowX x (row ⟨t, h⟩ p)) (gain g) (rowX u (row ⟨t, h⟩ p))) q else 0

end Results

/-- The rows, the targets and the gain that the kernel is given. -/
abbrev argX := m ((c : Thread nD τ).loc main_arg0)
abbrev argU := m ((c : Thread nD τ).loc main_arg1)
abbrev argG := m ((c : Thread nD τ).loc main_arg2)

/-- The kernel's rows. -/
theorem result4 : (dats m 0 c).arrAt 4 cfg0.N = rows (argX m c) (argU m c) (argG m c) := by
  refine (dats m 0 c).arrAt_eq_of_covers 4 _ (by decide +kernel) fun t _ y => ?_
  blk_simp
  rw [after0_4, rows4]
  obtain ⟨p, q, rfl⟩ : ∃ (p : Fin 512) (q : Fin 1024), y = ix2 p q := ⟨y 0, y 1, eq_ix2 y⟩
  rw [block4]
  refine (row_at _ _ _ p q).trans ?_
  simp only [at0, at1, at2]
  rfl

theorem adds_loss (t : Fin cfg0.N) (z : Fin 1) (q : Fin 128) :
    k0_pay1 (F := Ideal) (errors m c t) (ix2 z q) = addLoss (argX m c) (argU m c) (argG m c) t.val := by
  have hN : t.val < 8 := lt_of_lt_of_eq t.isLt (show cfg0.N = 8 from N_0)
  refine (loss_at _ _ _ z q).trans ?_
  simp only [at0, at1, at2, addLoss, dif_pos hN]
  rfl

theorem adds_gain (t : Fin cfg0.N) (z : Fin 1) (q : Fin 1024) :
    gainOf m c t (ix2 z q) = addGain (argX m c) (argU m c) (argG m c) t.val q := by
  have hN : t.val < 8 := lt_of_lt_of_eq t.isLt (show cfg0.N = 8 from N_0)
  refine (gain_at _ _ _ z q).trans ?_
  simp only [at0, at1, at2, addGain, dif_pos hN]
  rfl

/-- After point `n` the outputs hold the sums of the blocks up to it. -/
theorem sums (z : Fin 1) (l : Fin 128) (q : Fin 1024) : ∀ (n : ℕ) (h : n < cfg0.N),
    (outsAt0 m c n h).1 (ix2 z l) = ∑ s ∈ Finset.range (n + 1), addLoss (argX m c) (argU m c) (argG m c) s
      ∧ (outsAt0 m c n h).2.2 (ix2 z q) = ∑ s ∈ Finset.range (n + 1), addGain (argX m c) (argU m c) (argG m c) s q
  | 0, h => by
    have e := start m c ⟨0, h⟩ rfl
    refine ⟨(congrFun (congrArg (fun o => o.1) e) _).trans ((adds_loss m c ⟨0, h⟩ z l).trans (by simp)),
      (congrFun (congrArg (fun o => o.2.2) e) _).trans ((adds_gain m c ⟨0, h⟩ z q).trans (by simp))⟩
  | n + 1, h => by
    have e := step m c ⟨n + 1, h⟩ (Nat.succ_ne_zero n)
    obtain ⟨i1, i2⟩ := sums z l q n (Nat.lt_of_succ_lt h)
    rw [Finset.sum_range_succ _ (n + 1), Finset.sum_range_succ _ (n + 1), ← i1, ← i2, ← adds_loss m c ⟨n + 1, h⟩ z l, ← adds_gain m c ⟨n + 1, h⟩ z q]
    exact ⟨congrFun (congrArg (fun o => o.1) e) _, congrFun (congrArg (fun o => o.2.2) e) _⟩

theorem result3 : (dats m 0 c).arrAt 3 cfg0.N = loss (argX m c) (argU m c) (argG m c) := by
  refine (dats m 0 c).arrAt_eq_of_covers 3 _ (by decide +kernel) fun t hf y => ?_
  have hN : t.val < 8 := lt_of_lt_of_eq t.isLt (show cfg0.N = 8 from N_0)
  have h7 : t.val = 7 := by have := (flush0_3 t).mp hf; omega
  blk_simp
  rw [after0_3]
  obtain ⟨z, q, rfl⟩ : ∃ (z : Fin 1) (q : Fin 128), y = ix2 z q := ⟨y 0, y 1, eq_ix2 y⟩
  rw [block3]
  refine (sums m c z q 0 t.val t.isLt).1.trans ?_
  rw [h7, Finset.sum_range]
  unfold loss
  rw [sum_rows, half_sum]
  exact Finset.sum_congr rfl fun s _ => dif_pos s.isLt

theorem result5 : (dats m 0 c).arrAt 5 cfg0.N = gains (argX m c) (argU m c) (argG m c) := by
  refine (dats m 0 c).arrAt_eq_of_covers 5 _ (by decide +kernel) fun t hf y => ?_
  have hN : t.val < 8 := lt_of_lt_of_eq t.isLt (show cfg0.N = 8 from N_0)
  have h7 : t.val = 7 := by have := (flush0_5 t).mp hf; omega
  blk_simp
  rw [after0_5]
  obtain ⟨z, q, rfl⟩ : ∃ (z : Fin 1) (q : Fin 1024), y = ix2 z q := ⟨y 0, y 1, eq_ix2 y⟩
  rw [block5]
  refine (sums m c z 0 q t.val t.isLt).2.trans ?_
  rw [h7, Finset.sum_range]
  refine Eq.trans ?_ (sum_rows _).symm
  exact Finset.sum_congr rfl fun s _ => dif_pos s.isLt

end Cert.Norms.Loss

/-! ## What the reference computes -/

namespace Cert.Norms.LossPlain

open Idealize.ShloMosaic Idealize.ShloMosaic.TcCoe Idealize.SL.Sem
open Cert.LossHeadPlainIdeal Cert.LossHeadPlainIdeal.Gen

variable (x u : FVec Ideal S4096x1024 .f32) (g : FVec Ideal S1x1024 .f32)

/-- The rows over the root of their mean square. -/
abbrev scaled : FVec Ideal S4096x1024 .f32 :=
  mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))

/-- The errors. -/
abbrev errors : FVec Ideal S4096x1024 .f32 :=
  subf (mulf (scaled x) (broadcastInDim S4096x1024 ![0, 1] bcast_S1x1024_S4096x1024_0_1 (broadcastInDim S1x1024 ![1] bcast_S1024_S1x1024_1 (shapeCast _ g shapeCasts_S1x1024_S1024)))) u

/-- The loss. -/
abbrev loss : FVec Ideal S1x128 .f32 :=
  broadcastInDim S1x128 ![] bcast_S_S1x128 (mulf (constant S_ .f32 0x3F000000#32) (Host.reduceAdd (Host.divf (Host.reduceAdd (mulf (errors x u g) (errors x u g)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

/-- The gain's gradient. -/
abbrev gains : FVec Ideal S1x1024 .f32 :=
  shapeCast _ (Host.reduceAdd (shapeCast _ (Host.reduceAdd (mulf (scaled x) (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (errors x u g)))) (constant S_ .f32 0x00000000#32) reducesTo_S4096x1024_S1024_d0 h_S_) shapeCasts_S1024_S1x1024) (constant S_ .f32 0x00000000#32) reducesTo_S1x1024_S1024_d0 h_S_) shapeCasts_S1024_S1x1024

theorem loss_eq : loss x u g = Loss.loss x u g := by
  funext i
  obtain ⟨p, q, rfl⟩ : ∃ (p : Fin 1) (q : Fin 128), i = ix2 p q := ⟨i 0, i 1, eq_ix2 i⟩
  pointwise [loss, errors, scaled]
  rfl

theorem gains_eq : gains x u g = Loss.gains x u g := by
  funext i
  obtain ⟨p, q, rfl⟩ : ∃ (p : Fin 1) (q : Fin 1024), i = ix2 p q := ⟨i 0, i 1, eq_ix2 i⟩
  pointwise [gains, errors, scaled]
  simp only [slope_of_square]
  exact Fintype.sum_unique _

theorem rows_eq (m : (ℓ : Loc nD τ sig) → Buf (Elt Ideal) ℓ) (c : Dev nD) : Value.res_main_v51 (F := Ideal) m c
    = Loss.rows (m (c.tc.loc main_arg0)) (m (c.tc.loc main_arg1)) (m (c.tc.loc main_arg2)) := by
  funext i
  obtain ⟨p, q, rfl⟩ : ∃ (p : Fin 4096) (q : Fin 1024), i = ix2 p q := ⟨i 0, i 1, eq_ix2 i⟩
  unfold Value.res_main_v51
  pointwise []
  simp only [slope_of_square]
  rfl

end Cert.Norms.LossPlain

/-! ## The claims -/

namespace Cert.Norms.Loss

open Idealize.ShloMosaic Idealize.ShloMosaic.TcCoe Idealize.SL.Sem

/-- The kernel ends with its arguments and the counters as at the start. -/
theorem frame : Cert.quiescent_LossHead := fun m ρ _ => Cert.LossHead.Gen.frame m ρ

/-- So does the kernel over the extended reals. -/
theorem frame_ideal : Cert.quiescent_LossHeadIdeal := fun m ρ _ => Cert.LossHeadIdeal.Gen.frame m ρ

/-- The reference ends with its arguments and the counters as at the start. -/
theorem frame_plain : Cert.quiescent_LossHeadPlainIdeal := fun m ρ _ =>
  (θ_run Cert.LossHeadPlainIdeal.defs _ _).mono (fun r h => ⟨fun c => (h c).2.2.2, sem_eq_zero_of_no_sems (by decide) r.2⟩)
    (Cert.LossHeadPlainIdeal.Value.run (F := Ideal) m ρ)

/-- Kernel and reference compute the same. -/
theorem algebraic : Cert.algebraic_LossHeadIdeal_LossHeadPlainIdeal := by
  intro m g m' g' _ hagree
  refine ⟨_, _, _, Cert.LossHeadIdeal.Value.run_blocks m g, ?_⟩
  refine (θ_run Cert.LossHeadPlainIdeal.defs _ _).mono (fun r h c => ?_) (Cert.LossHeadPlainIdeal.Value.run m' g')
  obtain ⟨h0, h1, h2, keep⟩ := h c
  obtain ⟨e0, e1, e2⟩ := hagree c
  refine ⟨h0.trans ?_, h1.trans ?_, h2.trans ?_, keep⟩
  · rw [result3 m c, argX, argU, argG, e0, e1, e2]
    exact LossPlain.loss_eq _ _ _
  · rw [LossPlain.rows_eq, result4 m c, argX, argU, argG, e0, e1, e2]
  · rw [result5 m c, argX, argU, argG, e0, e1, e2]
    exact LossPlain.gains_eq _ _ _

end Cert.Norms.Loss

end
-- ==== Proof.EvenDt.lean ====
/-
  The product of the even layer's second projection: the columns that scale the layer's time step. The kernel multiplies
  tile by tile over the whole inner axis.
-/
module

public import proofs.«01_k».proof.Defs
public import proofs.«01_k».proof.Proof.Gen.EvenDt.Frame
public import proofs.«01_k».proof.Proof.Gen.EvenDtIdeal.Value
public import proofs.«01_k».proof.Proof.Gen.EvenDtPlainIdeal.Run
public import Idealize.ShloMosaic.Lib.Pipeline.ValueKit

@[expose] public section

set_option maxRecDepth 16384

noncomputable section

namespace Cert.Products

open Idealize.ShloMosaic Idealize.ShloMosaic.TcCoe Idealize.SL.Sem

namespace EvenDt

open Cert.EvenDtIdeal Cert.EvenDtIdeal.Gen

/-- The reference's result, of its arguments. -/
abbrev plain (a0 : FVec Ideal S4096x1024 .bf16) (a1 : FVec Ideal S1024x128 .bf16) : FVec Ideal S4096x128 .f32 :=
  Host.dotGeneral (φ₁ := .f32) (φ₂ := .f32) Cert.EvenDtPlainIdeal.dot_S4096x1024_S1024x128_S4096x128_1_0_0_1_n_n none (extf .f32 a0 Cert.EvenDtPlainIdeal.Gen.bitsLt_bf16_f32) (extf .f32 a1 Cert.EvenDtPlainIdeal.Gen.bitsLt_bf16_f32)

/-- The tiles that a grid point is given and writes. -/
theorem tiles : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_EvenDt := fun m ρ _ => Cert.EvenDt.Gen.frame m ρ

/-- So does the kernel over the extended reals. -/
theorem frame_ideal : Cert.quiescent_EvenDtIdeal := fun m ρ _ => Cert.EvenDtIdeal.Gen.frame m ρ

/-- The reference ends with its arguments and the counters as at the start. -/
theorem frame_plain : Cert.quiescent_EvenDtPlainIdeal := fun m ρ _ =>
  (θ_run Cert.EvenDtPlainIdeal.defs _ _).mono (fun r h => ⟨fun c => (h c).2, sem_eq_zero_of_no_sems (by decide) r.2⟩)
    (Cert.EvenDtPlainIdeal.Value.run (F := Ideal) m ρ)

/-- Kernel and reference compute the same. -/
theorem algebraic : Cert.algebraic_EvenDtIdeal_EvenDtPlainIdeal := by
  intro m g m' g' _ hagree
  refine ⟨_, Cert.EvenDtIdeal.Value.run_blocks m g, ?_⟩
  refine (θ_run Cert.EvenDtPlainIdeal.defs _ _).mono (fun r h c => ⟨(h c).1.trans ?_, (h c).2⟩) (Cert.EvenDtPlainIdeal.Value.run m' g')
  obtain ⟨e0, e1⟩ := hagree c
  rw [result m c, e0, e1]

end EvenDt

end Cert.Products

end
-- ==== Proof.Glu.lean ====
/-
  The gate of the odd mixer's convolution, forward: half of the projection's columns times the logistic function of
  another half. The kernel goes over the rows in eight blocks of 512.
-/
module

public import proofs.«01_k».proof.Defs
public import proofs.«01_k».proof.Proof.Gen.Glu.Frame
public import proofs.«01_k».proof.Proof.Gen.GluIdeal.Value
public import proofs.«01_k».proof.Proof.Gen.GluPlainIdeal.Run
public import proofs.«01_k».proof.Proof.NormMaths
public import Idealize.ShloMosaic.Lib.Pipeline.ValueKit

@[expose] public section

set_option maxRecDepth 16384

noncomputable section

namespace Cert.Gates

open Idealize.ShloMosaic

/-- A value times the logistic function of its gate. -/
def gated (a g : EReal) : EReal := a * Ideal.logistic g

/-- The value's cotangent. -/
def dValue (g d : EReal) : EReal := d * Ideal.logistic g

/-- The gate's cotangent. -/
def dGate (a g d : EReal) : EReal := a * d * (Ideal.logistic g * (1 - Ideal.logistic g))

/-- Column `q` of the first half of the columns. -/
def lo {n : ℕ} (h : 1024 ≤ n) (q : Fin 512) : Fin n := ⟨q, by omega⟩

/-- Column `q` of the second half. -/
def hi {n : ℕ} (h : 1024 ≤ n) (q : Fin 512) : Fin n := ⟨512 + q, by omega⟩

end Cert.Gates

namespace Cert.Gates.Fwd

open Idealize.ShloMosaic Idealize.ShloMosaic.TcCoe Idealize.SL.Sem
open Cert.GluIdeal Cert.GluIdeal.Gen
open Cert.Norms (row)

/-- What the kernel computes from its blocks. -/
theorem pay_at (a g : FVec Ideal S512x512 .f32) (p q : Fin 512) : k0_pay1 (F := Ideal) a g (ix2 p q) = gated (a (ix2 p q)) (g (ix2 p q)) := by
  pointwise [k0_pay1]
  rfl

variable (m : (ℓ : Loc nD τ sig) → Buf (Elt Ideal) ℓ) (c : Dev nD)

/-- The tiles that a grid point is given and writes. -/
theorem tiles : ∀ t : Fin cfg0.N, win0_0.index t = ![t.val, 0] ∧ win0_1.index t = ![t.val, 1] ∧ win0_2.index t = ![t.val, 0] :=
  (by decide +kernel : ∀ t : Fin grid0.N, _)

theorem at0 (t : Fin cfg0.N) (p q : Fin 512) :
    iblk m c 0 t (ix2 p q) = m ((c : Thread nD τ).loc main_arg0) (ix2 (row (t.cast N_0) p) (lo (by decide) q)) := by
  blk_point [iblk, V, tiles t]
  all_goals rfl

theorem at1 (t : Fin cfg0.N) (p q : Fin 512) :
    iblk m c 1 t (ix2 p q) = m ((c : Thread nD τ).loc main_arg0) (ix2 (row (t.cast N_0) p) (hi (by decide) q)) := by
  blk_point [iblk, V, tiles t]
  all_goals rfl

theorem block2 (t : Fin cfg0.N) (p q : Fin 512) : ((cfg0.win 2).blk t).view.emb (ix2 p q) = ix2 (row (t.cast N_0) p) q := by
  blk_point [tiles t]
  rfl

/-- The gated values of all rows. -/
def rows (x : FVec Ideal S4096x1536 .f32) : FVec Ideal S4096x512 .f32 :=
  fun i => gated (x (ix2 (i 0) (lo (by decide) (i 1)))) (x (ix2 (i 0) (hi (by decide) (i 1))))

/-- The kernel's result. -/
theorem result : (dats m 0 c).arrAt 2 cfg0.N = rows (m ((c : Thread nD τ).loc main_arg0)) := by
  refine (dats m 0 c).arrAt_eq_of_covers 2 _ (by decide +kernel) fun t _ y => ?_
  blk_simp
  rw [after0_2]; frame_out
  obtain ⟨p, q, rfl⟩ : ∃ (p : Fin 512) (q : Fin 512), y = ix2 p q := ⟨y 0, y 1, eq_ix2 y⟩
  rw [block2]
  refine (pay_at _ _ p q).trans ?_
  rw [at0, at1]
  rfl

end Cert.Gates.Fwd

namespace Cert.Gates.FwdPlain

open Idealize.ShloMosaic Idealize.ShloMosaic.TcCoe Idealize.SL.Sem
open Cert.GluPlainIdeal Cert.GluPlainIdeal.Gen

/-- The gated values of all rows, as the reference writes them. -/
abbrev rows (x : FVec Ideal S4096x1536 .f32) : FVec Ideal S4096x512 .f32 :=
  mulf (extractStridedSlice S4096x512 ![0, 0] x slices_S4096x1536_S4096x512_0_0) (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 512] x slices_S4096x1536_S4096x512_0_512)))))

/-- They are the same. -/
theorem rows_eq (x : FVec Ideal S4096x1536 .f32) : rows x = Fwd.rows x := by
  funext i
  obtain ⟨p, q, rfl⟩ : ∃ (p : Fin 4096) (q : Fin 512), i = ix2 p q := ⟨i 0, i 1, eq_ix2 i⟩
  pointwise [rows]
  rfl

end Cert.Gates.FwdPlain

namespace Cert.Gates.Fwd

open Idealize.ShloMosaic Idealize.ShloMosaic.TcCoe Idealize.SL.Sem

/-- The kernel ends with its arguments and the counters as at the start. -/
theorem frame : Cert.quiescent_Glu := fun m ρ _ => Cert.Glu.Gen.frame m ρ

/-- So does the kernel over the extended reals. -/
theorem frame_ideal : Cert.quiescent_GluIdeal := fun m ρ _ => Cert.GluIdeal.Gen.frame m ρ

/-- The reference ends with its arguments and the counters as at the start. -/
theorem frame_plain : Cert.quiescent_GluPlainIdeal := fun m ρ _ =>
  (θ_run Cert.GluPlainIdeal.defs _ _).mono (fun r h => ⟨fun c => (h c).2, sem_eq_zero_of_no_sems (by decide) r.2⟩)
    (Cert.GluPlainIdeal.Value.run (F := Ideal) m ρ)

/-- Kernel and reference compute the same. -/
theorem algebraic : Cert.algebraic_GluIdeal_GluPlainIdeal := by
  intro m g m' g' _ hagree
  refine ⟨_, Cert.GluIdeal.Value.run_blocks m g, ?_⟩
  refine (θ_run Cert.GluPlainIdeal.defs _ _).mono (fun r h c => ⟨(h c).1.trans ?_, (h c).2⟩) (Cert.GluPlainIdeal.Value.run m' g')
  rw [result m c, hagree c]
  exact FwdPlain.rows_eq _

end Cert.Gates.Fwd

end
-- ==== Proof.GluBwd.lean ====
/-
  The pull-back of the gate of the odd mixer's convolution. The kernel goes over the rows in eight blocks of 512, and
  writes the two cotangents side by side.
-/
module

public import proofs.«01_k».proof.Defs
public import proofs.«01_k».proof.Proof.Gen.GluBwd.Frame
public import proofs.«01_k».proof.Proof.Gen.GluBwdIdeal.Value
public import proofs.«01_k».proof.Proof.Gen.GluBwdPlainIdeal.Run
public import proofs.«01_k».proof.Proof.Glu
public import Idealize.ShloMosaic.Lib.Pipeline.ValueKit

@[expose] public section

set_option maxRecDepth 16384

noncomputable section

namespace Cert.Gates.Bwd

open Idealize.ShloMosaic Idealize.ShloMosaic.TcCoe Idealize.SL.Sem
open Cert.GluBwdIdeal Cert.GluBwdIdeal.Gen
open Cert.Norms (row)

/-! ## What the kernel computes from its blocks -/

theorem pay2_at (g d : FVec Ideal S512x512 .f32) (p q : Fin 512) : k0_pay2 (F := Ideal) g d (ix2 p q) = dValue (g (ix2 p q)) (d (ix2 p q)) := by
  pointwise [k0_pay2, k0_pay1]
  rfl

theorem pay3_at (a g d : FVec Ideal S512x512 .f32) (p q : Fin 512) :
    k0_pay3 (F := Ideal) a g d (ix2 p q) = dGate (a (ix2 p q)) (g (ix2 p q)) (d (ix2 p q)) := by
  pointwise [k0_pay3, k0_pay1]
  rfl

variable (m : (ℓ : Loc nD τ sig) → Buf (Elt Ideal) ℓ) (c : Dev nD)

/-- The tiles that a grid point is given and writes. -/
theorem tiles : ∀ t : Fin cfg0.N, win0_0.index t = ![t.val, 0] ∧ win0_1.index t = ![t.val, 1] ∧ win0_2.index t = ![t.val, 0]
    ∧ win0_3.index t = ![t.val, 0] :=
  (by decide +kernel : ∀ t : Fin grid0.N, _)

theorem at0 (t : Fin cfg0.N) (p q : Fin 512) :
    iblk m c 0 t (ix2 p q) = m ((c : Thread nD τ).loc main_arg0) (ix2 (row (t.cast N_0) p) (lo (by decide) q)) := by
  blk_point [iblk, V, tiles t]
  all_goals rfl

theorem at1 (t : Fin cfg0.N) (p q : Fin 512) :
    iblk m c 1 t (ix2 p q) = m ((c : Thread nD τ).loc main_arg0) (ix2 (row (t.cast N_0) p) (hi (by decide) q)) := by
  blk_point [iblk, V, tiles t]
  all_goals rfl

theorem at2 (t : Fin cfg0.N) (p q : Fin 512) : iblk m c 2 t (ix2 p q) = m ((c : Thread nD τ).loc main_arg1) (ix2 (row (t.cast N_0) p) q) := by
  blk_point [iblk, V, tiles t]
  rfl

theorem block3 (t : Fin cfg0.N) (p : Fin 512) (q : Fin 1024) : ((cfg0.win 3).blk t).view.emb (ix2 p q) = ix2 (row (t.cast N_0) p) q := by
  blk_point [tiles t]
  rfl

/-- What the kernel leaves in the first half of the columns. -/
theorem out_lo (a g d : FVec Ideal S512x512 .f32) (p q : Fin 512) :
    out0_3 (F := Ideal) a g d (ix2 p (lo le_rfl q)) = (dValue (g (ix2 p q)) (d (ix2 p q)) : EReal) := by
  frame_out
  canon_tiles x h
  case piece0 =>
    have h1' : q.val = 512 + (x 1).val := h1
    omega
  case piece1 =>
    obtain rfl : x = ix2 p q := (eq_ix2 x).trans (congrArg₂ ix2 (Fin.ext h0.symm) (Fin.ext h1.symm))
    exact pay2_at _ _ p q

/-- What it leaves in the second. -/
theorem out_hi (a g d : FVec Ideal S512x512 .f32) (p q : Fin 512) :
    out0_3 (F := Ideal) a g d (ix2 p (hi le_rfl q)) = (dGate (a (ix2 p q)) (g (ix2 p q)) (d (ix2 p q)) : EReal) := by
  frame_out
  canon_tiles x h
  case piece0 =>
    obtain rfl : x = ix2 p q := (eq_ix2 x).trans (congrArg₂ ix2 (Fin.ext h0.symm) (Fin.ext (Nat.add_left_cancel h1).symm))
    exact pay3_at _ _ _ p q
  case piece1 =>
    have h1' : 512 + q.val = (x 1).val := h1
    omega

/-! ## The two cotangents side by side -/

/-- An array of 1024 columns, from its halves. -/
theorem halves {α : Type*} {n : ℕ} {f g : Fin n → Fin 1024 → α} (hl : ∀ r q, f r (lo le_rfl q) = g r (lo le_rfl q))
    (hh : ∀ r q, f r (hi le_rfl q) = g r (hi le_rfl q)) (r : Fin n) (q : Fin 1024) : f r q = g r q := by
  rcases Nat.lt_or_ge q.val 512 with h | h
  · exact hl r ⟨q, h⟩
  · have e : q = hi le_rfl ⟨q - 512, by omega⟩ := Fin.ext (by simp only [hi]; omega)
    rw [e]
    exact hh r _

/-- The two cotangents side by side, of the arguments. -/
structure Holds (x : FVec Ideal S4096x1536 .f32) (d : FVec Ideal S4096x512 .f32) (o : FVec Ideal S4096x1024 .bf16) : Prop where
  left : ∀ (r : Fin 4096) (q : Fin 512), o (ix2 r (lo le_rfl q)) = dValue (x (ix2 r (hi (by decide) q))) (d (ix2 r q))
  right : ∀ (r : Fin 4096) (q : Fin 512), o (ix2 r (hi le_rfl q))
    = dGate (x (ix2 r (lo (by decide) q))) (x (ix2 r (hi (by decide) q))) (d (ix2 r q))

end Cert.Gates.Bwd

namespace Cert.Gates.BwdPlain

open Idealize.ShloMosaic Idealize.ShloMosaic.TcCoe Idealize.SL.Sem
open Cert.GluBwdPlainIdeal Cert.GluBwdPlainIdeal.Gen

/-- The gate as the reference writes it. -/
abbrev gate (x : FVec Ideal S4096x1536 .f32) : FVec Ideal S4096x512 .f32 :=
  Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 512] x slices_S4096x1536_S4096x512_0_512))))

/-- The value's cotangent as the reference writes it. -/
abbrev left (x : FVec Ideal S4096x1536 .f32) (d : FVec Ideal S4096x512 .f32) : FVec Ideal S4096x512 .f32 := mulf d (gate x)

/-- The gate's cotangent. -/
abbrev right (x : FVec Ideal S4096x1536 .f32) (d : FVec Ideal S4096x512 .f32) : FVec Ideal S4096x512 .f32 :=
  mulf (mulf (extractStridedSlice S4096x512 ![0, 0] x slices_S4096x1536_S4096x512_0_0) d) (mulf (gate x) (subf (broadcastInDim S4096x512 ![] bcast_S_S4096x512 (constant S_ .f32 0x3F800000#32)) (gate x)))

/-- The two side by side. -/
abbrev both (x : FVec Ideal S4096x1536 .f32) (d : FVec Ideal S4096x512 .f32) : FVec Ideal S4096x1024 .bf16 :=
  truncf .bf16 (concatenate S4096x1024 1 [⟨S4096x512, left x d⟩, ⟨S4096x512, right x d⟩] concatenates_S4096x512_S4096x512_S4096x1024_d1) bitsLt_bf16_f32

theorem holds (x : FVec Ideal S4096x1536 .f32) (d : FVec Ideal S4096x512 .f32) : Bwd.Holds x d (both x d) where
  left r q := by
    refine (concatenate_pair_apply_left 1 (left x d) (right x d) concatenates_S4096x512_S4096x512_S4096x1024_d1 (ix2 r (lo le_rfl q)) rfl (ix2 r q) ?_).trans ?_
    · intro b; fin_cases b <;> rfl
    · pointwise [left, gate]
      rfl
  right r q := by
    refine (concatenate_pair_apply_right 1 (left x d) (right x d) concatenates_S4096x512_S4096x512_S4096x1024_d1 (ix2 r (hi le_rfl q)) rfl rfl (ix2 r q) ?_ ?_).trans ?_
    · intro b hb; fin_cases b
      · rfl
      · exact absurd rfl hb
    · exact Nat.add_comm _ _
    · pointwise [right, gate]
      rfl

end Cert.Gates.BwdPlain

namespace Cert.Gates.Bwd

open Idealize.ShloMosaic Idealize.ShloMosaic.TcCoe Idealize.SL.Sem

section Result

open Cert.GluBwdIdeal Cert.GluBwdIdeal.Gen
open Cert.Norms (row)

/-- The kernel's result is the reference's. -/
theorem result (m : (ℓ : Loc nD τ sig) → Buf (Elt Ideal) ℓ) (c : Dev nD) :
    (dats m 0 c).arrAt 3 cfg0.N = BwdPlain.both (m ((c : Thread nD τ).loc main_arg0)) (m ((c : Thread nD τ).loc main_arg1)) := by
  refine (dats m 0 c).arrAt_eq_of_covers 3 _ (by decide +kernel) fun t _ y => ?_
  blk_simp
  rw [after0_3]
  obtain ⟨p, q, rfl⟩ : ∃ (p : Fin 512) (q : Fin 1024), y = ix2 p q := ⟨y 0, y 1, eq_ix2 y⟩
  rw [block3]
  have h := BwdPlain.holds (m ((c : Thread nD τ).loc main_arg0)) (m ((c : Thread nD τ).loc main_arg1))
  refine halves (f := fun p q => out0_3 (F := Ideal) (iblk m c 0 t) (iblk m c 1 t) (iblk m c 2 t) (ix2 p q))
    (g := fun p q => BwdPlain.both (m ((c : Thread nD τ).loc main_arg0)) (m ((c : Thread nD τ).loc main_arg1)) (ix2 (row (t.cast N_0) p) q))
    (fun p q => ?_) (fun p q => ?_) p q
  · refine (out_lo _ _ _ p q).trans (Eq.trans ?_ (h.left _ q).symm)
    rw [at1, at2]
  · refine (out_hi _ _ _ p q).trans (Eq.trans ?_ (h.right _ q).symm)
    rw [at0, at1, at2]

end Result

/-- The kernel ends with its arguments and the counters as at the start. -/
theorem frame : Cert.quiescent_GluBwd := fun m ρ _ => Cert.GluBwd.Gen.frame m ρ

/-- So does the kernel over the extended reals. -/
theorem frame_ideal : Cert.quiescent_GluBwdIdeal := fun m ρ _ => Cert.GluBwdIdeal.Gen.frame m ρ

/-- The reference ends with its arguments and the counters as at the start. -/
theorem frame_plain : Cert.quiescent_GluBwdPlainIdeal := fun m ρ _ =>
  (θ_run Cert.GluBwdPlainIdeal.defs _ _).mono (fun r h => ⟨fun c => (h c).2, sem_eq_zero_of_no_sems (by decide) r.2⟩)
    (Cert.GluBwdPlainIdeal.Value.run (F := Ideal) m ρ)

/-- Kernel and reference compute the same. -/
theorem algebraic : Cert.algebraic_GluBwdIdeal_GluBwdPlainIdeal := by
  intro m g m' g' _ hagree
  refine ⟨_, Cert.GluBwdIdeal.Value.run_blocks m g, ?_⟩
  refine (θ_run Cert.GluBwdPlainIdeal.defs _ _).mono (fun r h c => ⟨(h c).1.trans ?_, (h c).2⟩) (Cert.GluBwdPlainIdeal.Value.run m' g')
  obtain ⟨e0, e1⟩ := hagree c
  rw [result m c, e0, e1]

end Cert.Gates.Bwd

end
-- ==== Proof.LnMaths.lean ====
/-
  The layer norm of a row and the SiLU after it, with the pull-back of the two.
-/
module

public import proofs.«01_k».proof.Proof.NormMaths

@[expose] public section

noncomputable section

namespace Cert.LayerNorms

open Idealize.ShloMosaic

/-- A row off its mean. -/
def centred (x : Fin 512 → EReal) (q : Fin 512) : EReal := x q - Ideal.div (∑ k, x k) (Ideal.ofBits .f32 0x44000000#32)

/-- The row's variance, and the small constant that keeps it off zero. -/
def variance (x : Fin 512 → EReal) : EReal :=
  Ideal.div (∑ k, centred x k * centred x k) (Ideal.ofBits .f32 0x44000000#32) + Ideal.ofBits .f32 0x358637BD#32

/-- The layer norm without gain and bias. -/
def unit (x : Fin 512 → EReal) (q : Fin 512) : EReal := centred x q * Ideal.rsqrt (variance x)

/-- The layer norm. -/
def normed (x g b : Fin 512 → EReal) (q : Fin 512) : EReal := unit x q * g q + b q

/-- The layer norm and the SiLU after it. -/
def act (x g b : Fin 512 → EReal) (q : Fin 512) : EReal := normed x g b q * Ideal.logistic (normed x g b q)

/-- The cotangent of the layer norm, from the cotangent `d` behind the SiLU. -/
def dNormed (x g b d : Fin 512 → EReal) (q : Fin 512) : EReal :=
  d q * Ideal.logistic (normed x g b q)
    + normed x g b q * d q * (Ideal.logistic (normed x g b q) * (1 - Ideal.logistic (normed x g b q)))

/-- The cotangent that reaches the centred row through the variance. -/
def throughVariance (x g b d : Fin 512 → EReal) : EReal :=
  ∑ _ : Fin 1, Ideal.div ((∑ k, centred x k * (dNormed x g b d k * g k)) *
    (Ideal.ofBits .f32 0xBF000000#32 * Ideal.div (Ideal.rsqrt (variance x)) (variance x))) (Ideal.ofBits .f32 0x44000000#32)

/-- The centred row's cotangent. -/
def dCentred (x g b d : Fin 512 → EReal) (q : Fin 512) : EReal :=
  dNormed x g b d q * g q * Ideal.rsqrt (variance x) + centred x q * throughVariance x g b d + throughVariance x g b d * centred x q

/-- The row's cotangent. -/
def dRow (x g b d : Fin 512 → EReal) (q : Fin 512) : EReal :=
  dCentred x g b d q + ∑ _ : Fin 1, Ideal.div (∑ k, -dCentred x g b d k) (Ideal.ofBits .f32 0x44000000#32)

/-- What a row adds to the gain's cotangent. -/
def dGain (x g b d : Fin 512 → EReal) (q : Fin 512) : EReal := unit x q * dNormed x g b d q

end Cert.LayerNorms

end
-- ==== Proof.Ln.lean ====
/-
  The layer norm of the odd mixer's convolution and the SiLU after it, forward. The kernel goes over the rows in eight
  blocks of 512.
-/
module

public import proofs.«01_k».proof.Defs
public import proofs.«01_k».proof.Proof.Gen.Ln.Frame
public import proofs.«01_k».proof.Proof.Gen.LnIdeal.Value
public import proofs.«01_k».proof.Proof.Gen.LnPlainIdeal.Run
public import proofs.«01_k».proof.Proof.LnMaths
public import Idealize.ShloMosaic.Lib.Pipeline.ValueKit

@[expose] public section

set_option maxRecDepth 16384

noncomputable section

namespace Cert.LayerNorms.Fwd

open Idealize.ShloMosaic Idealize.ShloMosaic.TcCoe Idealize.SL.Sem
open Cert.LnIdeal Cert.LnIdeal.Gen
open Cert.Norms (row)

/-- What the kernel computes from its blocks. -/
theorem pay_at (x : FVec Ideal S512x512 .f32) (g b : FVec Ideal S1x512 .f32) (p q : Fin 512) :
    k0_pay1 (F := Ideal) x g b (ix2 p q) = act (fun k => x (ix2 p k)) (fun k => g (ix2 0 k)) (fun k => b (ix2 0 k)) q := by
  pointwise [k0_pay1]
  rfl

variable (m : (ℓ : Loc nD τ sig) → Buf (Elt Ideal) ℓ) (c : Dev nD)

/-- The tiles that a grid point is given and writes. -/
theorem tiles : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem at0 (t : Fin cfg0.N) (p q : Fin 512) : iblk m c 0 t (ix2 p q) = m ((c : Thread nD τ).loc main_arg0) (ix2 (row (t.cast N_0) p) q) := by
  blk_point [iblk, V, tiles t]
  rfl

theorem at1 (t : Fin cfg0.N) (q : Fin 512) : iblk m c 1 t (ix2 0 q) = m ((c : Thread nD τ).loc main_arg1) (ix2 0 q) := by
  blk_point [iblk, V, tiles t]

theorem at2 (t : Fin cfg0.N) (q : Fin 512) : iblk m c 2 t (ix2 0 q) = m ((c : Thread nD τ).loc main_arg2) (ix2 0 q) := by
  blk_point [iblk, V, tiles t]

theorem block3 (t : Fin cfg0.N) (p q : Fin 512) : ((cfg0.win 3).blk t).view.emb (ix2 p q) = ix2 (row (t.cast N_0) p) q := by
  blk_point [tiles t]
  rfl

/-- All rows, normed and through the SiLU. -/
def rows (x : FVec Ideal S4096x512 .f32) (g b : FVec Ideal S1x512 .f32) : FVec Ideal S4096x512 .bf16 :=
  fun i => act (fun k => x (ix2 (i 0) k)) (fun k => g (ix2 0 k)) (fun k => b (ix2 0 k)) (i 1)

/-- The kernel's result. -/
theorem result : (dats m 0 c).arrAt 3 cfg0.N = rows (m ((c : Thread nD τ).loc main_arg0)) (m ((c : Thread nD τ).loc main_arg1))
    (m ((c : Thread nD τ).loc main_arg2)) := by
  refine (dats m 0 c).arrAt_eq_of_covers 3 _ (by decide +kernel) fun t _ y => ?_
  blk_simp
  rw [after0_3]; frame_out
  obtain ⟨p, q, rfl⟩ : ∃ (p : Fin 512) (q : Fin 512), y = ix2 p q := ⟨y 0, y 1, eq_ix2 y⟩
  rw [block3]
  refine (pay_at _ _ _ p q).trans ?_
  simp only [at0, at1, at2]
  rfl

/-- The reference's result. -/
theorem plain (m : (ℓ : Loc Cert.LnPlainIdeal.nD Cert.LnPlainIdeal.τ Cert.LnPlainIdeal.sig) → Buf (Elt Ideal) ℓ) (c : Dev Cert.LnPlainIdeal.nD) :
    Cert.LnPlainIdeal.Value.res_main_v25 (F := Ideal) m c
      = rows (m (c.tc.loc Cert.LnPlainIdeal.main_arg0)) (m (c.tc.loc Cert.LnPlainIdeal.main_arg1)) (m (c.tc.loc Cert.LnPlainIdeal.main_arg2)) := by
  funext i
  obtain ⟨p, q, rfl⟩ : ∃ (p : Fin 4096) (q : Fin 512), i = ix2 p q := ⟨i 0, i 1, eq_ix2 i⟩
  unfold Cert.LnPlainIdeal.Value.res_main_v25
  pointwise []
  rfl

/-- The kernel ends with its arguments and the counters as at the start. -/
theorem frame : Cert.quiescent_Ln := fun m ρ _ => Cert.Ln.Gen.frame m ρ

/-- So does the kernel over the extended reals. -/
theorem frame_ideal : Cert.quiescent_LnIdeal := fun m ρ _ => Cert.LnIdeal.Gen.frame m ρ

/-- The reference ends with its arguments and the counters as at the start. -/
theorem frame_plain : Cert.quiescent_LnPlainIdeal := fun m ρ _ =>
  (θ_run Cert.LnPlainIdeal.defs _ _).mono (fun r h => ⟨fun c => (h c).2, sem_eq_zero_of_no_sems (by decide) r.2⟩)
    (Cert.LnPlainIdeal.Value.run (F := Ideal) m ρ)

/-- Kernel and reference compute the same. -/
theorem algebraic : Cert.algebraic_LnIdeal_LnPlainIdeal := by
  intro m g m' g' _ hagree
  refine ⟨_, Cert.LnIdeal.Value.run_blocks m g, ?_⟩
  refine (θ_run Cert.LnPlainIdeal.defs _ _).mono (fun r h c => ⟨(h c).1.trans ?_, (h c).2⟩) (Cert.LnPlainIdeal.Value.run m' g')
  obtain ⟨e0, e1, e2⟩ := hagree c
  rw [plain, result m c, e0, e1, e2]

end Cert.LayerNorms.Fwd

end
-- ==== Proof.LnBwd.lean ====
/-
  The pull-back of the layer norm of the odd mixer's convolution and of the SiLU after it. The kernel goes over the rows
  in eight blocks of 512, and adds the gradients of the gain and of the bias up in two outputs that every block meets.
-/
module

public import proofs.«01_k».proof.Defs
public import proofs.«01_k».proof.Proof.Gen.LnBwd.Frame
public import proofs.«01_k».proof.Proof.Gen.LnBwdIdeal.Value
public import proofs.«01_k».proof.Proof.Gen.LnBwdPlainIdeal.Run
public import proofs.«01_k».proof.Proof.LnMaths
public import Idealize.ShloMosaic.Lib.Pipeline.ValueKit
public import Idealize.ShloMosaic.Lib.Pipeline.ReadBack

@[expose] public section

set_option maxRecDepth 16384

noncomputable section

namespace Cert.LayerNorms.Bwd

open Idealize.ShloMosaic Idealize.ShloMosaic.TcCoe Idealize.SL.Sem
open Cert.LnBwdIdeal Cert.LnBwdIdeal.Gen
open Cert.Norms (row sum_rows)

/-! ## What the kernel computes from its blocks -/

/-- The cotangent of the layer norm. -/
theorem pay7_at (x : FVec Ideal S512x512 .f32) (g b : FVec Ideal S1x512 .f32) (d : FVec Ideal S512x512 .bf16) (p q : Fin 512) :
    k0_pay7 (F := Ideal) x g b d (ix2 p q)
      = dNormed (fun k => x (ix2 p k)) (fun k => g (ix2 0 k)) (fun k => b (ix2 0 k)) (fun k => d (ix2 p k)) q := by
  pointwise [k0_pay7, k0_pay6, k0_pay4, k0_pay3, k0_pay2]
  rfl

/-- The rows' cotangent. -/
abbrev rowsOf (x : FVec Ideal S512x512 .f32) (g b : FVec Ideal S1x512 .f32) (d : FVec Ideal S512x512 .bf16) : FVec Ideal S512x512 .f32 :=
  k0_pay11 (k0_pay2 x) (k0_pay4 x) (k0_pay5 x) (k0_pay7 x g b d) (k0_pay10 g)

theorem rowsOf_at (x : FVec Ideal S512x512 .f32) (g b : FVec Ideal S1x512 .f32) (d : FVec Ideal S512x512 .bf16) (p q : Fin 512) :
    rowsOf x g b d (ix2 p q)
      = dRow (fun k => x (ix2 p k)) (fun k => g (ix2 0 k)) (fun k => b (ix2 0 k)) (fun k => d (ix2 p k)) q := by
  pointwise [rowsOf, k0_pay11, k0_pay10, k0_pay5, k0_pay4, k0_pay3, k0_pay2]
  simp only [pay7_at, zero_sub]
  rfl

/-- What a block adds to the gain's cotangent. -/
theorem pay9_at (x : FVec Ideal S512x512 .f32) (g b : FVec Ideal S1x512 .f32) (d : FVec Ideal S512x512 .bf16) (z : Fin 1) (q : Fin 512) :
    k0_pay9 (F := Ideal) x g b d (ix2 z q)
      = ∑ p : Fin 512, dGain (fun k => x (ix2 p k)) (fun k => g (ix2 0 k)) (fun k => b (ix2 0 k)) (fun k => d (ix2 p k)) q := by
  pointwise [k0_pay9, k0_pay6, k0_pay4, k0_pay3, k0_pay2]
  simp only [pay7_at]
  rfl

/-- What a block adds to the bias's cotangent. -/
theorem pay8_at (x : FVec Ideal S512x512 .f32) (g b : FVec Ideal S1x512 .f32) (d : FVec Ideal S512x512 .bf16) (z : Fin 1) (q : Fin 512) :
    k0_pay8 (F := Ideal) x g b d (ix2 z q)
      = ∑ p : Fin 512, dNormed (fun k => x (ix2 p k)) (fun k => g (ix2 0 k)) (fun k => b (ix2 0 k)) (fun k => d (ix2 p k)) q := by
  pointwise [k0_pay8]
  simp only [pay7_at]

/-! ## What a grid point leaves -/

variable (m : (ℓ : Loc nD τ sig) → Buf (Elt Ideal) ℓ) (c : Dev nD)

/-- The rows that a grid point leaves, at the first point and later. -/
theorem rows4 (t : Fin cfg0.N) : (outsAt0 m c t.val t.isLt).1 = rowsOf (iblk m c 0 t) (iblk m c 1 t) (iblk m c 2 t) (iblk m c 3 t) := by
  have hN : t.val < 8 := lt_of_lt_of_eq t.isLt (show cfg0.N = 8 from N_0)
  by_cases h : t.val = 0
  · rw [outsAt0_A m c t (by omega) (by omega) (by omega) (by omega)]
    dsimp only
    frame_out
  · rw [outsAt0_B m c t (by omega) (by omega) (by omega) (by omega)]
    dsimp only
    frame_out

/-- The first block starts the gain's cotangent and the bias's. -/
theorem start (t : Fin cfg0.N) (h : t.val = 0) :
    (outsAt0 m c t.val t.isLt).2.1 = k0_pay9 (F := Ideal) (iblk m c 0 t) (iblk m c 1 t) (iblk m c 2 t) (iblk m c 3 t)
      ∧ (outsAt0 m c t.val t.isLt).2.2 = k0_pay8 (F := Ideal) (iblk m c 0 t) (iblk m c 1 t) (iblk m c 2 t) (iblk m c 3 t) := by
  rw [outsAt0_A m c t (by omega) (by omega) (by omega) (by omega)]
  dsimp only
  constructor
  · frame_out
  · frame_out

/-- Every other block adds to them. -/
theorem step (t : Fin cfg0.N) (h : t.val ≠ 0) :
    (outsAt0 m c t.val t.isLt).2.1 = addf (outsAt0 m c (t.val - 1) (Nat.lt_of_le_of_lt (Nat.sub_le _ _) t.isLt)).2.1
        (k0_pay9 (F := Ideal) (iblk m c 0 t) (iblk m c 1 t) (iblk m c 2 t) (iblk m c 3 t))
      ∧ (outsAt0 m c t.val t.isLt).2.2 = addf (outsAt0 m c (t.val - 1) (Nat.lt_of_le_of_lt (Nat.sub_le _ _) t.isLt)).2.2
        (k0_pay8 (F := Ideal) (iblk m c 0 t) (iblk m c 1 t) (iblk m c 2 t) (iblk m c 3 t)) := by
  have hN : t.val < 8 := lt_of_lt_of_eq t.isLt (show cfg0.N = 8 from N_0)
  rw [outsAt0_B m c t (by omega) (by omega) (by omega) (by omega)]
  dsimp only
  constructor
  · frame_out
    simp only [k0_pay12, shapeCast_self]
  · frame_out
    simp only [k0_pay1, shapeCast_self]

/-- The tiles that a grid point is given and writes. -/
theorem tiles : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- Column `q` of the first half of 1024 columns. -/
def lo (q : Fin 512) : Fin 1024 := ⟨q, by omega⟩

theorem at0 (t : Fin cfg0.N) (p q : Fin 512) : iblk m c 0 t (ix2 p q) = m ((c : Thread nD τ).loc main_arg0) (ix2 (row (t.cast N_0) p) q) := by
  blk_point [iblk, V, tiles t]
  rfl

theorem at1 (t : Fin cfg0.N) (q : Fin 512) : iblk m c 1 t (ix2 0 q) = m ((c : Thread nD τ).loc main_arg1) (ix2 0 q) := by
  blk_point [iblk, V, tiles t]

theorem at2 (t : Fin cfg0.N) (q : Fin 512) : iblk m c 2 t (ix2 0 q) = m ((c : Thread nD τ).loc main_arg2) (ix2 0 q) := by
  blk_point [iblk, V, tiles t]

theorem at3 (t : Fin cfg0.N) (p q : Fin 512) :
    iblk m c 3 t (ix2 p q) = m ((c : Thread nD τ).loc main_arg3) (ix2 (row (t.cast N_0) p) (lo q)) := by
  blk_point [iblk, V, tiles t]
  all_goals rfl

theorem block4 (t : Fin cfg0.N) (p q : Fin 512) : ((cfg0.win 4).blk t).view.emb (ix2 p q) = ix2 (row (t.cast N_0) p) q := by
  blk_point [tiles t]
  rfl

theorem block5 (t : Fin cfg0.N) (p : Fin 1) (q : Fin 512) : ((cfg0.win 5).blk t).view.emb (ix2 p q) = ix2 p q := by
  blk_point [tiles t]

theorem block6 (t : Fin cfg0.N) (p : Fin 1) (q : Fin 512) : ((cfg0.win 6).blk t).view.emb (ix2 p q) = ix2 p q := by
  blk_point [tiles t]

/-! ## The kernel's results -/

/-- A value of every row, of the arguments' rows `r`. -/
abbrev atRow {α : Type*} (f : (Fin 512 → EReal) → (Fin 512 → EReal) → (Fin 512 → EReal) → (Fin 512 → EReal) → α) (x : FVec Ideal S4096x512 .f32)
    (g b : FVec Ideal S1x512 .f32) (d : FVec Ideal S4096x1024 .bf16) (r : Fin 4096) : α :=
  f (fun k => x (ix2 r k)) (fun k => g (ix2 0 k)) (fun k => b (ix2 0 k)) (fun k => d (ix2 r (lo k)))

/-- The rows' cotangent. -/
def rows (x : FVec Ideal S4096x512 .f32) (g b : FVec Ideal S1x512 .f32) (d : FVec Ideal S4096x1024 .bf16) : FVec Ideal S4096x512 .f32 :=
  fun i => atRow dRow x g b d (i 0) (i 1)

/-- The gain's cotangent. -/
def gains (x : FVec Ideal S4096x512 .f32) (g b : FVec Ideal S1x512 .f32) (d : FVec Ideal S4096x1024 .bf16) : FVec Ideal S1x512 .f32 :=
  fun i => ∑ r : Fin 4096, atRow dGain x g b d r (i 1)

/-- The bias's cotangent. -/
def biases (x : FVec Ideal S4096x512 .f32) (g b : FVec Ideal S1x512 .f32) (d : FVec Ideal S4096x1024 .bf16) : FVec Ideal S1x512 .f32 :=
  fun i => ∑ r : Fin 4096, atRow dNormed x g b d r (i 1)

/-- The kernel's rows. -/
theorem result4 : (dats m 0 c).arrAt 4 cfg0.N = rows (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4, rows4]
  obtain ⟨p, q, rfl⟩ : ∃ (p : Fin 512) (q : Fin 512), y = ix2 p q := ⟨y 0, y 1, eq_ix2 y⟩
  rw [block4]
  refine (rowsOf_at _ _ _ _ p q).trans ?_
  simp only [at0, at1, at2, at3]
  rfl

/-- What block `t` adds to a sum over the rows. -/
def added (f : Fin 4096 → EReal) (t : ℕ) : EReal := if h : t < 8 then ∑ p : Fin 512, f (row ⟨t, h⟩ p) else 0

/-- What starts as the first block's share and grows by each further block's is at last the sum over the rows. -/
theorem sum_of_steps (f : Fin 4096 → EReal) (o : (n : ℕ) → n < 8 → EReal) (h0 : o 0 (by decide) = added f 0)
    (hs : ∀ (n : ℕ) (h : n + 1 < 8), o (n + 1) h = o n (Nat.lt_of_succ_lt h) + added f (n + 1)) (n : ℕ) (h : n < 8) (h7 : n = 7) :
    o n h = ∑ r, f r := by
  have all : ∀ (n : ℕ) (h : n < 8), o n h = ∑ s ∈ Finset.range (n + 1), added f s := by
    intro n
    induction n with
    | zero => intro h; rw [h0]; simp
    | succ n ih => intro h; rw [hs, ih, Finset.sum_range_succ _ (n + 1)]
  subst h7
  rw [all, Finset.sum_range, sum_rows]
  exact Finset.sum_congr rfl fun s _ => dif_pos s.isLt

theorem gain_added (t : Fin cfg0.N) (z : Fin 1) (q : Fin 512) : k0_pay9 (F := Ideal) (iblk m c 0 t) (iblk m c 1 t) (iblk m c 2 t) (iblk m c 3 t) (ix2 z q)
    = added (fun r => atRow dGain (m ((c : Thread nD τ).loc main_arg0)) (m ((c : Thread nD τ).loc main_arg1)) (m ((c : Thread nD τ).loc main_arg2))
      (m ((c : Thread nD τ).loc main_arg3)) r q) t.val := by
  have hN : t.val < 8 := lt_of_lt_of_eq t.isLt (show cfg0.N = 8 from N_0)
  refine (pay9_at _ _ _ _ z q).trans ?_
  simp only [at0, at1, at2, at3, added, dif_pos hN]
  rfl

theorem bias_added (t : Fin cfg0.N) (z : Fin 1) (q : Fin 512) : k0_pay8 (F := Ideal) (iblk m c 0 t) (iblk m c 1 t) (iblk m c 2 t) (iblk m c 3 t) (ix2 z q)
    = added (fun r => atRow dNormed (m ((c : Thread nD τ).loc main_arg0)) (m ((c : Thread nD τ).loc main_arg1)) (m ((c : Thread nD τ).loc main_arg2))
      (m ((c : Thread nD τ).loc main_arg3)) r q) t.val := by
  have hN : t.val < 8 := lt_of_lt_of_eq t.isLt (show cfg0.N = 8 from N_0)
  refine (pay8_at _ _ _ _ z q).trans ?_
  simp only [at0, at1, at2, at3, added, dif_pos hN]
  rfl

/-- The kernel's gain. -/
theorem result5 : (dats m 0 c).arrAt 5 cfg0.N = gains (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have hN : t.val < 8 := lt_of_lt_of_eq t.isLt (show cfg0.N = 8 from N_0)
  have h7 : t.val = 7 := by have := (flush0_5 t).mp hf; omega
  blk_simp
  rw [after0_5]
  obtain ⟨z, q, rfl⟩ : ∃ (z : Fin 1) (q : Fin 512), y = ix2 z q := ⟨y 0, y 1, eq_ix2 y⟩
  rw [block5]
  refine sum_of_steps _ (fun n h => (outsAt0 m c n (lt_of_lt_of_eq h N_0.symm)).2.1 (ix2 z q)) ?_ (fun n h => ?_) t.val hN h7
  · exact (congrFun (start m c ⟨0, by decide⟩ rfl).1 _).trans (gain_added m c _ z q)
  · exact (congrFun (step m c ⟨n + 1, lt_of_lt_of_eq h N_0.symm⟩ (Nat.succ_ne_zero n)).1 _).trans (congrArg _ (gain_added m c _ z q))

/-- The kernel's bias. -/
theorem result6 : (dats m 0 c).arrAt 6 cfg0.N = biases (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  have hN : t.val < 8 := lt_of_lt_of_eq t.isLt (show cfg0.N = 8 from N_0)
  have h7 : t.val = 7 := by have := (flush0_6 t).mp hf; omega
  blk_simp
  rw [after0_6]
  obtain ⟨z, q, rfl⟩ : ∃ (z : Fin 1) (q : Fin 512), y = ix2 z q := ⟨y 0, y 1, eq_ix2 y⟩
  rw [block6]
  refine sum_of_steps _ (fun n h => (outsAt0 m c n (lt_of_lt_of_eq h N_0.symm)).2.2 (ix2 z q)) ?_ (fun n h => ?_) t.val hN h7
  · exact (congrFun (start m c ⟨0, by decide⟩ rfl).2 _).trans (bias_added m c _ z q)
  · exact (congrFun (step m c ⟨n + 1, lt_of_lt_of_eq h N_0.symm⟩ (Nat.succ_ne_zero n)).2 _).trans (congrArg _ (bias_added m c _ z q))

/-! ## What the reference computes -/

section Plain

variable (m : (ℓ : Loc Cert.LnBwdPlainIdeal.nD Cert.LnBwdPlainIdeal.τ Cert.LnBwdPlainIdeal.sig) → Buf (Elt Ideal) ℓ) (c : Dev Cert.LnBwdPlainIdeal.nD)

/-- The reference's bias. -/
theorem plain6 : Cert.LnBwdPlainIdeal.Value.res_main_v63 (F := Ideal) m c
    = biases (m (c.tc.loc Cert.LnBwdPlainIdeal.main_arg0)) (m (c.tc.loc Cert.LnBwdPlainIdeal.main_arg1)) (m (c.tc.loc Cert.LnBwdPlainIdeal.main_arg2)) (m (c.tc.loc Cert.LnBwdPlainIdeal.main_arg3)) := by
  funext i
  obtain ⟨p, q, rfl⟩ : ∃ (p : Fin 1) (q : Fin 512), i = ix2 p q := ⟨i 0, i 1, eq_ix2 i⟩
  unfold Cert.LnBwdPlainIdeal.Value.res_main_v63
  pointwise []
  exact (Fintype.sum_unique _ : (∑ _ : Fin 1, (_ : EReal)) = _)

/-- The reference's gain. -/
theorem plain5 : Cert.LnBwdPlainIdeal.Value.res_main_v62 (F := Ideal) m c
    = gains (m (c.tc.loc Cert.LnBwdPlainIdeal.main_arg0)) (m (c.tc.loc Cert.LnBwdPlainIdeal.main_arg1)) (m (c.tc.loc Cert.LnBwdPlainIdeal.main_arg2)) (m (c.tc.loc Cert.LnBwdPlainIdeal.main_arg3)) := by
  funext i
  obtain ⟨p, q, rfl⟩ : ∃ (p : Fin 1) (q : Fin 512), i = ix2 p q := ⟨i 0, i 1, eq_ix2 i⟩
  unfold Cert.LnBwdPlainIdeal.Value.res_main_v62
  pointwise []
  exact (Fintype.sum_unique _ : (∑ _ : Fin 1, (_ : EReal)) = _)

set_option maxHeartbeats 4000000 in
/-- The reference's rows. -/
theorem plain4 : Cert.LnBwdPlainIdeal.Value.res_main_v61 (F := Ideal) m c
    = rows (m (c.tc.loc Cert.LnBwdPlainIdeal.main_arg0)) (m (c.tc.loc Cert.LnBwdPlainIdeal.main_arg1)) (m (c.tc.loc Cert.LnBwdPlainIdeal.main_arg2)) (m (c.tc.loc Cert.LnBwdPlainIdeal.main_arg3)) := by
  funext i
  obtain ⟨p, q, rfl⟩ : ∃ (p : Fin 4096) (q : Fin 512), i = ix2 p q := ⟨i 0, i 1, eq_ix2 i⟩
  unfold Cert.LnBwdPlainIdeal.Value.res_main_v61
  pointwise []
  rfl

end Plain

/-! ## The claims -/

/-- The kernel ends with its arguments and the counters as at the start. -/
theorem frame : Cert.quiescent_LnBwd := fun m ρ _ => Cert.LnBwd.Gen.frame m ρ

/-- So does the kernel over the extended reals. -/
theorem frame_ideal : Cert.quiescent_LnBwdIdeal := fun m ρ _ => Cert.LnBwdIdeal.Gen.frame m ρ

/-- The reference ends with its arguments and the counters as at the start. -/
theorem frame_plain : Cert.quiescent_LnBwdPlainIdeal := fun m ρ _ =>
  (θ_run Cert.LnBwdPlainIdeal.defs _ _).mono (fun r h => ⟨fun c => (h c).2.2.2, sem_eq_zero_of_no_sems (by decide) r.2⟩)
    (Cert.LnBwdPlainIdeal.Value.run (F := Ideal) m ρ)

/-- Kernel and reference compute the same. -/
theorem algebraic : Cert.algebraic_LnBwdIdeal_LnBwdPlainIdeal := by
  intro m g m' g' _ hagree
  refine ⟨_, _, _, Cert.LnBwdIdeal.Value.run_blocks m g, ?_⟩
  refine (θ_run Cert.LnBwdPlainIdeal.defs _ _).mono (fun r h c => ?_) (Cert.LnBwdPlainIdeal.Value.run m' g')
  obtain ⟨h0, h1, h2, keep⟩ := h c
  obtain ⟨e0, e1, e2, e3⟩ := hagree c
  refine ⟨h0.trans ?_, h1.trans ?_, h2.trans ?_, keep⟩
  · rw [plain4, result4 m c, e0, e1, e2, e3]
  · rw [plain5, result5 m c, e0, e1, e2, e3]
  · rw [plain6, result6 m c, e0, e1, e2, e3]

end Cert.LayerNorms.Bwd

end
-- ==== Proof.S5.lean ====
/-
  The products about the odd layer's scan: its inputs, with the gradients of their rows and of their matrix, and its outputs,
  which add a product to another. The kernel multiplies tile by tile over the whole inner axis.
-/
module

public import proofs.«01_k».proof.Defs
public import proofs.«01_k».proof.Proof.Gen.S5In.Frame
public import proofs.«01_k».proof.Proof.Gen.S5InIdeal.Value
public import proofs.«01_k».proof.Proof.Gen.S5InPlainIdeal.Run
public import proofs.«01_k».proof.Proof.Gen.S5InDx.Frame
public import proofs.«01_k».proof.Proof.Gen.S5InDxIdeal.Value
public import proofs.«01_k».proof.Proof.Gen.S5InDxPlainIdeal.Run
public import proofs.«01_k».proof.Proof.Gen.S5InDw.Frame
public import proofs.«01_k».proof.Proof.Gen.S5InDwIdeal.Value
public import proofs.«01_k».proof.Proof.Gen.S5InDwPlainIdeal.Run
public import proofs.«01_k».proof.Proof.Gen.S5Out.Frame
public import proofs.«01_k».proof.Proof.Gen.S5OutIdeal.Value
public import proofs.«01_k».proof.Proof.Gen.S5OutPlainIdeal.Run
public import Idealize.ShloMosaic.Lib.Pipeline.ValueKit

@[expose] public section

set_option maxRecDepth 16384

noncomputable section

namespace Cert.Products

open Idealize.ShloMosaic Idealize.ShloMosaic.TcCoe Idealize.SL.Sem

/-! ## The inputs -/

namespace S5In

open Cert.S5InIdeal Cert.S5InIdeal.Gen

/-- The reference's result, of its arguments. -/
abbrev plain (a0 : FVec Ideal S4096x512 .f32) (a1 : FVec Ideal S512x2048 .bf16) : FVec Ideal S4096x2048 .f32 :=
  Host.dotGeneral (φ₁ := .f32) (φ₂ := .f32) Cert.S5InPlainIdeal.dot_S4096x512_S512x2048_S4096x2048_1_0_0_1_n_n none a0 (extf .f32 a1 Cert.S5InPlainIdeal.Gen.bitsLt_bf16_f32)

/-- The tiles that a grid point is given and writes. -/
theorem tiles : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_S5In := fun m ρ _ => Cert.S5In.Gen.frame m ρ

/-- So does the kernel over the extended reals. -/
theorem frame_ideal : Cert.quiescent_S5InIdeal := fun m ρ _ => Cert.S5InIdeal.Gen.frame m ρ

/-- The reference ends with its arguments and the counters as at the start. -/
theorem frame_plain : Cert.quiescent_S5InPlainIdeal := fun m ρ _ =>
  (θ_run Cert.S5InPlainIdeal.defs _ _).mono (fun r h => ⟨fun c => (h c).2, sem_eq_zero_of_no_sems (by decide) r.2⟩)
    (Cert.S5InPlainIdeal.Value.run (F := Ideal) m ρ)

/-- Kernel and reference compute the same. -/
theorem algebraic : Cert.algebraic_S5InIdeal_S5InPlainIdeal := by
  intro m g m' g' _ hagree
  refine ⟨_, Cert.S5InIdeal.Value.run_blocks m g, ?_⟩
  refine (θ_run Cert.S5InPlainIdeal.defs _ _).mono (fun r h c => ⟨(h c).1.trans ?_, (h c).2⟩) (Cert.S5InPlainIdeal.Value.run m' g')
  obtain ⟨e0, e1⟩ := hagree c
  rw [result m c, e0, e1]

end S5In

/-! ## The gradient of the rows -/

namespace S5InDx

open Cert.S5InDxIdeal Cert.S5InDxIdeal.Gen

/-- The reference's result, of its arguments. -/
abbrev plain (a1 : FVec Ideal S512x2048 .bf16) (a2 : FVec Ideal S4096x2048 .f32) : FVec Ideal S4096x512 .f32 :=
  Host.dotGeneral (φ₁ := .f32) (φ₂ := .f32) Cert.S5InDxPlainIdeal.dot_S4096x2048_S512x2048_S4096x512_1_1_0_0_n_n none a2 (extf .f32 a1 Cert.S5InDxPlainIdeal.Gen.bitsLt_bf16_f32)

/-- The tiles that a grid point is given and writes. -/
theorem tiles : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg1)) (m ((c : Thread nD τ).loc main_arg2)) := by
  refine (dats m 0 c).arrAt_eq_of_covers 2 _ (by decide +kernel) fun t _ y => ?_
  blk_simp
  rw [after0_2]; frame_out
  pointwise [k0_pay1, plain]
  blk_point [iblk, V, tiles t]

/-- The kernel ends with its arguments and the counters as at the start. -/
theorem frame : Cert.quiescent_S5InDx := fun m ρ _ => Cert.S5InDx.Gen.frame m ρ

/-- So does the kernel over the extended reals. -/
theorem frame_ideal : Cert.quiescent_S5InDxIdeal := fun m ρ _ => Cert.S5InDxIdeal.Gen.frame m ρ

/-- The reference ends with its arguments and the counters as at the start. -/
theorem frame_plain : Cert.quiescent_S5InDxPlainIdeal := fun m ρ _ =>
  (θ_run Cert.S5InDxPlainIdeal.defs _ _).mono (fun r h => ⟨fun c => (h c).2, sem_eq_zero_of_no_sems (by decide) r.2⟩)
    (Cert.S5InDxPlainIdeal.Value.run (F := Ideal) m ρ)

/-- Kernel and reference compute the same. -/
theorem algebraic : Cert.algebraic_S5InDxIdeal_S5InDxPlainIdeal := by
  intro m g m' g' _ hagree
  refine ⟨_, Cert.S5InDxIdeal.Value.run_blocks m g, ?_⟩
  refine (θ_run Cert.S5InDxPlainIdeal.defs _ _).mono (fun r h c => ⟨(h c).1.trans ?_, (h c).2⟩) (Cert.S5InDxPlainIdeal.Value.run m' g')
  obtain ⟨e0, e1, e2⟩ := hagree c
  rw [result m c, e1, e2]

end S5InDx

/-! ## The gradient of the matrix -/

namespace S5InDw

open Cert.S5InDwIdeal Cert.S5InDwIdeal.Gen

/-- The reference's result, of its arguments. -/
abbrev plain (a0 : FVec Ideal S4096x512 .f32) (a2 : FVec Ideal S4096x2048 .f32) : FVec Ideal S512x2048 .f32 :=
  transpose S512x2048 [1, 0] (Host.dotGeneral (φ₁ := .f32) (φ₂ := .f32) Cert.S5InDwPlainIdeal.dot_S4096x2048_S4096x512_S2048x512_0_0_1_1_n_n none a2 a0) Cert.S5InDwPlainIdeal.Gen.transposes_S2048x512_S512x2048_1_0

/-- The tiles that a grid point is given and writes. -/
theorem tiles : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 2 cfg0.N = plain (m ((c : Thread nD τ).loc main_arg0)) (m ((c : Thread nD τ).loc main_arg2)) := by
  refine (dats m 0 c).arrAt_eq_of_covers 2 _ (by decide +kernel) fun t _ y => ?_
  blk_simp
  rw [after0_2]; frame_out
  pointwise [k0_pay1, plain]
  refine (Finset.sum_congr rfl fun x _ => mul_comm (_ : EReal) _).trans ?_
  blk_point [iblk, V, tiles t]

/-- The kernel ends with its arguments and the counters as at the start. -/
theorem frame : Cert.quiescent_S5InDw := fun m ρ _ => Cert.S5InDw.Gen.frame m ρ

/-- So does the kernel over the extended reals. -/
theorem frame_ideal : Cert.quiescent_S5InDwIdeal := fun m ρ _ => Cert.S5InDwIdeal.Gen.frame m ρ

/-- The reference ends with its arguments and the counters as at the start. -/
theorem frame_plain : Cert.quiescent_S5InDwPlainIdeal := fun m ρ _ =>
  (θ_run Cert.S5InDwPlainIdeal.defs _ _).mono (fun r h => ⟨fun c => (h c).2, sem_eq_zero_of_no_sems (by decide) r.2⟩)
    (Cert.S5InDwPlainIdeal.Value.run (F := Ideal) m ρ)

/-- Kernel and reference compute the same. -/
theorem algebraic : Cert.algebraic_S5InDwIdeal_S5InDwPlainIdeal := by
  intro m g m' g' _ hagree
  refine ⟨_, Cert.S5InDwIdeal.Value.run_blocks m g, ?_⟩
  refine (θ_run Cert.S5InDwPlainIdeal.defs _ _).mono (fun r h c => ⟨(h c).1.trans ?_, (h c).2⟩) (Cert.S5InDwPlainIdeal.Value.run m' g')
  obtain ⟨e0, e1, e2⟩ := hagree c
  rw [result m c, e0, e2]

end S5InDw

/-! ## The outputs -/

namespace S5Out

open Cert.S5OutIdeal Cert.S5OutIdeal.Gen

/-- The reference's result, of its arguments. -/
abbrev plain (a0 : FVec Ideal S4096x2048 .f32) (a1 : FVec Ideal S512x2048 .bf16) (a2 : FVec Ideal S4096x512 .f32) : FVec Ideal S4096x512 .f32 :=
  addf a2 (Host.dotGeneral (φ₁ := .f32) (φ₂ := .f32) Cert.S5OutPlainIdeal.dot_S4096x2048_S2048x512_S4096x512_1_0_0_1_n_n none a0 (transpose Cert.S5OutPlainIdeal.S2048x512 [1, 0] (extf .f32 a1 Cert.S5OutPlainIdeal.Gen.bitsLt_bf16_f32) Cert.S5OutPlainIdeal.Gen.transposes_S512x2048_S2048x512_1_0))

/-- The tiles that a grid point is given and writes. -/
theorem tiles : ∀ t : Fin cfg0.N, win0_0.index t = ![(grid0.coords t 0).val, 0] ∧ win0_1.index t = ![(grid0.coords t 1).val, 0]
    ∧ win0_2.index t = ![(grid0.coords t 0).val, (grid0.coords t 1).val] ∧ win0_3.index t = ![(grid0.coords t 0).val, (grid0.coords t 1).val] :=
  (by decide +kernel : ∀ t : Fin grid0.N, _)

/-- The kernel's result is the reference's. -/
theorem result (m : (ℓ : Loc nD τ sig) → Buf (Elt Ideal) ℓ) (c : Dev nD) :
    (dats m 0 c).arrAt 3 cfg0.N = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, plain]
  blk_point [iblk, V, tiles t]

/-- The kernel ends with its arguments and the counters as at the start. -/
theorem frame : Cert.quiescent_S5Out := fun m ρ _ => Cert.S5Out.Gen.frame m ρ

/-- So does the kernel over the extended reals. -/
theorem frame_ideal : Cert.quiescent_S5OutIdeal := fun m ρ _ => Cert.S5OutIdeal.Gen.frame m ρ

/-- The reference ends with its arguments and the counters as at the start. -/
theorem frame_plain : Cert.quiescent_S5OutPlainIdeal := fun m ρ _ =>
  (θ_run Cert.S5OutPlainIdeal.defs _ _).mono (fun r h => ⟨fun c => (h c).2, sem_eq_zero_of_no_sems (by decide) r.2⟩)
    (Cert.S5OutPlainIdeal.Value.run (F := Ideal) m ρ)

/-- Kernel and reference compute the same. -/
theorem algebraic : Cert.algebraic_S5OutIdeal_S5OutPlainIdeal := by
  intro m g m' g' _ hagree
  refine ⟨_, Cert.S5OutIdeal.Value.run_blocks m g, ?_⟩
  refine (θ_run Cert.S5OutPlainIdeal.defs _ _).mono (fun r h c => ⟨(h c).1.trans ?_, (h c).2⟩) (Cert.S5OutPlainIdeal.Value.run m' g')
  obtain ⟨e0, e1, e2⟩ := hagree c
  rw [result m c, e0, e1, e2]

end S5Out

end Cert.Products

end
-- ==== Proof.S5Post.lean ====
/-
  The gate behind the odd layer's scan, forward: the GELU of the scan's outputs and of the skipped inputs, times the logistic
  function of its product with a matrix. The kernel goes over the rows in eight blocks of 512.
-/
module

public import proofs.«01_k».proof.Defs
public import proofs.«01_k».proof.Proof.Gen.S5Post.Frame
public import proofs.«01_k».proof.Proof.Gen.S5PostIdeal.Value
public import proofs.«01_k».proof.Proof.Gen.S5PostPlainIdeal.Run
public import proofs.«01_k».proof.Proof.NormMaths
public import Idealize.ShloMosaic.Lib.Pipeline.ValueKit

@[expose] public section

set_option maxRecDepth 16384

noncomputable section

namespace Cert.Gates.Post

open Idealize.ShloMosaic Idealize.ShloMosaic.TcCoe Idealize.SL.Sem
open Cert.S5PostIdeal Cert.S5PostIdeal.Gen
open Cert.Norms (row)

/-- The GELU, by the hyperbolic tangent. -/
def gelu (v : EReal) : EReal :=
  v * (Ideal.ofBits .f32 0x3F000000#32
    * (1 + Ideal.tanh (Ideal.ofBits .f32 0x3F4C422A#32 * (v + Ideal.ofBits .f32 0x3D372713#32 * (v * v * v)))))

/-- The GELU of a row of the scan's outputs and of the inputs that skip it. -/
def act (y u d : Fin 512 → EReal) (q : Fin 512) : EReal := gelu (y q + d q * u q)

/-- The row times the logistic function of its product with the matrix. -/
def gate (y u d : Fin 512 → EReal) (w : FVec Ideal S512x512 .f32) (q : Fin 512) : EReal :=
  act y u d q * Ideal.logistic (∑ k, act y u d k * w (ix2 k q))

/-- Column `q` of the last third of the projection's columns. -/
def skipped (q : Fin 512) : Fin 1536 := ⟨1024 + q, by omega⟩

/-- What the kernel computes from its blocks. -/
theorem pay_at (y u : FVec Ideal S512x512 .f32) (d : FVec Ideal S1x512 .f32) (w : FVec Ideal S512x512 .f32) (p q : Fin 512) :
    k0_pay1 (F := Ideal) y u d w (ix2 p q)
      = gate (fun k => y (ix2 p k)) (fun k => u (ix2 p k)) (fun k => d (ix2 0 k)) w q := by
  pointwise [k0_pay1, gate, act, gelu, mul_comm _ (_ * _ : EReal)]

variable (m : (ℓ : Loc nD τ sig) → Buf (Elt Ideal) ℓ) (c : Dev nD)

/-- The tiles that a grid point is given and writes. -/
theorem tiles : ∀ t : Fin cfg0.N, win0_0.index t = ![t.val, 0] ∧ win0_1.index t = ![t.val, 2] ∧ win0_2.index t = ![0, 0]
    ∧ win0_3.index t = ![0, 0] ∧ win0_4.index t = ![t.val, 0] :=
  (by decide +kernel : ∀ t : Fin grid0.N, _)

theorem at0 (t : Fin cfg0.N) (p q : Fin 512) : iblk m c 0 t (ix2 p q) = m ((c : Thread nD τ).loc main_arg0) (ix2 (row (t.cast N_0) p) q) := by
  blk_point [iblk, V, tiles t]
  all_goals rfl

theorem at1 (t : Fin cfg0.N) (p q : Fin 512) :
    iblk m c 1 t (ix2 p q) = m ((c : Thread nD τ).loc main_arg1) (ix2 (row (t.cast N_0) p) (skipped q)) := by
  blk_point [iblk, V, tiles t]
  all_goals rfl

theorem at2 (t : Fin cfg0.N) (q : Fin 512) : iblk m c 2 t (ix2 0 q) = m ((c : Thread nD τ).loc main_arg2) (ix2 0 q) := by
  blk_point [iblk, V, tiles t]

theorem at3 (t : Fin cfg0.N) : iblk m c 3 t = m ((c : Thread nD τ).loc main_arg3) := by
  funext i
  obtain ⟨p, q, rfl⟩ : ∃ (p : Fin 512) (q : Fin 512), i = ix2 p q := ⟨i 0, i 1, eq_ix2 i⟩
  blk_point [iblk, V, tiles t]

theorem block4 (t : Fin cfg0.N) (p q : Fin 512) : ((cfg0.win 4).blk t).view.emb (ix2 p q) = ix2 (row (t.cast N_0) p) q := by
  blk_point [tiles t]
  rfl

/-- All rows through the gate. -/
def rows (y : FVec Ideal S4096x512 .f32) (u : FVec Ideal S4096x1536 .f32) (d : FVec Ideal S1x512 .f32) (w : FVec Ideal S512x512 .f32) :
    FVec Ideal S4096x512 .bf16 :=
  fun i => gate (fun k => y (ix2 (i 0) k)) (fun k => u (ix2 (i 0) (skipped k))) (fun k => d (ix2 0 k)) w (i 1)

/-- The kernel's result. -/
theorem result : (dats m 0 c).arrAt 4 cfg0.N = rows (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]; frame_out
  obtain ⟨p, q, rfl⟩ : ∃ (p : Fin 512) (q : Fin 512), y = ix2 p q := ⟨y 0, y 1, eq_ix2 y⟩
  rw [block4]
  refine (pay_at _ _ _ _ p q).trans ?_
  simp only [at0, at1, at2, at3]
  rfl

/-- The reference's result. -/
theorem plain (m : (ℓ : Loc Cert.S5PostPlainIdeal.nD Cert.S5PostPlainIdeal.τ Cert.S5PostPlainIdeal.sig) → Buf (Elt Ideal) ℓ)
    (c : Dev Cert.S5PostPlainIdeal.nD) :
    Cert.S5PostPlainIdeal.Value.res_out0 (F := Ideal) m c
      = rows (m (c.tc.loc Cert.S5PostPlainIdeal.main_arg0)) (m (c.tc.loc Cert.S5PostPlainIdeal.main_arg1))
        (m (c.tc.loc Cert.S5PostPlainIdeal.main_arg2)) (m (c.tc.loc Cert.S5PostPlainIdeal.main_arg3)) := by
  funext i
  obtain ⟨p, q, rfl⟩ : ∃ (p : Fin 4096) (q : Fin 512), i = ix2 p q := ⟨i 0, i 1, eq_ix2 i⟩
  unfold Cert.S5PostPlainIdeal.Value.res_out0 Cert.S5PostPlainIdeal.Value.res_main_v27
  pointwise []
  rfl

/-- The kernel ends with its arguments and the counters as at the start. -/
theorem frame : Cert.quiescent_S5Post := fun m ρ _ => Cert.S5Post.Gen.frame m ρ

/-- So does the kernel over the extended reals. -/
theorem frame_ideal : Cert.quiescent_S5PostIdeal := fun m ρ _ => Cert.S5PostIdeal.Gen.frame m ρ

/-- The reference ends with its arguments and the counters as at the start. -/
theorem frame_plain : Cert.quiescent_S5PostPlainIdeal := fun m ρ _ =>
  (θ_run Cert.S5PostPlainIdeal.defs _ _).mono (fun r h => ⟨fun c => (h c).2, sem_eq_zero_of_no_sems (by decide) r.2⟩)
    (Cert.S5PostPlainIdeal.Value.run (F := Ideal) m ρ)

/-- Kernel and reference compute the same. -/
theorem algebraic : Cert.algebraic_S5PostIdeal_S5PostPlainIdeal := by
  intro m g m' g' _ hagree
  refine ⟨_, Cert.S5PostIdeal.Value.run_blocks m g, ?_⟩
  refine (θ_run Cert.S5PostPlainIdeal.defs _ _).mono (fun r h c => ⟨(h c).1.trans ?_, (h c).2⟩) (Cert.S5PostPlainIdeal.Value.run m' g')
  obtain ⟨e0, e1, e2, e3⟩ := hagree c
  refine (plain m' c).trans ?_
  rw [result m c, e0, e1, e2, e3]

end Cert.Gates.Post

end
-- ==== Proof.lean ====
/-
  The claims: the three programs run to the end with their arguments unchanged and every counter at zero, the ideal kernel is
  the kernel over the extended reals, and the retention's backward kernel computes the derivative of the plain retention. The
  same of the projections and of their gradients, of the optimiser's steps, of the layers' norms, of the loss head, and of the gates
  and the layer norm of the odd mixer and the products about its scan, each a program of its own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Values
public import proofs.«01_k».proof.Proof.RefGrads
public import proofs.«01_k».proof.Proof.Up
public import proofs.«01_k».proof.Proof.Down
public import proofs.«01_k».proof.Proof.EvenIn
public import proofs.«01_k».proof.Proof.EvenOut
public import proofs.«01_k».proof.Proof.OddIn
public import proofs.«01_k».proof.Proof.OddOut
public import proofs.«01_k».proof.Proof.AdamEven
public import proofs.«01_k».proof.Proof.AdamOdd
public import proofs.«01_k».proof.Proof.AdamFfn
public import proofs.«01_k».proof.Proof.Norm
public import proofs.«01_k».proof.Proof.NormBwd
public import proofs.«01_k».proof.Proof.LossHead
public import proofs.«01_k».proof.Proof.EvenDt
public import proofs.«01_k».proof.Proof.Glu
public import proofs.«01_k».proof.Proof.GluBwd
public import proofs.«01_k».proof.Proof.Ln
public import proofs.«01_k».proof.Proof.LnBwd
public import proofs.«01_k».proof.Proof.S5
public import proofs.«01_k».proof.Proof.S5Post
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo
open Cert.Retention

/-- The kernel runs, its arguments and the counters as at the start. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The heads' decays over a chunk are what they are named. -/
theorem preserves : Cert.preserves_Kernel_KernelIdeal :=
  ⟨IdealRules.named_const.statement Cert.KernelIdeal.κ "decay0" .f32 0x3C8CC36A#32 _ rfl,
   IdealRules.named_const.statement Cert.KernelIdeal.κ "decay1" .f32 0x3E08698E#32 _ rfl,
   IdealRules.named_const.statement Cert.KernelIdeal.κ "decay2" .f32 0x3EBB9DB9#32 _ rfl,
   IdealRules.named_const.statement Cert.KernelIdeal.κ "decay3" .f32 0x3F1B1EB1#32 _ rfl⟩

/-- The kernel's four cotangents are the derivative of the retention. -/
theorem algebraic : Cert.algebraic_KernelIdeal_ReferenceIdeal := by
  intro m g m' g' _ hagree
  refine ⟨fun c => dqAll (argA m c) (argY m c), fun c => dkAll (argA m c) (argY m c), fun c => dvAll (argA m c) (argY m c),
    fun c => dgAll (argA m c) (argY m c), ?_, ?_⟩
  · refine (θ_run Cert.KernelIdeal.defs _ _).mono (fun r h c => ?_) (Cert.KernelIdeal.Value.run_blocks m g)
    obtain ⟨h0, h1, h2, h3, ha, hy⟩ := h c
    exact ⟨h0.trans (dq_arr m c), h1.trans (dk_arr m c), h2.trans (dv_arr m c), h3.trans (dg_arr m c), ha, hy⟩
  · refine (θ_run Cert.ReferenceIdeal.defs _ _).mono (fun r h c => ?_) (Cert.ReferenceIdeal.Value.run m' g')
    obtain ⟨h0, h1, h2, h3, ha, hy⟩ := h c
    obtain ⟨ea, ey⟩ := hagree c
    have eA : Plain.pA (launchContents m' c) = argA m c := ea
    have eY : Plain.pY (launchContents m' c) = argY m c := ey
    refine ⟨h0.trans ((Plain.dq_res (launchContents m' c)).trans ?_), h1.trans ((Plain.dk_res (launchContents m' c)).trans ?_),
      h2.trans ((Plain.dv_res (launchContents m' c)).trans ?_), h3.trans ((Plain.dg_res (launchContents m' c)).trans ?_), ha, hy⟩
    all_goals rw [eA, eY]

theorem claim : Cert.Claim :=
  ⟨Cert.Kernel.Gen.facts, Cert.KernelIdeal.Gen.facts, Cert.ReferenceIdeal.Gen.facts,
    Cert.Up.Gen.facts, Cert.UpIdeal.Gen.facts, Cert.UpPlainIdeal.Gen.facts,
    Cert.UpDx.Gen.facts, Cert.UpDxIdeal.Gen.facts, Cert.UpDxPlainIdeal.Gen.facts,
    Cert.UpDw.Gen.facts, Cert.UpDwIdeal.Gen.facts, Cert.UpDwPlainIdeal.Gen.facts,
    Cert.Down.Gen.facts, Cert.DownIdeal.Gen.facts, Cert.DownPlainIdeal.Gen.facts,
    Cert.DownDx.Gen.facts, Cert.DownDxIdeal.Gen.facts, Cert.DownDxPlainIdeal.Gen.facts,
    Cert.DownDw.Gen.facts, Cert.DownDwIdeal.Gen.facts, Cert.DownDwPlainIdeal.Gen.facts,
    Cert.EvenIn.Gen.facts, Cert.EvenInIdeal.Gen.facts, Cert.EvenInPlainIdeal.Gen.facts,
    Cert.EvenInDx.Gen.facts, Cert.EvenInDxIdeal.Gen.facts, Cert.EvenInDxPlainIdeal.Gen.facts,
    Cert.EvenInDw.Gen.facts, Cert.EvenInDwIdeal.Gen.facts, Cert.EvenInDwPlainIdeal.Gen.facts,
    Cert.EvenOut.Gen.facts, Cert.EvenOutIdeal.Gen.facts, Cert.EvenOutPlainIdeal.Gen.facts,
    Cert.EvenOutDx.Gen.facts, Cert.EvenOutDxIdeal.Gen.facts, Cert.EvenOutDxPlainIdeal.Gen.facts,
    Cert.EvenOutDw.Gen.facts, Cert.EvenOutDwIdeal.Gen.facts, Cert.EvenOutDwPlainIdeal.Gen.facts,
    Cert.OddIn.Gen.facts, Cert.OddInIdeal.Gen.facts, Cert.OddInPlainIdeal.Gen.facts,
    Cert.OddInDx.Gen.facts, Cert.OddInDxIdeal.Gen.facts, Cert.OddInDxPlainIdeal.Gen.facts,
    Cert.OddInDw.Gen.facts, Cert.OddInDwIdeal.Gen.facts, Cert.OddInDwPlainIdeal.Gen.facts,
    Cert.OddOut.Gen.facts, Cert.OddOutIdeal.Gen.facts, Cert.OddOutPlainIdeal.Gen.facts,
    Cert.OddOutDx.Gen.facts, Cert.OddOutDxIdeal.Gen.facts, Cert.OddOutDxPlainIdeal.Gen.facts,
    Cert.OddOutDw.Gen.facts, Cert.OddOutDwIdeal.Gen.facts, Cert.OddOutDwPlainIdeal.Gen.facts,
    Cert.AdamNorms.Gen.facts, Cert.AdamNormsIdeal.Gen.facts, Cert.AdamNormsPlainIdeal.Gen.facts,
    Cert.AdamEvenIn.Gen.facts, Cert.AdamEvenInIdeal.Gen.facts, Cert.AdamEvenInPlainIdeal.Gen.facts,
    Cert.AdamEvenConv.Gen.facts, Cert.AdamEvenConvIdeal.Gen.facts, Cert.AdamEvenConvPlainIdeal.Gen.facts,
    Cert.AdamEvenBias.Gen.facts, Cert.AdamEvenBiasIdeal.Gen.facts, Cert.AdamEvenBiasPlainIdeal.Gen.facts,
    Cert.AdamEvenHeads.Gen.facts, Cert.AdamEvenHeadsIdeal.Gen.facts, Cert.AdamEvenHeadsPlainIdeal.Gen.facts,
    Cert.AdamEvenNorm.Gen.facts, Cert.AdamEvenNormIdeal.Gen.facts, Cert.AdamEvenNormPlainIdeal.Gen.facts,
    Cert.AdamEvenOut.Gen.facts, Cert.AdamEvenOutIdeal.Gen.facts, Cert.AdamEvenOutPlainIdeal.Gen.facts,
    Cert.AdamOddIn.Gen.facts, Cert.AdamOddInIdeal.Gen.facts, Cert.AdamOddInPlainIdeal.Gen.facts,
    Cert.AdamOddConv.Gen.facts, Cert.AdamOddConvIdeal.Gen.facts, Cert.AdamOddConvPlainIdeal.Gen.facts,
    Cert.AdamOddRow.Gen.facts, Cert.AdamOddRowIdeal.Gen.facts, Cert.AdamOddRowPlainIdeal.Gen.facts,
    Cert.AdamOddPoles.Gen.facts, Cert.AdamOddPolesIdeal.Gen.facts, Cert.AdamOddPolesPlainIdeal.Gen.facts,
    Cert.AdamOddInputs.Gen.facts, Cert.AdamOddInputsIdeal.Gen.facts, Cert.AdamOddInputsPlainIdeal.Gen.facts,
    Cert.AdamOddOutputs.Gen.facts, Cert.AdamOddOutputsIdeal.Gen.facts, Cert.AdamOddOutputsPlainIdeal.Gen.facts,
    Cert.AdamOddSteps.Gen.facts, Cert.AdamOddStepsIdeal.Gen.facts, Cert.AdamOddStepsPlainIdeal.Gen.facts,
    Cert.AdamOddGate.Gen.facts, Cert.AdamOddGateIdeal.Gen.facts, Cert.AdamOddGatePlainIdeal.Gen.facts,
    Cert.AdamOddOut.Gen.facts, Cert.AdamOddOutIdeal.Gen.facts, Cert.AdamOddOutPlainIdeal.Gen.facts,
    Cert.AdamUp.Gen.facts, Cert.AdamUpIdeal.Gen.facts, Cert.AdamUpPlainIdeal.Gen.facts,
    Cert.AdamConv.Gen.facts, Cert.AdamConvIdeal.Gen.facts, Cert.AdamConvPlainIdeal.Gen.facts,
    Cert.AdamBias.Gen.facts, Cert.AdamBiasIdeal.Gen.facts, Cert.AdamBiasPlainIdeal.Gen.facts,
    Cert.AdamDown.Gen.facts, Cert.AdamDownIdeal.Gen.facts, Cert.AdamDownPlainIdeal.Gen.facts,
    Cert.AdamFinal.Gen.facts, Cert.AdamFinalIdeal.Gen.facts, Cert.AdamFinalPlainIdeal.Gen.facts,
    Cert.Norm.Gen.facts, Cert.NormIdeal.Gen.facts, Cert.NormPlainIdeal.Gen.facts,
    Cert.NormBwd.Gen.facts, Cert.NormBwdIdeal.Gen.facts, Cert.NormBwdPlainIdeal.Gen.facts,
    Cert.LossHead.Gen.facts, Cert.LossHeadIdeal.Gen.facts, Cert.LossHeadPlainIdeal.Gen.facts,
    Cert.EvenDt.Gen.facts, Cert.EvenDtIdeal.Gen.facts, Cert.EvenDtPlainIdeal.Gen.facts,
    Cert.Glu.Gen.facts, Cert.GluIdeal.Gen.facts, Cert.GluPlainIdeal.Gen.facts,
    Cert.GluBwd.Gen.facts, Cert.GluBwdIdeal.Gen.facts, Cert.GluBwdPlainIdeal.Gen.facts,
    Cert.Ln.Gen.facts, Cert.LnIdeal.Gen.facts, Cert.LnPlainIdeal.Gen.facts,
    Cert.LnBwd.Gen.facts, Cert.LnBwdIdeal.Gen.facts, Cert.LnBwdPlainIdeal.Gen.facts,
    Cert.S5In.Gen.facts, Cert.S5InIdeal.Gen.facts, Cert.S5InPlainIdeal.Gen.facts,
    Cert.S5InDx.Gen.facts, Cert.S5InDxIdeal.Gen.facts, Cert.S5InDxPlainIdeal.Gen.facts,
    Cert.S5InDw.Gen.facts, Cert.S5InDwIdeal.Gen.facts, Cert.S5InDwPlainIdeal.Gen.facts,
    Cert.S5Out.Gen.facts, Cert.S5OutIdeal.Gen.facts, Cert.S5OutPlainIdeal.Gen.facts,
    Cert.S5Post.Gen.facts, Cert.S5PostIdeal.Gen.facts, Cert.S5PostPlainIdeal.Gen.facts,
    frame_kernel, frame_ideal, frame_reference,
    Products.Up.frame, Products.Up.frame_ideal, Products.Up.frame_plain,
    Products.UpDx.frame, Products.UpDx.frame_ideal, Products.UpDx.frame_plain,
    Products.UpDw.frame, Products.UpDw.frame_ideal, Products.UpDw.frame_plain,
    Products.Down.frame, Products.Down.frame_ideal, Products.Down.frame_plain,
    Products.DownDx.frame, Products.DownDx.frame_ideal, Products.DownDx.frame_plain,
    Products.DownDw.frame, Products.DownDw.frame_ideal, Products.DownDw.frame_plain,
    Products.EvenIn.frame, Products.EvenIn.frame_ideal, Products.EvenIn.frame_plain,
    Products.EvenInDx.frame, Products.EvenInDx.frame_ideal, Products.EvenInDx.frame_plain,
    Products.EvenInDw.frame, Products.EvenInDw.frame_ideal, Products.EvenInDw.frame_plain,
    Products.EvenOut.frame, Products.EvenOut.frame_ideal, Products.EvenOut.frame_plain,
    Products.EvenOutDx.frame, Products.EvenOutDx.frame_ideal, Products.EvenOutDx.frame_plain,
    Products.EvenOutDw.frame, Products.EvenOutDw.frame_ideal, Products.EvenOutDw.frame_plain,
    Products.OddIn.frame, Products.OddIn.frame_ideal, Products.OddIn.frame_plain,
    Products.OddInDx.frame, Products.OddInDx.frame_ideal, Products.OddInDx.frame_plain,
    Products.OddInDw.frame, Products.OddInDw.frame_ideal, Products.OddInDw.frame_plain,
    Products.OddOut.frame, Products.OddOut.frame_ideal, Products.OddOut.frame_plain,
    Products.OddOutDx.frame, Products.OddOutDx.frame_ideal, Products.OddOutDx.frame_plain,
    Products.OddOutDw.frame, Products.OddOutDw.frame_ideal, Products.OddOutDw.frame_plain,
    Adam.AdamNorms.frame, Adam.AdamNorms.frame_ideal, Adam.AdamNorms.frame_plain,
    Adam.AdamEvenIn.frame, Adam.AdamEvenIn.frame_ideal, Adam.AdamEvenIn.frame_plain,
    Adam.AdamEvenConv.frame, Adam.AdamEvenConv.frame_ideal, Adam.AdamEvenConv.frame_plain,
    Adam.AdamEvenBias.frame, Adam.AdamEvenBias.frame_ideal, Adam.AdamEvenBias.frame_plain,
    Adam.AdamEvenHeads.frame, Adam.AdamEvenHeads.frame_ideal, Adam.AdamEvenHeads.frame_plain,
    Adam.AdamEvenNorm.frame, Adam.AdamEvenNorm.frame_ideal, Adam.AdamEvenNorm.frame_plain,
    Adam.AdamEvenOut.frame, Adam.AdamEvenOut.frame_ideal, Adam.AdamEvenOut.frame_plain,
    Adam.AdamOddIn.frame, Adam.AdamOddIn.frame_ideal, Adam.AdamOddIn.frame_plain,
    Adam.AdamOddConv.frame, Adam.AdamOddConv.frame_ideal, Adam.AdamOddConv.frame_plain,
    Adam.AdamOddRow.frame, Adam.AdamOddRow.frame_ideal, Adam.AdamOddRow.frame_plain,
    Adam.AdamOddPoles.frame, Adam.AdamOddPoles.frame_ideal, Adam.AdamOddPoles.frame_plain,
    Adam.AdamOddInputs.frame, Adam.AdamOddInputs.frame_ideal, Adam.AdamOddInputs.frame_plain,
    Adam.AdamOddOutputs.frame, Adam.AdamOddOutputs.frame_ideal, Adam.AdamOddOutputs.frame_plain,
    Adam.AdamOddSteps.frame, Adam.AdamOddSteps.frame_ideal, Adam.AdamOddSteps.frame_plain,
    Adam.AdamOddGate.frame, Adam.AdamOddGate.frame_ideal, Adam.AdamOddGate.frame_plain,
    Adam.AdamOddOut.frame, Adam.AdamOddOut.frame_ideal, Adam.AdamOddOut.frame_plain,
    Adam.AdamUp.frame, Adam.AdamUp.frame_ideal, Adam.AdamUp.frame_plain,
    Adam.AdamConv.frame, Adam.AdamConv.frame_ideal, Adam.AdamConv.frame_plain,
    Adam.AdamBias.frame, Adam.AdamBias.frame_ideal, Adam.AdamBias.frame_plain,
    Adam.AdamDown.frame, Adam.AdamDown.frame_ideal, Adam.AdamDown.frame_plain,
    Adam.AdamFinal.frame, Adam.AdamFinal.frame_ideal, Adam.AdamFinal.frame_plain,
    Norms.Fwd.frame, Norms.Fwd.frame_ideal, Norms.Fwd.frame_plain,
    Norms.Bwd.frame, Norms.Bwd.frame_ideal, Norms.Bwd.frame_plain,
    Norms.Loss.frame, Norms.Loss.frame_ideal, Norms.Loss.frame_plain,
    Products.EvenDt.frame, Products.EvenDt.frame_ideal, Products.EvenDt.frame_plain,
    Gates.Fwd.frame, Gates.Fwd.frame_ideal, Gates.Fwd.frame_plain,
    Gates.Bwd.frame, Gates.Bwd.frame_ideal, Gates.Bwd.frame_plain,
    LayerNorms.Fwd.frame, LayerNorms.Fwd.frame_ideal, LayerNorms.Fwd.frame_plain,
    LayerNorms.Bwd.frame, LayerNorms.Bwd.frame_ideal, LayerNorms.Bwd.frame_plain,
    Products.S5In.frame, Products.S5In.frame_ideal, Products.S5In.frame_plain,
    Products.S5InDx.frame, Products.S5InDx.frame_ideal, Products.S5InDx.frame_plain,
    Products.S5InDw.frame, Products.S5InDw.frame_ideal, Products.S5InDw.frame_plain,
    Products.S5Out.frame, Products.S5Out.frame_ideal, Products.S5Out.frame_plain,
    Gates.Post.frame, Gates.Post.frame_ideal, Gates.Post.frame_plain,
    preserves, algebraic,
    trivial, Products.Up.algebraic,
    trivial, Products.UpDx.algebraic,
    trivial, Products.UpDw.algebraic,
    trivial, Products.Down.algebraic,
    trivial, Products.DownDx.algebraic,
    trivial, Products.DownDw.algebraic,
    trivial, Products.EvenIn.algebraic,
    trivial, Products.EvenInDx.algebraic,
    trivial, Products.EvenInDw.algebraic,
    trivial, Products.EvenOut.algebraic,
    trivial, Products.EvenOutDx.algebraic,
    trivial, Products.EvenOutDw.algebraic,
    trivial, Products.OddIn.algebraic,
    trivial, Products.OddInDx.algebraic,
    trivial, Products.OddInDw.algebraic,
    trivial, Products.OddOut.algebraic,
    trivial, Products.OddOutDx.algebraic,
    trivial, Products.OddOutDw.algebraic,
    trivial, Adam.AdamNorms.algebraic,
    trivial, Adam.AdamEvenIn.algebraic,
    trivial, Adam.AdamEvenConv.algebraic,
    trivial, Adam.AdamEvenBias.algebraic,
    trivial, Adam.AdamEvenHeads.algebraic,
    trivial, Adam.AdamEvenNorm.algebraic,
    trivial, Adam.AdamEvenOut.algebraic,
    trivial, Adam.AdamOddIn.algebraic,
    trivial, Adam.AdamOddConv.algebraic,
    trivial, Adam.AdamOddRow.algebraic,
    trivial, Adam.AdamOddPoles.algebraic,
    trivial, Adam.AdamOddInputs.algebraic,
    trivial, Adam.AdamOddOutputs.algebraic,
    trivial, Adam.AdamOddSteps.algebraic,
    trivial, Adam.AdamOddGate.algebraic,
    trivial, Adam.AdamOddOut.algebraic,
    trivial, Adam.AdamUp.algebraic,
    trivial, Adam.AdamConv.algebraic,
    trivial, Adam.AdamBias.algebraic,
    trivial, Adam.AdamDown.algebraic,
    trivial, Adam.AdamFinal.algebraic,
    trivial, Norms.Fwd.algebraic,
    trivial, Norms.Bwd.algebraic,
    trivial, Norms.Loss.algebraic,
    trivial, Products.EvenDt.algebraic,
    trivial, Gates.Fwd.algebraic,
    trivial, Gates.Bwd.algebraic,
    trivial, LayerNorms.Fwd.algebraic,
    trivial, LayerNorms.Bwd.algebraic,
    trivial, Products.S5In.algebraic,
    trivial, Products.S5InDx.algebraic,
    trivial, Products.S5InDw.algebraic,
    trivial, Products.S5Out.algebraic,
    trivial, Gates.Post.algebraic⟩

end Cert.Proof

end
